-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pool [hPre_finite_pool : Cert.Pre_finite_pool.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pool [hPre_finite_pool : Cert.Pre_finite_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GradAct (m : (ℓ : Loc Cert.GradAct.nD Cert.GradAct.τ Cert.GradAct.sig) → Buf (Elt Bits) ℓ) : Prop :=
  True

def Pre_GradActIdeal (m : (ℓ : Loc Cert.GradActIdeal.nD Cert.GradActIdeal.τ Cert.GradActIdeal.sig) → Buf (Elt Ideal) ℓ) : Prop :=
  True

def Pre_GradActRefIdeal (m : (ℓ : Loc Cert.GradActRefIdeal.nD Cert.GradActRefIdeal.τ Cert.GradActRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradMixed (m : (ℓ : Loc Cert.GradMixed.nD Cert.GradMixed.τ Cert.GradMixed.sig) → Buf (Elt Bits) ℓ) : Prop :=
  True

def Pre_GradMixedIdeal (m : (ℓ : Loc Cert.GradMixedIdeal.nD Cert.GradMixedIdeal.τ Cert.GradMixedIdeal.sig) → Buf (Elt Ideal) ℓ) : Prop :=
  True

def Pre_GradMixedRefIdeal (m : (ℓ : Loc Cert.GradMixedRefIdeal.nD Cert.GradMixedRefIdeal.τ Cert.GradMixedRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GradMid (m : (ℓ : Loc Cert.GradMid.nD Cert.GradMid.τ Cert.GradMid.sig) → Buf (Elt Bits) ℓ) : Prop :=
  True

def Pre_GradMidIdeal (m : (ℓ : Loc Cert.GradMidIdeal.nD Cert.GradMidIdeal.τ Cert.GradMidIdeal.sig) → Buf (Elt Ideal) ℓ) : Prop :=
  True

def Pre_GradMidRefIdeal (m : (ℓ : Loc Cert.GradMidRefIdeal.nD Cert.GradMidRefIdeal.τ Cert.GradMidRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_pool [hKernelIdeal : Cert.KernelIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pool m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_pool [hReferenceIdeal : Cert.ReferenceIdeal.Facts] [hPre_finite_pool : Cert.Pre_finite_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GradAct [hGradAct : Cert.GradAct.Facts] : Prop :=
  ∀ (m : (ℓ : Loc Cert.GradAct.nD Cert.GradAct.τ Cert.GradAct.sig) → Buf (Elt Bits) ℓ) (g : Dev Cert.GradAct.nD → PrngReg), Pre_GradAct m →
    θ_run (Cert.GradAct.defs (F := Bits)) (onTc (τ := Cert.GradAct.τ) (Cert.GradAct.main (F := Bits))) ⟨m, fun _ => 0, g⟩ (fun r => (∀ c : Dev Cert.GradAct.nD,
      r.2.mem ((c.tc : Thread Cert.GradAct.nD Cert.GradAct.τ).loc Cert.GradAct.main_arg0) = m ((c.tc : Thread Cert.GradAct.nD Cert.GradAct.τ).loc Cert.GradAct.main_arg0)
      ∧ r.2.mem ((c.tc : Thread Cert.GradAct.nD Cert.GradAct.τ).loc Cert.GradAct.main_arg1) = m ((c.tc : Thread Cert.GradAct.nD Cert.GradAct.τ).loc Cert.GradAct.main_arg1)
      ∧ r.2.mem ((c.tc : Thread Cert.GradAct.nD Cert.GradAct.τ).loc Cert.GradAct.main_arg2) = m ((c.tc : Thread Cert.GradAct.nD Cert.GradAct.τ).loc Cert.GradAct.main_arg2))
      ∧ r.2.sem = fun _ => 0)

def quiescent_GradActIdeal [hGradActIdeal : Cert.GradActIdeal.Facts] : Prop :=
  ∀ (m : (ℓ : Loc Cert.GradActIdeal.nD Cert.GradActIdeal.τ Cert.GradActIdeal.sig) → Buf (Elt Ideal) ℓ) (g : Dev Cert.GradActIdeal.nD → PrngReg), Pre_GradActIdeal m →
    θ_run (Cert.GradActIdeal.defs (F := Ideal)) (onTc (τ := Cert.GradActIdeal.τ) (Cert.GradActIdeal.main (F := Ideal))) ⟨m, fun _ => 0, g⟩ (fun r => (∀ c : Dev Cert.GradActIdeal.nD,
      r.2.mem ((c.tc : Thread Cert.GradActIdeal.nD Cert.GradActIdeal.τ).loc Cert.GradActIdeal.main_arg0) = m ((c.tc : Thread Cert.GradActIdeal.nD Cert.GradActIdeal.τ).loc Cert.GradActIdeal.main_arg0)
      ∧ r.2.mem ((c.tc : Thread Cert.GradActIdeal.nD Cert.GradActIdeal.τ).loc Cert.GradActIdeal.main_arg1) = m ((c.tc : Thread Cert.GradActIdeal.nD Cert.GradActIdeal.τ).loc Cert.GradActIdeal.main_arg1)
      ∧ r.2.mem ((c.tc : Thread Cert.GradActIdeal.nD Cert.GradActIdeal.τ).loc Cert.GradActIdeal.main_arg2) = m ((c.tc : Thread Cert.GradActIdeal.nD Cert.GradActIdeal.τ).loc Cert.GradActIdeal.main_arg2))
      ∧ r.2.sem = fun _ => 0)

def quiescent_GradActRefIdeal [hGradActRefIdeal : Cert.GradActRefIdeal.Facts] : Prop :=
  ∀ (m : (ℓ : Loc Cert.GradActRefIdeal.nD Cert.GradActRefIdeal.τ Cert.GradActRefIdeal.sig) → Buf (Elt Ideal) ℓ) (g : Dev Cert.GradActRefIdeal.nD → PrngReg), Pre_GradActRefIdeal m →
    θ_run (Cert.GradActRefIdeal.defs (F := Ideal)) (onTc (τ := Cert.GradActRefIdeal.τ) (Cert.GradActRefIdeal.main (F := Ideal))) ⟨m, fun _ => 0, g⟩ (fun r => (∀ c : Dev Cert.GradActRefIdeal.nD,
      r.2.mem ((c.tc : Thread Cert.GradActRefIdeal.nD Cert.GradActRefIdeal.τ).loc Cert.GradActRefIdeal.main_arg0) = m ((c.tc : Thread Cert.GradActRefIdeal.nD Cert.GradActRefIdeal.τ).loc Cert.GradActRefIdeal.main_arg0)
      ∧ r.2.mem ((c.tc : Thread Cert.GradActRefIdeal.nD Cert.GradActRefIdeal.τ).loc Cert.GradActRefIdeal.main_arg1) = m ((c.tc : Thread Cert.GradActRefIdeal.nD Cert.GradActRefIdeal.τ).loc Cert.GradActRefIdeal.main_arg1)
      ∧ r.2.mem ((c.tc : Thread Cert.GradActRefIdeal.nD Cert.GradActRefIdeal.τ).loc Cert.GradActRefIdeal.main_arg2) = m ((c.tc : Thread Cert.GradActRefIdeal.nD Cert.GradActRefIdeal.τ).loc Cert.GradActRefIdeal.main_arg2))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradMixed [hGradMixed : Cert.GradMixed.Facts] : Prop :=
  ∀ (m : (ℓ : Loc Cert.GradMixed.nD Cert.GradMixed.τ Cert.GradMixed.sig) → Buf (Elt Bits) ℓ) (g : Dev Cert.GradMixed.nD → PrngReg), Pre_GradMixed m →
    θ_run (Cert.GradMixed.defs (F := Bits)) (onTc (τ := Cert.GradMixed.τ) (Cert.GradMixed.main (F := Bits))) ⟨m, fun _ => 0, g⟩ (fun r => (∀ c : Dev Cert.GradMixed.nD,
      r.2.mem ((c.tc : Thread Cert.GradMixed.nD Cert.GradMixed.τ).loc Cert.GradMixed.main_arg0) = m ((c.tc : Thread Cert.GradMixed.nD Cert.GradMixed.τ).loc Cert.GradMixed.main_arg0)
      ∧ r.2.mem ((c.tc : Thread Cert.GradMixed.nD Cert.GradMixed.τ).loc Cert.GradMixed.main_arg1) = m ((c.tc : Thread Cert.GradMixed.nD Cert.GradMixed.τ).loc Cert.GradMixed.main_arg1))
      ∧ r.2.sem = fun _ => 0)

def quiescent_GradMixedIdeal [hGradMixedIdeal : Cert.GradMixedIdeal.Facts] : Prop :=
  ∀ (m : (ℓ : Loc Cert.GradMixedIdeal.nD Cert.GradMixedIdeal.τ Cert.GradMixedIdeal.sig) → Buf (Elt Ideal) ℓ) (g : Dev Cert.GradMixedIdeal.nD → PrngReg), Pre_GradMixedIdeal m →
    θ_run (Cert.GradMixedIdeal.defs (F := Ideal)) (onTc (τ := Cert.GradMixedIdeal.τ) (Cert.GradMixedIdeal.main (F := Ideal))) ⟨m, fun _ => 0, g⟩ (fun r => (∀ c : Dev Cert.GradMixedIdeal.nD,
      r.2.mem ((c.tc : Thread Cert.GradMixedIdeal.nD Cert.GradMixedIdeal.τ).loc Cert.GradMixedIdeal.main_arg0) = m ((c.tc : Thread Cert.GradMixedIdeal.nD Cert.GradMixedIdeal.τ).loc Cert.GradMixedIdeal.main_arg0)
      ∧ r.2.mem ((c.tc : Thread Cert.GradMixedIdeal.nD Cert.GradMixedIdeal.τ).loc Cert.GradMixedIdeal.main_arg1) = m ((c.tc : Thread Cert.GradMixedIdeal.nD Cert.GradMixedIdeal.τ).loc Cert.GradMixedIdeal.main_arg1))
      ∧ r.2.sem = fun _ => 0)

def quiescent_GradMixedRefIdeal [hGradMixedRefIdeal : Cert.GradMixedRefIdeal.Facts] : Prop :=
  ∀ (m : (ℓ : Loc Cert.GradMixedRefIdeal.nD Cert.GradMixedRefIdeal.τ Cert.GradMixedRefIdeal.sig) → Buf (Elt Ideal) ℓ) (g : Dev Cert.GradMixedRefIdeal.nD → PrngReg), Pre_GradMixedRefIdeal m →
    θ_run (Cert.GradMixedRefIdeal.defs (F := Ideal)) (onTc (τ := Cert.GradMixedRefIdeal.τ) (Cert.GradMixedRefIdeal.main (F := Ideal))) ⟨m, fun _ => 0, g⟩ (fun r => (∀ c : Dev Cert.GradMixedRefIdeal.nD,
      r.2.mem ((c.tc : Thread Cert.GradMixedRefIdeal.nD Cert.GradMixedRefIdeal.τ).loc Cert.GradMixedRefIdeal.main_arg0) = m ((c.tc : Thread Cert.GradMixedRefIdeal.nD Cert.GradMixedRefIdeal.τ).loc Cert.GradMixedRefIdeal.main_arg0)
      ∧ r.2.mem ((c.tc : Thread Cert.GradMixedRefIdeal.nD Cert.GradMixedRefIdeal.τ).loc Cert.GradMixedRefIdeal.main_arg1) = m ((c.tc : Thread Cert.GradMixedRefIdeal.nD Cert.GradMixedRefIdeal.τ).loc Cert.GradMixedRefIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_GradMid [hGradMid : Cert.GradMid.Facts] : Prop :=
  ∀ (m : (ℓ : Loc Cert.GradMid.nD Cert.GradMid.τ Cert.GradMid.sig) → Buf (Elt Bits) ℓ) (g : Dev Cert.GradMid.nD → PrngReg), Pre_GradMid m →
    θ_run (Cert.GradMid.defs (F := Bits)) (onTc (τ := Cert.GradMid.τ) (Cert.GradMid.main (F := Bits))) ⟨m, fun _ => 0, g⟩ (fun r => (∀ c : Dev Cert.GradMid.nD,
      r.2.mem ((c.tc : Thread Cert.GradMid.nD Cert.GradMid.τ).loc Cert.GradMid.main_arg0) = m ((c.tc : Thread Cert.GradMid.nD Cert.GradMid.τ).loc Cert.GradMid.main_arg0)
      ∧ r.2.mem ((c.tc : Thread Cert.GradMid.nD Cert.GradMid.τ).loc Cert.GradMid.main_arg1) = m ((c.tc : Thread Cert.GradMid.nD Cert.GradMid.τ).loc Cert.GradMid.main_arg1)
      ∧ r.2.mem ((c.tc : Thread Cert.GradMid.nD Cert.GradMid.τ).loc Cert.GradMid.main_arg2) = m ((c.tc : Thread Cert.GradMid.nD Cert.GradMid.τ).loc Cert.GradMid.main_arg2)
      ∧ r.2.mem ((c.tc : Thread Cert.GradMid.nD Cert.GradMid.τ).loc Cert.GradMid.main_arg3) = m ((c.tc : Thread Cert.GradMid.nD Cert.GradMid.τ).loc Cert.GradMid.main_arg3)
      ∧ r.2.mem ((c.tc : Thread Cert.GradMid.nD Cert.GradMid.τ).loc Cert.GradMid.main_arg4) = m ((c.tc : Thread Cert.GradMid.nD Cert.GradMid.τ).loc Cert.GradMid.main_arg4))
      ∧ r.2.sem = fun _ => 0)

def quiescent_GradMidIdeal [hGradMidIdeal : Cert.GradMidIdeal.Facts] : Prop :=
  ∀ (m : (ℓ : Loc Cert.GradMidIdeal.nD Cert.GradMidIdeal.τ Cert.GradMidIdeal.sig) → Buf (Elt Ideal) ℓ) (g : Dev Cert.GradMidIdeal.nD → PrngReg), Pre_GradMidIdeal m →
    θ_run (Cert.GradMidIdeal.defs (F := Ideal)) (onTc (τ := Cert.GradMidIdeal.τ) (Cert.GradMidIdeal.main (F := Ideal))) ⟨m, fun _ => 0, g⟩ (fun r => (∀ c : Dev Cert.GradMidIdeal.nD,
      r.2.mem ((c.tc : Thread Cert.GradMidIdeal.nD Cert.GradMidIdeal.τ).loc Cert.GradMidIdeal.main_arg0) = m ((c.tc : Thread Cert.GradMidIdeal.nD Cert.GradMidIdeal.τ).loc Cert.GradMidIdeal.main_arg0)
      ∧ r.2.mem ((c.tc : Thread Cert.GradMidIdeal.nD Cert.GradMidIdeal.τ).loc Cert.GradMidIdeal.main_arg1) = m ((c.tc : Thread Cert.GradMidIdeal.nD Cert.GradMidIdeal.τ).loc Cert.GradMidIdeal.main_arg1)
      ∧ r.2.mem ((c.tc : Thread Cert.GradMidIdeal.nD Cert.GradMidIdeal.τ).loc Cert.GradMidIdeal.main_arg2) = m ((c.tc : Thread Cert.GradMidIdeal.nD Cert.GradMidIdeal.τ).loc Cert.GradMidIdeal.main_arg2)
      ∧ r.2.mem ((c.tc : Thread Cert.GradMidIdeal.nD Cert.GradMidIdeal.τ).loc Cert.GradMidIdeal.main_arg3) = m ((c.tc : Thread Cert.GradMidIdeal.nD Cert.GradMidIdeal.τ).loc Cert.GradMidIdeal.main_arg3)
      ∧ r.2.mem ((c.tc : Thread Cert.GradMidIdeal.nD Cert.GradMidIdeal.τ).loc Cert.GradMidIdeal.main_arg4) = m ((c.tc : Thread Cert.GradMidIdeal.nD Cert.GradMidIdeal.τ).loc Cert.GradMidIdeal.main_arg4))
      ∧ r.2.sem = fun _ => 0)

def quiescent_GradMidRefIdeal [hGradMidRefIdeal : Cert.GradMidRefIdeal.Facts] : Prop :=
  ∀ (m : (ℓ : Loc Cert.GradMidRefIdeal.nD Cert.GradMidRefIdeal.τ Cert.GradMidRefIdeal.sig) → Buf (Elt Ideal) ℓ) (g : Dev Cert.GradMidRefIdeal.nD → PrngReg), Pre_GradMidRefIdeal m →
    θ_run (Cert.GradMidRefIdeal.defs (F := Ideal)) (onTc (τ := Cert.GradMidRefIdeal.τ) (Cert.GradMidRefIdeal.main (F := Ideal))) ⟨m, fun _ => 0, g⟩ (fun r => (∀ c : Dev Cert.GradMidRefIdeal.nD,
      r.2.mem ((c.tc : Thread Cert.GradMidRefIdeal.nD Cert.GradMidRefIdeal.τ).loc Cert.GradMidRefIdeal.main_arg0) = m ((c.tc : Thread Cert.GradMidRefIdeal.nD Cert.GradMidRefIdeal.τ).loc Cert.GradMidRefIdeal.main_arg0)
      ∧ r.2.mem ((c.tc : Thread Cert.GradMidRefIdeal.nD Cert.GradMidRefIdeal.τ).loc Cert.GradMidRefIdeal.main_arg1) = m ((c.tc : Thread Cert.GradMidRefIdeal.nD Cert.GradMidRefIdeal.τ).loc Cert.GradMidRefIdeal.main_arg1)
      ∧ r.2.mem ((c.tc : Thread Cert.GradMidRefIdeal.nD Cert.GradMidRefIdeal.τ).loc Cert.GradMidRefIdeal.main_arg2) = m ((c.tc : Thread Cert.GradMidRefIdeal.nD Cert.GradMidRefIdeal.τ).loc Cert.GradMidRefIdeal.main_arg2)
      ∧ r.2.mem ((c.tc : Thread Cert.GradMidRefIdeal.nD Cert.GradMidRefIdeal.τ).loc Cert.GradMidRefIdeal.main_arg3) = m ((c.tc : Thread Cert.GradMidRefIdeal.nD Cert.GradMidRefIdeal.τ).loc Cert.GradMidRefIdeal.main_arg3)
      ∧ r.2.mem ((c.tc : Thread Cert.GradMidRefIdeal.nD Cert.GradMidRefIdeal.τ).loc Cert.GradMidRefIdeal.main_arg4) = m ((c.tc : Thread Cert.GradMidRefIdeal.nD Cert.GradMidRefIdeal.τ).loc Cert.GradMidRefIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def preserves_Kernel_KernelIdeal : Prop :=
  True

def algebraic_KernelIdeal_ReferenceIdeal_pre_finite_pool [hKernelIdeal : Cert.KernelIdeal.Facts] [hReferenceIdeal : Cert.ReferenceIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pool m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v240) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v241) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GradAct_GradActIdeal : Prop :=
  True

def algebraic_GradActIdeal_GradActRefIdeal [hGradActIdeal : Cert.GradActIdeal.Facts] [hGradActRefIdeal : Cert.GradActRefIdeal.Facts] : Prop :=
  ∀ (m : (ℓ : Loc Cert.GradActIdeal.nD Cert.GradActIdeal.τ Cert.GradActIdeal.sig) → Buf (Elt Ideal) ℓ) (g : Dev Cert.GradActIdeal.nD → PrngReg)
    (m' : (ℓ : Loc Cert.GradActRefIdeal.nD Cert.GradActRefIdeal.τ Cert.GradActRefIdeal.sig) → Buf (Elt Ideal) ℓ) (g' : Dev Cert.GradActRefIdeal.nD → PrngReg), Pre_GradActIdeal m →
    (∀ c : Dev Cert.GradActIdeal.nD,
      m' ((c.tc : Thread Cert.GradActRefIdeal.nD Cert.GradActRefIdeal.τ).loc Cert.GradActRefIdeal.main_arg0) = m ((c.tc : Thread Cert.GradActIdeal.nD Cert.GradActIdeal.τ).loc Cert.GradActIdeal.main_arg0)
      ∧ m' ((c.tc : Thread Cert.GradActRefIdeal.nD Cert.GradActRefIdeal.τ).loc Cert.GradActRefIdeal.main_arg1) = m ((c.tc : Thread Cert.GradActIdeal.nD Cert.GradActIdeal.τ).loc Cert.GradActIdeal.main_arg1)
      ∧ m' ((c.tc : Thread Cert.GradActRefIdeal.nD Cert.GradActRefIdeal.τ).loc Cert.GradActRefIdeal.main_arg2) = m ((c.tc : Thread Cert.GradActIdeal.nD Cert.GradActIdeal.τ).loc Cert.GradActIdeal.main_arg2)) →
    ∃ (v0 : (c : Dev Cert.GradActIdeal.nD) → Buf (Elt Ideal) ((c.tc : Thread Cert.GradActIdeal.nD Cert.GradActIdeal.τ).loc Cert.GradActIdeal.main_v2)),
      θ_run (Cert.GradActIdeal.defs (F := Ideal)) (onTc (τ := Cert.GradActIdeal.τ) (Cert.GradActIdeal.main (F := Ideal))) ⟨m, fun _ => 0, g⟩ (fun r => ∀ c : Dev Cert.GradActIdeal.nD,
          r.2.mem ((c.tc : Thread Cert.GradActIdeal.nD Cert.GradActIdeal.τ).loc Cert.GradActIdeal.main_v2) = v0 c
          ∧ r.2.mem ((c.tc : Thread Cert.GradActIdeal.nD Cert.GradActIdeal.τ).loc Cert.GradActIdeal.main_arg0) = m ((c.tc : Thread Cert.GradActIdeal.nD Cert.GradActIdeal.τ).loc Cert.GradActIdeal.main_arg0)
          ∧ r.2.mem ((c.tc : Thread Cert.GradActIdeal.nD Cert.GradActIdeal.τ).loc Cert.GradActIdeal.main_arg1) = m ((c.tc : Thread Cert.GradActIdeal.nD Cert.GradActIdeal.τ).loc Cert.GradActIdeal.main_arg1)
          ∧ r.2.mem ((c.tc : Thread Cert.GradActIdeal.nD Cert.GradActIdeal.τ).loc Cert.GradActIdeal.main_arg2) = m ((c.tc : Thread Cert.GradActIdeal.nD Cert.GradActIdeal.τ).loc Cert.GradActIdeal.main_arg2))
      ∧ θ_run (Cert.GradActRefIdeal.defs (F := Ideal)) (onTc (τ := Cert.GradActRefIdeal.τ) (Cert.GradActRefIdeal.main (F := Ideal))) ⟨m', fun _ => 0, g'⟩ (fun r => ∀ c : Dev Cert.GradActRefIdeal.nD,
          r.2.mem ((c.tc : Thread Cert.GradActRefIdeal.nD Cert.GradActRefIdeal.τ).loc Cert.GradActRefIdeal.main_v17) = v0 c
          ∧ r.2.mem ((c.tc : Thread Cert.GradActRefIdeal.nD Cert.GradActRefIdeal.τ).loc Cert.GradActRefIdeal.main_arg0) = m' ((c.tc : Thread Cert.GradActRefIdeal.nD Cert.GradActRefIdeal.τ).loc Cert.GradActRefIdeal.main_arg0)
          ∧ r.2.mem ((c.tc : Thread Cert.GradActRefIdeal.nD Cert.GradActRefIdeal.τ).loc Cert.GradActRefIdeal.main_arg1) = m' ((c.tc : Thread Cert.GradActRefIdeal.nD Cert.GradActRefIdeal.τ).loc Cert.GradActRefIdeal.main_arg1)
          ∧ r.2.mem ((c.tc : Thread Cert.GradActRefIdeal.nD Cert.GradActRefIdeal.τ).loc Cert.GradActRefIdeal.main_arg2) = m' ((c.tc : Thread Cert.GradActRefIdeal.nD Cert.GradActRefIdeal.τ).loc Cert.GradActRefIdeal.main_arg2))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v3)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v3) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v9) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v10) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v10) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v8) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradMixed_GradMixedIdeal : Prop :=
  True

def algebraic_GradMixedIdeal_GradMixedRefIdeal [hGradMixedIdeal : Cert.GradMixedIdeal.Facts] [hGradMixedRefIdeal : Cert.GradMixedRefIdeal.Facts] : Prop :=
  ∀ (m : (ℓ : Loc Cert.GradMixedIdeal.nD Cert.GradMixedIdeal.τ Cert.GradMixedIdeal.sig) → Buf (Elt Ideal) ℓ) (g : Dev Cert.GradMixedIdeal.nD → PrngReg)
    (m' : (ℓ : Loc Cert.GradMixedRefIdeal.nD Cert.GradMixedRefIdeal.τ Cert.GradMixedRefIdeal.sig) → Buf (Elt Ideal) ℓ) (g' : Dev Cert.GradMixedRefIdeal.nD → PrngReg), Pre_GradMixedIdeal m →
    (∀ c : Dev Cert.GradMixedIdeal.nD,
      m' ((c.tc : Thread Cert.GradMixedRefIdeal.nD Cert.GradMixedRefIdeal.τ).loc Cert.GradMixedRefIdeal.main_arg0) = m ((c.tc : Thread Cert.GradMixedIdeal.nD Cert.GradMixedIdeal.τ).loc Cert.GradMixedIdeal.main_arg0)
      ∧ m' ((c.tc : Thread Cert.GradMixedRefIdeal.nD Cert.GradMixedRefIdeal.τ).loc Cert.GradMixedRefIdeal.main_arg1) = m ((c.tc : Thread Cert.GradMixedIdeal.nD Cert.GradMixedIdeal.τ).loc Cert.GradMixedIdeal.main_arg1)) →
    ∃ (v0 : (c : Dev Cert.GradMixedIdeal.nD) → Buf (Elt Ideal) ((c.tc : Thread Cert.GradMixedIdeal.nD Cert.GradMixedIdeal.τ).loc Cert.GradMixedIdeal.main_v0)),
      θ_run (Cert.GradMixedIdeal.defs (F := Ideal)) (onTc (τ := Cert.GradMixedIdeal.τ) (Cert.GradMixedIdeal.main (F := Ideal))) ⟨m, fun _ => 0, g⟩ (fun r => ∀ c : Dev Cert.GradMixedIdeal.nD,
          r.2.mem ((c.tc : Thread Cert.GradMixedIdeal.nD Cert.GradMixedIdeal.τ).loc Cert.GradMixedIdeal.main_v0) = v0 c
          ∧ r.2.mem ((c.tc : Thread Cert.GradMixedIdeal.nD Cert.GradMixedIdeal.τ).loc Cert.GradMixedIdeal.main_arg0) = m ((c.tc : Thread Cert.GradMixedIdeal.nD Cert.GradMixedIdeal.τ).loc Cert.GradMixedIdeal.main_arg0)
          ∧ r.2.mem ((c.tc : Thread Cert.GradMixedIdeal.nD Cert.GradMixedIdeal.τ).loc Cert.GradMixedIdeal.main_arg1) = m ((c.tc : Thread Cert.GradMixedIdeal.nD Cert.GradMixedIdeal.τ).loc Cert.GradMixedIdeal.main_arg1))
      ∧ θ_run (Cert.GradMixedRefIdeal.defs (F := Ideal)) (onTc (τ := Cert.GradMixedRefIdeal.τ) (Cert.GradMixedRefIdeal.main (F := Ideal))) ⟨m', fun _ => 0, g'⟩ (fun r => ∀ c : Dev Cert.GradMixedRefIdeal.nD,
          r.2.mem ((c.tc : Thread Cert.GradMixedRefIdeal.nD Cert.GradMixedRefIdeal.τ).loc Cert.GradMixedRefIdeal.main_v6) = v0 c
          ∧ r.2.mem ((c.tc : Thread Cert.GradMixedRefIdeal.nD Cert.GradMixedRefIdeal.τ).loc Cert.GradMixedRefIdeal.main_arg0) = m' ((c.tc : Thread Cert.GradMixedRefIdeal.nD Cert.GradMixedRefIdeal.τ).loc Cert.GradMixedRefIdeal.main_arg0)
          ∧ r.2.mem ((c.tc : Thread Cert.GradMixedRefIdeal.nD Cert.GradMixedRefIdeal.τ).loc Cert.GradMixedRefIdeal.main_arg1) = m' ((c.tc : Thread Cert.GradMixedRefIdeal.nD Cert.GradMixedRefIdeal.τ).loc Cert.GradMixedRefIdeal.main_arg1))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v8) = v0 c
          ∧ r.2.mem ((c.tc : Thread Cert.UpProjRefIdeal.nD Cert.UpProjRefIdeal.τ).loc Cert.UpProjRefIdeal.main_v10) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v6) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_GradMid_GradMidIdeal : Prop :=
  True

def algebraic_GradMidIdeal_GradMidRefIdeal [hGradMidIdeal : Cert.GradMidIdeal.Facts] [hGradMidRefIdeal : Cert.GradMidRefIdeal.Facts] : Prop :=
  ∀ (m : (ℓ : Loc Cert.GradMidIdeal.nD Cert.GradMidIdeal.τ Cert.GradMidIdeal.sig) → Buf (Elt Ideal) ℓ) (g : Dev Cert.GradMidIdeal.nD → PrngReg)
    (m' : (ℓ : Loc Cert.GradMidRefIdeal.nD Cert.GradMidRefIdeal.τ Cert.GradMidRefIdeal.sig) → Buf (Elt Ideal) ℓ) (g' : Dev Cert.GradMidRefIdeal.nD → PrngReg), Pre_GradMidIdeal m →
    (∀ c : Dev Cert.GradMidIdeal.nD,
      m' ((c.tc : Thread Cert.GradMidRefIdeal.nD Cert.GradMidRefIdeal.τ).loc Cert.GradMidRefIdeal.main_arg0) = m ((c.tc : Thread Cert.GradMidIdeal.nD Cert.GradMidIdeal.τ).loc Cert.GradMidIdeal.main_arg0)
      ∧ m' ((c.tc : Thread Cert.GradMidRefIdeal.nD Cert.GradMidRefIdeal.τ).loc Cert.GradMidRefIdeal.main_arg1) = m ((c.tc : Thread Cert.GradMidIdeal.nD Cert.GradMidIdeal.τ).loc Cert.GradMidIdeal.main_arg1)
      ∧ m' ((c.tc : Thread Cert.GradMidRefIdeal.nD Cert.GradMidRefIdeal.τ).loc Cert.GradMidRefIdeal.main_arg2) = m ((c.tc : Thread Cert.GradMidIdeal.nD Cert.GradMidIdeal.τ).loc Cert.GradMidIdeal.main_arg2)
      ∧ m' ((c.tc : Thread Cert.GradMidRefIdeal.nD Cert.GradMidRefIdeal.τ).loc Cert.GradMidRefIdeal.main_arg3) = m ((c.tc : Thread Cert.GradMidIdeal.nD Cert.GradMidIdeal.τ).loc Cert.GradMidIdeal.main_arg3)
      ∧ m' ((c.tc : Thread Cert.GradMidRefIdeal.nD Cert.GradMidRefIdeal.τ).loc Cert.GradMidRefIdeal.main_arg4) = m ((c.tc : Thread Cert.GradMidIdeal.nD Cert.GradMidIdeal.τ).loc Cert.GradMidIdeal.main_arg4)) →
    ∃ (v0 : (c : Dev Cert.GradMidIdeal.nD) → Buf (Elt Ideal) ((c.tc : Thread Cert.GradMidIdeal.nD Cert.GradMidIdeal.τ).loc Cert.GradMidIdeal.main_v1_0)) (v1 : (c : Dev Cert.GradMidIdeal.nD) → Buf (Elt Ideal) ((c.tc : Thread Cert.GradMidIdeal.nD Cert.GradMidIdeal.τ).loc Cert.GradMidIdeal.main_v1_1)) (v2 : (c : Dev Cert.GradMidIdeal.nD) → Buf (Elt Ideal) ((c.tc : Thread Cert.GradMidIdeal.nD Cert.GradMidIdeal.τ).loc Cert.GradMidIdeal.main_v1_2)),
      θ_run (Cert.GradMidIdeal.defs (F := Ideal)) (onTc (τ := Cert.GradMidIdeal.τ) (Cert.GradMidIdeal.main (F := Ideal))) ⟨m, fun _ => 0, g⟩ (fun r => ∀ c : Dev Cert.GradMidIdeal.nD,
          r.2.mem ((c.tc : Thread Cert.GradMidIdeal.nD Cert.GradMidIdeal.τ).loc Cert.GradMidIdeal.main_v1_0) = v0 c
          ∧ r.2.mem ((c.tc : Thread Cert.GradMidIdeal.nD Cert.GradMidIdeal.τ).loc Cert.GradMidIdeal.main_v1_1) = v1 c
          ∧ r.2.mem ((c.tc : Thread Cert.GradMidIdeal.nD Cert.GradMidIdeal.τ).loc Cert.GradMidIdeal.main_v1_2) = v2 c
          ∧ r.2.mem ((c.tc : Thread Cert.GradMidIdeal.nD Cert.GradMidIdeal.τ).loc Cert.GradMidIdeal.main_arg0) = m ((c.tc : Thread Cert.GradMidIdeal.nD Cert.GradMidIdeal.τ).loc Cert.GradMidIdeal.main_arg0)
          ∧ r.2.mem ((c.tc : Thread Cert.GradMidIdeal.nD Cert.GradMidIdeal.τ).loc Cert.GradMidIdeal.main_arg1) = m ((c.tc : Thread Cert.GradMidIdeal.nD Cert.GradMidIdeal.τ).loc Cert.GradMidIdeal.main_arg1)
          ∧ r.2.mem ((c.tc : Thread Cert.GradMidIdeal.nD Cert.GradMidIdeal.τ).loc Cert.GradMidIdeal.main_arg2) = m ((c.tc : Thread Cert.GradMidIdeal.nD Cert.GradMidIdeal.τ).loc Cert.GradMidIdeal.main_arg2)
          ∧ r.2.mem ((c.tc : Thread Cert.GradMidIdeal.nD Cert.GradMidIdeal.τ).loc Cert.GradMidIdeal.main_arg3) = m ((c.tc : Thread Cert.GradMidIdeal.nD Cert.GradMidIdeal.τ).loc Cert.GradMidIdeal.main_arg3)
          ∧ r.2.mem ((c.tc : Thread Cert.GradMidIdeal.nD Cert.GradMidIdeal.τ).loc Cert.GradMidIdeal.main_arg4) = m ((c.tc : Thread Cert.GradMidIdeal.nD Cert.GradMidIdeal.τ).loc Cert.GradMidIdeal.main_arg4))
      ∧ θ_run (Cert.GradMidRefIdeal.defs (F := Ideal)) (onTc (τ := Cert.GradMidRefIdeal.τ) (Cert.GradMidRefIdeal.main (F := Ideal))) ⟨m', fun _ => 0, g'⟩ (fun r => ∀ c : Dev Cert.GradMidRefIdeal.nD,
          r.2.mem ((c.tc : Thread Cert.GradMidRefIdeal.nD Cert.GradMidRefIdeal.τ).loc Cert.GradMidRefIdeal.main_v47) = v0 c
          ∧ r.2.mem ((c.tc : Thread Cert.GradMidRefIdeal.nD Cert.GradMidRefIdeal.τ).loc Cert.GradMidRefIdeal.main_v49) = v1 c
          ∧ r.2.mem ((c.tc : Thread Cert.GradMidRefIdeal.nD Cert.GradMidRefIdeal.τ).loc Cert.GradMidRefIdeal.main_v50) = v2 c
          ∧ r.2.mem ((c.tc : Thread Cert.GradMidRefIdeal.nD Cert.GradMidRefIdeal.τ).loc Cert.GradMidRefIdeal.main_arg0) = m' ((c.tc : Thread Cert.GradMidRefIdeal.nD Cert.GradMidRefIdeal.τ).loc Cert.GradMidRefIdeal.main_arg0)
          ∧ r.2.mem ((c.tc : Thread Cert.GradMidRefIdeal.nD Cert.GradMidRefIdeal.τ).loc Cert.GradMidRefIdeal.main_arg1) = m' ((c.tc : Thread Cert.GradMidRefIdeal.nD Cert.GradMidRefIdeal.τ).loc Cert.GradMidRefIdeal.main_arg1)
          ∧ r.2.mem ((c.tc : Thread Cert.GradMidRefIdeal.nD Cert.GradMidRefIdeal.τ).loc Cert.GradMidRefIdeal.main_arg2) = m' ((c.tc : Thread Cert.GradMidRefIdeal.nD Cert.GradMidRefIdeal.τ).loc Cert.GradMidRefIdeal.main_arg2)
          ∧ r.2.mem ((c.tc : Thread Cert.GradMidRefIdeal.nD Cert.GradMidRefIdeal.τ).loc Cert.GradMidRefIdeal.main_arg3) = m' ((c.tc : Thread Cert.GradMidRefIdeal.nD Cert.GradMidRefIdeal.τ).loc Cert.GradMidRefIdeal.main_arg3)
          ∧ r.2.mem ((c.tc : Thread Cert.GradMidRefIdeal.nD Cert.GradMidRefIdeal.τ).loc Cert.GradMidRefIdeal.main_arg4) = m' ((c.tc : Thread Cert.GradMidRefIdeal.nD Cert.GradMidRefIdeal.τ).loc Cert.GradMidRefIdeal.main_arg4))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v1_0)) (v1 : (c : Dev Cert.GradXIdeal.nD) → Buf (Elt Ideal) ((c.tc : Thread Cert.GradXIdeal.nD Cert.GradXIdeal.τ).loc Cert.GradXIdeal.main_v1_1)) (v2 : (c : Dev Cert.GradXIdeal.nD) → Buf (Elt Ideal) ((c.tc : Thread Cert.GradXIdeal.nD Cert.GradXIdeal.τ).loc Cert.GradXIdeal.main_v1_2)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v1_0) = v0 c
          ∧ r.2.mem ((c.tc : Thread Cert.GradXIdeal.nD Cert.GradXIdeal.τ).loc Cert.GradXIdeal.main_v1_1) = v1 c
          ∧ r.2.mem ((c.tc : Thread Cert.GradXIdeal.nD Cert.GradXIdeal.τ).loc Cert.GradXIdeal.main_v1_2) = v2 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v47) = v0 c
          ∧ r.2.mem ((c.tc : Thread Cert.GradXRefIdeal.nD Cert.GradXRefIdeal.τ).loc Cert.GradXRefIdeal.main_v49) = v1 c
          ∧ r.2.mem ((c.tc : Thread Cert.GradXRefIdeal.nD Cert.GradXRefIdeal.τ).loc Cert.GradXRefIdeal.main_v50) = v2 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4))

def Claim : Prop :=
  ∃ (hKernel : Cert.Kernel.Facts) (hKernelIdeal : Cert.KernelIdeal.Facts) (hReferenceIdeal : Cert.ReferenceIdeal.Facts) (hGradAct : Cert.GradAct.Facts) (hGradActIdeal : Cert.GradActIdeal.Facts) (hGradActRefIdeal : Cert.GradActRefIdeal.Facts) (hGradDown : Cert.GradDown.Facts) (hGradDownIdeal : Cert.GradDownIdeal.Facts) (hGradDownRefIdeal : Cert.GradDownRefIdeal.Facts) (hGradUp : Cert.GradUp.Facts) (hGradUpIdeal : Cert.GradUpIdeal.Facts) (hGradUpRefIdeal : Cert.GradUpRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradMixed : Cert.GradMixed.Facts) (hGradMixedIdeal : Cert.GradMixedIdeal.Facts) (hGradMixedRefIdeal : Cert.GradMixedRefIdeal.Facts) (hUpProj : Cert.UpProj.Facts) (hUpProjIdeal : Cert.UpProjIdeal.Facts) (hUpProjRefIdeal : Cert.UpProjRefIdeal.Facts) (hInProj : Cert.InProj.Facts) (hInProjIdeal : Cert.InProjIdeal.Facts) (hInProjRefIdeal : Cert.InProjRefIdeal.Facts) (hDownProj : Cert.DownProj.Facts) (hDownProjIdeal : Cert.DownProjIdeal.Facts) (hDownProjRefIdeal : Cert.DownProjRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hGradMid : Cert.GradMid.Facts) (hGradMidIdeal : Cert.GradMidIdeal.Facts) (hGradMidRefIdeal : Cert.GradMidRefIdeal.Facts) (hGradX : Cert.GradX.Facts) (hGradXIdeal : Cert.GradXIdeal.Facts) (hGradXRefIdeal : Cert.GradXRefIdeal.Facts) (hPre_finite_pool : Cert.Pre_finite_pool.Facts),
    quiescent_Kernel (hKernel := hKernel)
    ∧ quiescent_KernelIdeal (hKernelIdeal := hKernelIdeal)
    ∧ quiescent_KernelIdeal_pre_finite_pool (hKernelIdeal := hKernelIdeal) (hPre_finite_pool := hPre_finite_pool)
    ∧ quiescent_ReferenceIdeal (hReferenceIdeal := hReferenceIdeal)
    ∧ quiescent_ReferenceIdeal_pre_finite_pool (hReferenceIdeal := hReferenceIdeal) (hPre_finite_pool := hPre_finite_pool)
    ∧ quiescent_GradAct (hGradAct := hGradAct)
    ∧ quiescent_GradActIdeal (hGradActIdeal := hGradActIdeal)
    ∧ quiescent_GradActRefIdeal (hGradActRefIdeal := hGradActRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradMixed (hGradMixed := hGradMixed)
    ∧ quiescent_GradMixedIdeal (hGradMixedIdeal := hGradMixedIdeal)
    ∧ quiescent_GradMixedRefIdeal (hGradMixedRefIdeal := hGradMixedRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_GradMid (hGradMid := hGradMid)
    ∧ quiescent_GradMidIdeal (hGradMidIdeal := hGradMidIdeal)
    ∧ quiescent_GradMidRefIdeal (hGradMidRefIdeal := hGradMidRefIdeal)
    ∧ quiescent_GradX (hGradX := hGradX)
    ∧ quiescent_GradXIdeal (hGradXIdeal := hGradXIdeal)
    ∧ quiescent_GradXRefIdeal (hGradXRefIdeal := hGradXRefIdeal)
    ∧ preserves_Kernel_KernelIdeal
    ∧ algebraic_KernelIdeal_ReferenceIdeal_pre_finite_pool (hKernelIdeal := hKernelIdeal) (hReferenceIdeal := hReferenceIdeal) (hPre_finite_pool := hPre_finite_pool)
    ∧ preserves_GradAct_GradActIdeal
    ∧ algebraic_GradActIdeal_GradActRefIdeal (hGradActIdeal := hGradActIdeal) (hGradActRefIdeal := hGradActRefIdeal)
    ∧ preserves_GradDown_GradDownIdeal
    ∧ algebraic_GradDownIdeal_GradDownRefIdeal (hGradDownIdeal := hGradDownIdeal) (hGradDownRefIdeal := hGradDownRefIdeal)
    ∧ preserves_GradUp_GradUpIdeal
    ∧ algebraic_GradUpIdeal_GradUpRefIdeal (hGradUpIdeal := hGradUpIdeal) (hGradUpRefIdeal := hGradUpRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradMixed_GradMixedIdeal
    ∧ algebraic_GradMixedIdeal_GradMixedRefIdeal (hGradMixedIdeal := hGradMixedIdeal) (hGradMixedRefIdeal := hGradMixedRefIdeal)
    ∧ preserves_UpProj_UpProjIdeal
    ∧ algebraic_UpProjIdeal_UpProjRefIdeal (hUpProjIdeal := hUpProjIdeal) (hUpProjRefIdeal := hUpProjRefIdeal)
    ∧ preserves_InProj_InProjIdeal
    ∧ algebraic_InProjIdeal_InProjRefIdeal (hInProjIdeal := hInProjIdeal) (hInProjRefIdeal := hInProjRefIdeal)
    ∧ preserves_DownProj_DownProjIdeal
    ∧ algebraic_DownProjIdeal_DownProjRefIdeal (hDownProjIdeal := hDownProjIdeal) (hDownProjRefIdeal := hDownProjRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_GradMid_GradMidIdeal
    ∧ algebraic_GradMidIdeal_GradMidRefIdeal (hGradMidIdeal := hGradMidIdeal) (hGradMidRefIdeal := hGradMidRefIdeal)
    ∧ preserves_GradX_GradXIdeal
    ∧ algebraic_GradXIdeal_GradXRefIdeal (hGradXIdeal := hGradXIdeal) (hGradXRefIdeal := hGradXRefIdeal)
-- ==== Pre_finite_pool.lean ====
abbrev S4096x2048 : Shape := ⟨2, ![4096, 2048]⟩
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩
abbrev S256x1024 : Shape := ⟨2, ![256, 1024]⟩
abbrev S1x1024 : Shape := ⟨2, ![1, 1024]⟩
abbrev S4353x1024 : Shape := ⟨2, ![4353, 1024]⟩

class Facts : Prop where
  slices_S4096x2048_S4096x1024_0_1024 : S4096x2048.Slices ![0, 1024] S4096x1024
  bcast_S_S4096x1024 : S_.BroadcastsInDim S4096x1024 (![] : Fin 0 → Fin S4096x1024.rank)
  slices_S4096x4096_S4096x1024_0_3072 : S4096x4096.Slices ![0, 3072] S4096x1024
  bitsLt_bf16_f32 : FTy.bits .bf16 < FTy.bits .f32
  shapeCasts_S4x256x256_S256x1024 : S4x256x256.ShapeCasts S256x1024
  bcast_S_S256x1024 : S_.BroadcastsInDim S256x1024 (![] : Fin 0 → Fin S256x1024.rank)
  shapeCasts_S1024_S1x1024 : S1024.ShapeCasts S1x1024
  bcast_S_S1x1024 : S_.BroadcastsInDim S1x1024 (![] : Fin 0 → Fin S1x1024.rank)
  concatenates_S4096x1024_S256x1024_S1x1024_S4353x1024_d0 : Shape.Concatenates [S4096x1024, S256x1024, S1x1024] S4353x1024 0

variable [Facts]

def fn {F : FTy → Type} [FloatOps F] (main_arg0 : FVec F S4096x2048 .f32) (main_arg1 : FVec F S4096x4096 .bf16) (main_arg2 : FVec F S3x1024 .f32) (main_arg3 : FVec F S4x256x256 .f32) (main_arg4 : FVec F S1024 .f32) : IVec S4353x1024 1 :=
  let main_v0 : FVec F S4096x1024 .f32 := (extractStridedSlice S4096x1024 ![0, 1024] · slices_S4096x2048_S4096x1024_0_1024) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .bf16 := (extractStridedSlice S4096x1024 ![0, 3072] · slices_S4096x4096_S4096x1024_0_3072) main_arg1
  let main_v5 : FVec F S4096x1024 .f32 := (extf .f32 · bitsLt_bf16_f32) main_v4
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_v9 : IVec S4096x1024 1 := andi main_v3 main_v8
  let main_v10 : FVec F S256x1024 .f32 := shapeCast S256x1024 main_arg3 shapeCasts_S4x256x256_S256x1024
  let main_v11 : FVec F S256x1024 .f32 := Host.absf main_v10
  let main_cst_1 : FVec F S_ .f32 := constant S_ .f32 0x7F800000#32
  let main_v12 : FVec F S256x1024 .f32 := broadcastInDim S256x1024 ![] bcast_S_S256x1024 main_cst_1
  let main_v13 : IVec S256x1024 1 := cmpf .olt main_v11 main_v12
  let main_v14 : FVec F S1x1024 .f32 := shapeCast S1x1024 main_arg4 shapeCasts_S1024_S1x1024
  let main_v15 : FVec F S1x1024 .f32 := Host.absf main_v14
  let main_cst_2 : FVec F S_ .f32 := constant S_ .f32 0x7F800000#32
  let main_v16 : FVec F S1x1024 .f32 := broadcastInDim S1x1024 ![] bcast_S_S1x1024 main_cst_2
  let main_v17 : IVec S1x1024 1 := cmpf .olt main_v15 main_v16
  let main_v18 : IVec S4353x1024 1 := concatenate S4353x1024 0 [⟨S4096x1024, main_v9⟩, ⟨S256x1024, main_v13⟩, ⟨S1x1024, main_v17⟩] concatenates_S4096x1024_S256x1024_S1x1024_S4353x1024_d0
  main_v18
-- ==== Kernel.lean ====
abbrev S4096x2048 : Shape := ⟨2, ![4096, 2048]⟩
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S_ : Shape := ⟨0, ![]⟩
abbrev S8x1024 : Shape := ⟨2, ![8, 1024]⟩
abbrev S1x1024 : Shape := ⟨2, ![1, 1024]⟩
abbrev S256x1024 : Shape := ⟨2, ![256, 1024]⟩
abbrev S16x1024 : Shape := ⟨2, ![16, 1024]⟩
abbrev S256x4096 : Shape := ⟨2, ![256, 4096]⟩
abbrev S256x256 : Shape := ⟨2, ![256, 256]⟩
abbrev S16x256 : Shape := ⟨2, ![16, 256]⟩
abbrev S272x256 : Shape := ⟨2, ![272, 256]⟩
abbrev S1x256 : Shape := ⟨2, ![1, 256]⟩
abbrev S256 : Shape := ⟨1, ![256]⟩
abbrev S256x1 : Shape := ⟨2, ![256, 1]⟩
abbrev S1x256x256 : Shape := ⟨3, ![1, 256, 256]⟩
abbrev S272x1 : Shape := ⟨2, ![272, 1]⟩

abbrev nBuf : Space → Nat
  | .hbm => 14
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S4096x4096, .bf16⟩
  | .hbm, ⟨2, _⟩ => ⟨S3x1024, .f32⟩
  | .hbm, ⟨3, _⟩ => ⟨S4x256x256, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S4x256x256, .bf16⟩
  | .hbm, ⟨9, _⟩ => ⟨S1x1024, .f32⟩
  | .hbm, ⟨10, _⟩ => ⟨S4096x4096, .bf16⟩
  | .hbm, ⟨11, _⟩ => ⟨S8x1024, .f32⟩
  | .hbm, ⟨12, _⟩ => ⟨S4x256x256, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x1024, .bf16⟩
  | .local _ .vmem, ⟨23, _⟩ => ⟨S16x1024, .bf16⟩
  | .local _ .vmem, ⟨24, _⟩ => ⟨S8x1024, .f32⟩
  | .local _ .vmem, ⟨25, _⟩ => ⟨S4x256x256, .bf16⟩
  | .local _ .vmem, ⟨26, _⟩ => ⟨S1x1024, .f32⟩
  | .local _ .vmem, ⟨27, _⟩ => ⟨S256x4096, .bf16⟩
  | .local _ .vmem, ⟨28, _⟩ => ⟨S256x4096, .bf16⟩
  | .local _ .vmem, ⟨29, _⟩ => ⟨S8x1024, .f32⟩
  | .local _ .vmem, ⟨30, _⟩ => ⟨S4x256x256, .f32⟩
  | .local _ .vmem, ⟨31, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_11 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S4096x2048 : Shape := ⟨2, ![4096, 2048]⟩
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S1x4096x4096 : Shape := ⟨3, ![1, 4096, 4096]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1024 : Shape := ⟨2, ![1, 1024]⟩
abbrev S1x1x1024 : Shape := ⟨3, ![1, 1, 1024]⟩
abbrev S1x4096x4x256 : Shape := ⟨4, ![1, 4096, 4, 256]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x1x4096 : Shape := ⟨4, ![4, 256, 1, 4096]⟩
abbrev S1x4096x2048 : Shape := ⟨3, ![1, 4096, 2048]⟩
abbrev S4x1x4096x256 : Shape := ⟨4, ![4, 1, 4096, 256]⟩
abbrev S8x1024 : Shape := ⟨2, ![8, 1024]⟩

abbrev nBuf : Space → Nat
  | .hbm => 301
  | .vmem => 0
  | .smem => 0
  | _ => 0

abbrev hbmTy0_0 (i : Nat) : BufTy := match i % 128 with
  | 0 => ⟨S4096x2048, .f32⟩
  | 1 => ⟨S4096x4096, .bf16⟩
  | 2 => ⟨S3x1024, .f32⟩
  | 3 => ⟨S4x256x256, .f32⟩
  | 4 => ⟨S1024, .f32⟩
  | 5 => ⟨S4096x4096, .f32⟩
  | 6 => ⟨S1x4096x4096, .f32⟩
  | 7 => ⟨S1x4096x1024, .f32⟩
  | 8 => ⟨S1x4096x1024, .f32⟩
  | 9 => ⟨S1x4096x1024, .f32⟩
  | 10 => ⟨S1x4096x1024, .f32⟩
  | 11 => ⟨S1x4096x1024, .f32⟩
  | 12 => ⟨S_, .f32⟩
  | 13 => ⟨S1x2x1024, .f32⟩
  | 14 => ⟨S1x4098x1024, .f32⟩
  | 15 => ⟨S_, .f32⟩
  | 16 => ⟨S1x2x1024, .f32⟩
  | 17 => ⟨S1x1024, .f32⟩
  | 18 => ⟨S1024, .f32⟩
  | 19 => ⟨S1x4096x1024, .f32⟩
  | 20 => ⟨S1x1x1024, .f32⟩
  | 21 => ⟨S1x4096x1024, .f32⟩
  | 22 => ⟨S1x4096x1024, .f32⟩
  | 23 => ⟨S1x1024, .f32⟩
  | 24 => ⟨S1024, .f32⟩
  | 25 => ⟨S1x4096x1024, .f32⟩
  | 26 => ⟨S1x1x1024, .f32⟩
  | 27 => ⟨S1x4096x1024, .f32⟩
  | 28 => ⟨S1x4096x1024, .f32⟩
  | 29 => ⟨S1x4096x1024, .f32⟩
  | 30 => ⟨S1x1024, .f32⟩
  | 31 => ⟨S1024, .f32⟩
  | 32 => ⟨S1x4096x1024, .f32⟩
  | 33 => ⟨S1x1x1024, .f32⟩
  | 34 => ⟨S1x4096x1024, .f32⟩
  | 35 => ⟨S1x4096x1024, .f32⟩
  | 36 => ⟨S1x4096x1024, .f32⟩
  | 37 => ⟨S1x4096x1024, .f32⟩
  | 38 => ⟨S1x4096x4x256, .f32⟩
  | 39 => ⟨S_, .f32⟩
  | 40 => ⟨S_, .f32⟩
  | 41 => ⟨S1x4096x4x256, .f32⟩
  | 42 => ⟨S4096, .f32⟩
  | 43 => ⟨S1x4096x1x256, .f32⟩
  | 44 => ⟨S1x4096x256, .f32⟩
  | 45 => ⟨S_, .f32⟩
  | 46 => ⟨S1x2x256, .f32⟩
  | 47 => ⟨S1x4094x256, .f32⟩
  | 48 => ⟨S1x4096x256, .f32⟩
  | 49 => ⟨S_, .f32⟩
  | 50 => ⟨S1x2x256, .f32⟩
  | 51 => ⟨S_, .f32⟩
  | 52 => ⟨S4096, .f32⟩
  | 53 => ⟨S4096, .f32⟩
  | 54 => ⟨S_, .f32⟩
  | 55 => ⟨S4096, .f32⟩
  | 56 => ⟨S4096, .f32⟩
  | 57 => ⟨S1x4096x1, .f32⟩
  | 58 => ⟨S1x4096x256, .f32⟩
  | 59 => ⟨S1x4096x256, .f32⟩
  | 60 => ⟨S1x4096x256, .f32⟩
  | 61 => ⟨S1x4096x1x256, .f32⟩
  | 62 => ⟨S1x4096x256, .f32⟩
  | 63 => ⟨S1x4096x256, .f32⟩
  | 64 => ⟨S1x4096x1x256, .f32⟩
  | 65 => ⟨S1x4096x256, .f32⟩
  | 66 => ⟨S_, .f32⟩
  | 67 => ⟨S1x4x256, .f32⟩
  | 68 => ⟨S1x4092x256, .f32⟩
  | 69 => ⟨S1x4096x256, .f32⟩
  | 70 => ⟨S_, .f32⟩
  | 71 => ⟨S1x4x256, .f32⟩
  | 72 => ⟨S_, .f32⟩
  | 73 => ⟨S4096, .f32⟩
  | 74 => ⟨S4096, .f32⟩
  | 75 => ⟨S_, .f32⟩
  | 76 => ⟨S4096, .f32⟩
  | 77 => ⟨S4096, .f32⟩
  | 78 => ⟨S1x4096x1, .f32⟩
  | 79 => ⟨S1x4096x256, .f32⟩
  | 80 => ⟨S1x4096x256, .f32⟩
  | 81 => ⟨S1x4096x256, .f32⟩
  | 82 => ⟨S1x4096x1x256, .f32⟩
  | 83 => ⟨S1x4096x256, .f32⟩
  | 84 => ⟨S1x4096x256, .f32⟩
  | 85 => ⟨S1x4096x1x256, .f32⟩
  | 86 => ⟨S1x4096x256, .f32⟩
  | 87 => ⟨S_, .f32⟩
  | 88 => ⟨S1x8x256, .f32⟩
  | 89 => ⟨S1x4088x256, .f32⟩
  | 90 => ⟨S1x4096x256, .f32⟩
  | 91 => ⟨S_, .f32⟩
  | 92 => ⟨S1x8x256, .f32⟩
  | 93 => ⟨S_, .f32⟩
  | 94 => ⟨S4096, .f32⟩
  | 95 => ⟨S4096, .f32⟩
  | 96 => ⟨S_, .f32⟩
  | 97 => ⟨S4096, .f32⟩
  | 98 => ⟨S4096, .f32⟩
  | 99 => ⟨S1x4096x1, .f32⟩
  | 100 => ⟨S1x4096x256, .f32⟩
  | 101 => ⟨S1x4096x256, .f32⟩
  | 102 => ⟨S1x4096x256, .f32⟩
  | 103 => ⟨S1x4096x1x256, .f32⟩
  | 104 => ⟨S1x4096x256, .f32⟩
  | 105 => ⟨S1x4096x256, .f32⟩
  | 106 => ⟨S1x4096x1x256, .f32⟩
  | 107 => ⟨S1x4096x256, .f32⟩
  | 108 => ⟨S_, .f32⟩
  | 109 => ⟨S1x16x256, .f32⟩
  | 110 => ⟨S1x4080x256, .f32⟩
  | 111 => ⟨S1x4096x256, .f32⟩
  | 112 => ⟨S_, .f32⟩
  | 113 => ⟨S1x16x256, .f32⟩
  | 114 => ⟨S_, .f32⟩
  | 115 => ⟨S4096, .f32⟩
  | 116 => ⟨S4096, .f32⟩
  | 117 => ⟨S_, .f32⟩
  | 118 => ⟨S4096, .f32⟩
  | 119 => ⟨S4096, .f32⟩
  | 120 => ⟨S1x4096x1, .f32⟩
  | 121 => ⟨S1x4096x256, .f32⟩
  | 122 => ⟨S1x4096x256, .f32⟩
  | 123 => ⟨S1x4096x256, .f32⟩
  | 124 => ⟨S1x4096x1x256, .f32⟩
  | 125 => ⟨S1x4096x256, .f32⟩
  | 126 => ⟨S1x4096x256, .f32⟩
  | 127 => ⟨S1x4096x1x256, .f32⟩
  | _ => ⟨S4096x2048, .f32⟩

abbrev hbmTy0_1 (i : Nat) : BufTy := match i % 128 with
  | 0 => ⟨S1x4096x1x256, .f32⟩
  | 1 => ⟨S1x4096x1x256, .f32⟩
  | 2 => ⟨S1x4096x1x256, .f32⟩
  | 3 => ⟨S1x4096x4x256, .f32⟩
  | 4 => ⟨S4x256x1x4096, .f32⟩
  | 5 => ⟨S1x4096x4x256, .f32⟩
  | 6 => ⟨S1x4096x1024, .f32⟩
  | 7 => ⟨S1x1x1024, .f32⟩
  | 8 => ⟨S1x4096x1024, .f32⟩
  | 9 => ⟨S1x4096x1024, .f32⟩
  | 10 => ⟨S1x4096x2048, .f32⟩
  | 11 => ⟨S1x4096x2048, .f32⟩
  | 12 => ⟨S1x4096x1024, .f32⟩
  | 13 => ⟨S1x4096x1024, .f32⟩
  | 14 => ⟨S1x4096x1024, .f32⟩
  | 15 => ⟨S_, .f32⟩
  | 16 => ⟨S1x1024, .f32⟩
  | 17 => ⟨S1x1x1024, .f32⟩
  | 18 => ⟨S1x4096x1024, .f32⟩
  | 19 => ⟨S1x4096x1024, .f32⟩
  | 20 => ⟨S_, .f32⟩
  | 21 => ⟨S1024, .f32⟩
  | 22 => ⟨S1x4096x4x256, .f32⟩
  | 23 => ⟨S4x256x1x4096, .f32⟩
  | 24 => ⟨S4x1x4096x256, .f32⟩
  | 25 => ⟨S1x4096x4x256, .f32⟩
  | 26 => ⟨S4x256x256, .f32⟩
  | 27 => ⟨S4x256x256, .f32⟩
  | 28 => ⟨S1x4096x1x256, .f32⟩
  | 29 => ⟨S1x4096x256, .f32⟩
  | 30 => ⟨S1x4096x1x256, .f32⟩
  | 31 => ⟨S1x4096x256, .f32⟩
  | 32 => ⟨S1x4096x1x256, .f32⟩
  | 33 => ⟨S1x4096x256, .f32⟩
  | 34 => ⟨S1x4096x1x256, .f32⟩
  | 35 => ⟨S1x4096x256, .f32⟩
  | 36 => ⟨S1x4096x256, .f32⟩
  | 37 => ⟨S1x4096x1x256, .f32⟩
  | 38 => ⟨S_, .f32⟩
  | 39 => ⟨S1x4096x4x256, .f32⟩
  | 40 => ⟨S1x4096x256, .f32⟩
  | 41 => ⟨S1x4096x256, .f32⟩
  | 42 => ⟨S1x4096x256, .f32⟩
  | 43 => ⟨S1x16x256, .f32⟩
  | 44 => ⟨S1x4080x256, .f32⟩
  | 45 => ⟨S_, .f32⟩
  | 46 => ⟨S1x4096x256, .f32⟩
  | 47 => ⟨S1x4096x256, .f32⟩
  | 48 => ⟨S1x4096x1x256, .f32⟩
  | 49 => ⟨S_, .f32⟩
  | 50 => ⟨S1x4096x4x256, .f32⟩
  | 51 => ⟨S1x4096x256, .f32⟩
  | 52 => ⟨S1x4096x1x256, .f32⟩
  | 53 => ⟨S_, .f32⟩
  | 54 => ⟨S1x4096x4x256, .f32⟩
  | 55 => ⟨S1x4096x4x256, .f32⟩
  | 56 => ⟨S1x4096x256, .f32⟩
  | 57 => ⟨S1x4096x256, .f32⟩
  | 58 => ⟨S1x4096x256, .f32⟩
  | 59 => ⟨S1x8x256, .f32⟩
  | 60 => ⟨S1x4088x256, .f32⟩
  | 61 => ⟨S_, .f32⟩
  | 62 => ⟨S1x4096x256, .f32⟩
  | 63 => ⟨S1x4096x256, .f32⟩
  | 64 => ⟨S1x4096x1x256, .f32⟩
  | 65 => ⟨S_, .f32⟩
  | 66 => ⟨S1x4096x4x256, .f32⟩
  | 67 => ⟨S1x4096x4x256, .f32⟩
  | 68 => ⟨S1x4096x256, .f32⟩
  | 69 => ⟨S1x4096x1x256, .f32⟩
  | 70 => ⟨S_, .f32⟩
  | 71 => ⟨S1x4096x4x256, .f32⟩
  | 72 => ⟨S1x4096x4x256, .f32⟩
  | 73 => ⟨S1x4096x256, .f32⟩
  | 74 => ⟨S1x4096x256, .f32⟩
  | 75 => ⟨S1x4096x256, .f32⟩
  | 76 => ⟨S1x4x256, .f32⟩
  | 77 => ⟨S1x4092x256, .f32⟩
  | 78 => ⟨S_, .f32⟩
  | 79 => ⟨S1x4096x256, .f32⟩
  | 80 => ⟨S1x4096x256, .f32⟩
  | 81 => ⟨S1x4096x1x256, .f32⟩
  | 82 => ⟨S_, .f32⟩
  | 83 => ⟨S1x4096x4x256, .f32⟩
  | 84 => ⟨S1x4096x4x256, .f32⟩
  | 85 => ⟨S1x4096x256, .f32⟩
  | 86 => ⟨S1x4096x1x256, .f32⟩
  | 87 => ⟨S_, .f32⟩
  | 88 => ⟨S1x4096x4x256, .f32⟩
  | 89 => ⟨S1x4096x4x256, .f32⟩
  | 90 => ⟨S1x4096x256, .f32⟩
  | 91 => ⟨S1x4096x256, .f32⟩
  | 92 => ⟨S1x4096x256, .f32⟩
  | 93 => ⟨S1x2x256, .f32⟩
  | 94 => ⟨S1x4094x256, .f32⟩
  | 95 => ⟨S_, .f32⟩
  | 96 => ⟨S1x4096x256, .f32⟩
  | 97 => ⟨S1x4096x256, .f32⟩
  | 98 => ⟨S1x4096x1x256, .f32⟩
  | 99 => ⟨S_, .f32⟩
  | 100 => ⟨S1x4096x4x256, .f32⟩
  | 101 => ⟨S1x4096x4x256, .f32⟩
  | 102 => ⟨S_, .f32⟩
  | 103 => ⟨S_, .f32⟩
  | 104 => ⟨S1x4096x4x256, .f32⟩
  | 105 => ⟨S1x4096x4x256, .f32⟩
  | 106 => ⟨S1x4096x1024, .f32⟩
  | 107 => ⟨S1x4096x1024, .f32⟩
  | 108 => ⟨S1x4096x1024, .f32⟩
  | 109 => ⟨S1x4096x1024, .f32⟩
  | 110 => ⟨S1x4096x1024, .f32⟩
  | 111 => ⟨S1x4096x1024, .f32⟩
  | 112 => ⟨S_, .f32⟩
  | 113 => ⟨S1x1024, .f32⟩
  | 114 => ⟨S1x1x1024, .f32⟩
  | 115 => ⟨S_, .f32⟩
  | 116 => ⟨S1024, .f32⟩
  | 117 => ⟨S_, .f32⟩
  | 118 => ⟨S1x4098x1024, .f32⟩
  | 119 => ⟨S1x1024, .f32⟩
  | 120 => ⟨S_, .f32⟩
  | 121 => ⟨S3x1024, .f32⟩
  | 122 => ⟨S1x4096x1024, .f32⟩
  | 123 => ⟨S1x4096x1024, .f32⟩
  | 124 => ⟨S1x4096x1024, .f32⟩
  | 125 => ⟨S_, .f32⟩
  | 126 => ⟨S1x1024, .f32⟩
  | 127 => ⟨S1x1x1024, .f32⟩
  | _ => ⟨S4096x2048, .f32⟩

abbrev hbmTy0_2 (i : Nat) : BufTy := match i % 128 with
  | 0 => ⟨S_, .f32⟩
  | 1 => ⟨S1024, .f32⟩
  | 2 => ⟨S_, .f32⟩
  | 3 => ⟨S1x4098x1024, .f32⟩
  | 4 => ⟨S1x4098x1024, .f32⟩
  | 5 => ⟨S1x1024, .f32⟩
  | 6 => ⟨S_, .f32⟩
  | 7 => ⟨S3x1024, .f32⟩
  | 8 => ⟨S3x1024, .f32⟩
  | 9 => ⟨S1x4096x1024, .f32⟩
  | 10 => ⟨S1x4096x1024, .f32⟩
  | 11 => ⟨S1x4096x1024, .f32⟩
  | 12 => ⟨S_, .f32⟩
  | 13 => ⟨S1x1024, .f32⟩
  | 14 => ⟨S1x1x1024, .f32⟩
  | 15 => ⟨S_, .f32⟩
  | 16 => ⟨S1024, .f32⟩
  | 17 => ⟨S_, .f32⟩
  | 18 => ⟨S1x4098x1024, .f32⟩
  | 19 => ⟨S1x4098x1024, .f32⟩
  | 20 => ⟨S1x1024, .f32⟩
  | 21 => ⟨S_, .f32⟩
  | 22 => ⟨S3x1024, .f32⟩
  | 23 => ⟨S3x1024, .f32⟩
  | 24 => ⟨S1x2x1024, .f32⟩
  | 25 => ⟨S1x4096x1024, .f32⟩
  | 26 => ⟨S1x4096x1024, .f32⟩
  | 27 => ⟨S1x4096x1024, .f32⟩
  | 28 => ⟨S_, .f32⟩
  | 29 => ⟨S1x4096x4096, .f32⟩
  | 30 => ⟨S_, .f32⟩
  | 31 => ⟨S1x4096x4096, .f32⟩
  | 32 => ⟨S1x4096x4096, .f32⟩
  | 33 => ⟨S_, .f32⟩
  | 34 => ⟨S1x4096x4096, .f32⟩
  | 35 => ⟨S1x4096x4096, .f32⟩
  | 36 => ⟨S_, .f32⟩
  | 37 => ⟨S1x4096x4096, .f32⟩
  | 38 => ⟨S1x4096x4096, .f32⟩
  | 39 => ⟨S4096x4096, .f32⟩
  | 40 => ⟨S4096x4096, .bf16⟩
  | 41 => ⟨S_, .i32⟩
  | 42 => ⟨S_, .f32⟩
  | 43 => ⟨S8x1024, .f32⟩
  | 44 => ⟨S1x1024, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_call0_cst : Ref sig .tc := ⟨.hbm, 39, rfl⟩
abbrev main_call0_call0_v0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_cst_11 : Ref sig .tc := ⟨.hbm, 93, rfl⟩
abbrev main_v74 : Ref sig .tc := ⟨.hbm, 94, rfl⟩
abbrev main_v75 : Ref sig .tc := ⟨.hbm, 95, rfl⟩
abbrev main_cst_12 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_13 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_14 : Ref sig .tc := ⟨.hbm, 112, rfl⟩
abbrev main_v90 : Ref sig .tc := ⟨.hbm, 113, rfl⟩
abbrev main_cst_15 : Ref sig .tc := ⟨.hbm, 114, rfl⟩
abbrev main_v91 : Ref sig .tc := ⟨.hbm, 115, rfl⟩
abbrev main_v92 : Ref sig .tc := ⟨.hbm, 116, rfl⟩
abbrev main_cst_16 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_17 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_18 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_19 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_20 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_21 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_cst_22 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_cst_23 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_24 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_cst_25 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_cst_26 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_27 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_cst_28 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_cst_29 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_30 : Ref sig .tc := ⟨.hbm, 227, rfl⟩
abbrev main_v189 : Ref sig .tc := ⟨.hbm, 228, rfl⟩
abbrev main_v190 : Ref sig .tc := ⟨.hbm, 229, rfl⟩
abbrev main_call1_call0_cst : Ref sig .tc := ⟨.hbm, 230, rfl⟩
abbrev main_call1_call0_v0 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_cst_31 : Ref sig .tc := ⟨.hbm, 240, rfl⟩
abbrev main_v199 : Ref sig .tc := ⟨.hbm, 241, rfl⟩
abbrev main_v200 : Ref sig .tc := ⟨.hbm, 242, rfl⟩
abbrev main_cst_32 : Ref sig .tc := ⟨.hbm, 243, rfl⟩
abbrev main_v201 : Ref sig .tc := ⟨.hbm, 244, rfl⟩
abbrev main_cst_33 : Ref sig .tc := ⟨.hbm, 245, rfl⟩
abbrev main_v202 : Ref sig .tc := ⟨.hbm, 246, rfl⟩
abbrev main_v203 : Ref sig .tc := ⟨.hbm, 247, rfl⟩
abbrev main_cst_34 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_cst_35 : Ref sig .tc := ⟨.hbm, 253, rfl⟩
abbrev main_v208 : Ref sig .tc := ⟨.hbm, 254, rfl⟩
abbrev main_v209 : Ref sig .tc := ⟨.hbm, 255, rfl⟩
abbrev main_cst_36 : Ref sig .tc := ⟨.hbm, 256, rfl⟩
abbrev main_v210 : Ref sig .tc := ⟨.hbm, 257, rfl⟩
abbrev main_cst_37 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_cst_38 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_cst_39 : Ref sig .tc := ⟨.hbm, 268, rfl⟩
abbrev main_v219 : Ref sig .tc := ⟨.hbm, 269, rfl⟩
abbrev main_v220 : Ref sig .tc := ⟨.hbm, 270, rfl⟩
abbrev main_cst_40 : Ref sig .tc := ⟨.hbm, 271, rfl⟩
abbrev main_v221 : Ref sig .tc := ⟨.hbm, 272, rfl⟩
abbrev main_cst_41 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_cst_42 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_cst_43 : Ref sig .tc := ⟨.hbm, 284, rfl⟩
abbrev main_v231 : Ref sig .tc := ⟨.hbm, 285, rfl⟩
abbrev main_cst_44 : Ref sig .tc := ⟨.hbm, 286, rfl⟩
abbrev main_v232 : Ref sig .tc := ⟨.hbm, 287, rfl⟩
abbrev main_v233 : Ref sig .tc := ⟨.hbm, 288, rfl⟩
abbrev main_cst_45 : Ref sig .tc := ⟨.hbm, 289, rfl⟩
abbrev main_v234 : Ref sig .tc := ⟨.hbm, 290, rfl⟩
abbrev main_v235 : Ref sig .tc := ⟨.hbm, 291, rfl⟩
abbrev main_cst_46 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_c : Ref sig .tc := ⟨.hbm, 297, rfl⟩
abbrev main_call2_v0 : Ref sig .tc := ⟨.hbm, 298, rfl⟩
abbrev main_v240 : Ref sig .tc := ⟨.hbm, 299, rfl⟩
abbrev main_v241 : Ref sig .tc := ⟨.hbm, 300, rfl⟩

abbrev nD : Nat := 1
abbrev τ : Topo := Topo.v7x

variable {F : FTy → Type} [FloatOps F]
-- ==== GradAct.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v7 : Index := Scalar.indexCast v2
  let c0_3 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradActRefIdeal.lean ====
abbrev S4096x2048 : Shape := ⟨2, ![4096, 2048]⟩
abbrev S8192x2048 : Shape := ⟨2, ![8192, 2048]⟩
abbrev S4096x8192 : Shape := ⟨2, ![4096, 8192]⟩
abbrev S1x4096x8192 : Shape := ⟨3, ![1, 4096, 8192]⟩
abbrev S_ : Shape := ⟨0, ![]⟩
abbrev S1x4096x2048 : Shape := ⟨3, ![1, 4096, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S1x4096x8192, .f32⟩
  | .hbm, ⟨4, _⟩ => ⟨S8192x2048, .f32⟩
  | .hbm, ⟨5, _⟩ => ⟨S_, .f32⟩
  | .hbm, ⟨6, _⟩ => ⟨S1x4096x8192, .f32⟩
  | .hbm, ⟨7, _⟩ => ⟨S1x4096x8192, .f32⟩
  | .hbm, ⟨8, _⟩ => ⟨S_, .f32⟩
  | .hbm, ⟨9, _⟩ => ⟨S1x4096x8192, .f32⟩
  | .hbm, ⟨10, _⟩ => ⟨S1x4096x8192, .i1⟩
  | .hbm, ⟨11, _⟩ => ⟨S_, .f32⟩
  | .hbm, ⟨12, _⟩ => ⟨S1x4096x8192, .f32⟩
  | .hbm, ⟨13, _⟩ => ⟨S1x4096x8192, .f32⟩
  | .hbm, ⟨14, _⟩ => ⟨S1x4096x2048, .f32⟩
  | .hbm, ⟨15, _⟩ => ⟨S4096x2048, .f32⟩
  | .hbm, ⟨16, _⟩ => ⟨S1x4096x2048, .f32⟩
  | .hbm, ⟨17, _⟩ => ⟨S1x4096x8192, .f32⟩
  | .hbm, ⟨18, _⟩ => ⟨S1x4096x8192, .f32⟩
  | .hbm, ⟨19, _⟩ => ⟨S1x4096x8192, .f32⟩
  | .hbm, ⟨20, _⟩ => ⟨S1x4096x8192, .f32⟩
  | .hbm, ⟨21, _⟩ => ⟨S_, .f32⟩
  | .hbm, ⟨22, _⟩ => ⟨S1x4096x8192, .f32⟩
  | .hbm, ⟨23, _⟩ => ⟨S1x4096x8192, .f32⟩
  | .hbm, ⟨24, _⟩ => ⟨S4096x8192, .f32⟩
  | .hbm, ⟨25, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== GradDown.lean ====
abbrev S4096x2048 : Shape := ⟨2, ![4096, 2048]⟩
abbrev S4096x8192 : Shape := ⟨2, ![4096, 8192]⟩
abbrev S_ : Shape := ⟨0, ![]⟩
abbrev S8192x2048 : Shape := ⟨2, ![8192, 2048]⟩
abbrev S2048x2048 : Shape := ⟨2, ![2048, 2048]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .f32⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v39 : BitVec 1 := Scalar.cmpi .eq arg2 c1_i32
  let v40 : BitVec 32 := Scalar.extui v39
  let c0_i32_32 : BitVec 32 := 0#32
  let v41 : BitVec 1 := Scalar.cmpi .ne v40 c0_i32_32
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S4096x2048 : Shape := ⟨2, ![4096, 2048]⟩
abbrev S4096x8192 : Shape := ⟨2, ![4096, 8192]⟩
abbrev S_ : Shape := ⟨0, ![]⟩
abbrev S8192x2048 : Shape := ⟨2, ![8192, 2048]⟩
abbrev S1x4096x8192 : Shape := ⟨3, ![1, 4096, 8192]⟩
abbrev S1x4096x2048 : Shape := ⟨3, ![1, 4096, 2048]⟩
abbrev S2048x8192 : Shape := ⟨2, ![2048, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .f32⟩
  | .hbm, ⟨2, _⟩ => ⟨S_, .f32⟩
  | .hbm, ⟨3, _⟩ => ⟨S8192x2048, .f32⟩
  | .hbm, ⟨4, _⟩ => ⟨S1x4096x8192, .f32⟩
  | .hbm, ⟨5, _⟩ => ⟨S_, .f32⟩
  | .hbm, ⟨6, _⟩ => ⟨S1x4096x8192, .f32⟩
  | .hbm, ⟨7, _⟩ => ⟨S1x4096x8192, .f32⟩
  | .hbm, ⟨8, _⟩ => ⟨S1x4096x8192, .f32⟩
  | .hbm, ⟨9, _⟩ => ⟨S1x4096x2048, .f32⟩
  | .hbm, ⟨10, _⟩ => ⟨S4096x2048, .f32⟩
  | .hbm, ⟨11, _⟩ => ⟨S1x4096x2048, .f32⟩
  | .hbm, ⟨12, _⟩ => ⟨S2048x8192, .f32⟩
  | .hbm, ⟨13, _⟩ => ⟨S8192x2048, .f32⟩
  | .hbm, ⟨14, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== GradUp.lean ====
abbrev S4096x2048 : Shape := ⟨2, ![4096, 2048]⟩
abbrev S4096x8192 : Shape := ⟨2, ![4096, 8192]⟩
abbrev S4x2048x2048 : Shape := ⟨3, ![4, 2048, 2048]⟩
abbrev S2048x2048 : Shape := ⟨2, ![2048, 2048]⟩
abbrev S2048x1024 : Shape := ⟨2, ![2048, 1024]⟩
abbrev S1x2048x1024 : Shape := ⟨3, ![1, 2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v35 : BitVec 1 := Scalar.cmpi .eq arg2 c1_i32
  let v36 : BitVec 32 := Scalar.extui v35
  let c0_i32_32 : BitVec 32 := 0#32
  let v37 : BitVec 1 := Scalar.cmpi .ne v36 c0_i32_32
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S1x4096x2048 : Shape := ⟨3, ![1, 4096, 2048]⟩
abbrev S1x4096x8192 : Shape := ⟨3, ![1, 4096, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S1x4096x2048, .f32⟩
  | .hbm, ⟨6, _⟩ => ⟨S1x4096x8192, .f32⟩
  | .hbm, ⟨7, _⟩ => ⟨S4096x8192, .f32⟩
  | .hbm, ⟨8, _⟩ => ⟨S1x4096x8192, .f32⟩
  | .hbm, ⟨9, _⟩ => ⟨S8192x2048, .f32⟩
  | .hbm, ⟨10, _⟩ => ⟨S2048x8192, .f32⟩
  | .hbm, ⟨11, _⟩ => ⟨S2048x8192, .bf16⟩
  | .hbm, ⟨12, _⟩ => ⟨S2048x4x2048, .bf16⟩
  | .hbm, ⟨13, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GradIn.lean ====
abbrev S4096x2048 : Shape := ⟨2, ![4096, 2048]⟩
abbrev S4096x4096 : Shape := ⟨2, ![4096, 4096]⟩
abbrev S4x2048x1024 : Shape := ⟨3, ![4, 2048, 1024]⟩
abbrev S2048x2048 : Shape := ⟨2, ![2048, 2048]⟩
abbrev S2048x1024 : Shape := ⟨2, ![2048, 1024]⟩
abbrev S1x2048x1024 : Shape := ⟨3, ![1, 2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v35 : BitVec 1 := Scalar.cmpi .eq arg2 c1_i32
  let v36 : BitVec 32 := Scalar.extui v35
  let c0_i32_32 : BitVec 32 := 0#32
  let v37 : BitVec 1 := Scalar.cmpi .ne v36 c0_i32_32
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S1x4096x2048 : Shape := ⟨3, ![1, 4096, 2048]⟩
abbrev S1x4096x4096 : Shape := ⟨3, ![1, 4096, 4096]⟩
abbrev S2048x4x1024 : Shape := ⟨3, ![2048, 4, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S1x4096x2048, .f32⟩
  | .hbm, ⟨6, _⟩ => ⟨S1x4096x4096, .f32⟩
  | .hbm, ⟨7, _⟩ => ⟨S4096x4096, .f32⟩
  | .hbm, ⟨8, _⟩ => ⟨S1x4096x4096, .f32⟩
  | .hbm, ⟨9, _⟩ => ⟨S4096x2048, .f32⟩
  | .hbm, ⟨10, _⟩ => ⟨S2048x4096, .f32⟩
  | .hbm, ⟨11, _⟩ => ⟨S2048x4096, .bf16⟩
  | .hbm, ⟨12, _⟩ => ⟨S2048x4x1024, .bf16⟩
  | .hbm, ⟨13, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GradOut.lean ====
abbrev S4096x2048 : Shape := ⟨2, ![4096, 2048]⟩
abbrev S2048x2048 : Shape := ⟨2, ![2048, 2048]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v35 : BitVec 1 := Scalar.cmpi .eq arg2 c1_i32
  let v36 : BitVec 32 := Scalar.extui v35
  let c0_i32_32 : BitVec 32 := 0#32
  let v37 : BitVec 1 := Scalar.cmpi .ne v36 c0_i32_32
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutRefIdeal.lean ====
abbrev S4096x2048 : Shape := ⟨2, ![4096, 2048]⟩
abbrev S_ : Shape := ⟨0, ![]⟩
abbrev S2048x2048 : Shape := ⟨2, ![2048, 2048]⟩
abbrev S1x4096x2048 : Shape := ⟨3, ![1, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S1x4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradMixed.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  let v2 : BitVec 32 := v1
  let v7 : Index := Scalar.indexCast v2
  let c0_3 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradMixedRefIdeal.lean ====
abbrev S4096x2048 : Shape := ⟨2, ![4096, 2048]⟩
abbrev S2048x2048 : Shape := ⟨2, ![2048, 2048]⟩
abbrev S_ : Shape := ⟨0, ![]⟩
abbrev S1x4096x2048 : Shape := ⟨3, ![1, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S1x4096x2048, .f32⟩
  | .hbm, ⟨4, _⟩ => ⟨S2048x2048, .f32⟩
  | .hbm, ⟨5, _⟩ => ⟨S1x4096x2048, .f32⟩
  | .hbm, ⟨6, _⟩ => ⟨S4096x2048, .f32⟩
  | .hbm, ⟨7, _⟩ => ⟨S1x4096x2048, .f32⟩
  | .hbm, ⟨8, _⟩ => ⟨S1x4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpProj.lean ====
abbrev S4096x2048 : Shape := ⟨2, ![4096, 2048]⟩
abbrev S4x2048x2048 : Shape := ⟨3, ![4, 2048, 2048]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v11 : Index := Scalar.indexCast v2
  let c0_5 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpProjRefIdeal.lean ====
abbrev S4096x2048 : Shape := ⟨2, ![4096, 2048]⟩
abbrev S4x2048x2048 : Shape := ⟨3, ![4, 2048, 2048]⟩
abbrev S1x4096x2048 : Shape := ⟨3, ![1, 4096, 2048]⟩
abbrev S2048x4x2048 : Shape := ⟨3, ![2048, 4, 2048]⟩
abbrev S2048x8192 : Shape := ⟨2, ![2048, 8192]⟩
abbrev S1x4096x8192 : Shape := ⟨3, ![1, 4096, 8192]⟩
abbrev S_ : Shape := ⟨0, ![]⟩
abbrev S4096x8192 : Shape := ⟨2, ![4096, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S1x4096x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S1x4096x8192, .f32⟩
  | .hbm, ⟨8, _⟩ => ⟨S_, .f32⟩
  | .hbm, ⟨9, _⟩ => ⟨S1x4096x8192, .f32⟩
  | .hbm, ⟨10, _⟩ => ⟨S1x4096x8192, .f32⟩
  | .hbm, ⟨11, _⟩ => ⟨S4096x8192, .f32⟩
  | .hbm, ⟨12, _⟩ => ⟨S4096x8192, .bf16⟩
  | .hbm, ⟨13, _⟩ => ⟨S4096x8192, .f32⟩
  | .hbm, ⟨14, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InProj.lean ====
abbrev S4096x2048 : Shape := ⟨2, ![4096, 2048]⟩
abbrev S4x2048x1024 : Shape := ⟨3, ![4, 2048, 1024]⟩
abbrev S4096x4096 : Shape := ⟨2, ![4096, 4096]⟩
abbrev S2048x2048 : Shape := ⟨2, ![2048, 2048]⟩
abbrev S1x2048x1024 : Shape := ⟨3, ![1, 2048, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  let v2 : BitVec 32 := v1
  let v9 : Index := Scalar.indexCast v2
  let c0_4 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x2048 : Shape := ⟨2, ![4096, 2048]⟩
abbrev S4x2048x1024 : Shape := ⟨3, ![4, 2048, 1024]⟩
abbrev S1x4096x2048 : Shape := ⟨3, ![1, 4096, 2048]⟩
abbrev S2048x4x1024 : Shape := ⟨3, ![2048, 4, 1024]⟩
abbrev S2048x4096 : Shape := ⟨2, ![2048, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S1x4096x2048, .f32⟩
  | .hbm, ⟨4, _⟩ => ⟨S4x2048x1024, .f32⟩
  | .hbm, ⟨5, _⟩ => ⟨S2048x4x1024, .f32⟩
  | .hbm, ⟨6, _⟩ => ⟨S2048x4096, .f32⟩
  | .hbm, ⟨7, _⟩ => ⟨S1x4096x4096, .f32⟩
  | .hbm, ⟨8, _⟩ => ⟨S4096x4096, .f32⟩
  | .hbm, ⟨9, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DownProj.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_mult1 : BitVec 32 :=
  let c0_i32_1 : BitVec 32 := 0#32
  let c512_i32 : BitVec 32 := 512#32
  let v3 : BitVec 32 := Scalar.muli c0_i32_1 c512_i32
  v3
def k0_off1 (c0_i32_1 : BitVec 32) : Fin 2 → Nat :=
  let c512_i32 : BitVec 32 := 512#32
  let v3 : BitVec 32 := Scalar.muli c0_i32_1 c512_i32
  let v4 : BitVec 32 := v3
  let v5 : Index := Scalar.indexCast v4
  let c0 : Index := 0#32
  ![v5.toNat, 0]
def k0_off2 (c0_i32_1 : BitVec 32) : Fin 2 → Nat :=
  let c512_i32 : BitVec 32 := 512#32
  let v3 : BitVec 32 := Scalar.muli c0_i32_1 c512_i32
  let v4 : BitVec 32 := v3
  let v8 : Index := Scalar.indexCast v4
  let c0_2 : Index := 0#32
  ![v8.toNat, 0]
def k0_mult2 : BitVec 32 :=
  let c1_i32 : BitVec 32 := 1#32
  let c512_i32_6 : BitVec 32 := 512#32
  let v15 : BitVec 32 := Scalar.muli c1_i32 c512_i32_6
  v15
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjRefIdeal.lean ====
abbrev S4096x8192 : Shape := ⟨2, ![4096, 8192]⟩
abbrev S8192x2048 : Shape := ⟨2, ![8192, 2048]⟩
abbrev S4096x2048 : Shape := ⟨2, ![4096, 2048]⟩
abbrev S1x4096x2048 : Shape := ⟨3, ![1, 4096, 2048]⟩
abbrev S1x4096x8192 : Shape := ⟨3, ![1, 4096, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x4096x2048, .f32⟩
  | .hbm, ⟨4, _⟩ => ⟨S4096x8192, .f32⟩
  | .hbm, ⟨5, _⟩ => ⟨S1x4096x8192, .f32⟩
  | .hbm, ⟨6, _⟩ => ⟨S8192x2048, .f32⟩
  | .hbm, ⟨7, _⟩ => ⟨S1x4096x2048, .f32⟩
  | .hbm, ⟨8, _⟩ => ⟨S1x4096x2048, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_mult1 : BitVec 32 :=
  let c0_i32_1 : BitVec 32 := 0#32
  let c512_i32 : BitVec 32 := 512#32
  let v3 : BitVec 32 := Scalar.muli c0_i32_1 c512_i32
  v3
def k0_off1 (c0_i32_1 : BitVec 32) : Fin 2 → Nat :=
  let c512_i32 : BitVec 32 := 512#32
  let v3 : BitVec 32 := Scalar.muli c0_i32_1 c512_i32
  let v4 : BitVec 32 := v3
  let v5 : Index := Scalar.indexCast v4
  let c0 : Index := 0#32
  ![v5.toNat, 0]
def k0_off2 (c0_i32_1 : BitVec 32) : Fin 2 → Nat :=
  let c512_i32 : BitVec 32 := 512#32
  let v3 : BitVec 32 := Scalar.muli c0_i32_1 c512_i32
  let v4 : BitVec 32 := v3
  let v8 : Index := Scalar.indexCast v4
  let c0_2 : Index := 0#32
  ![v8.toNat, 0]
def k0_mult2 : BitVec 32 :=
  let c1_i32 : BitVec 32 := 1#32
  let c512_i32_6 : BitVec 32 := 512#32
  let v15 : BitVec 32 := Scalar.muli c1_i32 c512_i32_6
  v15
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩
abbrev S1x4096x2048 : Shape := ⟨3, ![1, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S2048x2048, .f32⟩
  | .hbm, ⟨7, _⟩ => ⟨S1x4096x2048, .f32⟩
  | .hbm, ⟨8, _⟩ => ⟨S1x4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S2048 : Shape := ⟨1, ![2048]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x2048, .f32⟩
  | .hbm, ⟨15, _⟩ => ⟨S1x4096x2048, .f32⟩
  | .hbm, ⟨16, _⟩ => ⟨S1x1x2048, .f32⟩
  | .hbm, ⟨17, _⟩ => ⟨S1x4096x2048, .f32⟩
  | .hbm, ⟨18, _⟩ => ⟨S1x4096x2048, .f32⟩
  | .hbm, ⟨19, _⟩ => ⟨S4096x2048, .f32⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== GradMid.lean ====
abbrev S4096x8192 : Shape := ⟨2, ![4096, 8192]⟩
abbrev S4x2048x2048 : Shape := ⟨3, ![4, 2048, 2048]⟩
abbrev S4096x2048 : Shape := ⟨2, ![4096, 2048]⟩
abbrev S2048 : Shape := ⟨1, ![2048]⟩
abbrev S1x2048 : Shape := ⟨2, ![1, 2048]⟩
abbrev S1024x1024 : Shape := ⟨2, ![1024, 1024]⟩
abbrev S1x2048x1024 : Shape := ⟨3, ![1, 2048, 1024]⟩
abbrev S1024x2048 : Shape := ⟨2, ![1024, 2048]⟩
abbrev S2 : Shape := ⟨1, ![2]⟩
abbrev S1 : Shape := ⟨1, ![1]⟩
abbrev S_ : Shape := ⟨0, ![]⟩
abbrev S128x2048 : Shape := ⟨2, ![128, 2048]⟩
abbrev S512x2048 : Shape := ⟨2, ![512, 2048]⟩
abbrev S512x1024 : Shape := ⟨2, ![512, 1024]⟩
abbrev S2048x1024 : Shape := ⟨2, ![2048, 1024]⟩
abbrev S128 : Shape := ⟨1, ![128]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg0 : BitVec 32 := BitVec.ofNat 32 (i 0).val
  let c1024_i32 : BitVec 32 := 1024#32
  let v5 : BitVec 32 := Scalar.muli arg0 c1024_i32
  v5
def k0_mult2 (i : grid0.Coords) : BitVec 32 :=
  let arg1 : BitVec 32 := BitVec.ofNat 32 (i 1).val
  let c128_i32 : BitVec 32 := 128#32
  let v7 : BitVec 32 := Scalar.muli arg1 c128_i32
  v7
def k0_mult3 (i : grid0.Coords) : BitVec 32 :=
  let arg0 : BitVec 32 := BitVec.ofNat 32 (i 0).val
  let c1024_i32_2 : BitVec 32 := 1024#32
  let v9 : BitVec 32 := Scalar.muli arg0 c1024_i32_2
  let arg1 : BitVec 32 := BitVec.ofNat 32 (i 1).val
  let c128_i32_3 : BitVec 32 := 128#32
  let v10 : BitVec 32 := Scalar.muli arg1 c128_i32_3
  let v11 : BitVec 32 := Scalar.addi v9 v10
  v11
def k0_off1 (i : grid0.Coords) : Fin 2 → Nat :=
  let arg1 : BitVec 32 := BitVec.ofNat 32 (i 1).val
  let c128_i32 : BitVec 32 := 128#32
  let v7 : BitVec 32 := Scalar.muli arg1 c128_i32
  let v8 : BitVec 32 := v7
  let c0_i32_5 : BitVec 32 := 0#32
  ![v8.toNat, 0]
def k0_off2 (i : grid0.Coords) : Fin 2 → Nat :=
  let arg0 : BitVec 32 := BitVec.ofNat 32 (i 0).val
  let c1024_i32_2 : BitVec 32 := 1024#32
  let v9 : BitVec 32 := Scalar.muli arg0 c1024_i32_2
  let arg1 : BitVec 32 := BitVec.ofNat 32 (i 1).val
  let c128_i32_3 : BitVec 32 := 128#32
  let v10 : BitVec 32 := Scalar.muli arg1 c128_i32_3
  let v11 : BitVec 32 := Scalar.addi v9 v10
  let v12 : BitVec 32 := v11
  let c0_i32_6 : BitVec 32 := 0#32
  ![v12.toNat, 0]
def k0_mult4 : BitVec 32 :=
  let c0_i32_11 : BitVec 32 := 0#32
  let c512_i32 : BitVec 32 := 512#32
  let v24 : BitVec 32 := Scalar.muli c0_i32_11 c512_i32
  v24
def k0_off3 (c0_i32_11 : BitVec 32) : Fin 2 → Nat :=
  let c512_i32 : BitVec 32 := 512#32
  let v24 : BitVec 32 := Scalar.muli c0_i32_11 c512_i32
  let v25 : BitVec 32 := v24
  let v26 : Index := Scalar.indexCast v25
  let c0 : Index := 0#32
  ![v26.toNat, 0]
def k0_off4 (c0_i32_11 : BitVec 32) : Fin 2 → Nat :=
  let c512_i32 : BitVec 32 := 512#32
  let v24 : BitVec 32 := Scalar.muli c0_i32_11 c512_i32
  let v25 : BitVec 32 := v24
  let v28 : Index := Scalar.indexCast v25
  let c0_12 : Index := 0#32
  ![v28.toNat, 0]
def k0_mult5 : BitVec 32 :=
  let c1_i32_17 : BitVec 32 := 1#32
  let c512_i32_18 : BitVec 32 := 512#32
  let v38 : BitVec 32 := Scalar.muli c1_i32_17 c512_i32_18
  v38
def k0_cond3 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_26 : BitVec 32 := 0#32
  let v54 : BitVec 1 := Scalar.cmpi .ne v53 c0_i32_26
  v54

def k0_off5 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let c0_i32_28 : BitVec 32 := 0#32
  ![v6.toNat, 0]
def k0_cond4 (i : grid0.Coords) : BitVec 1 :=
  let arg0 : BitVec 32 := BitVec.ofNat 32 (i 0).val
  let c0_i32_31 : BitVec 32 := 0#32
  let v61 : BitVec 1 := Scalar.cmpi .sgt arg0 c0_i32_31
  let v62 : BitVec 32 := Scalar.extui v61
  let c0_i32_32 : BitVec 32 := 0#32
  let v63 : BitVec 1 := Scalar.cmpi .ne v62 c0_i32_32
  v63

def k0_off6 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let c0_i32_42 : BitVec 32 := 0#32
  ![v6.toNat, 0]
@[reducible] def k0_t1_loop : Scf.Loop 32 :=
  let c0_i32_33 : BitVec 32 := 0#32
  let c8_i32 : BitVec 32 := 8#32
  let v64 : BitVec 32 := Scalar.addi c0_i32_33 c8_i32
  let c1_i32_34 : BitVec 32 := 1#32
  ⟨c0_i32_33, v64, c1_i32_34⟩
def k0_mult6 (k0_t1 : Fin k0_t1_loop.trips) : BitVec 32 :=
  let c0_i32_33 : BitVec 32 := 0#32
  let c1_i32_34 : BitVec 32 := 1#32
  let arg17 : BitVec 32 := Scf.iv c0_i32_33 c1_i32_34 k0_t1
  let c128_i32_41 : BitVec 32 := 128#32
  let v74 : BitVec 32 := Scalar.muli arg17 c128_i32_41
  v74
def k0_off7 (k0_t1 : Fin k0_t1_loop.trips) : Fin 2 → Nat :=
  let c0_i32_33 : BitVec 32 := 0#32
  let c1_i32_34 : BitVec 32 := 1#32
  let arg17 : BitVec 32 := Scf.iv c0_i32_33 c1_i32_34 k0_t1
  let c128_i32_41 : BitVec 32 := 128#32
  let v74 : BitVec 32 := Scalar.muli arg17 c128_i32_41
  let v75 : BitVec 32 := v74
  let v76 : Index := Scalar.indexCast v75
  let c0_42 : Index := 0#32
  ![v76.toNat, 0]
def k0_cond5 (i : grid0.Coords) : BitVec 1 :=
  let arg0 : BitVec 32 := BitVec.ofNat 32 (i 0).val
  let c3_i32 : BitVec 32 := 3#32
  let v71 : BitVec 1 := Scalar.cmpi .eq arg0 c3_i32
  let v72 : BitVec 32 := Scalar.extui v71
  let c0_i32_40 : BitVec 32 := 0#32
  let v73 : BitVec 1 := Scalar.cmpi .ne v72 c0_i32_40
  v73

def k0_off8 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let c0_i32_42 : BitVec 32 := 0#32
  ![v6.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradMidRefIdeal.lean ====
abbrev S4096x8192 : Shape := ⟨2, ![4096, 8192]⟩
abbrev S4x2048x2048 : Shape := ⟨3, ![4, 2048, 2048]⟩
abbrev S4096x2048 : Shape := ⟨2, ![4096, 2048]⟩
abbrev S2048 : Shape := ⟨1, ![2048]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x4x2048 : Shape := ⟨3, ![2048, 4, 2048]⟩
abbrev S2048x8192 : Shape := ⟨2, ![2048, 8192]⟩
abbrev S1x4096x8192 : Shape := ⟨3, ![1, 4096, 8192]⟩
abbrev S1x2048 : Shape := ⟨2, ![1, 2048]⟩
abbrev S4096 : Shape := ⟨1, ![4096]⟩

abbrev nBuf : Space → Nat
  | .hbm => 65
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S1x4096x2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S4x2048x2048, .f32⟩
  | .hbm, ⟨27, _⟩ => ⟨S2048x4x2048, .f32⟩
  | .hbm, ⟨28, _⟩ => ⟨S2048x8192, .f32⟩
  | .hbm, ⟨29, _⟩ => ⟨S1x4096x8192, .f32⟩
  | .hbm, ⟨30, _⟩ => ⟨S1x4096x2048, .f32⟩
  | .hbm, ⟨31, _⟩ => ⟨S4096x8192, .f32⟩
  | .hbm, ⟨32, _⟩ => ⟨S1x4096x8192, .f32⟩
  | .hbm, ⟨33, _⟩ => ⟨S1x4096x2048, .f32⟩
  | .hbm, ⟨34, _⟩ => ⟨S1x4096x2048, .f32⟩
  | .hbm, ⟨35, _⟩ => ⟨S_, .f32⟩
  | .hbm, ⟨36, _⟩ => ⟨S1x2048, .f32⟩
  | .hbm, ⟨37, _⟩ => ⟨S1x1x2048, .f32⟩
  | .hbm, ⟨38, _⟩ => ⟨S1x4096x2048, .f32⟩
  | .hbm, ⟨39, _⟩ => ⟨S1x4096x2048, .f32⟩
  | .hbm, ⟨40, _⟩ => ⟨S_, .f32⟩
  | .hbm, ⟨41, _⟩ => ⟨S2048, .f32⟩
  | .hbm, ⟨42, _⟩ => ⟨S1x4096x2048, .f32⟩
  | .hbm, ⟨43, _⟩ => ⟨S_, .f32⟩
  | .hbm, ⟨44, _⟩ => ⟨S1x4096, .f32⟩
  | .hbm, ⟨45, _⟩ => ⟨S1x4096x1, .f32⟩
  | .hbm, ⟨46, _⟩ => ⟨S1x4096x2048, .f32⟩
  | .hbm, ⟨47, _⟩ => ⟨S1x4096x2048, .f32⟩
  | .hbm, ⟨48, _⟩ => ⟨S1x4096x2048, .f32⟩
  | .hbm, ⟨49, _⟩ => ⟨S1x4096x1, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x4096x2048, .f32⟩
  | .hbm, ⟨60, _⟩ => ⟨S1x4096x2048, .f32⟩
  | .hbm, ⟨61, _⟩ => ⟨S4096x2048, .f32⟩
  | .hbm, ⟨62, _⟩ => ⟨S4096x2048, .f32⟩
  | .hbm, ⟨63, _⟩ => ⟨S4096x2048, .bf16⟩
  | .hbm, ⟨64, _⟩ => ⟨S1x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== GradX.lean ====
abbrev S4096x4096 : Shape := ⟨2, ![4096, 4096]⟩
abbrev S4x2048x1024 : Shape := ⟨3, ![4, 2048, 1024]⟩
abbrev S4096x2048 : Shape := ⟨2, ![4096, 2048]⟩
abbrev S2048 : Shape := ⟨1, ![2048]⟩
abbrev S1x2048 : Shape := ⟨2, ![1, 2048]⟩
abbrev S1024x1024 : Shape := ⟨2, ![1024, 1024]⟩
abbrev S1x2048x1024 : Shape := ⟨3, ![1, 2048, 1024]⟩
abbrev S1024x2048 : Shape := ⟨2, ![1024, 2048]⟩
abbrev S2 : Shape := ⟨1, ![2]⟩
abbrev S1 : Shape := ⟨1, ![1]⟩
abbrev S_ : Shape := ⟨0, ![]⟩
abbrev S256x2048 : Shape := ⟨2, ![256, 2048]⟩
abbrev S512x2048 : Shape := ⟨2, ![512, 2048]⟩
abbrev S512x1024 : Shape := ⟨2, ![512, 1024]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c1024_i32 : BitVec 32 := 1024#32
  let v5 : BitVec 32 := Scalar.muli arg0 c1024_i32
  v5
def k0_mult2 (i : grid0.Coords) : BitVec 32 :=
  let arg1 : BitVec 32 := BitVec.ofNat 32 (i 1).val
  let c256_i32 : BitVec 32 := 256#32
  let v7 : BitVec 32 := Scalar.muli arg1 c256_i32
  v7
def k0_mult3 (i : grid0.Coords) : BitVec 32 :=
  let arg0 : BitVec 32 := BitVec.ofNat 32 (i 0).val
  let c1024_i32_2 : BitVec 32 := 1024#32
  let v9 : BitVec 32 := Scalar.muli arg0 c1024_i32_2
  let arg1 : BitVec 32 := BitVec.ofNat 32 (i 1).val
  let c256_i32_3 : BitVec 32 := 256#32
  let v10 : BitVec 32 := Scalar.muli arg1 c256_i32_3
  let v11 : BitVec 32 := Scalar.addi v9 v10
  v11
def k0_off1 (i : grid0.Coords) : Fin 2 → Nat :=
  let arg1 : BitVec 32 := BitVec.ofNat 32 (i 1).val
  let c256_i32 : BitVec 32 := 256#32
  let v7 : BitVec 32 := Scalar.muli arg1 c256_i32
  let v8 : BitVec 32 := v7
  let c0_i32_5 : BitVec 32 := 0#32
  ![v8.toNat, 0]
def k0_off2 (i : grid0.Coords) : Fin 2 → Nat :=
  let arg0 : BitVec 32 := BitVec.ofNat 32 (i 0).val
  let c1024_i32_2 : BitVec 32 := 1024#32
  let v9 : BitVec 32 := Scalar.muli arg0 c1024_i32_2
  let arg1 : BitVec 32 := BitVec.ofNat 32 (i 1).val
  let c256_i32_3 : BitVec 32 := 256#32
  let v10 : BitVec 32 := Scalar.muli arg1 c256_i32_3
  let v11 : BitVec 32 := Scalar.addi v9 v10
  let v12 : BitVec 32 := v11
  let c0_i32_6 : BitVec 32 := 0#32
  ![v12.toNat, 0]
def k0_mult4 : BitVec 32 :=
  let c0_i32_11 : BitVec 32 := 0#32
  let c512_i32 : BitVec 32 := 512#32
  let v24 : BitVec 32 := Scalar.muli c0_i32_11 c512_i32
  v24
def k0_off3 (c0_i32_11 : BitVec 32) : Fin 2 → Nat :=
  let c512_i32 : BitVec 32 := 512#32
  let v24 : BitVec 32 := Scalar.muli c0_i32_11 c512_i32
  let v25 : BitVec 32 := v24
  let v26 : Index := Scalar.indexCast v25
  let c0 : Index := 0#32
  ![v26.toNat, 0]
def k0_off4 (c0_i32_11 : BitVec 32) : Fin 2 → Nat :=
  let c512_i32 : BitVec 32 := 512#32
  let v24 : BitVec 32 := Scalar.muli c0_i32_11 c512_i32
  let v25 : BitVec 32 := v24
  let v28 : Index := Scalar.indexCast v25
  let c0_12 : Index := 0#32
  ![v28.toNat, 0]
def k0_mult5 : BitVec 32 :=
  let c1_i32_17 : BitVec 32 := 1#32
  let c512_i32_18 : BitVec 32 := 512#32
  let v38 : BitVec 32 := Scalar.muli c1_i32_17 c512_i32_18
  v38
def k0_cond3 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_26 : BitVec 32 := 0#32
  let v54 : BitVec 1 := Scalar.cmpi .ne v53 c0_i32_26
  v54

def k0_off5 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let c0_i32_28 : BitVec 32 := 0#32
  ![v6.toNat, 0]
def k0_cond4 (i : grid0.Coords) : BitVec 1 :=
  let arg0 : BitVec 32 := BitVec.ofNat 32 (i 0).val
  let c0_i32_31 : BitVec 32 := 0#32
  let v61 : BitVec 1 := Scalar.cmpi .sgt arg0 c0_i32_31
  let v62 : BitVec 32 := Scalar.extui v61
  let c0_i32_32 : BitVec 32 := 0#32
  let v63 : BitVec 1 := Scalar.cmpi .ne v62 c0_i32_32
  v63

def k0_off6 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let c0_i32_43 : BitVec 32 := 0#32
  ![v6.toNat, 0]
@[reducible] def k0_t1_loop : Scf.Loop 32 :=
  let c0_i32_33 : BitVec 32 := 0#32
  let c8_i32 : BitVec 32 := 8#32
  let v64 : BitVec 32 := Scalar.addi c0_i32_33 c8_i32
  let c1_i32_34 : BitVec 32 := 1#32
  ⟨c0_i32_33, v64, c1_i32_34⟩
def k0_mult6 (k0_t1 : Fin k0_t1_loop.trips) : BitVec 32 :=
  let c0_i32_33 : BitVec 32 := 0#32
  let c1_i32_34 : BitVec 32 := 1#32
  let arg17 : BitVec 32 := Scf.iv c0_i32_33 c1_i32_34 k0_t1
  let c128_i32 : BitVec 32 := 128#32
  let v74 : BitVec 32 := Scalar.muli arg17 c128_i32
  v74
def k0_off7 (k0_t1 : Fin k0_t1_loop.trips) : Fin 2 → Nat :=
  let c0_i32_33 : BitVec 32 := 0#32
  let c1_i32_34 : BitVec 32 := 1#32
  let arg17 : BitVec 32 := Scf.iv c0_i32_33 c1_i32_34 k0_t1
  let c128_i32 : BitVec 32 := 128#32
  let v74 : BitVec 32 := Scalar.muli arg17 c128_i32
  let v75 : BitVec 32 := v74
  let v76 : Index := Scalar.indexCast v75
  let c0_42 : Index := 0#32
  ![v76.toNat, 0]
def k0_cond5 (i : grid0.Coords) : BitVec 1 :=
  let arg0 : BitVec 32 := BitVec.ofNat 32 (i 0).val
  let c3_i32_40 : BitVec 32 := 3#32
  let v71 : BitVec 1 := Scalar.cmpi .eq arg0 c3_i32_40
  let v72 : BitVec 32 := Scalar.extui v71
  let c0_i32_41 : BitVec 32 := 0#32
  let v73 : BitVec 1 := Scalar.cmpi .ne v72 c0_i32_41
  v73

def k0_off8 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let c0_i32_43 : BitVec 32 := 0#32
  ![v6.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradXRefIdeal.lean ====
abbrev S4096x4096 : Shape := ⟨2, ![4096, 4096]⟩
abbrev S4x2048x1024 : Shape := ⟨3, ![4, 2048, 1024]⟩
abbrev S4096x2048 : Shape := ⟨2, ![4096, 2048]⟩
abbrev S2048 : Shape := ⟨1, ![2048]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x4x1024 : Shape := ⟨3, ![2048, 4, 1024]⟩
abbrev S2048x4096 : Shape := ⟨2, ![2048, 4096]⟩
abbrev S1x4096x4096 : Shape := ⟨3, ![1, 4096, 4096]⟩
abbrev S1x2048 : Shape := ⟨2, ![1, 2048]⟩
abbrev S4096 : Shape := ⟨1, ![4096]⟩

abbrev nBuf : Space → Nat
  | .hbm => 65
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S1x4096x2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S4x2048x1024, .f32⟩
  | .hbm, ⟨27, _⟩ => ⟨S2048x4x1024, .f32⟩
  | .hbm, ⟨28, _⟩ => ⟨S2048x4096, .f32⟩
  | .hbm, ⟨29, _⟩ => ⟨S1x4096x4096, .f32⟩
  | .hbm, ⟨30, _⟩ => ⟨S1x4096x2048, .f32⟩
  | .hbm, ⟨31, _⟩ => ⟨S4096x4096, .f32⟩
  | .hbm, ⟨32, _⟩ => ⟨S1x4096x4096, .f32⟩
  | .hbm, ⟨33, _⟩ => ⟨S1x4096x2048, .f32⟩
  | .hbm, ⟨34, _⟩ => ⟨S1x4096x2048, .f32⟩
  | .hbm, ⟨35, _⟩ => ⟨S_, .f32⟩
  | .hbm, ⟨36, _⟩ => ⟨S1x2048, .f32⟩
  | .hbm, ⟨37, _⟩ => ⟨S1x1x2048, .f32⟩
  | .hbm, ⟨38, _⟩ => ⟨S1x4096x2048, .f32⟩
  | .hbm, ⟨39, _⟩ => ⟨S1x4096x2048, .f32⟩
  | .hbm, ⟨40, _⟩ => ⟨S_, .f32⟩
  | .hbm, ⟨41, _⟩ => ⟨S2048, .f32⟩
  | .hbm, ⟨42, _⟩ => ⟨S1x4096x2048, .f32⟩
  | .hbm, ⟨43, _⟩ => ⟨S_, .f32⟩
  | .hbm, ⟨44, _⟩ => ⟨S1x4096, .f32⟩
  | .hbm, ⟨45, _⟩ => ⟨S1x4096x1, .f32⟩
  | .hbm, ⟨46, _⟩ => ⟨S1x4096x2048, .f32⟩
  | .hbm, ⟨47, _⟩ => ⟨S1x4096x2048, .f32⟩
  | .hbm, ⟨48, _⟩ => ⟨S1x4096x2048, .f32⟩
  | .hbm, ⟨49, _⟩ => ⟨S1x4096x1, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x4096x2048, .f32⟩
  | .hbm, ⟨60, _⟩ => ⟨S1x4096x2048, .f32⟩
  | .hbm, ⟨61, _⟩ => ⟨S4096x2048, .f32⟩
  | .hbm, ⟨62, _⟩ => ⟨S4096x2048, .f32⟩
  | .hbm, ⟨63, _⟩ => ⟨S4096x2048, .bf16⟩
  | .hbm, ⟨64, _⟩ => ⟨S1x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Mix.Spec.lean ====
/-
  The mathematics of the mixer's backward pass, over functions of natural row and lane numbers: the short
  convolution's gradients (`conv`, `dU`) and the window means' (`diff`, `dDiff`, `lead`). Rows past the last
  one, and lanes past the last one, hold zero (`at2`, `at3`). No program is mentioned here.
-/
import Idealize.ShloMosaic.Lib.Pointwise
import Idealize.ShloMosaic.Lib.Pipeline.ValueKit

noncomputable section

open Idealize.ShloMosaic
open scoped BigOperators

namespace Cert.Mix

/-! ## Arrays as functions of natural numbers -/

/-- A matrix at a row and a lane; zero outside it. -/
def at2 {a b : ℕ} (A : (⟨2, ![a, b]⟩ : Shape).Idx → EReal) (t d : ℕ) : EReal :=
  if h : t < a ∧ d < b then A (ix2 ⟨t, h.1⟩ ⟨d, h.2⟩) else 0

/-- A stack of matrices at a member, a row and a lane; zero outside it. -/
def at3 {a b c : ℕ} (A : (⟨3, ![a, b, c]⟩ : Shape).Idx → EReal) (g t d : ℕ) : EReal :=
  if h : g < a ∧ t < b ∧ d < c then A (ix3 ⟨g, h.1⟩ ⟨t, h.2.1⟩ ⟨d, h.2.2⟩) else 0

/-- A vector at a lane; zero outside it. -/
def at1 {a : ℕ} (A : (⟨1, ![a]⟩ : Shape).Idx → EReal) (d : ℕ) : EReal :=
  if h : d < a then A (ix1 ⟨d, h⟩) else 0

theorem at2_of {a b : ℕ} (A : (⟨2, ![a, b]⟩ : Shape).Idx → EReal) {t d : ℕ} (ht : t < a) (hd : d < b) :
    at2 A t d = A (ix2 ⟨t, ht⟩ ⟨d, hd⟩) := dif_pos ⟨ht, hd⟩

theorem at2_row {a b : ℕ} (A : (⟨2, ![a, b]⟩ : Shape).Idx → EReal) {t d : ℕ} (ht : a ≤ t) : at2 A t d = 0 :=
  dif_neg fun h => absurd h.1 (by omega)

theorem at3_of {a b c : ℕ} (A : (⟨3, ![a, b, c]⟩ : Shape).Idx → EReal) {g t d : ℕ} (hg : g < a) (ht : t < b) (hd : d < c) :
    at3 A g t d = A (ix3 ⟨g, hg⟩ ⟨t, ht⟩ ⟨d, hd⟩) := dif_pos ⟨hg, ht, hd⟩

theorem at1_of {a : ℕ} (A : (⟨1, ![a]⟩ : Shape).Idx → EReal) {d : ℕ} (hd : d < a) : at1 A d = A (ix1 ⟨d, hd⟩) :=
  dif_pos hd

/-! ## The short convolution -/

variable (DY PJ CW : ℕ → ℕ → EReal) (PW : ℕ → ℕ → ℕ → EReal) (PS : ℕ → EReal)

/-- The convolution's input: the product of the projection's second and third parts. -/
def u (t d : ℕ) : EReal := PJ t (1024 + d) * PJ t (2048 + d)

/-- The input `k` rows back, zero before the first row. -/
def lag (k t d : ℕ) : EReal := if k ≤ t then u PJ (t - k) d else 0

/-- The convolution over the row and the two before it. -/
def conv (t d : ℕ) : EReal := CW 2 d * lag PJ 0 t d + CW 1 d * lag PJ 1 t d + CW 0 d * lag PJ 2 t d

/-- The convolution's gradient: the output's gradient gated by the projection's first part. -/
def dConv (t d : ℕ) : EReal := DY t d * PJ t d

/-- The gradient of the convolution's input: the correlation with the row and the two after it. -/
def dU (t d : ℕ) : EReal := CW 2 d * dConv DY PJ t d + CW 1 d * dConv DY PJ (t + 1) d + CW 0 d * dConv DY PJ (t + 2) d

/-- The gradient of the filter's tap `2 - k`. -/
def dTap (k d : ℕ) : EReal := ∑ t : Fin 4096, dConv DY PJ t d * lag PJ k t d

/-! ## The window means -/

/-- How many rows the window ending at row `t` holds. -/
def cnt (w t : ℕ) : EReal := ((min (t + 1) w : ℕ) : ℝ)

/-- The sum over the window of `w` rows ending at row `t`. -/
def trail (w t p : ℕ) : EReal := ∑ j ∈ Finset.range w, if j ≤ t then PJ (t - j) (3072 + p) else 0

/-- The window's mean, less the row itself. -/
def diff (w t p : ℕ) : EReal := trail PJ w t p * Ideal.div 1 (cnt w t) - PJ t (3072 + p)

/-- The gradient before the scale. -/
def dz (t p : ℕ) : EReal := DY t (1024 + p) * PS p

/-- The gradient of the difference, a row of group `g` times the transposed group matrix. -/
def dDiff (g t c : ℕ) : EReal := ∑ d : Fin 256, dz DY PS t (256 * g + d) * PW g c d

/-- The gradient of the window's sum. -/
def dMean (w g t c : ℕ) : EReal := dDiff DY PW PS g t c * Ideal.div 1 (cnt w t)

/-- The sum over the windows of `w` rows that hold row `t`. -/
def lead (w g t c : ℕ) : EReal := ∑ j ∈ Finset.range w, dMean DY PW PS w g (t + j) c

/-- The gradient of the pooled part of the projection. -/
def dV (w g t c : ℕ) : EReal := lead DY PW PS w g t c - dDiff DY PW PS g t c

/-- The group's output before the scale. -/
def zed (w g t d : ℕ) : EReal := ∑ c : Fin 256, diff PJ w t (256 * g + c) * PW g c d

/-- The gradient of the group matrix. -/
def dPool (w g c d : ℕ) : EReal := ∑ t : Fin 4096, diff PJ w t (256 * g + c) * dz DY PS t (256 * g + d)

/-- The gradient of the scale. -/
def dScale (w g d : ℕ) : EReal := ∑ t : Fin 4096, DY t (1024 + (256 * g + d)) * zed PJ PW w g t d

/-- The four windows. -/
def win (g : ℕ) : ℕ := 2 ^ (g + 1)

/-! ## The four results -/

/-- The gradient of the projection, lane by lane. -/
def out15 (t p : ℕ) : EReal :=
  if p < 1024 then DY t p * conv PJ CW t p
  else if p < 2048 then dU DY PJ CW t (p - 1024) * PJ t (1024 + p)
  else if p < 3072 then dU DY PJ CW t (p - 2048) * PJ t (p - 1024)
  else dV DY PW PS (win ((p - 3072) / 256)) ((p - 3072) / 256) t ((p - 3072) % 256)

/-- The gradient of the filter, padded with zeros to eight taps. -/
def out16 (k d : ℕ) : EReal := if k < 3 then dTap DY PJ (2 - k) d else 0

/-! ## Zero past the last row -/

theorem dConv_past {DY PJ : ℕ → ℕ → EReal} {T t d : ℕ} (h : ∀ t d, T ≤ t → DY t d = 0) (ht : T ≤ t) : dConv DY PJ t d = 0 := by
  rw [dConv, h t d ht, zero_mul]

theorem dDiff_past {DY : ℕ → ℕ → EReal} {PW : ℕ → ℕ → ℕ → EReal} {PS : ℕ → EReal} {T g t c : ℕ} (h : ∀ t d, T ≤ t → DY t d = 0) (ht : T ≤ t) :
    dDiff DY PW PS g t c = 0 := by
  rw [dDiff]
  exact Finset.sum_eq_zero fun d _ => by rw [dz, h t _ ht, zero_mul, zero_mul]

end Cert.Mix

end
-- ==== Proof.Mix.Conv.lean ====
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import Idealize.ShloMosaic.Lib.Pipeline.ValueKit
import Idealize.ShloMosaic.Lib.Pipeline.Value
import Idealize.ShloMosaic.Lib.StableHlo.Run
import proofs.«01_k».proof.Proof.Mix.Spec

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen

open Cert.Mix

/-- The two bits the kernel decides at a grid point: is there a block before, and one after. -/
def past (i : ℕ) : BitVec 1 := if 0 < i then 1#1 else 0#1

/-- Whether a block follows. -/
def ahead (i : ℕ) : BitVec 1 := if i < 15 then 1#1 else 0#1

theorem select_past {i : ℕ} (a b : EReal) : Scalar.select (past i) a b = if 0 < i then a else b := by
  unfold past Scalar.select; split <;> simp

theorem select_ahead {i : ℕ} (a b : EReal) : Scalar.select (ahead i) a b = if i < 15 then a else b := by
  unfold ahead Scalar.select; split <;> simp

/-! ## The short convolution's payloads, at loaded vectors `c`, `xt`, … that hold lanes `o`, … of block `i` -/

section Conv

variable {PJ DY CW : ℕ → ℕ → EReal} {i o : ℕ}
  {c xt b : FVec Ideal S256x256 .bf16} {ch xth bn : FVec Ideal S16x256 .bf16} {dy : FVec Ideal S256x256 .f32} {dyn : FVec Ideal S16x256 .f32}
  {w2 w1 w0 : FVec Ideal S1x256 .f32}
  (hc : ∀ r d : Fin 256, c (ix2 r d) = PJ (256 * i + r) (1024 + (o + d)))
  (hxt : ∀ r d : Fin 256, xt (ix2 r d) = PJ (256 * i + r) (2048 + (o + d)))
  (hch : 0 < i → ∀ (r : Fin 16) (d : Fin 256), ch (ix2 r d) = PJ (256 * i - 16 + r) (1024 + (o + d)))
  (hxth : 0 < i → ∀ (r : Fin 16) (d : Fin 256), xth (ix2 r d) = PJ (256 * i - 16 + r) (2048 + (o + d)))
  (hdy : ∀ r d : Fin 256, dy (ix2 r d) = DY (256 * i + r) (o + d))
  (hb : ∀ r d : Fin 256, b (ix2 r d) = PJ (256 * i + r) (o + d))
  (hdyn : i < 15 → ∀ (r : Fin 16) (d : Fin 256), dyn (ix2 r d) = DY (256 * (i + 1) + r) (o + d))
  (hbn : i < 15 → ∀ (r : Fin 16) (d : Fin 256), bn (ix2 r d) = PJ (256 * (i + 1) + r) (o + d))
  (hw2 : ∀ d : Fin 256, w2 (ix2 0 d) = CW 2 (o + d)) (hw1 : ∀ d : Fin 256, w1 (ix2 0 d) = CW 1 (o + d)) (hw0 : ∀ d : Fin 256, w0 (ix2 0 d) = CW 0 (o + d))

include hc hxt hch hxth

/-- A row of the stack (the sixteen rows before the block, then the block), `k` rows before row `r` of the block. -/
theorem lag_core (k : ℕ) (hk : k ≤ 16) (r d : Fin 256) (n : ℕ) (hn : n = 16 + r - k) (hn' : n < 272) :
    (if h : n < 16 then Scalar.select (past i) (ch (ix2 ⟨n, h⟩ d) * xth (ix2 ⟨n, h⟩ d)) 0
      else c (ix2 ⟨n - 16, by omega⟩ d) * xt (ix2 ⟨n - 16, by omega⟩ d)) = lag PJ k (256 * i + r) (o + d) := by
  subst hn
  rw [lag, u]
  by_cases h : 16 + (r : ℕ) - k < 16
  · rw [dif_pos h, select_past]
    by_cases hi : 0 < i
    · rw [if_pos hi, if_pos (show k ≤ 256 * i + (r : ℕ) by omega), hch hi, hxth hi]
      simp only [show 256 * i - 16 + (16 + (r : ℕ) - k) = 256 * i + r - k by omega]
    · rw [if_neg hi, if_neg (show ¬k ≤ 256 * i + (r : ℕ) by omega)]
  · rw [dif_neg h, if_pos (show k ≤ 256 * i + (r : ℕ) by omega), hc, hxt]
    simp only [show 256 * i + (16 + (r : ℕ) - k - 16) = 256 * i + r - k by omega]

theorem lag0_at (r d : Fin 256) : k0_pay40 (F := Ideal) (past i) c xt ch xth (ix2 r d) = lag PJ 0 (256 * i + r) (o + d) := by
  pointwise [k0_pay40, k0_pay39, k0_pay38, k0_pay37]
  rw [hc, hxt, lag, if_pos (Nat.zero_le _), u, Nat.sub_zero]

theorem lag1_at (r d : Fin 256) : k0_pay41 (F := Ideal) (past i) c xt ch xth (ix2 r d) = lag PJ 1 (256 * i + r) (o + d) := by
  pointwise [k0_pay41, k0_pay39, k0_pay38, k0_pay37]
  exact lag_core hc hxt hch hxth 1 (by omega) r d _ (by omega) (by omega)

theorem lag2_at (r d : Fin 256) : k0_pay42 (F := Ideal) (past i) c xt ch xth (ix2 r d) = lag PJ 2 (256 * i + r) (o + d) := by
  pointwise [k0_pay42, k0_pay39, k0_pay38, k0_pay37]
  exact lag_core hc hxt hch hxth 2 (by omega) r d _ (by omega) (by omega)

include hdy hw2 hw1 hw0

/-- The gradient of the projection's first part. -/
theorem gate_at (r d : Fin 256) :
    k0_pay44 (F := Ideal) (k0_pay42 (past i) c xt ch xth) dy (k0_pay43 (past i) c xt ch xth w2 w1) w0 (ix2 r d)
      = DY (256 * i + r) (o + d) * conv PJ CW (256 * i + r) (o + d) := by
  pointwise [k0_pay44, k0_pay43]
  rw [lag0_at hc hxt hch hxth, lag1_at hc hxt hch hxth, lag2_at hc hxt hch hxth, hdy, hw2, hw1, hw0, conv]

omit hc hxt hch hxth hw2 hw1 hw0
include hb

theorem dConv_at (r d : Fin 256) : k0_pay45 (F := Ideal) dy b (ix2 r d) = dConv DY PJ (256 * i + r) (o + d) := by
  pointwise [k0_pay45]
  rw [hdy, hb, dConv]

include hdyn hbn

/-- A row of the stack (the block, then the sixteen rows after it), `k` rows after row `r` of the block. -/
theorem dConv_core (hlast : ∀ t d, 4096 ≤ t → DY t d = 0) (k : ℕ) (hk : k ≤ 16) (hi : i < 16) (r d : Fin 256) (n : ℕ) (hn : n = r + k) (hn' : n < 272) :
    (if h : n < 256 then dy (ix2 ⟨n, h⟩ d) * b (ix2 ⟨n, h⟩ d)
      else Scalar.select (ahead i) (dyn (ix2 ⟨n - 256, by omega⟩ d) * bn (ix2 ⟨n - 256, by omega⟩ d)) 0)
      = dConv DY PJ (256 * i + r + k) (o + d) := by
  subst hn
  by_cases h : (r : ℕ) + k < 256
  · rw [dif_pos h, hdy, hb, dConv]
    simp only [Nat.add_assoc]
  · rw [dif_neg h, select_ahead]
    by_cases hi' : i < 15
    · rw [if_pos hi', hdyn hi', hbn hi', dConv]
      simp only [show 256 * (i + 1) + ((r : ℕ) + k - 256) = 256 * i + r + k by omega]
    · rw [if_neg hi', dConv_past hlast (by omega)]

include hw2 hw1 hw0

/-- The gradient of the convolution's input. -/
theorem dU_at (hlast : ∀ t d, 4096 ≤ t → DY t d = 0) (hi : i < 16) (r d : Fin 256) :
    k0_pay46 (F := Ideal) (ahead i) dy b dyn bn w2 w1 w0 (ix2 r d) = dU DY PJ CW (256 * i + r) (o + d) := by
  pointwise [k0_pay46, k0_pay45]
  rw [dU, hw2, hw1, hw0]
  refine Ideal.add_congr (Ideal.add_congr (Ideal.mul_congr rfl ?_) (Ideal.mul_congr rfl ?_)) (Ideal.mul_congr rfl ?_)
  · rw [hdy, hb, dConv]
  · exact dConv_core hdy hb hdyn hbn hlast 1 (by omega) hi r d _ (by omega) (by omega)
  · exact dConv_core hdy hb hdyn hbn hlast 2 (by omega) hi r d _ (by omega) (by omega)

end Conv

/-- A tap's sum over the block's rows, added to what was there. -/
theorem tap_at (L : FVec Ideal S256x256 .f32) (g : FVec Ideal S256x256 .f32) (acc : FVec Ideal S1x256 .f32) (d : Fin 256) :
    k0_pay49 (F := Ideal) L g acc (ix2 (0 : Fin 1) d) = acc (ix2 (0 : Fin 1) d) + ∑ r : Fin 256, g (ix2 r d) * L (ix2 r d) := by
  pointwise [k0_pay49]

end Cert.KernelIdeal.Mix

end
-- ==== Proof.Mix.Pool.lean ====
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import Idealize.ShloMosaic.Lib.Pipeline.ValueKit
import Idealize.ShloMosaic.Lib.Pipeline.Value
import Idealize.ShloMosaic.Lib.StableHlo.Run
import proofs.«01_k».proof.Proof.Mix.Conv

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen

open Cert.Mix

/-! ## Sums over a window by doubling: a stack of 272 rows added to itself turned by the span -/

/-- One doubling: the stack plus the stack turned by `k` rows. -/
def dbl (k : BitVec 32) (A : FVec Ideal S272x256 .f32) : FVec Ideal S272x256 .f32 :=
  addf A (dynamicRotate 0 k none A rotates_S272x256_d0)

/-- Lane `d` of the stack, its rows repeated. -/
def row (A : FVec Ideal S272x256 .f32) (d : Fin 256) (n : ℕ) : EReal := A (ix2 ⟨n % 272, Nat.mod_lt _ (by decide)⟩ d)

theorem row_mod (A : FVec Ideal S272x256 .f32) (d : Fin 256) {n n' : ℕ} (h : n % 272 = n' % 272) : row A d n = row A d n' := by
  unfold row; simp only [h]

theorem row_of (A : FVec Ideal S272x256 .f32) (d : Fin 256) {n : ℕ} (h : n < 272) : A (ix2 ⟨n, h⟩ d) = row A d n := by
  unfold row; simp only [Nat.mod_eq_of_lt h]

theorem row_dbl (k : BitVec 32) (hk : k.toNat < 272) (A : FVec Ideal S272x256 .f32) (d : Fin 256) (n : ℕ) :
    row (dbl k A) d n = row A d n + row A d (n + (272 - k.toNat)) := by
  unfold row dbl
  pointwise []
  simp only [show (n % 272 + 272 - k.toNat % 272) % 272 = (n + (272 - k.toNat)) % 272 by omega]

/-- If a stack holds sums of `s` rows at steps of `a`, its doubling holds sums of `2 s` rows. -/
theorem dbl_sum (a s : ℕ) (k : BitVec 32) (hk : k.toNat < 272) (hs : (272 - k.toNat) % 272 = (a * s) % 272)
    {A X : FVec Ideal S272x256 .f32} {d : Fin 256} (h : ∀ n, row A d n = ∑ j ∈ Finset.range s, row X d (n + a * j)) (n : ℕ) :
    row (dbl k A) d n = ∑ j ∈ Finset.range (s + s), row X d (n + a * j) := by
  rw [row_dbl k hk, Finset.sum_range_add, h, h]
  congr 1
  refine Finset.sum_congr rfl fun j _ => row_mod X d ?_
  rw [Nat.mul_add]
  generalize a * s = p at hs ⊢
  generalize a * j = q
  omega

theorem one_sum (a : ℕ) (X : FVec Ideal S272x256 .f32) (d : Fin 256) (n : ℕ) : row X d n = ∑ j ∈ Finset.range 1, row X d (n + a * j) := by
  rw [Finset.sum_range_one, Nat.mul_zero, Nat.add_zero]

theorem toInt_small {n : ℕ} (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

theorem count_at (i r w : ℕ) (hi : i < 16) (hr : r < 272) (hw : w ≤ 16) :
    (IntOp.minsi (IntOp.addi (IntOp.addi (Scalar.muli (BitVec.ofNat 32 i) 256#32) (BitVec.ofNat 32 r)) 1#32) (BitVec.ofNat 32 w)).toInt
      = ((min (256 * i + r + 1) w : ℕ) : ℤ) := by
  have e : IntOp.addi (IntOp.addi (Scalar.muli (BitVec.ofNat 32 i) 256#32) (BitVec.ofNat 32 r)) 1#32 = BitVec.ofNat 32 (256 * i + r + 1) := by
    refine BitVec.eq_of_toNat_eq ?_
    simp only [IntOp.addi, Scalar.muli, IntOp.muli, BitVec.toNat_add, BitVec.toNat_mul, BitVec.toNat_ofNat]
    omega
  rw [e]
  unfold IntOp.minsi
  by_cases h : 256 * i + r + 1 < w
  · rw [if_pos (by rw [BitVec.slt_iff_toInt_lt, toInt_small (by omega), toInt_small (by omega)]; omega), toInt_small (by omega), min_eq_left (by omega)]
  · rw [if_neg (by rw [BitVec.slt_iff_toInt_lt, toInt_small (by omega), toInt_small (by omega)]; omega), toInt_small (by omega), min_eq_right (by omega)]

theorem count_cnt (i r w : ℕ) (hi : i < 16) (hr : r < 272) (hw : w ≤ 16) :
    FloatOps.sitofp (F := Ideal) .f32 (IntOp.minsi (IntOp.addi (IntOp.addi (Scalar.muli (BitVec.ofNat 32 i) 256#32) (BitVec.ofNat 32 r)) 1#32) (BitVec.ofNat 32 w))
      = cnt w (256 * i + r) := by
  show (((_ : BitVec 32).toInt : ℝ) : EReal) = _
  rw [count_at i r w hi hr hw, cnt]
  norm_cast

/-! ## The stacks -/

/-- The stack doubled once, twice, three and four times, backwards and forwards. -/
def tr2 (X : FVec Ideal S272x256 .f32) := dbl 1#32 X
def tr4 (X : FVec Ideal S272x256 .f32) := dbl 2#32 (tr2 X)
def tr8 (X : FVec Ideal S272x256 .f32) := dbl 4#32 (tr4 X)
def tr16 (X : FVec Ideal S272x256 .f32) := dbl 8#32 (tr8 X)
def ld2 (X : FVec Ideal S272x256 .f32) := dbl 271#32 X
def ld4 (X : FVec Ideal S272x256 .f32) := dbl 270#32 (ld2 X)
def ld8 (X : FVec Ideal S272x256 .f32) := dbl 268#32 (ld4 X)
def ld16 (X : FVec Ideal S272x256 .f32) := dbl 264#32 (ld8 X)

/-- `T` holds, at every row, the sum of `w` rows of `X` backwards. -/
def Trails (w : ℕ) (X T : FVec Ideal S272x256 .f32) : Prop := ∀ d n, row T d n = ∑ j ∈ Finset.range w, row X d (n + 271 * j)

/-- `T` holds, at every row, the sum of `w` rows of `X` forwards. -/
def Leads (w : ℕ) (X T : FVec Ideal S272x256 .f32) : Prop := ∀ d n, row T d n = ∑ j ∈ Finset.range w, row X d (n + 1 * j)

theorem tr2_at (X : FVec Ideal S272x256 .f32) : Trails 2 X (tr2 X) := fun d => dbl_sum 271 1 1#32 (by decide) (by decide) (one_sum 271 X d)
theorem tr4_at (X : FVec Ideal S272x256 .f32) : Trails 4 X (tr4 X) := fun d => dbl_sum 271 2 2#32 (by decide) (by decide) (tr2_at X d)
theorem tr8_at (X : FVec Ideal S272x256 .f32) : Trails 8 X (tr8 X) := fun d => dbl_sum 271 4 4#32 (by decide) (by decide) (tr4_at X d)
theorem tr16_at (X : FVec Ideal S272x256 .f32) : Trails 16 X (tr16 X) := fun d => dbl_sum 271 8 8#32 (by decide) (by decide) (tr8_at X d)
theorem ld2_at (X : FVec Ideal S272x256 .f32) : Leads 2 X (ld2 X) := fun d => dbl_sum 1 1 271#32 (by decide) (by decide) (one_sum 1 X d)
theorem ld4_at (X : FVec Ideal S272x256 .f32) : Leads 4 X (ld4 X) := fun d => dbl_sum 1 2 270#32 (by decide) (by decide) (ld2_at X d)
theorem ld8_at (X : FVec Ideal S272x256 .f32) : Leads 8 X (ld8 X) := fun d => dbl_sum 1 4 268#32 (by decide) (by decide) (ld4_at X d)
theorem ld16_at (X : FVec Ideal S272x256 .f32) : Leads 16 X (ld16 X) := fun d => dbl_sum 1 8 264#32 (by decide) (by decide) (ld8_at X d)

/-- The window's mean less the row, from the stack `X` and its window sums `T`. -/
def meanless (a0 c : BitVec 32) (X T : FVec Ideal S272x256 .f32) : FVec Ideal S256x256 .bf16 :=
  truncf .bf16 (subf (mulf (extractStridedSlice S256x256 ![16, 0] T slices_S272x256_o16_0_S256x256)
    (broadcastTo S256x256 (divf (broadcast S256x1 (Scalar.ofBits .f32 0x3F800000#32)) (sitofp .f32 (minsi (addi (addi (broadcast S256x1 (Scalar.muli a0 256#32))
      (iota .tc S256x1 32 [0] iota_S256x1_d0_w32)) (broadcast S256x1 1#32)) (broadcast S256x1 c)))) broadcasts_S256x1_S256x256))
    (extractStridedSlice S256x256 ![16, 0] X slices_S272x256_o16_0_S256x256)) bitsLt_bf16_f32

/-- The gradient of the mean: the rows times one over the count. -/
def overCount (a0 c : BitVec 32) (D : FVec Ideal S272x256 .f32) : FVec Ideal S272x256 .f32 :=
  mulf D (broadcastTo S272x256 (divf (broadcast S272x1 (Scalar.ofBits .f32 0x3F800000#32)) (sitofp .f32 (minsi (addi (addi (broadcast S272x1 (Scalar.muli a0 256#32))
      (iota .tc S272x1 32 [0] iota_S272x1_d0_w32)) (broadcast S272x1 1#32)) (broadcast S272x1 c)))) broadcasts_S272x1_S272x256)

/-- The window sums' gradient less the rows. -/
def leadless (D L : FVec Ideal S272x256 .f32) : FVec Ideal S256x256 .bf16 :=
  truncf .bf16 (subf (extractStridedSlice S256x256 ![0, 0] L slices_S272x256_o0_0_S256x256) (extractStridedSlice S256x256 ![0, 0] D slices_S272x256_o0_0_S256x256)) bitsLt_bf16_f32

variable (a0 : BitVec 32) (v0 v1 : BitVec 1) (v : FVec Ideal S256x256 .bf16) (vh : FVec Ideal S16x256 .bf16) (dyp : FVec Ideal S256x256 .f32) (ps : FVec Ideal S1x256 .f32) (dypn : FVec Ideal S16x256 .f32) (pw : FVec Ideal S1x256x256 .bf16)

theorem diff2_eq : k0_pay71 (F := Ideal) a0 v0 vh v = meanless a0 2#32 (k0_pay78 v0 vh v) (tr2 (k0_pay78 v0 vh v)) := rfl
theorem diff4_eq : k0_pay81 (F := Ideal) (k0_pay78 v0 vh v) (k0_pay79 v0 vh v) (k0_pay80 a0) = meanless a0 4#32 (k0_pay78 v0 vh v) (tr4 (k0_pay78 v0 vh v)) := rfl
theorem diff8_eq : k0_pay88 (F := Ideal) a0 (k0_pay86 v0 vh v) (k0_pay87 v0 vh v) 256#32 = meanless a0 8#32 (k0_pay78 v0 vh v) (tr8 (k0_pay78 v0 vh v)) := rfl
theorem diff16_eq : k0_pay94 (F := Ideal) a0 v0 (k0_pay93 vh) (FloatOps.ofBits .f32 0#32) v = meanless a0 16#32 (k0_pay78 v0 vh v) (tr16 (k0_pay78 v0 vh v)) := rfl

theorem dv2_eq : k0_pay77 (F := Ideal) (k0_pay76 v1 dyp ps dypn pw) (Scalar.muli a0 256#32) (iota .tc S272x1 32 [0] iota_S272x1_d0_w32)
    = leadless (k0_pay76 v1 dyp ps dypn pw) (ld2 (overCount a0 2#32 (k0_pay76 v1 dyp ps dypn pw))) := rfl
theorem dv4_eq : k0_pay85 (F := Ideal) a0 (k0_pay83 v1 dyp ps dypn) pw
    = leadless (k0_pay76 v1 dyp ps dypn pw) (ld4 (overCount a0 4#32 (k0_pay76 v1 dyp ps dypn pw))) := rfl
theorem dv8_eq : k0_pay92 (F := Ideal) a0 (k0_pay90 v1 dyp ps dypn) pw
    = leadless (k0_pay76 v1 dyp ps dypn pw) (ld8 (overCount a0 8#32 (k0_pay76 v1 dyp ps dypn pw))) := rfl
theorem dv16_eq : k0_pay1 (F := Ideal) (k0_pay98 v1 dyp ps dypn pw) (k0_pay99 a0 v1 dyp ps dypn pw) 271#32
    = leadless (k0_pay76 v1 dyp ps dypn pw) (ld16 (overCount a0 16#32 (k0_pay76 v1 dyp ps dypn pw))) := rfl

/-! ## The stacks' rows, at loaded vectors that hold lanes `o`, … of block `i` -/

section At

variable {PJ DY : ℕ → ℕ → EReal} {PW : ℕ → ℕ → ℕ → EReal} {PS : ℕ → EReal} {i g : ℕ} (hi : i < 16)
  {v : FVec Ideal S256x256 .bf16} {vh : FVec Ideal S16x256 .bf16} {dyp : FVec Ideal S256x256 .f32} {ps : FVec Ideal S1x256 .f32} {dypn : FVec Ideal S16x256 .f32} {pw : FVec Ideal S1x256x256 .bf16}
  (hv : ∀ r d : Fin 256, v (ix2 r d) = PJ (256 * i + r) (3072 + (256 * g + d)))
  (hvh : 0 < i → ∀ (r : Fin 16) (d : Fin 256), vh (ix2 r d) = PJ (256 * i - 16 + r) (3072 + (256 * g + d)))
  (hdyp : ∀ r d : Fin 256, dyp (ix2 r d) = DY (256 * i + r) (1024 + (256 * g + d)))
  (hdypn : i < 15 → ∀ (r : Fin 16) (d : Fin 256), dypn (ix2 r d) = DY (256 * (i + 1) + r) (1024 + (256 * g + d)))
  (hps : ∀ d : Fin 256, ps (ix2 0 d) = PS (256 * g + d))
  (hpw : ∀ c d : Fin 256, pw (ix3 0 c d) = PW g c d)

include hv hvh in
/-- A row of the stack: the row of the projection, zero before the first. -/
theorem stack_at (d : Fin 256) (n j : ℕ) (hn : n < 256) (hj : j ≤ 16) :
    row (k0_pay78 (F := Ideal) (past i) vh v) d (16 + n + 271 * j) = if j ≤ 256 * i + n then PJ (256 * i + n - j) (3072 + (256 * g + d)) else 0 := by
  unfold row
  obtain ⟨k, hk⟩ : ∃ k, k = (16 + n + 271 * j) % 272 := ⟨_, rfl⟩
  have hk' : k = 16 + n - j := by omega
  simp only [← hk]
  have hlt : k < 272 := by omega
  pointwise [k0_pay78]
  by_cases h : k < 16
  · rw [dif_pos h, select_past]
    by_cases hi : 0 < i
    · rw [if_pos hi, if_pos (by omega), hvh hi]
      simp only [show 256 * i - 16 + k = 256 * i + n - j by omega]
    · rw [if_neg hi, if_neg (by omega)]
  · refine (dif_neg h).trans ((hv ⟨k - 16, by omega⟩ d).trans ?_)
    rw [if_pos (show j ≤ 256 * i + n by omega)]
    simp only [show 256 * i + (k - 16) = 256 * i + n - j by omega]

include hi hv hvh in
theorem diff_at (w : ℕ) (hw : w ≤ 16) {T : FVec Ideal S272x256 .f32} (hT : Trails w (k0_pay78 (past i) vh v) T) (r d : Fin 256) :
    meanless (BitVec.ofNat 32 i) (BitVec.ofNat 32 w) (k0_pay78 (past i) vh v) T (ix2 r d) = diff PJ w (256 * i + r) (256 * g + d) := by
  have hX := stack_at hv hvh d r 0 r.isLt (by omega)
  rw [if_pos (Nat.zero_le _), Nat.mul_zero, Nat.add_zero, Nat.sub_zero] at hX
  have hS : row T d (16 + r) = trail PJ w (256 * i + r) (256 * g + d) := by
    rw [hT, trail]
    exact Finset.sum_congr rfl fun j hj => stack_at hv hvh d r j r.isLt (by have := Finset.mem_range.mp hj; omega)
  rw [diff, ← hS, ← hX, ← row_of _ _ (show 16 + (r : ℕ) < 272 by omega), ← row_of _ _ (show 16 + (r : ℕ) < 272 by omega), ← count_cnt i r w hi (by omega) hw]
  generalize k0_pay78 (F := Ideal) (past i) vh v = X
  unfold meanless
  pointwise []

include hi hdyp hdypn hps in
/-- A row of the scaled gradient's stack. -/
theorem dz_at (hlast : ∀ t d, 4096 ≤ t → DY t d = 0) (n : Fin 272) (d : Fin 256) :
    k0_pay74 (F := Ideal) (ahead i) dyp ps dypn (ix2 n d) = dz DY PS (256 * i + n) (256 * g + d) := by
  pointwise [k0_pay74]
  rw [dz]
  by_cases h : (n : ℕ) < 256
  · rw [dif_pos h, hdyp, hps]
  · rw [dif_neg h, select_ahead]
    by_cases hi' : i < 15
    · rw [if_pos hi', hdypn hi', hps]
      simp only [show 256 * (i + 1) + ((n : ℕ) - 256) = 256 * i + n by omega]
    · rw [if_neg hi', hlast _ _ (by omega), zero_mul]

include hi hdyp hdypn hps hpw

theorem dDiff_at (hlast : ∀ t d, 4096 ≤ t → DY t d = 0) (n : Fin 272) (c : Fin 256) :
    k0_pay76 (F := Ideal) (ahead i) dyp ps dypn pw (ix2 n c) = dDiff DY PW PS g (256 * i + n) c := by
  pointwise [k0_pay76]
  rw [dDiff]
  refine Fin.sum_fin_congr fun d => ?_
  rw [dz_at hi hdyp hdypn hps hlast, hpw]

theorem dMean_at (hlast : ∀ t d, 4096 ≤ t → DY t d = 0) (w : ℕ) (hw : w ≤ 16) (n : Fin 272) (c : Fin 256) :
    overCount (BitVec.ofNat 32 i) (BitVec.ofNat 32 w) (k0_pay76 (F := Ideal) (ahead i) dyp ps dypn pw) (ix2 n c) = dMean DY PW PS w g (256 * i + n) c := by
  rw [dMean, ← dDiff_at hi hdyp hdypn hps hpw hlast, ← count_cnt i n w hi n.isLt hw]
  generalize k0_pay76 (F := Ideal) (ahead i) dyp ps dypn pw = X
  unfold overCount
  pointwise []

/-- The gradient of the pooled part of the projection. -/
theorem dV_at (hlast : ∀ t d, 4096 ≤ t → DY t d = 0) (w : ℕ) (hw : w ≤ 16) {L : FVec Ideal S272x256 .f32}
    (hL : Leads w (overCount (BitVec.ofNat 32 i) (BitVec.ofNat 32 w) (k0_pay76 (F := Ideal) (ahead i) dyp ps dypn pw)) L) (r c : Fin 256) :
    leadless (k0_pay76 (F := Ideal) (ahead i) dyp ps dypn pw) L (ix2 r c) = dV DY PW PS w g (256 * i + r) c := by
  have hS : row L c r = lead DY PW PS w g (256 * i + r) c := by
    rw [hL, lead]
    refine Finset.sum_congr rfl fun j hj => ?_
    have hj := Finset.mem_range.mp hj
    rw [Nat.one_mul, ← row_of _ _ (show (r : ℕ) + j < 272 by omega), dMean_at hi hdyp hdypn hps hpw hlast w hw, Nat.add_assoc]
  rw [dV, ← hS, ← row_of _ _ (show (r : ℕ) < 272 by omega)]
  have hD := dDiff_at hi hdyp hdypn hps hpw hlast ⟨r, by omega⟩ c
  rw [← hD]
  generalize k0_pay76 (F := Ideal) (ahead i) dyp ps dypn pw = X
  unfold leadless
  pointwise []

omit hpw
include hv hvh

/-- The group matrix's gradient over the block's rows, added to what was there. -/
theorem dPool_at (hlast : ∀ t d, 4096 ≤ t → DY t d = 0) (w : ℕ) (hw : w ≤ 16) {T : FVec Ideal S272x256 .f32} (hT : Trails w (k0_pay78 (past i) vh v) T)
    (acc : FVec Ideal S1x256x256 .f32) (c d : Fin 256) :
    k0_pay91 (F := Ideal) (meanless (BitVec.ofNat 32 i) (BitVec.ofNat 32 w) (k0_pay78 (past i) vh v) T) (k0_pay74 (ahead i) dyp ps dypn) acc (ix3 0 c d)
      = acc (ix3 0 c d) + ∑ r : Fin 256, diff PJ w (256 * i + r) (256 * g + c) * dz DY PS (256 * i + r) (256 * g + d) := by
  have hd := diff_at hi hv hvh w hw hT
  have hz := dz_at hi hdyp hdypn hps hlast
  generalize meanless (BitVec.ofNat 32 i) (BitVec.ofNat 32 w) (k0_pay78 (past i) vh v) T = D at hd ⊢
  generalize k0_pay74 (F := Ideal) (ahead i) dyp ps dypn = Z at hz ⊢
  pointwise [k0_pay91]
  refine Ideal.add_congr rfl (Fin.sum_fin_congr fun r => ?_)
  rw [hd, hz]

omit hdypn hps
include hpw

/-- The scale's gradient over the block's rows, added to what was there. -/
theorem dScale_at (w : ℕ) (hw : w ≤ 16) {T : FVec Ideal S272x256 .f32} (hT : Trails w (k0_pay78 (past i) vh v) T)
    (acc : FVec Ideal S1x256 .f32) (d : Fin 256) :
    k0_pay73 (F := Ideal) (meanless (BitVec.ofNat 32 i) (BitVec.ofNat 32 w) (k0_pay78 (past i) vh v) T) (k0_pay72 pw) dyp acc (ix2 0 d)
      = acc (ix2 0 d) + ∑ r : Fin 256, DY (256 * i + r) (1024 + (256 * g + d)) * zed PJ PW w g (256 * i + r) d := by
  have hd := diff_at hi hv hvh w hw hT
  generalize meanless (BitVec.ofNat 32 i) (BitVec.ofNat 32 w) (k0_pay78 (past i) vh v) T = D at hd ⊢
  pointwise [k0_pay73, k0_pay72]
  refine Ideal.add_congr rfl (Fin.sum_fin_congr fun r => ?_)
  rw [zed, hdyp]
  refine Ideal.mul_congr rfl (Fin.sum_fin_congr fun c => ?_)
  rw [hd, hpw]

end At

end Cert.KernelIdeal.Mix

end
-- ==== Proof.Mix.Blocks.lean ====
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import Idealize.ShloMosaic.Lib.Pipeline.ValueKit
import Idealize.ShloMosaic.Lib.Pipeline.Value
import Idealize.ShloMosaic.Lib.StableHlo.Run
import proofs.«01_k».proof.Proof.Mix.Pool

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen

variable (m : (ℓ : Loc nD τ sig) → Buf (Elt Ideal) ℓ)

open Cert.Mix

theorem idx_val : ∀ t : Fin cfg0.N, win0_0.index t = ![t.val, 0] ∧ win0_1.index t = ![t.val, 1]
    ∧ win0_2.index t = ![min ((t.val + 1) * 16) 255, 0] ∧ win0_3.index t = ![min ((t.val + 1) * 16) 255, 1]
    ∧ win0_4.index t = ![t.val, 0] ∧ win0_5.index t = ![t.val, 1] ∧ win0_6.index t = ![t.val, 2] ∧ win0_7.index t = ![t.val, 3]
    ∧ win0_8.index t = ![min ((t.val + 1) * 16) 255, 0]
    ∧ win0_9.index t = ![t.val * 16 - 1, 1] ∧ win0_10.index t = ![t.val * 16 - 1, 2] ∧ win0_11.index t = ![t.val * 16 - 1, 3]
    ∧ win0_12.index t = ![0, 0] ∧ win0_13.index t = ![0, 0, 0] ∧ win0_14.index t = ![0, 0]
    ∧ win0_15.index t = ![t.val, 0] ∧ win0_16.index t = ![0, 0] ∧ win0_17.index t = ![0, 0, 0] ∧ win0_18.index t = ![0, 0] :=
  (by decide +kernel : ∀ t : Fin grid0.N, _)

theorem bits : ∀ t : Fin cfg0.N, Scalar.cmpi .sgt (BitVec.ofNat 32 (grid0.coords t 0).val) 0#32 = past t.val
    ∧ Scalar.cmpi .slt (BitVec.ofNat 32 (grid0.coords t 0).val) 15#32 = ahead t.val
    ∧ (grid0.coords t 0).val = t.val := (by decide +kernel : ∀ t : Fin grid0.N, _)

/-- The five arguments as functions of row and lane. -/
def DYf (c : Dev nD) : ℕ → ℕ → EReal := at2 (a := 4096) (b := 2048) (m ((c : Thread nD τ).loc main_arg0))
def PJf (c : Dev nD) : ℕ → ℕ → EReal := at2 (a := 4096) (b := 4096) (m ((c : Thread nD τ).loc main_arg1))
def CWf (c : Dev nD) : ℕ → ℕ → EReal := at2 (a := 3) (b := 1024) (m ((c : Thread nD τ).loc main_arg2))
def PWf (c : Dev nD) : ℕ → ℕ → ℕ → EReal := at3 (a := 4) (b := 256) (c := 256) (m ((c : Thread nD τ).loc main_arg3))
def PSf (c : Dev nD) : ℕ → EReal := at1 (a := 1024) (m ((c : Thread nD τ).loc main_arg4))

variable (c : Dev nD) (t : Fin cfg0.N)

/-- The filter as the region finds it: three rows of weights, five of zeros. -/
theorem entry12 : V m c main_v0 = (pad S8x1024 ![0, 0] ![5, 0] ![0, 0] (m ((c : Thread nD τ).loc main_arg2) : FVec Ideal S3x1024 .f32)
    (sitofp .f32 (constantI S_ 32 0#32)) pads_S3x1024_S8x1024_050_000 h_S_ : FVec Ideal S8x1024 .f32) := by
  unfold V
  simp only [hostOps0, hostOps0_1, hostOps0_2, List.flatten_cons, List.flatten_nil, List.append_nil, List.cons_append, List.nil_append]
  after_results
  rfl

theorem entry13 : V m c main_v1 = (m ((c : Thread nD τ).loc main_arg3) : FVec Ideal S4x256x256 .bf16) := by
  unfold V
  simp only [hostOps0, hostOps0_1, hostOps0_2, List.flatten_cons, List.flatten_nil, List.append_nil, List.cons_append, List.nil_append]
  after_results
  rfl

/-- The scales as the region finds them: one row. -/
theorem entry14 : V m c main_v2 = (shapeCast S1x1024 (m ((c : Thread nD τ).loc main_arg4) : FVec Ideal S1024 .f32) shapeCasts_S1024_S1x1024 : FVec Ideal S1x1024 .f32) := by
  unfold V
  simp only [hostOps0, hostOps0_1, hostOps0_2, List.flatten_cons, List.flatten_nil, List.append_nil, List.cons_append, List.nil_append]
  after_results
  rfl

theorem read0 (o : ℕ) (inb) (r : Fin 256) (d : Fin 256) :
    View.ld (iblk m c 0 t) (Rect.unit ![0, o] ![256, 256] inb) (ix2 r d) = DYf m c (256 * t.val + r) (o + d) := by
  have ho : o + 256 ≤ 1024 := inb 1
  have ht : t.val < 16 := lt_of_lt_of_eq t.isLt N_0
  rw [DYf, at2_of _ (by omega) (by omega)]
  pointwise []
  blk_point [iblk, V, idx_val t]

theorem read1 (o : ℕ) (inb) (r : Fin 256) (d : Fin 256) :
    View.ld (iblk m c 1 t) (Rect.unit ![0, o] ![256, 256] inb) (ix2 r d) = DYf m c (256 * t.val + r) (1024 + (o + d)) := by
  have ho : o + 256 ≤ 1024 := inb 1
  have ht : t.val < 16 := lt_of_lt_of_eq t.isLt N_0
  rw [DYf, at2_of _ (by omega) (by omega)]
  pointwise []
  blk_point [iblk, V, idx_val t]

theorem read2 (h : t.val < 15) (o : ℕ) (inb) (r : Fin 16) (d : Fin 256) :
    View.ld (iblk m c 2 t) (Rect.unit ![0, o] ![16, 256] inb) (ix2 r d) = DYf m c (256 * (t.val + 1) + r) (o + d) := by
  have ho : o + 256 ≤ 1024 := inb 1
  have ht : t.val < 16 := lt_of_lt_of_eq t.isLt N_0
  rw [DYf, at2_of _ (by omega) (by omega)]
  pointwise []
  blk_point [iblk, V, idx_val t]

theorem read3 (h : t.val < 15) (o : ℕ) (inb) (r : Fin 16) (d : Fin 256) :
    View.ld (iblk m c 3 t) (Rect.unit ![0, o] ![16, 256] inb) (ix2 r d) = DYf m c (256 * (t.val + 1) + r) (1024 + (o + d)) := by
  have ho : o + 256 ≤ 1024 := inb 1
  have ht : t.val < 16 := lt_of_lt_of_eq t.isLt N_0
  rw [DYf, at2_of _ (by omega) (by omega)]
  pointwise []
  blk_point [iblk, V, idx_val t]

theorem read4 (o : ℕ) (inb) (r : Fin 256) (d : Fin 256) :
    View.ld (iblk m c 4 t) (Rect.unit ![0, o] ![256, 256] inb) (ix2 r d) = PJf m c (256 * t.val + r) (o + d) := by
  have ho : o + 256 ≤ 1024 := inb 1
  have ht : t.val < 16 := lt_of_lt_of_eq t.isLt N_0
  rw [PJf, at2_of _ (by omega) (by omega)]
  pointwise []
  blk_point [iblk, V, idx_val t]

theorem read5 (o : ℕ) (inb) (r : Fin 256) (d : Fin 256) :
    View.ld (iblk m c 5 t) (Rect.unit ![0, o] ![256, 256] inb) (ix2 r d) = PJf m c (256 * t.val + r) (1024 + (o + d)) := by
  have ho : o + 256 ≤ 1024 := inb 1
  have ht : t.val < 16 := lt_of_lt_of_eq t.isLt N_0
  rw [PJf, at2_of _ (by omega) (by omega)]
  pointwise []
  blk_point [iblk, V, idx_val t]

theorem read6 (o : ℕ) (inb) (r : Fin 256) (d : Fin 256) :
    View.ld (iblk m c 6 t) (Rect.unit ![0, o] ![256, 256] inb) (ix2 r d) = PJf m c (256 * t.val + r) (2048 + (o + d)) := by
  have ho : o + 256 ≤ 1024 := inb 1
  have ht : t.val < 16 := lt_of_lt_of_eq t.isLt N_0
  rw [PJf, at2_of _ (by omega) (by omega)]
  pointwise []
  blk_point [iblk, V, idx_val t]

theorem read7 (o : ℕ) (inb) (r : Fin 256) (d : Fin 256) :
    View.ld (iblk m c 7 t) (Rect.unit ![0, o] ![256, 256] inb) (ix2 r d) = PJf m c (256 * t.val + r) (3072 + (o + d)) := by
  have ho : o + 256 ≤ 1024 := inb 1
  have ht : t.val < 16 := lt_of_lt_of_eq t.isLt N_0
  rw [PJf, at2_of _ (by omega) (by omega)]
  pointwise []
  blk_point [iblk, V, idx_val t]

theorem read8 (h : t.val < 15) (o : ℕ) (inb) (r : Fin 16) (d : Fin 256) :
    View.ld (iblk m c 8 t) (Rect.unit ![0, o] ![16, 256] inb) (ix2 r d) = PJf m c (256 * (t.val + 1) + r) (o + d) := by
  have ho : o + 256 ≤ 1024 := inb 1
  have ht : t.val < 16 := lt_of_lt_of_eq t.isLt N_0
  rw [PJf, at2_of _ (by omega) (by omega)]
  pointwise []
  blk_point [iblk, V, idx_val t]

theorem read9 (h : 0 < t.val) (o : ℕ) (inb) (r : Fin 16) (d : Fin 256) :
    View.ld (iblk m c 9 t) (Rect.unit ![0, o] ![16, 256] inb) (ix2 r d) = PJf m c (256 * t.val - 16 + r) (1024 + (o + d)) := by
  have ho : o + 256 ≤ 1024 := inb 1
  have ht : t.val < 16 := lt_of_lt_of_eq t.isLt N_0
  rw [PJf, at2_of _ (by omega) (by omega)]
  pointwise []
  blk_point [iblk, V, idx_val t]

theorem read10 (h : 0 < t.val) (o : ℕ) (inb) (r : Fin 16) (d : Fin 256) :
    View.ld (iblk m c 10 t) (Rect.unit ![0, o] ![16, 256] inb) (ix2 r d) = PJf m c (256 * t.val - 16 + r) (2048 + (o + d)) := by
  have ho : o + 256 ≤ 1024 := inb 1
  have ht : t.val < 16 := lt_of_lt_of_eq t.isLt N_0
  rw [PJf, at2_of _ (by omega) (by omega)]
  pointwise []
  blk_point [iblk, V, idx_val t]

theorem read11 (h : 0 < t.val) (o : ℕ) (inb) (r : Fin 16) (d : Fin 256) :
    View.ld (iblk m c 11 t) (Rect.unit ![0, o] ![16, 256] inb) (ix2 r d) = PJf m c (256 * t.val - 16 + r) (3072 + (o + d)) := by
  have ho : o + 256 ≤ 1024 := inb 1
  have ht : t.val < 16 := lt_of_lt_of_eq t.isLt N_0
  rw [PJf, at2_of _ (by omega) (by omega)]
  pointwise []
  blk_point [iblk, V, idx_val t]

theorem pad_row (x : FVec Ideal S3x1024 .f32) (v : FVec Ideal S_ .f32) (k : ℕ) (hk : k < 3) (d : Fin 1024) :
    (pad S8x1024 ![0, 0] ![5, 0] ![0, 0] x v pads_S3x1024_S8x1024_050_000 h_S_ : FVec Ideal S8x1024 .f32) (ix2 (⟨k, by omega⟩ : Fin 8) d) = x (ix2 (⟨k, hk⟩ : Fin 3) d) := by
  pointwise
  simp [hk]

theorem read12 (k : ℕ) (hk : k < 3) (o : ℕ) (inb) (d : Fin 256) :
    View.ld (iblk m c 12 t) (Rect.unit ![k, o] ![1, 256] inb) (ix2 0 d) = CWf m c k (o + d) := by
  have ho : o + 256 ≤ 1024 := inb 1
  rw [CWf, at2_of _ (by omega) (by omega)]
  pointwise []
  blk_simp [iblk, idx_val t]
  have e : ((win0_12.blk t).view.emb (ix2 ⟨k, by omega⟩ ⟨o + d.val, by omega⟩)) = (ix2 (⟨k, by omega⟩ : Fin 8) (⟨o + d.val, by omega⟩ : Fin 1024)) := by
    blk_ext [idx_val t]
  refine (congrArg (V m c main_v0) e).trans ?_
  rw [entry12]
  exact pad_row _ _ k hk _

theorem read13 (g : ℕ) (inb) (z : Fin 1) (r d : Fin 256) :
    View.ld (iblk m c 13 t) (Rect.unit ![g, 0, 0] ![1, 256, 256] inb) (ix3 z r d) = PWf m c g r d := by
  have ho : g + 1 ≤ 4 := inb 0
  rw [PWf, at3_of _ (by omega) (by omega) (by omega)]
  pointwise []
  blk_simp [iblk, idx_val t]
  entry_read
  pointwise
  blk_ext [idx_val t]

theorem read14 (o : ℕ) (inb) (d : Fin 256) :
    View.ld (iblk m c 14 t) (Rect.unit ![0, o] ![1, 256] inb) (ix2 0 d) = PSf m c (o + d) := by
  have ho : o + 256 ≤ 1024 := inb 1
  rw [PSf, at1_of _ (by omega)]
  pointwise []
  blk_simp [iblk, idx_val t]
  have e : ((win0_14.blk t).view.emb (ix2 0 ⟨o + d.val, by omega⟩)) = (ix2 (0 : Fin 1) (⟨o + d.val, by omega⟩ : Fin 1024)) := by
    blk_ext [idx_val t]
  refine (congrArg (V m c main_v2) e).trans ?_
  rw [entry14]
  pointwise

end Cert.KernelIdeal.Mix

end
-- ==== Proof.Mix.Out15.lean ====
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import Idealize.ShloMosaic.Lib.Pipeline.ValueKit
import Idealize.ShloMosaic.Lib.Pipeline.Value
import Idealize.ShloMosaic.Lib.StableHlo.Run
import proofs.«01_k».proof.Proof.Mix.Blocks

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen

variable (m : (ℓ : Loc nD τ sig) → Buf (Elt Ideal) ℓ)

open Cert.Mix

/-! ## Every chunk of lanes computes by the third chunk's payloads -/

section Chunks

variable (i : grid0.Coords) (v0 v1 : BitVec 1) (c xt b : FVec Ideal S256x256 .bf16) (ch xth bn : FVec Ideal S16x256 .bf16) (dy : FVec Ideal S256x256 .f32) (dyn : FVec Ideal S16x256 .f32)
  (w2 w1 w0 : FVec Ideal S1x256 .f32)

/-- The gradient of the gating part of the projection, from loaded vectors. -/
def gatePiece : FVec Ideal S256x256 .bf16 := k0_pay44 (k0_pay42 v0 c xt ch xth) dy (k0_pay43 v0 c xt ch xth w2 w1) w0

/-- The gradient of one of the convolved factors, `x` being the other. -/
def factorPiece (x : FVec Ideal S256x256 .bf16) : FVec Ideal S256x256 .bf16 := k0_pay47 v1 (k0_pay38 x) dy b dyn bn w2 w1 w0

theorem gate0_eq : k0_pay13 (F := Ideal) (k0_pay10 i c xt ch xth) dy (k0_pay11 i c xt ch xth w2 w1) (k0_pay12 w0)
    = gatePiece (Scalar.cmpi .sgt (BitVec.ofNat 32 (i 0).val) 0#32) c xt ch xth dy w2 w1 w0 := rfl
theorem gate1_eq : k0_pay28 (F := Ideal) v0 (k0_pay21 c) (k0_pay22 xt) (k0_pay23 ch xth) dy w2 w1 w0 = gatePiece v0 c xt ch xth dy w2 w1 w0 := rfl
theorem gate2_eq : k0_pay44 (F := Ideal) (k0_pay42 v0 c xt ch xth) dy (k0_pay43 v0 c xt ch xth w2 w1) w0 = gatePiece v0 c xt ch xth dy w2 w1 w0 := rfl
theorem gate3_eq : k0_pay59 (F := Ideal) v0 (k0_pay52 c) (k0_pay53 xt) (k0_pay54 ch) xth dy w2 w1 w0 = gatePiece v0 c xt ch xth dy w2 w1 w0 := rfl

theorem c0_eq : k0_pay16 (F := Ideal) v1 (k0_pay6 xt) dy b dyn bn w2 w1 w0 = factorPiece v1 b bn dy dyn w2 w1 w0 xt := rfl
theorem c1_eq : k0_pay32 (F := Ideal) (k0_pay22 xt) (k0_pay29 dy b) (k0_pay30 v1 dy b dyn bn) w2 w1 w0 = factorPiece v1 b bn dy dyn w2 w1 w0 xt := rfl
theorem c2_eq : k0_pay47 (F := Ideal) v1 (k0_pay38 xt) dy b dyn bn w2 w1 w0 = factorPiece v1 b bn dy dyn w2 w1 w0 xt := rfl
theorem c3_eq : k0_pay64 (F := Ideal) v1 (k0_pay53 xt) (k0_pay60 dy b) (k0_pay61 dyn bn) k0_pay62 w2 w1 w0 = factorPiece v1 b bn dy dyn w2 w1 w0 xt := rfl
theorem xt0_eq : k0_pay17 (F := Ideal) v1 (k0_pay5 c) dy b dyn bn w2 w1 w0 = factorPiece v1 b bn dy dyn w2 w1 w0 c := rfl
theorem xt1_eq : k0_pay33 (F := Ideal) (k0_pay21 c) (k0_pay29 dy b) (k0_pay30 v1 dy b dyn bn) w2 w1 w0 = factorPiece v1 b bn dy dyn w2 w1 w0 c := rfl
theorem xt2_eq : k0_pay48 (F := Ideal) (k0_pay37 c) (k0_pay46 v1 dy b dyn bn w2 w1 w0) = factorPiece v1 b bn dy dyn w2 w1 w0 c := rfl
theorem xt3_eq : k0_pay65 (F := Ideal) v1 (k0_pay52 c) (k0_pay60 dy b) (k0_pay61 dyn bn) k0_pay62 w2 w1 w0 = factorPiece v1 b bn dy dyn w2 w1 w0 c := rfl

theorem factor_eq (x : FVec Ideal S256x256 .bf16) (r d : Fin 256) (u X : EReal) (hu : (k0_pay46 (F := Ideal) v1 dy b dyn bn w2 w1 w0 (ix2 r d) : EReal) = u) (hx : (x (ix2 r d) : EReal) = X) :
    (factorPiece v1 b bn dy dyn w2 w1 w0 x (ix2 r d) : EReal) = u * X := by
  subst hu hx
  have e : factorPiece v1 b bn dy dyn w2 w1 w0 x = k0_pay48 (k0_pay37 x) (k0_pay46 v1 dy b dyn bn w2 w1 w0) := rfl
  rw [e]
  generalize k0_pay46 (F := Ideal) v1 dy b dyn bn w2 w1 w0 = U
  pointwise [k0_pay48, k0_pay37]

end Chunks

/-- No row of the gradient past the last. -/
theorem DY_past (c : Dev nD) (t d : ℕ) (h : 4096 ≤ t) : DYf m c t d = 0 := at2_row _ h

section Pieces

variable (c : Dev nD) (t : Fin cfg0.N)

theorem gate_block (o : ℕ) (i5 i6 i9 i10 i0 j2 j1 j0) (r d : Fin 256) :
    gatePiece (past t.val) (View.ld (iblk m c 5 t) (Rect.unit ![0, o] ![256, 256] i5)) (View.ld (iblk m c 6 t) (Rect.unit ![0, o] ![256, 256] i6)) (View.ld (iblk m c 9 t) (Rect.unit ![0, o] ![16, 256] i9)) (View.ld (iblk m c 10 t) (Rect.unit ![0, o] ![16, 256] i10))
      (View.ld (iblk m c 0 t) (Rect.unit ![0, o] ![256, 256] i0)) (View.ld (iblk m c 12 t) (Rect.unit ![2, o] ![1, 256] j2)) (View.ld (iblk m c 12 t) (Rect.unit ![1, o] ![1, 256] j1)) (View.ld (iblk m c 12 t) (Rect.unit ![0, o] ![1, 256] j0)) (ix2 r d)
      = DYf m c (256 * t.val + r) (o + d) * conv (PJf m c) (CWf m c) (256 * t.val + r) (o + d) :=
  gate_at (read5 m c t o i5) (read6 m c t o i6) (fun h => read9 m c t h o i9) (fun h => read10 m c t h o i10) (read0 m c t o i0)
    (read12 m c t 2 (by decide) o j2) (read12 m c t 1 (by decide) o j1) (read12 m c t 0 (by decide) o j0) r d

theorem factor_block (x : FVec Ideal S256x256 .bf16) (X : EReal) (o : ℕ) (i4 i8 i0 i2 j2 j1 j0) (r d : Fin 256) (hx : x (ix2 r d) = X) :
    factorPiece (ahead t.val) (View.ld (iblk m c 4 t) (Rect.unit ![0, o] ![256, 256] i4)) (View.ld (iblk m c 8 t) (Rect.unit ![0, o] ![16, 256] i8)) (View.ld (iblk m c 0 t) (Rect.unit ![0, o] ![256, 256] i0)) (View.ld (iblk m c 2 t) (Rect.unit ![0, o] ![16, 256] i2))
      (View.ld (iblk m c 12 t) (Rect.unit ![2, o] ![1, 256] j2)) (View.ld (iblk m c 12 t) (Rect.unit ![1, o] ![1, 256] j1)) (View.ld (iblk m c 12 t) (Rect.unit ![0, o] ![1, 256] j0)) x (ix2 r d)
      = dU (DYf m c) (PJf m c) (CWf m c) (256 * t.val + r) (o + d) * X := by
  exact factor_eq _ _ _ _ _ _ _ _ _ _ _ _ _ (dU_at (read0 m c t o i0) (read4 m c t o i4) (fun h => read2 m c t h o i2) (fun h => read8 m c t h o i8)
    (read12 m c t 2 (by decide) o j2) (read12 m c t 1 (by decide) o j1) (read12 m c t 0 (by decide) o j0) (DY_past m c) (lt_of_lt_of_eq t.isLt N_0) r d) hx

theorem pool_block (g o w : ℕ) (ho : o = 256 * g) (hw : w ≤ 16) (i1 i14 i3 i13) {L : FVec Ideal S272x256 .f32}
    (hL : Leads w (overCount (BitVec.ofNat 32 t.val) (BitVec.ofNat 32 w) (k0_pay76 (F := Ideal) (ahead t.val) (View.ld (iblk m c 1 t) (Rect.unit ![0, o] ![256, 256] i1)) (View.ld (iblk m c 14 t) (Rect.unit ![0, o] ![1, 256] i14)) (View.ld (iblk m c 3 t) (Rect.unit ![0, o] ![16, 256] i3)) (View.ld (iblk m c 13 t) (Rect.unit ![g, 0, 0] ![1, 256, 256] i13)))) L) (r d : Fin 256) :
    leadless (k0_pay76 (F := Ideal) (ahead t.val) (View.ld (iblk m c 1 t) (Rect.unit ![0, o] ![256, 256] i1)) (View.ld (iblk m c 14 t) (Rect.unit ![0, o] ![1, 256] i14)) (View.ld (iblk m c 3 t) (Rect.unit ![0, o] ![16, 256] i3)) (View.ld (iblk m c 13 t) (Rect.unit ![g, 0, 0] ![1, 256, 256] i13))) L (ix2 r d)
      = dV (DYf m c) (PWf m c) (PSf m c) w g (256 * t.val + r) d := by
  subst ho
  exact dV_at (lt_of_lt_of_eq t.isLt N_0) (read1 m c t _ i1) (fun h => read3 m c t h _ i3) (read14 m c t _ i14) (fun r d => read13 m c t g i13 0 r d) (DY_past m c) w hw hL r d

end Pieces

/-- The gradient of the projection. -/
noncomputable def proj15 (c : Dev nD) : FVec Ideal S4096x4096 .bf16 := fun j => out15 (DYf m c) (PJf m c) (CWf m c) (PWf m c) (PSf m c) (j 0).val (j 1).val

theorem out15_gate {DY PJ CW : ℕ → ℕ → EReal} {PW PS} {t q : ℕ} (h : q < 1024) : out15 DY PJ CW PW PS t q = DY t q * conv PJ CW t q := if_pos h
theorem out15_c {DY PJ CW : ℕ → ℕ → EReal} {PW PS} {t q : ℕ} (h : q < 1024) : out15 DY PJ CW PW PS t (1024 + q) = dU DY PJ CW t q * PJ t (2048 + q) := by
  rw [out15, if_neg (by omega), if_pos (by omega), show 1024 + q - 1024 = q by omega, show 1024 + (1024 + q) = 2048 + q by omega]
theorem out15_xt {DY PJ CW : ℕ → ℕ → EReal} {PW PS} {t q : ℕ} (h : q < 1024) : out15 DY PJ CW PW PS t (2048 + q) = dU DY PJ CW t q * PJ t (1024 + q) := by
  rw [out15, if_neg (by omega), if_neg (by omega), if_pos (by omega), show 2048 + q - 2048 = q by omega, show 2048 + q - 1024 = 1024 + q by omega]
theorem out15_pool {DY PJ CW : ℕ → ℕ → EReal} {PW PS} {t : ℕ} (g : ℕ) (d : ℕ) (h : d < 256) : out15 DY PJ CW PW PS t (3072 + (256 * g + d)) = dV DY PW PS (win g) g t d := by
  rw [out15, if_neg (by omega), if_neg (by omega), if_neg (by omega), show (3072 + (256 * g + d) - 3072) / 256 = g by omega, show (3072 + (256 * g + d) - 3072) % 256 = d by omega]

/-- A stored piece of a block of the projection's gradient lands where it belongs. -/
theorem land15 (c : Dev nD) (t : Fin cfg0.N) (y : ((cfg0.win 15).xblock (cfg0.grid.coords t)).Idx) (x : S256x256.Idx) (p : ℕ) (r d : Fin 256) (hr : (x 0).val = r.val) (hd : (x 1).val = d.val) (v : FVec Ideal S256x256 .bf16)
    (h0 : (y 0).val = r.val) (h1 : (y 1).val = p)
    (hv : v (ix2 r d) = out15 (DYf m c) (PJf m c) (CWf m c) (PWf m c) (PSf m c) (256 * t.val + r.val) p) :
    v x = proj15 m c (((View.whole main_v3_0).slice (win0_15.rect t)).emb y) := by
  have ex : v x = v (ix2 r d) := congrArg v (by funext a; fin_cases a; exacts [Fin.ext hr, Fin.ext hd])
  rw [ex, hv, proj15]
  have e0 : ((((View.whole main_v3_0).slice (win0_15.rect t)).emb y) 0).val = 256 * t.val + r.val := by blk_simp [idx_val t]; omega
  have e1 : ((((View.whole main_v3_0).slice (win0_15.rect t)).emb y) 1).val = p := by blk_simp [idx_val t]; omega
  rw [e0, e1]

theorem final15 (c : Dev nD) : (dats m 0 c).arrAt 15 cfg0.N = proj15 m c := by
  refine (dats m 0 c).arrAt_eq_of_covers 15 _ (by decide +kernel) fun t hf y => ?_
  obtain ⟨b0, b1, b2⟩ := bits t
  blk_simp [idx_val t]
  rw [after0_15]
  by_cases h : t.val % 16 = 0
  all_goals first
    | rw [outsAt0_A m c t h]
    | rw [outsAt0_B m c t h]
  all_goals
    dsimp only
    frame_out
    simp only [gate0_eq, gate1_eq, gate2_eq, gate3_eq, c0_eq, c1_eq, c2_eq, c3_eq, xt0_eq, xt1_eq, xt2_eq, xt3_eq, dv2_eq, dv4_eq, dv8_eq, dv16_eq, b0, b1]
    rw [b2]
    clear h hf
    canon_tiles x h
    · refine land15 m c t y x (3072 + (256 * 3 + (x 1).val)) ⟨(x 0).val, x0_lt⟩ ⟨(x 1).val, x1_lt⟩ rfl rfl _ h0 (by omega) ?_
      rw [out15_pool 3 _ x1_lt]
      exact pool_block m c t 3 768 16 rfl (by decide) _ _ _ _ (ld16_at _) ⟨(x 0).val, x0_lt⟩ ⟨(x 1).val, x1_lt⟩
    · refine land15 m c t y x (3072 + (256 * 2 + (x 1).val)) ⟨(x 0).val, x0_lt⟩ ⟨(x 1).val, x1_lt⟩ rfl rfl _ h0 (by omega) ?_
      rw [out15_pool 2 _ x1_lt]
      exact pool_block m c t 2 512 8 rfl (by decide) _ _ _ _ (ld8_at _) ⟨(x 0).val, x0_lt⟩ ⟨(x 1).val, x1_lt⟩
    · refine land15 m c t y x (3072 + (256 * 1 + (x 1).val)) ⟨(x 0).val, x0_lt⟩ ⟨(x 1).val, x1_lt⟩ rfl rfl _ h0 (by omega) ?_
      rw [out15_pool 1 _ x1_lt]
      exact pool_block m c t 1 256 4 rfl (by decide) _ _ _ _ (ld4_at _) ⟨(x 0).val, x0_lt⟩ ⟨(x 1).val, x1_lt⟩
    · refine land15 m c t y x (3072 + (256 * 0 + (x 1).val)) ⟨(x 0).val, x0_lt⟩ ⟨(x 1).val, x1_lt⟩ rfl rfl _ h0 (by omega) ?_
      rw [out15_pool 0 _ x1_lt]
      rw [dv2_eq]
      exact pool_block m c t 0 0 2 rfl (by decide) _ _ _ _ (ld2_at _) ⟨(x 0).val, x0_lt⟩ ⟨(x 1).val, x1_lt⟩
    · refine land15 m c t y x (2048 + (768 + (x 1).val)) ⟨(x 0).val, x0_lt⟩ ⟨(x 1).val, x1_lt⟩ rfl rfl _ h0 (by omega) ?_
      rw [out15_xt (show 768 + (x 1).val < 1024 by omega)]
      exact factor_block m c t _ _ 768 _ _ _ _ _ _ _ ⟨(x 0).val, x0_lt⟩ ⟨(x 1).val, x1_lt⟩ (read5 m c t 768 _ ⟨(x 0).val, x0_lt⟩ ⟨(x 1).val, x1_lt⟩)
    · refine land15 m c t y x (1024 + (768 + (x 1).val)) ⟨(x 0).val, x0_lt⟩ ⟨(x 1).val, x1_lt⟩ rfl rfl _ h0 (by omega) ?_
      rw [out15_c (show 768 + (x 1).val < 1024 by omega)]
      exact factor_block m c t _ _ 768 _ _ _ _ _ _ _ ⟨(x 0).val, x0_lt⟩ ⟨(x 1).val, x1_lt⟩ (read6 m c t 768 _ ⟨(x 0).val, x0_lt⟩ ⟨(x 1).val, x1_lt⟩)
    · refine land15 m c t y x (768 + (x 1).val) ⟨(x 0).val, x0_lt⟩ ⟨(x 1).val, x1_lt⟩ rfl rfl _ h0 (by omega) ?_
      rw [out15_gate (show 768 + (x 1).val < 1024 by omega)]
      exact gate_block m c t 768 _ _ _ _ _ _ _ _ ⟨(x 0).val, x0_lt⟩ ⟨(x 1).val, x1_lt⟩
    · refine land15 m c t y x (2048 + (512 + (x 1).val)) ⟨(x 0).val, x0_lt⟩ ⟨(x 1).val, x1_lt⟩ rfl rfl _ h0 (by omega) ?_
      rw [out15_xt (show 512 + (x 1).val < 1024 by omega)]
      exact factor_block m c t _ _ 512 _ _ _ _ _ _ _ ⟨(x 0).val, x0_lt⟩ ⟨(x 1).val, x1_lt⟩ (read5 m c t 512 _ ⟨(x 0).val, x0_lt⟩ ⟨(x 1).val, x1_lt⟩)
    · refine land15 m c t y x (1024 + (512 + (x 1).val)) ⟨(x 0).val, x0_lt⟩ ⟨(x 1).val, x1_lt⟩ rfl rfl _ h0 (by omega) ?_
      rw [out15_c (show 512 + (x 1).val < 1024 by omega)]
      exact factor_block m c t _ _ 512 _ _ _ _ _ _ _ ⟨(x 0).val, x0_lt⟩ ⟨(x 1).val, x1_lt⟩ (read6 m c t 512 _ ⟨(x 0).val, x0_lt⟩ ⟨(x 1).val, x1_lt⟩)
    · refine land15 m c t y x (512 + (x 1).val) ⟨(x 0).val, x0_lt⟩ ⟨(x 1).val, x1_lt⟩ rfl rfl _ h0 (by omega) ?_
      rw [out15_gate (show 512 + (x 1).val < 1024 by omega)]
      exact gate_block m c t 512 _ _ _ _ _ _ _ _ ⟨(x 0).val, x0_lt⟩ ⟨(x 1).val, x1_lt⟩
    · refine land15 m c t y x (2048 + (256 + (x 1).val)) ⟨(x 0).val, x0_lt⟩ ⟨(x 1).val, x1_lt⟩ rfl rfl _ h0 (by omega) ?_
      rw [out15_xt (show 256 + (x 1).val < 1024 by omega)]
      exact factor_block m c t _ _ 256 _ _ _ _ _ _ _ ⟨(x 0).val, x0_lt⟩ ⟨(x 1).val, x1_lt⟩ (read5 m c t 256 _ ⟨(x 0).val, x0_lt⟩ ⟨(x 1).val, x1_lt⟩)
    · refine land15 m c t y x (1024 + (256 + (x 1).val)) ⟨(x 0).val, x0_lt⟩ ⟨(x 1).val, x1_lt⟩ rfl rfl _ h0 (by omega) ?_
      rw [out15_c (show 256 + (x 1).val < 1024 by omega)]
      exact factor_block m c t _ _ 256 _ _ _ _ _ _ _ ⟨(x 0).val, x0_lt⟩ ⟨(x 1).val, x1_lt⟩ (read6 m c t 256 _ ⟨(x 0).val, x0_lt⟩ ⟨(x 1).val, x1_lt⟩)
    · refine land15 m c t y x (256 + (x 1).val) ⟨(x 0).val, x0_lt⟩ ⟨(x 1).val, x1_lt⟩ rfl rfl _ h0 (by omega) ?_
      rw [out15_gate (show 256 + (x 1).val < 1024 by omega)]
      exact gate_block m c t 256 _ _ _ _ _ _ _ _ ⟨(x 0).val, x0_lt⟩ ⟨(x 1).val, x1_lt⟩
    · refine land15 m c t y x (2048 + (0 + (x 1).val)) ⟨(x 0).val, x0_lt⟩ ⟨(x 1).val, x1_lt⟩ rfl rfl _ h0 (by omega) ?_
      rw [out15_xt (show 0 + (x 1).val < 1024 by omega)]
      exact factor_block m c t _ _ 0 _ _ _ _ _ _ _ ⟨(x 0).val, x0_lt⟩ ⟨(x 1).val, x1_lt⟩ (read5 m c t 0 _ ⟨(x 0).val, x0_lt⟩ ⟨(x 1).val, x1_lt⟩)
    · refine land15 m c t y x (1024 + (0 + (x 1).val)) ⟨(x 0).val, x0_lt⟩ ⟨(x 1).val, x1_lt⟩ rfl rfl _ h0 (by omega) ?_
      rw [out15_c (show 0 + (x 1).val < 1024 by omega)]
      exact factor_block m c t _ _ 0 _ _ _ _ _ _ _ ⟨(x 0).val, x0_lt⟩ ⟨(x 1).val, x1_lt⟩ (read6 m c t 0 _ ⟨(x 0).val, x0_lt⟩ ⟨(x 1).val, x1_lt⟩)
    · refine land15 m c t y x (0 + (x 1).val) ⟨(x 0).val, x0_lt⟩ ⟨(x 1).val, x1_lt⟩ rfl rfl _ h0 (by omega) ?_
      rw [out15_gate (show 0 + (x 1).val < 1024 by omega)]
      exact gate_block m c t 0 _ _ _ _ _ _ _ _ ⟨(x 0).val, x0_lt⟩ ⟨(x 1).val, x1_lt⟩

end Cert.KernelIdeal.Mix

end
-- ==== Proof.Mix.Peel.lean ====
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import Idealize.ShloMosaic.Lib.Pipeline.ValueKit
import Idealize.ShloMosaic.Lib.Pipeline.Value
import Idealize.ShloMosaic.Lib.StableHlo.Run
import Idealize.ShloMosaic.Lib.WritesUnit

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen

open View

section Peel

variable {Val : EltTy → Type} [∀ e, Nonempty (Val e)] {e : EltTy}

/-- A store into a matrix, newest first: under it its payload, off it the earlier stores. -/
theorem peel2 {d : Fin 2 → ℕ} {o0 o1 s0 s1 : ℕ} (inb) (w : (⟨2, ![s0, s1]⟩ : Shape).Idx → Val e) (L : List (Piece Val (⟨2, d⟩ : Shape) e)) (y : (⟨2, d⟩ : Shape).Idx) (v : Val e)
    (h1 : ∀ x : (⟨2, ![s0, s1]⟩ : Shape).Idx, (y 0).val = o0 + (x 0).val → (y 1).val = o1 + (x 1).val → (x 0).val < s0 → (x 1).val < s1 → w x = v)
    (h2 : ¬ ((o0 ≤ (y 0).val ∧ (y 0).val < o0 + s0) ∧ (o1 ≤ (y 1).val ∧ (y 1).val < o1 + s1)) → canon L y = v) :
    canon ((⟨Rect.unit (s := ⟨2, d⟩) ![o0, o1] ![s0, s1] inb, w⟩ : Piece Val (⟨2, d⟩ : Shape) e) :: L) y = v := by
  by_cases hm : y ∈ (Rect.unit (s := ⟨2, d⟩) ![o0, o1] ![s0, s1] inb).set
  · obtain ⟨x, hx⟩ := (Rect.unit (s := ⟨2, d⟩) ![o0, o1] ![s0, s1] inb).exists_idx_of_mem hm
    have hx' : (Rect.unit (s := ⟨2, d⟩) ![o0, o1] ![s0, s1] inb).emb x = y := hx
    have he : ∀ a, (y a).val = ![o0, o1] a + (x a).val := fun a => by
      rw [← hx', Rect.emb_apply]; show ![o0, o1] a + 1 * (x a : ℕ) = _; omega
    rw [← hx', canon_cons_emb]
    exact h1 x (he 0) (he 1) (x 0).isLt (x 1).isLt
  · refine (canon_cons_of_not_mem (⟨Rect.unit (s := ⟨2, d⟩) ![o0, o1] ![s0, s1] inb, w⟩ : Piece Val (⟨2, d⟩ : Shape) e) L hm).trans ?_
    refine h2 fun h => hm ?_
    rw [Rect.mem_set_unit]
    exact Fin.forall_fin_two.mpr h

theorem peel3 {d : Fin 3 → ℕ} {o0 o1 o2 s0 s1 s2 : ℕ} (inb) (w : (⟨3, ![s0, s1, s2]⟩ : Shape).Idx → Val e) (L : List (Piece Val (⟨3, d⟩ : Shape) e)) (y : (⟨3, d⟩ : Shape).Idx) (v : Val e)
    (h1 : ∀ x : (⟨3, ![s0, s1, s2]⟩ : Shape).Idx, (y 0).val = o0 + (x 0).val → (y 1).val = o1 + (x 1).val → (y 2).val = o2 + (x 2).val →
      (x 0).val < s0 → (x 1).val < s1 → (x 2).val < s2 → w x = v)
    (h2 : ¬ ((o0 ≤ (y 0).val ∧ (y 0).val < o0 + s0) ∧ (o1 ≤ (y 1).val ∧ (y 1).val < o1 + s1) ∧ (o2 ≤ (y 2).val ∧ (y 2).val < o2 + s2)) → canon L y = v) :
    canon ((⟨Rect.unit (s := ⟨3, d⟩) ![o0, o1, o2] ![s0, s1, s2] inb, w⟩ : Piece Val (⟨3, d⟩ : Shape) e) :: L) y = v := by
  by_cases hm : y ∈ (Rect.unit (s := ⟨3, d⟩) ![o0, o1, o2] ![s0, s1, s2] inb).set
  · obtain ⟨x, hx⟩ := (Rect.unit (s := ⟨3, d⟩) ![o0, o1, o2] ![s0, s1, s2] inb).exists_idx_of_mem hm
    have hx' : (Rect.unit (s := ⟨3, d⟩) ![o0, o1, o2] ![s0, s1, s2] inb).emb x = y := hx
    have he : ∀ a, (y a).val = ![o0, o1, o2] a + (x a).val := fun a => by
      rw [← hx', Rect.emb_apply]; show ![o0, o1, o2] a + 1 * (x a : ℕ) = _; omega
    rw [← hx', canon_cons_emb]
    exact h1 x (he 0) (he 1) (he 2) (x 0).isLt (x 1).isLt (x 2).isLt
  · refine (canon_cons_of_not_mem (⟨Rect.unit (s := ⟨3, d⟩) ![o0, o1, o2] ![s0, s1, s2] inb, w⟩ : Piece Val (⟨3, d⟩ : Shape) e) L hm).trans ?_
    refine h2 fun h => hm ?_
    rw [Rect.mem_set_unit]
    intro a
    fin_cases a
    exacts [h.1, h.2.1, h.2.2]

/-- The same for a read of a buffer that held `f` before the stores. -/
theorem peelRead2 {sig : RefSig} {κ : Kind} {sp : Space} {d : Fin 2 → ℕ} {o0 o1 s0 s1 : ℕ} (vw : View sig κ sp (⟨2, d⟩ : Shape) e) (f : vw.ty.Contents Val) (inb)
    (w : (⟨2, ![s0, s1]⟩ : Shape).Idx → Val e) (L : List (Piece Val (⟨2, d⟩ : Shape) e)) (y : (⟨2, d⟩ : Shape).Idx) (v : Val e)
    (h1 : ∀ x : (⟨2, ![s0, s1]⟩ : Shape).Idx, (y 0).val = o0 + (x 0).val → (y 1).val = o1 + (x 1).val → (x 0).val < s0 → (x 1).val < s1 → w x = v)
    (h2 : ¬ ((o0 ≤ (y 0).val ∧ (y 0).val < o0 + s0) ∧ (o1 ≤ (y 1).val ∧ (y 1).val < o1 + s1)) → vw.read Val (vw.writes Val f L) y = v) :
    vw.read Val (vw.writes Val f ((⟨Rect.unit (s := ⟨2, d⟩) ![o0, o1] ![s0, s1] inb, w⟩ : Piece Val (⟨2, d⟩ : Shape) e) :: L)) y = v := by
  by_cases hm : y ∈ (Rect.unit (s := ⟨2, d⟩) ![o0, o1] ![s0, s1] inb).set
  · obtain ⟨x, hx⟩ := (Rect.unit (s := ⟨2, d⟩) ![o0, o1] ![s0, s1] inb).exists_idx_of_mem hm
    have hx' : (Rect.unit (s := ⟨2, d⟩) ![o0, o1] ![s0, s1] inb).emb x = y := hx
    have he : ∀ a, (y a).val = ![o0, o1] a + (x a).val := fun a => by
      rw [← hx', Rect.emb_apply]; show ![o0, o1] a + 1 * (x a : ℕ) = _; omega
    refine (read_writes_cons_unit_of_mem vw f inb w L y x rfl he).trans ?_
    exact h1 x (he 0) (he 1) (x 0).isLt (x 1).isLt
  · have hm' : ¬ ((o0 ≤ (y 0).val ∧ (y 0).val < o0 + s0) ∧ (o1 ≤ (y 1).val ∧ (y 1).val < o1 + s1)) := fun h => hm (by
      rw [Rect.mem_set_unit]
      exact Fin.forall_fin_two.mpr h)
    by_cases h0 : o0 ≤ (y 0).val ∧ (y 0).val < o0 + s0
    · refine (read_writes_cons_unit_of_not_mem vw f inb w L y rfl 1 (?_ : (y 1).val < o1 ∨ o1 + s1 ≤ (y 1).val)).trans (h2 hm')
      have : ¬ (o1 ≤ (y 1).val ∧ (y 1).val < o1 + s1) := fun h1 => hm' ⟨h0, h1⟩
      omega
    · refine (read_writes_cons_unit_of_not_mem vw f inb w L y rfl 0 (?_ : (y 0).val < o0 ∨ o0 + s0 ≤ (y 0).val)).trans (h2 hm')
      omega

omit [∀ e, Nonempty (Val e)] in
/-- A load of a matrix's rectangle, at an index. -/
theorem load2 {d : Fin 2 → ℕ} {o0 o1 s0 s1 : ℕ} (X : (⟨2, d⟩ : Shape).Idx → Val e) (inb) (x : (⟨2, ![s0, s1]⟩ : Shape).Idx) (y : (⟨2, d⟩ : Shape).Idx)
    (h0 : (y 0).val = o0 + (x 0).val) (h1 : (y 1).val = o1 + (x 1).val) :
    View.ld X (Rect.unit (s := ⟨2, d⟩) ![o0, o1] ![s0, s1] inb) x = X y := by
  refine congrArg X (funext fun a => Fin.ext ?_)
  show ![o0, o1] a + 1 * (x a : ℕ) = _
  rw [Nat.one_mul]
  fin_cases a
  exacts [h0.symm, h1.symm]

omit [∀ e, Nonempty (Val e)] in
theorem load3 {d : Fin 3 → ℕ} {o0 o1 o2 s0 s1 s2 : ℕ} (X : (⟨3, d⟩ : Shape).Idx → Val e) (inb) (x : (⟨3, ![s0, s1, s2]⟩ : Shape).Idx) (y : (⟨3, d⟩ : Shape).Idx)
    (h0 : (y 0).val = o0 + (x 0).val) (h1 : (y 1).val = o1 + (x 1).val) (h2 : (y 2).val = o2 + (x 2).val) :
    View.ld X (Rect.unit (s := ⟨3, d⟩) ![o0, o1, o2] ![s0, s1, s2] inb) x = X y := by
  refine congrArg X (funext fun a => Fin.ext ?_)
  show ![o0, o1, o2] a + 1 * (x a : ℕ) = _
  rw [Nat.one_mul]
  fin_cases a
  exacts [h0.symm, h1.symm, h2.symm]

end Peel

end Cert.KernelIdeal.Mix

end
-- ==== Proof.Mix.Acc.lean ====
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import Idealize.ShloMosaic.Lib.Pipeline.ValueKit
import Idealize.ShloMosaic.Lib.Pipeline.Value
import Idealize.ShloMosaic.Lib.StableHlo.Run
import Idealize.ShloMosaic.Lib.Pipeline.ReadBack
import proofs.«01_k».proof.Proof.Mix.Blocks
import proofs.«01_k».proof.Proof.Mix.Peel

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen

variable (m : (ℓ : Loc nD τ sig) → Buf (Elt Ideal) ℓ)

open Cert.Mix

section Groups

variable (a0 : BitVec 32) (v0 v1 : BitVec 1) (v : FVec Ideal S256x256 .bf16) (vh : FVec Ideal S16x256 .bf16) (dyp : FVec Ideal S256x256 .f32) (ps : FVec Ideal S1x256 .f32) (dypn : FVec Ideal S16x256 .f32) (pw : FVec Ideal S1x256x256 .bf16)
  (acc : FVec Ideal S1x256 .f32) (acc3 : FVec Ideal S1x256x256 .f32)

theorem scale2_eq : k0_pay73 (F := Ideal) (k0_pay71 a0 v0 vh v) (k0_pay72 pw) dyp acc
    = k0_pay73 (meanless a0 2#32 (k0_pay78 v0 vh v) (tr2 (k0_pay78 v0 vh v))) (k0_pay72 pw) dyp acc := rfl
theorem scale4_eq : k0_pay82 (F := Ideal) (k0_pay78 v0 vh v) (k0_pay79 v0 vh v) (k0_pay80 a0) pw dyp acc
    = k0_pay73 (meanless a0 4#32 (k0_pay78 v0 vh v) (tr4 (k0_pay78 v0 vh v))) (k0_pay72 pw) dyp acc := rfl
theorem scale8_eq : k0_pay89 (F := Ideal) a0 (k0_pay86 v0 vh v) (k0_pay87 v0 vh v) 256#32 pw dyp acc
    = k0_pay73 (meanless a0 8#32 (k0_pay78 v0 vh v) (tr8 (k0_pay78 v0 vh v))) (k0_pay72 pw) dyp acc := rfl
theorem scale16_eq : k0_pay95 (F := Ideal) a0 v0 (k0_pay93 vh) (FloatOps.ofBits .f32 0#32) v pw dyp acc
    = k0_pay73 (meanless a0 16#32 (k0_pay78 v0 vh v) (tr16 (k0_pay78 v0 vh v))) (k0_pay72 pw) dyp acc := rfl

theorem pool2_eq : k0_pay75 (F := Ideal) v1 (k0_pay71 a0 v0 vh v) dyp ps dypn acc3
    = k0_pay91 (meanless a0 2#32 (k0_pay78 v0 vh v) (tr2 (k0_pay78 v0 vh v))) (k0_pay74 v1 dyp ps dypn) acc3 := rfl
theorem pool4_eq : k0_pay84 (F := Ideal) v1 (k0_pay78 v0 vh v) (k0_pay79 v0 vh v) (k0_pay80 a0) dyp ps dypn acc3
    = k0_pay91 (meanless a0 4#32 (k0_pay78 v0 vh v) (tr4 (k0_pay78 v0 vh v))) (k0_pay74 v1 dyp ps dypn) acc3 := rfl
theorem pool8_eq : k0_pay91 (F := Ideal) (k0_pay88 a0 (k0_pay86 v0 vh v) (k0_pay87 v0 vh v) 256#32) (k0_pay90 v1 dyp ps dypn) acc3
    = k0_pay91 (meanless a0 8#32 (k0_pay78 v0 vh v) (tr8 (k0_pay78 v0 vh v))) (k0_pay74 v1 dyp ps dypn) acc3 := rfl
theorem pool16_eq : k0_pay97 (F := Ideal) v1 (k0_pay94 a0 v0 (k0_pay93 vh) (FloatOps.ofBits .f32 0#32) v) dyp ps dypn acc3
    = k0_pay91 (meanless a0 16#32 (k0_pay78 v0 vh v) (tr16 (k0_pay78 v0 vh v))) (k0_pay74 v1 dyp ps dypn) acc3 := rfl

end Groups

/-- Sixteen blocks of 256 rows are the 4096 rows. -/
theorem sum_blocks (f : ℕ → EReal) (F : Fin cfg0.N → EReal) (h : ∀ t, F t = ∑ r : Fin 256, f (256 * t.val + r)) :
    ∑ t : Fin cfg0.N, F t = ∑ t : Fin 4096, f t := by
  rw [Finset.sum_congr rfl fun t _ => h t]
  exact Fin.sum_mul_add_congr (f := fun t : Fin 4096 => f t) (fun t r hl => by rw [Nat.mul_comm]) (by rw [show cfg0.N = 16 from N_0])

/-- No row of the gradient past the last. -/
theorem DY_end (c : Dev nD) (t d : ℕ) (h : 4096 ≤ t) : DYf m c t d = 0 := at2_row _ h

/-- What block `t` adds to the gradient of the scales. -/
noncomputable def scaleTerm (c : Dev nD) (t : Fin cfg0.N) (j : S1x1024.Idx) : EReal :=
  ∑ r : Fin 256, DYf m c (256 * t.val + r) (1024 + (j 1).val) * zed (PJf m c) (PWf m c) (win ((j 1).val / 256)) ((j 1).val / 256) (256 * t.val + r) ((j 1).val % 256)

/-- What block `t` adds to the gradient of the pool's weights. -/
noncomputable def poolTerm (c : Dev nD) (t : Fin cfg0.N) (j : S4x256x256.Idx) : EReal :=
  ∑ r : Fin 256, diff (PJf m c) (win (j 0).val) (256 * t.val + r) (256 * (j 0).val + (j 1).val) * dz (DYf m c) (PSf m c) (256 * t.val + r) (256 * (j 0).val + (j 2).val)

theorem scale_block (c : Dev nD) (t : Fin cfg0.N) (g o w : ℕ) (ho : o = 256 * g) (hw : w ≤ 16) (hwin : w = win g) (i11 i7 i13 i1) (T : FVec Ideal S272x256 .f32 → FVec Ideal S272x256 .f32)
    (hT : ∀ X, Trails w X (T X)) (acc : FVec Ideal S1x256 .f32) (x : S1x256.Idx) (j : S1x1024.Idx) (A : EReal) (h1 : (j 1).val = o + (x 1).val) (hacc : acc x = A) :
    k0_pay73 (F := Ideal) (meanless (BitVec.ofNat 32 t.val) (BitVec.ofNat 32 w)
        (k0_pay78 (past t.val) (View.ld (iblk m c 11 t) (Rect.unit ![0, o] ![16, 256] i11)) (View.ld (iblk m c 7 t) (Rect.unit ![0, o] ![256, 256] i7)))
        (T (k0_pay78 (past t.val) (View.ld (iblk m c 11 t) (Rect.unit ![0, o] ![16, 256] i11)) (View.ld (iblk m c 7 t) (Rect.unit ![0, o] ![256, 256] i7)))))
      (k0_pay72 (View.ld (iblk m c 13 t) (Rect.unit ![g, 0, 0] ![1, 256, 256] i13))) (View.ld (iblk m c 1 t) (Rect.unit ![0, o] ![256, 256] i1)) acc x
      = A + scaleTerm m c t j := by
  subst ho hacc hwin
  obtain ⟨d, hd⟩ : ∃ d : Fin 256, x = ix2 (0 : Fin 1) d := ⟨⟨(x 1).val, (x 1).isLt⟩, by funext a; fin_cases a; exacts [Subsingleton.elim (α := Fin 1) _ _, rfl]⟩
  subst hd
  rw [dScale_at (lt_of_lt_of_eq t.isLt N_0) (read7 m c t _ i7) (fun h => read11 m c t h _ i11) (read1 m c t _ i1) (fun r d => read13 m c t g i13 0 r d) (win g) hw (hT _), scaleTerm]
  have e : (j 1).val = 256 * g + d.val := h1
  have hd := d.isLt
  rw [e, show (256 * g + d.val) / 256 = g by omega, show (256 * g + d.val) % 256 = d.val by omega]

theorem pool_acc (c : Dev nD) (t : Fin cfg0.N) (g o w : ℕ) (ho : o = 256 * g) (hw : w ≤ 16) (hwin : w = win g) (i11 i7 i14 i1 i3) (T : FVec Ideal S272x256 .f32 → FVec Ideal S272x256 .f32)
    (hT : ∀ X, Trails w X (T X)) (acc : FVec Ideal S1x256x256 .f32) (x : S1x256x256.Idx) (j : S4x256x256.Idx) (A : EReal)
    (h0 : (j 0).val = g + (x 0).val) (h1 : (j 1).val = (x 1).val) (h2 : (j 2).val = (x 2).val) (hacc : acc x = A) :
    k0_pay91 (F := Ideal) (meanless (BitVec.ofNat 32 t.val) (BitVec.ofNat 32 w)
        (k0_pay78 (past t.val) (View.ld (iblk m c 11 t) (Rect.unit ![0, o] ![16, 256] i11)) (View.ld (iblk m c 7 t) (Rect.unit ![0, o] ![256, 256] i7)))
        (T (k0_pay78 (past t.val) (View.ld (iblk m c 11 t) (Rect.unit ![0, o] ![16, 256] i11)) (View.ld (iblk m c 7 t) (Rect.unit ![0, o] ![256, 256] i7)))))
      (k0_pay74 (ahead t.val) (View.ld (iblk m c 1 t) (Rect.unit ![0, o] ![256, 256] i1)) (View.ld (iblk m c 14 t) (Rect.unit ![0, o] ![1, 256] i14)) (View.ld (iblk m c 3 t) (Rect.unit ![0, o] ![16, 256] i3))) acc x
      = A + poolTerm m c t j := by
  subst ho hacc hwin
  obtain ⟨p, d, hd⟩ : ∃ p d : Fin 256, x = ix3 (0 : Fin 1) p d :=
    ⟨⟨(x 1).val, (x 1).isLt⟩, ⟨(x 2).val, (x 2).isLt⟩, by funext a; fin_cases a; exacts [Subsingleton.elim (α := Fin 1) _ _, rfl, rfl]⟩
  subst hd
  rw [dPool_at (lt_of_lt_of_eq t.isLt N_0) (read7 m c t _ i7) (fun h => read11 m c t h _ i11) (read1 m c t _ i1) (fun h => read3 m c t h _ i3) (read14 m c t _ i14) (DY_end m c) (win g) hw (hT _), poolTerm]
  have e0 : (j 0).val = g := h0
  have e1 : (j 1).val = p.val := h1
  have e2 : (j 2).val = d.val := h2
  rw [e0, e1, e2]

theorem zero4 (j : S1x1024.Idx) : (k0_pay4 (F := Ideal) j : EReal) = 0 := by
  show Ideal.ofBits .f32 0x00000000#32 = 0
  simp [Ideal.ofBits, Ideal.ieee, -EReal.coe_mul]

theorem zero3 (j : S4x256x256.Idx) : (k0_pay3 (F := Ideal) j : EReal) = 0 := by
  show Ideal.ofBits .f32 0x00000000#32 = 0
  simp [Ideal.ofBits, Ideal.ieee, -EReal.coe_mul]

theorem reset18 (c : Dev nD) (t : Fin cfg0.N) (h : t.val % 16 = 0) (j) : (outsAt0 m c t.val t.isLt).2.2.2 j = 0 + scaleTerm m c t j := by
  obtain ⟨b0, b1, b2⟩ := bits t
  rw [outsAt0_A m c t h]
  dsimp only
  frame_open
  simp (disch := decide) only [↓ View.readCov_skip, ↓ View.readCov_cons_toLoadRect, ↓ View.readCov_fill]
  frame_out
  rw [b0, b2]
  clear h
  refine peel2 _ _ _ j _ (fun x h0 h1 x0_lt x1_lt => ?_) fun n0 => ?_
  · refine (congrFun (scale16_eq _ _ _ _ _ _ _) x).trans ?_
    exact scale_block m c t 3 768 16 rfl (by decide) rfl _ _ _ _ tr16 tr16_at _ x j _ (by omega) ((load2 _ _ x j (by omega) (by omega)).trans (zero4 j))
  refine peel2 _ _ _ j _ (fun x h0 h1 x0_lt x1_lt => ?_) fun n1 => ?_
  · refine (congrFun (scale8_eq _ _ _ _ _ _ _) x).trans ?_
    exact scale_block m c t 2 512 8 rfl (by decide) rfl _ _ _ _ tr8 tr8_at _ x j _ (by omega) ((load2 _ _ x j (by omega) (by omega)).trans (zero4 j))
  refine peel2 _ _ _ j _ (fun x h0 h1 x0_lt x1_lt => ?_) fun n2 => ?_
  · refine (congrFun (scale4_eq _ _ _ _ _ _ _) x).trans ?_
    exact scale_block m c t 1 256 4 rfl (by decide) rfl _ _ _ _ tr4 tr4_at _ x j _ (by omega) ((load2 _ _ x j (by omega) (by omega)).trans (zero4 j))
  refine peel2 _ _ _ j _ (fun x h0 h1 x0_lt x1_lt => ?_) fun n3 => ?_
  · refine (congrFun (scale2_eq _ _ _ _ _ _ _) x).trans ?_
    exact scale_block m c t 0 0 2 rfl (by decide) rfl _ _ _ _ tr2 tr2_at _ x j _ (by omega) ((load2 _ _ x j (by omega) (by omega)).trans (zero4 j))
  have l0 : (j 0).val < 1 := (j 0).isLt
  have l1 : (j 1).val < 1024 := (j 1).isLt
  omega

theorem step18 (c : Dev nD) (t : Fin cfg0.N) (h : ¬ t.val % 16 = 0) (j) : (outsAt0 m c t.val t.isLt).2.2.2 j = (outsAt0 m c (t.val - 1) (by omega)).2.2.2 j + scaleTerm m c t j := by
  obtain ⟨b0, b1, b2⟩ := bits t
  rw [outsAt0_B m c t h]
  dsimp only
  frame_out
  rw [b0, b2]
  clear h
  canon_tiles x h
  · refine (congrFun (scale16_eq _ _ _ _ _ _ _) x).trans ?_
    exact scale_block m c t 3 768 16 rfl (by decide) rfl _ _ _ _ tr16 tr16_at _ x j _ (by omega) (load2 _ _ x j (by omega) (by omega))
  · refine (congrFun (scale8_eq _ _ _ _ _ _ _) x).trans ?_
    exact scale_block m c t 2 512 8 rfl (by decide) rfl _ _ _ _ tr8 tr8_at _ x j _ (by omega) (load2 _ _ x j (by omega) (by omega))
  · refine (congrFun (scale4_eq _ _ _ _ _ _ _) x).trans ?_
    exact scale_block m c t 1 256 4 rfl (by decide) rfl _ _ _ _ tr4 tr4_at _ x j _ (by omega) (load2 _ _ x j (by omega) (by omega))
  · refine (congrFun (scale2_eq _ _ _ _ _ _ _) x).trans ?_
    exact scale_block m c t 0 0 2 rfl (by decide) rfl _ _ _ _ tr2 tr2_at _ x j _ (by omega) (load2 _ _ x j (by omega) (by omega))

theorem reset17 (c : Dev nD) (t : Fin cfg0.N) (h : t.val % 16 = 0) (j) : (outsAt0 m c t.val t.isLt).2.2.1 j = 0 + poolTerm m c t j := by
  obtain ⟨b0, b1, b2⟩ := bits t
  rw [outsAt0_A m c t h]
  dsimp only
  frame_open
  simp (disch := decide) only [↓ View.readCov_skip, ↓ View.readCov_cons_toLoadRect, ↓ View.readCov_fill]
  frame_out
  rw [b0, b1, b2]
  clear h
  refine peel3 _ _ _ j _ (fun x h0 h1 h2 x0_lt x1_lt x2_lt => ?_) fun n0 => ?_
  · refine (congrFun (pool16_eq _ _ _ _ _ _ _ _ _) x).trans ?_
    exact pool_acc m c t 3 768 16 rfl (by decide) rfl _ _ _ _ _ tr16 tr16_at _ x j _ (by omega) (by omega) (by omega) ((load3 _ _ x j (by omega) (by omega) (by omega)).trans (zero3 j))
  refine peel3 _ _ _ j _ (fun x h0 h1 h2 x0_lt x1_lt x2_lt => ?_) fun n1 => ?_
  · refine (congrFun (pool8_eq _ _ _ _ _ _ _ _ _) x).trans ?_
    exact pool_acc m c t 2 512 8 rfl (by decide) rfl _ _ _ _ _ tr8 tr8_at _ x j _ (by omega) (by omega) (by omega) ((load3 _ _ x j (by omega) (by omega) (by omega)).trans (zero3 j))
  refine peel3 _ _ _ j _ (fun x h0 h1 h2 x0_lt x1_lt x2_lt => ?_) fun n2 => ?_
  · refine (congrFun (pool4_eq _ _ _ _ _ _ _ _ _) x).trans ?_
    exact pool_acc m c t 1 256 4 rfl (by decide) rfl _ _ _ _ _ tr4 tr4_at _ x j _ (by omega) (by omega) (by omega) ((load3 _ _ x j (by omega) (by omega) (by omega)).trans (zero3 j))
  refine peel3 _ _ _ j _ (fun x h0 h1 h2 x0_lt x1_lt x2_lt => ?_) fun n3 => ?_
  · refine (congrFun (pool2_eq _ _ _ _ _ _ _ _ _) x).trans ?_
    exact pool_acc m c t 0 0 2 rfl (by decide) rfl _ _ _ _ _ tr2 tr2_at _ x j _ (by omega) (by omega) (by omega) ((load3 _ _ x j (by omega) (by omega) (by omega)).trans (zero3 j))
  have l0 : (j 0).val < 4 := (j 0).isLt
  have l1 : (j 1).val < 256 := (j 1).isLt
  have l2 : (j 2).val < 256 := (j 2).isLt
  omega

theorem step17 (c : Dev nD) (t : Fin cfg0.N) (h : ¬ t.val % 16 = 0) (j) : (outsAt0 m c t.val t.isLt).2.2.1 j = (outsAt0 m c (t.val - 1) (by omega)).2.2.1 j + poolTerm m c t j := by
  obtain ⟨b0, b1, b2⟩ := bits t
  rw [outsAt0_B m c t h]
  dsimp only
  frame_out
  rw [b0, b1, b2]
  clear h
  canon_tiles x h
  · refine (congrFun (pool16_eq _ _ _ _ _ _ _ _ _) x).trans ?_
    exact pool_acc m c t 3 768 16 rfl (by decide) rfl _ _ _ _ _ tr16 tr16_at _ x j _ (by omega) (by omega) (by omega) (load3 _ _ x j (by omega) (by omega) (by omega))
  · refine (congrFun (pool8_eq _ _ _ _ _ _ _ _ _) x).trans ?_
    exact pool_acc m c t 2 512 8 rfl (by decide) rfl _ _ _ _ _ tr8 tr8_at _ x j _ (by omega) (by omega) (by omega) (load3 _ _ x j (by omega) (by omega) (by omega))
  · refine (congrFun (pool4_eq _ _ _ _ _ _ _ _ _) x).trans ?_
    exact pool_acc m c t 1 256 4 rfl (by decide) rfl _ _ _ _ _ tr4 tr4_at _ x j _ (by omega) (by omega) (by omega) (load3 _ _ x j (by omega) (by omega) (by omega))
  · refine (congrFun (pool2_eq _ _ _ _ _ _ _ _ _) x).trans ?_
    exact pool_acc m c t 0 0 2 rfl (by decide) rfl _ _ _ _ _ tr2 tr2_at _ x j _ (by omega) (by omega) (by omega) (load3 _ _ x j (by omega) (by omega) (by omega))

/-- The gradient of the scales. -/
noncomputable def scale18 (c : Dev nD) : FVec Ideal S1x1024 .f32 := fun j => dScale (DYf m c) (PJf m c) (PWf m c) (win ((j 1).val / 256)) ((j 1).val / 256) ((j 1).val % 256)

/-- The gradient of the pool's weights. -/
noncomputable def pool17 (c : Dev nD) : FVec Ideal S4x256x256 .f32 := fun j => dPool (DYf m c) (PJf m c) (PSf m c) (win (j 0).val) (j 0).val (j 1).val (j 2).val

theorem final18 (c : Dev nD) : (dats m 0 c).arrAt 18 cfg0.N = scale18 m c := by
  refine (dats m 0 c).arrAt_eq_of_after_last 18 t0_15 (by decide +kernel) _ fun j => ?_
  blk_simp
  rw [after0_18, Pipeline.eq_sum_fin_of_reset_step_apply_last (fun n h => (outsAt0 m c n h).2.2.2) 16 (fun _ => 0) (scaleTerm m c)
    (fun t h j => reset18 m c t h j) (fun t h j => step18 m c t h j)
    (le_of_eq N_0) t0_15 rfl j, zero_add]
  show (∑ p : Fin cfg0.N, scaleTerm m c p j : EReal) = dScale (DYf m c) (PJf m c) (PWf m c) (win ((j 1).val / 256)) ((j 1).val / 256) ((j 1).val % 256)
  rw [dScale]
  refine sum_blocks (fun t => DYf m c t (1024 + (256 * ((j 1).val / 256) + (j 1).val % 256)) * zed (PJf m c) (PWf m c) (win ((j 1).val / 256)) ((j 1).val / 256) t ((j 1).val % 256))
    (scaleTerm m c · j) fun t => ?_
  rw [scaleTerm, show 256 * ((j 1).val / 256) + (j 1).val % 256 = (j 1).val by omega]

theorem final17 (c : Dev nD) : (dats m 0 c).arrAt 17 cfg0.N = pool17 m c := by
  refine (dats m 0 c).arrAt_eq_of_after_last 17 t0_15 (by decide +kernel) _ fun j => ?_
  blk_simp
  rw [after0_17, Pipeline.eq_sum_fin_of_reset_step_apply_last (fun n h => (outsAt0 m c n h).2.2.1) 16 (fun _ => 0) (poolTerm m c)
    (fun t h j => reset17 m c t h j) (fun t h j => step17 m c t h j)
    (le_of_eq N_0) t0_15 rfl j, zero_add]
  show (∑ p : Fin cfg0.N, poolTerm m c p j : EReal) = dPool (DYf m c) (PJf m c) (PSf m c) (win (j 0).val) (j 0).val (j 1).val (j 2).val
  rw [dPool]
  exact sum_blocks (fun t => diff (PJf m c) (win (j 0).val) t (256 * (j 0).val + (j 1).val) * dz (DYf m c) (PSf m c) t (256 * (j 0).val + (j 2).val))
    (poolTerm m c · j) fun t => rfl

end Cert.KernelIdeal.Mix

end
-- ==== Proof.Mix.Taps.lean ====
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import Idealize.ShloMosaic.Lib.Pipeline.ValueKit
import Idealize.ShloMosaic.Lib.Pipeline.Value
import Idealize.ShloMosaic.Lib.StableHlo.Run
import Idealize.ShloMosaic.Lib.Pipeline.ReadBack
import proofs.«01_k».proof.Proof.Mix.Acc

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen

variable (m : (ℓ : Loc nD τ sig) → Buf (Elt Ideal) ℓ)

open Cert.Mix

section Taps

variable (i : grid0.Coords) (v0 : BitVec 1) (c xt b : FVec Ideal S256x256 .bf16) (ch xth : FVec Ideal S16x256 .bf16) (dy : FVec Ideal S256x256 .f32) (acc : FVec Ideal S1x256 .f32)

theorem tap30_eq : k0_pay70 (F := Ideal) (k0_pay56 v0 (k0_pay52 c) (k0_pay53 xt) (k0_pay54 ch) xth) (k0_pay60 dy b) acc
    = k0_pay49 (k0_pay40 v0 c xt ch xth) (k0_pay45 dy b) acc := rfl
theorem tap31_eq : k0_pay69 (F := Ideal) (k0_pay67 acc) (k0_pay68 (k0_pay57 v0 (k0_pay52 c) (k0_pay53 xt) (k0_pay54 ch) xth) (k0_pay60 dy b))
    = k0_pay49 (k0_pay41 v0 c xt ch xth) (k0_pay45 dy b) acc := rfl
theorem tap32_eq : k0_pay66 (F := Ideal) (k0_pay58 v0 (k0_pay52 c) (k0_pay53 xt) (k0_pay54 ch) xth) (k0_pay60 dy b) acc
    = k0_pay49 (k0_pay42 v0 c xt ch xth) (k0_pay45 dy b) acc := rfl
theorem tap20_eq : k0_pay51 (F := Ideal) (k0_pay40 v0 c xt ch xth) (k0_pay45 dy b) acc
    = k0_pay49 (k0_pay40 v0 c xt ch xth) (k0_pay45 dy b) acc := rfl
theorem tap21_eq : k0_pay50 (F := Ideal) (k0_pay41 v0 c xt ch xth) (k0_pay45 dy b) acc
    = k0_pay49 (k0_pay41 v0 c xt ch xth) (k0_pay45 dy b) acc := rfl
theorem tap22_eq : k0_pay49 (F := Ideal) (k0_pay42 v0 c xt ch xth) (k0_pay45 dy b) acc
    = k0_pay49 (k0_pay42 v0 c xt ch xth) (k0_pay45 dy b) acc := rfl
theorem tap10_eq : k0_pay36 (F := Ideal) (k0_pay25 v0 (k0_pay21 c) (k0_pay22 xt) (k0_pay23 ch xth)) (k0_pay29 dy b) acc
    = k0_pay49 (k0_pay40 v0 c xt ch xth) (k0_pay45 dy b) acc := rfl
theorem tap11_eq : k0_pay35 (F := Ideal) (k0_pay26 v0 (k0_pay21 c) (k0_pay22 xt) (k0_pay23 ch xth)) (k0_pay29 dy b) acc
    = k0_pay49 (k0_pay41 v0 c xt ch xth) (k0_pay45 dy b) acc := rfl
theorem tap12_eq : k0_pay34 (F := Ideal) (k0_pay27 v0 (k0_pay21 c) (k0_pay22 xt) (k0_pay23 ch xth)) (k0_pay29 dy b) acc
    = k0_pay49 (k0_pay42 v0 c xt ch xth) (k0_pay45 dy b) acc := rfl
theorem tap00_eq : k0_pay20 (F := Ideal) (k0_pay8 i c xt ch xth) (k0_pay14 dy b) acc
    = k0_pay49 (k0_pay40 (Scalar.cmpi .sgt (BitVec.ofNat 32 (i 0).val) 0#32) c xt ch xth) (k0_pay45 dy b) acc := rfl
theorem tap01_eq : k0_pay19 (F := Ideal) (k0_pay9 i c xt ch xth) (k0_pay14 dy b) acc
    = k0_pay49 (k0_pay41 (Scalar.cmpi .sgt (BitVec.ofNat 32 (i 0).val) 0#32) c xt ch xth) (k0_pay45 dy b) acc := rfl
theorem tap02_eq : k0_pay18 (F := Ideal) (k0_pay10 i c xt ch xth) (k0_pay14 dy b) acc
    = k0_pay49 (k0_pay42 (Scalar.cmpi .sgt (BitVec.ofNat 32 (i 0).val) 0#32) c xt ch xth) (k0_pay45 dy b) acc := rfl

end Taps

/-- What block `t` adds to the gradient of the filter's taps, the latest row first. -/
noncomputable def tapTerm (c : Dev nD) (t : Fin cfg0.N) (j : S8x1024.Idx) : EReal :=
  if (j 0).val < 3 then ∑ r : Fin 256, dConv (DYf m c) (PJf m c) (256 * t.val + r) (j 1).val * lag (PJf m c) (2 - (j 0).val) (256 * t.val + r) (j 1).val else 0

theorem tap_block (c : Dev nD) (t : Fin cfg0.N) (k q : ℕ) (hq : k = 2 - q) (o : ℕ) (L : FVec Ideal S256x256 .f32) (i0 i4) (hL : ∀ r d : Fin 256, L (ix2 r d) = lag (PJf m c) k (256 * t.val + r) (o + d))
    (acc : FVec Ideal S1x256 .f32) (x : S1x256.Idx) (j : S8x1024.Idx) (A : EReal) (h0 : (j 0).val = q + (x 0).val) (hq3 : q < 3) (h1 : (j 1).val = o + (x 1).val) (hacc : acc x = A) :
    k0_pay49 (F := Ideal) L (k0_pay45 (View.ld (iblk m c 0 t) (Rect.unit ![0, o] ![256, 256] i0)) (View.ld (iblk m c 4 t) (Rect.unit ![0, o] ![256, 256] i4))) acc x = A + tapTerm m c t j := by
  subst hacc
  obtain ⟨d, hd⟩ : ∃ d : Fin 256, x = ix2 (0 : Fin 1) d := ⟨⟨(x 1).val, (x 1).isLt⟩, by funext a; fin_cases a; exacts [Subsingleton.elim (α := Fin 1) _ _, rfl]⟩
  subst hd
  have e0 : (j 0).val = q := h0
  have e1 : (j 1).val = o + d.val := h1
  rw [tap_at, tapTerm, e0, if_pos hq3, e1, hq.symm]
  refine Ideal.add_congr rfl (Fin.sum_fin_congr fun r => ?_)
  rw [hL, dConv_at (read0 m c t o i0) (read4 m c t o i4)]

theorem zero2 (j : S8x1024.Idx) : (k0_pay2 (F := Ideal) j : EReal) = 0 := by
  show Ideal.ofBits .f32 0x00000000#32 = 0
  simp [Ideal.ofBits, Ideal.ieee, -EReal.coe_mul]

theorem tapTerm_rest (c : Dev nD) (t : Fin cfg0.N) (j : S8x1024.Idx) (h : ¬ (j 0).val < 3) : tapTerm m c t j = 0 := if_neg h

theorem reset16 (c : Dev nD) (t : Fin cfg0.N) (h : t.val % 16 = 0) (j : S8x1024.Idx) : (outsAt0 m c t.val t.isLt).2.1 j = 0 + tapTerm m c t j := by
  obtain ⟨b0, b1, b2⟩ := bits t
  rw [outsAt0_A m c t h]
  dsimp only
  frame_open
  simp (disch := decide) only [↓ View.readCov_skip, ↓ View.readCov_cons_toLoadRect, ↓ View.readCov_fill]
  frame_out
  simp only [tap30_eq, tap31_eq, tap32_eq, tap20_eq, tap21_eq, tap10_eq, tap11_eq, tap12_eq, tap00_eq, tap01_eq, tap02_eq]
  rw [b0]
  clear h
  refine peel2 _ _ _ j _ (fun x h0 h1 x0_lt x1_lt => ?_) fun n0 => ?_
  · exact tap_block m c t 0 2 rfl 768 _ _ _ (lag0_at (read5 m c t 768 _) (read6 m c t 768 _) (fun h => read9 m c t h 768 _) (fun h => read10 m c t h 768 _)) _ x j _ (by omega) (by decide) (by omega) ((load2 _ _ x j (by omega) (by omega)).trans (zero2 j))
  refine peel2 _ _ _ j _ (fun x h0 h1 x0_lt x1_lt => ?_) fun n1 => ?_
  · exact tap_block m c t 1 1 rfl 768 _ _ _ (lag1_at (read5 m c t 768 _) (read6 m c t 768 _) (fun h => read9 m c t h 768 _) (fun h => read10 m c t h 768 _)) _ x j _ (by omega) (by decide) (by omega) ((load2 _ _ x j (by omega) (by omega)).trans (zero2 j))
  refine peel2 _ _ _ j _ (fun x h0 h1 x0_lt x1_lt => ?_) fun n2 => ?_
  · exact tap_block m c t 2 0 rfl 768 _ _ _ (lag2_at (read5 m c t 768 _) (read6 m c t 768 _) (fun h => read9 m c t h 768 _) (fun h => read10 m c t h 768 _)) _ x j _ (by omega) (by decide) (by omega) ((load2 _ _ x j (by omega) (by omega)).trans (zero2 j))
  refine peel2 _ _ _ j _ (fun x h0 h1 x0_lt x1_lt => ?_) fun n3 => ?_
  · exact tap_block m c t 0 2 rfl 512 _ _ _ (lag0_at (read5 m c t 512 _) (read6 m c t 512 _) (fun h => read9 m c t h 512 _) (fun h => read10 m c t h 512 _)) _ x j _ (by omega) (by decide) (by omega) ((load2 _ _ x j (by omega) (by omega)).trans (zero2 j))
  refine peel2 _ _ _ j _ (fun x h0 h1 x0_lt x1_lt => ?_) fun n4 => ?_
  · exact tap_block m c t 1 1 rfl 512 _ _ _ (lag1_at (read5 m c t 512 _) (read6 m c t 512 _) (fun h => read9 m c t h 512 _) (fun h => read10 m c t h 512 _)) _ x j _ (by omega) (by decide) (by omega) ((load2 _ _ x j (by omega) (by omega)).trans (zero2 j))
  refine peel2 _ _ _ j _ (fun x h0 h1 x0_lt x1_lt => ?_) fun n5 => ?_
  · exact tap_block m c t 2 0 rfl 512 _ _ _ (lag2_at (read5 m c t 512 _) (read6 m c t 512 _) (fun h => read9 m c t h 512 _) (fun h => read10 m c t h 512 _)) _ x j _ (by omega) (by decide) (by omega) ((load2 _ _ x j (by omega) (by omega)).trans (zero2 j))
  refine peel2 _ _ _ j _ (fun x h0 h1 x0_lt x1_lt => ?_) fun n6 => ?_
  · exact tap_block m c t 0 2 rfl 256 _ _ _ (lag0_at (read5 m c t 256 _) (read6 m c t 256 _) (fun h => read9 m c t h 256 _) (fun h => read10 m c t h 256 _)) _ x j _ (by omega) (by decide) (by omega) ((load2 _ _ x j (by omega) (by omega)).trans (zero2 j))
  refine peel2 _ _ _ j _ (fun x h0 h1 x0_lt x1_lt => ?_) fun n7 => ?_
  · exact tap_block m c t 1 1 rfl 256 _ _ _ (lag1_at (read5 m c t 256 _) (read6 m c t 256 _) (fun h => read9 m c t h 256 _) (fun h => read10 m c t h 256 _)) _ x j _ (by omega) (by decide) (by omega) ((load2 _ _ x j (by omega) (by omega)).trans (zero2 j))
  refine peel2 _ _ _ j _ (fun x h0 h1 x0_lt x1_lt => ?_) fun n8 => ?_
  · exact tap_block m c t 2 0 rfl 256 _ _ _ (lag2_at (read5 m c t 256 _) (read6 m c t 256 _) (fun h => read9 m c t h 256 _) (fun h => read10 m c t h 256 _)) _ x j _ (by omega) (by decide) (by omega) ((load2 _ _ x j (by omega) (by omega)).trans (zero2 j))
  refine peel2 _ _ _ j _ (fun x h0 h1 x0_lt x1_lt => ?_) fun n9 => ?_
  · exact tap_block m c t 0 2 rfl 0 _ _ _ (lag0_at (read5 m c t 0 _) (read6 m c t 0 _) (fun h => read9 m c t h 0 _) (fun h => read10 m c t h 0 _)) _ x j _ (by omega) (by decide) (by omega) ((load2 _ _ x j (by omega) (by omega)).trans (zero2 j))
  refine peel2 _ _ _ j _ (fun x h0 h1 x0_lt x1_lt => ?_) fun n10 => ?_
  · exact tap_block m c t 1 1 rfl 0 _ _ _ (lag1_at (read5 m c t 0 _) (read6 m c t 0 _) (fun h => read9 m c t h 0 _) (fun h => read10 m c t h 0 _)) _ x j _ (by omega) (by decide) (by omega) ((load2 _ _ x j (by omega) (by omega)).trans (zero2 j))
  refine peel2 _ _ _ j _ (fun x h0 h1 x0_lt x1_lt => ?_) fun n11 => ?_
  · exact tap_block m c t 2 0 rfl 0 _ _ _ (lag2_at (read5 m c t 0 _) (read6 m c t 0 _) (fun h => read9 m c t h 0 _) (fun h => read10 m c t h 0 _)) _ x j _ (by omega) (by decide) (by omega) ((load2 _ _ x j (by omega) (by omega)).trans (zero2 j))
  have l1 : (j 1).val < 1024 := (j 1).isLt
  have hj : ¬ (j 0).val < 3 := by omega
  rw [tapTerm_rest m c t j hj, zero_add]
  refine peel2 _ _ _ j _ (fun x h0 h1 x0_lt x1_lt => zero2 x) fun n => absurd ?_ n
  have l0 : (j 0).val < 8 := (j 0).isLt
  omega

theorem step16 (c : Dev nD) (t : Fin cfg0.N) (h : ¬ t.val % 16 = 0) (j : S8x1024.Idx) : (outsAt0 m c t.val t.isLt).2.1 j = (outsAt0 m c (t.val - 1) (by omega)).2.1 j + tapTerm m c t j := by
  obtain ⟨b0, b1, b2⟩ := bits t
  rw [outsAt0_B m c t h]
  dsimp only
  frame_out
  simp only [tap30_eq, tap31_eq, tap32_eq, tap20_eq, tap21_eq, tap10_eq, tap11_eq, tap12_eq, tap00_eq, tap01_eq, tap02_eq]
  rw [b0]
  clear h
  refine peelRead2 _ _ _ _ _ j _ (fun x h0 h1 x0_lt x1_lt => ?_) fun n0 => ?_
  · exact tap_block m c t 0 2 rfl 768 _ _ _ (lag0_at (read5 m c t 768 _) (read6 m c t 768 _) (fun h => read9 m c t h 768 _) (fun h => read10 m c t h 768 _)) _ x j _ (by omega) (by decide) (by omega) (load2 _ _ x j (by omega) (by omega))
  refine peelRead2 _ _ _ _ _ j _ (fun x h0 h1 x0_lt x1_lt => ?_) fun n1 => ?_
  · exact tap_block m c t 1 1 rfl 768 _ _ _ (lag1_at (read5 m c t 768 _) (read6 m c t 768 _) (fun h => read9 m c t h 768 _) (fun h => read10 m c t h 768 _)) _ x j _ (by omega) (by decide) (by omega) (load2 _ _ x j (by omega) (by omega))
  refine peelRead2 _ _ _ _ _ j _ (fun x h0 h1 x0_lt x1_lt => ?_) fun n2 => ?_
  · exact tap_block m c t 2 0 rfl 768 _ _ _ (lag2_at (read5 m c t 768 _) (read6 m c t 768 _) (fun h => read9 m c t h 768 _) (fun h => read10 m c t h 768 _)) _ x j _ (by omega) (by decide) (by omega) (load2 _ _ x j (by omega) (by omega))
  refine peelRead2 _ _ _ _ _ j _ (fun x h0 h1 x0_lt x1_lt => ?_) fun n3 => ?_
  · exact tap_block m c t 0 2 rfl 512 _ _ _ (lag0_at (read5 m c t 512 _) (read6 m c t 512 _) (fun h => read9 m c t h 512 _) (fun h => read10 m c t h 512 _)) _ x j _ (by omega) (by decide) (by omega) (load2 _ _ x j (by omega) (by omega))
  refine peelRead2 _ _ _ _ _ j _ (fun x h0 h1 x0_lt x1_lt => ?_) fun n4 => ?_
  · exact tap_block m c t 1 1 rfl 512 _ _ _ (lag1_at (read5 m c t 512 _) (read6 m c t 512 _) (fun h => read9 m c t h 512 _) (fun h => read10 m c t h 512 _)) _ x j _ (by omega) (by decide) (by omega) (load2 _ _ x j (by omega) (by omega))
  refine peelRead2 _ _ _ _ _ j _ (fun x h0 h1 x0_lt x1_lt => ?_) fun n5 => ?_
  · exact tap_block m c t 2 0 rfl 512 _ _ _ (lag2_at (read5 m c t 512 _) (read6 m c t 512 _) (fun h => read9 m c t h 512 _) (fun h => read10 m c t h 512 _)) _ x j _ (by omega) (by decide) (by omega) (load2 _ _ x j (by omega) (by omega))
  refine peelRead2 _ _ _ _ _ j _ (fun x h0 h1 x0_lt x1_lt => ?_) fun n6 => ?_
  · exact tap_block m c t 0 2 rfl 256 _ _ _ (lag0_at (read5 m c t 256 _) (read6 m c t 256 _) (fun h => read9 m c t h 256 _) (fun h => read10 m c t h 256 _)) _ x j _ (by omega) (by decide) (by omega) (load2 _ _ x j (by omega) (by omega))
  refine peelRead2 _ _ _ _ _ j _ (fun x h0 h1 x0_lt x1_lt => ?_) fun n7 => ?_
  · exact tap_block m c t 1 1 rfl 256 _ _ _ (lag1_at (read5 m c t 256 _) (read6 m c t 256 _) (fun h => read9 m c t h 256 _) (fun h => read10 m c t h 256 _)) _ x j _ (by omega) (by decide) (by omega) (load2 _ _ x j (by omega) (by omega))
  refine peelRead2 _ _ _ _ _ j _ (fun x h0 h1 x0_lt x1_lt => ?_) fun n8 => ?_
  · exact tap_block m c t 2 0 rfl 256 _ _ _ (lag2_at (read5 m c t 256 _) (read6 m c t 256 _) (fun h => read9 m c t h 256 _) (fun h => read10 m c t h 256 _)) _ x j _ (by omega) (by decide) (by omega) (load2 _ _ x j (by omega) (by omega))
  refine peelRead2 _ _ _ _ _ j _ (fun x h0 h1 x0_lt x1_lt => ?_) fun n9 => ?_
  · exact tap_block m c t 0 2 rfl 0 _ _ _ (lag0_at (read5 m c t 0 _) (read6 m c t 0 _) (fun h => read9 m c t h 0 _) (fun h => read10 m c t h 0 _)) _ x j _ (by omega) (by decide) (by omega) (load2 _ _ x j (by omega) (by omega))
  refine peelRead2 _ _ _ _ _ j _ (fun x h0 h1 x0_lt x1_lt => ?_) fun n10 => ?_
  · exact tap_block m c t 1 1 rfl 0 _ _ _ (lag1_at (read5 m c t 0 _) (read6 m c t 0 _) (fun h => read9 m c t h 0 _) (fun h => read10 m c t h 0 _)) _ x j _ (by omega) (by decide) (by omega) (load2 _ _ x j (by omega) (by omega))
  refine peelRead2 _ _ _ _ _ j _ (fun x h0 h1 x0_lt x1_lt => ?_) fun n11 => ?_
  · exact tap_block m c t 2 0 rfl 0 _ _ _ (lag2_at (read5 m c t 0 _) (read6 m c t 0 _) (fun h => read9 m c t h 0 _) (fun h => read10 m c t h 0 _)) _ x j _ (by omega) (by decide) (by omega) (load2 _ _ x j (by omega) (by omega))
  have l1 : (j 1).val < 1024 := (j 1).isLt
  have hj : ¬ (j 0).val < 3 := by omega
  rw [tapTerm_rest m c t j hj, add_zero]
  exact congrFun (Memref.IsWhole.read_unread _ _) j

/-- The gradient of the filter. -/
noncomputable def taps16 (c : Dev nD) : FVec Ideal S8x1024 .f32 := fun j => out16 (DYf m c) (PJf m c) (j 0).val (j 1).val

theorem final16 (c : Dev nD) : (dats m 0 c).arrAt 16 cfg0.N = taps16 m c := by
  refine (dats m 0 c).arrAt_eq_of_after_last 16 t0_15 (by decide +kernel) _ fun j => ?_
  blk_simp
  rw [after0_16, Pipeline.eq_sum_fin_of_reset_step_apply_last (fun n h => (outsAt0 m c n h).2.1) 16 (fun _ => 0) (tapTerm m c)
    (fun t h j => reset16 m c t h j) (fun t h j => step16 m c t h j)
    (le_of_eq N_0) t0_15 rfl j, zero_add]
  show (∑ p : Fin cfg0.N, tapTerm m c p j : EReal) = out16 (DYf m c) (PJf m c) (j 0).val (j 1).val
  rw [out16]
  by_cases h : (j 0).val < 3
  · rw [if_pos h, dTap]
    exact sum_blocks (fun t => dConv (DYf m c) (PJf m c) t (j 1).val * lag (PJf m c) (2 - (j 0).val) t (j 1).val) (tapTerm m c · j) fun t => if_pos h
  · rw [if_neg h]
    exact Finset.sum_eq_zero fun t _ => if_neg h

end Cert.KernelIdeal.Mix

end
-- ==== Proof.Mix.Cumsum.lean ====
/-
  Running sums: the host's windowed sum over a prefix or a suffix of rows, and their differences, which for
  finite rows are the sums over windows.
-/
import Idealize.ShloMosaic.Lib.Pointwise
import Idealize.ShloMosaic.Lib.Pipeline.ValueKit
import proofs.«01_k».proof.Proof.Mix.Spec

set_option maxRecDepth 16384

noncomputable section

open Idealize.ShloMosaic Idealize.ShloMosaic.TcCoe Idealize.SL.Sem
open scoped BigOperators

namespace Cert.Mix

theorem foldl_add {ι : Type} (L : List ι) (g : ι → EReal) (v : EReal) : L.foldl (fun r k => r + g k) v = v + (L.map g).sum := by
  induction L generalizing v with
  | nil => simp
  | cons a L ih => rw [List.foldl_cons, ih, List.map_cons, List.sum_cons, add_assoc]

/-- A row position of the window, as a window index. -/
def rowEquiv : Fin 4096 ≃ (⟨4, ![1, 4096, 1, 1]⟩ : Shape).Idx where
  toFun k := ix4 (0 : Fin 1) k (0 : Fin 1) (0 : Fin 1)
  invFun y := y 1
  left_inv k := rfl
  right_inv y := by
    funext a
    fin_cases a
    exacts [Subsingleton.elim (α := Fin 1) _ _, rfl, Subsingleton.elim (α := Fin 1) _ _, Subsingleton.elim (α := Fin 1) _ _]

/-- The windowed sum at an index, a plain sum over the window's rows. -/
theorem window_sum (lo hi : ℕ) (x : FVec Ideal ⟨4, ![1, 4096, 4, 256]⟩ .f32) (init : (⟨0, ![]⟩ : Shape).Idx → EReal) (h hu) (X : ℕ → EReal)
    (t : Fin 4096) (g : Fin 4) (d : Fin 256) (hX : ∀ t : Fin 4096, x (ix4 (0 : Fin 1) t g d) = X t.val) (hi0 : ∀ i, init i = 0) :
    (Host.reduceWindowAdd (F := Ideal) (φ := .f32) (t := ⟨4, ![1, 4096, 4, 256]⟩) (u := ⟨0, ![]⟩) ![1, 4096, 1, 1] ![1, 1, 1, 1] ![0, lo, 0, 0] ![0, hi, 0, 0] x init h hu (ix4 (0 : Fin 1) t g d) : EReal)
      = ∑ k : Fin 4096, if lo ≤ t.val + k.val ∧ t.val + k.val - lo < 4096 then X (t.val + k.val - lo) else 0 := by
  show List.foldl _ _ _ = _
  refine (foldl_add _ _ _).trans ?_
  rw [← Fin.sum_univ_def]
  refine (congrArg (· + _) (hi0 _)).trans ((zero_add _).trans ?_)
  refine (Fintype.sum_equiv (rowEquiv.trans (⟨4, ![1, 4096, 1, 1]⟩ : Shape).rowMajor) _ _ fun k => ?_).symm
  simp only [Equiv.trans_apply, Equiv.symm_apply_apply]
  have e : ((∀ a, ![0, lo, 0, 0] a ≤ ((ix4 (0 : Fin 1) t g d : (⟨4, ![1, 4096, 4, 256]⟩ : Shape).Idx) a).val * ![1, 1, 1, 1] a + (rowEquiv k a).val ∧ ((ix4 (0 : Fin 1) t g d : (⟨4, ![1, 4096, 4, 256]⟩ : Shape).Idx) a).val * ![1, 1, 1, 1] a + (rowEquiv k a).val - ![0, lo, 0, 0] a < (⟨4, ![1, 4096, 4, 256]⟩ : Shape).size a) ↔ (lo ≤ t.val + k.val ∧ t.val + k.val - lo < 4096)) := by
    constructor
    · intro h
      have h1 := h 1
      change lo ≤ t.val * 1 + k.val ∧ t.val * 1 + k.val - lo < 4096 at h1
      omega
    · intro h a
      have := g.isLt
      have := d.isLt
      fin_cases a
      · show 0 ≤ 0 * 1 + 0 ∧ 0 * 1 + 0 - 0 < 1
        omega
      · show lo ≤ t.val * 1 + k.val ∧ t.val * 1 + k.val - lo < 4096
        omega
      · show 0 ≤ g.val * 1 + 0 ∧ g.val * 1 + 0 - 0 < 4
        omega
      · show 0 ≤ d.val * 1 + 0 ∧ d.val * 1 + 0 - 0 < 256
        omega
  by_cases hc : lo ≤ t.val + k.val ∧ t.val + k.val - lo < 4096
  · rw [if_pos hc, ← hX ⟨_, hc.2⟩]
    refine Eq.trans ?_ (dif_pos (e.mpr hc)).symm
    refine congrArg x (funext fun a => Fin.ext ?_)
    fin_cases a
    · rfl
    · show t.val + k.val - lo = t.val * 1 + k.val - lo
      omega
    · show g.val = g.val * 1 + 0 - 0
      omega
    · show d.val = d.val * 1 + 0 - 0
      omega
  · rw [if_neg hc]
    exact ((dif_neg (fun h => hc (e.mp h))).trans (hi0 _)).symm

/-- The sum over the rows up to this one. -/
theorem prefix_sum (X : ℕ → EReal) (t : Fin 4096) :
    (∑ k : Fin 4096, if 4095 ≤ t.val + k.val ∧ t.val + k.val - 4095 < 4096 then X (t.val + k.val - 4095) else 0) = ∑ j ∈ Finset.range (t.val + 1), X j := by
  have ht := t.isLt
  rw [Fin.sum_univ_eq_sum_range (fun k => if 4095 ≤ t.val + k ∧ t.val + k - 4095 < 4096 then X (t.val + k - 4095) else 0) 4096,
    show Finset.range 4096 = Finset.range ((4095 - t.val) + (t.val + 1)) from congrArg _ (by omega), Finset.sum_range_add, Finset.sum_eq_zero, zero_add]
  · refine Finset.sum_congr rfl fun j hj => ?_
    have := Finset.mem_range.mp hj
    rw [if_pos (by omega)]
    exact congrArg X (by omega)
  · intro j hj
    have := Finset.mem_range.mp hj
    exact if_neg (by omega)

/-- The sum over the rows from this one on. -/
theorem suffix_sum (X : ℕ → EReal) (t : Fin 4096) :
    (∑ k : Fin 4096, if 0 ≤ t.val + k.val ∧ t.val + k.val - 0 < 4096 then X (t.val + k.val - 0) else 0) = ∑ j ∈ Finset.range (4096 - t.val), X (t.val + j) := by
  have ht := t.isLt
  rw [Fin.sum_univ_eq_sum_range (fun k => if 0 ≤ t.val + k ∧ t.val + k - 0 < 4096 then X (t.val + k - 0) else 0) 4096]
  rw [show Finset.range 4096 = Finset.range ((4096 - t.val) + t.val) from congrArg _ (by omega), Finset.sum_range_add, add_comm, Finset.sum_eq_zero, zero_add]
  · refine Finset.sum_congr rfl fun j hj => ?_
    have := Finset.mem_range.mp hj
    rw [if_pos (by omega)]
    rfl
  · intro j hj
    have := Finset.mem_range.mp hj
    exact if_neg (by omega)

/-- A value is finite. -/
def Fin' (x : EReal) : Prop := ∃ r : ℝ, x = r

theorem Fin'.sum {ι : Type} {s : Finset ι} {f : ι → EReal} (h : ∀ i ∈ s, Fin' (f i)) : Fin' (∑ i ∈ s, f i) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

theorem Fin'.mul {x y : EReal} (hx : Fin' x) (hy : Fin' y) : Fin' (x * y) := by
  obtain ⟨r, rfl⟩ := hx
  obtain ⟨q, rfl⟩ := hy
  exact ⟨r * q, (EReal.coe_mul r q).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For finite rows, the difference of two prefix sums is the sum over the window between them. -/
theorem prefix_sub (X : ℕ → EReal) (w t : ℕ) (h : ∀ j ≤ t, Fin' (X j)) :
    (∑ j ∈ Finset.range (t + 1), X j) - (if w ≤ t then ∑ j ∈ Finset.range (t - w + 1), X j else 0) = ∑ j ∈ Finset.range w, if j ≤ t then X (t - j) else 0 := by
  choose f hf using h
  let F : ℕ → ℝ := fun j => if hj : j ≤ t then f j hj else 0
  have hF : ∀ j ≤ t, X j = (F j : EReal) := fun j hj => (hf j hj).trans (congrArg _ (dif_pos hj).symm)
  have e1 : (∑ j ∈ Finset.range (t + 1), X j) = ((∑ j ∈ Finset.range (t + 1), F j : ℝ) : EReal) := by
    rw [coe_sum]
    exact Finset.sum_congr rfl fun j hj => hF j (by have := Finset.mem_range.mp hj; omega)
  have e2 : (if w ≤ t then ∑ j ∈ Finset.range (t - w + 1), X j else 0) = ((∑ j ∈ Finset.range (t + 1 - w), F j : ℝ) : EReal) := by
    by_cases hw : w ≤ t
    · rw [if_pos hw, coe_sum, show t - w + 1 = t + 1 - w by omega]
      exact Finset.sum_congr rfl fun j hj => hF j (by have := Finset.mem_range.mp hj; omega)
    · rw [if_neg hw, show t + 1 - w = 0 by omega]
      simp
  have e3 : (∑ j ∈ Finset.range w, if j ≤ t then X (t - j) else 0) = ((∑ j ∈ Finset.range w, (if j ≤ t then F (t - j) else 0) : ℝ) : EReal) := by
    rw [coe_sum]
    refine Finset.sum_congr rfl fun j hj => ?_
    by_cases hj : j ≤ t
    · rw [if_pos hj, if_pos hj, hF _ (Nat.sub_le t j)]
    · rw [if_neg hj, if_neg hj]; rfl
  rw [e1, e2, e3, ← EReal.coe_sub]
  refine congrArg _ ?_
  clear e1 e2 e3
  induction w with
  | zero => simp
  | succ w ih =>
    rw [Finset.sum_range_succ (fun j => if j ≤ t then F (t - j) else 0), ← ih]
    by_cases hw : w ≤ t
    · rw [if_pos hw, show t + 1 - w = (t - w) + 1 by omega, show t + 1 - (w + 1) = t - w by omega, Finset.sum_range_succ F (t - w)]
      ring
    · rw [if_neg hw, show t + 1 - w = 0 by omega, show t + 1 - (w + 1) = 0 by omega]
      simp

/-- For finite rows, zero past the last, the suffix sum of a row less the row `w` further on is the sum over the window. -/
theorem suffix_sub (q : ℕ → EReal) (w t n : ℕ) (hq : ∀ j, Fin' (q j)) (hz : ∀ j, t + n ≤ j → q j = 0) :
    (∑ j ∈ Finset.range n, (q (t + j) + -q (t + j + w))) = ∑ j ∈ Finset.range w, q (t + j) := by
  choose f hf using hq
  have hz' : ∀ j, t + n ≤ j → f j = 0 := fun j hj => by
    have := (hf j).symm.trans (hz j hj)
    exact_mod_cast this
  simp only [hf, ← EReal.coe_neg, ← EReal.coe_add, ← coe_sum]
  refine congrArg _ ?_
  clear hf hz
  induction w with
  | zero => simp
  | succ w ih =>
    rw [Finset.sum_range_succ, ← ih]
    have e : (∑ j ∈ Finset.range n, f (t + j + w)) = (∑ j ∈ Finset.range n, f (t + j + (w + 1))) + f (t + w) := by
      have h1 := Finset.sum_range_succ (fun j => f (t + j + w)) n
      have h2 := Finset.sum_range_succ' (fun j => f (t + j + w)) n
      rw [hz' (t + n + w) (by omega), add_zero] at h1
      rw [← h1, h2]
      refine congrArg₂ (· + ·) (Finset.sum_congr rfl fun j _ => congrArg f (by omega)) (congrArg f (by omega))
    simp only [Finset.sum_add_distrib, Finset.sum_neg_distrib]
    rw [e]
    ring

end Cert.Mix

end
-- ==== Proof.Mix.RefConv.lean ====
/-
  The reference's short convolution and its gradients, read at an index.
-/
import proofs.«01_k».proof.Proof.Gen.ReferenceIdeal.Run
import proofs.«01_k».proof.Proof.Mix.Cumsum

set_option maxRecDepth 16384

noncomputable section

open Idealize.ShloMosaic Idealize.ShloMosaic.TcCoe Idealize.SL.Sem
open scoped BigOperators

namespace Cert.ReferenceIdeal.Mix

open Cert.ReferenceIdeal Cert.ReferenceIdeal.Gen Cert.ReferenceIdeal.Value Cert.Mix

variable {V0 : Valuation τ sig (Elt Ideal)} {DY PJ CW : ℕ → ℕ → EReal} {PW : ℕ → ℕ → ℕ → EReal} {PS : ℕ → EReal}
  (hD : ∀ (t : Fin 4096) (d : Fin 2048), V0 (Proc.devRef .tc main_arg0) (ix2 t d) = DY t d)
  (hP : ∀ (t : Fin 4096) (d : Fin 4096), V0 (Proc.devRef .tc main_arg1) (ix2 t d) = PJ t d)
  (hC : ∀ (k : Fin 3) (d : Fin 1024), V0 (Proc.devRef .tc main_arg2) (ix2 k d) = CW k d)
  (hW : ∀ (g : Fin 4) (c d : Fin 256), V0 (Proc.devRef .tc main_arg3) (ix3 g c d) = PW g c d)
  (hS : ∀ d : Fin 1024, V0 (Proc.devRef .tc main_arg4) (ix1 d) = PS d)
  (hD0 : ∀ t d, 4096 ≤ t → DY t d = 0)

include hP in
theorem ref_lag0 (t : Fin 4096) (d : Fin 1024) : (res_main_v25 V0 (ix3 (0 : Fin 1) t d) : EReal) = lag PJ 0 t d := by
  pointwise [res_main_v25, res_main_v8, res_main_v3, res_main_v4, res_main_v1]
  simp only [hP]
  rw [lag, if_pos (Nat.zero_le _), u]
  rfl

include hP in
theorem ref_lag1 (t : Fin 4096) (d : Fin 1024) : (res_main_v18 V0 (ix3 (0 : Fin 1) t d) : EReal) = lag PJ 1 t d := by
  pointwise [res_main_v18, res_main_v8, res_main_v3, res_main_v4, res_main_v1]
  simp only [hP]
  rw [lag]
  by_cases h : 1 ≤ t.val
  · refine (dif_neg (show ¬ 1 + t.val < 2 by omega)).trans ?_
    rw [if_pos h, u, show 1 + t.val - 2 = t.val - 1 by omega]
  · exact (dif_pos (show 1 + t.val < 2 by omega)).trans (if_neg h).symm

include hP in
theorem ref_lag2 (t : Fin 4096) (d : Fin 1024) : (res_main_v12 V0 (ix3 (0 : Fin 1) t d) : EReal) = lag PJ 2 t d := by
  pointwise [res_main_v12, res_main_v8, res_main_v3, res_main_v4, res_main_v1]
  simp only [hP]
  rw [lag]
  by_cases h : 2 ≤ t.val
  · refine (dif_neg (show ¬ t.val < 2 by omega)).trans ?_
    rw [if_pos h, u]
  · exact (dif_pos (show t.val < 2 by omega)).trans (if_neg h).symm

include hP hC in
theorem ref_conv (t : Fin 4096) (d : Fin 1024) : (res_main_v29 V0 (ix3 (0 : Fin 1) t d) : EReal) = conv PJ CW t d := by
  pointwise [res_main_v29, res_main_v13, res_main_v19, res_main_v26]
  rw [ref_lag0 hP, ref_lag1 hP, ref_lag2 hP, hC, hC, hC, conv]
  rw [add_comm, ← add_assoc, add_right_comm]
  rfl

include hP hD in
theorem ref_dConv (t : Fin 4096) (d : Fin 1024) : (res_main_v194 V0 (ix3 (0 : Fin 1) t d) : EReal) = dConv DY PJ t d := by
  pointwise [res_main_v194, res_main_v2, res_main_v115, res_main_v114, res_main_v1]
  rw [hP, hD, mul_comm]
  rfl

include hP hD hC hD0 in
theorem ref_dU (t : Fin 4096) (d : Fin 1024) : (res_main_v228 V0 (ix3 (0 : Fin 1) t d) : EReal) = dU DY PJ CW t d := by
  pointwise [res_main_v228, res_main_v223, res_main_v13, res_main_v19, res_main_v26]
  simp only [ref_dConv hD hP, hC]
  rw [dU]
  refine congrArg₂ (· + ·) (congrArg₂ (· + ·) rfl ?_) ?_
  · by_cases h : t.val + 1 < 4096
    · refine (dif_pos (show 1 ≤ 2 + t.val ∧ 2 + t.val - 1 < 4096 by omega)).trans ?_
      rw [show 2 + t.val - 1 = t.val + 1 by omega]
      rfl
    · refine (dif_neg (show ¬ (1 ≤ 2 + t.val ∧ 2 + t.val - 1 < 4096) by omega)).trans ?_
      rw [dConv_past hD0 (by omega), mul_zero]
  · by_cases h : t.val + 2 < 4096
    · refine (dif_pos (show 2 + t.val < 4096 by omega)).trans ?_
      rw [show 2 + t.val = t.val + 2 by omega]
      rfl
    · refine (dif_neg (show ¬ (2 + t.val < 4096) by omega)).trans ?_
      rw [dConv_past hD0 (by omega), mul_zero]

end Cert.ReferenceIdeal.Mix
end
-- ==== Proof.Mix.RefPool.lean ====
/-
  The reference's window means and their gradients, read at an index. Its running sums are differences of prefix
  sums, and of suffix sums, of finite rows.
-/
import proofs.«01_k».proof.Proof.Gen.ReferenceIdeal.Run
import proofs.«01_k».proof.Proof.Mix.RefConv

set_option maxRecDepth 16384

noncomputable section

open Idealize.ShloMosaic Idealize.ShloMosaic.TcCoe Idealize.SL.Sem
open scoped BigOperators

namespace Cert.ReferenceIdeal.Mix

open Cert.ReferenceIdeal Cert.ReferenceIdeal.Gen Cert.ReferenceIdeal.Value Cert.Mix

variable {V0 : Valuation τ sig (Elt Ideal)} {DY PJ CW : ℕ → ℕ → EReal} {PW : ℕ → ℕ → ℕ → EReal} {PS : ℕ → EReal}
  (hD : ∀ (t : Fin 4096) (d : Fin 2048), V0 (Proc.devRef .tc main_arg0) (ix2 t d) = DY t d)
  (hP : ∀ (t : Fin 4096) (d : Fin 4096), V0 (Proc.devRef .tc main_arg1) (ix2 t d) = PJ t d)
  (hC : ∀ (k : Fin 3) (d : Fin 1024), V0 (Proc.devRef .tc main_arg2) (ix2 k d) = CW k d)
  (hW : ∀ (g : Fin 4) (c d : Fin 256), V0 (Proc.devRef .tc main_arg3) (ix3 g c d) = PW g c d)
  (hS : ∀ d : Fin 1024, V0 (Proc.devRef .tc main_arg4) (ix1 d) = PS d)
  (hD0 : ∀ t d, 4096 ≤ t → DY t d = 0)

  (fD : ∀ t d, Fin' (DY t (1024 + d))) (fP : ∀ t d, Fin' (PJ t (3072 + d))) (fW : ∀ g c d, Fin' (PW g c d)) (fS : ∀ d, Fin' (PS d))

/-- The reference's gradient of the running sums, before it is summed over the rows from each on. -/
def qArr (V0 : Valuation τ sig (Elt Ideal)) : FVec Ideal S1x4096x4x256 .f32 := (addf (addf (addf (pad S1x4096x4x256 ![0, 0, 3, 0] ![0, 0, 0, 0] ![0, 0, 0, 0] (broadcastInDim S1x4096x1x256 ![0, 1, 3] bcast_S1x4096x256_S1x4096x1x256_0_1_3 (addf (res_main_v141 V0) (pad S1x4096x256 ![0, 0, 0] ![0, 16, 0] ![0, 0, 0] (extractStridedSlice S1x4080x256 ![0, 16, 0] (res_main_v142 V0) slices_S1x4096x256_S1x4080x256_0_16_0) (constant S_ .f32 0x00000000#32) pads_S1x4080x256_S1x4096x256_000_0160_000 h_S_))) (constant S_ .f32 0x00000000#32) pads_S1x4096x1x256_S1x4096x4x256_000_000_300_000 h_S_) (pad S1x4096x4x256 ![0, 0, 2, 0] ![0, 0, 1, 0] ![0, 0, 0, 0] (broadcastInDim S1x4096x1x256 ![0, 1, 3] bcast_S1x4096x256_S1x4096x1x256_0_1_3 (addf (res_main_v154 V0) (pad S1x4096x256 ![0, 0, 0] ![0, 8, 0] ![0, 0, 0] (extractStridedSlice S1x4088x256 ![0, 8, 0] (res_main_v155 V0) slices_S1x4096x256_S1x4088x256_0_8_0) (constant S_ .f32 0x00000000#32) pads_S1x4088x256_S1x4096x256_000_080_000 h_S_))) (constant S_ .f32 0x00000000#32) pads_S1x4096x1x256_S1x4096x4x256_000_000_210_000 h_S_)) (pad S1x4096x4x256 ![0, 0, 1, 0] ![0, 0, 2, 0] ![0, 0, 0, 0] (broadcastInDim S1x4096x1x256 ![0, 1, 3] bcast_S1x4096x256_S1x4096x1x256_0_1_3 (addf (res_main_v168 V0) (pad S1x4096x256 ![0, 0, 0] ![0, 4, 0] ![0, 0, 0] (extractStridedSlice S1x4092x256 ![0, 4, 0] (res_main_v169 V0) slices_S1x4096x256_S1x4092x256_0_4_0) (constant S_ .f32 0x00000000#32) pads_S1x4092x256_S1x4096x256_000_040_000 h_S_))) (constant S_ .f32 0x00000000#32) pads_S1x4096x1x256_S1x4096x4x256_000_000_120_000 h_S_)) (pad S1x4096x4x256 ![0, 0, 0, 0] ![0, 0, 3, 0] ![0, 0, 0, 0] (broadcastInDim S1x4096x1x256 ![0, 1, 3] bcast_S1x4096x256_S1x4096x1x256_0_1_3 (addf (res_main_v182 V0) (pad S1x4096x256 ![0, 0, 0] ![0, 2, 0] ![0, 0, 0] (extractStridedSlice S1x4094x256 ![0, 2, 0] (res_main_v183 V0) slices_S1x4096x256_S1x4094x256_0_2_0) (constant S_ .f32 0x00000000#32) pads_S1x4094x256_S1x4096x256_000_020_000 h_S_))) (constant S_ .f32 0x00000000#32) pads_S1x4096x1x256_S1x4096x4x256_000_000_030_000 h_S_))

/-- Its sum over the rows from each on. -/
def sArr (V0 : Valuation τ sig (Elt Ideal)) : FVec Ideal S1x4096x4x256 .f32 := (Host.reduceWindowAdd ![1, 4096, 1, 1] ![1, 1, 1, 1] ![0, 0, 0, 0] ![0, 4095, 0, 0] (qArr V0) (broadcastInDim S_ ![] bcast_S_S_ (constant S_ .f32 0x00000000#32)) reduceWindows_S1x4096x4x256_S1x4096x4x256_w1s1p0_0_w4096s1p0_4095_w1s1p0_0_w1s1p0_0 h_S_)

/-- The reference's gradient of the pooled part of the projection. -/
def vArr (V0 : Valuation τ sig (Elt Ideal)) : FVec Ideal S1x4096x4x256 .f32 := (addf (addf (addf (addf (pad S1x4096x4x256 ![0, 0, 3, 0] ![0, 0, 0, 0] ![0, 0, 0, 0] (broadcastInDim S1x4096x1x256 ![0, 1, 3] bcast_S1x4096x256_S1x4096x1x256_0_1_3 (Host.negf (res_main_v136 V0))) (constant S_ .f32 0x00000000#32) pads_S1x4096x1x256_S1x4096x4x256_000_000_300_000 h_S_) (pad S1x4096x4x256 ![0, 0, 2, 0] ![0, 0, 1, 0] ![0, 0, 0, 0] (broadcastInDim S1x4096x1x256 ![0, 1, 3] bcast_S1x4096x256_S1x4096x1x256_0_1_3 (Host.negf (res_main_v134 V0))) (constant S_ .f32 0x00000000#32) pads_S1x4096x1x256_S1x4096x4x256_000_000_210_000 h_S_)) (pad S1x4096x4x256 ![0, 0, 1, 0] ![0, 0, 2, 0] ![0, 0, 0, 0] (broadcastInDim S1x4096x1x256 ![0, 1, 3] bcast_S1x4096x256_S1x4096x1x256_0_1_3 (Host.negf (res_main_v132 V0))) (constant S_ .f32 0x00000000#32) pads_S1x4096x1x256_S1x4096x4x256_000_000_120_000 h_S_)) (pad S1x4096x4x256 ![0, 0, 0, 0] ![0, 0, 3, 0] ![0, 0, 0, 0] (broadcastInDim S1x4096x1x256 ![0, 1, 3] bcast_S1x4096x256_S1x4096x1x256_0_1_3 (Host.negf (res_main_v130 V0))) (constant S_ .f32 0x00000000#32) pads_S1x4096x1x256_S1x4096x4x256_000_000_030_000 h_S_)) (sArr V0))

/-- A lane of `qArr`, as a function of the row number; zero past the last row. -/
def qRow (V0 : Valuation τ sig (Elt Ideal)) (g : Fin 4) (c : Fin 256) (j : ℕ) : EReal :=
  if h : j < 4096 then qArr V0 (ix4 (0 : Fin 1) ⟨j, h⟩ g c) else 0

theorem qRow_of (V0 : Valuation τ sig (Elt Ideal)) (g : Fin 4) (c : Fin 256) {j : ℕ} (h : j < 4096) : qRow V0 g c j = qArr V0 (ix4 (0 : Fin 1) ⟨j, h⟩ g c) := dif_pos h

theorem min_coe (a b : ℝ) : min (a : EReal) (b : EReal) = ((min a b : ℝ) : EReal) := (EReal.coe_strictMono.monotone.map_min).symm

theorem count_of (t w : ℕ) (ht : t < 4096) : (min ((FloatOps.sitofp (F := Ideal) .f32 (BitVec.ofNat 32 t) : EReal) + 1) ((w : ℝ) : EReal) : EReal) = cnt w t := by
  have e : (FloatOps.sitofp (F := Ideal) .f32 (BitVec.ofNat 32 t) : EReal) = ((t : ℝ) : EReal) := by
    show ((((BitVec.ofNat 32 t).toInt : ℤ) : ℝ) : EReal) = ((t : ℝ) : EReal)
    rw [show (BitVec.ofNat 32 t).toInt = (t : ℤ) by
      rw [BitVec.toInt_eq_toNat_cond, BitVec.toNat_ofNat, Nat.mod_eq_of_lt (by omega), if_pos (by omega)]]
    simp
  rw [e, cnt, show (1 : EReal) = ((1 : ℝ) : EReal) from rfl, ← EReal.coe_add, min_coe]
  push_cast
  rfl

theorem cnt_ne (w t : ℕ) (hw : 0 < w) : ((min (t + 1) w : ℕ) : ℝ) ≠ 0 := by
  have : 0 < min (t + 1) w := by omega
  exact_mod_cast this.ne'

theorem div_cnt (x : EReal) (w t : ℕ) (hw : 0 < w) : Ideal.div x (cnt w t) = x * Ideal.div 1 (cnt w t) := by
  rw [cnt, Ideal.div_coe (cnt_ne w t hw), Ideal.div_coe (cnt_ne w t hw), one_mul]

theorem fin_inv (w t : ℕ) (hw : 0 < w) : Fin' (Ideal.div 1 (cnt w t)) :=
  ⟨_, by rw [cnt, Ideal.div_coe (cnt_ne w t hw), one_mul]⟩

include hP in
theorem ref_v31 (t : Fin 4096) (g : Fin 4) (c : Fin 256) : (res_main_v31 V0 (ix4 (0 : Fin 1) t g c) : EReal) = PJ t (3072 + (256 * g + c)) := by
  pointwise [res_main_v31, res_main_v1]
  rw [hP]
  exact congrArg (fun p => PJ t (3072 + p)) (congrArg (· + c.val) (mul_comm g.val 256))

include hP in
theorem ref_prefix (t : Fin 4096) (g : Fin 4) (c : Fin 256) : (res_main_v32 V0 (ix4 (0 : Fin 1) t g c) : EReal) = ∑ j ∈ Finset.range (t.val + 1), PJ j (3072 + (256 * g + c)) := by
  rw [res_main_v32]
  refine (window_sum 4095 0 _ _ _ _ (fun j => PJ j (3072 + (256 * g + c))) t g c (fun t => ref_v31 hP t g c) fun i => ?_).trans (prefix_sum (fun j => PJ j (3072 + (256 * g + c))) t)
  pointwise []

include hD hW hS in
theorem ref_dDiff (t : Fin 4096) (g : Fin 4) (c : Fin 256) : (res_main_v126 V0 (ix4 (0 : Fin 1) t g c) : EReal) = dDiff DY PW PS g t c := by
  pointwise [res_main_v126, res_main_v124, res_main_v116, res_main_v114, res_main_v110]
  rw [dDiff]
  refine Fin.sum_fin_congr fun d => ?_
  rw [hD, hS, hW, dz]
  show DY t (1024 + (g.val * 256 + d.val)) * PS (g.val * 256 + d.val) * PW g c d = _
  rw [mul_comm g.val]

include fD fW fS in
theorem fin_dDiff (g t c : ℕ) : Fin' (dDiff DY PW PS g t c) := Fin'.sum fun d _ => ((fD t _).mul (fS _)).mul (fW g c d)

include fD fW fS in
theorem fin_dMean (w g t c : ℕ) (hw : 0 < w) : Fin' (dMean DY PW PS w g t c) := (fin_dDiff fD fW fS g t c).mul (fin_inv w t hw)

/-- The sum over the windows that hold a row, as a difference of suffix sums. -/
theorem lead_eq (X : ℕ → EReal) (w g c : ℕ) (hw : 0 < w) (fD : ∀ t d, Fin' (DY t (1024 + d))) (fW : ∀ g c d, Fin' (PW g c d)) (fS : ∀ d, Fin' (PS d)) (hD0 : ∀ t d, 4096 ≤ t → DY t d = 0)
    (hX : ∀ t < 4096, X t = dMean DY PW PS w g t c + -dMean DY PW PS w g (t + w) c) (t : Fin 4096) :
    (∑ j ∈ Finset.range (4096 - t.val), X (t.val + j)) = lead DY PW PS w g t c := by
  rw [lead, ← suffix_sub (fun t => dMean DY PW PS w g t c) w t.val (4096 - t.val) (fun j => fin_dMean fD fW fS w g j c hw)
    (fun j hj => by rw [dMean, dDiff_past hD0 (by have := t.isLt; omega), zero_mul])]
  exact Finset.sum_congr rfl fun j hj => hX _ (by have := Finset.mem_range.mp hj; omega)

theorem ref_count0 (t : Fin 4096) : (res_main_v44 V0 (ix3 (0 : Fin 1) t (0 : Fin 1)) : EReal) = cnt 2 t := by
  pointwise [res_main_v44, res_main_v33]
  rw [show Ideal.ofBits .f32 0x40000000#32 = (((2 : ℕ) : ℝ) : EReal) by simp [Ideal.ofBits, Ideal.ieee, -EReal.coe_mul]; norm_num]
  exact count_of t 2 t.isLt

include hP fP in
theorem ref_diff0 (t : Fin 4096) (c : Fin 256) : (res_main_v106 V0 (ix4 (0 : Fin 1) t (0 : Fin 4) c) : EReal) = diff PJ (win 0) t (256 * 0 + c) := by
  obtain ⟨A, hA⟩ : ∃ A, A = diff PJ (win 0) t (256 * 0 + c) := ⟨_, rfl⟩
  rw [← hA]
  pointwise [res_main_v106, res_main_v35]
  rw [hA, ref_count0, ref_v31 hP, div_cnt _ _ _ (by decide)]
  simp only [ref_prefix hP]
  rw [diff, trail]
  refine congrArg (fun x => x * Ideal.div 1 (cnt 2 t) - PJ t (3072 + (256 * 0 + c))) ?_
  rw [show win 0 = 2 from rfl, ← prefix_sub (fun t => PJ t (3072 + (256 * 0 + c))) 2 t fun j _ => fP j _]
  refine congrArg (fun x => (∑ j ∈ Finset.range (t.val + 1), PJ j (3072 + (256 * 0 + c))) - x) ?_
  by_cases h : 2 ≤ t.val
  · exact (dif_neg (show ¬ t.val < 2 by omega)).trans (if_pos h).symm
  · exact (dif_pos (show t.val < 2 by omega)).trans (if_neg h).symm

include hD hW hS in
theorem ref_dMean0 (t : Fin 4096) (c : Fin 256) : (res_main_v182 V0 (ix3 (0 : Fin 1) t c) : EReal) = dMean DY PW PS 2 0 t c := by
  pointwise [res_main_v182, res_main_v130]
  rw [ref_count0, ref_dDiff hD hW hS, div_cnt _ _ _ (by decide)]
  rfl

include hD hW hS hD0 in
theorem ref_q0 (t : Fin 4096) (c : Fin 256) : (qArr V0 (ix4 (0 : Fin 1) t (0 : Fin 4) c) : EReal) = dMean DY PW PS 2 0 t c + -dMean DY PW PS 2 0 (t + 2) c := by
  pointwise [qArr, res_main_v142, res_main_v155, res_main_v169, res_main_v183]
  simp only [ref_dMean0 hD hW hS]
  refine congrArg (dMean DY PW PS 2 0 t c + ·) ?_
  by_cases h : t.val < 4094
  · refine (dif_pos h).trans ?_
    rw [show 2 + t.val = t.val + 2 by omega]
  · refine (dif_neg h).trans ?_
    rw [dMean, dDiff_past hD0 (by omega), zero_mul, neg_zero]

include hD hW hS hD0 fD fW fS in
theorem ref_dV0 (t : Fin 4096) (c : Fin 256) : (vArr V0 (ix4 (0 : Fin 1) t (0 : Fin 4) c) : EReal) = dV DY PW PS (win 0) 0 t c := by
  pointwise [vArr, res_main_v136, res_main_v134, res_main_v132, res_main_v130]
  rw [ref_dDiff hD hW hS, dV, add_comm]
  refine congrArg (· + -dDiff DY PW PS 0 t c) ?_
  rw [sArr]
  refine (window_sum 0 4095 _ _ _ _ (qRow V0 0 c) t 0 c (fun t => (qRow_of V0 0 c t.isLt).symm) fun i => ?_).trans ((suffix_sum (qRow V0 0 c) t).trans ?_)
  · pointwise []
  · exact lead_eq _ 2 0 c (by decide) fD fW fS hD0 (fun j hj => (qRow_of V0 0 c hj).trans (ref_q0 hD hW hS hD0 ⟨j, hj⟩ c)) t

theorem ref_count1 (t : Fin 4096) : (res_main_v61 V0 (ix3 (0 : Fin 1) t (0 : Fin 1)) : EReal) = cnt 4 t := by
  pointwise [res_main_v61, res_main_v33]
  rw [show Ideal.ofBits .f32 0x40800000#32 = (((4 : ℕ) : ℝ) : EReal) by simp [Ideal.ofBits, Ideal.ieee, -EReal.coe_mul]; norm_num]
  exact count_of t 4 t.isLt

include hP fP in
theorem ref_diff1 (t : Fin 4096) (c : Fin 256) : (res_main_v106 V0 (ix4 (0 : Fin 1) t (1 : Fin 4) c) : EReal) = diff PJ (win 1) t (256 * 1 + c) := by
  obtain ⟨A, hA⟩ : ∃ A, A = diff PJ (win 1) t (256 * 1 + c) := ⟨_, rfl⟩
  rw [← hA]
  pointwise [res_main_v106, res_main_v52]
  rw [hA, ref_count1, ref_v31 hP, div_cnt _ _ _ (by decide)]
  simp only [ref_prefix hP]
  rw [diff, trail]
  refine congrArg (fun x => x * Ideal.div 1 (cnt 4 t) - PJ t (3072 + (256 * 1 + c))) ?_
  rw [show win 1 = 4 from rfl, ← prefix_sub (fun t => PJ t (3072 + (256 * 1 + c))) 4 t fun j _ => fP j _]
  refine congrArg (fun x => (∑ j ∈ Finset.range (t.val + 1), PJ j (3072 + (256 * 1 + c))) - x) ?_
  by_cases h : 4 ≤ t.val
  · exact (dif_neg (show ¬ t.val < 4 by omega)).trans (if_pos h).symm
  · exact (dif_pos (show t.val < 4 by omega)).trans (if_neg h).symm

include hD hW hS in
theorem ref_dMean1 (t : Fin 4096) (c : Fin 256) : (res_main_v168 V0 (ix3 (0 : Fin 1) t c) : EReal) = dMean DY PW PS 4 1 t c := by
  pointwise [res_main_v168, res_main_v132]
  rw [ref_count1, ref_dDiff hD hW hS, div_cnt _ _ _ (by decide)]
  rfl

include hD hW hS hD0 in
theorem ref_q1 (t : Fin 4096) (c : Fin 256) : (qArr V0 (ix4 (0 : Fin 1) t (1 : Fin 4) c) : EReal) = dMean DY PW PS 4 1 t c + -dMean DY PW PS 4 1 (t + 4) c := by
  pointwise [qArr, res_main_v142, res_main_v155, res_main_v169, res_main_v183]
  simp only [ref_dMean1 hD hW hS]
  refine congrArg (dMean DY PW PS 4 1 t c + ·) ?_
  by_cases h : t.val < 4092
  · refine (dif_pos h).trans ?_
    rw [show 4 + t.val = t.val + 4 by omega]
  · refine (dif_neg h).trans ?_
    rw [dMean, dDiff_past hD0 (by omega), zero_mul, neg_zero]

include hD hW hS hD0 fD fW fS in
theorem ref_dV1 (t : Fin 4096) (c : Fin 256) : (vArr V0 (ix4 (0 : Fin 1) t (1 : Fin 4) c) : EReal) = dV DY PW PS (win 1) 1 t c := by
  pointwise [vArr, res_main_v136, res_main_v134, res_main_v132, res_main_v130]
  rw [ref_dDiff hD hW hS, dV, add_comm]
  refine congrArg (· + -dDiff DY PW PS 1 t c) ?_
  rw [sArr]
  refine (window_sum 0 4095 _ _ _ _ (qRow V0 1 c) t 1 c (fun t => (qRow_of V0 1 c t.isLt).symm) fun i => ?_).trans ((suffix_sum (qRow V0 1 c) t).trans ?_)
  · pointwise []
  · exact lead_eq _ 4 1 c (by decide) fD fW fS hD0 (fun j hj => (qRow_of V0 1 c hj).trans (ref_q1 hD hW hS hD0 ⟨j, hj⟩ c)) t

theorem ref_count2 (t : Fin 4096) : (res_main_v78 V0 (ix3 (0 : Fin 1) t (0 : Fin 1)) : EReal) = cnt 8 t := by
  pointwise [res_main_v78, res_main_v33]
  rw [show Ideal.ofBits .f32 0x41000000#32 = (((8 : ℕ) : ℝ) : EReal) by simp [Ideal.ofBits, Ideal.ieee, -EReal.coe_mul]; norm_num]
  exact count_of t 8 t.isLt

include hP fP in
theorem ref_diff2 (t : Fin 4096) (c : Fin 256) : (res_main_v106 V0 (ix4 (0 : Fin 1) t (2 : Fin 4) c) : EReal) = diff PJ (win 2) t (256 * 2 + c) := by
  obtain ⟨A, hA⟩ : ∃ A, A = diff PJ (win 2) t (256 * 2 + c) := ⟨_, rfl⟩
  rw [← hA]
  pointwise [res_main_v106, res_main_v69]
  rw [hA, ref_count2, ref_v31 hP, div_cnt _ _ _ (by decide)]
  simp only [ref_prefix hP]
  rw [diff, trail]
  refine congrArg (fun x => x * Ideal.div 1 (cnt 8 t) - PJ t (3072 + (256 * 2 + c))) ?_
  rw [show win 2 = 8 from rfl, ← prefix_sub (fun t => PJ t (3072 + (256 * 2 + c))) 8 t fun j _ => fP j _]
  refine congrArg (fun x => (∑ j ∈ Finset.range (t.val + 1), PJ j (3072 + (256 * 2 + c))) - x) ?_
  by_cases h : 8 ≤ t.val
  · exact (dif_neg (show ¬ t.val < 8 by omega)).trans (if_pos h).symm
  · exact (dif_pos (show t.val < 8 by omega)).trans (if_neg h).symm

include hD hW hS in
theorem ref_dMean2 (t : Fin 4096) (c : Fin 256) : (res_main_v154 V0 (ix3 (0 : Fin 1) t c) : EReal) = dMean DY PW PS 8 2 t c := by
  pointwise [res_main_v154, res_main_v134]
  rw [ref_count2, ref_dDiff hD hW hS, div_cnt _ _ _ (by decide)]
  rfl

include hD hW hS hD0 in
theorem ref_q2 (t : Fin 4096) (c : Fin 256) : (qArr V0 (ix4 (0 : Fin 1) t (2 : Fin 4) c) : EReal) = dMean DY PW PS 8 2 t c + -dMean DY PW PS 8 2 (t + 8) c := by
  pointwise [qArr, res_main_v142, res_main_v155, res_main_v169, res_main_v183]
  simp only [ref_dMean2 hD hW hS]
  refine congrArg (dMean DY PW PS 8 2 t c + ·) ?_
  by_cases h : t.val < 4088
  · refine (dif_pos h).trans ?_
    rw [show 8 + t.val = t.val + 8 by omega]
  · refine (dif_neg h).trans ?_
    rw [dMean, dDiff_past hD0 (by omega), zero_mul, neg_zero]

include hD hW hS hD0 fD fW fS in
theorem ref_dV2 (t : Fin 4096) (c : Fin 256) : (vArr V0 (ix4 (0 : Fin 1) t (2 : Fin 4) c) : EReal) = dV DY PW PS (win 2) 2 t c := by
  pointwise [vArr, res_main_v136, res_main_v134, res_main_v132, res_main_v130]
  rw [ref_dDiff hD hW hS, dV, add_comm]
  refine congrArg (· + -dDiff DY PW PS 2 t c) ?_
  rw [sArr]
  refine (window_sum 0 4095 _ _ _ _ (qRow V0 2 c) t 2 c (fun t => (qRow_of V0 2 c t.isLt).symm) fun i => ?_).trans ((suffix_sum (qRow V0 2 c) t).trans ?_)
  · pointwise []
  · exact lead_eq _ 8 2 c (by decide) fD fW fS hD0 (fun j hj => (qRow_of V0 2 c hj).trans (ref_q2 hD hW hS hD0 ⟨j, hj⟩ c)) t

theorem ref_count3 (t : Fin 4096) : (res_main_v95 V0 (ix3 (0 : Fin 1) t (0 : Fin 1)) : EReal) = cnt 16 t := by
  pointwise [res_main_v95, res_main_v33]
  rw [show Ideal.ofBits .f32 0x41800000#32 = (((16 : ℕ) : ℝ) : EReal) by simp [Ideal.ofBits, Ideal.ieee, -EReal.coe_mul]; norm_num]
  exact count_of t 16 t.isLt

include hP fP in
theorem ref_diff3 (t : Fin 4096) (c : Fin 256) : (res_main_v106 V0 (ix4 (0 : Fin 1) t (3 : Fin 4) c) : EReal) = diff PJ (win 3) t (256 * 3 + c) := by
  obtain ⟨A, hA⟩ : ∃ A, A = diff PJ (win 3) t (256 * 3 + c) := ⟨_, rfl⟩
  rw [← hA]
  pointwise [res_main_v106, res_main_v86]
  rw [hA, ref_count3, ref_v31 hP, div_cnt _ _ _ (by decide)]
  simp only [ref_prefix hP]
  rw [diff, trail]
  refine congrArg (fun x => x * Ideal.div 1 (cnt 16 t) - PJ t (3072 + (256 * 3 + c))) ?_
  rw [show win 3 = 16 from rfl, ← prefix_sub (fun t => PJ t (3072 + (256 * 3 + c))) 16 t fun j _ => fP j _]
  refine congrArg (fun x => (∑ j ∈ Finset.range (t.val + 1), PJ j (3072 + (256 * 3 + c))) - x) ?_
  by_cases h : 16 ≤ t.val
  · exact (dif_neg (show ¬ t.val < 16 by omega)).trans (if_pos h).symm
  · exact (dif_pos (show t.val < 16 by omega)).trans (if_neg h).symm

include hD hW hS in
theorem ref_dMean3 (t : Fin 4096) (c : Fin 256) : (res_main_v141 V0 (ix3 (0 : Fin 1) t c) : EReal) = dMean DY PW PS 16 3 t c := by
  pointwise [res_main_v141, res_main_v136]
  rw [ref_count3, ref_dDiff hD hW hS, div_cnt _ _ _ (by decide)]
  rfl

include hD hW hS hD0 in
theorem ref_q3 (t : Fin 4096) (c : Fin 256) : (qArr V0 (ix4 (0 : Fin 1) t (3 : Fin 4) c) : EReal) = dMean DY PW PS 16 3 t c + -dMean DY PW PS 16 3 (t + 16) c := by
  pointwise [qArr, res_main_v142, res_main_v155, res_main_v169, res_main_v183]
  simp only [ref_dMean3 hD hW hS]
  refine congrArg (dMean DY PW PS 16 3 t c + ·) ?_
  by_cases h : t.val < 4080
  · refine (dif_pos h).trans ?_
    rw [show 16 + t.val = t.val + 16 by omega]
  · refine (dif_neg h).trans ?_
    rw [dMean, dDiff_past hD0 (by omega), zero_mul, neg_zero]

include hD hW hS hD0 fD fW fS in
theorem ref_dV3 (t : Fin 4096) (c : Fin 256) : (vArr V0 (ix4 (0 : Fin 1) t (3 : Fin 4) c) : EReal) = dV DY PW PS (win 3) 3 t c := by
  pointwise [vArr, res_main_v136, res_main_v134, res_main_v132, res_main_v130]
  rw [ref_dDiff hD hW hS, dV, add_comm]
  refine congrArg (· + -dDiff DY PW PS 3 t c) ?_
  rw [sArr]
  refine (window_sum 0 4095 _ _ _ _ (qRow V0 3 c) t 3 c (fun t => (qRow_of V0 3 c t.isLt).symm) fun i => ?_).trans ((suffix_sum (qRow V0 3 c) t).trans ?_)
  · pointwise []
  · exact lead_eq _ 16 3 c (by decide) fD fW fS hD0 (fun j hj => (qRow_of V0 3 c hj).trans (ref_q3 hD hW hS hD0 ⟨j, hj⟩ c)) t

include hP fP in
theorem ref_diff (t : Fin 4096) (g : Fin 4) (c : Fin 256) : (res_main_v106 V0 (ix4 (0 : Fin 1) t g c) : EReal) = diff PJ (win g) t (256 * g + c) := by
  fin_cases g
  exacts [ref_diff0 hP fP t c, ref_diff1 hP fP t c, ref_diff2 hP fP t c, ref_diff3 hP fP t c]

include hD hW hS hD0 fD fW fS in
theorem ref_dV (t : Fin 4096) (g : Fin 4) (c : Fin 256) : (vArr V0 (ix4 (0 : Fin 1) t g c) : EReal) = dV DY PW PS (win g) g t c := by
  fin_cases g
  exacts [ref_dV0 hD hW hS hD0 fD fW fS t c, ref_dV1 hD hW hS hD0 fD fW fS t c, ref_dV2 hD hW hS hD0 fD fW fS t c, ref_dV3 hD hW hS hD0 fD fW fS t c]

include hP fP hW in
theorem ref_zed (t : Fin 4096) (p : Fin 1024) : (res_main_v109 V0 (ix3 (0 : Fin 1) t p) : EReal) = zed PJ PW (win (p.val / 256)) (p.val / 256) t (p.val % 256) := by
  pointwise [res_main_v109]
  rw [zed]
  refine Fin.sum_fin_congr fun c => ?_
  rw [hW, ref_diff hP fP, mul_comm]

end Cert.ReferenceIdeal.Mix
end
-- ==== Proof.Mix.Ref.lean ====
/-
  The reference's four results are the mathematics of `Spec`.
-/
import proofs.«01_k».proof.Proof.Mix.RefPool

set_option maxRecDepth 16384

noncomputable section

open Idealize.ShloMosaic Idealize.ShloMosaic.TcCoe Idealize.SL.Sem
open scoped BigOperators

namespace Cert.ReferenceIdeal.Mix

open Cert.ReferenceIdeal Cert.ReferenceIdeal.Gen Cert.ReferenceIdeal.Value Cert.Mix

variable {V0 : Valuation τ sig (Elt Ideal)} {DY PJ CW : ℕ → ℕ → EReal} {PW : ℕ → ℕ → ℕ → EReal} {PS : ℕ → EReal}
  (hD : ∀ (t : Fin 4096) (d : Fin 2048), V0 (Proc.devRef .tc main_arg0) (ix2 t d) = DY t d)
  (hP : ∀ (t : Fin 4096) (d : Fin 4096), V0 (Proc.devRef .tc main_arg1) (ix2 t d) = PJ t d)
  (hC : ∀ (k : Fin 3) (d : Fin 1024), V0 (Proc.devRef .tc main_arg2) (ix2 k d) = CW k d)
  (hW : ∀ (g : Fin 4) (c d : Fin 256), V0 (Proc.devRef .tc main_arg3) (ix3 g c d) = PW g c d)
  (hS : ∀ d : Fin 1024, V0 (Proc.devRef .tc main_arg4) (ix1 d) = PS d)
  (hD0 : ∀ t d, 4096 ≤ t → DY t d = 0)

  (fD : ∀ t d, Fin' (DY t (1024 + d))) (fP : ∀ t d, Fin' (PJ t (3072 + d))) (fW : ∀ g c d, Fin' (PW g c d)) (fS : ∀ d, Fin' (PS d))

/-- The reference's gradient of the projection, of the filter, of the pool matrices and of the scale. -/
def refProj (V0 : Valuation τ sig (Elt Ideal)) : FVec Ideal S4096x4096 .bf16 :=
  truncf .bf16 (shapeCast _ (res_main_v237 V0) shapeCasts_S1x4096x4096_S4096x4096) bitsLt_bf16_f32

@[inherit_doc refProj]
def refTaps (V0 : Valuation τ sig (Elt Ideal)) : FVec Ideal S8x1024 .f32 :=
  pad S8x1024 ![0, 0] ![5, 0] ![0, 0] (addf (addf (pad S3x1024 ![2, 0] ![0, 0] ![0, 0] (broadcastInDim S1x1024 ![1] bcast_S1024_S1x1024_1 (Host.reduceAdd (shapeCast _ (Host.reduceAdd (mulf (res_main_v194 V0) (res_main_v25 V0)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S3x1024_200_000 h_S_) (pad S3x1024 ![1, 0] ![1, 0] ![0, 0] (broadcastInDim S1x1024 ![1] bcast_S1024_S1x1024_1 (Host.reduceAdd (shapeCast _ (Host.reduceAdd (mulf (res_main_v194 V0) (res_main_v18 V0)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S3x1024_110_000 h_S_)) (pad S3x1024 ![0, 0] ![2, 0] ![0, 0] (broadcastInDim S1x1024 ![1] bcast_S1024_S1x1024_1 (Host.reduceAdd (shapeCast _ (Host.reduceAdd (mulf (res_main_v194 V0) (res_main_v12 V0)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S3x1024_020_000 h_S_)) (sitofp .f32 (constantI S_ 32 0#32)) pads_S3x1024_S8x1024_050_000 h_S_

@[inherit_doc refProj]
def refPool (V0 : Valuation τ sig (Elt Ideal)) : FVec Ideal S4x256x256 .f32 :=
  transpose S4x256x256 [0, 2, 1] (Host.dotGeneral (F := Ideal) (φ₁ := .f32) (φ₂ := .f32) dot_S4x256x1x4096_S1x4096x4x256_S4x256x256_23_01_1_3_0_2 none (res_main_v124 V0) (res_main_v106 V0)) transposes_S4x256x256_S4x256x256_0_2_1

@[inherit_doc refProj]
def refScale (V0 : Valuation τ sig (Elt Ideal)) : FVec Ideal S1x1024 .f32 :=
  shapeCast _ (Host.reduceAdd (shapeCast _ (Host.reduceAdd (mulf (res_main_v109 V0) (res_main_v116 V0)) (constant S_ .f32 0x00000000#32) reducesTo_S1x4096x1024_S1x1024_d1 h_S_) shapeCasts_S1x1024_S1x1x1024) (constant S_ .f32 0x00000000#32) reducesTo_S1x1x1024_S1024_d0_1 h_S_) shapeCasts_S1024_S1x1024

theorem pad3072 (x : FVec Ideal S1x4096x1024 .f32) (t : Fin 4096) (p : Fin 4096) :
    (pad S1x4096x4096 ![0, 0, 3072] ![0, 0, 0] ![0, 0, 0] x (constant (F := Ideal) S_ .f32 0x00000000#32) pads_S1x4096x1024_S1x4096x4096_000_000_307200 h_S_ (ix3 (0 : Fin 1) t p) : EReal)
      = if h : 3072 ≤ p.val ∧ p.val - 3072 < 1024 then x (ix3 (0 : Fin 1) t ⟨p.val - 3072, h.2⟩) else 0 := by
  pointwise []

theorem pad2048 (x : FVec Ideal S1x4096x1024 .f32) (t : Fin 4096) (p : Fin 4096) :
    (pad S1x4096x4096 ![0, 0, 2048] ![0, 0, 1024] ![0, 0, 0] x (constant (F := Ideal) S_ .f32 0x00000000#32) pads_S1x4096x1024_S1x4096x4096_000_000_204810240 h_S_ (ix3 (0 : Fin 1) t p) : EReal)
      = if h : 2048 ≤ p.val ∧ p.val - 2048 < 1024 then x (ix3 (0 : Fin 1) t ⟨p.val - 2048, h.2⟩) else 0 := by
  pointwise []

theorem pad1024 (x : FVec Ideal S1x4096x1024 .f32) (t : Fin 4096) (p : Fin 4096) :
    (pad S1x4096x4096 ![0, 0, 1024] ![0, 0, 2048] ![0, 0, 0] x (constant (F := Ideal) S_ .f32 0x00000000#32) pads_S1x4096x1024_S1x4096x4096_000_000_102420480 h_S_ (ix3 (0 : Fin 1) t p) : EReal)
      = if h : 1024 ≤ p.val ∧ p.val - 1024 < 1024 then x (ix3 (0 : Fin 1) t ⟨p.val - 1024, h.2⟩) else 0 := by
  pointwise []

theorem pad0 (x : FVec Ideal S1x4096x1024 .f32) (t : Fin 4096) (p : Fin 4096) :
    (pad S1x4096x4096 ![0, 0, 0] ![0, 0, 3072] ![0, 0, 0] x (constant (F := Ideal) S_ .f32 0x00000000#32) pads_S1x4096x1024_S1x4096x4096_000_000_030720 h_S_ (ix3 (0 : Fin 1) t p) : EReal)
      = if h : 0 ≤ p.val ∧ p.val - 0 < 1024 then x (ix3 (0 : Fin 1) t ⟨p.val - 0, h.2⟩) else 0 := by
  pointwise []

theorem proj_split (V0 : Valuation τ sig (Elt Ideal)) : res_main_v237 V0 = addf (addf (addf (pad S1x4096x4096 ![0, 0, 3072] ![0, 0, 0] ![0, 0, 0] (shapeCast _ (vArr V0) shapeCasts_S1x4096x4x256_S1x4096x1024) (constant S_ .f32 0x00000000#32) pads_S1x4096x1024_S1x4096x4096_000_000_307200 h_S_) (pad S1x4096x4096 ![0, 0, 2048] ![0, 0, 1024] ![0, 0, 0] (mulf (res_main_v3 V0) (res_main_v228 V0) : FVec Ideal S1x4096x1024 .f32) (constant S_ .f32 0x00000000#32) pads_S1x4096x1024_S1x4096x4096_000_000_204810240 h_S_)) (pad S1x4096x4096 ![0, 0, 1024] ![0, 0, 2048] ![0, 0, 0] (mulf (res_main_v228 V0) (res_main_v4 V0) : FVec Ideal S1x4096x1024 .f32) (constant S_ .f32 0x00000000#32) pads_S1x4096x1024_S1x4096x4096_000_000_102420480 h_S_)) (pad S1x4096x4096 ![0, 0, 0] ![0, 0, 3072] ![0, 0, 0] (mulf (res_main_v115 V0) (res_main_v29 V0) : FVec Ideal S1x4096x1024 .f32) (constant S_ .f32 0x00000000#32) pads_S1x4096x1024_S1x4096x4096_000_000_030720 h_S_) := rfl

include hD hW hS hD0 fD fW fS in
theorem ref_part3 (t : Fin 4096) (d : Fin 1024) : (shapeCast S1x4096x1024 (vArr V0) shapeCasts_S1x4096x4x256_S1x4096x1024 (ix3 (0 : Fin 1) t d) : EReal) = dV DY PW PS (win (d.val / 256)) (d.val / 256) t (d.val % 256) := by
  pointwise []
  rw [ref_dV hD hW hS hD0 fD fW fS]

include hP hD hC hD0 in
theorem ref_part2 (t : Fin 4096) (d : Fin 1024) : ((mulf (res_main_v3 V0) (res_main_v228 V0) : FVec Ideal S1x4096x1024 .f32) (ix3 (0 : Fin 1) t d) : EReal) = dU DY PJ CW t d * PJ t (1024 + d) := by
  pointwise [res_main_v3, res_main_v1]
  rw [ref_dU hD hP hC hD0, hP, mul_comm]

include hP hD hC hD0 in
theorem ref_part1 (t : Fin 4096) (d : Fin 1024) : ((mulf (res_main_v228 V0) (res_main_v4 V0) : FVec Ideal S1x4096x1024 .f32) (ix3 (0 : Fin 1) t d) : EReal) = dU DY PJ CW t d * PJ t (2048 + d) := by
  pointwise [res_main_v4, res_main_v1]
  rw [ref_dU hD hP hC hD0, hP]

include hP hD hC in
theorem ref_part0 (t : Fin 4096) (d : Fin 1024) : ((mulf (res_main_v115 V0) (res_main_v29 V0) : FVec Ideal S1x4096x1024 .f32) (ix3 (0 : Fin 1) t d) : EReal) = DY t d * conv PJ CW t d := by
  pointwise [res_main_v115, res_main_v114]
  rw [ref_conv hP hC, hD]

include hP hD hC hW hS hD0 fD fW fS in
theorem ref15 (t p : Fin 4096) : (refProj V0 (ix2 t p) : EReal) = out15 DY PJ CW PW PS t p := by
  pointwise [refProj]
  rw [proj_split]
  refine (congrArg₂ (· + ·) (congrArg₂ (· + ·) (congrArg₂ (· + ·) (pad3072 _ t p) (pad2048 _ t p)) (pad1024 _ t p)) (pad0 _ t p)).trans ?_
  simp only [ref_part3 hD hW hS hD0 fD fW fS, ref_part2 hD hP hC hD0, ref_part1 hD hP hC hD0, ref_part0 hD hP hC]
  have hp := p.isLt
  rw [out15]
  by_cases h0 : p.val < 1024
  · rw [if_pos h0, dif_neg (by omega), dif_neg (by omega), dif_neg (by omega), dif_pos (by omega), zero_add, zero_add, zero_add]
    rfl
  by_cases h1 : p.val < 2048
  · rw [if_neg h0, if_pos h1, dif_neg (by omega), dif_neg (by omega), dif_pos (by omega), dif_neg (by omega), zero_add, zero_add, add_zero,
      show 2048 + (p.val - 1024) = 1024 + p.val by omega]
  by_cases h2 : p.val < 3072
  · rw [if_neg h0, if_neg h1, if_pos h2, dif_neg (by omega), dif_pos (by omega), dif_neg (by omega), dif_neg (by omega), zero_add, add_zero, add_zero,
      show 1024 + (p.val - 2048) = p.val - 1024 by omega]
  · rw [if_neg h0, if_neg h1, if_neg h2, dif_pos (by omega), dif_neg (by omega), dif_neg (by omega), dif_neg (by omega), add_zero, add_zero, add_zero]

/-- A sum over two axes of one position each and a third, at the third's position. -/
theorem reduce_unit (h : (⟨3, ![1, 1, 1024]⟩ : Shape).ReducesTo [0, 1] ⟨1, ![1024]⟩) (x : (⟨3, ![1, 1, 1024]⟩ : Shape).Idx → EReal) (d : Fin 1024) :
    Ideal.hostReduceAdd h x 0 (ix1 d) = x (ix3 (0 : Fin 1) (0 : Fin 1) d) := by
  rw [Ideal.hostReduceAdd, zero_add, Finset.sum_eq_single_of_mem (ix3 (0 : Fin 1) (0 : Fin 1) d)]
  · refine Finset.mem_filter.mpr ⟨Finset.mem_univ _, ?_⟩
    funext a
    fin_cases a
    rfl
  · intro i hi hne
    refine absurd ?_ hne
    have e := congrFun (Finset.mem_filter.mp hi).2 0
    funext a
    fin_cases a
    · exact Subsingleton.elim (α := Fin 1) _ _
    · exact Subsingleton.elim (α := Fin 1) _ _
    · exact e

/-- The sum of an array over its rows, as the reference takes it. -/
theorem reduce_rows (x : FVec Ideal S1x4096x1024 .f32) (d : Fin 1024) :
    (Host.reduceAdd (shapeCast S1x1x1024 (Host.reduceAdd x (constant (F := Ideal) S_ .f32 0x00000000#32) reducesTo_S1x4096x1024_S1x1024_d1 h_S_) shapeCasts_S1x1024_S1x1x1024) (constant (F := Ideal) S_ .f32 0x00000000#32) reducesTo_S1x1x1024_S1024_d0_1 h_S_ (ix1 d) : EReal)
      = ∑ t : Fin 4096, x (ix3 (0 : Fin 1) t d) := by
  pointwise []
  rw [reduce_unit]
  pointwise []

include hP hD in
theorem ref16 (k : Fin 8) (d : Fin 1024) : (refTaps V0 (ix2 k d) : EReal) = out16 DY PJ k d := by
  pointwise [refTaps]
  simp only [reduce_unit]
  pointwise []
  simp only [ref_dConv hD hP, ref_lag0 hP, ref_lag1 hP, ref_lag2 hP]
  rw [out16]
  by_cases h : k.val < 3
  · rw [dif_pos h, if_pos h, dTap]
    obtain h0 | h1 | h2 : k.val = 0 ∨ k.val = 1 ∨ k.val = 2 := by omega
    · rw [h0]
      refine (congrArg₂ (· + ·) (congrArg₂ (· + ·) (dif_neg (by omega)) (dif_neg (by omega))) (dif_pos (by omega))).trans ?_
      rw [zero_add, zero_add]
    · rw [h1]
      refine (congrArg₂ (· + ·) (congrArg₂ (· + ·) (dif_neg (by omega)) (dif_pos (by omega))) (dif_neg (by omega))).trans ?_
      rw [zero_add, add_zero]
    · rw [h2]
      refine (congrArg₂ (· + ·) (congrArg₂ (· + ·) (dif_pos (by omega)) (dif_neg (by omega))) (dif_neg (by omega))).trans ?_
      rw [add_zero, add_zero]
  · rw [dif_neg h, if_neg h]
    show ((((0#32).toInt : ℤ) : ℝ) : EReal) = 0
    simp

include hP hD hS fP in
theorem ref17 (g : Fin 4) (c d : Fin 256) : (refPool V0 (ix3 g c d) : EReal) = dPool DY PJ PS (win g) g c d := by
  pointwise [refPool, res_main_v124, res_main_v116, res_main_v114, res_main_v110]
  rw [Fin.sum_univ_one, dPool]
  refine Fin.sum_fin_congr fun t => ?_
  rw [hD, hS, ref_diff hP fP, dz, mul_comm]
  show _ * (DY t (1024 + (g.val * 256 + d.val)) * PS (g.val * 256 + d.val)) = _
  rw [mul_comm g.val]

include hP hD hW fP in
theorem ref18 (p : Fin 1024) : (refScale V0 (ix2 (0 : Fin 1) p) : EReal) = dScale DY PJ PW (win (p.val / 256)) (p.val / 256) (p.val % 256) := by
  pointwise [refScale]
  rw [reduce_unit]
  pointwise [res_main_v116, res_main_v114]
  rw [dScale]
  refine Fin.sum_fin_congr fun t => ?_
  rw [ref_zed hP hW fP, hD, mul_comm]
  exact congrArg (fun q => DY t (1024 + q) * _) (Nat.div_add_mod p.val 256).symm

end Cert.ReferenceIdeal.Mix
end
-- ==== Proof.Mix.Finite.lean ====
/-
  The precondition, read: every element the pooling half reads is finite.
-/
import proofs.«01_k».proof.Pre_finite_pool
import proofs.«01_k».proof.Proof.Mix.Cumsum

set_option maxRecDepth 16384

noncomputable section

open Idealize.ShloMosaic Idealize.ShloMosaic.TcCoe Idealize.SL.Sem
open scoped BigOperators

namespace Cert.Mix.Finite

open Cert.Pre_finite_pool Cert.Mix

instance facts : Cert.Pre_finite_pool.Facts :=
  ⟨by decide, by decide, by decide, by decide, by decide, by decide, by decide, by decide, by decide⟩

theorem of_abs (x : EReal) (h : BitVec.ofBool (decide ((FloatOps.absf (F := Ideal) (φ := .f32) x : EReal) < Ideal.ofBits .f32 0x7F800000#32)) = 1#1) : Fin' x := by
  have e : Ideal.ofBits .f32 0x7F800000#32 = ⊤ := by simp [Ideal.ofBits, Ideal.ieee]
  have h1 : (FloatOps.absf (F := Ideal) (φ := .f32) x : EReal) < ⊤ := by
    rw [e] at h
    by_contra hn
    rw [decide_eq_false hn] at h
    exact absurd h (by decide)
  have h2 : max x (-x) < ⊤ := h1
  have h3 : x ≠ ⊤ := fun hx => by simp [hx] at h2
  have h4 : x ≠ ⊥ := fun hx => by simp [hx] at h2
  exact ⟨x.toReal, (EReal.coe_toReal h3 h4).symm⟩

theorem of_and (x y : BitVec 1) (h : IntOp.andi x y = 1#1) : x = 1#1 ∧ y = 1#1 := by
  revert x y; decide

variable {a0 : FVec Ideal S4096x2048 .f32} {a1 : FVec Ideal S4096x4096 .bf16} {a2 : FVec Ideal S3x1024 .f32} {a3 : FVec Ideal S4x256x256 .f32} {a4 : FVec Ideal S1024 .f32}
  (h : fn (F := Ideal) a0 a1 a2 a3 a4 = fun _ => 1#1)

include h in
theorem rows (t : Fin 4096) (d : Fin 1024) : Fin' (a0 (ix2 t ⟨1024 + d.val, by omega⟩)) ∧ Fin' (a1 (ix2 t ⟨3072 + d.val, by omega⟩)) := by
  have e := congrFun h (ix2 (⟨t.val, by omega⟩ : Fin 4353) d)
  revert e
  pointwise [fn]
  intro e
  exact ⟨of_abs _ (of_and _ _ e).1, of_abs _ (of_and _ _ e).2⟩

include h in
theorem mats (g : Fin 4) (c d : Fin 256) : Fin' (a3 (ix3 g c d)) := by
  obtain ⟨r, hr⟩ : ∃ r : Fin 256, r.val = 64 * g.val + c.val / 4 := ⟨⟨64 * g.val + c.val / 4, by omega⟩, rfl⟩
  obtain ⟨p, hp⟩ : ∃ p : Fin 1024, p.val = c.val % 4 * 256 + d.val := ⟨⟨c.val % 4 * 256 + d.val, by omega⟩, rfl⟩
  have e := congrFun h (ix2 (⟨4096 + r.val, by omega⟩ : Fin 4353) p)
  revert e
  pointwise [fn]
  intro e
  have f := of_abs _ e
  have i : (ix3 (⟨r.val / 64, by omega⟩ : Fin 4) (⟨r.val % 64 * 4 + p.val / 256, by omega⟩ : Fin 256) (⟨p.val % 256, by omega⟩ : Fin 256)) = ix3 g c d := by
    congr 1 <;> exact Fin.ext (by dsimp only; omega)
  rwa [i] at f

include h in
theorem scales (d : Fin 1024) : Fin' (a4 (ix1 d)) := by
  have e := congrFun h (ix2 (⟨4352, by omega⟩ : Fin 4353) d)
  revert e
  pointwise [fn]
  exact fun e => of_abs _ e

/-! ## As functions of natural numbers -/

theorem zero_fin : Fin' 0 := ⟨0, rfl⟩

include h in
theorem finDY (t d : ℕ) : Fin' (at2 a0 t (1024 + d)) := by
  rw [at2]
  split
  · rename_i hb
    exact (rows h ⟨t, hb.1⟩ ⟨d, by omega⟩).1
  · exact zero_fin

include h in
theorem finPJ (t d : ℕ) : Fin' (at2 a1 t (3072 + d)) := by
  rw [at2]
  split
  · rename_i hb
    exact (rows h ⟨t, hb.1⟩ ⟨d, by omega⟩).2
  · exact zero_fin

include h in
theorem finPW (g c d : ℕ) : Fin' (at3 a3 g c d) := by
  rw [at3]
  split
  · exact mats h _ _ _
  · exact zero_fin

include h in
theorem finPS (d : ℕ) : Fin' (at1 a4 d) := by
  rw [at1]
  split
  · exact scales h _
  · exact zero_fin

end Cert.Mix.Finite
end
-- ==== Proof.Prod.Common.lean ====
/-
  What the certificates of the matrix products share: a load of a buffer held at known contents is a window of those
  contents, the constant two, and a sum over rows taken in two halves.
-/
import Idealize.ShloMosaic.Lib.Pipeline.Frame
import Idealize.ShloMosaic.Lib.Pipeline.Value
import Idealize.ShloMosaic.Lib.Pipeline.ValueKit
import Idealize.ShloMosaic.Lib.Pointwise

noncomputable section

open Idealize.ShloMosaic
open scoped BigOperators

namespace Cert.Prod

theorem load_held {sig : RefSig} {Val : EltTy → Type} {κ : Kind} {sp : Space} {s : Shape} {e : EltTy} {b : Memref sig κ sp s e}
    (h : b.IsWhole) (X : s.Idx → Val e) (r : Rect s) : View.readAt Val b.view r.toLoadRect (h.unread X) = View.ld X r :=
  (View.readAt_eq_ld b.view _ r).trans (by rw [h.read_unread])

theorem two_bits : Ideal.ofBits .f32 0x40000000#32 = 2 := by
  simp [Ideal.ofBits, Ideal.ieee, -EReal.coe_mul]
  norm_num
  rfl

theorem two_mul_ereal (x : EReal) : 2 * x = x + x := by
  rw [show (2 : EReal) = 1 + 1 from one_add_one_eq_two.symm, EReal.right_distrib_of_nonneg zero_le_one zero_le_one, one_mul]

/-- A sum over `n + n` rows is the sum over the first half and the sum over the second. -/
theorem sum_halves (n : ℕ) (f : ℕ → EReal) : (∑ k : Fin n, f k) + (∑ k : Fin n, f (n + k)) = ∑ k : Fin (n + n), f k := by
  rw [Fin.sum_univ_add]
  rfl

end Cert.Prod

end
-- ==== Proof.Prod.Act.lean ====
/-
  What the call for the gradient of the squared ReLU leaves: at every row and column the product of the output's
  gradient with the down projection, times twice the activation that the forward pass saved.
-/
import proofs.«01_k».proof.Proof.Gen.GradActIdeal
import proofs.«01_k».proof.Proof.Gen.GradActIdeal.Skeleton
import proofs.«01_k».proof.Proof.Gen.GradActIdeal.Launch
import proofs.«01_k».proof.Proof.Gen.GradActIdeal.Points
import proofs.«01_k».proof.Proof.Gen.GradActIdeal.Frame
import proofs.«01_k».proof.Proof.Gen.GradActIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Common

set_option maxRecDepth 16384

noncomputable section

open Idealize.ShloMosaic Idealize.ShloMosaic.TcCoe Idealize.SL.Sem
open Idealize.ShloMosaic.Pipeline (Dat)
open scoped BigOperators

namespace Cert.GradActIdeal.Prod

open Cert.GradActIdeal Cert.GradActIdeal.Gen

variable (m : (ℓ : Loc nD τ sig) → Buf (Elt Ideal) ℓ)

open Cert.Mix Cert.Prod

/-- Which blocks the windows hold at a grid point. -/
theorem idx_val : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

variable (c : Dev nD)

/-- The arguments as functions of row and column. -/
def DYf : ℕ → ℕ → EReal := at2 (a := 4096) (b := 2048) (m ((c : Thread nD τ).loc main_arg0))
def WDf : ℕ → ℕ → EReal := at2 (a := 8192) (b := 2048) (m ((c : Thread nD τ).loc main_arg1))
def Af : ℕ → ℕ → EReal := at2 (a := 4096) (b := 8192) (m ((c : Thread nD τ).loc main_arg2))

/-- The saved activation as the region finds it. -/
theorem entry2 : V m c main_v1 = (truncf .bf16 (maximumf (m ((c : Thread nD τ).loc main_arg2) : FVec Ideal S4096x8192 .f32) (broadcastInDim S4096x8192 ![] bcast_S_S4096x8192 (constant S_ .f32 0#32))) bitsLt_bf16_f32 : FVec Ideal S4096x8192 .bf16) := by
  unfold V
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results

section Reads

variable (t : Fin cfg0.N)

theorem read0 (o : ℕ) (inb) (r : Fin 512) (d : Fin 2048) :
    View.ld (iblk m c 0 t) (Rect.unit ![o, 0] ![512, 2048] inb) (ix2 r d) = DYf m c (2048 * (t.val / 8) + (o + r)) d := by
  have ho : o + 512 ≤ 2048 := inb 0
  have ht : t.val < 16 := lt_of_lt_of_eq t.isLt N_0
  rw [DYf, at2_of _ (by omega) (by omega)]
  pointwise []
  blk_point [iblk, V, idx_val t]

theorem read1 (inb) (r : Fin 1024) (d : Fin 2048) :
    View.ld (iblk m c 1 t) (Rect.unit ![0, 0] ![1024, 2048] inb) (ix2 r d) = WDf m c (1024 * (t.val % 8) + r) d := by
  have ht : t.val < 16 := lt_of_lt_of_eq t.isLt N_0
  rw [WDf, at2_of _ (by omega) (by omega)]
  pointwise []
  blk_point [iblk, V, idx_val t]

theorem read2 (o : ℕ) (inb) (r : Fin 512) (d : Fin 1024) :
    View.ld (iblk m c 2 t) (Rect.unit ![o, 0] ![512, 1024] inb) (ix2 r d) = max (Af m c (2048 * (t.val / 8) + (o + r)) (1024 * (t.val % 8) + d)) 0 := by
  have ho : o + 512 ≤ 2048 := inb 0
  have ht : t.val < 16 := lt_of_lt_of_eq t.isLt N_0
  rw [Af, at2_of _ (by omega) (by omega)]
  pointwise []
  blk_simp [iblk, idx_val t]
  have e : ((win0_2.blk t).view.emb (ix2 ⟨o + r.val, by omega⟩ d)) = (ix2 (⟨2048 * (t.val / 8) + (o + r), by omega⟩ : Fin 4096) (⟨1024 * (t.val % 8) + d, by omega⟩ : Fin 8192)) := by
    blk_ext [idx_val t]
  refine (congrArg (V m c main_v1) e).trans ?_
  refine (congrFun (entry2 m c) _).trans ?_
  pointwise []

end Reads

/-- The result at a row and a column. -/
def actAt (t f : ℕ) : EReal := (∑ d : Fin 2048, DYf m c t d * WDf m c f d) * (2 * max (Af m c t f) 0)

/-- The result. -/
def act3 : FVec Ideal S4096x8192 .bf16 := fun j => actAt m c (j 0).val (j 1).val

theorem pay_at (A : FVec Ideal S512x2048 .bf16) (B : FVec Ideal S1024x2048 .bf16) (U : FVec Ideal S512x1024 .bf16) (r : Fin 512) (d : Fin 1024) :
    (k0_pay1 (F := Ideal) A B U (ix2 r d) : EReal) = (∑ k : Fin 2048, (A (ix2 r k) : EReal) * (B (ix2 d k) : EReal)) * (2 * (U (ix2 r d) : EReal)) := by
  pointwise [k0_pay1]
  rw [two_bits]

/-- What the trips before `n` store: each a tile of the block's rows. -/
theorem pieces (𝒱 : Variants) (bd : Option 𝒱.V) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S2048x1024 .bf16) (harg5 : arg5.IsWhole)
    (x0 : Vec Ideal S2048x2048 .bf16) (x1 : Vec Ideal S1024x2048 .bf16) (x2 : Vec Ideal S2048x1024 .bf16) (P : View.Piece (Elt Ideal) S2048x1024 .bf16 → Prop)
    (h : ∀ (o : ℕ) (o0 o2 : Fin 2 → ℕ) (_ : o0 = ![o, 0]) (_ : o2 = ![o, 0]) (i2 i0 i1), P ⟨Rect.unit o2 ![512, 1024] i2, k0_pay1 (F := Ideal) (View.ld x0 (Rect.unit o0 ![512, 2048] i0)) (View.ld x1 (Rect.unit ![0, 0] ![1024, 2048] i1)) (View.ld x2 (Rect.unit o2 ![512, 1024] i2))⟩) :
    ∀ n ≤ k0_t1_loop.trips, ∀ p ∈ pb_k0_t1 (F := Ideal) 𝒱 c bd i arg2 harg2 arg3 harg3 arg4 harg4 arg5 harg5 (harg2.unread x0) (harg3.unread x1) (harg4.unread x2) n, P p := by
  intro n
  induction n with
  | zero => intro _ p hp; exact absurd hp List.not_mem_nil
  | succ n ih =>
    intro hn p hp
    rw [pb_k0_t1_succ 𝒱 c bd i arg2 harg2 arg3 harg3 arg4 harg4 arg5 harg5 _ _ _ ⟨n, hn⟩] at hp
    rcases List.mem_append.1 hp with hp | hp
    · unfold tripL_k0_t1 trip_k0_t1 at hp
      dsimp only at hp
      rw [List.mem_singleton] at hp
      subst hp
      rw [load_held, load_held, load_held]
      exact h (512 * n) _ _ (k0_off1_eq _) (k0_off2_eq _) _ _ _
    · exact ih (Nat.le_of_succ_le hn) p hp

theorem final3 : (dats m 0 c).arrAt 3 cfg0.N = act3 m c := by
  refine (dats m 0 c).arrAt_eq_of_covers 3 _ (by decide +kernel) fun t hf y => ?_
  blk_simp
  rw [after0_3]
  unfold outsAt0 out0_A_3
  refine View.read_writes_apply_of_pieces (Val := Elt Ideal) _ _ (fun x => act3 m c (((cfg0.win 3).blk t).view.emb x)) _ ?_ _ (cover0_A_3 c _ _ _ _ _ _ _ _ _ _ _ _ _)
  unfold kernelRun0_A
  dsimp only
  refine pieces c _ _ _ _ _ _ _ _ _ _ _ _ _ _ _ ?_ _ le_rfl
  intro o o0 o2 h0 h2 i2 i0 i1 x
  subst h0 h2
  obtain ⟨r, d, rfl⟩ : ∃ (r : Fin 512) (d : Fin 1024), x = ix2 r d := ⟨x 0, x 1, by funext a; fin_cases a <;> rfl⟩
  refine (pay_at _ _ _ r d).trans ?_
  rw [read2]
  simp only [read0, read1]
  have e0 : ((((View.whole main_v2).slice (win0_3.rect t)).emb ((Rect.unit (s := S2048x1024) ![o, 0] ![512, 1024] i2).emb (ix2 r d))) 0).val = 2048 * (t.val / 8) + (o + r) := by blk_simp [idx_val t]; omega
  have e1 : ((((View.whole main_v2).slice (win0_3.rect t)).emb ((Rect.unit (s := S2048x1024) ![o, 0] ![512, 1024] i2).emb (ix2 r d))) 1).val = 1024 * (t.val % 8) + d := by blk_simp [idx_val t]; omega
  show _ = actAt m c _ _
  rw [e0, e1]
  rfl

end Cert.GradActIdeal.Prod

end
-- ==== Proof.Prod.ActRef.lean ====
/-
  What the reference for the gradient of the squared ReLU computes, entry by entry.
-/
import proofs.«01_k».proof.Proof.Gen.GradActRefIdeal
import proofs.«01_k».proof.Proof.Gen.GradActRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.GradActRefIdeal.Prod

open Cert.GradActRefIdeal Cert.GradActRefIdeal.Gen Cert.Mix Cert.Prod

/-- The reference's result, over its arguments. -/
def result (DY : FVec Ideal S4096x2048 .bf16) (WD : FVec Ideal S8192x2048 .bf16) (A : FVec Ideal S4096x8192 .f32) : FVec Ideal S4096x8192 .bf16 :=
  truncf .bf16 (shapeCast _ (select (cmpf .ogt (broadcastInDim S1x4096x8192 ![1, 2] bcast_S4096x8192_S1x4096x8192_1_2 A) (broadcastInDim S1x4096x8192 ![] bcast_S_S1x4096x8192 (constant S_ .f32 0x00000000#32))) (addf (mulf (maximumf (broadcastInDim S1x4096x8192 ![1, 2] bcast_S4096x8192_S1x4096x8192_1_2 A) (broadcastInDim S1x4096x8192 ![] bcast_S_S1x4096x8192 (constant S_ .f32 0x00000000#32))) (Host.dotGeneral dot_S1x4096x2048_S8192x2048_S1x4096x8192_2_1_01_0_n_n none (broadcastInDim S1x4096x2048 ![1, 2] bcast_S4096x2048_S1x4096x2048_1_2 (extf .f32 DY bitsLt_bf16_f32)) (extf .f32 WD bitsLt_bf16_f32))) (mulf (Host.dotGeneral dot_S1x4096x2048_S8192x2048_S1x4096x8192_2_1_01_0_n_n none (broadcastInDim S1x4096x2048 ![1, 2] bcast_S4096x2048_S1x4096x2048_1_2 (extf .f32 DY bitsLt_bf16_f32)) (extf .f32 WD bitsLt_bf16_f32)) (maximumf (broadcastInDim S1x4096x8192 ![1, 2] bcast_S4096x8192_S1x4096x8192_1_2 A) (broadcastInDim S1x4096x8192 ![] bcast_S_S1x4096x8192 (constant S_ .f32 0x00000000#32))))) (broadcastInDim S1x4096x8192 ![] bcast_S_S1x4096x8192 (constant S_ .f32 0x00000000#32))) shapeCasts_S1x4096x8192_S4096x8192) bitsLt_bf16_f32

/-- Twice a number, times another, where the first is positive; zero elsewhere. -/
theorem relu_twice (A P : EReal) : (if 0 < A then max A 0 * P + P * max A 0 else 0) = P * (2 * max A 0) := by
  split
  · rw [mul_comm (max A 0) P, ← two_mul_ereal, mul_left_comm]
  · rename_i h
    rw [max_eq_right (not_lt.1 h), mul_zero, mul_zero]

theorem result_at (DY : FVec Ideal S4096x2048 .bf16) (WD : FVec Ideal S8192x2048 .bf16) (A : FVec Ideal S4096x8192 .f32) (t : Fin 4096) (f : Fin 8192) :
    (result DY WD A (ix2 t f) : EReal) = (∑ d : Fin 2048, (DY (ix2 t d) : EReal) * (WD (ix2 f d) : EReal)) * (2 * max (A (ix2 t f) : EReal) 0) := by
  rw [← relu_twice]
  unfold result
  pointwise []

end Cert.GradActRefIdeal.Prod

end
-- ==== Proof.Prod.Rows.lean ====
/-
  An accumulator updated in four bands of rows, each band read, increased by a product and stored: what the bands
  leave, row by row.
-/
import proofs.«01_k».proof.Proof.Prod.Common
import proofs.«01_k».proof.Proof.Mix.Peel
import Idealize.ShloMosaic.Lib.ValueIdx

noncomputable section

open Idealize.ShloMosaic
open scoped BigOperators

namespace Cert.Prod

open Cert.KernelIdeal.Mix

abbrev Acc : Shape := ⟨2, ![2048, 1024]⟩
abbrev Lhs : Shape := ⟨2, ![2048, 2048]⟩

/-- An accumulator increased by the product of a block's columns with another block's. -/
def increased (G : Acc.Idx → EReal) (X : Lhs.Idx → EReal) (Y : Acc.Idx → EReal) : Acc.Idx → EReal :=
  fun j => G j + ∑ k : Fin 2048, X (ix2 k (j 0)) * Y (ix2 k (j 1))

/-- The rows before `n` hold `F`. -/
def Upto (L : List (View.Piece (Elt Ideal) Acc .f32)) (n : ℕ) (F : Acc.Idx → EReal) : Prop :=
  ∀ (r : Fin 2048) (d : Fin 1024), r.val < n → (View.canon L (ix2 r d) : EReal) = F (ix2 r d)

/-- The rows from `n` on hold `G`. -/
def Rest (L : List (View.Piece (Elt Ideal) Acc .f32)) (n : ℕ) (G : Acc.Idx → EReal) : Prop :=
  ∀ (r : Fin 2048) (d : Fin 1024), n ≤ r.val → (View.canon L (ix2 r d) : EReal) = G (ix2 r d)

variable {L : List (View.Piece (Elt Ideal) Acc .f32)} {n : ℕ} {F G : Acc.Idx → EReal} {X : Lhs.Idx → EReal} {Y : Acc.Idx → EReal}

theorem upto_none : Upto L 0 F := fun _ _ h => absurd h (Nat.not_lt_zero _)

theorem rest_fill (inb) (w : Acc.Idx → EReal) (h : ∀ j, w j = G j) :
    Rest (⟨Rect.unit (s := Acc) ![0, 0] ![2048, 1024] inb, w⟩ :: L) 0 G := by
  intro r d _
  refine peel2 (Val := Elt Ideal) (e := .f32) inb w L _ _ (fun x h0 h1 _ _ => ?_) (fun hm => ?_)
  · refine (h x).trans (congrArg G ?_)
    funext a
    fin_cases a
    · exact Fin.ext (by have : r.val = 0 + (x 0).val := h0; show (x 0).val = r.val; omega)
    · exact Fin.ext (by have : d.val = 0 + (x 1).val := h1; show (x 1).val = d.val; omega)
  · exact absurd ⟨⟨Nat.zero_le _, by have := r.isLt; show r.val < 0 + 2048; omega⟩, ⟨Nat.zero_le _, by have := d.isLt; show d.val < 0 + 1024; omega⟩⟩ hm

theorem rest_cons (inb) (w : (⟨2, ![512, 1024]⟩ : Shape).Idx → EReal) (R : Rest L n G) :
    Rest (⟨Rect.unit (s := Acc) ![n, 0] ![512, 1024] inb, w⟩ :: L) (n + 512) G := by
  intro r d hr
  refine peel2 (Val := Elt Ideal) (e := .f32) inb w L _ _ (fun x h0 _ h2 _ => ?_) (fun _ => R r d (by omega))
  have : r.val = n + (x 0).val := h0
  omega

/-- One band: its rows come to hold the increased accumulator, the rows before stay. -/
theorem upto_cons (inb) (w A : (⟨2, ![512, 1024]⟩ : Shape).Idx → EReal) (inbX)
    (U : Upto L n (increased G X Y))
    (hA : ∀ (x : Fin 512) (d : Fin 1024) (h : n + x.val < 2048), A (ix2 x d) = G (ix2 ⟨n + x.val, h⟩ d))
    (hw : ∀ (x : Fin 512) (d : Fin 1024), w (ix2 x d) = A (ix2 x d) + ∑ k : Fin 2048, View.ld (Val := Elt Ideal) (e' := .bf16) X (Rect.unit (s := Lhs) ![0, n] ![2048, 512] inbX) (ix2 k x) * Y (ix2 k d)) :
    Upto (⟨Rect.unit (s := Acc) ![n, 0] ![512, 1024] inb, w⟩ :: L) (n + 512) (increased G X Y) := by
  intro r d hr
  refine peel2 (Val := Elt Ideal) (e := .f32) inb w L _ _ (fun x h0 h1 h2 h3 => ?_) (fun hm => U r d ?_)
  · have e0 : r.val = n + (x 0).val := h0
    have e1 : d.val = 0 + (x 1).val := h1
    have hx : x = ix2 (⟨(x 0).val, h2⟩ : Fin 512) (⟨(x 1).val, h3⟩ : Fin 1024) := by funext a; fin_cases a <;> rfl
    have hr' : n + (x 0).val < 2048 := e0 ▸ r.isLt
    have er : r = ⟨n + (x 0).val, hr'⟩ := Fin.ext e0
    have ed : d = ⟨(x 1).val, h3⟩ := Fin.ext (e1.trans (Nat.zero_add _))
    rw [hx]
    refine (hw _ _).trans ?_
    rw [hA ⟨(x 0).val, h2⟩ ⟨(x 1).val, h3⟩ hr', er, ed]
    refine congrArg (G _ + ·) (Finset.sum_congr rfl fun k _ => congrArg (· * _) ?_)
    exact load2 (Val := Elt Ideal) (e := .bf16) X inbX _ _ (Nat.zero_add _).symm rfl
  · by_contra hn
    exact hm ⟨⟨by show n ≤ r.val; omega, hr⟩, ⟨Nat.zero_le _, by have := d.isLt; show d.val < 0 + 1024; omega⟩⟩

/-- Reading a band that no earlier band touched. -/
theorem read_rest {sig : RefSig} {κ : Kind} {sp : Space} (v : View sig κ sp Acc .f32) (inb) (R : Rest L n G)
    (x : Fin 512) (d : Fin 1024) (h : n + x.val < 2048) :
    (v.readCov L (Rect.unit (s := Acc) ![n, 0] ![512, 1024] inb).toLoadRect (ix2 x d) : EReal) = G (ix2 ⟨n + x.val, h⟩ d) := by
  rw [View.readCov_eq_canon']
  refine (congrArg (View.canon L) ?_).trans (R ⟨n + x.val, h⟩ d (Nat.le_add_right _ _))
  funext a
  refine Fin.ext ?_
  fin_cases a
  · show n + 1 * x.val = n + x.val; omega
  · show 0 + 1 * d.val = d.val; omega

/-- Reading a band of an accumulator held whole. -/
theorem read_held (Z : Acc.Idx → EReal) (inb) (x : Fin 512) (d : Fin 1024) (h : n + x.val < 2048) :
    View.ld (Val := Elt Ideal) (e' := .f32) Z (Rect.unit (s := Acc) ![n, 0] ![512, 1024] inb) (ix2 x d) = Z (ix2 ⟨n + x.val, h⟩ d) :=
  load2 (Val := Elt Ideal) (e := .f32) Z inb _ _ rfl (Nat.zero_add _).symm

/-- The accumulator once every band is stored. -/
theorem canon_of_upto (U : Upto L 2048 F) : View.canon L = F := by
  funext j
  obtain ⟨r, d, rfl⟩ : ∃ (r : Fin 2048) (d : Fin 1024), j = ix2 r d := ⟨j 0, j 1, by funext a; fin_cases a <;> rfl⟩
  exact U r d r.isLt

/-- Reading the whole accumulator once every band is stored. -/
theorem read_whole {sig : RefSig} {κ : Kind} {sp : Space} (v : View sig κ sp Acc .f32) (inb) (U : Upto L 2048 F) (r : Fin 2048) (d : Fin 1024) :
    (v.readCov L (Rect.unit (s := Acc) ![0, 0] ![2048, 1024] inb).toLoadRect (ix2 r d) : EReal) = F (ix2 r d) := by
  rw [View.readCov_eq_canon']
  refine (congrArg (View.canon L) ?_).trans (U r d r.isLt)
  funext a
  refine Fin.ext ?_
  fin_cases a
  · show 0 + 1 * r.val = r.val; omega
  · show 0 + 1 * d.val = d.val; omega

end Cert.Prod

end
-- ==== Proof.Prod.Down.lean ====
/-
  What the call for the gradient of the down projection leaves: the square of the rectified activation, transposed,
  times the gradient of the output.
-/
import proofs.«01_k».proof.Proof.Gen.GradDownIdeal
import proofs.«01_k».proof.Proof.Gen.GradDownIdeal.Skeleton
import proofs.«01_k».proof.Proof.Gen.GradDownIdeal.Launch
import proofs.«01_k».proof.Proof.Gen.GradDownIdeal.Points
import proofs.«01_k».proof.Proof.Gen.GradDownIdeal.Frame
import proofs.«01_k».proof.Proof.Gen.GradDownIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Rows

set_option maxRecDepth 16384

noncomputable section

open Idealize.ShloMosaic Idealize.ShloMosaic.TcCoe Idealize.SL.Sem
open Idealize.ShloMosaic.Pipeline (Dat)
open scoped BigOperators

namespace Cert.GradDownIdeal.Prod

open Cert.GradDownIdeal Cert.GradDownIdeal.Gen

variable (m : (ℓ : Loc nD τ sig) → Buf (Elt Ideal) ℓ)

open Cert.Mix Cert.Prod

variable (c : Dev nD)

theorem pay5_at (A : FVec Ideal S512x1024 .f32) (X : FVec Ideal S2048x512 .bf16) (Y : FVec Ideal S2048x1024 .bf16) (r : Fin 512) (d : Fin 1024) :
    (k0_pay5 (F := Ideal) A X Y (ix2 r d) : EReal) = A (ix2 r d) + ∑ k : Fin 2048, (X (ix2 k r) : EReal) * (Y (ix2 k d) : EReal) := by
  pointwise [k0_pay5]

theorem pay6_at (A : FVec Ideal S512x1024 .f32) (X : FVec Ideal S2048x512 .bf16) (Y : FVec Ideal S2048x1024 .bf16) (r : Fin 512) (d : Fin 1024) :
    (k0_pay6 (F := Ideal) A X Y (ix2 r d) : EReal) = A (ix2 r d) + ∑ k : Fin 2048, (X (ix2 k r) : EReal) * (Y (ix2 k d) : EReal) := by
  pointwise [k0_pay6]

theorem pay7_at (A : FVec Ideal S512x1024 .f32) (X : FVec Ideal S2048x512 .bf16) (Y : FVec Ideal S2048x1024 .bf16) (r : Fin 512) (d : Fin 1024) :
    (k0_pay1 (F := Ideal) (k0_pay7 (F := Ideal) A X Y) (ix2 r d) : EReal) = A (ix2 r d) + ∑ k : Fin 2048, (X (ix2 k r) : EReal) * (Y (ix2 k d) : EReal) := by
  pointwise [k0_pay1, k0_pay7]

theorem pay2_at (A : FVec Ideal S512x1024 .f32) (X : FVec Ideal S2048x512 .bf16) (Y : FVec Ideal S2048x1024 .bf16) (r : Fin 512) (d : Fin 1024) :
    (k0_pay2 (F := Ideal) A X Y (ix2 r d) : EReal) = A (ix2 r d) + ∑ k : Fin 2048, (X (ix2 k r) : EReal) * (Y (ix2 k d) : EReal) := by
  pointwise [k0_pay2]

theorem pay4_at (j : S2048x1024.Idx) : (k0_pay4 (F := Ideal) j : EReal) = 0 := by
  obtain ⟨r, d, rfl⟩ : ∃ (r : Fin 2048) (d : Fin 1024), j = ix2 r d := ⟨j 0, j 1, by funext a; fin_cases a <;> rfl⟩
  pointwise [k0_pay4]

theorem pay3_at (A : FVec Ideal S2048x1024 .f32) (r : Fin 2048) (d : Fin 1024) : (k0_pay3 (F := Ideal) A (ix2 r d) : EReal) = A (ix2 r d) := by
  pointwise [k0_pay3]

section Cases

variable (i : grid0.Coords) (arg3 : Memref sig .tc .vmem S2048x2048 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x1024 .f32) (harg6 : arg6.IsWhole)
  (x0 : Vec Ideal S2048x2048 .bf16) (x1 : Vec Ideal S2048x1024 .bf16)

/-- The first block of rows: the accumulator filled with zeros, then increased band by band. -/
theorem first_eq (hc0 : cond0_0 i) (hc1 : ¬cond0_1 i) :
    sout0_A_0 (F := Ideal) c i arg3 harg3 arg4 harg4 arg5 harg5 arg6 harg6 hc0 hc1 x0 x1 = increased (fun _ => 0) x0 x1 := by
  frame_out
  exact canon_of_upto (upto_cons _ _ _ _
    (upto_cons _ _ _ _
      (upto_cons _ _ _ _
        (upto_cons _ _ _ _ upto_none (read_rest _ _ (rest_fill (G := fun _ => 0) _ _ pay4_at)) (pay5_at _ _ _))
        (read_rest _ _ (rest_cons _ _ (rest_fill (G := fun _ => 0) _ _ pay4_at))) (pay6_at _ _ _))
      (read_rest _ _ (rest_cons _ _ (rest_cons _ _ (rest_fill (G := fun _ => 0) _ _ pay4_at)))) (pay7_at _ _ _))
    (read_rest _ _ (rest_cons _ _ (rest_cons _ _ (rest_cons _ _ (rest_fill (G := fun _ => 0) _ _ pay4_at))))) (pay2_at _ _ _))

/-- The second: the accumulator as the first left it, increased band by band and written out. -/
theorem second_at (xs0 : Vec Ideal S2048x1024 .f32) (hc0 : ¬cond0_0 i) (hc1 : cond0_1 i) (r : Fin 2048) (d : Fin 1024) :
    (out0_B_2 (F := Ideal) c i arg3 harg3 arg4 harg4 arg5 harg5 arg6 harg6 hc0 hc1 x0 x1 xs0 (ix2 r d) : EReal) = increased xs0 x0 x1 (ix2 r d) := by
  suffices h : out0_B_2 (F := Ideal) c i arg3 harg3 arg4 harg4 arg5 harg5 arg6 harg6 hc0 hc1 x0 x1 xs0 = fun j => increased xs0 x0 x1 (ix2 (j 0) (j 1)) from congrFun h (ix2 r d)
  frame_out
  funext j
  obtain ⟨r, d, rfl⟩ : ∃ (r : Fin 2048) (d : Fin 1024), j = ix2 r d := ⟨j 0, j 1, by funext a; fin_cases a <;> rfl⟩
  refine (pay3_at _ r d).trans (read_whole _ _ ?_ r d)
  exact upto_cons _ _ _ _
    (upto_cons _ _ _ _
      (upto_cons _ _ _ _
        (upto_cons _ _ _ _ upto_none (read_held _ _) (pay5_at _ _ _))
        (read_held _ _) (pay6_at _ _ _))
      (read_held _ _) (pay7_at _ _ _))
    (read_held _ _) (pay2_at _ _ _)

end Cases

/-- Which blocks the windows hold at a grid point. -/
theorem idx_val : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

theorem flushes : ∀ t : Fin cfg0.N, (cfg0.win 2).flush t = true → t.val % 2 = 1 :=
  (by decide +kernel : ∀ t : Fin grid0.N, _)

/-- The arguments as functions of row and column. -/
def Xf : ℕ → ℕ → EReal := at2 (a := 4096) (b := 8192) (m ((c : Thread nD τ).loc main_arg1))
def Yf : ℕ → ℕ → EReal := at2 (a := 4096) (b := 2048) (m ((c : Thread nD τ).loc main_arg0))

/-- The squared activation as the region finds it. -/
theorem entry0 : V m c main_v2 = (truncf .bf16 (mulf (maximumf (m ((c : Thread nD τ).loc main_arg1) : FVec Ideal S4096x8192 .f32) (broadcastInDim S4096x8192 ![] bcast_S_S4096x8192 (constant S_ .f32 0#32))) (maximumf (m ((c : Thread nD τ).loc main_arg1) : FVec Ideal S4096x8192 .f32) (broadcastInDim S4096x8192 ![] bcast_S_S4096x8192 (constant S_ .f32 0#32)))) bitsLt_bf16_f32 : FVec Ideal S4096x8192 .bf16) := by
  unfold V
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results

section Reads

variable (t : Fin cfg0.N)

theorem read0 (k : Fin 2048) (r : Fin 2048) :
    (iblk m c 0 t : Vec Ideal S2048x2048 .bf16) (ix2 k r) = max (Xf m c (2048 * (t.val % 2) + k) (2048 * (t.val / 4) + r)) 0 * max (Xf m c (2048 * (t.val % 2) + k) (2048 * (t.val / 4) + r)) 0 := by
  have ht : t.val < 16 := lt_of_lt_of_eq t.isLt N_0
  rw [Xf, at2_of _ (by omega) (by omega)]
  have e : ((win0_0.blk t).view.emb (ix2 k r)) = (ix2 (⟨2048 * (t.val % 2) + k, by omega⟩ : Fin 4096) (⟨2048 * (t.val / 4) + r, by omega⟩ : Fin 8192)) := by
    blk_ext [idx_val t]
  refine (congrArg (V m c main_v2) e).trans ?_
  refine (congrFun (entry0 m c) _).trans ?_
  pointwise []

theorem read1 (k : Fin 2048) (d : Fin 1024) :
    (iblk m c 1 t : Vec Ideal S2048x1024 .bf16) (ix2 k d) = Yf m c (2048 * (t.val % 2) + k) (1024 * (t.val / 2 % 2) + d) := by
  have ht : t.val < 16 := lt_of_lt_of_eq t.isLt N_0
  rw [Yf, at2_of _ (by omega) (by omega)]
  blk_point [iblk, V, idx_val t]

end Reads

/-- The product at a row and a column: a sum over every row of both arguments. -/
def prodAt (f d : ℕ) : EReal := ∑ k : Fin 4096, max (Xf m c k f) 0 * max (Xf m c k f) 0 * Yf m c k d

/-- The result. -/
def out2 : FVec Ideal S8192x2048 .bf16 := fun j => prodAt m c (j 0).val (j 1).val

theorem final2 : (dats m 0 c).arrAt 2 cfg0.N = out2 m c := by
  refine (dats m 0 c).arrAt_eq_of_covers 2 _ (by decide +kernel) fun t hf y => ?_
  have h1 : t.val % 2 = 1 := flushes t hf
  have ht : t.val < 16 := lt_of_lt_of_eq t.isLt N_0
  blk_simp
  rw [after0_2, outsAt0_B m c t (by omega) h1]
  dsimp only
  have e := congrArg Prod.snd (outsAt0_A m c ⟨t.val - 1, Nat.lt_of_le_of_lt (Nat.sub_le _ _) t.isLt⟩ (by dsimp only; omega) (by dsimp only; omega))
  dsimp only at e
  rw [e, first_eq]
  obtain ⟨r, d, rfl⟩ : ∃ (r : Fin 2048) (d : Fin 1024), y = ix2 r d := ⟨y 0, y 1, by funext a; fin_cases a <;> rfl⟩
  refine (second_at c _ _ _ _ _ _ _ _ _ _ _ _ _ _ r d).trans ?_
  show (0 + ∑ k : Fin 2048, _) + ∑ k : Fin 2048, _ = _
  rw [zero_add]
  have e0 : (((win0_2.blk t).view.emb (ix2 r d)) 0).val = 2048 * (t.val / 4) + r := by blk_simp [idx_val t]; try omega
  have e1 : (((win0_2.blk t).view.emb (ix2 r d)) 1).val = 1024 * (t.val / 2 % 2) + d := by blk_simp [idx_val t]; try omega
  show _ = prodAt m c _ _
  rw [e0, e1]
  refine Eq.trans (congrArg₂ (· + ·) (Finset.sum_congr rfl fun k _ => congrArg₂ (· * ·) (read0 m c _ k r) (read1 m c _ k d)) (Finset.sum_congr rfl fun k _ => congrArg₂ (· * ·) (read0 m c t k r) (read1 m c t k d))) ?_
  refine Eq.trans ?_ (sum_halves 2048 fun k => max (Xf m c (k) (2048 * (t.val / 4) + r)) 0 * max (Xf m c (k) (2048 * (t.val / 4) + r)) 0 * Yf m c k (1024 * (t.val / 2 % 2) + d))
  refine congrArg₂ (· + ·) (Finset.sum_congr rfl fun k _ => ?_) (Finset.sum_congr rfl fun k _ => ?_)
  · have q0 : (t.val - 1) % 2 = 0 := by omega
    have q1 : (t.val - 1) / 2 = t.val / 2 := by omega
    have q2 : (t.val - 1) / 4 = t.val / 4 := by omega
    simp only [q0, q1, q2, Nat.mul_zero, Nat.zero_add]
  · simp only [h1, Nat.mul_one, Nat.mul_zero, Nat.zero_add]

end Cert.GradDownIdeal.Prod

end
-- ==== Proof.Prod.DownRef.lean ====
/-
  What the reference for the gradient of the down projection computes, entry by entry.
-/
import proofs.«01_k».proof.Proof.Gen.GradDownRefIdeal
import proofs.«01_k».proof.Proof.Gen.GradDownRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.GradDownRefIdeal.Prod

open Cert.GradDownRefIdeal Cert.GradDownRefIdeal.Gen Cert.Mix Cert.Prod

/-- The reference's result, over its arguments. -/
def result (DY : FVec Ideal S4096x2048 .bf16) (A : FVec Ideal S4096x8192 .f32) : FVec Ideal S8192x2048 .bf16 :=
  truncf .bf16 (transpose S8192x2048 [1, 0] (Host.dotGeneral dot_S1x4096x2048_S1x4096x8192_S2048x8192_01_01_2_2_n_n none (broadcastInDim S1x4096x2048 ![1, 2] bcast_S4096x2048_S1x4096x2048_1_2 (extf .f32 DY bitsLt_bf16_f32)) (mulf (maximumf (broadcastInDim S1x4096x8192 ![1, 2] bcast_S4096x8192_S1x4096x8192_1_2 A) (broadcastInDim S1x4096x8192 ![] bcast_S_S1x4096x8192 (constant S_ .f32 0x00000000#32))) (maximumf (broadcastInDim S1x4096x8192 ![1, 2] bcast_S4096x8192_S1x4096x8192_1_2 A) (broadcastInDim S1x4096x8192 ![] bcast_S_S1x4096x8192 (constant S_ .f32 0x00000000#32))))) transposes_S2048x8192_S8192x2048_1_0) bitsLt_bf16_f32

theorem result_at (DY : FVec Ideal S4096x2048 .bf16) (A : FVec Ideal S4096x8192 .f32) (f : Fin 8192) (d : Fin 2048) :
    (result DY A (ix2 f d) : EReal) = ∑ k : Fin 4096, max (A (ix2 k f) : EReal) 0 * max (A (ix2 k f) : EReal) 0 * (DY (ix2 k d) : EReal) := by
  unfold result
  pointwise []
  refine (Fin.sum_univ_one _).trans ?_
  exact Finset.sum_congr rfl fun k _ => mul_comm _ _

end Cert.GradDownRefIdeal.Prod

end
-- ==== Proof.Prod.Up.lean ====
/-
  What the call for the gradient of the up projection leaves.
-/
import proofs.«01_k».proof.Proof.Gen.GradUpIdeal
import proofs.«01_k».proof.Proof.Gen.GradUpIdeal.Skeleton
import proofs.«01_k».proof.Proof.Gen.GradUpIdeal.Launch
import proofs.«01_k».proof.Proof.Gen.GradUpIdeal.Points
import proofs.«01_k».proof.Proof.Gen.GradUpIdeal.Frame
import proofs.«01_k».proof.Proof.Gen.GradUpIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Rows

set_option maxRecDepth 16384

noncomputable section

open Idealize.ShloMosaic Idealize.ShloMosaic.TcCoe Idealize.SL.Sem
open Idealize.ShloMosaic.Pipeline (Dat)
open scoped BigOperators

namespace Cert.GradUpIdeal.Prod

open Cert.GradUpIdeal Cert.GradUpIdeal.Gen

variable (m : (ℓ : Loc nD τ sig) → Buf (Elt Ideal) ℓ)

open Cert.Mix Cert.Prod

variable (c : Dev nD)

theorem pay5_at (A : FVec Ideal S512x1024 .f32) (X : FVec Ideal S2048x512 .bf16) (Y : FVec Ideal S2048x1024 .bf16) (r : Fin 512) (d : Fin 1024) :
    (k0_pay5 (F := Ideal) A X Y (ix2 r d) : EReal) = A (ix2 r d) + ∑ k : Fin 2048, (X (ix2 k r) : EReal) * (Y (ix2 k d) : EReal) := by
  pointwise [k0_pay5]

theorem pay6_at (A : FVec Ideal S512x1024 .f32) (X : FVec Ideal S2048x512 .bf16) (Y : FVec Ideal S2048x1024 .bf16) (r : Fin 512) (d : Fin 1024) :
    (k0_pay6 (F := Ideal) A X Y (ix2 r d) : EReal) = A (ix2 r d) + ∑ k : Fin 2048, (X (ix2 k r) : EReal) * (Y (ix2 k d) : EReal) := by
  pointwise [k0_pay6]

theorem pay7_at (A : FVec Ideal S512x1024 .f32) (X : FVec Ideal S2048x512 .bf16) (Y : FVec Ideal S2048x1024 .bf16) (r : Fin 512) (d : Fin 1024) :
    (k0_pay1 (F := Ideal) (k0_pay7 (F := Ideal) A X Y) (ix2 r d) : EReal) = A (ix2 r d) + ∑ k : Fin 2048, (X (ix2 k r) : EReal) * (Y (ix2 k d) : EReal) := by
  pointwise [k0_pay1, k0_pay7]

theorem pay2_at (A : FVec Ideal S512x1024 .f32) (X : FVec Ideal S2048x512 .bf16) (Y : FVec Ideal S2048x1024 .bf16) (r : Fin 512) (d : Fin 1024) :
    (k0_pay2 (F := Ideal) A X Y (ix2 r d) : EReal) = A (ix2 r d) + ∑ k : Fin 2048, (X (ix2 k r) : EReal) * (Y (ix2 k d) : EReal) := by
  pointwise [k0_pay2]

theorem pay4_at (j : S2048x1024.Idx) : (k0_pay4 (F := Ideal) j : EReal) = 0 := by
  obtain ⟨r, d, rfl⟩ : ∃ (r : Fin 2048) (d : Fin 1024), j = ix2 r d := ⟨j 0, j 1, by funext a; fin_cases a <;> rfl⟩
  pointwise [k0_pay4]

theorem pay3_at (A : FVec Ideal S2048x1024 .f32) (r : Fin 2048) (d : Fin 1024) : (k0_pay3 (F := Ideal) A (ix3 (0 : Fin 1) r d) : EReal) = A (ix2 r d) := by
  pointwise [k0_pay3]

section Cases

variable (i : grid0.Coords) (arg3 : Memref sig .tc .vmem S2048x2048 .bf16) (harg3 : arg3.IsWhole) (arg4 : Memref sig .tc .vmem S2048x1024 .bf16) (harg4 : arg4.IsWhole) (arg5 : Memref sig .tc .vmem S1x2048x1024 .bf16) (harg5 : arg5.IsWhole) (arg6 : Memref sig .tc .vmem S2048x1024 .f32) (harg6 : arg6.IsWhole)
  (x0 : Vec Ideal S2048x2048 .bf16) (x1 : Vec Ideal S2048x1024 .bf16)

/-- The first block of rows: the accumulator filled with zeros, then increased band by band. -/
theorem first_eq (hc0 : cond0_0 i) (hc1 : ¬cond0_1 i) :
    sout0_A_0 (F := Ideal) c i arg3 harg3 arg4 harg4 arg5 harg5 arg6 harg6 hc0 hc1 x0 x1 = increased (fun _ => 0) x0 x1 := by
  frame_out
  exact canon_of_upto (upto_cons _ _ _ _
    (upto_cons _ _ _ _
      (upto_cons _ _ _ _
        (upto_cons _ _ _ _ upto_none (read_rest _ _ (rest_fill (G := fun _ => 0) _ _ pay4_at)) (pay5_at _ _ _))
        (read_rest _ _ (rest_cons _ _ (rest_fill (G := fun _ => 0) _ _ pay4_at))) (pay6_at _ _ _))
      (read_rest _ _ (rest_cons _ _ (rest_cons _ _ (rest_fill (G := fun _ => 0) _ _ pay4_at)))) (pay7_at _ _ _))
    (read_rest _ _ (rest_cons _ _ (rest_cons _ _ (rest_cons _ _ (rest_fill (G := fun _ => 0) _ _ pay4_at))))) (pay2_at _ _ _))

/-- The second: the accumulator as the first left it, increased band by band and written out. -/
theorem second_at (xs0 : Vec Ideal S2048x1024 .f32) (hc0 : ¬cond0_0 i) (hc1 : cond0_1 i) (r : Fin 2048) (d : Fin 1024) :
    (out0_B_2 (F := Ideal) c i arg3 harg3 arg4 harg4 arg5 harg5 arg6 harg6 hc0 hc1 x0 x1 xs0 (ix3 (0 : Fin 1) r d) : EReal) = increased xs0 x0 x1 (ix2 r d) := by
  suffices h : out0_B_2 (F := Ideal) c i arg3 harg3 arg4 harg4 arg5 harg5 arg6 harg6 hc0 hc1 x0 x1 xs0 = fun j => increased xs0 x0 x1 (ix2 (j 1) (j 2)) from congrFun h (ix3 (0 : Fin 1) r d)
  frame_out
  funext j
  obtain ⟨r, d, rfl⟩ : ∃ (r : Fin 2048) (d : Fin 1024), j = ix3 (0 : Fin 1) r d := ⟨j 1, j 2, by funext a; fin_cases a <;> first | rfl | exact Subsingleton.elim (α := Fin 1) _ _⟩
  refine (pay3_at _ r d).trans (read_whole _ _ ?_ r d)
  exact upto_cons _ _ _ _
    (upto_cons _ _ _ _
      (upto_cons _ _ _ _
        (upto_cons _ _ _ _ upto_none (read_held _ _) (pay5_at _ _ _))
        (read_held _ _) (pay6_at _ _ _))
      (read_held _ _) (pay7_at _ _ _))
    (read_held _ _) (pay2_at _ _ _)

end Cases

/-- Which blocks the windows hold at a grid point. -/
theorem idx_val : ∀ t : Fin cfg0.N, win0_0.index t = ![t.val % 2, 0] ∧ win0_1.index t = ![t.val % 2, t.val / 2] ∧ win0_2.index t = ![t.val / 2 / 2, 0, t.val / 2 % 2] :=
  (by decide +kernel : ∀ t : Fin grid0.N, _)

theorem flushes : ∀ t : Fin cfg0.N, (cfg0.win 2).flush t = true → t.val % 2 = 1 :=
  (by decide +kernel : ∀ t : Fin grid0.N, _)

/-- The arguments as functions of row and column. -/
def Xf : ℕ → ℕ → EReal := at2 (a := 4096) (b := 2048) (m ((c : Thread nD τ).loc main_arg0))
def Yf : ℕ → ℕ → EReal := at2 (a := 4096) (b := 8192) (m ((c : Thread nD τ).loc main_arg1))

section Reads

variable (t : Fin cfg0.N)

theorem read0 (k : Fin 2048) (r : Fin 2048) :
    (iblk m c 0 t : Vec Ideal S2048x2048 .bf16) (ix2 k r) = Xf m c (2048 * (t.val % 2) + k) (2048 * (0) + r) := by
  have ht : t.val < 16 := lt_of_lt_of_eq t.isLt N_0
  rw [Xf, at2_of _ (by omega) (by omega)]
  blk_point [iblk, V, idx_val t]

theorem read1 (k : Fin 2048) (d : Fin 1024) :
    (iblk m c 1 t : Vec Ideal S2048x1024 .bf16) (ix2 k d) = Yf m c (2048 * (t.val % 2) + k) (1024 * (t.val / 2) + d) := by
  have ht : t.val < 16 := lt_of_lt_of_eq t.isLt N_0
  rw [Yf, at2_of _ (by omega) (by omega)]
  blk_point [iblk, V, idx_val t]

end Reads

/-- The product at a row and a column: a sum over every row of both arguments. -/
def prodAt (f d : ℕ) : EReal := ∑ k : Fin 4096, Xf m c k f * Yf m c k d

/-- The result, a slab of columns for each chip. -/
def out2 : FVec Ideal S4x2048x2048 .bf16 := fun j => prodAt m c (j 1).val ((j 0).val * 2048 + (j 2).val)

theorem final2 : (dats m 0 c).arrAt 2 cfg0.N = out2 m c := by
  refine (dats m 0 c).arrAt_eq_of_covers 2 _ (by decide +kernel) fun t hf y => ?_
  have h1 : t.val % 2 = 1 := flushes t hf
  have ht : t.val < 16 := lt_of_lt_of_eq t.isLt N_0
  blk_simp
  rw [after0_2, outsAt0_B m c t (by omega) h1]
  dsimp only
  have e := congrArg Prod.snd (outsAt0_A m c ⟨t.val - 1, Nat.lt_of_le_of_lt (Nat.sub_le _ _) t.isLt⟩ (by dsimp only; omega) (by dsimp only; omega))
  dsimp only at e
  rw [e, first_eq]
  obtain ⟨r, d, rfl⟩ : ∃ (r : Fin 2048) (d : Fin 1024), y = ix3 (0 : Fin 1) r d := ⟨y 1, y 2, by funext a; fin_cases a <;> first | rfl | exact Subsingleton.elim (α := Fin 1) _ _⟩
  refine (second_at c _ _ _ _ _ _ _ _ _ _ _ _ _ _ r d).trans ?_
  show (0 + ∑ k : Fin 2048, _) + ∑ k : Fin 2048, _ = _
  rw [zero_add]
  have e0 : (((win0_2.blk t).view.emb (ix3 (0 : Fin 1) r d)) 0).val = t.val / 2 / 2 := by blk_simp [idx_val t]; try omega
  have e1 : (((win0_2.blk t).view.emb (ix3 (0 : Fin 1) r d)) 1).val = r.val := by blk_simp [idx_val t]; try omega
  have e2 : (((win0_2.blk t).view.emb (ix3 (0 : Fin 1) r d)) 2).val = 1024 * (t.val / 2 % 2) + d := by blk_simp [idx_val t]; try omega
  show _ = prodAt m c _ (_ * 2048 + _)
  rw [e0, e1, e2]
  refine Eq.trans (congrArg₂ (· + ·) (Finset.sum_congr rfl fun k _ => congrArg₂ (· * ·) (read0 m c _ k r) (read1 m c _ k d)) (Finset.sum_congr rfl fun k _ => congrArg₂ (· * ·) (read0 m c t k r) (read1 m c t k d))) ?_
  refine Eq.trans ?_ (sum_halves 2048 fun k => Xf m c (k) (r.val) * Yf m c k (t.val / 2 / 2 * 2048 + (1024 * (t.val / 2 % 2) + d)))
  refine congrArg₂ (· + ·) (Finset.sum_congr rfl fun k _ => ?_) (Finset.sum_congr rfl fun k _ => ?_)
  · have q0 : (t.val - 1) % 2 = 0 := by omega
    have q1 : (t.val - 1) / 2 = t.val / 2 := by omega
    have q3 : t.val / 2 / 2 * 2048 + (1024 * (t.val / 2 % 2) + d.val) = 1024 * (t.val / 2) + d.val := by omega
    simp only [q0, q1, Nat.mul_zero, Nat.zero_add, q3]
  · have q3 : t.val / 2 / 2 * 2048 + (1024 * (t.val / 2 % 2) + d.val) = 1024 * (t.val / 2) + d.val := by omega
    simp only [h1, Nat.mul_one, Nat.mul_zero, Nat.zero_add, q3]

end Cert.GradUpIdeal.Prod

end
-- ==== Proof.Prod.UpRef.lean ====
/-
  What the reference for the gradient of the up projection computes, entry by entry.
-/
import proofs.«01_k».proof.Proof.Gen.GradUpRefIdeal
import proofs.«01_k».proof.Proof.Gen.GradUpRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.GradUpRefIdeal.Prod

open Cert.GradUpRefIdeal Cert.GradUpRefIdeal.Gen Cert.Mix Cert.Prod

/-- The reference's result, over its arguments. -/
def result (H : FVec Ideal S4096x2048 .bf16) (DA : FVec Ideal S4096x8192 .bf16) : FVec Ideal S4x2048x2048 .bf16 :=
  transpose S4x2048x2048 [1, 0, 2] (shapeCast _ (truncf .bf16 (transpose S2048x8192 [1, 0] (Host.dotGeneral dot_S1x4096x8192_S1x4096x2048_S8192x2048_01_01_2_2_n_n none (broadcastInDim S1x4096x8192 ![1, 2] bcast_S4096x8192_S1x4096x8192_1_2 (extf .f32 DA bitsLt_bf16_f32)) (broadcastInDim S1x4096x2048 ![1, 2] bcast_S4096x2048_S1x4096x2048_1_2 (extf .f32 H bitsLt_bf16_f32))) transposes_S8192x2048_S2048x8192_1_0) bitsLt_bf16_f32) shapeCasts_S2048x8192_S2048x4x2048) transposes_S2048x4x2048_S4x2048x2048_1_0_2

theorem result_at (H : FVec Ideal S4096x2048 .bf16) (DA : FVec Ideal S4096x8192 .bf16) (q : Fin 4) (f : Fin 2048) (d : Fin 2048) :
    (result H DA (ix3 q f d) : EReal) = ∑ k : Fin 4096, (H (ix2 k f) : EReal) * (DA (ix2 k (⟨q.val * 2048 + d.val, by omega⟩ : Fin 8192)) : EReal) := by
  unfold result
  pointwise []
  refine (Fin.sum_univ_one _).trans ?_
  exact Finset.sum_congr rfl fun k _ => mul_comm _ _

end Cert.GradUpRefIdeal.Prod

end
-- ==== Proof.Prod.In.lean ====
/-
  What the call for the gradient of the input projection leaves.
-/
import proofs.«01_k».proof.Proof.Gen.GradInIdeal
import proofs.«01_k».proof.Proof.Gen.GradInIdeal.Skeleton
import proofs.«01_k».proof.Proof.Gen.GradInIdeal.Launch
import proofs.«01_k».proof.Proof.Gen.GradInIdeal.Points
import proofs.«01_k».proof.Proof.Gen.GradInIdeal.Frame
import proofs.«01_k».proof.Proof.Gen.GradInIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Rows

set_option maxRecDepth 16384

noncomputable section

open Idealize.ShloMosaic Idealize.ShloMosaic.TcCoe Idealize.SL.Sem
open Idealize.ShloMosaic.Pipeline (Dat)
open scoped BigOperators

namespace Cert.GradInIdeal.Prod

open Cert.GradInIdeal Cert.GradInIdeal.Gen

variable (m : (ℓ : Loc nD τ sig) → Buf (Elt Ideal) ℓ)

open Cert.Mix Cert.Prod

variable (c : Dev nD)

theorem pay5_at (A : FVec Ideal S512x1024 .f32) (X : FVec Ideal S2048x512 .bf16) (Y : FVec Ideal S2048x1024 .bf16) (r : Fin 512) (d : Fin 1024) :
    (k0_pay5 (F := Ideal) A X Y (ix2 r d) : EReal) = A (ix2 r d) + ∑ k : Fin 2048, (X (ix2 k r) : EReal) * (Y (ix2 k d) : EReal) := by
  pointwise [k0_pay5]

theorem pay6_at (A : FVec Ideal S512x1024 .f32) (X : FVec Ideal S2048x512 .bf16) (Y : FVec Ideal S2048x1024 .bf16) (r : Fin 512) (d : Fin 1024) :
    (k0_pay6 (F := Ideal) A X Y (ix2 r d) : EReal) = A (ix2 r d) + ∑ k : Fin 2048, (X (ix2 k r) : EReal) * (Y (ix2 k d) : EReal) := by
  pointwise [k0_pay6]

theorem pay7_at (A : FVec Ideal S512x1024 .f32) (X : FVec Ideal S2048x512 .bf16) (Y : FVec Ideal S2048x1024 .bf16) (r : Fin 512) (d : Fin 1024) :
    (k0_pay1 (F := Ideal) (k0_pay7 (F := Ideal) A X Y) (ix2 r d) : EReal) = A (ix2 r d) + ∑ k : Fin 2048, (X (ix2 k r) : EReal) * (Y (ix2 k d) : EReal) := by
  pointwise [k0_pay1, k0_pay7]

theorem pay2_at (A : FVec Ideal S512x1024 .f32) (X : FVec Ideal S2048x512 .bf16) (Y : FVec Ideal S2048x1024 .bf16) (r : Fin 512) (d : Fin 1024) :
    (k0_pay2 (F := Ideal) A X Y (ix2 r d) : EReal) = A (ix2 r d) + ∑ k : Fin 2048, (X (ix2 k r) : EReal) * (Y (ix2 k d) : EReal) := by
  pointwise [k0_pay2]

theorem pay4_at (j : S2048x1024.Idx) : (k0_pay4 (F := Ideal) j : EReal) = 0 := by
  obtain ⟨r, d, rfl⟩ : ∃ (r : Fin 2048) (d : Fin 1024), j = ix2 r d := ⟨j 0, j 1, by funext a; fin_cases a <;> rfl⟩
  pointwise [k0_pay4]

theorem pay3_at (A : FVec Ideal S2048x1024 .f32) (r : Fin 2048) (d : Fin 1024) : (k0_pay3 (F := Ideal) A (ix3 (0 : Fin 1) r d) : EReal) = A (ix2 r d) := by
  pointwise [k0_pay3]

section Cases

variable (i : grid0.Coords) (arg3 : Memref sig .tc .vmem S2048x2048 .bf16) (harg3 : arg3.IsWhole) (arg4 : Memref sig .tc .vmem S2048x1024 .bf16) (harg4 : arg4.IsWhole) (arg5 : Memref sig .tc .vmem S1x2048x1024 .bf16) (harg5 : arg5.IsWhole) (arg6 : Memref sig .tc .vmem S2048x1024 .f32) (harg6 : arg6.IsWhole)
  (x0 : Vec Ideal S2048x2048 .bf16) (x1 : Vec Ideal S2048x1024 .bf16)

/-- The first block of rows: the accumulator filled with zeros, then increased band by band. -/
theorem first_eq (hc0 : cond0_0 i) (hc1 : ¬cond0_1 i) :
    sout0_A_0 (F := Ideal) c i arg3 harg3 arg4 harg4 arg5 harg5 arg6 harg6 hc0 hc1 x0 x1 = increased (fun _ => 0) x0 x1 := by
  frame_out
  exact canon_of_upto (upto_cons _ _ _ _
    (upto_cons _ _ _ _
      (upto_cons _ _ _ _
        (upto_cons _ _ _ _ upto_none (read_rest _ _ (rest_fill (G := fun _ => 0) _ _ pay4_at)) (pay5_at _ _ _))
        (read_rest _ _ (rest_cons _ _ (rest_fill (G := fun _ => 0) _ _ pay4_at))) (pay6_at _ _ _))
      (read_rest _ _ (rest_cons _ _ (rest_cons _ _ (rest_fill (G := fun _ => 0) _ _ pay4_at)))) (pay7_at _ _ _))
    (read_rest _ _ (rest_cons _ _ (rest_cons _ _ (rest_cons _ _ (rest_fill (G := fun _ => 0) _ _ pay4_at))))) (pay2_at _ _ _))

/-- The second: the accumulator as the first left it, increased band by band and written out. -/
theorem second_at (xs0 : Vec Ideal S2048x1024 .f32) (hc0 : ¬cond0_0 i) (hc1 : cond0_1 i) (r : Fin 2048) (d : Fin 1024) :
    (out0_B_2 (F := Ideal) c i arg3 harg3 arg4 harg4 arg5 harg5 arg6 harg6 hc0 hc1 x0 x1 xs0 (ix3 (0 : Fin 1) r d) : EReal) = increased xs0 x0 x1 (ix2 r d) := by
  suffices h : out0_B_2 (F := Ideal) c i arg3 harg3 arg4 harg4 arg5 harg5 arg6 harg6 hc0 hc1 x0 x1 xs0 = fun j => increased xs0 x0 x1 (ix2 (j 1) (j 2)) from congrFun h (ix3 (0 : Fin 1) r d)
  frame_out
  funext j
  obtain ⟨r, d, rfl⟩ : ∃ (r : Fin 2048) (d : Fin 1024), j = ix3 (0 : Fin 1) r d := ⟨j 1, j 2, by funext a; fin_cases a <;> first | rfl | exact Subsingleton.elim (α := Fin 1) _ _⟩
  refine (pay3_at _ r d).trans (read_whole _ _ ?_ r d)
  exact upto_cons _ _ _ _
    (upto_cons _ _ _ _
      (upto_cons _ _ _ _
        (upto_cons _ _ _ _ upto_none (read_held _ _) (pay5_at _ _ _))
        (read_held _ _) (pay6_at _ _ _))
      (read_held _ _) (pay7_at _ _ _))
    (read_held _ _) (pay2_at _ _ _)

end Cases

/-- Which blocks the windows hold at a grid point. -/
theorem idx_val : ∀ t : Fin cfg0.N, win0_0.index t = ![t.val % 2, 0] ∧ win0_1.index t = ![t.val % 2, t.val / 2] ∧ win0_2.index t = ![t.val / 2, 0, 0] :=
  (by decide +kernel : ∀ t : Fin grid0.N, _)

theorem flushes : ∀ t : Fin cfg0.N, (cfg0.win 2).flush t = true → t.val % 2 = 1 :=
  (by decide +kernel : ∀ t : Fin grid0.N, _)

/-- The arguments as functions of row and column. -/
def Xf : ℕ → ℕ → EReal := at2 (a := 4096) (b := 2048) (m ((c : Thread nD τ).loc main_arg0))
def Yf : ℕ → ℕ → EReal := at2 (a := 4096) (b := 4096) (m ((c : Thread nD τ).loc main_arg1))

section Reads

variable (t : Fin cfg0.N)

theorem read0 (k : Fin 2048) (r : Fin 2048) :
    (iblk m c 0 t : Vec Ideal S2048x2048 .bf16) (ix2 k r) = Xf m c (2048 * (t.val % 2) + k) (2048 * (0) + r) := by
  have ht : t.val < 8 := lt_of_lt_of_eq t.isLt N_0
  rw [Xf, at2_of _ (by omega) (by omega)]
  blk_point [iblk, V, idx_val t]

theorem read1 (k : Fin 2048) (d : Fin 1024) :
    (iblk m c 1 t : Vec Ideal S2048x1024 .bf16) (ix2 k d) = Yf m c (2048 * (t.val % 2) + k) (1024 * (t.val / 2) + d) := by
  have ht : t.val < 8 := lt_of_lt_of_eq t.isLt N_0
  rw [Yf, at2_of _ (by omega) (by omega)]
  blk_point [iblk, V, idx_val t]

end Reads

/-- The product at a row and a column: a sum over every row of both arguments. -/
def prodAt (f d : ℕ) : EReal := ∑ k : Fin 4096, Xf m c k f * Yf m c k d

/-- The result, a slab of columns for each chip. -/
def out2 : FVec Ideal S4x2048x1024 .bf16 := fun j => prodAt m c (j 1).val ((j 0).val * 1024 + (j 2).val)

theorem final2 : (dats m 0 c).arrAt 2 cfg0.N = out2 m c := by
  refine (dats m 0 c).arrAt_eq_of_covers 2 _ (by decide +kernel) fun t hf y => ?_
  have h1 : t.val % 2 = 1 := flushes t hf
  have ht : t.val < 8 := lt_of_lt_of_eq t.isLt N_0
  blk_simp
  rw [after0_2, outsAt0_B m c t (by omega) h1]
  dsimp only
  have e := congrArg Prod.snd (outsAt0_A m c ⟨t.val - 1, Nat.lt_of_le_of_lt (Nat.sub_le _ _) t.isLt⟩ (by dsimp only; omega) (by dsimp only; omega))
  dsimp only at e
  rw [e, first_eq]
  obtain ⟨r, d, rfl⟩ : ∃ (r : Fin 2048) (d : Fin 1024), y = ix3 (0 : Fin 1) r d := ⟨y 1, y 2, by funext a; fin_cases a <;> first | rfl | exact Subsingleton.elim (α := Fin 1) _ _⟩
  refine (second_at c _ _ _ _ _ _ _ _ _ _ _ _ _ _ r d).trans ?_
  show (0 + ∑ k : Fin 2048, _) + ∑ k : Fin 2048, _ = _
  rw [zero_add]
  have e0 : (((win0_2.blk t).view.emb (ix3 (0 : Fin 1) r d)) 0).val = t.val / 2 := by blk_simp [idx_val t]; try omega
  have e1 : (((win0_2.blk t).view.emb (ix3 (0 : Fin 1) r d)) 1).val = r.val := by blk_simp [idx_val t]; try omega
  have e2 : (((win0_2.blk t).view.emb (ix3 (0 : Fin 1) r d)) 2).val = d.val := by blk_simp [idx_val t]; try omega
  show _ = prodAt m c _ (_ * 1024 + _)
  rw [e0, e1, e2]
  refine Eq.trans (congrArg₂ (· + ·) (Finset.sum_congr rfl fun k _ => congrArg₂ (· * ·) (read0 m c _ k r) (read1 m c _ k d)) (Finset.sum_congr rfl fun k _ => congrArg₂ (· * ·) (read0 m c t k r) (read1 m c t k d))) ?_
  refine Eq.trans ?_ (sum_halves 2048 fun k => Xf m c (k) (r.val) * Yf m c k (t.val / 2 * 1024 + d.val))
  refine congrArg₂ (· + ·) (Finset.sum_congr rfl fun k _ => ?_) (Finset.sum_congr rfl fun k _ => ?_)
  · have q0 : (t.val - 1) % 2 = 0 := by omega
    have q1 : (t.val - 1) / 2 = t.val / 2 := by omega
    have q3 : t.val / 2 * 1024 + d.val = 1024 * (t.val / 2) + d.val := by omega
    simp only [q0, q1, Nat.mul_zero, Nat.zero_add, q3]
  · have q3 : t.val / 2 * 1024 + d.val = 1024 * (t.val / 2) + d.val := by omega
    simp only [h1, Nat.mul_one, Nat.mul_zero, Nat.zero_add, q3]

end Cert.GradInIdeal.Prod

end
-- ==== Proof.Prod.InRef.lean ====
/-
  What the reference for the gradient of the input projection computes, entry by entry.
-/
import proofs.«01_k».proof.Proof.Gen.GradInRefIdeal
import proofs.«01_k».proof.Proof.Gen.GradInRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.GradInRefIdeal.Prod

open Cert.GradInRefIdeal Cert.GradInRefIdeal.Gen Cert.Mix Cert.Prod

/-- The reference's result, over its arguments. -/
def result (H : FVec Ideal S4096x2048 .bf16) (DA : FVec Ideal S4096x4096 .bf16) : FVec Ideal S4x2048x1024 .bf16 :=
  transpose S4x2048x1024 [1, 0, 2] (shapeCast _ (truncf .bf16 (transpose S2048x4096 [1, 0] (Host.dotGeneral dot_S1x4096x4096_S1x4096x2048_S4096x2048_01_01_2_2_n_n none (broadcastInDim S1x4096x4096 ![1, 2] bcast_S4096x4096_S1x4096x4096_1_2 (extf .f32 DA bitsLt_bf16_f32)) (broadcastInDim S1x4096x2048 ![1, 2] bcast_S4096x2048_S1x4096x2048_1_2 (extf .f32 H bitsLt_bf16_f32))) transposes_S4096x2048_S2048x4096_1_0) bitsLt_bf16_f32) shapeCasts_S2048x4096_S2048x4x1024) transposes_S2048x4x1024_S4x2048x1024_1_0_2

theorem result_at (H : FVec Ideal S4096x2048 .bf16) (DA : FVec Ideal S4096x4096 .bf16) (q : Fin 4) (f : Fin 2048) (d : Fin 1024) :
    (result H DA (ix3 q f d) : EReal) = ∑ k : Fin 4096, (H (ix2 k f) : EReal) * (DA (ix2 k (⟨q.val * 1024 + d.val, by omega⟩ : Fin 4096)) : EReal) := by
  unfold result
  pointwise []
  refine (Fin.sum_univ_one _).trans ?_
  exact Finset.sum_congr rfl fun k _ => mul_comm _ _

end Cert.GradInRefIdeal.Prod

end
-- ==== Proof.Prod.Out.lean ====
/-
  What the call for the gradient of the output projection leaves.
-/
import proofs.«01_k».proof.Proof.Gen.GradOutIdeal
import proofs.«01_k».proof.Proof.Gen.GradOutIdeal.Skeleton
import proofs.«01_k».proof.Proof.Gen.GradOutIdeal.Launch
import proofs.«01_k».proof.Proof.Gen.GradOutIdeal.Points
import proofs.«01_k».proof.Proof.Gen.GradOutIdeal.Frame
import proofs.«01_k».proof.Proof.Gen.GradOutIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Rows

set_option maxRecDepth 16384

noncomputable section

open Idealize.ShloMosaic Idealize.ShloMosaic.TcCoe Idealize.SL.Sem
open Idealize.ShloMosaic.Pipeline (Dat)
open scoped BigOperators

namespace Cert.GradOutIdeal.Prod

open Cert.GradOutIdeal Cert.GradOutIdeal.Gen

variable (m : (ℓ : Loc nD τ sig) → Buf (Elt Ideal) ℓ)

open Cert.Mix Cert.Prod

variable (c : Dev nD)

theorem pay5_at (A : FVec Ideal S512x1024 .f32) (X : FVec Ideal S2048x512 .bf16) (Y : FVec Ideal S2048x1024 .bf16) (r : Fin 512) (d : Fin 1024) :
    (k0_pay5 (F := Ideal) A X Y (ix2 r d) : EReal) = A (ix2 r d) + ∑ k : Fin 2048, (X (ix2 k r) : EReal) * (Y (ix2 k d) : EReal) := by
  pointwise [k0_pay5]

theorem pay6_at (A : FVec Ideal S512x1024 .f32) (X : FVec Ideal S2048x512 .bf16) (Y : FVec Ideal S2048x1024 .bf16) (r : Fin 512) (d : Fin 1024) :
    (k0_pay6 (F := Ideal) A X Y (ix2 r d) : EReal) = A (ix2 r d) + ∑ k : Fin 2048, (X (ix2 k r) : EReal) * (Y (ix2 k d) : EReal) := by
  pointwise [k0_pay6]

theorem pay7_at (A : FVec Ideal S512x1024 .f32) (X : FVec Ideal S2048x512 .bf16) (Y : FVec Ideal S2048x1024 .bf16) (r : Fin 512) (d : Fin 1024) :
    (k0_pay1 (F := Ideal) (k0_pay7 (F := Ideal) A X Y) (ix2 r d) : EReal) = A (ix2 r d) + ∑ k : Fin 2048, (X (ix2 k r) : EReal) * (Y (ix2 k d) : EReal) := by
  pointwise [k0_pay1, k0_pay7]

theorem pay2_at (A : FVec Ideal S512x1024 .f32) (X : FVec Ideal S2048x512 .bf16) (Y : FVec Ideal S2048x1024 .bf16) (r : Fin 512) (d : Fin 1024) :
    (k0_pay2 (F := Ideal) A X Y (ix2 r d) : EReal) = A (ix2 r d) + ∑ k : Fin 2048, (X (ix2 k r) : EReal) * (Y (ix2 k d) : EReal) := by
  pointwise [k0_pay2]

theorem pay4_at (j : S2048x1024.Idx) : (k0_pay4 (F := Ideal) j : EReal) = 0 := by
  obtain ⟨r, d, rfl⟩ : ∃ (r : Fin 2048) (d : Fin 1024), j = ix2 r d := ⟨j 0, j 1, by funext a; fin_cases a <;> rfl⟩
  pointwise [k0_pay4]

theorem pay3_at (A : FVec Ideal S2048x1024 .f32) (r : Fin 2048) (d : Fin 1024) : (k0_pay3 (F := Ideal) A (ix2 r d) : EReal) = A (ix2 r d) := by
  pointwise [k0_pay3]

section Cases

variable (i : grid0.Coords) (arg3 : Memref sig .tc .vmem S2048x2048 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x1024 .f32) (harg6 : arg6.IsWhole)
  (x0 : Vec Ideal S2048x2048 .bf16) (x1 : Vec Ideal S2048x1024 .bf16)

/-- The first block of rows: the accumulator filled with zeros, then increased band by band. -/
theorem first_eq (hc0 : cond0_0 i) (hc1 : ¬cond0_1 i) :
    sout0_A_0 (F := Ideal) c i arg3 harg3 arg4 harg4 arg5 harg5 arg6 harg6 hc0 hc1 x0 x1 = increased (fun _ => 0) x0 x1 := by
  frame_out
  exact canon_of_upto (upto_cons _ _ _ _
    (upto_cons _ _ _ _
      (upto_cons _ _ _ _
        (upto_cons _ _ _ _ upto_none (read_rest _ _ (rest_fill (G := fun _ => 0) _ _ pay4_at)) (pay5_at _ _ _))
        (read_rest _ _ (rest_cons _ _ (rest_fill (G := fun _ => 0) _ _ pay4_at))) (pay6_at _ _ _))
      (read_rest _ _ (rest_cons _ _ (rest_cons _ _ (rest_fill (G := fun _ => 0) _ _ pay4_at)))) (pay7_at _ _ _))
    (read_rest _ _ (rest_cons _ _ (rest_cons _ _ (rest_cons _ _ (rest_fill (G := fun _ => 0) _ _ pay4_at))))) (pay2_at _ _ _))

/-- The second: the accumulator as the first left it, increased band by band and written out. -/
theorem second_at (xs0 : Vec Ideal S2048x1024 .f32) (hc0 : ¬cond0_0 i) (hc1 : cond0_1 i) (r : Fin 2048) (d : Fin 1024) :
    (out0_B_2 (F := Ideal) c i arg3 harg3 arg4 harg4 arg5 harg5 arg6 harg6 hc0 hc1 x0 x1 xs0 (ix2 r d) : EReal) = increased xs0 x0 x1 (ix2 r d) := by
  suffices h : out0_B_2 (F := Ideal) c i arg3 harg3 arg4 harg4 arg5 harg5 arg6 harg6 hc0 hc1 x0 x1 xs0 = fun j => increased xs0 x0 x1 (ix2 (j 0) (j 1)) from congrFun h (ix2 r d)
  frame_out
  funext j
  obtain ⟨r, d, rfl⟩ : ∃ (r : Fin 2048) (d : Fin 1024), j = ix2 r d := ⟨j 0, j 1, by funext a; fin_cases a <;> rfl⟩
  refine (pay3_at _ r d).trans (read_whole _ _ ?_ r d)
  exact upto_cons _ _ _ _
    (upto_cons _ _ _ _
      (upto_cons _ _ _ _
        (upto_cons _ _ _ _ upto_none (read_held _ _) (pay5_at _ _ _))
        (read_held _ _) (pay6_at _ _ _))
      (read_held _ _) (pay7_at _ _ _))
    (read_held _ _) (pay2_at _ _ _)

end Cases

/-- Which blocks the windows hold at a grid point. -/
theorem idx_val : ∀ t : Fin cfg0.N, win0_0.index t = ![t.val % 2, 0] ∧ win0_1.index t = ![t.val % 2, t.val / 2] ∧ win0_2.index t = ![0, t.val / 2] :=
  (by decide +kernel : ∀ t : Fin grid0.N, _)

theorem flushes : ∀ t : Fin cfg0.N, (cfg0.win 2).flush t = true → t.val % 2 = 1 :=
  (by decide +kernel : ∀ t : Fin grid0.N, _)

/-- The arguments as functions of row and column. -/
def Xf : ℕ → ℕ → EReal := at2 (a := 4096) (b := 2048) (m ((c : Thread nD τ).loc main_arg0))
def Yf : ℕ → ℕ → EReal := at2 (a := 4096) (b := 2048) (m ((c : Thread nD τ).loc main_arg1))

section Reads

variable (t : Fin cfg0.N)

theorem read0 (k : Fin 2048) (r : Fin 2048) :
    (iblk m c 0 t : Vec Ideal S2048x2048 .bf16) (ix2 k r) = Xf m c (2048 * (t.val % 2) + k) (2048 * (0) + r) := by
  have ht : t.val < 4 := lt_of_lt_of_eq t.isLt N_0
  rw [Xf, at2_of _ (by omega) (by omega)]
  blk_point [iblk, V, idx_val t]

theorem read1 (k : Fin 2048) (d : Fin 1024) :
    (iblk m c 1 t : Vec Ideal S2048x1024 .bf16) (ix2 k d) = Yf m c (2048 * (t.val % 2) + k) (1024 * (t.val / 2) + d) := by
  have ht : t.val < 4 := lt_of_lt_of_eq t.isLt N_0
  rw [Yf, at2_of _ (by omega) (by omega)]
  blk_point [iblk, V, idx_val t]

end Reads

/-- The product at a row and a column: a sum over every row of both arguments. -/
def prodAt (f d : ℕ) : EReal := ∑ k : Fin 4096, Xf m c k f * Yf m c k d

/-- The result. -/
def out2 : FVec Ideal S2048x2048 .bf16 := fun j => prodAt m c (j 0).val (j 1).val

theorem final2 : (dats m 0 c).arrAt 2 cfg0.N = out2 m c := by
  refine (dats m 0 c).arrAt_eq_of_covers 2 _ (by decide +kernel) fun t hf y => ?_
  have h1 : t.val % 2 = 1 := flushes t hf
  have ht : t.val < 4 := lt_of_lt_of_eq t.isLt N_0
  blk_simp
  rw [after0_2, outsAt0_B m c t (by omega) h1]
  dsimp only
  have e := congrArg Prod.snd (outsAt0_A m c ⟨t.val - 1, Nat.lt_of_le_of_lt (Nat.sub_le _ _) t.isLt⟩ (by dsimp only; omega) (by dsimp only; omega))
  dsimp only at e
  rw [e, first_eq]
  obtain ⟨r, d, rfl⟩ : ∃ (r : Fin 2048) (d : Fin 1024), y = ix2 r d := ⟨y 0, y 1, by funext a; fin_cases a <;> rfl⟩
  refine (second_at c _ _ _ _ _ _ _ _ _ _ _ _ _ _ r d).trans ?_
  show (0 + ∑ k : Fin 2048, _) + ∑ k : Fin 2048, _ = _
  rw [zero_add]
  have e0 : (((win0_2.blk t).view.emb (ix2 r d)) 0).val = 2048 * (0) + r := by blk_simp [idx_val t]; try omega
  have e1 : (((win0_2.blk t).view.emb (ix2 r d)) 1).val = 1024 * (t.val / 2) + d := by blk_simp [idx_val t]; try omega
  show _ = prodAt m c _ _
  rw [e0, e1]
  refine Eq.trans (congrArg₂ (· + ·) (Finset.sum_congr rfl fun k _ => congrArg₂ (· * ·) (read0 m c _ k r) (read1 m c _ k d)) (Finset.sum_congr rfl fun k _ => congrArg₂ (· * ·) (read0 m c t k r) (read1 m c t k d))) ?_
  refine Eq.trans ?_ (sum_halves 2048 fun k => Xf m c (k) (2048 * (0) + r) * Yf m c k (1024 * (t.val / 2) + d))
  refine congrArg₂ (· + ·) (Finset.sum_congr rfl fun k _ => ?_) (Finset.sum_congr rfl fun k _ => ?_)
  · have q0 : (t.val - 1) % 2 = 0 := by omega
    have q1 : (t.val - 1) / 2 = t.val / 2 := by omega
    simp only [q0, q1, Nat.mul_zero, Nat.zero_add]
  · simp only [h1, Nat.mul_one, Nat.mul_zero, Nat.zero_add]

end Cert.GradOutIdeal.Prod

end
-- ==== Proof.Prod.OutRef.lean ====
/-
  What the reference for the gradient of the output projection computes, entry by entry.
-/
import proofs.«01_k».proof.Proof.Gen.GradOutRefIdeal
import proofs.«01_k».proof.Proof.Gen.GradOutRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.GradOutRefIdeal.Prod

open Cert.GradOutRefIdeal Cert.GradOutRefIdeal.Gen Cert.Mix Cert.Prod

/-- The reference's result, over its arguments. -/
def result (Y : FVec Ideal S4096x2048 .bf16) (DX : FVec Ideal S4096x2048 .bf16) : FVec Ideal S2048x2048 .bf16 :=
  truncf .bf16 (transpose S2048x2048 [1, 0] (Host.dotGeneral dot_S1x4096x2048_S1x4096x2048_S2048x2048_01_01_2_2_n_n none (broadcastInDim S1x4096x2048 ![1, 2] bcast_S4096x2048_S1x4096x2048_1_2 (extf .f32 DX bitsLt_bf16_f32)) (broadcastInDim S1x4096x2048 ![1, 2] bcast_S4096x2048_S1x4096x2048_1_2 (extf .f32 Y bitsLt_bf16_f32))) transposes_S2048x2048_S2048x2048_1_0) bitsLt_bf16_f32

theorem result_at (Y : FVec Ideal S4096x2048 .bf16) (DX : FVec Ideal S4096x2048 .bf16) (f : Fin 2048) (d : Fin 2048) :
    (result Y DX (ix2 f d) : EReal) = ∑ k : Fin 4096, (Y (ix2 k f) : EReal) * (DX (ix2 k d) : EReal) := by
  unfold result
  pointwise []
  refine (Fin.sum_univ_one _).trans ?_
  exact Finset.sum_congr rfl fun k _ => mul_comm _ _

end Cert.GradOutRefIdeal.Prod

end
-- ==== Proof.Prod.Mixed.lean ====
/-
  What the call for the gradient of the mixed values leaves: at every row and column the product of the residual's
  gradient with the output projection.
-/
import proofs.«01_k».proof.Proof.Gen.GradMixedIdeal
import proofs.«01_k».proof.Proof.Gen.GradMixedIdeal.Skeleton
import proofs.«01_k».proof.Proof.Gen.GradMixedIdeal.Launch
import proofs.«01_k».proof.Proof.Gen.GradMixedIdeal.Points
import proofs.«01_k».proof.Proof.Gen.GradMixedIdeal.Frame
import proofs.«01_k».proof.Proof.Gen.GradMixedIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Common

set_option maxRecDepth 16384

noncomputable section

open Idealize.ShloMosaic Idealize.ShloMosaic.TcCoe Idealize.SL.Sem
open Idealize.ShloMosaic.Pipeline (Dat)
open scoped BigOperators

namespace Cert.GradMixedIdeal.Prod

open Cert.GradMixedIdeal Cert.GradMixedIdeal.Gen

variable (m : (ℓ : Loc nD τ sig) → Buf (Elt Ideal) ℓ)

open Cert.Mix Cert.Prod

/-- Which blocks the windows hold at a grid point. -/
theorem idx_val : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (c : Dev nD)

/-- The arguments as functions of row and column. -/
def DXf : ℕ → ℕ → EReal := at2 (a := 4096) (b := 2048) (m ((c : Thread nD τ).loc main_arg0))
def Wf : ℕ → ℕ → EReal := at2 (a := 2048) (b := 2048) (m ((c : Thread nD τ).loc main_arg1))

section Reads

variable (t : Fin cfg0.N)

theorem read0 (o : ℕ) (inb) (r : Fin 512) (d : Fin 2048) :
    View.ld (iblk m c 0 t) (Rect.unit ![o, 0] ![512, 2048] inb) (ix2 r d) = DXf m c (2048 * (t.val / 2) + (o + r)) d := by
  have ho : o + 512 ≤ 2048 := inb 0
  have ht : t.val < 4 := lt_of_lt_of_eq t.isLt N_0
  rw [DXf, at2_of _ (by omega) (by omega)]
  pointwise []
  blk_point [iblk, V, idx_val t]

theorem read1 (inb) (r : Fin 1024) (d : Fin 2048) :
    View.ld (iblk m c 1 t) (Rect.unit ![0, 0] ![1024, 2048] inb) (ix2 r d) = Wf m c (1024 * (t.val % 2) + r) d := by
  have ht : t.val < 4 := lt_of_lt_of_eq t.isLt N_0
  rw [Wf, at2_of _ (by omega) (by omega)]
  pointwise []
  blk_point [iblk, V, idx_val t]

end Reads

/-- The result at a row and a column. -/
def mixedAt (t f : ℕ) : EReal := ∑ d : Fin 2048, DXf m c t d * Wf m c f d

/-- The result. -/
def out2 : FVec Ideal S4096x2048 .f32 := fun j => mixedAt m c (j 0).val (j 1).val

theorem pay_at (A : FVec Ideal S512x2048 .bf16) (B : FVec Ideal S1024x2048 .bf16) (r : Fin 512) (d : Fin 1024) :
    (k0_pay1 (F := Ideal) A B (ix2 r d) : EReal) = ∑ k : Fin 2048, (A (ix2 r k) : EReal) * (B (ix2 d k) : EReal) := by
  pointwise [k0_pay1]

/-- What the trips before `n` store: each a tile of the block's rows. -/
theorem pieces (𝒱 : Variants) (bd : Option 𝒱.V) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1024 .f32) (harg4 : arg4.IsWhole)
    (x0 : Vec Ideal S2048x2048 .bf16) (x1 : Vec Ideal S1024x2048 .bf16) (P : View.Piece (Elt Ideal) S2048x1024 .f32 → Prop)
    (h : ∀ (o : ℕ) (o0 o2 : Fin 2 → ℕ) (_ : o0 = ![o, 0]) (_ : o2 = ![o, 0]) (i2 i0 i1), P ⟨Rect.unit o2 ![512, 1024] i2, k0_pay1 (F := Ideal) (View.ld x0 (Rect.unit o0 ![512, 2048] i0)) (View.ld x1 (Rect.unit ![0, 0] ![1024, 2048] i1))⟩) :
    ∀ n ≤ k0_t1_loop.trips, ∀ p ∈ pb_k0_t1 (F := Ideal) 𝒱 c bd i arg2 harg2 arg3 harg3 arg4 harg4 (harg2.unread x0) (harg3.unread x1) n, P p := by
  intro n
  induction n with
  | zero => intro _ p hp; exact absurd hp List.not_mem_nil
  | succ n ih =>
    intro hn p hp
    rw [pb_k0_t1_succ 𝒱 c bd i arg2 harg2 arg3 harg3 arg4 harg4 _ _ ⟨n, hn⟩] at hp
    rcases List.mem_append.1 hp with hp | hp
    · unfold tripL_k0_t1 trip_k0_t1 at hp
      dsimp only at hp
      rw [List.mem_singleton] at hp
      subst hp
      rw [load_held, load_held]
      exact h (512 * n) _ _ (k0_off1_eq _) (k0_off2_eq _) _ _ _
    · exact ih (Nat.le_of_succ_le hn) p hp

theorem final2 : (dats m 0 c).arrAt 2 cfg0.N = out2 m c := by
  refine (dats m 0 c).arrAt_eq_of_covers 2 _ (by decide +kernel) fun t hf y => ?_
  blk_simp
  rw [after0_2]
  unfold outsAt0 out0_A_2
  refine View.read_writes_apply_of_pieces (Val := Elt Ideal) (e := .f32) _ _ (fun x => out2 m c (((cfg0.win 2).blk t).view.emb x)) _ ?_ _ (cover0_A_2 c _ _ _ _ _ _ _ _ _ _)
  unfold kernelRun0_A
  dsimp only
  refine pieces c _ _ _ _ _ _ _ _ _ _ _ _ ?_ _ le_rfl
  intro o o0 o2 h0 h2 i2 i0 i1 x
  subst h0 h2
  obtain ⟨r, d, rfl⟩ : ∃ (r : Fin 512) (d : Fin 1024), x = ix2 r d := ⟨x 0, x 1, by funext a; fin_cases a <;> rfl⟩
  refine (pay_at _ _ r d).trans ?_
  simp only [read0, read1]
  have e0 : ((((View.whole main_v0).slice (win0_2.rect t)).emb ((Rect.unit (s := S2048x1024) ![o, 0] ![512, 1024] i2).emb (ix2 r d))) 0).val = 2048 * (t.val / 2) + (o + r) := by blk_simp [idx_val t]; omega
  have e1 : ((((View.whole main_v0).slice (win0_2.rect t)).emb ((Rect.unit (s := S2048x1024) ![o, 0] ![512, 1024] i2).emb (ix2 r d))) 1).val = 1024 * (t.val % 2) + d := by blk_simp [idx_val t]; omega
  show _ = mixedAt m c _ _
  rw [e0, e1]
  rfl

end Cert.GradMixedIdeal.Prod

end
-- ==== Proof.Prod.MixedRef.lean ====
/-
  What the reference for the gradient of the mixed values computes, entry by entry.
-/
import proofs.«01_k».proof.Proof.Gen.GradMixedRefIdeal
import proofs.«01_k».proof.Proof.Gen.GradMixedRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.GradMixedRefIdeal.Prod

open Cert.GradMixedRefIdeal Cert.GradMixedRefIdeal.Gen Cert.Mix Cert.Prod

/-- The reference's result, over its arguments. -/
def result (DX : FVec Ideal S4096x2048 .bf16) (W : FVec Ideal S2048x2048 .bf16) : FVec Ideal S4096x2048 .f32 :=
  shapeCast _ (Host.dotGeneral dot_S1x4096x2048_S2048x2048_S1x4096x2048_2_1_01_0_n_n none (broadcastInDim S1x4096x2048 ![1, 2] bcast_S4096x2048_S1x4096x2048_1_2 (extf .f32 DX bitsLt_bf16_f32)) (extf .f32 W bitsLt_bf16_f32)) shapeCasts_S1x4096x2048_S4096x2048

theorem result_at (DX : FVec Ideal S4096x2048 .bf16) (W : FVec Ideal S2048x2048 .bf16) (t : Fin 4096) (f : Fin 2048) :
    (result DX W (ix2 t f) : EReal) = ∑ d : Fin 2048, (DX (ix2 t d) : EReal) * (W (ix2 f d) : EReal) := by
  unfold result
  pointwise []

end Cert.GradMixedRefIdeal.Prod

end
-- ==== Proof.Prod.Agree.lean ====
/-
  Each reference's result is its kernel's.
-/
import proofs.«01_k».proof.Proof.Prod.Act
import proofs.«01_k».proof.Proof.Prod.ActRef
import proofs.«01_k».proof.Proof.Prod.Down
import proofs.«01_k».proof.Proof.Prod.DownRef
import proofs.«01_k».proof.Proof.Prod.Up
import proofs.«01_k».proof.Proof.Prod.UpRef
import proofs.«01_k».proof.Proof.Prod.In
import proofs.«01_k».proof.Proof.Prod.InRef
import proofs.«01_k».proof.Proof.Prod.Out
import proofs.«01_k».proof.Proof.Prod.OutRef
import proofs.«01_k».proof.Proof.Prod.Mixed
import proofs.«01_k».proof.Proof.Prod.MixedRef

noncomputable section

open Idealize.ShloMosaic Idealize.ShloMosaic.TcCoe Idealize.SL.Sem
open scoped BigOperators

namespace Cert.Prod

open Cert.Mix

section Act

open Cert.GradActIdeal Cert.GradActIdeal.Prod Cert.GradActRefIdeal.Prod

theorem act_agree (m : (ℓ : Loc nD τ sig) → Buf (Elt Ideal) ℓ) (c : Dev nD) {X0 X1 X2} (h0 : X0 = m ((c.tc : Thread nD τ).loc main_arg0)) (h1 : X1 = m ((c.tc : Thread nD τ).loc main_arg1)) (h2 : X2 = m ((c.tc : Thread nD τ).loc main_arg2)) :
    result X0 X1 X2 = act3 m c := by
  subst h0 h1 h2
  funext j
  obtain ⟨t, f, rfl⟩ : ∃ (t : Fin 4096) (f : Fin 8192), j = ix2 t f := ⟨j 0, j 1, by funext a; fin_cases a <;> rfl⟩
  refine (result_at _ _ _ t f).trans ?_
  show _ = actAt m c t f
  simp only [actAt, DYf, WDf, Af, at2_of, Fin.is_lt, Fin.eta]

end Act

section Down

open Cert.GradDownIdeal Cert.GradDownIdeal.Prod Cert.GradDownRefIdeal.Prod

theorem down_agree (m : (ℓ : Loc nD τ sig) → Buf (Elt Ideal) ℓ) (c : Dev nD) {X0 X1} (h0 : X0 = m ((c.tc : Thread nD τ).loc main_arg0)) (h1 : X1 = m ((c.tc : Thread nD τ).loc main_arg1)) :
    result X0 X1 = out2 m c := by
  subst h0 h1
  funext j
  obtain ⟨t, f, rfl⟩ : ∃ (t : Fin 8192) (f : Fin 2048), j = ix2 t f := ⟨j 0, j 1, by funext a; fin_cases a <;> rfl⟩
  refine (result_at _ _ t f).trans ?_
  show _ = prodAt m c t f
  simp only [prodAt, Yf, Xf, at2_of, Fin.is_lt, Fin.eta]

end Down

section Up

open Cert.GradUpIdeal Cert.GradUpIdeal.Prod Cert.GradUpRefIdeal.Prod

theorem up_agree (m : (ℓ : Loc nD τ sig) → Buf (Elt Ideal) ℓ) (c : Dev nD) {X0 X1} (h0 : X0 = m ((c.tc : Thread nD τ).loc main_arg0)) (h1 : X1 = m ((c.tc : Thread nD τ).loc main_arg1)) :
    result X0 X1 = out2 m c := by
  subst h0 h1
  funext j
  obtain ⟨q, t, f, rfl⟩ : ∃ (q : Fin 4) (t : Fin 2048) (f : Fin 2048), j = ix3 q t f := ⟨j 0, j 1, j 2, by funext a; fin_cases a <;> rfl⟩
  refine (result_at _ _ q t f).trans ?_
  have hb : q.val * 2048 + f.val < 8192 := by omega
  show _ = ∑ k : Fin 4096, Xf m c k t * Yf m c k (q.val * 2048 + f.val)
  refine Finset.sum_congr rfl fun k _ => congrArg₂ (· * ·) ?_ ?_
  · exact (at2_of _ k.isLt t.isLt).symm
  · exact (at2_of _ k.isLt hb).symm

end Up

section In

open Cert.GradInIdeal Cert.GradInIdeal.Prod Cert.GradInRefIdeal.Prod

theorem in_agree (m : (ℓ : Loc nD τ sig) → Buf (Elt Ideal) ℓ) (c : Dev nD) {X0 X1} (h0 : X0 = m ((c.tc : Thread nD τ).loc main_arg0)) (h1 : X1 = m ((c.tc : Thread nD τ).loc main_arg1)) :
    result X0 X1 = out2 m c := by
  subst h0 h1
  funext j
  obtain ⟨q, t, f, rfl⟩ : ∃ (q : Fin 4) (t : Fin 2048) (f : Fin 1024), j = ix3 q t f := ⟨j 0, j 1, j 2, by funext a; fin_cases a <;> rfl⟩
  refine (result_at _ _ q t f).trans ?_
  have hb : q.val * 1024 + f.val < 4096 := by omega
  show _ = ∑ k : Fin 4096, Xf m c k t * Yf m c k (q.val * 1024 + f.val)
  refine Finset.sum_congr rfl fun k _ => congrArg₂ (· * ·) ?_ ?_
  · exact (at2_of _ k.isLt t.isLt).symm
  · exact (at2_of _ k.isLt hb).symm

end In

section Out

open Cert.GradOutIdeal Cert.GradOutIdeal.Prod Cert.GradOutRefIdeal.Prod

theorem out_agree (m : (ℓ : Loc nD τ sig) → Buf (Elt Ideal) ℓ) (c : Dev nD) {X0 X1} (h0 : X0 = m ((c.tc : Thread nD τ).loc main_arg0)) (h1 : X1 = m ((c.tc : Thread nD τ).loc main_arg1)) :
    result X0 X1 = out2 m c := by
  subst h0 h1
  funext j
  obtain ⟨t, f, rfl⟩ : ∃ (t : Fin 2048) (f : Fin 2048), j = ix2 t f := ⟨j 0, j 1, by funext a; fin_cases a <;> rfl⟩
  refine (result_at _ _ t f).trans ?_
  show _ = prodAt m c t f
  simp only [prodAt, Xf, Yf, at2_of, Fin.is_lt, Fin.eta]

end Out

section Mixed

open Cert.GradMixedIdeal Cert.GradMixedIdeal.Prod Cert.GradMixedRefIdeal.Prod

theorem mixed_agree (m : (ℓ : Loc nD τ sig) → Buf (Elt Ideal) ℓ) (c : Dev nD) {X0 X1} (h0 : X0 = m ((c.tc : Thread nD τ).loc main_arg0)) (h1 : X1 = m ((c.tc : Thread nD τ).loc main_arg1)) :
    result X0 X1 = out2 m c := by
  subst h0 h1
  funext j
  obtain ⟨t, f, rfl⟩ : ∃ (t : Fin 4096) (f : Fin 2048), j = ix2 t f := ⟨j 0, j 1, by funext a; fin_cases a <;> rfl⟩
  refine (result_at _ _ t f).trans ?_
  show _ = mixedAt m c t f
  simp only [mixedAt, DXf, Wf, at2_of, Fin.is_lt, Fin.eta]

end Mixed

end Cert.Prod

end
-- ==== Proof.Prod.Slabs.lean ====
/-
  A matrix whose columns are held in four slabs, one for each chip, read as one matrix.
-/
import proofs.«01_k».proof.Proof.Prod.Common
import Idealize.ShloMosaic.Lib.ValueIdx

noncomputable section

open Idealize.ShloMosaic

namespace Cert.Prod

/-- The entry at row `k` and column `f` of the matrix whose slabs of `n` columns are `w`; zero outside it. -/
def slabs (n : ℕ) (w : (⟨3, ![4, 2048, n]⟩ : Shape).Idx → EReal) (k f : ℕ) : EReal :=
  if h : k < 2048 ∧ f / n < 4 ∧ f % n < n then w (ix3 ⟨f / n, h.2.1⟩ ⟨k, h.1⟩ ⟨f % n, h.2.2⟩) else 0

theorem slabs_of {n : ℕ} (w : (⟨3, ![4, 2048, n]⟩ : Shape).Idx → EReal) {k f : ℕ} (hk : k < 2048) (hq : f / n < 4) (hf : f % n < n) :
    slabs n w k f = w (ix3 ⟨f / n, hq⟩ ⟨k, hk⟩ ⟨f % n, hf⟩) := dif_pos ⟨hk, hq, hf⟩

end Cert.Prod

end
-- ==== Proof.Prod.UpProj.lean ====
/-
  What the call for the up projection leaves: the product of the normalised input with the columns of every chip,
  rectified, and its square.
-/
import proofs.«01_k».proof.Proof.Gen.UpProjIdeal
import proofs.«01_k».proof.Proof.Gen.UpProjIdeal.Skeleton
import proofs.«01_k».proof.Proof.Gen.UpProjIdeal.Launch
import proofs.«01_k».proof.Proof.Gen.UpProjIdeal.Points
import proofs.«01_k».proof.Proof.Gen.UpProjIdeal.Frame
import proofs.«01_k».proof.Proof.Gen.UpProjIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Slabs

set_option maxRecDepth 16384

noncomputable section

open Idealize.ShloMosaic Idealize.ShloMosaic.TcCoe Idealize.SL.Sem
open Idealize.ShloMosaic.Pipeline (Dat)
open scoped BigOperators

namespace Cert.UpProjIdeal.Prod

open Cert.UpProjIdeal Cert.UpProjIdeal.Gen

variable (m : (ℓ : Loc nD τ sig) → Buf (Elt Ideal) ℓ)

open Cert.Mix Cert.Prod

/-- Which blocks the windows hold at a grid point. -/
theorem idx_val : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] :=
  (by decide +kernel : ∀ t : Fin grid0.N, _)

variable (c : Dev nD)

/-- The arguments as functions of row and column. -/
def Hf : ℕ → ℕ → EReal := at2 (a := 4096) (b := 2048) (m ((c : Thread nD τ).loc main_arg0))
def Wf : ℕ → ℕ → EReal := slabs 2048 (m ((c : Thread nD τ).loc main_arg1))

section Reads

variable (t : Fin cfg0.N)

theorem read0 (o : ℕ) (inb) (r : Fin 512) (d : Fin 2048) :
    View.ld (iblk m c 0 t) (Rect.unit ![o, 0] ![512, 2048] inb) (ix2 r d) = Hf m c (2048 * (t.val / 8) + (o + r)) d := by
  have ho : o + 512 ≤ 2048 := inb 0
  have ht : t.val < 16 := lt_of_lt_of_eq t.isLt N_0
  rw [Hf, at2_of _ (by omega) (by omega)]
  pointwise []
  blk_point [iblk, V, idx_val t]

theorem read1 (inb) (k : Fin 2048) (d : Fin 1024) :
    View.ld (iblk m c 1 t) (Rect.unit ![0, 0, 0] ![1, 2048, 1024] inb) (ix3 (0 : Fin 1) k d) = Wf m c k (1024 * (t.val % 8) + d) := by
  have ht : t.val < 16 := lt_of_lt_of_eq t.isLt N_0
  rw [Wf, slabs_of _ k.isLt (by omega) (by omega)]
  pointwise []
  blk_point [iblk, V, idx_val t]

end Reads

/-- The product at a row and a column. -/
def colAt (t f : ℕ) : EReal := ∑ d : Fin 2048, Hf m c t d * Wf m c d f

/-- The rectified product. -/
def out2 : FVec Ideal S4096x8192 .bf16 := fun j => max (colAt m c (j 0).val (j 1).val) 0

/-- Its square. -/
def out3 : FVec Ideal S4096x8192 .bf16 := fun j => max (colAt m c (j 0).val (j 1).val) 0 * max (colAt m c (j 0).val (j 1).val) 0

theorem pay2_at (A : FVec Ideal S512x2048 .bf16) (B : FVec Ideal S1x2048x1024 .bf16) (r : Fin 512) (d : Fin 1024) :
    (k0_pay2 (F := Ideal) A B (ix2 r d) : EReal) = max (∑ k : Fin 2048, (A (ix2 r k) : EReal) * (B (ix3 (0 : Fin 1) k d) : EReal)) 0 := by
  pointwise [k0_pay2, k0_pay1]

theorem pay3_at (A : FVec Ideal S512x2048 .bf16) (B : FVec Ideal S1x2048x1024 .bf16) (r : Fin 512) (d : Fin 1024) :
    (k0_pay3 (F := Ideal) A B (ix2 r d) : EReal) = max (∑ k : Fin 2048, (A (ix2 r k) : EReal) * (B (ix3 (0 : Fin 1) k d) : EReal)) 0 * max (∑ k : Fin 2048, (A (ix2 r k) : EReal) * (B (ix3 (0 : Fin 1) k d) : EReal)) 0 := by
  pointwise [k0_pay3, k0_pay1]

/-- What the trips before `n` store: each a tile of the block's rows. -/
theorem pieces2 (𝒱 : Variants) (bd : Option 𝒱.V) (i : grid0.Coords) (arg2 : Memref sig .tc .vmem S2048x2048 .bf16) (harg2 : arg2.IsWhole) (arg3 : Memref sig .tc .vmem S1x2048x1024 .bf16) (harg3 : arg3.IsWhole) (arg4 : Memref sig .tc .vmem S2048x1024 .bf16) (harg4 : arg4.IsWhole) (arg5 : Memref sig .tc .vmem S2048x1024 .bf16) (harg5 : arg5.IsWhole)
    (x0 : Vec Ideal S2048x2048 .bf16) (x1 : Vec Ideal S1x2048x1024 .bf16) (P : View.Piece (Elt Ideal) S2048x1024 .bf16 → Prop)
    (h : ∀ (o : ℕ) (o0 o2 : Fin 2 → ℕ) (_ : o0 = ![o, 0]) (_ : o2 = ![o, 0]) (i2 i0 i1), P ⟨Rect.unit o2 ![512, 1024] i2, k0_pay2 (F := Ideal) (View.ld x0 (Rect.unit o0 ![512, 2048] i0)) (View.ld x1 (Rect.unit ![0, 0, 0] ![1, 2048, 1024] i1))⟩) :
    ∀ n ≤ k0_t1_loop.trips, ∀ p ∈ (pb_k0_t1 (F := Ideal) 𝒱 c bd i arg2 harg2 arg3 harg3 arg4 harg4 arg5 harg5 (harg2.unread x0) (harg3.unread x1) n).1, P p := by
  intro n
  induction n with
  | zero => intro _ p hp; exact absurd hp List.not_mem_nil
  | succ n ih =>
    intro hn p hp
    rw [pb_k0_t1_succ 𝒱 c bd i arg2 harg2 arg3 harg3 arg4 harg4 arg5 harg5 _ _ ⟨n, hn⟩] at hp
    rcases List.mem_append.1 hp with hp | hp
    · unfold tripL_k0_t1 trip_k0_t1 at hp
      dsimp only at hp
      rw [List.mem_singleton] at hp
      subst hp
      rw [load_held, load_held]
      exact h (512 * n) _ _ (k0_off1_eq _) (k0_off2_eq _) _ _ _
    · exact ih (Nat.le_of_succ_le hn) p hp

/-- What the trips before `n` store: each a tile of the block's rows. -/
theorem pieces3 (𝒱 : Variants) (bd : Option 𝒱.V) (i : grid0.Coords) (arg2 : Memref sig .tc .vmem S2048x2048 .bf16) (harg2 : arg2.IsWhole) (arg3 : Memref sig .tc .vmem S1x2048x1024 .bf16) (harg3 : arg3.IsWhole) (arg4 : Memref sig .tc .vmem S2048x1024 .bf16) (harg4 : arg4.IsWhole) (arg5 : Memref sig .tc .vmem S2048x1024 .bf16) (harg5 : arg5.IsWhole)
    (x0 : Vec Ideal S2048x2048 .bf16) (x1 : Vec Ideal S1x2048x1024 .bf16) (P : View.Piece (Elt Ideal) S2048x1024 .bf16 → Prop)
    (h : ∀ (o : ℕ) (o0 o2 : Fin 2 → ℕ) (_ : o0 = ![o, 0]) (_ : o2 = ![o, 0]) (i2 i0 i1), P ⟨Rect.unit o2 ![512, 1024] i2, k0_pay3 (F := Ideal) (View.ld x0 (Rect.unit o0 ![512, 2048] i0)) (View.ld x1 (Rect.unit ![0, 0, 0] ![1, 2048, 1024] i1))⟩) :
    ∀ n ≤ k0_t1_loop.trips, ∀ p ∈ (pb_k0_t1 (F := Ideal) 𝒱 c bd i arg2 harg2 arg3 harg3 arg4 harg4 arg5 harg5 (harg2.unread x0) (harg3.unread x1) n).2, P p := by
  intro n
  induction n with
  | zero => intro _ p hp; exact absurd hp List.not_mem_nil
  | succ n ih =>
    intro hn p hp
    rw [pb_k0_t1_succ 𝒱 c bd i arg2 harg2 arg3 harg3 arg4 harg4 arg5 harg5 _ _ ⟨n, hn⟩] at hp
    rcases List.mem_append.1 hp with hp | hp
    · unfold tripL_k0_t1 trip_k0_t1 at hp
      dsimp only at hp
      rw [List.mem_singleton] at hp
      subst hp
      rw [load_held, load_held]
      exact h (512 * n) _ _ (k0_off1_eq _) (k0_off2_eq _) _ _ _
    · exact ih (Nat.le_of_succ_le hn) p hp

theorem final2 : (dats m 0 c).arrAt 2 cfg0.N = out2 m c := by
  refine (dats m 0 c).arrAt_eq_of_covers 2 _ (by decide +kernel) fun t hf y => ?_
  blk_simp
  rw [after0_2]
  unfold outsAt0 out0_A_2
  dsimp only
  refine View.read_writes_apply_of_pieces (Val := Elt Ideal) _ _ (fun x => out2 m c (((cfg0.win 2).blk t).view.emb x)) _ ?_ _ (cover0_A_2 c _ _ _ _ _ _ _ _ _ _ _ _)
  unfold kernelRun0_A
  dsimp only
  refine pieces2 c _ _ _ _ _ _ _ _ _ _ _ _ _ _ ?_ _ le_rfl
  intro o o0 o2 h0 h2 i2 i0 i1 x
  subst h0 h2
  obtain ⟨r, d, rfl⟩ : ∃ (r : Fin 512) (d : Fin 1024), x = ix2 r d := ⟨x 0, x 1, by funext a; fin_cases a <;> rfl⟩
  refine (pay2_at _ _ r d).trans ?_
  simp only [read0, read1]
  have e0 : ((((View.whole main_v0_0).slice (win0_2.rect t)).emb ((Rect.unit (s := S2048x1024) ![o, 0] ![512, 1024] i2).emb (ix2 r d))) 0).val = 2048 * (t.val / 8) + (o + r) := by blk_simp [idx_val t]; omega
  have e1 : ((((View.whole main_v0_0).slice (win0_2.rect t)).emb ((Rect.unit (s := S2048x1024) ![o, 0] ![512, 1024] i2).emb (ix2 r d))) 1).val = 1024 * (t.val % 8) + d := by blk_simp [idx_val t]; omega
  show _ = max (colAt m c _ _) 0
  rw [e0, e1]
  rfl

theorem final3 : (dats m 0 c).arrAt 3 cfg0.N = out3 m c := by
  refine (dats m 0 c).arrAt_eq_of_covers 3 _ (by decide +kernel) fun t hf y => ?_
  blk_simp
  rw [after0_3]
  unfold outsAt0 out0_A_3
  dsimp only
  refine View.read_writes_apply_of_pieces (Val := Elt Ideal) _ _ (fun x => out3 m c (((cfg0.win 3).blk t).view.emb x)) _ ?_ _ (cover0_A_3 c _ _ _ _ _ _ _ _ _ _ _ _)
  unfold kernelRun0_A
  dsimp only
  refine pieces3 c _ _ _ _ _ _ _ _ _ _ _ _ _ _ ?_ _ le_rfl
  intro o o0 o2 h0 h2 i2 i0 i1 x
  subst h0 h2
  obtain ⟨r, d, rfl⟩ : ∃ (r : Fin 512) (d : Fin 1024), x = ix2 r d := ⟨x 0, x 1, by funext a; fin_cases a <;> rfl⟩
  refine (pay3_at _ _ r d).trans ?_
  simp only [read0, read1]
  have e0 : ((((View.whole main_v0_1).slice (win0_3.rect t)).emb ((Rect.unit (s := S2048x1024) ![o, 0] ![512, 1024] i2).emb (ix2 r d))) 0).val = 2048 * (t.val / 8) + (o + r) := by blk_simp [idx_val t]; omega
  have e1 : ((((View.whole main_v0_1).slice (win0_3.rect t)).emb ((Rect.unit (s := S2048x1024) ![o, 0] ![512, 1024] i2).emb (ix2 r d))) 1).val = 1024 * (t.val % 8) + d := by blk_simp [idx_val t]; omega
  show _ = max (colAt m c _ _) 0 * max (colAt m c _ _) 0
  rw [e0, e1]
  rfl

end Cert.UpProjIdeal.Prod

end
-- ==== Proof.Prod.UpProjRef.lean ====
/-
  What the reference for the up projection computes, entry by entry.
-/
import proofs.«01_k».proof.Proof.Gen.UpProjRefIdeal
import proofs.«01_k».proof.Proof.Gen.UpProjRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.UpProjRefIdeal.Prod

open Cert.UpProjRefIdeal Cert.UpProjRefIdeal.Gen Cert.Mix Cert.Prod

/-- The reference's result, over its arguments. -/
def rectified (H : FVec Ideal S4096x2048 .bf16) (W : FVec Ideal S4x2048x2048 .bf16) : FVec Ideal S4096x8192 .bf16 :=
  truncf .bf16 (shapeCast _ (maximumf (Host.dotGeneral dot_S1x4096x2048_S2048x8192_S1x4096x8192_2_0_01_1_n_n none (broadcastInDim S1x4096x2048 ![1, 2] bcast_S4096x2048_S1x4096x2048_1_2 (extf .f32 H bitsLt_bf16_f32)) (shapeCast _ (transpose S2048x4x2048 [1, 0, 2] (extf .f32 W bitsLt_bf16_f32) transposes_S4x2048x2048_S2048x4x2048_1_0_2) shapeCasts_S2048x4x2048_S2048x8192)) (broadcastInDim S1x4096x8192 ![] bcast_S_S1x4096x8192 (constant S_ .f32 0x00000000#32))) shapeCasts_S1x4096x8192_S4096x8192) bitsLt_bf16_f32

theorem rectified_at (H : FVec Ideal S4096x2048 .bf16) (W : FVec Ideal S4x2048x2048 .bf16) (t : Fin 4096) (f : Fin 8192) :
    (rectified H W (ix2 t f) : EReal) = max (∑ k : Fin 2048, (H (ix2 t k) : EReal) * (W (ix3 (⟨f.val / 2048, by omega⟩ : Fin 4) k (⟨f.val % 2048, by omega⟩ : Fin 2048)) : EReal)) 0 := by
  unfold rectified
  pointwise []

/-- The reference's result, over its arguments. -/
def squared (H : FVec Ideal S4096x2048 .bf16) (W : FVec Ideal S4x2048x2048 .bf16) : FVec Ideal S4096x8192 .bf16 :=
  truncf .bf16 (mulf (shapeCast _ (maximumf (Host.dotGeneral dot_S1x4096x2048_S2048x8192_S1x4096x8192_2_0_01_1_n_n none (broadcastInDim S1x4096x2048 ![1, 2] bcast_S4096x2048_S1x4096x2048_1_2 (extf .f32 H bitsLt_bf16_f32)) (shapeCast _ (transpose S2048x4x2048 [1, 0, 2] (extf .f32 W bitsLt_bf16_f32) transposes_S4x2048x2048_S2048x4x2048_1_0_2) shapeCasts_S2048x4x2048_S2048x8192)) (broadcastInDim S1x4096x8192 ![] bcast_S_S1x4096x8192 (constant S_ .f32 0x00000000#32))) shapeCasts_S1x4096x8192_S4096x8192) (shapeCast _ (maximumf (Host.dotGeneral dot_S1x4096x2048_S2048x8192_S1x4096x8192_2_0_01_1_n_n none (broadcastInDim S1x4096x2048 ![1, 2] bcast_S4096x2048_S1x4096x2048_1_2 (extf .f32 H bitsLt_bf16_f32)) (shapeCast _ (transpose S2048x4x2048 [1, 0, 2] (extf .f32 W bitsLt_bf16_f32) transposes_S4x2048x2048_S2048x4x2048_1_0_2) shapeCasts_S2048x4x2048_S2048x8192)) (broadcastInDim S1x4096x8192 ![] bcast_S_S1x4096x8192 (constant S_ .f32 0x00000000#32))) shapeCasts_S1x4096x8192_S4096x8192)) bitsLt_bf16_f32

theorem squared_at (H : FVec Ideal S4096x2048 .bf16) (W : FVec Ideal S4x2048x2048 .bf16) (t : Fin 4096) (f : Fin 8192) :
    (squared H W (ix2 t f) : EReal) = max (∑ k : Fin 2048, (H (ix2 t k) : EReal) * (W (ix3 (⟨f.val / 2048, by omega⟩ : Fin 4) k (⟨f.val % 2048, by omega⟩ : Fin 2048)) : EReal)) 0 * max (∑ k : Fin 2048, (H (ix2 t k) : EReal) * (W (ix3 (⟨f.val / 2048, by omega⟩ : Fin 4) k (⟨f.val % 2048, by omega⟩ : Fin 2048)) : EReal)) 0 := by
  unfold squared
  pointwise []

end Cert.UpProjRefIdeal.Prod

end
-- ==== Proof.Prod.InProj.lean ====
/-
  What the call for the input projection leaves: the product of the normalised input with the columns of every chip.
-/
import proofs.«01_k».proof.Proof.Gen.InProjIdeal
import proofs.«01_k».proof.Proof.Gen.InProjIdeal.Skeleton
import proofs.«01_k».proof.Proof.Gen.InProjIdeal.Launch
import proofs.«01_k».proof.Proof.Gen.InProjIdeal.Points
import proofs.«01_k».proof.Proof.Gen.InProjIdeal.Frame
import proofs.«01_k».proof.Proof.Gen.InProjIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Slabs

set_option maxRecDepth 16384

noncomputable section

open Idealize.ShloMosaic Idealize.ShloMosaic.TcCoe Idealize.SL.Sem
open Idealize.ShloMosaic.Pipeline (Dat)
open scoped BigOperators

namespace Cert.InProjIdeal.Prod

open Cert.InProjIdeal Cert.InProjIdeal.Gen

variable (m : (ℓ : Loc nD τ sig) → Buf (Elt Ideal) ℓ)

open Cert.Mix Cert.Prod

/-- Which blocks the windows hold at a grid point. -/
theorem idx_val : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

variable (c : Dev nD)

/-- The arguments as functions of row and column. -/
def Hf : ℕ → ℕ → EReal := at2 (a := 4096) (b := 2048) (m ((c : Thread nD τ).loc main_arg0))
def Wf : ℕ → ℕ → EReal := slabs 1024 (m ((c : Thread nD τ).loc main_arg1))

section Reads

variable (t : Fin cfg0.N)

theorem read0 (o : ℕ) (inb) (r : Fin 512) (d : Fin 2048) :
    View.ld (iblk m c 0 t) (Rect.unit ![o, 0] ![512, 2048] inb) (ix2 r d) = Hf m c (2048 * (t.val / 4) + (o + r)) d := by
  have ho : o + 512 ≤ 2048 := inb 0
  have ht : t.val < 8 := lt_of_lt_of_eq t.isLt N_0
  rw [Hf, at2_of _ (by omega) (by omega)]
  pointwise []
  blk_point [iblk, V, idx_val t]

theorem read1 (inb) (k : Fin 2048) (d : Fin 1024) :
    View.ld (iblk m c 1 t) (Rect.unit ![0, 0, 0] ![1, 2048, 1024] inb) (ix3 (0 : Fin 1) k d) = Wf m c k (1024 * (t.val % 4) + d) := by
  have ht : t.val < 8 := lt_of_lt_of_eq t.isLt N_0
  rw [Wf, slabs_of _ k.isLt (by omega) (by omega)]
  pointwise []
  blk_point [iblk, V, idx_val t]

end Reads

/-- The product at a row and a column. -/
def colAt (t f : ℕ) : EReal := ∑ d : Fin 2048, Hf m c t d * Wf m c d f

/-- The result. -/
def out2 : FVec Ideal S4096x4096 .bf16 := fun j => colAt m c (j 0).val (j 1).val

theorem pay2_at (A : FVec Ideal S512x2048 .bf16) (B : FVec Ideal S1x2048x1024 .bf16) (r : Fin 512) (d : Fin 1024) :
    (k0_pay1 (F := Ideal) A B (ix2 r d) : EReal) = (∑ k : Fin 2048, (A (ix2 r k) : EReal) * (B (ix3 (0 : Fin 1) k d) : EReal)) := by
  pointwise [k0_pay1]

/-- What the trips before `n` store: each a tile of the block's rows. -/
theorem pieces2 (𝒱 : Variants) (bd : Option 𝒱.V) (i : grid0.Coords) (arg2 : Memref sig .tc .vmem S2048x2048 .bf16) (harg2 : arg2.IsWhole) (arg3 : Memref sig .tc .vmem S1x2048x1024 .bf16) (harg3 : arg3.IsWhole) (arg4 : Memref sig .tc .vmem S2048x1024 .bf16) (harg4 : arg4.IsWhole)
    (x0 : Vec Ideal S2048x2048 .bf16) (x1 : Vec Ideal S1x2048x1024 .bf16) (P : View.Piece (Elt Ideal) S2048x1024 .bf16 → Prop)
    (h : ∀ (o : ℕ) (o0 o2 : Fin 2 → ℕ) (_ : o0 = ![o, 0]) (_ : o2 = ![o, 0]) (i2 i0 i1), P ⟨Rect.unit o2 ![512, 1024] i2, k0_pay1 (F := Ideal) (View.ld x0 (Rect.unit o0 ![512, 2048] i0)) (View.ld x1 (Rect.unit ![0, 0, 0] ![1, 2048, 1024] i1))⟩) :
    ∀ n ≤ k0_t1_loop.trips, ∀ p ∈ pb_k0_t1 (F := Ideal) 𝒱 c bd i arg2 harg2 arg3 harg3 arg4 harg4 (harg2.unread x0) (harg3.unread x1) n, P p := by
  intro n
  induction n with
  | zero => intro _ p hp; exact absurd hp List.not_mem_nil
  | succ n ih =>
    intro hn p hp
    rw [pb_k0_t1_succ 𝒱 c bd i arg2 harg2 arg3 harg3 arg4 harg4 _ _ ⟨n, hn⟩] at hp
    rcases List.mem_append.1 hp with hp | hp
    · unfold tripL_k0_t1 trip_k0_t1 at hp
      dsimp only at hp
      rw [List.mem_singleton] at hp
      subst hp
      rw [load_held, load_held]
      exact h (512 * n) _ _ (k0_off1_eq _) (k0_off2_eq _) _ _ _
    · exact ih (Nat.le_of_succ_le hn) p hp

theorem final2 : (dats m 0 c).arrAt 2 cfg0.N = out2 m c := by
  refine (dats m 0 c).arrAt_eq_of_covers 2 _ (by decide +kernel) fun t hf y => ?_
  blk_simp
  rw [after0_2]
  unfold outsAt0 out0_A_2
  refine View.read_writes_apply_of_pieces (Val := Elt Ideal) _ _ (fun x => out2 m c (((cfg0.win 2).blk t).view.emb x)) _ ?_ _ (cover0_A_2 c _ _ _ _ _ _ _ _ _ _)
  unfold kernelRun0_A
  dsimp only
  refine pieces2 c _ _ _ _ _ _ _ _ _ _ _ _ ?_ _ le_rfl
  intro o o0 o2 h0 h2 i2 i0 i1 x
  subst h0 h2
  obtain ⟨r, d, rfl⟩ : ∃ (r : Fin 512) (d : Fin 1024), x = ix2 r d := ⟨x 0, x 1, by funext a; fin_cases a <;> rfl⟩
  refine (pay2_at _ _ r d).trans ?_
  simp only [read0, read1]
  have e0 : ((((View.whole main_v0).slice (win0_2.rect t)).emb ((Rect.unit (s := S2048x1024) ![o, 0] ![512, 1024] i2).emb (ix2 r d))) 0).val = 2048 * (t.val / 4) + (o + r) := by blk_simp [idx_val t]; omega
  have e1 : ((((View.whole main_v0).slice (win0_2.rect t)).emb ((Rect.unit (s := S2048x1024) ![o, 0] ![512, 1024] i2).emb (ix2 r d))) 1).val = 1024 * (t.val % 4) + d := by blk_simp [idx_val t]; omega
  show _ = colAt m c _ _
  rw [e0, e1]
  rfl

end Cert.InProjIdeal.Prod

end
-- ==== Proof.Prod.InProjRef.lean ====
/-
  What the reference for the input projection computes, entry by entry.
-/
import proofs.«01_k».proof.Proof.Gen.InProjRefIdeal
import proofs.«01_k».proof.Proof.Gen.InProjRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.InProjRefIdeal.Prod

open Cert.InProjRefIdeal Cert.InProjRefIdeal.Gen Cert.Mix Cert.Prod

/-- The reference's result, over its arguments. -/
def result (H : FVec Ideal S4096x2048 .bf16) (W : FVec Ideal S4x2048x1024 .bf16) : FVec Ideal S4096x4096 .bf16 :=
  truncf .bf16 (shapeCast _ (Host.dotGeneral dot_S1x4096x2048_S2048x4096_S1x4096x4096_2_0_01_1_n_n none (broadcastInDim S1x4096x2048 ![1, 2] bcast_S4096x2048_S1x4096x2048_1_2 (extf .f32 H bitsLt_bf16_f32)) (shapeCast _ (transpose S2048x4x1024 [1, 0, 2] (extf .f32 W bitsLt_bf16_f32) transposes_S4x2048x1024_S2048x4x1024_1_0_2) shapeCasts_S2048x4x1024_S2048x4096)) shapeCasts_S1x4096x4096_S4096x4096) bitsLt_bf16_f32

theorem result_at (H : FVec Ideal S4096x2048 .bf16) (W : FVec Ideal S4x2048x1024 .bf16) (t : Fin 4096) (f : Fin 4096) :
    (result H W (ix2 t f) : EReal) = ∑ k : Fin 2048, (H (ix2 t k) : EReal) * (W (ix3 (⟨f.val / 1024, by omega⟩ : Fin 4) k (⟨f.val % 1024, by omega⟩ : Fin 1024)) : EReal) := by
  unfold result
  pointwise []

end Cert.InProjRefIdeal.Prod

end
-- ==== Proof.Prod.Bands.lean ====
/-
  A block filled, then updated in bands of 512 rows, each band read, changed and stored: what the bands leave, row by
  row.
-/
import proofs.«01_k».proof.Proof.Prod.Common
import proofs.«01_k».proof.Proof.Mix.Peel
import Idealize.ShloMosaic.Lib.ValueIdx

noncomputable section

open Idealize.ShloMosaic
open scoped BigOperators

namespace Cert.Prod.Bands

open Cert.KernelIdeal.Mix

abbrev Blk : Shape := ⟨2, ![1024, 1024]⟩

/-- The rows before `n` hold `F`. -/
def Upto (L : List (View.Piece (Elt Ideal) Blk .f32)) (n : ℕ) (F : Blk.Idx → EReal) : Prop :=
  ∀ (r : Fin 1024) (d : Fin 1024), r.val < n → (View.canon L (ix2 r d) : EReal) = F (ix2 r d)

/-- The rows from `n` on hold `G`. -/
def Rest (L : List (View.Piece (Elt Ideal) Blk .f32)) (n : ℕ) (G : Blk.Idx → EReal) : Prop :=
  ∀ (r : Fin 1024) (d : Fin 1024), n ≤ r.val → (View.canon L (ix2 r d) : EReal) = G (ix2 r d)

variable {L : List (View.Piece (Elt Ideal) Blk .f32)} {n : ℕ} {F G : Blk.Idx → EReal}

theorem upto_none : Upto L 0 F := fun _ _ h => absurd h (Nat.not_lt_zero _)

theorem rest_fill (inb) (w : Blk.Idx → EReal) (h : ∀ j, w j = G j) :
    Rest (⟨Rect.unit (s := Blk) ![0, 0] ![1024, 1024] inb, w⟩ :: L) 0 G := by
  intro r d _
  refine peel2 (Val := Elt Ideal) (e := .f32) inb w L _ _ (fun x h0 h1 _ _ => ?_) (fun hm => ?_)
  · refine (h x).trans (congrArg G ?_)
    funext a
    fin_cases a
    · exact Fin.ext (by have : r.val = 0 + (x 0).val := h0; show (x 0).val = r.val; omega)
    · exact Fin.ext (by have : d.val = 0 + (x 1).val := h1; show (x 1).val = d.val; omega)
  · exact absurd ⟨⟨Nat.zero_le _, by have := r.isLt; show r.val < 0 + 1024; omega⟩, ⟨Nat.zero_le _, by have := d.isLt; show d.val < 0 + 1024; omega⟩⟩ hm

theorem rest_cons (inb) (w : (⟨2, ![512, 1024]⟩ : Shape).Idx → EReal) (R : Rest L n G) :
    Rest (⟨Rect.unit (s := Blk) ![n, 0] ![512, 1024] inb, w⟩ :: L) (n + 512) G := by
  intro r d hr
  refine peel2 (Val := Elt Ideal) (e := .f32) inb w L _ _ (fun x h0 _ h2 _ => ?_) (fun _ => R r d (by omega))
  have : r.val = n + (x 0).val := h0
  omega

/-- One band: its rows come to hold `F`, the rows before stay. -/
theorem upto_cons (inb) (w : (⟨2, ![512, 1024]⟩ : Shape).Idx → EReal) (U : Upto L n F)
    (hw : ∀ (x : Fin 512) (d : Fin 1024) (h : n + x.val < 1024), w (ix2 x d) = F (ix2 ⟨n + x.val, h⟩ d)) :
    Upto (⟨Rect.unit (s := Blk) ![n, 0] ![512, 1024] inb, w⟩ :: L) (n + 512) F := by
  intro r d hr
  refine peel2 (Val := Elt Ideal) (e := .f32) inb w L _ _ (fun x h0 h1 h2 h3 => ?_) (fun hm => U r d ?_)
  · have e0 : r.val = n + (x 0).val := h0
    have e1 : d.val = 0 + (x 1).val := h1
    have hx : x = ix2 (⟨(x 0).val, h2⟩ : Fin 512) (⟨(x 1).val, h3⟩ : Fin 1024) := by funext a; fin_cases a <;> rfl
    have hr' : n + (x 0).val < 1024 := e0 ▸ r.isLt
    have er : r = ⟨n + (x 0).val, hr'⟩ := Fin.ext e0
    have ed : d = ⟨(x 1).val, h3⟩ := Fin.ext (e1.trans (Nat.zero_add _))
    rw [hx, er, ed]
    exact hw _ _ _
  · by_contra hn
    exact hm ⟨⟨by show n ≤ r.val; omega, hr⟩, ⟨Nat.zero_le _, by have := d.isLt; show d.val < 0 + 1024; omega⟩⟩

/-- Reading a band that no earlier band touched. -/
theorem read_rest {sig : RefSig} {κ : Kind} {sp : Space} (v : View sig κ sp Blk .f32) (inb) (R : Rest L n G)
    (x : Fin 512) (d : Fin 1024) (h : n + x.val < 1024) :
    (v.readCov L (Rect.unit (s := Blk) ![n, 0] ![512, 1024] inb).toLoadRect (ix2 x d) : EReal) = G (ix2 ⟨n + x.val, h⟩ d) := by
  rw [View.readCov_eq_canon']
  refine (congrArg (View.canon L) ?_).trans (R ⟨n + x.val, h⟩ d (Nat.le_add_right _ _))
  funext a
  refine Fin.ext ?_
  fin_cases a
  · show n + 1 * x.val = n + x.val; omega
  · show 0 + 1 * d.val = d.val; omega

/-- Reading a band of a block held whole. -/
theorem read_held (Z : Blk.Idx → EReal) (inb) (x : Fin 512) (d : Fin 1024) (h : n + x.val < 1024) :
    View.ld (Val := Elt Ideal) (e' := .f32) Z (Rect.unit (s := Blk) ![n, 0] ![512, 1024] inb) (ix2 x d) = Z (ix2 ⟨n + x.val, h⟩ d) :=
  load2 (Val := Elt Ideal) (e := .f32) Z inb _ _ rfl (Nat.zero_add _).symm

/-- The block once every band is stored. -/
theorem canon_of_upto (U : Upto L 1024 F) : View.canon L = F := by
  funext j
  obtain ⟨r, d, rfl⟩ : ∃ (r : Fin 1024) (d : Fin 1024), j = ix2 r d := ⟨j 0, j 1, by funext a; fin_cases a <;> rfl⟩
  exact U r d r.isLt

abbrev Lhs : Shape := ⟨2, ![1024, 2048]⟩
abbrev Rhs : Shape := ⟨2, ![2048, 1024]⟩

/-- A block increased by the product of a block of rows with a block of columns. -/
def increased (G : Blk.Idx → EReal) (X : Lhs.Idx → EReal) (Y : Rhs.Idx → EReal) : Blk.Idx → EReal :=
  fun j => G j + ∑ k : Fin 2048, X (ix2 (j 0) k) * Y (ix2 k (j 1))

variable {X : Lhs.Idx → EReal} {Y : Rhs.Idx → EReal}

/-- A band of the increased block. -/
theorem band (w A : (⟨2, ![512, 1024]⟩ : Shape).Idx → EReal) (inbX)
    (hA : ∀ (x : Fin 512) (d : Fin 1024) (h : n + x.val < 1024), A (ix2 x d) = G (ix2 ⟨n + x.val, h⟩ d))
    (hw : ∀ (x : Fin 512) (d : Fin 1024), w (ix2 x d) = A (ix2 x d) + ∑ k : Fin 2048, View.ld (Val := Elt Ideal) (e' := .bf16) X (Rect.unit (s := Lhs) ![n, 0] ![512, 2048] inbX) (ix2 x k) * Y (ix2 k d))
    (x : Fin 512) (d : Fin 1024) (h : n + x.val < 1024) : w (ix2 x d) = increased G X Y (ix2 ⟨n + x.val, h⟩ d) := by
  refine (hw x d).trans ?_
  rw [hA x d h]
  refine congrArg (G _ + ·) (Finset.sum_congr rfl fun k _ => congrArg (· * _) ?_)
  exact load2 (Val := Elt Ideal) (e := .bf16) X inbX _ _ rfl (Nat.zero_add _).symm

end Cert.Prod.Bands

end
-- ==== Proof.Prod.DownProj.lean ====
/-
  What the call for the down projection leaves: the residual stream increased by the product of the squared activation
  with the down projection, the sum over the hidden columns taken in four parts.
-/
import proofs.«01_k».proof.Proof.Gen.DownProjIdeal
import proofs.«01_k».proof.Proof.Gen.DownProjIdeal.Skeleton
import proofs.«01_k».proof.Proof.Gen.DownProjIdeal.Launch
import proofs.«01_k».proof.Proof.Gen.DownProjIdeal.Points
import proofs.«01_k».proof.Proof.Gen.DownProjIdeal.Frame
import proofs.«01_k».proof.Proof.Gen.DownProjIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Bands

set_option maxRecDepth 16384

noncomputable section

open Idealize.ShloMosaic Idealize.ShloMosaic.TcCoe Idealize.SL.Sem
open Idealize.ShloMosaic.Pipeline (Dat)
open scoped BigOperators

namespace Cert.DownProjIdeal.Prod

open Cert.DownProjIdeal Cert.DownProjIdeal.Gen

variable (m : (ℓ : Loc nD τ sig) → Buf (Elt Ideal) ℓ)

open Cert.Mix Cert.Prod Cert.Prod.Bands

/-- Which blocks the windows hold at a grid point. -/
theorem idx_val : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

variable (c : Dev nD)

theorem pay1_at (A : FVec Ideal S512x1024 .f32) (X : FVec Ideal S512x2048 .bf16) (Y : FVec Ideal S2048x1024 .bf16) (r : Fin 512) (d : Fin 1024) :
    (k0_pay1 (F := Ideal) A X Y (ix2 r d) : EReal) = A (ix2 r d) + ∑ k : Fin 2048, (X (ix2 r k) : EReal) * (Y (ix2 k d) : EReal) := by
  pointwise [k0_pay1]

theorem pay2_at (A : FVec Ideal S512x1024 .f32) (X : FVec Ideal S512x2048 .bf16) (Y : FVec Ideal S2048x1024 .bf16) (r : Fin 512) (d : Fin 1024) :
    (k0_pay2 (F := Ideal) A X Y (ix2 r d) : EReal) = A (ix2 r d) + ∑ k : Fin 2048, (X (ix2 r k) : EReal) * (Y (ix2 k d) : EReal) := by
  pointwise [k0_pay2]

section Cases

variable (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x2048 .bf16) (x1 : Vec Ideal S2048x1024 .bf16) (x2 : Vec Ideal S1024x1024 .f32)

/-- The first part: the block filled with the residual stream, then increased band by band. -/
theorem first_eq (hc0 : cond0_0 i) :
    out0_A_3 (F := Ideal) c i arg3 harg3 arg4 harg4 arg5 harg5 arg6 harg6 hc0 x0 x1 x2 = increased x2 x0 x1 := by
  frame_out
  exact canon_of_upto (upto_cons _ _
    (upto_cons _ _ upto_none
      (band _ _ _ (read_rest _ _ (rest_fill (G := x2) _ _ fun _ => rfl)) (pay1_at _ _ _)))
    (band _ _ _ (read_rest _ _ (rest_cons _ _ (rest_fill (G := x2) _ _ fun _ => rfl))) (pay2_at _ _ _)))

/-- A later part: the block as the part before left it, increased band by band. -/
theorem later_eq (xo3 : Vec Ideal S1024x1024 .f32) (hc0 : ¬cond0_0 i) :
    out0_B_3 (F := Ideal) c i arg3 harg3 arg4 harg4 arg5 harg5 arg6 harg6 hc0 x0 x1 x2 xo3 = increased xo3 x0 x1 := by
  frame_out
  exact canon_of_upto (upto_cons _ _
    (upto_cons _ _ upto_none
      (band _ _ _ (read_held _ _) (pay1_at _ _ _)))
    (band _ _ _ (read_held _ _) (pay2_at _ _ _)))

end Cases

/-- The arguments as functions of row and column. -/
def Xf : ℕ → ℕ → EReal := at2 (a := 4096) (b := 8192) (m ((c : Thread nD τ).loc main_arg0))
def Yf : ℕ → ℕ → EReal := at2 (a := 8192) (b := 2048) (m ((c : Thread nD τ).loc main_arg1))
def Rf : ℕ → ℕ → EReal := at2 (a := 4096) (b := 2048) (m ((c : Thread nD τ).loc main_arg2))

section Reads

variable (t : Fin cfg0.N)

theorem read0 (r : Fin 1024) (k : Fin 2048) :
    (iblk m c 0 t : Vec Ideal S1024x2048 .bf16) (ix2 r k) = Xf m c (1024 * (t.val / 8) + r) (2048 * (t.val % 4) + k) := by
  have ht : t.val < 32 := lt_of_lt_of_eq t.isLt N_0
  rw [Xf, at2_of _ (by omega) (by omega)]
  blk_point [iblk, V, idx_val t]

theorem read1 (k : Fin 2048) (d : Fin 1024) :
    (iblk m c 1 t : Vec Ideal S2048x1024 .bf16) (ix2 k d) = Yf m c (2048 * (t.val % 4) + k) (1024 * (t.val / 4 % 2) + d) := by
  have ht : t.val < 32 := lt_of_lt_of_eq t.isLt N_0
  rw [Yf, at2_of _ (by omega) (by omega)]
  blk_point [iblk, V, idx_val t]

theorem read2 (r : Fin 1024) (d : Fin 1024) :
    (iblk m c 2 t : Vec Ideal S1024x1024 .f32) (ix2 r d) = Rf m c (1024 * (t.val / 8) + r) (1024 * (t.val / 4 % 2) + d) := by
  have ht : t.val < 32 := lt_of_lt_of_eq t.isLt N_0
  rw [Rf, at2_of _ (by omega) (by omega)]
  blk_point [iblk, V, idx_val t]

theorem dot_at (G : Blk.Idx → EReal) (r d : Fin 1024) :
    increased G (iblk m c 0 t) (iblk m c 1 t) (ix2 r d)
      = G (ix2 r d) + ∑ k : Fin 2048, Xf m c (1024 * (t.val / 8) + r) (2048 * (t.val % 4) + k) * Yf m c (2048 * (t.val % 4) + k) (1024 * (t.val / 4 % 2) + d) :=
  congrArg (G _ + ·) (Finset.sum_congr rfl fun k _ => congrArg₂ (fun a b : EReal => a * b) (read0 m c t r k) (read1 m c t k d))

end Reads

/-- The result at a row and a column. -/
def resAt (t d : ℕ) : EReal := Rf m c t d + ∑ k : Fin 8192, Xf m c t k * Yf m c k d

/-- The result. -/
def out3 : FVec Ideal S4096x2048 .f32 := fun j => resAt m c (j 0).val (j 1).val

/-- The part of the sum over the hidden columns before the `n`-th block of them. -/
def upTo (t d n : ℕ) : EReal := ∑ k ∈ Finset.range (2048 * n), Xf m c t k * Yf m c k d

theorem upTo_succ (t d n : ℕ) : upTo m c t d n + ∑ k : Fin 2048, Xf m c t (2048 * n + k) * Yf m c (2048 * n + k) d = upTo m c t d (n + 1) := by
  unfold upTo
  rw [Nat.mul_succ, Finset.sum_range_add, Finset.sum_range fun k => Xf m c t (2048 * n + k) * Yf m c (2048 * n + k) d]

/-- What the block holds after a point. -/
theorem after_at : ∀ (n : ℕ) (hn : n < cfg0.N) (r d : Fin 1024),
    (outsAt0 m c n hn (ix2 r d) : EReal) = Rf m c (1024 * (n / 8) + r) (1024 * (n / 4 % 2) + d)
      + upTo m c (1024 * (n / 8) + r) (1024 * (n / 4 % 2) + d) (n % 4 + 1) := by
  intro n
  induction n with
  | zero =>
    intro hn r d
    refine (congrFun ((outsAt0_A m c ⟨0, hn⟩ rfl).trans (first_eq c _ _ _ _ _ _ _ _ _ _ _ _ _)) (ix2 r d)).trans ?_
    rw [← upTo_succ]
    refine (dot_at m c ⟨0, hn⟩ _ r d).trans ?_
    refine congrArg₂ (· + ·) (read2 m c ⟨0, hn⟩ r d) ?_
    simp [upTo]
  | succ n ih =>
    intro hn r d
    by_cases h0 : (n + 1) % 4 = 0
    · refine (congrFun ((outsAt0_A m c ⟨n + 1, hn⟩ h0).trans (first_eq c _ _ _ _ _ _ _ _ _ _ _ _ _)) (ix2 r d)).trans ?_
      rw [← upTo_succ]
      refine (dot_at m c ⟨n + 1, hn⟩ _ r d).trans ?_
      refine congrArg₂ (· + ·) (read2 m c ⟨n + 1, hn⟩ r d) ?_
      simp [upTo, h0]
    · refine (congrFun ((outsAt0_B m c ⟨n + 1, hn⟩ h0).trans (later_eq c _ _ _ _ _ _ _ _ _ _ _ _ _ _)) (ix2 r d)).trans ?_
      have q0 : n / 8 = (n + 1) / 8 := by omega
      have q1 : n / 4 = (n + 1) / 4 := by omega
      have q2 : n % 4 + 1 = (n + 1) % 4 := by omega
      rw [← upTo_succ, ← add_assoc]
      refine (dot_at m c ⟨n + 1, hn⟩ _ r d).trans ?_
      refine congrArg (· + _) ((ih _ r d).trans ?_)
      rw [q0, q1, q2]

theorem flushes : ∀ t : Fin cfg0.N, (cfg0.win 3).flush t = true → t.val % 4 = 3 :=
  (by decide +kernel : ∀ t : Fin grid0.N, _)

theorem final3 : (dats m 0 c).arrAt 3 cfg0.N = out3 m c := by
  refine (dats m 0 c).arrAt_eq_of_covers 3 _ (by decide +kernel) fun t hf y => ?_
  have h1 : t.val % 4 = 3 := flushes t hf
  have ht : t.val < 32 := lt_of_lt_of_eq t.isLt N_0
  blk_simp
  rw [after0_3]
  obtain ⟨r, d, rfl⟩ : ∃ (r : Fin 1024) (d : Fin 1024), y = ix2 r d := ⟨y 0, y 1, by funext a; fin_cases a <;> rfl⟩
  have e0 : (((win0_3.blk t).view.emb (ix2 r d)) 0).val = 1024 * (t.val / 8) + r := by blk_simp [idx_val t]; try omega
  have e1 : (((win0_3.blk t).view.emb (ix2 r d)) 1).val = 1024 * (t.val / 4 % 2) + d := by blk_simp [idx_val t]; try omega
  refine (after_at m c t.val t.isLt r d).trans ?_
  show _ = resAt m c _ _
  rw [e0, e1, h1, resAt, upTo, Finset.sum_range]

end Cert.DownProjIdeal.Prod

end
-- ==== Proof.Prod.DownProjRef.lean ====
/-
  What the reference for the down projection computes, entry by entry.
-/
import proofs.«01_k».proof.Proof.Gen.DownProjRefIdeal
import proofs.«01_k».proof.Proof.Gen.DownProjRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.DownProjRefIdeal.Prod

open Cert.DownProjRefIdeal Cert.DownProjRefIdeal.Gen Cert.Mix Cert.Prod

/-- The reference's result, over its arguments. -/
def result (X : FVec Ideal S4096x8192 .bf16) (Y : FVec Ideal S8192x2048 .bf16) (R : FVec Ideal S4096x2048 .f32) : FVec Ideal S4096x2048 .f32 :=
  shapeCast _ (addf (broadcastInDim S1x4096x2048 ![1, 2] bcast_S4096x2048_S1x4096x2048_1_2 R) (Host.dotGeneral dot_S1x4096x8192_S8192x2048_S1x4096x2048_2_0_01_1_n_n none (broadcastInDim S1x4096x8192 ![1, 2] bcast_S4096x8192_S1x4096x8192_1_2 (extf .f32 X bitsLt_bf16_f32)) (extf .f32 Y bitsLt_bf16_f32))) shapeCasts_S1x4096x2048_S4096x2048

theorem result_at (X : FVec Ideal S4096x8192 .bf16) (Y : FVec Ideal S8192x2048 .bf16) (R : FVec Ideal S4096x2048 .f32) (t : Fin 4096) (d : Fin 2048) :
    (result X Y R (ix2 t d) : EReal) = (R (ix2 t d) : EReal) + ∑ k : Fin 8192, (X (ix2 t k) : EReal) * (Y (ix2 k d) : EReal) := by
  unfold result
  pointwise []

end Cert.DownProjRefIdeal.Prod

end
-- ==== Proof.Prod.OutProj.lean ====
/-
  What the call for the output projection leaves: the residual stream increased by the product of the mixed values with
  the output projection.
-/
import proofs.«01_k».proof.Proof.Gen.OutProjIdeal
import proofs.«01_k».proof.Proof.Gen.OutProjIdeal.Skeleton
import proofs.«01_k».proof.Proof.Gen.OutProjIdeal.Launch
import proofs.«01_k».proof.Proof.Gen.OutProjIdeal.Points
import proofs.«01_k».proof.Proof.Gen.OutProjIdeal.Frame
import proofs.«01_k».proof.Proof.Gen.OutProjIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Bands

set_option maxRecDepth 16384

noncomputable section

open Idealize.ShloMosaic Idealize.ShloMosaic.TcCoe Idealize.SL.Sem
open Idealize.ShloMosaic.Pipeline (Dat)
open scoped BigOperators

namespace Cert.OutProjIdeal.Prod

open Cert.OutProjIdeal Cert.OutProjIdeal.Gen

variable (m : (ℓ : Loc nD τ sig) → Buf (Elt Ideal) ℓ)

open Cert.Mix Cert.Prod Cert.Prod.Bands

/-- Which blocks the windows hold at a grid point. -/
theorem idx_val : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

variable (c : Dev nD)

theorem pay1_at (A : FVec Ideal S512x1024 .f32) (X : FVec Ideal S512x2048 .bf16) (Y : FVec Ideal S2048x1024 .bf16) (r : Fin 512) (d : Fin 1024) :
    (k0_pay1 (F := Ideal) A X Y (ix2 r d) : EReal) = A (ix2 r d) + ∑ k : Fin 2048, (X (ix2 r k) : EReal) * (Y (ix2 k d) : EReal) := by
  pointwise [k0_pay1]

theorem pay2_at (A : FVec Ideal S512x1024 .f32) (X : FVec Ideal S512x2048 .bf16) (Y : FVec Ideal S2048x1024 .bf16) (r : Fin 512) (d : Fin 1024) :
    (k0_pay2 (F := Ideal) A X Y (ix2 r d) : EReal) = A (ix2 r d) + ∑ k : Fin 2048, (X (ix2 r k) : EReal) * (Y (ix2 k d) : EReal) := by
  pointwise [k0_pay2]

section Cases

variable (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x2048 .bf16) (x1 : Vec Ideal S2048x1024 .bf16) (x2 : Vec Ideal S1024x1024 .f32)

/-- The first part: the block filled with the residual stream, then increased band by band. -/
theorem first_eq (hc0 : cond0_0 i) :
    out0_A_3 (F := Ideal) c i arg3 harg3 arg4 harg4 arg5 harg5 arg6 harg6 hc0 x0 x1 x2 = increased x2 x0 x1 := by
  frame_out
  exact canon_of_upto (upto_cons _ _
    (upto_cons _ _ upto_none
      (band _ _ _ (read_rest _ _ (rest_fill (G := x2) _ _ fun _ => rfl)) (pay1_at _ _ _)))
    (band _ _ _ (read_rest _ _ (rest_cons _ _ (rest_fill (G := x2) _ _ fun _ => rfl))) (pay2_at _ _ _)))

end Cases

/-- The arguments as functions of row and column. -/
def Xf : ℕ → ℕ → EReal := at2 (a := 4096) (b := 2048) (m ((c : Thread nD τ).loc main_arg0))
def Yf : ℕ → ℕ → EReal := at2 (a := 2048) (b := 2048) (m ((c : Thread nD τ).loc main_arg1))
def Rf : ℕ → ℕ → EReal := at2 (a := 4096) (b := 2048) (m ((c : Thread nD τ).loc main_arg2))

section Reads

variable (t : Fin cfg0.N)

theorem read0 (r : Fin 1024) (k : Fin 2048) :
    (iblk m c 0 t : Vec Ideal S1024x2048 .bf16) (ix2 r k) = Xf m c (1024 * (t.val / 2) + r) (2048 * (0) + k) := by
  have ht : t.val < 8 := lt_of_lt_of_eq t.isLt N_0
  rw [Xf, at2_of _ (by omega) (by omega)]
  blk_point [iblk, V, idx_val t]

theorem read1 (k : Fin 2048) (d : Fin 1024) :
    (iblk m c 1 t : Vec Ideal S2048x1024 .bf16) (ix2 k d) = Yf m c (2048 * (0) + k) (1024 * (t.val % 2) + d) := by
  have ht : t.val < 8 := lt_of_lt_of_eq t.isLt N_0
  rw [Yf, at2_of _ (by omega) (by omega)]
  blk_point [iblk, V, idx_val t]

theorem read2 (r : Fin 1024) (d : Fin 1024) :
    (iblk m c 2 t : Vec Ideal S1024x1024 .f32) (ix2 r d) = Rf m c (1024 * (t.val / 2) + r) (1024 * (t.val % 2) + d) := by
  have ht : t.val < 8 := lt_of_lt_of_eq t.isLt N_0
  rw [Rf, at2_of _ (by omega) (by omega)]
  blk_point [iblk, V, idx_val t]

theorem dot_at (G : Blk.Idx → EReal) (r d : Fin 1024) :
    increased G (iblk m c 0 t) (iblk m c 1 t) (ix2 r d)
      = G (ix2 r d) + ∑ k : Fin 2048, Xf m c (1024 * (t.val / 2) + r) (2048 * (0) + k) * Yf m c (2048 * (0) + k) (1024 * (t.val % 2) + d) :=
  congrArg (G _ + ·) (Finset.sum_congr rfl fun k _ => congrArg₂ (fun a b : EReal => a * b) (read0 m c t r k) (read1 m c t k d))

end Reads

/-- The result at a row and a column. -/
def resAt (t d : ℕ) : EReal := Rf m c t d + ∑ k : Fin 2048, Xf m c t k * Yf m c k d

/-- The result. -/
def out3 : FVec Ideal S4096x2048 .f32 := fun j => resAt m c (j 0).val (j 1).val

theorem final3 : (dats m 0 c).arrAt 3 cfg0.N = out3 m c := by
  refine (dats m 0 c).arrAt_eq_of_covers 3 _ (by decide +kernel) fun t hf y => ?_
  have ht : t.val < 8 := lt_of_lt_of_eq t.isLt N_0
  blk_simp
  rw [after0_3]
  obtain ⟨r, d, rfl⟩ : ∃ (r : Fin 1024) (d : Fin 1024), y = ix2 r d := ⟨y 0, y 1, by funext a; fin_cases a <;> rfl⟩
  have e0 : (((win0_3.blk t).view.emb (ix2 r d)) 0).val = 1024 * (t.val / 2) + r := by blk_simp [idx_val t]; try omega
  have e1 : (((win0_3.blk t).view.emb (ix2 r d)) 1).val = 1024 * (t.val % 2) + d := by blk_simp [idx_val t]; try omega
  unfold outsAt0
  rw [first_eq]
  show _ = resAt m c _ _
  rw [e0, e1, resAt]
  refine (dot_at m c t _ r d).trans ?_
  refine congrArg₂ (· + ·) (read2 m c t r d) ?_
  simp only [Nat.mul_zero, Nat.zero_add]

end Cert.OutProjIdeal.Prod

end
-- ==== Proof.Prod.OutProjRef.lean ====
/-
  What the reference for the output projection computes, entry by entry.
-/
import proofs.«01_k».proof.Proof.Gen.OutProjRefIdeal
import proofs.«01_k».proof.Proof.Gen.OutProjRefIdeal.Run
import Idealize.ShloMosaic.Lib.Pointwise
import Idealize.ShloMosaic.Lib.ValueIdx
import proofs.«01_k».proof.Proof.Prod.Common
import proofs.«01_k».proof.Proof.Mix.Spec

set_option maxRecDepth 16384

noncomputable section

open Idealize.ShloMosaic Idealize.ShloMosaic.TcCoe Idealize.SL.Sem
open scoped BigOperators

namespace Cert.OutProjRefIdeal.Prod

open Cert.OutProjRefIdeal Cert.OutProjRefIdeal.Gen Cert.Mix Cert.Prod

/-- The reference's result, over its arguments. -/
def result (X : FVec Ideal S4096x2048 .bf16) (Y : FVec Ideal S2048x2048 .bf16) (R : FVec Ideal S4096x2048 .f32) : FVec Ideal S4096x2048 .f32 :=
  shapeCast _ (addf (broadcastInDim S1x4096x2048 ![1, 2] bcast_S4096x2048_S1x4096x2048_1_2 R) (Host.dotGeneral dot_S1x4096x2048_S2048x2048_S1x4096x2048_2_0_01_1_n_n none (broadcastInDim S1x4096x2048 ![1, 2] bcast_S4096x2048_S1x4096x2048_1_2 (extf .f32 X bitsLt_bf16_f32)) (extf .f32 Y bitsLt_bf16_f32))) shapeCasts_S1x4096x2048_S4096x2048

theorem result_at (X : FVec Ideal S4096x2048 .bf16) (Y : FVec Ideal S2048x2048 .bf16) (R : FVec Ideal S4096x2048 .f32) (t : Fin 4096) (d : Fin 2048) :
    (result X Y R (ix2 t d) : EReal) = (R (ix2 t d) : EReal) + ∑ k : Fin 2048, (X (ix2 t k) : EReal) * (Y (ix2 k d) : EReal) := by
  unfold result
  pointwise []

end Cert.OutProjRefIdeal.Prod

end
-- ==== Proof.Prod.Root.lean ====
/-
  The root mean square norm of one row, entry by entry.
-/
import Idealize.ShloMosaic.Lib.Pointwise
import Idealize.ShloMosaic.Lib.ValueIdx

noncomputable section

open Idealize.ShloMosaic
open scoped BigOperators

namespace Cert.Prod

/-- One over the root of a row's mean square, the mean raised by the small constant. -/
def root (row : Fin 2048 → EReal) : EReal :=
  Ideal.rsqrt (Ideal.div (∑ k, row k * row k) (Ideal.ofBits .f32 0x45000000#32) + Ideal.ofBits .f32 0x358637BD#32)

/-- An entry of the normed row: the entry `x` of the row over the root, times the gain `g`. -/
def normed (row : Fin 2048 → EReal) (x g : EReal) : EReal := x * root row * g

end Cert.Prod

end
-- ==== Proof.Prod.Norm.lean ====
/-
  What the call for a norm leaves: each row divided by the root of its mean square, times the gain.
-/
import proofs.«01_k».proof.Proof.Gen.NormIdeal
import proofs.«01_k».proof.Proof.Gen.NormIdeal.Skeleton
import proofs.«01_k».proof.Proof.Gen.NormIdeal.Launch
import proofs.«01_k».proof.Proof.Gen.NormIdeal.Points
import proofs.«01_k».proof.Proof.Gen.NormIdeal.Frame
import proofs.«01_k».proof.Proof.Gen.NormIdeal.Value
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run
import proofs.«01_k».proof.Proof.Mix.Spec
import proofs.«01_k».proof.Proof.Prod.Common
import proofs.«01_k».proof.Proof.Prod.Root

set_option maxRecDepth 16384

noncomputable section

open Idealize.ShloMosaic Idealize.ShloMosaic.TcCoe Idealize.SL.Sem
open Idealize.ShloMosaic.Pipeline (Dat)
open scoped BigOperators

namespace Cert.NormIdeal.Prod

open Cert.NormIdeal Cert.NormIdeal.Gen

variable (m : (ℓ : Loc nD τ sig) → Buf (Elt Ideal) ℓ)

open Cert.Mix Cert.Prod

theorem pay_at (A : FVec Ideal S512x2048 .f32) (G : FVec Ideal S1x2048 .f32) (r : Fin 512) (d : Fin 2048) :
    (k0_pay1 (F := Ideal) A G (ix2 r d) : EReal) = normed (fun k => A (ix2 r k)) (A (ix2 r d)) (G (ix2 (0 : Fin 1) d)) := by
  pointwise [k0_pay1]
  rfl

/-- Which blocks the windows hold at a grid point. -/
theorem idx_val : ∀ t : Fin cfg0.N, win0_0.index t = ![t.val, 0] ∧ win0_1.index t = ![0, 0] ∧ win0_2.index t = ![t.val, 0] :=
  (by decide +kernel : ∀ t : Fin grid0.N, _)

variable (c : Dev nD)

/-- The arguments as functions of row and column. -/
def Xf : ℕ → ℕ → EReal := at2 (a := 4096) (b := 2048) (m ((c : Thread nD τ).loc main_arg0))
def Gf : FVec Ideal S2048 .f32 := m ((c : Thread nD τ).loc main_arg1)

/-- The gain as the region finds it. -/
theorem entry1 : V m c main_v0 = (shapeCast S1x2048 (m ((c : Thread nD τ).loc main_arg1) : FVec Ideal S2048 .f32) shapeCasts_S2048_S1x2048 : FVec Ideal S1x2048 .f32) := by
  unfold V
  simp only [hostOps0, StableHlo.TRef.binary, StableHlo.TRef.nullary, StableHlo.TRef.unary, StableHlo.TRef.toBuf, StableHlo.TRef.ofBuf, cast_eq]
  after_results
  rfl

section Reads

variable (t : Fin cfg0.N)

theorem read0 (r : Fin 512) (d : Fin 2048) :
    (iblk m c 0 t : Vec Ideal S512x2048 .f32) (ix2 r d) = Xf m c (512 * t.val + r) d := by
  have ht : t.val < 8 := lt_of_lt_of_eq t.isLt N_0
  rw [Xf, at2_of _ (by omega) (by omega)]
  blk_point [iblk, V, idx_val t]

theorem read1 (d : Fin 2048) :
    (iblk m c 1 t : Vec Ideal S1x2048 .f32) (ix2 (0 : Fin 1) d) = Gf m c (ix1 d) := by
  blk_simp [iblk, idx_val t]
  have e : ((win0_1.blk t).view.emb (ix2 (0 : Fin 1) d)) = (ix2 (0 : Fin 1) d) := by
    blk_ext [idx_val t]
  refine (congrArg (V m c main_v0) e).trans ?_
  refine (congrFun (entry1 m c) _).trans ?_
  pointwise []
  rfl

end Reads

/-- The result at a row and a column. -/
def normAt (t : ℕ) (d : Fin 2048) : EReal := normed (fun k => Xf m c t k) (Xf m c t d) (Gf m c (ix1 d))

/-- The result. -/
def out2 : FVec Ideal S4096x2048 .bf16 := fun j => normAt m c (j 0).val (j 1)

theorem final2 : (dats m 0 c).arrAt 2 cfg0.N = out2 m c := by
  refine (dats m 0 c).arrAt_eq_of_covers 2 _ (by decide +kernel) fun t hf y => ?_
  blk_simp
  rw [after0_2]
  obtain ⟨r, d, rfl⟩ : ∃ (r : Fin 512) (d : Fin 2048), y = ix2 r d := ⟨y 0, y 1, by funext a; fin_cases a <;> rfl⟩
  have e0 : (((win0_2.blk t).view.emb (ix2 r d)) 0).val = 512 * t.val + r := by blk_simp [idx_val t]; try omega
  have e1 : (((win0_2.blk t).view.emb (ix2 r d)) 1) = d := Fin.ext (by blk_simp [idx_val t]; try omega)
  unfold out0_2
  frame_out
  refine (pay_at _ _ r d).trans ?_
  show _ = normAt m c _ _
  rw [e0, e1, normAt]
  exact congr (congrArg₂ normed (funext fun k => read0 m c t r k) (read0 m c t r d)) (read1 m c t d)

end Cert.NormIdeal.Prod

end
-- ==== Proof.Prod.NormRef.lean ====
/-
  What the reference for the norm computes, entry by entry.
-/
import proofs.«01_k».proof.Proof.Gen.NormRefIdeal
import proofs.«01_k».proof.Proof.Gen.NormRefIdeal.Run
import Idealize.ShloMosaic.Lib.Pointwise
import Idealize.ShloMosaic.Lib.ValueIdx
import proofs.«01_k».proof.Proof.Prod.Common
import proofs.«01_k».proof.Proof.Mix.Spec
import proofs.«01_k».proof.Proof.Prod.Root

set_option maxRecDepth 16384

noncomputable section

open Idealize.ShloMosaic Idealize.ShloMosaic.TcCoe Idealize.SL.Sem
open scoped BigOperators

namespace Cert.NormRefIdeal.Prod

open Cert.NormRefIdeal Cert.NormRefIdeal.Gen Cert.Mix Cert.Prod

/-- The reference's result, over its arguments. -/
def result (X : FVec Ideal S4096x2048 .f32) (G : FVec Ideal S2048 .f32) : FVec Ideal S4096x2048 .bf16 :=
  truncf .bf16 (shapeCast _ (mulf (mulf (broadcastInDim S1x4096x2048 ![1, 2] bcast_S4096x2048_S1x4096x2048_1_2 X) (broadcastInDim S1x4096x2048 ![0, 1, 2] bcast_S1x4096x1_S1x4096x2048_0_1_2 (Host.rsqrt (addf (Host.divf (broadcastInDim S1x4096x1 ![0, 1] bcast_S1x4096_S1x4096x1_0_1 (Host.reduceAdd (mulf (broadcastInDim S1x4096x2048 ![1, 2] bcast_S4096x2048_S1x4096x2048_1_2 X) (broadcastInDim S1x4096x2048 ![1, 2] bcast_S4096x2048_S1x4096x2048_1_2 X)) (constant S_ .f32 0x00000000#32) reducesTo_S1x4096x2048_S1x4096_d2 h_S_)) (broadcastInDim S1x4096x1 ![] bcast_S_S1x4096x1 (constant S_ .f32 0x45000000#32))) (broadcastInDim S1x4096x1 ![] bcast_S_S1x4096x1 (constant S_ .f32 0x358637BD#32)))))) (broadcastInDim S1x4096x2048 ![0, 1, 2] bcast_S1x1x2048_S1x4096x2048_0_1_2 (broadcastInDim S1x1x2048 ![2] bcast_S2048_S1x1x2048_2 G))) shapeCasts_S1x4096x2048_S4096x2048) bitsLt_bf16_f32

theorem result_at (X : FVec Ideal S4096x2048 .f32) (G : FVec Ideal S2048 .f32) (t : Fin 4096) (d : Fin 2048) :
    (result X G (ix2 t d) : EReal) = normed (fun k => X (ix2 t k)) (X (ix2 t d)) (G (ix1 d)) := by
  unfold result
  pointwise []
  rfl

end Cert.NormRefIdeal.Prod

end
-- ==== Proof.Prod.Forward.lean ====
/-
  Each reference's result is its kernel's: the calls of the forward pass.
-/
import proofs.«01_k».proof.Proof.Prod.UpProj
import proofs.«01_k».proof.Proof.Prod.UpProjRef
import proofs.«01_k».proof.Proof.Prod.InProj
import proofs.«01_k».proof.Proof.Prod.InProjRef
import proofs.«01_k».proof.Proof.Prod.DownProj
import proofs.«01_k».proof.Proof.Prod.DownProjRef
import proofs.«01_k».proof.Proof.Prod.OutProj
import proofs.«01_k».proof.Proof.Prod.OutProjRef
import proofs.«01_k».proof.Proof.Prod.Norm
import proofs.«01_k».proof.Proof.Prod.NormRef

noncomputable section

open Idealize.ShloMosaic Idealize.ShloMosaic.TcCoe Idealize.SL.Sem
open scoped BigOperators

namespace Cert.Prod

open Cert.Mix

section UpProj

open Cert.UpProjIdeal Cert.UpProjIdeal.Prod Cert.UpProjRefIdeal.Prod

theorem upProj_sum (m : (ℓ : Loc nD τ sig) → Buf (Elt Ideal) ℓ) (c : Dev nD) (H : FVec Ideal S4096x2048 .bf16) (W : FVec Ideal S4x2048x2048 .bf16) (hH : H = m ((c.tc : Thread nD τ).loc main_arg0)) (hW : W = m ((c.tc : Thread nD τ).loc main_arg1)) (t : Fin 4096) (f : Fin 8192) :
    (∑ k : Fin 2048, (H (ix2 t k) : EReal) * (W (ix3 (⟨f.val / 2048, by omega⟩ : Fin 4) k (⟨f.val % 2048, by omega⟩ : Fin 2048)) : EReal)) = colAt m c t f := by
  subst hH hW
  unfold colAt
  refine Finset.sum_congr rfl fun k _ => congrArg₂ (fun a b : EReal => a * b) ?_ ?_
  · exact (at2_of _ t.isLt k.isLt).symm
  · exact (slabs_of _ k.isLt _ _).symm

theorem upProj_agree1 (m : (ℓ : Loc nD τ sig) → Buf (Elt Ideal) ℓ) (c : Dev nD) {X0 X1} (h0 : X0 = m ((c.tc : Thread nD τ).loc main_arg0)) (h1 : X1 = m ((c.tc : Thread nD τ).loc main_arg1)) :
    rectified X0 X1 = out2 m c := by
  subst h0 h1
  funext j
  obtain ⟨t, f, rfl⟩ : ∃ (t : Fin 4096) (f : Fin 8192), j = ix2 t f := ⟨j 0, j 1, by funext a; fin_cases a <;> rfl⟩
  refine (rectified_at _ _ t f).trans ?_
  exact congrArg (fun a : EReal => max a 0) (upProj_sum m c _ _ rfl rfl t f)

theorem upProj_agree2 (m : (ℓ : Loc nD τ sig) → Buf (Elt Ideal) ℓ) (c : Dev nD) {X0 X1} (h0 : X0 = m ((c.tc : Thread nD τ).loc main_arg0)) (h1 : X1 = m ((c.tc : Thread nD τ).loc main_arg1)) :
    squared X0 X1 = out3 m c := by
  subst h0 h1
  funext j
  obtain ⟨t, f, rfl⟩ : ∃ (t : Fin 4096) (f : Fin 8192), j = ix2 t f := ⟨j 0, j 1, by funext a; fin_cases a <;> rfl⟩
  refine (squared_at _ _ t f).trans ?_
  exact congrArg (fun a : EReal => max a 0 * max a 0) (upProj_sum m c _ _ rfl rfl t f)

end UpProj

section InProj

open Cert.InProjIdeal Cert.InProjIdeal.Prod Cert.InProjRefIdeal.Prod

theorem inProj_sum (m : (ℓ : Loc nD τ sig) → Buf (Elt Ideal) ℓ) (c : Dev nD) (H : FVec Ideal S4096x2048 .bf16) (W : FVec Ideal S4x2048x1024 .bf16) (hH : H = m ((c.tc : Thread nD τ).loc main_arg0)) (hW : W = m ((c.tc : Thread nD τ).loc main_arg1)) (t : Fin 4096) (f : Fin 4096) :
    (∑ k : Fin 2048, (H (ix2 t k) : EReal) * (W (ix3 (⟨f.val / 1024, by omega⟩ : Fin 4) k (⟨f.val % 1024, by omega⟩ : Fin 1024)) : EReal)) = colAt m c t f := by
  subst hH hW
  unfold colAt
  refine Finset.sum_congr rfl fun k _ => congrArg₂ (fun a b : EReal => a * b) ?_ ?_
  · exact (at2_of _ t.isLt k.isLt).symm
  · exact (slabs_of _ k.isLt _ _).symm

theorem inProj_agree (m : (ℓ : Loc nD τ sig) → Buf (Elt Ideal) ℓ) (c : Dev nD) {X0 X1} (h0 : X0 = m ((c.tc : Thread nD τ).loc main_arg0)) (h1 : X1 = m ((c.tc : Thread nD τ).loc main_arg1)) :
    result X0 X1 = out2 m c := by
  subst h0 h1
  funext j
  obtain ⟨t, f, rfl⟩ : ∃ (t : Fin 4096) (f : Fin 4096), j = ix2 t f := ⟨j 0, j 1, by funext a; fin_cases a <;> rfl⟩
  refine (result_at _ _ t f).trans ?_
  exact inProj_sum m c _ _ rfl rfl t f

end InProj

section DownProj

open Cert.DownProjIdeal Cert.DownProjIdeal.Prod Cert.DownProjRefIdeal.Prod

theorem downProj_agree (m : (ℓ : Loc nD τ sig) → Buf (Elt Ideal) ℓ) (c : Dev nD) {X0 X1 X2} (h0 : X0 = m ((c.tc : Thread nD τ).loc main_arg0)) (h1 : X1 = m ((c.tc : Thread nD τ).loc main_arg1)) (h2 : X2 = m ((c.tc : Thread nD τ).loc main_arg2)) :
    result X0 X1 X2 = out3 m c := by
  subst h0 h1 h2
  funext j
  obtain ⟨t, d, rfl⟩ : ∃ (t : Fin 4096) (d : Fin 2048), j = ix2 t d := ⟨j 0, j 1, by funext a; fin_cases a <;> rfl⟩
  refine (result_at _ _ _ t d).trans ?_
  show _ = resAt m c t d
  simp only [resAt, Xf, Yf, Rf, at2_of, Fin.is_lt, Fin.eta]

end DownProj

section OutProj

open Cert.OutProjIdeal Cert.OutProjIdeal.Prod Cert.OutProjRefIdeal.Prod

theorem outProj_agree (m : (ℓ : Loc nD τ sig) → Buf (Elt Ideal) ℓ) (c : Dev nD) {X0 X1 X2} (h0 : X0 = m ((c.tc : Thread nD τ).loc main_arg0)) (h1 : X1 = m ((c.tc : Thread nD τ).loc main_arg1)) (h2 : X2 = m ((c.tc : Thread nD τ).loc main_arg2)) :
    result X0 X1 X2 = out3 m c := by
  subst h0 h1 h2
  funext j
  obtain ⟨t, d, rfl⟩ : ∃ (t : Fin 4096) (d : Fin 2048), j = ix2 t d := ⟨j 0, j 1, by funext a; fin_cases a <;> rfl⟩
  refine (result_at _ _ _ t d).trans ?_
  show _ = resAt m c t d
  simp only [resAt, Xf, Yf, Rf, at2_of, Fin.is_lt, Fin.eta]

end OutProj

section Norm

open Cert.NormIdeal Cert.NormIdeal.Prod Cert.NormRefIdeal.Prod

theorem norm_agree (m : (ℓ : Loc nD τ sig) → Buf (Elt Ideal) ℓ) (c : Dev nD) {X0 X1} (h0 : X0 = m ((c.tc : Thread nD τ).loc main_arg0)) (h1 : X1 = m ((c.tc : Thread nD τ).loc main_arg1)) :
    result X0 X1 = out2 m c := by
  subst h0 h1
  funext j
  obtain ⟨t, d, rfl⟩ : ∃ (t : Fin 4096) (d : Fin 2048), j = ix2 t d := ⟨j 0, j 1, by funext a; fin_cases a <;> rfl⟩
  refine (result_at _ _ t d).trans ?_
  show _ = normAt m c t d
  simp only [normAt, Xf, Gf, at2_of, Fin.is_lt, Fin.eta]

end Norm

end Cert.Prod

end
-- ==== Proof.NormGrad.Lane.lean ====
/-
  A row block of an array brought into a buffer by `n` copies of `p` rows each, all counted on one cell: the state of such
  a lane after `k` copies have been issued, how it is opened from the block and the buffer at rest, how the next copy's
  two ends come off it, and what the drained lane leaves: the buffer holding the block, the array whole again.
-/
import Idealize.ShloMosaic.Lib.Batch
import Idealize.ShloMosaic.Lib.Ring
import Idealize.ShloMosaic.Lib.Tactic
import Idealize.ShloMosaic.Lib.Pipeline.FrameBody
import Idealize.ShloMosaic.Lib.Pipeline.Routed

noncomputable section

namespace Cert.NormGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev SA : Shape := ⟨2, ![4096, 2048]⟩
abbrev SB : Shape := ⟨2, ![1024, 2048]⟩
abbrev SP (p : ℕ) : Shape := ⟨2, ![p, 2048]⟩

variable {F : FTy → Type} [FloatOps F] {nD : ℕ} {τ : Topo} {sig : RefSig}

/-- The assertions of the launch whose buffers are routed through the region. -/
abbrev 𝕄 (F : FTy → Type) (nD : ℕ) (τ : Topo) (sig : RefSig) : Type := MT nD τ sig Unit (Elt F) ℕ (Pipeline.UC sig nD τ) ℕ

section Pieces

variable {p n : ℕ} (hpn : p * n = 1024)

include hpn in
theorem le_of_piece (k : Fin n) : p * k.val + p ≤ 1024 := by
  have h : p * (k.val + 1) ≤ p * n := Nat.mul_le_mul_left _ k.isLt
  rw [hpn] at h
  exact h

include hpn in
theorem buf_inb (k : Fin n) : ∀ a, (![p * k.val, 0] : Fin 2 → ℕ) a + (SP p).size a ≤ SB.size a := by
  have := le_of_piece hpn k
  intro a
  fin_cases a
  · exact this
  · exact le_rfl

include hpn in
theorem src_inb (a : Fin 4) (k : Fin n) : ∀ x, (![1024 * a.val + p * k.val, 0] : Fin 2 → ℕ) x + (SP p).size x ≤ SA.size x := by
  have := le_of_piece hpn k
  have := a.isLt
  intro x
  fin_cases x
  · show 1024 * a.val + p * k.val + p ≤ 4096
    omega
  · exact le_rfl

theorem blk_inb (a : Fin 4) : ∀ x, (![1024 * a.val, 0] : Fin 2 → ℕ) x + SB.size x ≤ SA.size x := by
  have := a.isLt
  intro x
  fin_cases x
  · show 1024 * a.val + 1024 ≤ 4096
    omega
  · exact le_rfl

/-- Rows `p * k` on of the buffer. -/
def bufP (B : Memref sig .tc .vmem SB .f32) (k : Fin n) : Memref sig .tc .vmem (SP p) .f32 :=
  B.slice (Rect.unit (s := SB) ![p * k.val, 0] (SP p).size (buf_inb hpn k)) (fun _ => rfl)
/-- Rows `1024 * a + p * k` on of the array. -/
def srcP (S : Memref sig .tc .hbm SA .f32) (a : Fin 4) (k : Fin n) : Memref sig .tc .hbm (SP p) .f32 :=
  S.slice (Rect.unit (s := SA) ![1024 * a.val + p * k.val, 0] (SP p).size (src_inb hpn a k)) (fun _ => rfl)
/-- Rows `1024 * a` on of an array. -/
def arrB {e : EltTy} (S : Memref sig .tc .hbm SA e) (a : Fin 4) : Memref sig .tc .hbm SB e :=
  S.slice (Rect.unit (s := SA) ![1024 * a.val, 0] SB.size (blk_inb a)) (fun _ => rfl)

/-- Row block `a` of contents. -/
def blkOf {α : Type} (f : SA.Idx → α) (a : Fin 4) : SB.Idx → α := fun y =>
  f ((Rect.unit (s := SA) ![1024 * a.val, 0] SB.size (blk_inb a)).emb y)

end Pieces

section Lane

variable {p n : ℕ} (hpn : p * n = 1024) (c : Dev nD) (S : Memref sig .tc .hbm SA .f32) (hS : S.IsWhole)
  (B : Memref sig .tc .vmem SB .f32) (hB : B.IsWhole) (d : DmaSem sig) (N : ℕ)

/-- The buffer's and the array's contents, as a piece's. -/
def bufF (k : Fin n) (fd : Buf (Elt F) (B.view.loc (c : Thread nD τ))) : Buf (Elt F) ((bufP hpn B k).view.loc (c : Thread nD τ)) := fd
def srcF (a : Fin 4) (k : Fin n) (fs : Buf (Elt F) (S.view.loc (c : Thread nD τ))) : Buf (Elt F) ((srcP hpn S a k).view.loc (c : Thread nD τ)) := fs
def arrF {e : EltTy} (S : Memref sig .tc .hbm SA e) (a : Fin 4) (fs : Buf (Elt F) (S.view.loc (c : Thread nD τ))) : Buf (Elt F) ((arrB S a).view.loc (c : Thread nD τ)) := fs

/-- What copy `k` of block `a` delivers: the buffer's rows written with the array's, and the array's back. -/
abbrev deliv (a : Fin 4) (fs : Buf (Elt F) (S.view.loc (c : Thread nD τ))) (fd : Buf (Elt F) (B.view.loc (c : Thread nD τ))) (k : Fin n) :
    sProp (𝕄 F nD τ sig) :=
  iprop(((bufP hpn B k).view.loc (c : Thread nD τ) ↦[(bufP hpn B k).view.set]{fullShare}
      View.writes (bufP hpn B k).view (Elt F) (bufF hpn c B k fd) [⟨Rect.whole (SP p), ReadAs.same.apply ((srcP hpn S a k).view.read (Elt F) (srcF hpn c S a k fs))⟩])
    ∗ ((srcP hpn S a k).view.loc (c : Thread nD τ) ↦[(srcP hpn S a k).view.set]{fullShare} srcF hpn c S a k fs))

theorem mem_rows {N0 lo h : ℕ} (inb) (y : (⟨2, ![N0, 2048]⟩ : Shape).Idx) :
    y ∈ (Rect.unit (s := ⟨2, ![N0, 2048]⟩) ![lo, 0] ![h, 2048] inb).set ↔ lo ≤ (y 0).val ∧ (y 0).val < lo + h := by
  rw [Rect.mem_set_unit]
  have h1 : (y 1).val < 2048 := (y 1).isLt
  constructor
  · intro H
    exact H 0
  · intro H a
    fin_cases a
    · exact H
    · exact ⟨Nat.zero_le _, by show (y 1).val < 0 + 2048; omega⟩

/-- The elements of the pieces, and of a row block, in the buffer's and the array's own terms. -/
def bufI (B : Memref sig .tc .vmem SB .f32) (k : Fin n) : Finset B.view.ty.Idx :=
  (Rect.unit (s := SB) ![p * k.val, 0] (SP p).size (buf_inb hpn k)).set.map B.view.emb
def srcI (S : Memref sig .tc .hbm SA .f32) (a : Fin 4) (k : Fin n) : Finset S.view.ty.Idx :=
  (Rect.unit (s := SA) ![1024 * a.val + p * k.val, 0] (SP p).size (src_inb hpn a k)).set.map S.view.emb
def arrI {e : EltTy} (S : Memref sig .tc .hbm SA e) (a : Fin 4) : Finset S.view.ty.Idx :=
  (Rect.unit (s := SA) ![1024 * a.val, 0] SB.size (blk_inb a)).set.map S.view.emb

/-- The lane with `k` copies issued. -/
def lane (a : Fin 4) (fs : Buf (Elt F) (S.view.loc (c : Thread nD τ))) (fd : Buf (Elt F) (B.view.loc (c : Thread nD τ))) (k : ℕ) :
    sProp (𝕄 F nD τ sig) :=
  iprop(Transfers.Batch (countersEmb (U := Pipeline.UC sig nD τ)) (c : Thread nD τ) (.dma d) () N (deliv hpn c S B a fs fd) k 0
    ∗ bigSep (Ring.rangeSet n k n) (fun j => (bufP hpn B j).view.loc (c : Thread nD τ) ↦[(bufP hpn B j).view.set]{fullShare} bufF hpn c B j fd)
    ∗ bigSep (Ring.rangeSet n k n) (fun j => (srcP hpn S a j).view.loc (c : Thread nD τ) ↦[(srcP hpn S a j).view.set]{fullShare} srcF hpn c S a j fs)
    ∗ (S.view.loc (c : Thread nD τ) ↦[S.view.set \ arrI S a]{fullShare} fs))

/-- The lane at rest. -/
def idle (fs : Buf (Elt F) (S.view.loc (c : Thread nD τ))) : sProp (𝕄 F nD τ sig) :=
  iprop(semVal ((c : Thread nD τ), SemLoc.dma d) 0
    ∗ (∃ fd, B.view.loc (c : Thread nD τ) ↦[B.view.set]{fullShare} fd)
    ∗ (S.view.loc (c : Thread nD τ) ↦[S.view.set]{fullShare} fs))

theorem bufP_set (k : Fin n) : (bufP hpn B k).view.set = bufI hpn B k := View.set_slice _ _
theorem srcP_set (a : Fin 4) (k : Fin n) : (srcP hpn S a k).view.set = srcI hpn S a k := View.set_slice _ _
theorem arrB_set {e : EltTy} (S : Memref sig .tc .hbm SA e) (a : Fin 4) : (arrB S a).view.set = arrI S a := View.set_slice _ _

include hpn in
theorem piece_unique {r : ℕ} {k k' : Fin n} {o : ℕ} (h : o + p * k.val ≤ r ∧ r < o + p * k.val + p)
    (h' : o + p * k'.val ≤ r ∧ r < o + p * k'.val + p) : k = k' := by
  rcases Nat.lt_trichotomy k.val k'.val with g | g | g
  · have := Nat.mul_le_mul_left p (Nat.succ_le_of_lt g)
    rw [Nat.mul_succ] at this
    omega
  · exact Fin.ext g
  · have := Nat.mul_le_mul_left p (Nat.succ_le_of_lt g)
    rw [Nat.mul_succ] at this
    omega

include hpn in
theorem piece_exists {r o : ℕ} (h0 : o ≤ r) (h1 : r < o + 1024) : ∃ k : Fin n, o + p * k.val ≤ r ∧ r < o + p * k.val + p := by
  have hp : 0 < p := Nat.pos_of_ne_zero fun h => by subst h; omega
  have hm := Nat.div_add_mod (r - o) p
  have hl := Nat.mod_lt (r - o) hp
  refine ⟨⟨(r - o) / p, Nat.div_lt_of_lt_mul (by omega)⟩, ?_, ?_⟩ <;> dsimp only <;> omega

theorem bufI_disjoint : ∀ k k' : Fin n, k ≠ k' → Disjoint (bufI hpn B k) (bufI hpn B k') := fun k k' hne => by
  unfold bufI
  rw [Finset.disjoint_map, Finset.disjoint_left]
  intro y hy hy'
  have h1 := (mem_rows _ y).mp hy
  have h2 := (mem_rows _ y).mp hy'
  exact hne (piece_unique hpn (o := 0) (r := (y 0).val) (by omega) (by omega))

theorem srcI_disjoint (a : Fin 4) : ∀ k k' : Fin n, k ≠ k' → Disjoint (srcI hpn S a k) (srcI hpn S a k') := fun k k' hne => by
  unfold srcI
  rw [Finset.disjoint_map, Finset.disjoint_left]
  intro y hy hy'
  have h1 := (mem_rows _ y).mp hy
  have h2 := (mem_rows _ y).mp hy'
  exact hne (piece_unique hpn (o := 1024 * a.val) (r := (y 0).val) h1 h2)

theorem bufI_cover : Finset.univ.biUnion (fun k => bufI hpn B k) = B.view.set := by
  ext i
  rw [Finset.mem_biUnion]
  constructor
  · rintro ⟨k, -, h⟩
    exact View.set_slice_subset B.view _ ((bufP_set hpn B k).symm ▸ h : i ∈ (bufP hpn B k).view.set)
  · intro h
    obtain ⟨y, -, rfl⟩ := Finset.mem_map.mp h
    obtain ⟨k, hk⟩ := piece_exists hpn (o := 0) (r := (y 0).val) (Nat.zero_le _) (by have : (y 0).val < 1024 := (y 0).isLt; omega)
    exact ⟨k, Finset.mem_univ _, (Finset.mem_map' _).mpr ((mem_rows _ y).mpr (by omega))⟩

theorem srcI_cover (a : Fin 4) : Finset.univ.biUnion (fun k => srcI hpn S a k) = arrI S a := by
  ext i
  rw [Finset.mem_biUnion]
  constructor
  · rintro ⟨k, -, h⟩
    obtain ⟨y, hy, rfl⟩ := Finset.mem_map.mp h
    have h1 := (mem_rows _ y).mp hy
    have h2 := le_of_piece hpn k
    exact (Finset.mem_map' _).mpr ((mem_rows _ y).mpr (by omega))
  · intro h
    obtain ⟨y, hy, rfl⟩ := Finset.mem_map.mp h
    have h1 := (mem_rows _ y).mp hy
    obtain ⟨k, hk⟩ := piece_exists hpn (o := 1024 * a.val) (r := (y 0).val) h1.1 h1.2
    exact ⟨k, Finset.mem_univ _, (Finset.mem_map' _).mpr ((mem_rows _ y).mpr hk)⟩

theorem arrI_subset {e : EltTy} (S : Memref sig .tc .hbm SA e) (a : Fin 4) : arrI S a ⊆ S.view.set :=
  Finset.map_subset_map.mpr (Finset.subset_univ _)

/-- A row block of an array apart from the rest. -/
theorem arr_split {e : EltTy} (S : Memref sig .tc .hbm SA e) (a : Fin 4) (fs : Buf (Elt F) (S.view.loc (c : Thread nD τ))) :
    (S.view.loc (c : Thread nD τ) ↦[S.view.set]{fullShare} fs : sProp (𝕄 F nD τ sig))
      = iprop((S.view.loc (c : Thread nD τ) ↦[arrI S a]{fullShare} fs)
        ∗ (S.view.loc (c : Thread nD τ) ↦[S.view.set \ arrI S a]{fullShare} fs)) :=
  Entails.antisymm (pointsTo_split_subset (arrI_subset S a)).1 (pointsTo_split_subset (arrI_subset S a)).2

theorem bufP_pt (k : Fin n) (fd : Buf (Elt F) (B.view.loc (c : Thread nD τ))) :
    (B.view.loc (c : Thread nD τ) ↦[bufI hpn B k]{fullShare} fd : sProp (𝕄 F nD τ sig))
      = ((bufP hpn B k).view.loc (c : Thread nD τ) ↦[(bufP hpn B k).view.set]{fullShare} bufF hpn c B k fd) :=
  congrArg (fun I : Finset B.view.ty.Idx => (B.view.loc (c : Thread nD τ) ↦[I]{fullShare} fd : sProp (𝕄 F nD τ sig))) (bufP_set hpn B k).symm

theorem srcP_pt (a : Fin 4) (k : Fin n) (fs : Buf (Elt F) (S.view.loc (c : Thread nD τ))) :
    (S.view.loc (c : Thread nD τ) ↦[srcI hpn S a k]{fullShare} fs : sProp (𝕄 F nD τ sig))
      = ((srcP hpn S a k).view.loc (c : Thread nD τ) ↦[(srcP hpn S a k).view.set]{fullShare} srcF hpn c S a k fs) :=
  congrArg (fun I : Finset S.view.ty.Idx => (S.view.loc (c : Thread nD τ) ↦[I]{fullShare} fs : sProp (𝕄 F nD τ sig))) (srcP_set hpn S a k).symm

theorem arrB_pt {e : EltTy} (S : Memref sig .tc .hbm SA e) (a : Fin 4) (fs : Buf (Elt F) (S.view.loc (c : Thread nD τ))) :
    (S.view.loc (c : Thread nD τ) ↦[arrI S a]{fullShare} fs : sProp (𝕄 F nD τ sig))
      = ((arrB S a).view.loc (c : Thread nD τ) ↦[(arrB S a).view.set]{fullShare} arrF c S a fs) :=
  congrArg (fun I : Finset S.view.ty.Idx => (S.view.loc (c : Thread nD τ) ↦[I]{fullShare} fs : sProp (𝕄 F nD τ sig))) (arrB_set S a).symm

theorem src_pieces (a : Fin 4) (fs : Buf (Elt F) (S.view.loc (c : Thread nD τ))) :
    (S.view.loc (c : Thread nD τ) ↦[arrI S a]{fullShare} fs : sProp (𝕄 F nD τ sig))
      = bigSep Finset.univ (fun j : Fin n => (srcP hpn S a j).view.loc (c : Thread nD τ) ↦[(srcP hpn S a j).view.set]{fullShare} srcF hpn c S a j fs) :=
  (Ring.pointsTo_sub_blocks (ℓ := S.view.loc (c : Thread nD τ)) (fun j : Fin n => srcI hpn S a j) (srcI_disjoint hpn S a) _ (srcI_cover hpn S a) fs).trans
    (BI.bigSep_congr fun j _ => srcP_pt hpn c S a j fs)

theorem buf_pieces (fd : Buf (Elt F) (B.view.loc (c : Thread nD τ))) :
    (B.view.loc (c : Thread nD τ) ↦[B.view.set]{fullShare} fd : sProp (𝕄 F nD τ sig))
      = bigSep Finset.univ (fun j : Fin n => (bufP hpn B j).view.loc (c : Thread nD τ) ↦[(bufP hpn B j).view.set]{fullShare} bufF hpn c B j fd) :=
  (Ring.pointsTo_sub_blocks (ℓ := B.view.loc (c : Thread nD τ)) (fun j : Fin n => bufI hpn B j) (bufI_disjoint hpn B) _ (bufI_cover hpn B) fd).trans
    (BI.bigSep_congr fun j _ => bufP_pt hpn c B j fd)

instance deliv_storable (a : Fin 4) (fs : Buf (Elt F) (S.view.loc (c : Thread nD τ))) (fd : Buf (Elt F) (B.view.loc (c : Thread nD τ))) (k : Fin n) :
    Storable (upEmb : UEmb _ (𝕄 F nD τ sig)) (deliv hpn c S B a fs fd k) := by
  unfold deliv
  infer_instance

/-- The lane opened. -/
theorem lane_open (a : Fin 4) (fs : Buf (Elt F) (S.view.loc (c : Thread nD τ))) :
    idle c S B d fs ⊢ |={Set.univ}=> (∃ fd, lane hpn c S B d N a fs fd 0 : sProp (𝕄 F nD τ sig)) := by
  unfold idle
  rw [arr_split c S a fs, src_pieces hpn c S a fs]
  iintro ⟨Hc, ⟨%fd, HB⟩, HS, HR⟩
  imod (Transfers.batch_alloc' (Lvl := ℕ) (countersEmb (U := Pipeline.UC sig nD τ)) (c : Thread nD τ) () N (deliv hpn c S B a fs fd) (sm := .dma d) (E := Set.univ)) $$ Hc with HBa
  imodintro
  iexists fd
  unfold lane
  rw [Ring.rangeSet_univ, ← buf_pieces hpn c B fd]
  isplitl [HBa]; · iexact HBa
  isplitl [HB]; · iexact HB
  isplitl [HS] <;> iassumption

/-- The lane with its next copy's two ends apart. -/
theorem lane_next (a : Fin 4) (fs : Buf (Elt F) (S.view.loc (c : Thread nD τ))) (fd : Buf (Elt F) (B.view.loc (c : Thread nD τ))) (k : Fin n) :
    (lane hpn c S B d N a fs fd k.val : sProp (𝕄 F nD τ sig))
      = iprop(Transfers.Batch (countersEmb (U := Pipeline.UC sig nD τ)) (c : Thread nD τ) (.dma d) () N (deliv hpn c S B a fs fd) k.val 0
        ∗ (((bufP hpn B k).view.loc (c : Thread nD τ) ↦[(bufP hpn B k).view.set]{fullShare} bufF hpn c B k fd)
          ∗ bigSep (Ring.rangeSet n (k.val + 1) n) (fun j => (bufP hpn B j).view.loc (c : Thread nD τ) ↦[(bufP hpn B j).view.set]{fullShare} bufF hpn c B j fd))
        ∗ (((srcP hpn S a k).view.loc (c : Thread nD τ) ↦[(srcP hpn S a k).view.set]{fullShare} srcF hpn c S a k fs)
          ∗ bigSep (Ring.rangeSet n (k.val + 1) n) (fun j => (srcP hpn S a j).view.loc (c : Thread nD τ) ↦[(srcP hpn S a j).view.set]{fullShare} srcF hpn c S a j fs))
        ∗ (S.view.loc (c : Thread nD τ) ↦[S.view.set \ arrI S a]{fullShare} fs)) := by
  unfold lane
  rw [Ring.bigSep_rangeSet_head (Φ := fun j => (bufP hpn B j).view.loc (c : Thread nD τ) ↦[(bufP hpn B j).view.set]{fullShare} bufF hpn c B j fd) k.isLt k.isLt,
    Ring.bigSep_rangeSet_head (Φ := fun j => (srcP hpn S a j).view.loc (c : Thread nD τ) ↦[(srcP hpn S a j).view.set]{fullShare} srcF hpn c S a j fs) k.isLt k.isLt]

/-- A copied piece holds the block's rows. -/
theorem piece_read (a : Fin 4) (xs : SA.Idx → Elt F .f32) (k : Fin n) :
    (bufP hpn B k).view.read (Elt F) (hB.unread (blkOf xs a)) = (srcP hpn S a k).view.read (Elt F) (hS.unread xs) := by
  funext x
  have e1 : (bufP hpn B k).view.read (Elt F) (hB.unread (blkOf xs a)) x
      = B.view.read (Elt F) (hB.unread (blkOf xs a)) ((Rect.unit (s := SB) ![p * k.val, 0] (SP p).size (buf_inb hpn k)).emb x) := rfl
  have e2 : (srcP hpn S a k).view.read (Elt F) (hS.unread xs) x
      = S.view.read (Elt F) (hS.unread xs) ((Rect.unit (s := SA) ![1024 * a.val + p * k.val, 0] (SP p).size (src_inb hpn a k)).emb x) := rfl
  rw [e1, e2, Memref.IsWhole.read_unread, Memref.IsWhole.read_unread]
  unfold blkOf
  refine congrArg xs (funext fun b => Fin.ext ?_)
  fin_cases b
  · show 1024 * a.val + 1 * (p * k.val + 1 * (x 0).val) = 1024 * a.val + p * k.val + 1 * (x 0).val
    omega
  · show 0 + 1 * (0 + 1 * (x 1).val) = 0 + 1 * (x 1).val
    omega

/-- What reads through a view as `g` does is `g` on the view's elements once written there. -/
theorem write_eq_on {sp : Space} {s : Shape} {e : EltTy} (v : View sig .tc sp s e) (f g : v.ty.Contents (Elt F)) (X : s.Idx → Elt F e)
    (h : v.read (Elt F) g = X) {i : v.ty.Idx} (hi : i ∈ v.set) : v.write (Elt F) f X Finset.univ i = g i := by
  obtain ⟨x, -, rfl⟩ := Finset.mem_map.mp hi
  rw [View.write_emb_of_mem _ _ (Finset.mem_univ _), ← h, View.read_apply, cast_cast, cast_eq]

/-- A row block written with the block of an array is the array's. -/
theorem arr_landed {e : EltTy} (S : Memref sig .tc .hbm SA e) (hS : S.IsWhole) (a : Fin 4) (f : Buf (Elt F) (S.view.loc (c : Thread nD τ)))
    (P : SB.Idx → Elt F e) (G : SA.Idx → Elt F e) (hP : P = blkOf G a) :
    ((arrB S a).view.loc (c : Thread nD τ) ↦[(arrB S a).view.set]{fullShare}
        View.writes (arrB S a).view (Elt F) (arrF c S a f) [⟨Rect.whole SB, P⟩] : sProp (𝕄 F nD τ sig))
      = ((arrB S a).view.loc (c : Thread nD τ) ↦[(arrB S a).view.set]{fullShare} arrF c S a (hS.unread G)) :=
  pointsTo_congr fun i hi => by
    have hr : (arrB S a).view.read (Elt F) (arrF (τ := τ) c S a (hS.unread G)) = P := by
      rw [hP]
      funext x
      have e1 : (arrB S a).view.read (Elt F) (arrF (τ := τ) c S a (hS.unread G)) x
          = S.view.read (Elt F) (hS.unread G) ((Rect.unit (s := SA) ![1024 * a.val, 0] SB.size (blk_inb a)).emb x) := rfl
      rw [e1, hS.read_unread]
      rfl
    rw [← View.write_univ_eq_writes_whole (arrB S a).view (arrF (τ := τ) c S a f) [] P]
    exact write_eq_on (arrB S a).view (arrF (τ := τ) c S a f) (arrF (τ := τ) c S a (hS.unread G)) P hr hi

/-- A piece of the buffer written with its rows of the array, and the array's rows back. -/
abbrev landed (a : Fin 4) (xs : SA.Idx → Elt F .f32) (k : Fin n) : sProp (𝕄 F nD τ sig) :=
  iprop(((bufP hpn B k).view.loc (c : Thread nD τ) ↦[(bufP hpn B k).view.set]{fullShare}
      View.writes (bufP hpn B k).view (Elt F) (bufP hpn B k).view.junk
        [⟨Rect.whole (SP p), ReadAs.same.apply ((srcP hpn S a k).view.read (Elt F) (srcF (τ := τ) hpn c S a k (hS.unread xs)))⟩])
    ∗ ((srcP hpn S a k).view.loc (c : Thread nD τ) ↦[(srcP hpn S a k).view.set]{fullShare} srcF (τ := τ) hpn c S a k (hS.unread xs)))

theorem lane_drained (a : Fin 4) (xs : SA.Idx → Elt F .f32) :
    iprop(bigSep Finset.univ (landed hpn c S hS B a xs)
        ∗ (S.view.loc (c : Thread nD τ) ↦[S.view.set \ arrI S a]{fullShare} hS.unread xs))
      ⊢ (iprop((B.view.loc (c : Thread nD τ) ↦[B.view.set]{fullShare} hB.unread (blkOf xs a))
        ∗ (S.view.loc (c : Thread nD τ) ↦[S.view.set]{fullShare} hS.unread xs)) : sProp (𝕄 F nD τ sig)) := by
  rw [arr_split c S a (hS.unread xs), src_pieces hpn c S a (hS.unread xs), buf_pieces hpn c B (hB.unread (blkOf xs a))]
  iintro ⟨HD, HR⟩
  ihave HD' := (show bigSep Finset.univ (landed hpn c S hS B a xs)
      ⊢ (iprop(bigSep Finset.univ (fun j : Fin n => (bufP hpn B j).view.loc (c : Thread nD τ) ↦[(bufP hpn B j).view.set]{fullShare} bufF hpn c B j (hB.unread (blkOf xs a)))
        ∗ bigSep Finset.univ (fun j : Fin n => (srcP hpn S a j).view.loc (c : Thread nD τ) ↦[(srcP hpn S a j).view.set]{fullShare} srcF hpn c S a j (hS.unread xs))) : sProp (𝕄 F nD τ sig))
      from (Entails.of_eq (BI.bigSep_sep _ _ _)).trans (sep_mono_l (BI.bigSep_mono fun k _ => Entails.of_eq (pointsTo_congr fun i hi =>
        (congrFun (View.write_univ_eq_writes_whole _ _ [] _).symm i).trans (write_eq_on (bufP hpn B k).view _ _ _ (piece_read hpn S hS B hB a xs k) hi))))) $$ HD
  icases HD' with ⟨H1, H2⟩
  isplitl [H1]; · iexact H1
  isplitl [H2] <;> iassumption

theorem drained8 {p : ℕ} (hpn : p * 8 = 1024) (a : Fin 4) (xs : SA.Idx → Elt F .f32) :
    iprop(landed hpn c S hS B a xs 0 ∗ landed hpn c S hS B a xs 1 ∗ landed hpn c S hS B a xs 2 ∗ landed hpn c S hS B a xs 3
        ∗ landed hpn c S hS B a xs 4 ∗ landed hpn c S hS B a xs 5 ∗ landed hpn c S hS B a xs 6 ∗ landed hpn c S hS B a xs 7
        ∗ (S.view.loc (c : Thread nD τ) ↦[S.view.set \ arrI S a]{fullShare} hS.unread xs))
      ⊢ (iprop((B.view.loc (c : Thread nD τ) ↦[B.view.set]{fullShare} hB.unread (blkOf xs a))
        ∗ (S.view.loc (c : Thread nD τ) ↦[S.view.set]{fullShare} hS.unread xs)) : sProp (𝕄 F nD τ sig)) := by
  refine BIBase.Entails.trans ?_ (lane_drained hpn c S hS B hB a xs)
  refine BIBase.Entails.trans ?_ (sep_mono_l (Entails.of_eq (BI.bigSep_eq_bigSepL_of_eq [0, 1, 2, 3, 4, 5, 6, 7] (by decide) (by decide) (Φ := landed hpn c S hS B a xs)).symm))
  show _ ⊢ iprop((landed hpn c S hS B a xs 0 ∗ landed hpn c S hS B a xs 1 ∗ landed hpn c S hS B a xs 2 ∗ landed hpn c S hS B a xs 3 ∗ landed hpn c S hS B a xs 4 ∗ landed hpn c S hS B a xs 5 ∗ landed hpn c S hS B a xs 6 ∗ landed hpn c S hS B a xs 7) ∗ _)
  iintro ⟨H0, H1, H2, H3, H4, H5, H6, H7, HR⟩
  isplitr [HR]
  · isplitl [H0]; · iexact H0
    isplitl [H1]; · iexact H1
    isplitl [H2]; · iexact H2
    isplitl [H3]; · iexact H3
    isplitl [H4]; · iexact H4
    isplitl [H5]; · iexact H5
    isplitl [H6] <;> iassumption
  · iexact HR

theorem drained4 {p : ℕ} (hpn : p * 4 = 1024) (a : Fin 4) (xs : SA.Idx → Elt F .f32) :
    iprop(landed hpn c S hS B a xs 0 ∗ landed hpn c S hS B a xs 1 ∗ landed hpn c S hS B a xs 2 ∗ landed hpn c S hS B a xs 3
        ∗ (S.view.loc (c : Thread nD τ) ↦[S.view.set \ arrI S a]{fullShare} hS.unread xs))
      ⊢ (iprop((B.view.loc (c : Thread nD τ) ↦[B.view.set]{fullShare} hB.unread (blkOf xs a))
        ∗ (S.view.loc (c : Thread nD τ) ↦[S.view.set]{fullShare} hS.unread xs)) : sProp (𝕄 F nD τ sig)) := by
  refine BIBase.Entails.trans ?_ (lane_drained hpn c S hS B hB a xs)
  refine BIBase.Entails.trans ?_ (sep_mono_l (Entails.of_eq (BI.bigSep_eq_bigSepL_of_eq [0, 1, 2, 3] (by decide) (by decide) (Φ := landed hpn c S hS B a xs)).symm))
  show _ ⊢ iprop((landed hpn c S hS B a xs 0 ∗ landed hpn c S hS B a xs 1 ∗ landed hpn c S hS B a xs 2 ∗ landed hpn c S hS B a xs 3) ∗ _)
  iintro ⟨H0, H1, H2, H3, HR⟩
  isplitr [HR]
  · isplitl [H0]; · iexact H0
    isplitl [H1]; · iexact H1
    isplitl [H2] <;> iassumption
  · iexact HR

end Lane

end Cert.NormGrad

end
-- ==== Proof.NormGrad.Blocks.lean ====
/-
  An array of 4096 rows as its four row blocks, contents put together block by block, a whole buffer held at what it
  reads, and a run framed by what it does not touch.
-/
import proofs.«01_k».proof.Proof.NormGrad.Lane
import Idealize.ShloMosaic.Lib.ValueIdxCore

noncomputable section

namespace Cert.NormGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig}

/-- The block a row lies in, and its place there. -/
def rowOf (y : SA.Idx) : Fin 4 := ⟨(y 0).val / 1024, by have : (y 0).val < 4096 := (y 0).isLt; omega⟩
def inRow (y : SA.Idx) : SB.Idx := fun
  | ⟨0, _⟩ => (⟨(y 0).val % 1024, Nat.mod_lt _ (by decide)⟩ : Fin 1024)
  | ⟨1, _⟩ => (⟨(y 1).val, (y 1).isLt⟩ : Fin 2048)
/-- Contents put together from the four blocks. -/
def stack {α : Type} (D : Fin 4 → SB.Idx → α) : SA.Idx → α := fun y => D (rowOf y) (inRow y)

theorem blkOf_stack {α : Type} (D : Fin 4 → SB.Idx → α) (a : Fin 4) : blkOf (stack D) a = D a := funext fun y => by
  have hy : (y 0).val < 1024 := (y 0).isLt
  have ha := a.isLt
  have e0 : (((Rect.unit (s := SA) ![1024 * a.val, 0] SB.size (blk_inb a)).emb y) 0).val = 1024 * a.val + (y 0).val := by
    show 1024 * a.val + 1 * (y 0).val = _
    omega
  have e1 : (((Rect.unit (s := SA) ![1024 * a.val, 0] SB.size (blk_inb a)).emb y) 1).val = (y 1).val := by
    show 0 + 1 * (y 1).val = _
    omega
  show D (rowOf _) (inRow _) = D a y
  have h1 : rowOf ((Rect.unit (s := SA) ![1024 * a.val, 0] SB.size (blk_inb a)).emb y) = a := Fin.ext (by
    unfold rowOf
    dsimp only
    rw [e0]
    omega)
  have h2 : inRow ((Rect.unit (s := SA) ![1024 * a.val, 0] SB.size (blk_inb a)).emb y) = y := funext fun x => by
    fin_cases x
    · refine Fin.ext ?_
      show (((Rect.unit (s := SA) ![1024 * a.val, 0] SB.size (blk_inb a)).emb y) 0).val % 1024 = (y 0).val
      rw [e0]
      omega
    · refine Fin.ext ?_
      exact e1
  rw [h1, h2]

theorem full_idx {s : Shape} {off : Fin s.rank → ℕ} (h0 : ∀ a, off a = 0) (inb) (y : s.Idx) : (Rect.unit (s := s) off s.size inb).emb y = y :=
  funext fun a => Fin.ext (by
    show off a + 1 * (y a).val = (y a).val
    rw [h0]; omega)

theorem ld_full {s : Shape} {e : EltTy} {off : Fin s.rank → ℕ} (h0 : ∀ a, off a = 0) (inb) (X : s.Idx → Elt F e) :
    View.ld X (Rect.unit (s := s) off s.size inb) = X := funext fun y => congrArg X (full_idx h0 inb y)

theorem read_full {κ : Kind} {sp : Space} {s : Shape} {e : EltTy} (v : View sig κ sp s e) (f : v.ty.Contents (Elt F)) {off : Fin s.rank → ℕ}
    (h0 : ∀ a, off a = 0) (inb) (w : s.Idx → Elt F e) (L : List (View.Piece (Elt F) s e)) :
    v.read (Elt F) (v.writes (Elt F) f (⟨Rect.unit (s := s) off s.size inb, w⟩ :: L)) = w := by
  funext y
  have h := View.read_writes_cons_emb (Val := Elt F) v f (Rect.unit (s := s) off s.size inb) w L y
  rwa [full_idx h0 inb y] at h

theorem zero2 : ∀ a, (![0, 0] : Fin 2 → ℕ) a = 0 := by decide
theorem zero3 : ∀ a, (![0, 0, 0] : Fin 3 → ℕ) a = 0 := by decide

theorem ld_whole {sp : Space} {s : Shape} {e : EltTy} (M : Memref sig .tc sp s e) (hM : M.IsWhole) (r : Rect s) (X : s.Idx → Elt F e) :
    View.readAt (Elt F) M.view r.toLoadRect (hM.unread X) = View.ld X r := (View.readAt_eq_ld M.view _ r).trans (by rw [hM.read_unread])
theorem ld_all {sp : Space} {s : Shape} {e : EltTy} (M : Memref sig .tc sp s e) (hM : M.IsWhole) {off : Fin s.rank → ℕ} (h0 : ∀ a, off a = 0) (inb) (X : s.Idx → Elt F e) :
    View.readAt (Elt F) M.view (Rect.unit (s := s) off s.size inb).toLoadRect (hM.unread X) = X := (ld_whole M hM _ X).trans (ld_full h0 inb X)

section Arr

variable (c : Dev nD)

theorem arrI_disjoint {e : EltTy} (S : Memref sig .tc .hbm SA e) : ∀ a a' : Fin 4, a ≠ a' → Disjoint (arrI S a) (arrI S a') := fun a a' hne => by
  unfold arrI
  rw [Finset.disjoint_map, Finset.disjoint_left]
  intro y hy hy'
  have h1 := (mem_rows _ y).mp hy
  have h2 := (mem_rows _ y).mp hy'
  exact hne (Fin.ext (by omega))

theorem arrI_cover {e : EltTy} (S : Memref sig .tc .hbm SA e) : Finset.univ.biUnion (fun a => arrI S a) = S.view.set := by
  ext i
  rw [Finset.mem_biUnion]
  constructor
  · rintro ⟨a, -, h⟩
    exact arrI_subset S a h
  · intro h
    obtain ⟨y, -, rfl⟩ := Finset.mem_map.mp h
    have hy : (y 0).val < 4096 := (y 0).isLt
    exact ⟨⟨(y 0).val / 1024, by omega⟩, Finset.mem_univ _, (Finset.mem_map' _).mpr ((mem_rows _ y).mpr (by dsimp only; omega))⟩

/-- An array as its four row blocks. -/
theorem arr_blocks {e : EltTy} (S : Memref sig .tc .hbm SA e) (fs : Buf (Elt F) (S.view.loc (c : Thread nD τ))) :
    (S.view.loc (c : Thread nD τ) ↦[S.view.set]{fullShare} fs : sProp (𝕄 F nD τ sig))
      = iprop(((arrB S 0).view.loc (c : Thread nD τ) ↦[(arrB S 0).view.set]{fullShare} arrF c S 0 fs)
        ∗ ((arrB S 1).view.loc (c : Thread nD τ) ↦[(arrB S 1).view.set]{fullShare} arrF c S 1 fs)
        ∗ ((arrB S 2).view.loc (c : Thread nD τ) ↦[(arrB S 2).view.set]{fullShare} arrF c S 2 fs)
        ∗ ((arrB S 3).view.loc (c : Thread nD τ) ↦[(arrB S 3).view.set]{fullShare} arrF c S 3 fs)) :=
  ((Ring.pointsTo_sub_blocks (ℓ := S.view.loc (c : Thread nD τ)) (fun a : Fin 4 => arrI S a) (arrI_disjoint S) _ (arrI_cover S) fs).trans
    (BI.bigSep_congr fun a _ => arrB_pt c S a fs)).trans (BI.bigSep_eq_bigSepL_of_eq [0, 1, 2, 3] (by decide) (by decide) _)

/-- A whole buffer read at contents is held at them. -/
theorem owns_unread {sp : Space} {s : Shape} {e : EltTy} (M : Memref sig .tc sp s e) (hM : M.IsWhole) (X : s.Idx → Elt F e) :
    (owns (c : Thread nD τ) M fullShare X : sProp (𝕄 F nD τ sig)) = (M.view.loc (c : Thread nD τ) ↦[M.view.set]{fullShare} hM.unread X) := by
  have h1 : (owns (c : Thread nD τ) M fullShare X : sProp (𝕄 F nD τ sig)) ⊢ (M.view.loc (c : Thread nD τ) ↦[M.view.set]{fullShare} hM.unread X) := by
    unfold owns
    iintro ⟨%f, %h, H⟩
    rw [hM.eq_unread h]
    iexact H
  have h2 : (M.view.loc (c : Thread nD τ) ↦[M.view.set]{fullShare} hM.unread X) ⊢ (owns (c : Thread nD τ) M fullShare X : sProp (𝕄 F nD τ sig)) := by
    unfold owns
    iintro H
    iexists _
    isplitr
    swap
    · iexact H
    ipureintro
    exact hM.read_unread X
  exact Entails.antisymm h1 h2

theorem whole_pt {b : Ref sig .tc} (f : Buf (Elt F) ((c : Thread nD τ).loc b)) :
    ((((c : Thread nD τ).loc b) ↦{fullShare} f) : sProp (𝕄 F nD τ sig))
      = ((Memref.whole b : Memref sig .tc _ _ _).view.loc (c : Thread nD τ) ↦[(Memref.whole b : Memref sig .tc _ _ _).view.set]{fullShare} f) :=
  congrArg (fun I : Finset (Memref.whole b : Memref sig .tc _ _ _).view.ty.Idx => ((((c : Thread nD τ).loc b) ↦[I]{fullShare} f) : sProp (𝕄 F nD τ sig)))
    (View.set_whole b).symm

theorem own_in {sp : Space} {s : Shape} {e : EltTy} (M : Memref sig .tc sp s e) (hM : M.IsWhole) (X Y : s.Idx → Elt F e) (h : X = Y) :
    (owns (c : Thread nD τ) M fullShare X : sProp (𝕄 F nD τ sig)) ⊢ (M.view.loc (c : Thread nD τ) ↦[M.view.set]{fullShare} hM.unread Y) := by
  rw [owns_unread c M hM, h]
theorem own_out {sp : Space} {s : Shape} {e : EltTy} (M : Memref sig .tc sp s e) (hM : M.IsWhole) (X Y : s.Idx → Elt F e) (h : X = Y) :
    (M.view.loc (c : Thread nD τ) ↦[M.view.set]{fullShare} hM.unread X) ⊢ (owns (c : Thread nD τ) M fullShare Y : sProp (𝕄 F nD τ sig)) := by
  rw [owns_unread c M hM, h]

theorem whole_pt' (b : Ref sig .tc) : (iprop(∃ f : Buf (Elt F) ((c : Thread nD τ).loc b), (((c : Thread nD τ).loc b) ↦{fullShare} f)) : sProp (𝕄 F nD τ sig))
      = iprop(∃ f, (Memref.whole b : Memref sig .tc _ _ _).view.loc (c : Thread nD τ) ↦[(Memref.whole b : Memref sig .tc _ _ _).view.set]{fullShare} f) :=
  congrArg (fun p : Buf (Elt F) ((c : Thread nD τ).loc b) → sProp (𝕄 F nD τ sig) => iprop(∃ f, p f)) (funext fun f => whole_pt c f)

/-- A whole buffer that reads at contents, held at them. -/
theorem hold_whole {sp : Space} {s : Shape} {e : EltTy} (M : Memref sig .tc sp s e) (hM : M.IsWhole) (X : s.Idx → Elt F e) (f : Buf (Elt F) (M.view.loc (c : Thread nD τ))) :
    iprop((M.view.loc (c : Thread nD τ) ↦[M.view.set]{fullShare} f) ∗ ⌜M.view.read (Elt F) f = X⌝)
      ⊢ (iprop(M.view.loc (c : Thread nD τ) ↦[M.view.set]{fullShare} hM.unread X) : sProp (𝕄 F nD τ sig)) := by
  iintro ⟨H, %h⟩
  rw [← hM.eq_unread h]
  iexact H

/-- A block written over by a buffer is the block of the contents it is to have, and the same under way. -/
theorem block_landed {e : EltTy} (S : Memref sig .tc .hbm SA e) (hS : S.IsWhole) (a : Fin 4) (f : Buf (Elt F) (S.view.loc (c : Thread nD τ))) (P : SB.Idx → Elt F e) (G : SA.Idx → Elt F e) :
    iprop(((arrB S a).view.loc (c : Thread nD τ) ↦[(arrB S a).view.set]{fullShare} View.writes (arrB S a).view (Elt F) (arrF c S a f) [⟨Rect.whole SB, P⟩])
        ∗ ⌜P = blkOf G a⌝) ⊢ (iprop(((arrB S a).view.loc (c : Thread nD τ) ↦[(arrB S a).view.set]{fullShare} arrF c S a (hS.unread G))) : sProp (𝕄 F nD τ sig)) := by
  iintro ⟨H, %hP⟩
  rw [← arr_landed c S hS a f P G hP]
  iexact H
theorem flight_landed {e : EltTy} (S : Memref sig .tc .hbm SA e) (hS : S.IsWhole) (B : Memref sig .tc .vmem SB e) (d : DmaSem sig) (N : ℕ) (a : Fin 4)
    (f : Buf (Elt F) (S.view.loc (c : Thread nD τ))) (P : SB.Idx → Elt F e) (fD : Buf (Elt F) (B.view.loc (c : Thread nD τ))) (G : SA.Idx → Elt F e) :
    iprop(Transfers.Flight (countersEmb (U := Pipeline.UC sig nD τ)) (c : Thread nD τ) (SemLoc.dma d) () N
      iprop(((arrB S a).view.loc (c : Thread nD τ) ↦[(arrB S a).view.set]{fullShare} View.writes (arrB S a).view (Elt F) (arrF c S a f) [⟨Rect.whole SB, P⟩])
        ∗ (B.view.loc (c : Thread nD τ) ↦[B.view.set]{fullShare} fD)) ∗ ⌜P = blkOf G a⌝)
    ⊢ (iprop(Transfers.Flight (countersEmb (U := Pipeline.UC sig nD τ)) (c : Thread nD τ) (SemLoc.dma d) () N
      iprop(((arrB S a).view.loc (c : Thread nD τ) ↦[(arrB S a).view.set]{fullShare} arrF c S a (hS.unread G))
        ∗ (B.view.loc (c : Thread nD τ) ↦[B.view.set]{fullShare} fD))) : sProp (𝕄 F nD τ sig)) := by
  iintro ⟨H, %hP⟩
  rw [← arr_landed c S hS a f P G hP]
  iexact H

end Arr

/-- A run, framed. -/
theorem framed {M : Type} [URA M] {α : Type} {W : sWPT M α} {P P' R : sProp M} {Q Q' : α → sProp M}
    (h : P ⊢ W Q) (hP : P' ⊢ iprop(P ∗ R)) (hF : iprop(W Q ∗ R) ⊢ W (fun a => iprop(Q a ∗ R)))
    (hQ : ∀ a, iprop(Q a ∗ R) ⊢ Q' a) : P' ⊢ W Q' :=
  hP.trans ((BI.sep_mono_l h).trans (hF.trans (W.mono hQ)))

end Cert.NormGrad

end
-- ==== Proof.NormGrad.MidRun.lean ====
import proofs.«01_k».proof.Proof.Gen.GradMidIdeal.Frame
import proofs.«01_k».proof.Proof.Gen.GradMidIdeal.Loops
import proofs.«01_k».proof.Proof.NormGrad.Blocks

set_option maxRecDepth 16384
set_option maxHeartbeats 1000000

noncomputable section

namespace Cert.GradMid

open Cert.NormGrad Cert.GradMidIdeal Cert.GradMidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hpn : 128 * 8 = 1024 := rfl

abbrev mX : Memref sig .tc .hbm S4096x2048 .f32 := Memref.whole main_arg2
abbrev mR : Memref sig .tc .hbm S4096x2048 .f32 := Memref.whole main_arg4
abbrev mO : Memref sig .tc .hbm S4096x2048 .f32 := Memref.whole main_v1_0
abbrev mOb : Memref sig .tc .hbm S4096x2048 .bf16 := Memref.whole main_v1_1
abbrev bA : Memref sig .tc .vmem S1024x2048 .f32 := Memref.whole cc0_scratch0
abbrev bX : Memref sig .tc .vmem S1024x2048 .f32 := Memref.whole cc0_scratch1
abbrev bR : Memref sig .tc .vmem S1024x2048 .f32 := Memref.whole cc0_scratch2
abbrev bD : Memref sig .tc .vmem S1024x2048 .f32 := Memref.whole cc0_scratch3
abbrev bDb : Memref sig .tc .vmem S1024x2048 .bf16 := Memref.whole cc0_scratch4

variable (c : Dev nD) (i : grid0.Coords)
  (arg2 : Memref sig .tc .vmem S1024x1024 .bf16) (harg2 : arg2.IsWhole) (arg3 : Memref sig .tc .vmem S1x2048x1024 .bf16) (harg3 : arg3.IsWhole)
  (arg4 : Memref sig .tc .vmem S1x2048 .f32) (harg4 : arg4.IsWhole) (arg9 : Memref sig .tc .vmem S1x2048 .f32) (harg9 : arg9.IsWhole)

/-- The body at a point. -/
abbrev body : Prog (TpuEff nD τ sig (Elt F) Λ₀ .tc) PUnit :=
  cc0_grad_mid i arg2 harg2 arg3 harg3 arg4 harg4 mX (Memref.isWhole_whole _) mR (Memref.isWhole_whole _) mO (Memref.isWhole_whole _)
    mOb (Memref.isWhole_whole _) arg9 harg9 bA (Memref.isWhole_whole _) bX (Memref.isWhole_whole _) bR (Memref.isWhole_whole _)
    bD (Memref.isWhole_whole _) bDb (Memref.isWhole_whole _) cc0_scratch5 cc0_scratch6

/-- The block of rows a point reads. -/
abbrev fa : Fin 4 := ⟨(i 0).val, (i 0).isLt⟩
/-- The number of a point in its block. -/
abbrev fk : Fin 8 := ⟨(i 1).val, (i 1).isLt⟩

theorem off1_eq : k0_off1 i = ![128 * (fk i).val, 0] := ClosedOff.eq
theorem off2_eq : k0_off2 i = ![1024 * (fa i).val + 128 * (fk i).val, 0] := ClosedOff.eq
theorem off5_eq : k0_off5 i = ![1024 * (fa i).val, 0] := ClosedOff.eq
theorem off6_eq : k0_off6 i = ![1024 * (fa i).val, 0] := ClosedOff.eq
theorem off8_eq : k0_off8 i = ![1024 * (fa i).val, 0] := ClosedOff.eq

/-- The pieces and blocks the program's transfers name. -/
@[sl_canon] theorem canon_bX : bX.slice (Rect.unit (s := S1024x2048) (k0_off1 i) S128x2048.size (k0_off1_inb i)) (fun _ => rfl) = bufP hpn bX (fk i) :=
  Memref.slice_unit_congr _ (off1_eq i) _ _ (fun _ => rfl) (fun _ => rfl)
@[sl_canon] theorem canon_bR : bR.slice (Rect.unit (s := S1024x2048) (k0_off1 i) S128x2048.size (k0_off1_inb i)) (fun _ => rfl) = bufP hpn bR (fk i) :=
  Memref.slice_unit_congr _ (off1_eq i) _ _ (fun _ => rfl) (fun _ => rfl)
@[sl_canon] theorem canon_mX : mX.slice (Rect.unit (s := S4096x2048) (k0_off2 i) S128x2048.size (k0_off2_inb i)) (fun _ => rfl) = srcP hpn mX (fa i) (fk i) :=
  Memref.slice_unit_congr _ (off2_eq i) _ _ (fun _ => rfl) (fun _ => rfl)
@[sl_canon] theorem canon_mR : mR.slice (Rect.unit (s := S4096x2048) (k0_off2 i) S128x2048.size (k0_off2_inb i)) (fun _ => rfl) = srcP hpn mR (fa i) (fk i) :=
  Memref.slice_unit_congr _ (off2_eq i) _ _ (fun _ => rfl) (fun _ => rfl)

@[sl_canon] theorem canon_s0 : ((SemArray.slice cc0_scratch5 (Rect.unit (s := S2) ![0] S1.size inb_S2_S1_0)).squeeze S_ squeezes_S1_S_).sem = (6 : DmaSem sig) := Fin.ext (by rfl)
@[sl_canon] theorem canon_s1 : ((SemArray.slice cc0_scratch5 (Rect.unit (s := S2) ![1] S1.size inb_S2_S1_1)).squeeze S_ squeezes_S1_S_).sem = (7 : DmaSem sig) := Fin.ext (by rfl)
@[sl_canon] theorem canon_s2 : ((SemArray.slice cc0_scratch6 (Rect.unit (s := S2) ![0] S1.size inb_S2_S1_0)).squeeze S_ squeezes_S1_S_).sem = (8 : DmaSem sig) := Fin.ext (by rfl)
@[sl_canon] theorem canon_s3 : ((SemArray.slice cc0_scratch6 (Rect.unit (s := S2) ![1] S1.size inb_S2_S1_1)).squeeze S_ squeezes_S1_S_).sem = (9 : DmaSem sig) := Fin.ext (by rfl)

@[sl_canon] theorem canon_mO (h3 : k0_cond3 i = 1#1) : mO.slice (Rect.unit (s := S4096x2048) (k0_off5 i) S1024x2048.size (k0_off5_inb i h3)) (fun _ => rfl) = arrB mO (fa i) :=
  Memref.slice_unit_congr _ (off5_eq i) _ _ (fun _ => rfl) (fun _ => rfl)
@[sl_canon] theorem canon_mOb (h3 : k0_cond3 i = 1#1) : mOb.slice (Rect.unit (s := S4096x2048) (k0_off5 i) S1024x2048.size (k0_off5_inb i h3)) (fun _ => rfl) = arrB mOb (fa i) :=
  Memref.slice_unit_congr _ (off5_eq i) _ _ (fun _ => rfl) (fun _ => rfl)

abbrev laneX (a : Fin 4) (fs : Buf (Elt F) (mX.view.loc (c : Thread nD τ))) (fd : Buf (Elt F) (bX.view.loc (c : Thread nD τ))) (k : ℕ) :=
  lane (F := F) (nD := nD) (τ := τ) hpn c mX bX 6 32768 a fs fd k
abbrev laneR (a : Fin 4) (fs : Buf (Elt F) (mR.view.loc (c : Thread nD τ))) (fd : Buf (Elt F) (bR.view.loc (c : Thread nD τ))) (k : ℕ) :=
  lane (F := F) (nD := nD) (τ := τ) hpn c mR bR 7 32768 a fs fd k

/-! ## What the body computes -/

theorem off7_inb (k : Fin k0_t1_loop.trips) : ∀ a, (k0_off7 k) a + S128x2048.size a ≤ S1024x2048.size a := by
  have hk : k.val < 8 := Nat.lt_of_lt_of_le k.isLt k0_t1_abs.2.1
  rw [(ClosedOff.eq : k0_off7 k = _)]
  intro a
  fin_cases a
  · show 128 * k.val + 128 ≤ 1024
    omega
  · show 0 + 2048 ≤ 2048
    omega

/-- The rows of a trip. -/
abbrev rowR (k : Fin k0_t1_loop.trips) : Rect S1024x2048 := Rect.unit (s := S1024x2048) (k0_off7 k) S128x2048.size (off7_inb k)

abbrev topR : Rect S1024x2048 := Rect.unit (s := S1024x2048) (k0_off3 0#32) S512x2048.size (k0_off3_inb 0)
abbrev botR : Rect S1024x2048 := Rect.unit (s := S1024x2048) (k0_off3 1#32) S512x2048.size (k0_off3_inb 1)
abbrev topG : Rect S1024x1024 := Rect.unit (s := S1024x1024) (k0_off4 0#32) S512x1024.size (k0_off4_inb 0)
abbrev botG : Rect S1024x1024 := Rect.unit (s := S1024x1024) (k0_off4 1#32) S512x1024.size (k0_off4_inb 1)

/-- The products added to the accumulator at one point, in two halves of the rows. -/
abbrev accL (A : S1024x2048.Idx → Elt F .f32) (g : S1024x1024.Idx → Elt F .bf16) (w : S1x2048x1024.Idx → Elt F .bf16) :
    List (View.Piece (Elt F) S1024x2048 .f32) :=
  [⟨botR, k0_pay2 (View.ld A botR) (View.ld g botG) w⟩, ⟨topR, k0_pay1 (View.ld A topR) (View.ld g topG) (k0_pay13 w)⟩]

/-- The accumulator after a point. -/
def accS (A : S1024x2048.Idx → Elt F .f32) (g : S1024x1024.Idx → Elt F .bf16) (w : S1x2048x1024.Idx → Elt F .bf16) : S1024x2048.Idx → Elt F .f32 :=
  View.canon (accL A g w)

/-- The rows of the gradient the loop has written, and their rounded copies. -/
def dxL (A X R : S1024x2048.Idx → Elt F .f32) (G : S1x2048.Idx → Elt F .f32) : ℕ → List (View.Piece (Elt F) S1024x2048 .f32)
  | 0 => []
  | k + 1 => if h : k < k0_t1_loop.trips then
      ⟨rowR ⟨k, h⟩, k0_pay9 (View.ld A (rowR ⟨k, h⟩)) (View.ld X (rowR ⟨k, h⟩)) G (View.ld R (rowR ⟨k, h⟩))⟩ :: dxL A X R G k
    else dxL A X R G k
def dxbL (A X R : S1024x2048.Idx → Elt F .f32) (G : S1x2048.Idx → Elt F .f32) : ℕ → List (View.Piece (Elt F) S1024x2048 .bf16)
  | 0 => []
  | k + 1 => if h : k < k0_t1_loop.trips then
      ⟨rowR ⟨k, h⟩, k0_pay3 (k0_pay10 (View.ld A (rowR ⟨k, h⟩)) (View.ld X (rowR ⟨k, h⟩)) G (View.ld R (rowR ⟨k, h⟩)))⟩ :: dxbL A X R G k
    else dxbL A X R G k
/-- The gain's gradient after a number of trips. -/
def dgL (A X : S1024x2048.Idx → Elt F .f32) (D : S1x2048.Idx → Elt F .f32) : ℕ → S1x2048.Idx → Elt F .f32
  | 0 => D
  | k + 1 => if h : k < k0_t1_loop.trips then
      k0_pay4 (k0_pay7 (View.ld A (rowR ⟨k, h⟩)) (View.ld X (rowR ⟨k, h⟩))) (dgL A X D k)
    else dgL A X D k

theorem dxL_succ (A X R : S1024x2048.Idx → Elt F .f32) (G : S1x2048.Idx → Elt F .f32) (k : Fin k0_t1_loop.trips) :
    dxL A X R G (k.val + 1) = ⟨rowR k, k0_pay9 (View.ld A (rowR k)) (View.ld X (rowR k)) G (View.ld R (rowR k))⟩ :: dxL A X R G k.val := by
  rw [dxL, dif_pos k.isLt]
theorem dxbL_succ (A X R : S1024x2048.Idx → Elt F .f32) (G : S1x2048.Idx → Elt F .f32) (k : Fin k0_t1_loop.trips) :
    dxbL A X R G (k.val + 1) = ⟨rowR k, k0_pay3 (k0_pay10 (View.ld A (rowR k)) (View.ld X (rowR k)) G (View.ld R (rowR k)))⟩ :: dxbL A X R G k.val := by
  rw [dxbL, dif_pos k.isLt]
theorem dgL_succ (A X : S1024x2048.Idx → Elt F .f32) (D : S1x2048.Idx → Elt F .f32) (k : Fin k0_t1_loop.trips) :
    dgL A X D (k.val + 1) = k0_pay4 (k0_pay7 (View.ld A (rowR k)) (View.ld X (rowR k))) (dgL A X D k.val) := by
  rw [dgL, dif_pos k.isLt]

theorem wholeA : bA.IsWhole := Memref.isWhole_whole _
theorem wholeX : bX.IsWhole := Memref.isWhole_whole _
theorem wholeR : bR.IsWhole := Memref.isWhole_whole _
theorem wholeD : bD.IsWhole := Memref.isWhole_whole _
theorem wholeDb : bDb.IsWhole := Memref.isWhole_whole _

abbrev loopI (A : bA.view.ty.Contents (Elt F)) (X : bX.view.ty.Contents (Elt F)) (R : bR.view.ty.Contents (Elt F))
    (G : arg4.view.ty.Contents (Elt F)) (D : arg9.view.ty.Contents (Elt F)) (fd : bD.view.ty.Contents (Elt F)) (fb : bDb.view.ty.Contents (Elt F))
    (k : ℕ) (_u : PUnit) : sProp (𝕄 F nD τ sig) :=
  iprop((arg4.view.loc (c : Thread nD τ) ↦[arg4.view.set]{fullShare} G)
    ∗ (bA.view.loc (c : Thread nD τ) ↦[bA.view.set]{fullShare} A)
    ∗ (bX.view.loc (c : Thread nD τ) ↦[bX.view.set]{fullShare} X)
    ∗ (bR.view.loc (c : Thread nD τ) ↦[bR.view.set]{fullShare} R)
    ∗ (∃ f, (arg9.view.loc (c : Thread nD τ) ↦[arg9.view.set]{fullShare} f)
        ∗ ⌜arg9.view.read (Elt F) f = dgL (bA.view.read (Elt F) A) (bX.view.read (Elt F) X) (arg9.view.read (Elt F) D) k⌝)
    ∗ (∃ f, (bD.view.loc (c : Thread nD τ) ↦[bD.view.set]{fullShare} f)
        ∗ ⌜f = bD.view.writes (Elt F) fd (dxL (bA.view.read (Elt F) A) (bX.view.read (Elt F) X) (bR.view.read (Elt F) R) (arg4.view.read (Elt F) G) k)⌝)
    ∗ (∃ f, (bDb.view.loc (c : Thread nD τ) ↦[bDb.view.set]{fullShare} f)
        ∗ ⌜f = bDb.view.writes (Elt F) fb (dxbL (bA.view.read (Elt F) A) (bX.view.read (Elt F) X) (bR.view.read (Elt F) R) (arg4.view.read (Elt F) G) k)⌝))

set_option warn.classDefReducibility false in
@[sl_loop] def loopP (h3 : k0_cond3 i = 1#1) (A : bA.view.ty.Contents (Elt F)) (X : bX.view.ty.Contents (Elt F)) (R : bR.view.ty.Contents (Elt F))
    (G : arg4.view.ty.Contents (Elt F)) (D : arg9.view.ty.Contents (Elt F)) (fd : bD.view.ty.Contents (Elt F)) (fb : bDb.view.ty.Contents (Elt F)) :
    LoopInvTy_k0_t1 (F := F) Unit ℕ (Pipeline.UC sig nD τ) ℕ Variants.none c none Set.univ i arg2 harg2 arg3 harg3 arg4 harg4
      mX (Memref.isWhole_whole _) mR (Memref.isWhole_whole _) mO (Memref.isWhole_whole _)
      mOb (Memref.isWhole_whole _) arg9 harg9 bA (Memref.isWhole_whole _) bX (Memref.isWhole_whole _) bR (Memref.isWhole_whole _)
      bD (Memref.isWhole_whole _) bDb (Memref.isWhole_whole _) cc0_scratch5 cc0_scratch6 h3 where
  inv := loopI c arg4 arg9 A X R G D fd fb
  step k acc := by
    have hk : k.val < 8 := Nat.lt_of_lt_of_le k.isLt k0_t1_abs.2.1
    unfold loopI
    iintro ⟨H4, HA, HX, HR, ⟨%f9, H9, %h9⟩, ⟨%fD, HD, %hD⟩, ⟨%fB, HB, %hB⟩⟩
    unfold k0_t1_body
    rw [k0_part1_eq_skeleton]
    unfold k0_part1_skel
    sl_exec
    sl_step
    iframe H4 HA HX HR
    isplitl [H9]
    · iexists _
      isplitl [H9]; · iexact H9
      ipureintro
      refine (read_full arg9.view _ zero2 _ _ []).trans ?_
      rw [View.readAt_eq_ld arg9.view, ld_full zero2, h9]
      rw [dgL_succ]
      rfl
    isplitl [HD]
    · iexists _
      isplitl [HD]; · iexact HD
      ipureintro
      rw [hD, View.readAt_eq_ld arg4.view, ld_full zero2, dxL_succ]
      rfl
    · iexists _
      isplitl [HB]; · iexact HB
      ipureintro
      rw [hB, View.readAt_eq_ld arg4.view, ld_full zero2, dxbL_succ]
      rfl

theorem wholeO : mO.IsWhole := Memref.isWhole_whole _
theorem wholeOb : mOb.IsWhole := Memref.isWhole_whole _
theorem wholeMX : mX.IsWhole := Memref.isWhole_whole _
theorem wholeMR : mR.IsWhole := Memref.isWhole_whole _

/-- The two halves cover the accumulator. -/
theorem cover_acc (a b) (y : S1024x2048.Idx) : ∃ p ∈ ([⟨botR, a⟩, ⟨topR, b⟩] : List (View.Piece (Elt F) S1024x2048 .f32)), y ∈ p.1.set := by
  have hy : (y 0).val < 1024 := (y 0).isLt
  have h0 : y ∈ topR.set ↔ 0 ≤ (y 0).val ∧ (y 0).val < 0 + 512 := mem_rows (h := 512) (lo := 0) (k0_off3_inb 0) y
  have h1 : y ∈ botR.set ↔ 512 ≤ (y 0).val ∧ (y 0).val < 512 + 512 := mem_rows (h := 512) (lo := 512) (k0_off3_inb 1) y
  by_cases h : (y 0).val < 512
  · exact ⟨_, List.mem_cons_of_mem _ (List.mem_singleton.mpr rfl), h0.mpr ⟨Nat.zero_le _, by omega⟩⟩
  · exact ⟨_, List.mem_cons_self, h1.mpr ⟨by omega, by omega⟩⟩

abbrev allW : Rect S1x2048x1024 := Rect.unit (s := S1x2048x1024) ![0, 0, 0] S1x2048x1024.size inb_S1x2048x1024_S1x2048x1024_0_0_0
theorem raw2 (A : S1024x2048.Idx → Elt F .f32) (g : S1024x1024.Idx → Elt F .bf16) (w : S1x2048x1024.Idx → Elt F .bf16) :
    k0_pay2 (View.readAt (Elt F) bA.view botR.toLoadRect (wholeA.unread A)) (View.readAt (Elt F) arg2.view botG.toLoadRect (harg2.unread g))
      (View.readAt (Elt F) arg3.view allW.toLoadRect (harg3.unread w)) = k0_pay2 (View.ld A botR) (View.ld g botG) w := by
  rw [ld_whole bA wholeA, ld_whole arg2 harg2, ld_all arg3 harg3 zero3]
theorem raw1 (A : S1024x2048.Idx → Elt F .f32) (g : S1024x1024.Idx → Elt F .bf16) (w : S1x2048x1024.Idx → Elt F .bf16) :
    k0_pay1 (View.readAt (Elt F) bA.view topR.toLoadRect (wholeA.unread A)) (View.readAt (Elt F) arg2.view topG.toLoadRect (harg2.unread g))
      (k0_pay13 (View.readAt (Elt F) arg3.view allW.toLoadRect (harg3.unread w))) = k0_pay1 (View.ld A topR) (View.ld g topG) (k0_pay13 w) := by
  rw [ld_whole bA wholeA, ld_whole arg2 harg2, ld_all arg3 harg3 zero3]

theorem acc_read (A : S1024x2048.Idx → Elt F .f32) (g : S1024x1024.Idx → Elt F .bf16) (w : S1x2048x1024.Idx → Elt F .bf16)
    (f : bA.view.ty.Contents (Elt F)) (a b) (ha : a = k0_pay2 (View.ld A botR) (View.ld g botG) w)
    (hb : b = k0_pay1 (View.ld A topR) (View.ld g topG) (k0_pay13 w)) :
    bA.view.read (Elt F) (bA.view.writes (Elt F) f [⟨botR, a⟩, ⟨topR, b⟩]) = accS A g w := by
  subst ha hb
  exact View.read_writes_eq_canon bA.view f (accL A g w) (cover_acc _ _)

abbrev allA : Rect S1024x2048 := Rect.unit (s := S1024x2048) ![0, 0] S1024x2048.size inb_S1024x2048_S1024x2048_0_0
/-- The accumulator cleared. -/
abbrev clear : List (View.Piece (Elt F) S1024x2048 .f32) := [⟨allA, k0_pay12⟩]
theorem full_mem (y : S1024x2048.Idx) : y ∈ allA.set :=
  (mem_rows (h := 1024) (lo := 0) inb_S1024x2048_S1024x2048_0_0 y).mpr ⟨Nat.zero_le _, by
    have : (y 0).val < 1024 := (y 0).isLt
    omega⟩
theorem canon_clear : View.canon (clear (F := F)) = k0_pay12 := funext fun y => by
  have h := View.canon_cons_emb (Val := Elt F) (e := .f32) allA (k0_pay12 (F := F)) [] y
  rwa [full_idx (s := S1024x2048) (off := ![0, 0]) zero2 inb_S1024x2048_S1024x2048_0_0 y] at h
theorem clear_top : bA.view.readCov (clear (F := F)) topR.toLoadRect = View.ld k0_pay12 topR :=
  (View.readCov_eq_canon_ld bA.view clear topR fun y => ⟨_, List.mem_singleton.mpr rfl, full_mem y⟩).trans
    (by rw [canon_clear])
theorem clear_bot (b) : bA.view.readCov (⟨topR, b⟩ :: clear (F := F)) botR.toLoadRect = View.ld k0_pay12 botR := by
  rw [View.readCov_eq_canon']
  funext j
  show View.canon (⟨topR, b⟩ :: clear (F := F)) (botR.emb j) = _
  rw [View.canon_cons_of_not_mem, canon_clear]
  · rfl
  · intro h
    have h0 : botR.emb j ∈ topR.set ↔ 0 ≤ (botR.emb j 0).val ∧ (botR.emb j 0).val < 0 + 512 := mem_rows (h := 512) (lo := 0) (k0_off3_inb 0) _
    have h1 : (botR.emb j 0).val = 512 + 1 * (j 0).val := rfl
    have := (h0.mp h).2
    omega
theorem raw2c (b) (g : S1024x1024.Idx → Elt F .bf16) (w : S1x2048x1024.Idx → Elt F .bf16) :
    k0_pay2 (bA.view.readCov (⟨topR, b⟩ :: clear (F := F)) botR.toLoadRect) (View.readAt (Elt F) arg2.view botG.toLoadRect (harg2.unread g))
      (View.readAt (Elt F) arg3.view allW.toLoadRect (harg3.unread w)) = k0_pay2 (View.ld k0_pay12 botR) (View.ld g botG) w := by
  rw [clear_bot, ld_whole arg2 harg2, ld_all arg3 harg3 zero3]
theorem raw1c (g : S1024x1024.Idx → Elt F .bf16) (w : S1x2048x1024.Idx → Elt F .bf16) :
    k0_pay1 (bA.view.readCov (clear (F := F)) topR.toLoadRect) (View.readAt (Elt F) arg2.view topG.toLoadRect (harg2.unread g))
      (k0_pay13 (View.readAt (Elt F) arg3.view allW.toLoadRect (harg3.unread w))) = k0_pay1 (View.ld k0_pay12 topR) (View.ld g topG) (k0_pay13 w) := by
  rw [clear_top, ld_whole arg2 harg2, ld_all arg3 harg3 zero3]
theorem acc_clear (g : S1024x1024.Idx → Elt F .bf16) (w : S1x2048x1024.Idx → Elt F .bf16) (f : bA.view.ty.Contents (Elt F)) (a b)
    (ha : a = k0_pay2 (View.ld k0_pay12 botR) (View.ld g botG) w) (hb : b = k0_pay1 (View.ld k0_pay12 topR) (View.ld g topG) (k0_pay13 w)) :
    bA.view.read (Elt F) (bA.view.writes (Elt F) f (⟨botR, a⟩ :: ⟨topR, b⟩ :: clear)) = accS k0_pay12 g w := by
  rw [show (⟨botR, a⟩ :: ⟨topR, b⟩ :: clear (F := F)) = [⟨botR, a⟩, ⟨topR, b⟩] ++ clear from rfl, View.writes_append]
  exact acc_read k0_pay12 g w _ a b ha hb

/-- The two copies of a block of results on their way. -/
def flying (a : Fin 4) (G : S4096x2048.Idx → Elt F .f32) (Gb : S4096x2048.Idx → Elt F .bf16) : sProp (𝕄 F nD τ sig) :=
  iprop((∃ fD, Transfers.Flight (countersEmb (U := Pipeline.UC sig nD τ)) (c : Thread nD τ) (SemLoc.dma (8 : DmaSem sig)) () 262144
      iprop(((arrB mO a).view.loc (c : Thread nD τ) ↦[(arrB mO a).view.set]{fullShare} arrF c mO a (wholeO.unread G)) ∗ (bD.view.loc (c : Thread nD τ) ↦[bD.view.set]{fullShare} fD)))
    ∗ (∃ fB, Transfers.Flight (countersEmb (U := Pipeline.UC sig nD τ)) (c : Thread nD τ) (SemLoc.dma (9 : DmaSem sig)) () 131072
      iprop(((arrB mOb a).view.loc (c : Thread nD τ) ↦[(arrB mOb a).view.set]{fullShare} arrF c mOb a (wholeOb.unread Gb)) ∗ (bDb.view.loc (c : Thread nD τ) ↦[bDb.view.set]{fullShare} fB))))
/-- A block of the two results. -/
def block (a : Fin 4) (f : Buf (Elt F) (mO.view.loc (c : Thread nD τ))) (fb : Buf (Elt F) (mOb.view.loc (c : Thread nD τ))) : sProp (𝕄 F nD τ sig) :=
  iprop(((arrB mO a).view.loc (c : Thread nD τ) ↦[(arrB mO a).view.set]{fullShare} arrF c mO a (f)) ∗ ((arrB mOb a).view.loc (c : Thread nD τ) ↦[(arrB mOb a).view.set]{fullShare} arrF c mOb a (fb)))
/-- The result buffers and their semaphores at rest. -/
def rest : sProp (𝕄 F nD τ sig) :=
  iprop(semVal ((c : Thread nD τ), SemLoc.dma (8 : DmaSem sig)) 0 ∗ semVal ((c : Thread nD τ), SemLoc.dma (9 : DmaSem sig)) 0
    ∗ (∃ fD, bD.view.loc (c : Thread nD τ) ↦[bD.view.set]{fullShare} fD) ∗ (∃ fB, bDb.view.loc (c : Thread nD τ) ↦[bDb.view.set]{fullShare} fB))

theorem mem_rowR (k : Fin k0_t1_loop.trips) (y : S1024x2048.Idx) : y ∈ (rowR k).set ↔ 128 * k.val ≤ (y 0).val ∧ (y 0).val < 128 * k.val + 128 := by
  have h : ∀ (off : Fin 2 → ℕ) (e : off = ![128 * k.val, 0]) (inb), y ∈ (Rect.unit (s := S1024x2048) off S128x2048.size inb).set
      ↔ 128 * k.val ≤ (y 0).val ∧ (y 0).val < 128 * k.val + 128 := by
    intro off e inb
    subst e
    exact mem_rows (h := 128) (lo := 128 * k.val) inb y
  exact h _ ClosedOff.eq _

theorem trips_eq : k0_t1_loop.trips = 8 := by decide

theorem cover_dx (A X R : S1024x2048.Idx → Elt F .f32) (Gn : S1x2048.Idx → Elt F .f32) :
    ∀ n ≤ 8, ∀ y : S1024x2048.Idx, (y 0).val < 128 * n → ∃ p ∈ dxL A X R Gn n, y ∈ p.1.set := by
  intro n
  induction n with
  | zero => intro _ y hy; omega
  | succ n ih =>
    intro hn y hy
    have hk : n < k0_t1_loop.trips := by rw [trips_eq]; omega
    rw [dxL_succ A X R Gn ⟨n, hk⟩]
    by_cases h : (y 0).val < 128 * n
    · obtain ⟨p, hp, hm⟩ := ih (by omega) y h
      exact ⟨p, List.mem_cons_of_mem _ hp, hm⟩
    · exact ⟨_, List.mem_cons_self, (mem_rowR ⟨n, hk⟩ y).mpr ⟨by show 128 * n ≤ _; omega, by show _ < 128 * n + 128; omega⟩⟩
theorem cover_dxb (A X R : S1024x2048.Idx → Elt F .f32) (Gn : S1x2048.Idx → Elt F .f32) :
    ∀ n ≤ 8, ∀ y : S1024x2048.Idx, (y 0).val < 128 * n → ∃ p ∈ dxbL A X R Gn n, y ∈ p.1.set := by
  intro n
  induction n with
  | zero => intro _ y hy; omega
  | succ n ih =>
    intro hn y hy
    have hk : n < k0_t1_loop.trips := by rw [trips_eq]; omega
    rw [dxbL_succ A X R Gn ⟨n, hk⟩]
    by_cases h : (y 0).val < 128 * n
    · obtain ⟨p, hp, hm⟩ := ih (by omega) y h
      exact ⟨p, List.mem_cons_of_mem _ hp, hm⟩
    · exact ⟨_, List.mem_cons_self, (mem_rowR ⟨n, hk⟩ y).mpr ⟨by show 128 * n ≤ _; omega, by show _ < 128 * n + 128; omega⟩⟩

theorem read_dx (A X R : S1024x2048.Idx → Elt F .f32) (Gn : S1x2048.Idx → Elt F .f32) (fD : bD.view.ty.Contents (Elt F)) :
    bD.view.read (Elt F) (bD.view.writes (Elt F) fD (dxL (bA.view.read (Elt F) (wholeA.unread A)) (bX.view.read (Elt F) (wholeX.unread X)) (bR.view.read (Elt F) (wholeR.unread R))
        (arg4.view.read (Elt F) (harg4.unread Gn)) 8)) = View.canon (dxL A X R Gn 8) := by
  rw [wholeA.read_unread, wholeX.read_unread, wholeR.read_unread, harg4.read_unread]
  exact View.read_writes_eq_canon bD.view fD _ fun y => cover_dx A X R Gn 8 le_rfl y (y 0).isLt
theorem read_dxb (A X R : S1024x2048.Idx → Elt F .f32) (Gn : S1x2048.Idx → Elt F .f32) (fD : bDb.view.ty.Contents (Elt F)) :
    bDb.view.read (Elt F) (bDb.view.writes (Elt F) fD (dxbL (bA.view.read (Elt F) (wholeA.unread A)) (bX.view.read (Elt F) (wholeX.unread X)) (bR.view.read (Elt F) (wholeR.unread R))
        (arg4.view.read (Elt F) (harg4.unread Gn)) 8)) = View.canon (dxbL A X R Gn 8) := by
  rw [wholeA.read_unread, wholeX.read_unread, wholeR.read_unread, harg4.read_unread]
  exact View.read_writes_eq_canon bDb.view fD _ fun y => cover_dxb A X R Gn 8 le_rfl y (y 0).isLt

theorem run_mid (h1 : ¬ k0_cond1 i = 1#1) (h3 : ¬ k0_cond3 i = 1#1) (h2 : ¬ (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread (accS A g w))
      ∗ laneX c (fa i) (wholeMX.unread xs) dx ((fk i).val + 1) ∗ laneR c (fa i) (wholeMR.unread rs) dr ((fk i).val + 1)
      ∗ owes (c : Thread nD τ) 0 W)) := by
  unfold laneX laneR
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, HW⟩
  unfold body
  rw [cc0_grad_mid_eq_skeleton]
  unfold cc0_grad_mid_skel
  rw [k0_part2_eq_skeleton]
  unfold k0_part2_skel
  sl_exec
  sl_step
  iframe H2 H3 H4 H9
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  isplitl [HA]; · iexact HA
  unfold lane
  iframe HBx Hbxs Hsxs HRx HBr Hbrs Hsrs HRr HW

theorem run_next (h1 : ¬ k0_cond1 i = 1#1) (h3 : ¬ k0_cond3 i = 1#1) (h2 : (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} A)
      ∗ laneX c (fa i) (wholeMX.unread xs) dx (fk i).val ∗ laneR c (fa i) (wholeMR.unread rs) dr (fk i).val
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread (accS k0_pay12 g w))
      ∗ laneX c (fa i) (wholeMX.unread xs) dx ((fk i).val + 1) ∗ laneR c (fa i) (wholeMR.unread rs) dr ((fk i).val + 1)
      ∗ owes (c : Thread nD τ) 0 W)) := by
  unfold laneX laneR
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, HW⟩
  unfold body
  rw [cc0_grad_mid_eq_skeleton]
  unfold cc0_grad_mid_skel
  rw [k0_part2_eq_skeleton]
  unfold k0_part2_skel
  sl_exec
  sl_step
  iframe H2 H3 H4 H9
  ihave HA := (hold_whole (F := F) c bA wholeA (accS k0_pay12 g w) _) $$ [HA]
  · isplitl [HA]; · iexact HA
    ipureintro
    refine acc_clear g w _ _ _ ?_ ?_
    · exact raw2c arg2 harg2 arg3 harg3 _ g w
    · exact raw1c arg2 harg2 arg3 harg3 g w
  isplitl [HA]; · iexact HA
  unfold lane
  iframe HBx Hbxs Hsxs HRx HBr Hbrs Hsrs HRr HW

theorem run_first (h1 : k0_cond1 i = 1#1) (h3 : ¬ k0_cond3 i = 1#1) (h2 : (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} A)
      ∗ laneX c (fa i) (wholeMX.unread xs) dx (fk i).val ∗ laneR c (fa i) (wholeMR.unread rs) dr (fk i).val
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread k0_pay11)
      ∗ (bA.view.loc (c : Thread nD τ) ↦[bA.view.set]{fullShare} wholeA.unread (accS k0_pay12 g w))
      ∗ laneX c (fa i) (wholeMX.unread xs) dx ((fk i).val + 1) ∗ laneR c (fa i) (wholeMR.unread rs) dr ((fk i).val + 1)
      ∗ owes (c : Thread nD τ) 0 W)) := by
  unfold laneX laneR
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, HW⟩
  unfold body
  rw [cc0_grad_mid_eq_skeleton]
  unfold cc0_grad_mid_skel
  rw [k0_part2_eq_skeleton]
  unfold k0_part2_skel
  sl_exec
  sl_step
  iframe H2 H3 H4
  ihave H9 := (hold_whole (F := F) c arg9 harg9 k0_pay11 _) $$ [H9]
  · isplitl [H9]; · iexact H9
    ipureintro
    exact read_full arg9.view _ zero2 _ _ []
  isplitl [H9]; · iexact H9
  ihave HA := (hold_whole (F := F) c bA wholeA (accS k0_pay12 g w) _) $$ [HA]
  · isplitl [HA]; · iexact HA
    ipureintro
    refine acc_clear g w _ _ _ ?_ ?_
    · exact raw2c arg2 harg2 arg3 harg3 _ g w
    · exact raw1c arg2 harg2 arg3 harg3 g w
  isplitl [HA]; · iexact HA
  unfold lane
  iframe HBx Hbxs Hsxs HRx HBr Hbrs Hsrs HRr HW

theorem run_end0 (h1 : ¬ k0_cond1 i = 1#1) (h3 : k0_cond3 i = 1#1) (h4 : ¬ k0_cond4 i = 1#1) (h5 : ¬ k0_cond5 i = 1#1) (h7 : (fk i).val + 1 = 8) (h2 : ¬ (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))

    (fO : Buf (Elt F) (mO.view.loc (c : Thread nD τ))) (fOb : Buf (Elt F) (mOb.view.loc (c : Thread nD τ)))
    (G : S4096x2048.Idx → Elt F .f32) (Gb : S4096x2048.Idx → Elt F .bf16)
    (hG : blkOf G (fa i) = View.canon (dxL (accS A g w) (blkOf xs (fa i)) (blkOf rs (fa i)) gn 8))
    (hGb : blkOf Gb (fa i) = View.canon (dxbL (accS A g w) (blkOf xs (fa i)) (blkOf rs (fa i)) gn 8))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ block c (fa i) fO fOb ∗ rest c
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread (dgL (accS A g w) (blkOf xs (fa i)) dg 8))
      ∗ (∃ f, bA.view.loc (c : Thread nD τ) ↦[bA.view.set]{fullShare} f)
      ∗ idle c mX bX 6 (wholeMX.unread xs) ∗ idle c mR bR 7 (wholeMR.unread rs)
      ∗ flying c (fa i) G Gb
      ∗ ∃ W', owes (c : Thread nD τ) 0 W')) := by
  unfold laneX laneR idle block rest flying
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, ⟨HO, HOb⟩, ⟨Hs8, Hs9, ⟨%fD, HD⟩, ⟨%fB, HB⟩⟩, HW⟩
  unfold body
  rw [cc0_grad_mid_eq_skeleton]
  unfold cc0_grad_mid_skel
  rw [k0_part2_eq_skeleton]
  unfold k0_part2_skel
  sl_exec
  rw [h7]
  sl_exec
  ihave HX := (drained8 (F := F) c mX (Memref.isWhole_whole _) bX wholeX hpn (fa i) xs) $$ [HBx_dst0 HBx_src0 HBx_dst1 HBx_src1 HBx_dst2 HBx_src2 HBx_dst3 HBx_src3 HBx_dst4 HBx_src4 HBx_dst5 HBx_src5 HBx_dst6 HBx_src6 HBx_dst7 HBx_src7 HRx]
  · iframe HBx_dst0 HBx_src0 HBx_dst1 HBx_src1 HBx_dst2 HBx_src2 HBx_dst3 HBx_src3 HBx_dst4 HBx_src4 HBx_dst5 HBx_src5 HBx_dst6 HBx_src6 HBx_dst7 HBx_src7 HRx
  icases HX with ⟨HX, HmX⟩
  ihave HR := (drained8 (F := F) c mR (Memref.isWhole_whole _) bR wholeR hpn (fa i) rs) $$ [HBr_dst0 HBr_src0 HBr_dst1 HBr_src1 HBr_dst2 HBr_src2 HBr_dst3 HBr_src3 HBr_dst4 HBr_src4 HBr_dst5 HBr_src5 HBr_dst6 HBr_src6 HBr_dst7 HBr_src7 HRr]
  · iframe HBr_dst0 HBr_src0 HBr_dst1 HBr_src1 HBr_dst2 HBr_src2 HBr_dst3 HBr_src3 HBr_dst4 HBr_src4 HBr_dst5 HBr_src5 HBr_dst6 HBr_src6 HBr_dst7 HBr_src7 HRr
  icases HR with ⟨HR, HmR⟩
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  sl_exec
  rename View.read (Elt F) arg9.view _ = _ => hL
  rw [wholeA.read_unread, wholeX.read_unread, harg9.read_unread] at hL
  ihave H9 := (hold_whole (F := F) c arg9 harg9 (dgL (accS A g w) (blkOf xs (fa i)) dg 8) _) $$ [H9]
  · isplitl [H9]
    · iexact H9
    · ipureintro
      exact hL
  ihave Hs8 := (flight_landed (F := F) c mO wholeO bD 8 262144 (fa i) _ _ _ G) $$ [Hs8]
  · isplitl [Hs8]
    · iexact Hs8
    · ipureintro
      exact (read_dx arg4 harg4 (accS A g w) (blkOf xs (fa i)) (blkOf rs (fa i)) gn _).trans hG.symm
  ihave Hs9 := (flight_landed (F := F) c mOb wholeOb bDb 9 131072 (fa i) _ _ _ Gb) $$ [Hs9]
  · isplitl [Hs9]
    · iexact Hs9
    · ipureintro
      exact (read_dxb arg4 harg4 (accS A g w) (blkOf xs (fa i)) (blkOf rs (fa i)) gn _).trans hGb.symm
  sl_step
  iframe H2 H3 H4 H9
  isplitl [HA]
  · iexists _
    iexact HA
  isplitl [HBx HX HmX]
  · iframe HBx
    isplitl [HX]
    · iexists _
      iexact HX
    · iexact HmX
  isplitl [HBr HR HmR]
  · iframe HBr
    isplitl [HR]
    · iexists _
      iexact HR
    · iexact HmR
  isplitl [Hs8 Hs9]
  · isplitl [Hs8]
    · iexists _
      iexact Hs8
    · iexists _
      iexact Hs9
  iexists _
  iexact HW

theorem run_end1 (h1 : ¬ k0_cond1 i = 1#1) (h3 : k0_cond3 i = 1#1) (h4 : k0_cond4 i = 1#1) (h5 : ¬ k0_cond5 i = 1#1) (h7 : (fk i).val + 1 = 8) (h2 : ¬ (Scalar.cmpi .ne (Scalar.extui (Scalar.cmpi .eq (BitVec.ofNat 32 (i 1).val) 0#32) : BitVec 32) 0#32) = 1#1) (a' : Fin 4)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))

    (fO : Buf (Elt F) (mO.view.loc (c : Thread nD τ))) (fOb : Buf (Elt F) (mOb.view.loc (c : Thread nD τ)))
    (G : S4096x2048.Idx → Elt F .f32) (Gb : S4096x2048.Idx → Elt F .bf16)
    (hG : blkOf G (fa i) = View.canon (dxL (accS A g w) (blkOf xs (fa i)) (blkOf rs (fa i)) gn 8))
    (hGb : blkOf Gb (fa i) = View.canon (dxbL (accS A g w) (blkOf xs (fa i)) (blkOf rs (fa i)) gn 8))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ block c (fa i) fO fOb ∗ flying c a' G Gb
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread (dgL (accS A g w) (blkOf xs (fa i)) dg 8))
      ∗ (∃ f, bA.view.loc (c : Thread nD τ) ↦[bA.view.set]{fullShare} f)
      ∗ idle c mX bX 6 (wholeMX.unread xs) ∗ idle c mR bR 7 (wholeMR.unread rs)
      ∗ flying c (fa i) G Gb ∗ block c a' (wholeO.unread G) (wholeOb.unread Gb)
      ∗ ∃ W', owes (c : Thread nD τ) 0 W')) := by
  unfold laneX laneR idle block flying
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, ⟨HO, HOb⟩, ⟨⟨%fD, Hs8⟩, ⟨%fB, Hs9⟩⟩, HW⟩
  unfold body
  rw [cc0_grad_mid_eq_skeleton]
  unfold cc0_grad_mid_skel
  rw [k0_part2_eq_skeleton]
  unfold k0_part2_skel
  sl_exec
  rw [h7]
  sl_exec
  ihave HX := (drained8 (F := F) c mX (Memref.isWhole_whole _) bX wholeX hpn (fa i) xs) $$ [HBx_dst0 HBx_src0 HBx_dst1 HBx_src1 HBx_dst2 HBx_src2 HBx_dst3 HBx_src3 HBx_dst4 HBx_src4 HBx_dst5 HBx_src5 HBx_dst6 HBx_src6 HBx_dst7 HBx_src7 HRx]
  · iframe HBx_dst0 HBx_src0 HBx_dst1 HBx_src1 HBx_dst2 HBx_src2 HBx_dst3 HBx_src3 HBx_dst4 HBx_src4 HBx_dst5 HBx_src5 HBx_dst6 HBx_src6 HBx_dst7 HBx_src7 HRx
  icases HX with ⟨HX, HmX⟩
  ihave HR := (drained8 (F := F) c mR (Memref.isWhole_whole _) bR wholeR hpn (fa i) rs) $$ [HBr_dst0 HBr_src0 HBr_dst1 HBr_src1 HBr_dst2 HBr_src2 HBr_dst3 HBr_src3 HBr_dst4 HBr_src4 HBr_dst5 HBr_src5 HBr_dst6 HBr_src6 HBr_dst7 HBr_src7 HRr]
  · iframe HBr_dst0 HBr_src0 HBr_dst1 HBr_src1 HBr_dst2 HBr_src2 HBr_dst3 HBr_src3 HBr_dst4 HBr_src4 HBr_dst5 HBr_src5 HBr_dst6 HBr_src6 HBr_dst7 HBr_src7 HRr
  icases HR with ⟨HR, HmR⟩
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  sl_exec
  rename View.read (Elt F) arg9.view _ = _ => hL
  rw [wholeA.read_unread, wholeX.read_unread, harg9.read_unread] at hL
  ihave H9 := (hold_whole (F := F) c arg9 harg9 (dgL (accS A g w) (blkOf xs (fa i)) dg 8) _) $$ [H9]
  · isplitl [H9]
    · iexact H9
    · ipureintro
      exact hL
  ihave Hs8 := (flight_landed (F := F) c mO wholeO bD 8 262144 (fa i) _ _ _ G) $$ [Hs8]
  · isplitl [Hs8]
    · iexact Hs8
    · ipureintro
      exact (read_dx arg4 harg4 (accS A g w) (blkOf xs (fa i)) (blkOf rs (fa i)) gn _).trans hG.symm
  ihave Hs9 := (flight_landed (F := F) c mOb wholeOb bDb 9 131072 (fa i) _ _ _ Gb) $$ [Hs9]
  · isplitl [Hs9]
    · iexact Hs9
    · ipureintro
      exact (read_dxb arg4 harg4 (accS A g w) (blkOf xs (fa i)) (blkOf rs (fa i)) gn _).trans hGb.symm
  sl_step
  iframe H2 H3 H4 H9
  isplitl [HA]
  · iexists _
    iexact HA
  isplitl [HBx HX HmX]
  · iframe HBx
    isplitl [HX]
    · iexists _
      iexact HX
    · iexact HmX
  isplitl [HBr HR HmR]
  · iframe HBr
    isplitl [HR]
    · iexists _
      iexact HR
    · iexact HmR
  isplitl [Hs8 Hs9]
  · isplitl [Hs8]
    · iexists _
      iexact Hs8
    · iexists _
      iexact Hs9
  iframe Hs8_dst Hs9_dst
  iexists _
  iexact HW

theorem run_end2 (h1 : ¬ k0_cond1 i = 1#1) (h3 : k0_cond3 i = 1#1) (h4 : k0_cond4 i = 1#1) (h5 : k0_cond5 i = 1#1) (h7 : (fk i).val + 1 = 8) (h2 : ¬ (Scalar.cmpi .ne (Scalar.extui (Scalar.cmpi .eq (BitVec.ofNat 32 (i 1).val) 0#32) : BitVec 32) 0#32) = 1#1) (a' : Fin 4)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))

    (fO : Buf (Elt F) (mO.view.loc (c : Thread nD τ))) (fOb : Buf (Elt F) (mOb.view.loc (c : Thread nD τ)))
    (G : S4096x2048.Idx → Elt F .f32) (Gb : S4096x2048.Idx → Elt F .bf16)
    (hG : blkOf G (fa i) = View.canon (dxL (accS A g w) (blkOf xs (fa i)) (blkOf rs (fa i)) gn 8))
    (hGb : blkOf Gb (fa i) = View.canon (dxbL (accS A g w) (blkOf xs (fa i)) (blkOf rs (fa i)) gn 8))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ block c (fa i) fO fOb ∗ flying c a' G Gb
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread (dgL (accS A g w) (blkOf xs (fa i)) dg 8))
      ∗ (∃ f, bA.view.loc (c : Thread nD τ) ↦[bA.view.set]{fullShare} f)
      ∗ idle c mX bX 6 (wholeMX.unread xs) ∗ idle c mR bR 7 (wholeMR.unread rs)
      ∗ (block c (fa i) (wholeO.unread G) (wholeOb.unread Gb) ∗ rest c) ∗ block c a' (wholeO.unread G) (wholeOb.unread Gb)
      ∗ ∃ W', owes (c : Thread nD τ) 0 W')) := by
  unfold laneX laneR idle block rest flying
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, ⟨HO, HOb⟩, ⟨⟨%fD, Hs8⟩, ⟨%fB, Hs9⟩⟩, HW⟩
  unfold body
  rw [cc0_grad_mid_eq_skeleton]
  unfold cc0_grad_mid_skel
  rw [k0_part2_eq_skeleton]
  unfold k0_part2_skel
  sl_exec
  rw [h7]
  sl_exec
  ihave HX := (drained8 (F := F) c mX (Memref.isWhole_whole _) bX wholeX hpn (fa i) xs) $$ [HBx_dst0 HBx_src0 HBx_dst1 HBx_src1 HBx_dst2 HBx_src2 HBx_dst3 HBx_src3 HBx_dst4 HBx_src4 HBx_dst5 HBx_src5 HBx_dst6 HBx_src6 HBx_dst7 HBx_src7 HRx]
  · iframe HBx_dst0 HBx_src0 HBx_dst1 HBx_src1 HBx_dst2 HBx_src2 HBx_dst3 HBx_src3 HBx_dst4 HBx_src4 HBx_dst5 HBx_src5 HBx_dst6 HBx_src6 HBx_dst7 HBx_src7 HRx
  icases HX with ⟨HX, HmX⟩
  ihave HR := (drained8 (F := F) c mR (Memref.isWhole_whole _) bR wholeR hpn (fa i) rs) $$ [HBr_dst0 HBr_src0 HBr_dst1 HBr_src1 HBr_dst2 HBr_src2 HBr_dst3 HBr_src3 HBr_dst4 HBr_src4 HBr_dst5 HBr_src5 HBr_dst6 HBr_src6 HBr_dst7 HBr_src7 HRr]
  · iframe HBr_dst0 HBr_src0 HBr_dst1 HBr_src1 HBr_dst2 HBr_src2 HBr_dst3 HBr_src3 HBr_dst4 HBr_src4 HBr_dst5 HBr_src5 HBr_dst6 HBr_src6 HBr_dst7 HBr_src7 HRr
  icases HR with ⟨HR, HmR⟩
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  sl_exec
  rename View.read (Elt F) arg9.view _ = _ => hL
  rw [wholeA.read_unread, wholeX.read_unread, harg9.read_unread] at hL
  ihave H9 := (hold_whole (F := F) c arg9 harg9 (dgL (accS A g w) (blkOf xs (fa i)) dg 8) _) $$ [H9]
  · isplitl [H9]
    · iexact H9
    · ipureintro
      exact hL
  ihave HO := (block_landed (F := F) c mO wholeO (fa i) _ _ G) $$ [HO]
  · isplitl [HO]
    · iexact HO
    · ipureintro
      exact (read_dx arg4 harg4 (accS A g w) (blkOf xs (fa i)) (blkOf rs (fa i)) gn _).trans hG.symm
  ihave HOb := (block_landed (F := F) c mOb wholeOb (fa i) _ _ Gb) $$ [HOb]
  · isplitl [HOb]
    · iexact HOb
    · ipureintro
      exact (read_dxb arg4 harg4 (accS A g w) (blkOf xs (fa i)) (blkOf rs (fa i)) gn _).trans hGb.symm
  sl_step
  iframe H2 H3 H4 H9
  isplitl [HA]
  · iexists _
    iexact HA
  isplitl [HBx HX HmX]
  · iframe HBx
    isplitl [HX]
    · iexists _
      iexact HX
    · iexact HmX
  isplitl [HBr HR HmR]
  · iframe HBr
    isplitl [HR]
    · iexists _
      iexact HR
    · iexact HmR
  isplitl [HO HOb Hs8 Hs9 Hs8_src Hs9_src]
  · iframe HO HOb Hs8 Hs9
    isplitl [Hs8_src]
    · iexists _
      iexact Hs8_src
    · iexists _
      iexact Hs9_src
  iframe Hs8_dst Hs9_dst
  iexists _
  iexact HW

end Cert.GradMid

end
-- ==== Proof.NormGrad.MidFrame.lean ====
/-
  The product joined with the norm's gradient, over its grid: what the accumulator, the gain's gradient and the results hold
  from point to point, the body's obligation at a point, and the whole run.
-/
import proofs.«01_k».proof.Proof.NormGrad.MidRun

set_option maxRecDepth 16384
set_option maxHeartbeats 1000000

noncomputable section

namespace Cert.GradMid

open Cert.NormGrad Cert.GradMidIdeal Cert.GradMidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

/-! ## Contents -/

/-- Point `n` of the grid. -/
def pt (n : ℕ) : Fin cfg0.N := ⟨n % 32, lt_of_lt_of_eq (Nat.mod_lt _ (by decide)) N_0.symm⟩
theorem pt_val (t : Fin cfg0.N) : pt t.val = t := Fin.ext (Nat.mod_eq_of_lt (lt_of_lt_of_eq t.isLt N_0))
/-- The row block of point `n`. -/
def bk (n : ℕ) : Fin 4 := ⟨n / 8 % 4, Nat.mod_lt _ (by decide)⟩

def gB (n : ℕ) : S1024x1024.Idx → Elt F .bf16 := iblk m c 0 (pt n)
def wB (n : ℕ) : S1x2048x1024.Idx → Elt F .bf16 := iblk m c 1 (pt n)
def gnB (n : ℕ) : S1x2048.Idx → Elt F .f32 := iblk m c 2 (pt n)
def xs : S4096x2048.Idx → Elt F .f32 := mX.view.read (Elt F) (V m c main_arg2)
def rs : S4096x2048.Idx → Elt F .f32 := mR.view.read (Elt F) (V m c main_arg4)

/-- The accumulator before point `n`. -/
def accN : ℕ → S1024x2048.Idx → Elt F .f32
  | 0 => k0_pay12
  | n + 1 => accS (if n % 8 = 0 then k0_pay12 else accN n) (gB m c n) (wB m c n)
/-- The gain's gradient before point `n`. -/
def dgN : ℕ → S1x2048.Idx → Elt F .f32
  | 0 => k0_pay11
  | n + 1 => if n % 8 = 7 then dgL (accN m c (n + 1)) (blkOf (xs m c) (bk n)) (dgN n) 8 else dgN n
/-- The two results. -/
def resO : S4096x2048.Idx → Elt F .f32 :=
  stack fun a => View.canon (dxL (accN m c (8 * a.val + 7 + 1)) (blkOf (xs m c) a) (blkOf (rs m c) a) (gnB m c (8 * a.val + 7)) 8)
def resOb : S4096x2048.Idx → Elt F .bf16 :=
  stack fun a => View.canon (dxbL (accN m c (8 * a.val + 7 + 1)) (blkOf (xs m c) a) (blkOf (rs m c) a) (gnB m c (8 * a.val + 7)) 8)

theorem accN_start {n : ℕ} (h : n % 8 = 0) : accN m c (n + 1) = accS k0_pay12 (gB m c n) (wB m c n) := by
  rw [accN, if_pos h]
theorem accN_next {n : ℕ} (h : ¬ n % 8 = 0) : accN m c (n + 1) = accS (accN m c n) (gB m c n) (wB m c n) := by
  rw [accN, if_neg h]
theorem dgN_end {n : ℕ} (h : n % 8 = 7) : dgN m c (n + 1) = dgL (accN m c (n + 1)) (blkOf (xs m c) (bk n)) (dgN m c n) 8 := by
  rw [dgN, if_pos h]
theorem dgN_keep {n : ℕ} (h : ¬ n % 8 = 7) : dgN m c (n + 1) = dgN m c n := by
  rw [dgN, if_neg h]

theorem res_blk {n : ℕ} (hn : n < 32) (h : n % 8 = 7) : blkOf (resO m c) (bk n)
    = View.canon (dxL (accS (accN m c n) (gB m c n) (wB m c n)) (blkOf (xs m c) (bk n)) (blkOf (rs m c) (bk n)) (gnB m c n) 8) := by
  have e : 8 * (bk n).val + 7 = n := by
    show 8 * (n / 8 % 4) + 7 = n
    omega
  unfold resO
  rw [blkOf_stack, e, accN_next m c (by omega)]
theorem resb_blk {n : ℕ} (hn : n < 32) (h : n % 8 = 7) : blkOf (resOb m c) (bk n)
    = View.canon (dxbL (accS (accN m c n) (gB m c n) (wB m c n)) (blkOf (xs m c) (bk n)) (blkOf (rs m c) (bk n)) (gnB m c n) 8) := by
  have e : 8 * (bk n).val + 7 = n := by
    show 8 * (n / 8 % 4) + 7 = n
    omega
  unfold resOb
  rw [blkOf_stack, e, accN_next m c (by omega)]

/-! ## The state between points -/

def accP (n : ℕ) : sProp (𝕄 F nD τ sig) :=
  if n % 8 = 0 then iprop(∃ f, bA.view.loc (c : Thread nD τ) ↦[bA.view.set]{fullShare} f)
  else iprop(bA.view.loc (c : Thread nD τ) ↦[bA.view.set]{fullShare} wholeA.unread (accN m c n))
def inP (n : ℕ) : sProp (𝕄 F nD τ sig) :=
  if n % 8 = 0 then iprop(idle c mX bX 6 (wholeMX.unread (xs m c)) ∗ idle c mR bR 7 (wholeMR.unread (rs m c)))
  else iprop((∃ dx, laneX c (bk n) (wholeMX.unread (xs m c)) dx (n % 8)) ∗ (∃ dr, laneR c (bk n) (wholeMR.unread (rs m c)) dr (n % 8)))
/-- A block of the results before the call has written it, and after. -/
abbrev old (a : Fin 4) : sProp (𝕄 F nD τ sig) := block c a (V m c main_v1_0) (V m c main_v1_1)
abbrev new (a : Fin 4) : sProp (𝕄 F nD τ sig) := block c a (wholeO.unread (resO m c)) (wholeOb.unread (resOb m c))
abbrev fly (a : Fin 4) : sProp (𝕄 F nD τ sig) := flying c a (resO m c) (resOb m c)
def outP : ℕ → sProp (𝕄 F nD τ sig)
  | 0 => iprop(rest c ∗ old m c 0 ∗ old m c 1 ∗ old m c 2 ∗ old m c 3)
  | 1 => iprop(fly m c 0 ∗ old m c 1 ∗ old m c 2 ∗ old m c 3)
  | 2 => iprop(fly m c 1 ∗ new m c 0 ∗ old m c 2 ∗ old m c 3)
  | 3 => iprop(fly m c 2 ∗ new m c 0 ∗ new m c 1 ∗ old m c 3)
  | _ => iprop(rest c ∗ new m c 0 ∗ new m c 1 ∗ new m c 2 ∗ new m c 3)
theorem outP_0 : outP m c 0 = iprop(rest c ∗ old m c 0 ∗ old m c 1 ∗ old m c 2 ∗ old m c 3) := rfl
theorem outP_1 : outP m c 1 = iprop(fly m c 0 ∗ old m c 1 ∗ old m c 2 ∗ old m c 3) := rfl
theorem outP_2 : outP m c 2 = iprop(fly m c 1 ∗ new m c 0 ∗ old m c 2 ∗ old m c 3) := rfl
theorem outP_3 : outP m c 3 = iprop(fly m c 2 ∗ new m c 0 ∗ new m c 1 ∗ old m c 3) := rfl
theorem outP_4 : outP m c 4 = iprop(rest c ∗ new m c 0 ∗ new m c 1 ∗ new m c 2 ∗ new m c 3) := rfl
def stP (n : ℕ) : sProp (𝕄 F nD τ sig) := iprop(accP m c n ∗ inP m c n ∗ outP m c (n / 8) ∗ ∃ r, prngReg c r)

/-! ## A point -/

section Point

variable (t : Fin cfg0.N)
  (arg2 : Memref sig .tc .vmem S1024x1024 .bf16) (harg2 : arg2.IsWhole) (arg3 : Memref sig .tc .vmem S1x2048x1024 .bf16) (harg3 : arg3.IsWhole)
  (arg4 : Memref sig .tc .vmem S1x2048 .f32) (harg4 : arg4.IsWhole) (arg9 : Memref sig .tc .vmem S1x2048 .f32) (harg9 : arg9.IsWhole)
  (dg : S1x2048.Idx → Elt F .f32) (W : Waits sig Unit)

/-- The windows at a point, the gain's gradient at `dg`. -/
def wins (dg : S1x2048.Idx → Elt F .f32) : sProp (𝕄 F nD τ sig) :=
  iprop((arg2.view.loc (c : Thread nD τ) ↦[arg2.view.set]{fullShare} harg2.unread (gB m c t.val))
      ∗ (arg3.view.loc (c : Thread nD τ) ↦[arg3.view.set]{fullShare} harg3.unread (wB m c t.val))
      ∗ (arg4.view.loc (c : Thread nD τ) ↦[arg4.view.set]{fullShare} harg4.unread (gnB m c t.val))
      ∗ (arg9.view.loc (c : Thread nD τ) ↦[arg9.view.set]{fullShare} harg9.unread dg))

abbrev step (dg : S1x2048.Idx → Elt F .f32) : Prop :=
  iprop(wins m c t arg2 harg2 arg3 harg3 arg4 harg4 arg9 harg9 dg ∗ stP m c t.val ∗ owes (c : Thread nD τ) 0 W)
    ⊢ wp frame (wpE (defs₀ (F := F)) Variants.none c none) Set.univ (body (F := F) (grid0.coords t) arg2 harg2 arg3 harg3 arg4 harg4 arg9 harg9) (fun _ =>
      iprop(wins m c t arg2 harg2 arg3 harg3 arg4 harg4 arg9 harg9 (dgN m c (t.val + 1)) ∗ stP m c (t.val + 1) ∗ ∃ W', owes (c : Thread nD τ) 0 W'))

theorem coords_eq : ∀ t : Fin grid0.N, (grid0.coords t 0).val = t.val / 8 ∧ (grid0.coords t 1).val = t.val % 8 := by decide +kernel
theorem fa_eq : fa (grid0.coords t) = bk t.val := Fin.ext (by
  show (grid0.coords t 0).val = t.val / 8 % 4
  have := (coords_eq t).1
  have := lt_of_lt_of_eq t.isLt N_0
  omega)
theorem fk_eq : (fk (grid0.coords t)).val = t.val % 8 := (coords_eq t).2
theorem cond1_eq : ∀ t : Fin grid0.N, k0_cond1 (grid0.coords t) = 1#1 ↔ t.val = 0 := by decide +kernel
theorem cond2_eq : ∀ t : Fin grid0.N, (Scalar.cmpi .ne (Scalar.extui (Scalar.cmpi .eq (BitVec.ofNat 32 (grid0.coords t 1).val) 0#32) : BitVec 32) 0#32) = 1#1
    ↔ t.val % 8 = 0 := by decide +kernel
theorem cond3_eq : ∀ t : Fin grid0.N, k0_cond3 (grid0.coords t) = 1#1 ↔ t.val % 8 = 7 := by decide +kernel
theorem cond4_eq : ∀ t : Fin grid0.N, t.val % 8 = 7 → (k0_cond4 (grid0.coords t) = 1#1 ↔ 8 ≤ t.val) := by decide +kernel
theorem cond5_eq : ∀ t : Fin grid0.N, t.val % 8 = 7 → (k0_cond5 (grid0.coords t) = 1#1 ↔ t.val = 31) := by decide +kernel

/-- A point between a block's first and its last. -/
theorem step_mid (h0 : ¬ t.val % 8 = 0) (h7 : ¬ t.val % 8 = 7) : step m c t arg2 harg2 arg3 harg3 arg4 harg4 arg9 harg9 W (dgN m c t.val) := by
  have hd : (t.val + 1) / 8 = t.val / 8 := by omega
  have hm : (t.val + 1) % 8 = t.val % 8 + 1 := by omega
  have hb : bk (t.val + 1) = bk t.val := Fin.ext (by
    show (t.val + 1) / 8 % 4 = t.val / 8 % 4
    rw [hd])
  have key := fun dx dr => run_mid c (grid0.coords t) arg2 harg2 arg3 harg3 arg4 harg4 arg9 harg9 (fun h => h0 (by rw [(cond1_eq t).mp h]))
    (fun h => h7 ((cond3_eq t).mp h)) (fun h => h0 ((cond2_eq t).mp h)) (gB m c t.val) (wB m c t.val) (gnB m c t.val) (dgN m c t.val) (accN m c t.val)
    (xs m c) (rs m c) dx dr W
  rw [fa_eq t, fk_eq t] at key
  unfold step wins stP accP inP
  rw [if_neg h0, if_neg h0, if_neg (by omega : ¬ (t.val + 1) % 8 = 0), if_neg (by omega : ¬ (t.val + 1) % 8 = 0), hd, hm, hb, dgN_keep m c h7, accN_next m c h0]
  iintro ⟨⟨H2, H3, H4, H9⟩, ⟨HA, ⟨⟨%dx, HX⟩, ⟨%dr, HR⟩⟩, HO, HP⟩, HW⟩
  iapply (framed (key dx dr) .rfl (wp_frame_r _ _ _) (R := iprop(outP m c (t.val / 8) ∗ ∃ r, prngReg c r)) fun _ => ?post)
  case post =>
    iintro ⟨⟨H2, H3, H4, H9, HA, HX, HR, HW⟩, HO, HP⟩
    iframe H2 H3 H4 H9
    isplitr [HW]
    · isplitl [HA]; · iexact HA
      isplitl [HX HR]
      · isplitl [HX]
        · iexists _; iexact HX
        · iexists _; iexact HR
      iframe HO HP
    iexists _
    iexact HW
  iframe H2 H3 H4 H9 HA HX HR HW HO HP

/-- The first point of a later block. -/
theorem step_next (hp : ¬ t.val = 0) (h0 : t.val % 8 = 0) : step m c t arg2 harg2 arg3 harg3 arg4 harg4 arg9 harg9 W (dgN m c t.val) := by
  have hd : (t.val + 1) / 8 = t.val / 8 := by omega
  have hm : (t.val + 1) % 8 = 0 + 1 := by omega
  have hb : bk (t.val + 1) = bk t.val := Fin.ext (by
    show (t.val + 1) / 8 % 4 = t.val / 8 % 4
    rw [hd])
  have key := fun A dx dr => run_next c (grid0.coords t) arg2 harg2 arg3 harg3 arg4 harg4 arg9 harg9 (fun h => hp ((cond1_eq t).mp h))
    (fun h => by have := (cond3_eq t).mp h; omega) ((cond2_eq t).mpr h0) (gB m c t.val) (wB m c t.val) (gnB m c t.val) (dgN m c t.val) A
    (xs m c) (rs m c) dx dr W
  rw [fa_eq t, fk_eq t, h0] at key
  unfold step wins stP accP inP
  rw [if_pos h0, if_pos h0, if_neg (by omega : ¬ (t.val + 1) % 8 = 0), if_neg (by omega : ¬ (t.val + 1) % 8 = 0), hd, hm, hb, dgN_keep m c (by omega), accN_start m c h0]
  iintro ⟨⟨H2, H3, H4, H9⟩, ⟨⟨%A, HA⟩, ⟨HX, HR⟩, HO, HP⟩, HW⟩
  imod (lane_open hpn c mX bX 6 32768 (bk t.val) (wholeMX.unread (xs m c))) $$ HX with ⟨%dx, HX⟩
  imod (lane_open hpn c mR bR 7 32768 (bk t.val) (wholeMR.unread (rs m c))) $$ HR with ⟨%dr, HR⟩
  iapply (framed (key A dx dr) .rfl (wp_frame_r _ _ _) (R := iprop(outP m c (t.val / 8) ∗ ∃ r, prngReg c r)) fun _ => ?post)
  case post =>
    iintro ⟨⟨H2, H3, H4, H9, HA, HX, HR, HW⟩, HO, HP⟩
    iframe H2 H3 H4 H9
    isplitr [HW]
    · isplitl [HA]; · iexact HA
      isplitl [HX HR]
      · isplitl [HX]
        · iexists _; iexact HX
        · iexists _; iexact HR
      iframe HO HP
    iexists _
    iexact HW
  iframe H2 H3 H4 H9 HA HX HR HW HO HP

/-- The first point. -/
theorem step_first (hp : t.val = 0) (dg : S1x2048.Idx → Elt F .f32) : step m c t arg2 harg2 arg3 harg3 arg4 harg4 arg9 harg9 W dg := by
  have h0 : t.val % 8 = 0 := by rw [hp]
  have hg : dgN m c t.val = k0_pay11 := by rw [hp]; rfl
  have hd : (t.val + 1) / 8 = t.val / 8 := by omega
  have hm : (t.val + 1) % 8 = 0 + 1 := by omega
  have hb : bk (t.val + 1) = bk t.val := Fin.ext (by
    show (t.val + 1) / 8 % 4 = t.val / 8 % 4
    rw [hd])
  have key := fun A dx dr => run_first c (grid0.coords t) arg2 harg2 arg3 harg3 arg4 harg4 arg9 harg9 ((cond1_eq t).mpr hp)
    (fun h => by have := (cond3_eq t).mp h; omega) ((cond2_eq t).mpr h0) (gB m c t.val) (wB m c t.val) (gnB m c t.val) dg A
    (xs m c) (rs m c) dx dr W
  rw [fa_eq t, fk_eq t, h0] at key
  unfold step wins stP accP inP
  rw [if_pos h0, if_pos h0, if_neg (by omega : ¬ (t.val + 1) % 8 = 0), if_neg (by omega : ¬ (t.val + 1) % 8 = 0), hd, hm, hb, dgN_keep m c (by omega), accN_start m c h0, hg]
  iintro ⟨⟨H2, H3, H4, H9⟩, ⟨⟨%A, HA⟩, ⟨HX, HR⟩, HO, HP⟩, HW⟩
  imod (lane_open hpn c mX bX 6 32768 (bk t.val) (wholeMX.unread (xs m c))) $$ HX with ⟨%dx, HX⟩
  imod (lane_open hpn c mR bR 7 32768 (bk t.val) (wholeMR.unread (rs m c))) $$ HR with ⟨%dr, HR⟩
  iapply (framed (key A dx dr) .rfl (wp_frame_r _ _ _) (R := iprop(outP m c (t.val / 8) ∗ ∃ r, prngReg c r)) fun _ => ?post)
  case post =>
    iintro ⟨⟨H2, H3, H4, H9, HA, HX, HR, HW⟩, HO, HP⟩
    iframe H2 H3 H4 H9
    isplitr [HW]
    · isplitl [HA]; · iexact HA
      isplitl [HX HR]
      · isplitl [HX]
        · iexists _; iexact HX
        · iexists _; iexact HR
      iframe HO HP
    iexists _
    iexact HW
  iframe H2 H3 H4 H9 HA HX HR HW HO HP

/-- The last point of the first block. -/
theorem step_end0 (ht : t.val = 7) : step m c t arg2 harg2 arg3 harg3 arg4 harg4 arg9 harg9 W (dgN m c t.val) := by
  have hk : t.val % 8 = 7 := by omega
  have hlt : t.val < 32 := by omega
  have hb : bk t.val = 0 := Fin.ext (by
    show t.val / 8 % 4 = 0
    omega)
  have hG := res_blk m c hlt hk
  have hGb := resb_blk m c hlt hk
  rw [← fa_eq t] at hG hGb
  have key := fun dx dr => run_end0 c (grid0.coords t) arg2 harg2 arg3 harg3 arg4 harg4 arg9 harg9 (fun h => by have := (cond1_eq t).mp h; omega)
    ((cond3_eq t).mpr hk) (fun h => by have := (cond4_eq t (by omega)).mp h; omega) (fun h => by have := (cond5_eq t (by omega)).mp h; omega) (by rw [fk_eq t, hk]) (fun h => by have := (cond2_eq t).mp h; omega)
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 8 = 0), if_neg (by omega : ¬ t.val % 8 = 0), if_pos (by omega : (t.val + 1) % 8 = 0), if_pos (by omega : (t.val + 1) % 8 = 0),
    (by omega : t.val / 8 = 0), (by omega : (t.val + 1) / 8 = 1), dgN_end m c hk, accN_next m c (by omega), hb]
  rw [outP_0, outP_1]
  iintro ⟨⟨H2, H3, H4, H9⟩, ⟨HA, ⟨⟨%dx, HX⟩, ⟨%dr, HR⟩⟩, ⟨HF, HB0, HB1, HB2, HB3⟩, HP⟩, HW⟩
  iapply (framed (key dx dr) .rfl (wp_frame_r _ _ _) (R := iprop(old m c 1 ∗ old m c 2 ∗ old m c 3 ∗ ∃ r, prngReg c r)) fun _ => ?post)
  case post =>
    iintro ⟨⟨H2, H3, H4, H9, HA, HX, HR, HF, HW⟩, HB1, HB2, HB3, HP⟩
    iframe H2 H3 H4 H9 HA HX HR HF HB1 HB2 HB3 HP HW
  iframe H2 H3 H4 H9 HA HX HR HB0 HF HW HB1 HB2 HB3 HP

/-- The last point of the second block. -/
theorem step_end1 (ht : t.val = 15) : step m c t arg2 harg2 arg3 harg3 arg4 harg4 arg9 harg9 W (dgN m c t.val) := by
  have hk : t.val % 8 = 7 := by omega
  have hlt : t.val < 32 := by omega
  have hb : bk t.val = 1 := Fin.ext (by
    show t.val / 8 % 4 = 1
    omega)
  have hG := res_blk m c hlt hk
  have hGb := resb_blk m c hlt hk
  rw [← fa_eq t] at hG hGb
  have key := fun dx dr => run_end1 c (grid0.coords t) arg2 harg2 arg3 harg3 arg4 harg4 arg9 harg9 (fun h => by have := (cond1_eq t).mp h; omega)
    ((cond3_eq t).mpr hk) ((cond4_eq t (by omega)).mpr (by omega)) (fun h => by have := (cond5_eq t (by omega)).mp h; omega) (by rw [fk_eq t, hk]) (fun h => by have := (cond2_eq t).mp h; omega) 0
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 8 = 0), if_neg (by omega : ¬ t.val % 8 = 0), if_pos (by omega : (t.val + 1) % 8 = 0), if_pos (by omega : (t.val + 1) % 8 = 0),
    (by omega : t.val / 8 = 1), (by omega : (t.val + 1) / 8 = 2), dgN_end m c hk, accN_next m c (by omega), hb]
  rw [outP_1, outP_2]
  iintro ⟨⟨H2, H3, H4, H9⟩, ⟨HA, ⟨⟨%dx, HX⟩, ⟨%dr, HR⟩⟩, ⟨HF, HB1, HB2, HB3⟩, HP⟩, HW⟩
  iapply (framed (key dx dr) .rfl (wp_frame_r _ _ _) (R := iprop(old m c 2 ∗ old m c 3 ∗ ∃ r, prngReg c r)) fun _ => ?post)
  case post =>
    iintro ⟨⟨H2, H3, H4, H9, HA, HX, HR, HF, HN0, HW⟩, HB2, HB3, HP⟩
    iframe H2 H3 H4 H9 HA HX HR HF HN0 HB2 HB3 HP HW
  iframe H2 H3 H4 H9 HA HX HR HB1 HF HW HB2 HB3 HP

/-- The last point of the third block. -/
theorem step_end2 (ht : t.val = 23) : step m c t arg2 harg2 arg3 harg3 arg4 harg4 arg9 harg9 W (dgN m c t.val) := by
  have hk : t.val % 8 = 7 := by omega
  have hlt : t.val < 32 := by omega
  have hb : bk t.val = 2 := Fin.ext (by
    show t.val / 8 % 4 = 2
    omega)
  have hG := res_blk m c hlt hk
  have hGb := resb_blk m c hlt hk
  rw [← fa_eq t] at hG hGb
  have key := fun dx dr => run_end1 c (grid0.coords t) arg2 harg2 arg3 harg3 arg4 harg4 arg9 harg9 (fun h => by have := (cond1_eq t).mp h; omega)
    ((cond3_eq t).mpr hk) ((cond4_eq t (by omega)).mpr (by omega)) (fun h => by have := (cond5_eq t (by omega)).mp h; omega) (by rw [fk_eq t, hk]) (fun h => by have := (cond2_eq t).mp h; omega) 1
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 8 = 0), if_neg (by omega : ¬ t.val % 8 = 0), if_pos (by omega : (t.val + 1) % 8 = 0), if_pos (by omega : (t.val + 1) % 8 = 0),
    (by omega : t.val / 8 = 2), (by omega : (t.val + 1) / 8 = 3), dgN_end m c hk, accN_next m c (by omega), hb]
  rw [outP_2, outP_3]
  iintro ⟨⟨H2, H3, H4, H9⟩, ⟨HA, ⟨⟨%dx, HX⟩, ⟨%dr, HR⟩⟩, ⟨HF, HN0, HB2, HB3⟩, HP⟩, HW⟩
  iapply (framed (key dx dr) .rfl (wp_frame_r _ _ _) (R := iprop(new m c 0 ∗ old m c 3 ∗ ∃ r, prngReg c r)) fun _ => ?post)
  case post =>
    iintro ⟨⟨H2, H3, H4, H9, HA, HX, HR, HF, HN1, HW⟩, HN0, HB3, HP⟩
    iframe H2 H3 H4 H9 HA HX HR HF HN0 HN1 HB3 HP HW
  iframe H2 H3 H4 H9 HA HX HR HB2 HF HW HN0 HB3 HP

/-- The last point of the last block. -/
theorem step_end3 (ht : t.val = 31) : step m c t arg2 harg2 arg3 harg3 arg4 harg4 arg9 harg9 W (dgN m c t.val) := by
  have hk : t.val % 8 = 7 := by omega
  have hlt : t.val < 32 := by omega
  have hb : bk t.val = 3 := Fin.ext (by
    show t.val / 8 % 4 = 3
    omega)
  have hG := res_blk m c hlt hk
  have hGb := resb_blk m c hlt hk
  rw [← fa_eq t] at hG hGb
  have key := fun dx dr => run_end2 c (grid0.coords t) arg2 harg2 arg3 harg3 arg4 harg4 arg9 harg9 (fun h => by have := (cond1_eq t).mp h; omega)
    ((cond3_eq t).mpr hk) ((cond4_eq t (by omega)).mpr (by omega)) ((cond5_eq t (by omega)).mpr ht) (by rw [fk_eq t, hk]) (fun h => by have := (cond2_eq t).mp h; omega) 2
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 8 = 0), if_neg (by omega : ¬ t.val % 8 = 0), if_pos (by omega : (t.val + 1) % 8 = 0), if_pos (by omega : (t.val + 1) % 8 = 0),
    (by omega : t.val / 8 = 3), (by omega : (t.val + 1) / 8 = 4), dgN_end m c hk, accN_next m c (by omega), hb]
  rw [outP_3, outP_4]
  iintro ⟨⟨H2, H3, H4, H9⟩, ⟨HA, ⟨⟨%dx, HX⟩, ⟨%dr, HR⟩⟩, ⟨HF, HN0, HN1, HB3⟩, HP⟩, HW⟩
  iapply (framed (key dx dr) .rfl (wp_frame_r _ _ _) (R := iprop(new m c 0 ∗ new m c 1 ∗ ∃ r, prngReg c r)) fun _ => ?post)
  case post =>
    iintro ⟨⟨H2, H3, H4, H9, HA, HX, HR, ⟨HN3, HF⟩, HN2, HW⟩, HN0, HN1, HP⟩
    iframe H2 H3 H4 H9 HA HX HR HF HN0 HN1 HN2 HN3 HP HW
  iframe H2 H3 H4 H9 HA HX HR HB3 HF HW HN0 HN1 HP

/-- Every point. -/
theorem step_all (dg : S1x2048.Idx → Elt F .f32) (hdg : ¬ t.val = 0 → dg = dgN m c t.val) : step m c t arg2 harg2 arg3 harg3 arg4 harg4 arg9 harg9 W dg := by
  have hlt : t.val < 32 := lt_of_lt_of_eq t.isLt N_0
  by_cases hp : t.val = 0
  · exact step_first m c t arg2 harg2 arg3 harg3 arg4 harg4 arg9 harg9 W hp dg
  rw [hdg hp]
  by_cases h0 : t.val % 8 = 0
  · exact step_next m c t arg2 harg2 arg3 harg3 arg4 harg4 arg9 harg9 W hp h0
  by_cases h7 : t.val % 8 = 7
  · rcases (by omega : t.val = 7 ∨ t.val = 15 ∨ t.val = 23 ∨ t.val = 31) with h | h | h | h
    · exact step_end0 m c t arg2 harg2 arg3 harg3 arg4 harg4 arg9 harg9 W h
    · exact step_end1 m c t arg2 harg2 arg3 harg3 arg4 harg4 arg9 harg9 W h
    · exact step_end2 m c t arg2 harg2 arg3 harg3 arg4 harg4 arg9 harg9 W h
    · exact step_end3 m c t arg2 harg2 arg3 harg3 arg4 harg4 arg9 harg9 W h
  exact step_mid m c t arg2 harg2 arg3 harg3 arg4 harg4 arg9 harg9 W h0 h7

end Point

/-! ## The body's obligation -/

abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
/-- The buffers the call reads and writes by its own copies. -/
abbrev R0 : Finset (Ref sig .tc) := [main_arg2, main_arg4, main_v1_0, main_v1_1].toFinset
theorem R0_sub : R0 ⊆ Pipeline.restRefs sig spec0 := by decide

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dgN m c (t.val + 1)
  Φ n := stP m c n.val
  q _ := fullShare
  owed _ := 0

theorem A_eq (c : Dev nD) (w : Fin cfg0.W) : (dats m 0 c).A w = V m c (Pipeline.arrRef spec0 w) := by
  dsimp only [dats]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = dgN m c (t.val + 1) := by dsimp only [dats]

theorem before0_0 (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem idle3 : ∀ t : Fin grid0.N, idle0 3 (grid0.coords t) = true ↔ ¬ t.val = 0 ∧ ¬ t.val % 8 = 7 := by decide +kernel

theorem before0_3 (n : ℕ) : ∀ t : Fin cfg0.N, t.val = n + 1 → ∀ d, (dats m 0 c).before 3 t d = dgN m c (n + 1) := by
  induction n with
  | zero =>
    intro t ht d
    exact before_next t 0 ht d (fun h => absurd rfl h.1)
  | succ n ih =>
    intro t ht d
    refine before_next t (n + 1) ht d fun h => ?_
    rw [ih _ rfl d, dgN_keep m c h.2]
where
  before_next (t : Fin cfg0.N) (n : ℕ) (ht : t.val = n + 1) (d) (hn : ¬ n = 0 ∧ ¬ n % 8 = 7 →
      (dats m 0 c).before 3 ⟨n, by have := t.isLt; omega⟩ d = dgN m c (n + 1)) : (dats m 0 c).before 3 t d = dgN m c (n + 1) := by
    have hlt : t.val < 32 := lt_of_lt_of_eq t.isLt N_0
    have hN : n < cfg0.N := by have := t.isLt; omega
    have e : (⟨t.val - 1, Nat.lt_of_le_of_lt (Nat.sub_le _ _) t.isLt⟩ : Fin cfg0.N) = ⟨n, hN⟩ := Fin.ext (by dsimp only; omega)
    have hfl : (cfg0.win 3).flush ⟨n, hN⟩ = false := Bool.eq_false_iff.mpr fun h => by
      have h' : n % 32 = 31 := (flush0_3 ⟨n, hN⟩).mp h
      omega
    rw [(dats m 0 c).before_of_pos 3 t (by omega) ((cfg0.win 3).fetch_out rfl t), e, hfl, if_neg Bool.false_ne_true]
    unfold Dat.left
    cases hi : cfg0.idle 3 (cfg0.grid.coords ⟨n, hN⟩) with
    | true => exact hn ((idle3 ⟨n, hN⟩).mp hi)
    | false =>
      dsimp only
      unfold Dat.kept
      rw [Pipeline.fill_of_clip_none (cfg := cfg0) (3 : Fin cfg0.W) (cfg0.grid.coords ⟨n, hN⟩) (fun _ => rfl) d ((dats m 0 c).after 3 ⟨n, hN⟩), Window.fill_cut, after0_3]

abbrev ms0 (t : Fin cfg0.N) : Memref sig .tc .vmem S1024x1024 .bf16 := win0_0.stage (cfg0.slots t 0)
abbrev ms1 (t : Fin cfg0.N) : Memref sig .tc .vmem S1x2048x1024 .bf16 := win0_1.stage (cfg0.slots t 1)
abbrev ms2 (t : Fin cfg0.N) : Memref sig .tc .vmem S1x2048 .f32 := win0_2.stage (cfg0.slots t 2)
abbrev ms3 (t : Fin cfg0.N) : Memref sig .tc .vmem S1x2048 .f32 := win0_3.stage (cfg0.slots t 3)
theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)

def bodyPre (t : Fin cfg0.N) : sProp (𝕄 F nD τ sig) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (t : Fin cfg0.N) : sProp (𝕄 F nD τ sig) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

/-- What the last window is left at. -/
theorem left3 (t : Fin cfg0.N) : owns (c : Thread nD τ) (ms3 t) fullShare (dgN m c (t.val + 1)) ⊢ (dats m 0 c).leavesExact 3 t := by
  have hlt : t.val < 32 := lt_of_lt_of_eq t.isLt N_0
  cases hi : cfg0.idle 3 (cfg0.grid.coords t) with
  | false =>
    unfold Dat.leavesExact
    rw [hi, after0_3]
  | true =>
    obtain ⟨h0, h7⟩ := (idle3 t).mp hi
    rw [(dats m 0 c).leavesExact_idle 3 t hi (Bool.eq_false_iff.mpr fun h => by
      have := (flush0_3 _).mp h
      omega)]
    have hb := before0_3 m c (t.val - 1) t (by omega) (dgN m c (t.val + 1))
    rw [(by omega : t.val - 1 + 1 = t.val)] at hb
    iintro H
    iexists (dgN m c (t.val + 1))
    rw [hb, dgN_keep m c h7]
    iexact H

theorem gB_eq (t : Fin cfg0.N) : gB m c t.val = iblk m c 0 t := by unfold gB; rw [pt_val]; try rfl
theorem wB_eq (t : Fin cfg0.N) : wB m c t.val = iblk m c 1 t := by unfold wB; rw [pt_val]; try rfl
theorem gnB_eq (t : Fin cfg0.N) : gnB m c t.val = iblk m c 2 t := by unfold gnB; rw [pt_val]; try rfl

theorem sound_body (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = stP m c (t.val + 1) from rfl, show (dats m 0 c).Φ t.castSucc = stP m c t.val from rfl, after0_0, after0_1, after0_2]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩⟩
  have key := step_all m c t (ms0 t) (hs0 t) (ms1 t) (hs1 t) (ms2 t) (hs2 t) (ms3 t) (hs3 t) W ((dats m 0 c).before 3 t d3) (fun h => by
    rw [before0_3 m c (t.val - 1) t (by omega) d3]
    congr 1
    omega)
  unfold step wins at key
  iapply (triple_restated key rfl .rfl fun _ => ?post)
  case post =>
    iintro ⟨⟨H0, H1, H2, H3⟩, HΦ, ⟨%W', HW⟩⟩
    isplitl [HΦ]; · iexact HΦ
    isplitl [HW]
    · iexists W'; isplitr; · ipureintro; exact fun _ _ => Or.inl trivial
      iexact HW
    isplitl [H0]; · iapply (own_out c (ms0 t) (hs0 t) _ _ (gB_eq m c t)); iexact H0
    isplitl [H1]; · iapply (own_out c (ms1 t) (hs1 t) _ _ (wB_eq m c t)); iexact H1
    isplitl [H2]; · iapply (own_out c (ms2 t) (hs2 t) _ _ (gnB_eq m c t)); iexact H2
    iapply ((own_out c (ms3 t) (hs3 t) _ _ rfl).trans (left3 m c t)); iexact H3
  isplitl [H0 H1 H2 H3]
  · isplitl [H0]; · iapply (own_in c (ms0 t) (hs0 t) _ _ ((before0_0 m c t d0).trans (gB_eq m c t).symm)); iexact H0
    isplitl [H1]; · iapply (own_in c (ms1 t) (hs1 t) _ _ ((before0_1 m c t d1).trans (wB_eq m c t).symm)); iexact H1
    isplitl [H2]; · iapply (own_in c (ms2 t) (hs2 t) _ _ ((before0_2 m c t d2).trans (gnB_eq m c t).symm)); iexact H2
    iapply (own_in c (ms3 t) (hs3 t) _ _ rfl); iexact H3
  iframe HΦ HW

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The routed buffers at the end. -/
def endY (c : Dev nD) (b : Ref sig .tc) : Buf (Elt F) ((c : Thread nD τ).loc b) :=
  if h : b = main_v1_0 then h ▸ (wholeO.unread (resO m c)) else if h : b = main_v1_1 then h ▸ (wholeOb.unread (resOb m c)) else V m c b

theorem routed_eq (W : (b : Ref sig .tc) → Buf (Elt F) ((c : Thread nD τ).loc b)) :
    (Pipeline.routed R0 c W : sProp (𝕄 F nD τ sig)) = iprop((((c : Thread nD τ).loc main_arg2) ↦{fullShare} W main_arg2)
      ∗ (((c : Thread nD τ).loc main_arg4) ↦{fullShare} W main_arg4) ∗ (((c : Thread nD τ).loc main_v1_0) ↦{fullShare} W main_v1_0)
      ∗ (((c : Thread nD τ).loc main_v1_1) ↦{fullShare} W main_v1_1)) :=
  BI.bigSep_eq_bigSepL_of_eq [main_arg2, main_arg4, main_v1_0, main_v1_1] (by decide) (by decide) _

theorem ownSems0_eq : (Pipeline.ownSems0 osem0 c : sProp (𝕄 F nD τ sig))
    = iprop(semVal ((c : Thread nD τ), SemLoc.dma (6 : DmaSem sig)) 0 ∗ semVal ((c : Thread nD τ), SemLoc.dma (7 : DmaSem sig)) 0
      ∗ semVal ((c : Thread nD τ), SemLoc.dma (8 : DmaSem sig)) 0 ∗ semVal ((c : Thread nD τ), SemLoc.dma (9 : DmaSem sig)) 0) := by
  rw [Pipeline.ownSems0_eq_of_list c osem0 [0, 1, 2, 3] (by decide) (by decide)]
  rfl

theorem blocks (f : Buf (Elt F) (mO.view.loc (c : Thread nD τ))) (fb : Buf (Elt F) (mOb.view.loc (c : Thread nD τ))) :
    (iprop((mO.view.loc (c : Thread nD τ) ↦[mO.view.set]{fullShare} f) ∗ (mOb.view.loc (c : Thread nD τ) ↦[mOb.view.set]{fullShare} fb)) : sProp (𝕄 F nD τ sig))
      = iprop(block c 0 f fb ∗ block c 1 f fb ∗ block c 2 f fb ∗ block c 3 f fb) := by
  rw [arr_blocks c mO f, arr_blocks c mOb fb]
  unfold block
  refine (fun (A B : sProp (𝕄 F nD τ sig)) (h1 : A ⊢ B) (h2 : B ⊢ A) => (Entails.antisymm h1 h2 : A = B)) _ _ ?_ ?_
  · iintro ⟨⟨A0, A1, A2, A3⟩, B0, B1, B2, B3⟩
    iframe A0 B0 A1 B1 A2 B2 A3 B3
  · iintro ⟨⟨A0, B0⟩, ⟨A1, B1⟩, ⟨A2, B2⟩, A3, B3⟩
    iframe A0 A1 A2 A3 B0 B1 B2 B3

/-- The two read arrays and the two written ones, as the call's pieces. -/
theorem arrays_eq (f : Buf (Elt F) (mO.view.loc (c : Thread nD τ))) (fb : Buf (Elt F) (mOb.view.loc (c : Thread nD τ))) :
    (iprop((((c : Thread nD τ).loc main_arg2) ↦{fullShare} V m c main_arg2)
      ∗ (((c : Thread nD τ).loc main_arg4) ↦{fullShare} V m c main_arg4) ∗ (((c : Thread nD τ).loc main_v1_0) ↦{fullShare} f)
      ∗ (((c : Thread nD τ).loc main_v1_1) ↦{fullShare} fb)) : sProp (𝕄 F nD τ sig))
    = iprop((mX.view.loc (c : Thread nD τ) ↦[mX.view.set]{fullShare} wholeMX.unread (xs m c))
      ∗ (mR.view.loc (c : Thread nD τ) ↦[mR.view.set]{fullShare} wholeMR.unread (rs m c))
      ∗ block c 0 f fb ∗ block c 1 f fb ∗ block c 2 f fb ∗ block c 3 f fb) := by
  rw [← blocks c f fb]
  unfold xs rs
  rw [wholeMX.unread_read, wholeMR.unread_read]
  rw [whole_pt c (b := main_arg2), whole_pt c (b := main_arg4), whole_pt c (b := main_v1_0), whole_pt c (b := main_v1_1)]

theorem ends_in : Pipeline.Ends spec0 osem0 R0 c (V m c) ⊢ (dats m 0 c).Φ 0 := by
  rw [show (dats m 0 c).Φ 0 = stP m c 0 from rfl]
  unfold Pipeline.Ends stP accP inP
  rw [routed_eq, ownSems0_eq, scopedRest0_eq, arrays_eq, if_pos (by decide), if_pos (by decide), show 0 / 8 = 0 from rfl, outP_0,
    whole_pt' c cc0_scratch0, whole_pt' c cc0_scratch1, whole_pt' c cc0_scratch2, whole_pt' c cc0_scratch3, whole_pt' c cc0_scratch4]
  unfold idle rest
  iintro ⟨⟨HX, HR, HB0, HB1, HB2, HB3⟩, ⟨S6, S7, S8, S9⟩, ⟨HA, BX, BR, BD, BDb⟩, HP⟩
  iframe HA S6 BX HX S7 BR HR S8 S9 BD BDb HB0 HB1 HB2 HB3 HP

theorem endY_arg2 : endY m c main_arg2 = V m c main_arg2 := by
  unfold endY; rw [dif_neg (by decide), dif_neg (by decide)]
theorem endY_arg4 : endY m c main_arg4 = V m c main_arg4 := by
  unfold endY; rw [dif_neg (by decide), dif_neg (by decide)]
theorem endY_o : endY m c main_v1_0 = wholeO.unread (resO m c) := by
  unfold endY; rw [dif_pos rfl]
theorem endY_ob : endY m c main_v1_1 = wholeOb.unread (resOb m c) := by
  unfold endY; rw [dif_neg (by decide), dif_pos rfl]

theorem ends_out : (dats m 0 c).Φ (Fin.last cfg0.N) ⊢ Pipeline.Ends spec0 osem0 R0 c (endY m c) := by
  rw [show (dats m 0 c).Φ (Fin.last cfg0.N) = stP m c 32 from congrArg (stP m c) N_0]
  unfold Pipeline.Ends stP accP inP
  rw [routed_eq, endY_arg2, endY_arg4, endY_o, endY_ob, ownSems0_eq, scopedRest0_eq, arrays_eq, if_pos (by decide), if_pos (by decide), show 32 / 8 = 4 from rfl, outP_4,
    whole_pt' c cc0_scratch0, whole_pt' c cc0_scratch1, whole_pt' c cc0_scratch2, whole_pt' c cc0_scratch3, whole_pt' c cc0_scratch4]
  unfold idle rest
  iintro ⟨HA, ⟨⟨S6, BX, HX⟩, S7, BR, HR⟩, ⟨⟨S8, S9, BD, BDb⟩, HB0, HB1, HB2, HB3⟩, HP⟩
  iframe HX HR HB0 HB1 HB2 HB3 S6 S7 S8 S9 HA BX BR BD BDb HP

set_option backward.isDefEq.respectTransparency.types false in
/-- Every run ends with the results and the gain's gradient at what the points leave, everything else as launched,
    no transfer under way. -/
theorem run_main : θ_run defs (onTc (τ := τ) (main (F := F))) (s₀ m ρ) (fun r => Pipeline.RoutedPost cfgs (dats m) 0 R0 (V m) (endY m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl) (howed := fun _ _ => rfl)
    (V := V m) (hmain := Pipeline.hmain_prefix cfgs 0 defs₀ Variants.none m main hostOps0 hostOps0_sub hostOps0_fresh main_chain)
    (hA := A_eq m) (R := R0) (hR := R0_sub) (Y := endY m) (hin := ends_in m) (hout := ends_out m)

/-- The arguments as launched, the results at what the points leave. -/
theorem run_all : θ_run defs (onTc (τ := τ) (main (F := F))) ⟨m, fun _ => 0, ρ⟩ (fun r => (∀ c : Dev nD,
      (r.2.mem ((c.tc : Thread nD τ).loc main_v1_0) = wholeO.unread (resO m c)
        ∧ r.2.mem ((c.tc : Thread nD τ).loc main_v1_1) = wholeOb.unread (resOb m c)
        ∧ r.2.mem ((c.tc : Thread nD τ).loc main_v1_2) = (dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ H => ⟨fun c => by
      have h := H.1
      exact ⟨⟨((h c).2.1 main_v1_0 (by decide)).trans (endY_o m c), ((h c).2.1 main_v1_1 (by decide)).trans (endY_ob m c), (h c).1 3⟩,
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2.1 main_arg2 (by decide)).trans ((endY_arg2 m c).trans (V_main_arg2 m c)),
        ((h c).2.2 main_arg3 (Finset.mem_sdiff.mpr ⟨Pipeline.mem_restRefs_of main_arg3 (by decide) (by decide), by decide⟩)).trans (V_main_arg3 m c),
        ((h c).2.1 main_arg4 (by decide)).trans ((endY_arg4 m c).trans (V_main_arg4 m c))⟩, H.2⟩) (run_main m ρ)

end Cert.GradMid

end
-- ==== Proof.NormGrad.Spec.lean ====
/-
  The gradient of the root mean square norm, row by row, in the kernel's form and in the plain
  one, and why they agree.
-/
import proofs.«01_k».proof.Proof.Prod.Root
import proofs.«01_k».proof.Proof.Prod.Common
import Idealize.ShloMosaic.Lib.Pointwise
import Idealize.ShloMosaic.Lib.ValueIdx

noncomputable section

open Idealize.ShloMosaic Cert.Prod
open scoped BigOperators

namespace Cert.NormGrad

/-- The row's mean square, raised by the small constant. -/
def mean (row : Fin 2048 → EReal) : EReal :=
  Ideal.div (∑ k, row k * row k) (Ideal.ofBits .f32 0x45000000#32) + Ideal.ofBits .f32 0x358637BD#32

theorem root_eq (row : Fin 2048 → EReal) : root row = Ideal.rsqrt (mean row) := rfl

/-- The norm's input gradient as differentiation writes it: `d` arrives at the output, `x` is the
    row, `g` the gain and `e` what is added from the other branch. -/
def plain (d x g : Fin 2048 → EReal) (e : EReal) (q : Fin 2048) : EReal :=
  let u := Ideal.div ((∑ k, x k * (d k * g k)) * (Ideal.ofBits .f32 0xBF000000#32 * Ideal.div (root x) (mean x))) (Ideal.ofBits .f32 0x45000000#32)
  e + d q * g q * root x + x q * u + u * x q

/-- The same gradient as the kernel writes it. -/
def joined (d x g : Fin 2048 → EReal) (e : EReal) (q : Fin 2048) : EReal :=
  root x * (d q * g q - x q * root x * Ideal.div (∑ k, d k * g k * (x k * root x)) (Ideal.ofBits .f32 0x45000000#32)) + e

theorem bits_count : Ideal.ofBits .f32 0x45000000#32 = ((2048 : ℝ) : EReal) := by
  simp [Ideal.ofBits, Ideal.ieee, -EReal.coe_mul]
  norm_num

theorem bits_half : Ideal.ofBits .f32 0xBF000000#32 = ((-(1/2) : ℝ) : EReal) := by
  simp [Ideal.ofBits, Ideal.ieee, -EReal.coe_mul]
  norm_num

theorem bits_small : ∃ e : ℝ, 0 < e ∧ Ideal.ofBits .f32 0x358637BD#32 = (e : EReal) := by
  refine ⟨_, ?_, by simp [Ideal.ofBits, Ideal.ieee, -EReal.coe_mul]; rfl⟩
  norm_num

theorem sq_nonneg (x : EReal) : 0 ≤ x * x := by
  induction x with
  | bot => simp
  | top => simp
  | coe r => rw [← EReal.coe_mul]; exact_mod_cast mul_self_nonneg r

/-- The mean raised by the small constant is a positive real number, or infinite. -/
theorem mean_cases (x : Fin 2048 → EReal) : (∃ r : ℝ, 0 < r ∧ mean x = (r : EReal)) ∨ mean x = ⊤ := by
  obtain ⟨e, he, hb⟩ := bits_small
  have hs : 0 ≤ ∑ k, x k * x k := Finset.sum_nonneg fun k _ => sq_nonneg _
  unfold mean
  rw [hb, bits_count, Ideal.div_coe (by norm_num)]
  generalize (∑ k, x k * x k) = s at hs
  induction s with
  | bot => simp at hs
  | top => right; rw [EReal.top_mul_coe_of_pos (by norm_num)]; rfl
  | coe r =>
    left
    have hr : 0 ≤ r := by exact_mod_cast hs
    refine ⟨r * (1 / 2048) + e, by positivity, ?_⟩
    rw [EReal.coe_add, EReal.coe_mul]

/-- The root is a real number that is not negative, and its quotient by the mean is its cube. -/
theorem root_cases (x : Fin 2048 → EReal) : ∃ r : ℝ, 0 ≤ r ∧ root x = (r : EReal) ∧ Ideal.div (root x) (mean x) = ((r * r * r : ℝ) : EReal) := by
  rcases mean_cases x with ⟨s, hs, h⟩ | h
  · refine ⟨(Real.sqrt s)⁻¹, by positivity, ?_, ?_⟩
    · rw [root_eq, h, Ideal.rsqrt_coe, if_neg (not_lt.mpr hs.le), if_neg hs.ne']
    · rw [root_eq, h, Ideal.rsqrt_coe, if_neg (not_lt.mpr hs.le), if_neg hs.ne', Ideal.div_coe hs.ne', ← EReal.coe_mul]
      congr 1
      have h2 : Real.sqrt s * Real.sqrt s = s := Real.mul_self_sqrt hs.le
      have h3 : (Real.sqrt s)⁻¹ * (Real.sqrt s)⁻¹ = 1 / s := by rw [← mul_inv, h2, one_div]
      rw [mul_assoc, h3]
  · refine ⟨0, le_refl _, ?_, ?_⟩
    · rw [root_eq, h, Ideal.rsqrt_top]; rfl
    · rw [root_eq, h, Ideal.rsqrt_top]
      simp [Ideal.div]

/-- A real factor that is not negative comes out of a sum. -/
theorem sum_mul_real {ι : Type*} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem real_mul_sub {r : ℝ} (hr : 0 ≤ r) (a b : EReal) : (r : EReal) * (a - b) = (r : EReal) * a - (r : EReal) * b := by
  rw [sub_eq_add_neg, sub_eq_add_neg, EReal.left_distrib_of_nonneg_of_ne_top (by exact_mod_cast hr) (EReal.coe_ne_top r), mul_neg]

theorem halves (z : EReal) : z * ((-(1/2) : ℝ) : EReal) + z * ((-(1/2) : ℝ) : EReal) = -z := by
  induction z with
  | bot => rw [EReal.bot_mul_coe_of_neg (by norm_num)]; rfl
  | top => rw [EReal.top_mul_coe_of_neg (by norm_num)]; rfl
  | coe r => rw [← EReal.coe_mul, ← EReal.coe_add, ← EReal.coe_neg]; congr 1; ring

theorem joined_eq (d x g : Fin 2048 → EReal) (e : EReal) (q : Fin 2048) : joined d x g e q = plain d x g e q := by
  obtain ⟨r, hr, h1, h2⟩ := root_cases x
  unfold joined plain
  rw [h2, h1, bits_count, bits_half, Ideal.div_coe (by norm_num), Ideal.div_coe (by norm_num)]
  have hsum : (∑ k, d k * g k * (x k * (r : EReal))) = (∑ k, x k * (d k * g k)) * (r : EReal) := by
    rw [← sum_mul_real _ _ hr]
    exact Finset.sum_congr rfl fun k _ => by rw [← mul_assoc, mul_comm (d k * g k)]
  rw [hsum, real_mul_sub hr]
  generalize (∑ k, x k * (d k * g k)) = s
  show _ = e + d q * g q * (r : EReal) + x q * _ + _ * x q
  have e1 : (r : EReal) * (x q * (r : EReal) * (s * (r : EReal) * ((1 / 2048 : ℝ) : EReal))) = x q * s * ((r * r * r * (1 / 2048) : ℝ) : EReal) := by
    rw [EReal.coe_mul, EReal.coe_mul, EReal.coe_mul]
    ac_rfl
  have e2 : x q * (s * (((-(1/2) : ℝ) : EReal) * ((r * r * r : ℝ) : EReal)) * ((1 / 2048 : ℝ) : EReal)) = x q * s * ((r * r * r * (1 / 2048) : ℝ) : EReal) * ((-(1/2) : ℝ) : EReal) := by
    rw [EReal.coe_mul (r * r * r)]
    ac_rfl
  rw [e1, mul_comm (_ * _) (x q), e2, add_assoc, halves, mul_comm (r : EReal), sub_eq_add_neg, add_assoc, add_comm (-_) e, ← add_assoc, add_comm _ e]

/-- A sum over two axes of one coordinate each is its only entry. -/
theorem reduce_outer {n : ℕ} (h : (⟨3, ![1, n, 1]⟩ : Shape).ReducesTo [0, 2] ⟨1, ![n]⟩) (v : (⟨3, ![1, n, 1]⟩ : Shape).Idx → EReal) (init : EReal) (t : Fin n) :
    Ideal.hostReduceAdd h v init (ix1 t) = init + v (ix3 0 t 0) := by
  have hd : ∀ i, (h.drop i (0 : Fin 1)).val = (i (1 : Fin 3)).val := fun i => rfl
  unfold Ideal.hostReduceAdd
  rw [Finset.sum_eq_single_of_mem (ix3 0 t 0)]
  · rw [Finset.mem_filter]
    refine ⟨Finset.mem_univ _, funext fun b => ?_⟩
    fin_cases b
    exact Fin.ext (hd _)
  · intro i hi hne
    refine absurd (funext fun a => ?_) hne
    have h1 := congrArg (fun y : (⟨1, ![n]⟩ : Shape).Idx => (y (0 : Fin 1)).val) (Finset.mem_filter.mp hi).2
    have h2 : (i (1 : Fin 3)).val = t.val := (hd i).symm.trans h1
    fin_cases a
    · exact Fin.ext (Nat.lt_one_iff.mp (i (0 : Fin 3)).isLt)
    · exact Fin.ext h2
    · exact Fin.ext (Nat.lt_one_iff.mp (i (2 : Fin 3)).isLt)

theorem reduce_leading {n : ℕ} (h : (⟨3, ![1, 1, n]⟩ : Shape).ReducesTo [0, 1] ⟨1, ![n]⟩) (v : (⟨3, ![1, 1, n]⟩ : Shape).Idx → EReal) (init : EReal) (t : Fin n) :
    Ideal.hostReduceAdd h v init (ix1 t) = init + v (ix3 0 0 t) := by
  have hd : ∀ i, (h.drop i (0 : Fin 1)).val = (i (2 : Fin 3)).val := fun i => rfl
  unfold Ideal.hostReduceAdd
  rw [Finset.sum_eq_single_of_mem (ix3 0 0 t)]
  · rw [Finset.mem_filter]
    refine ⟨Finset.mem_univ _, funext fun b => ?_⟩
    fin_cases b
    exact Fin.ext (hd _)
  · intro i hi hne
    refine absurd (funext fun a => ?_) hne
    have h1 := congrArg (fun y : (⟨1, ![n]⟩ : Shape).Idx => (y (0 : Fin 1)).val) (Finset.mem_filter.mp hi).2
    have h2 : (i (2 : Fin 3)).val = t.val := (hd i).symm.trans h1
    fin_cases a
    · exact Fin.ext (Nat.lt_one_iff.mp (i (0 : Fin 3)).isLt)
    · exact Fin.ext (Nat.lt_one_iff.mp (i (1 : Fin 3)).isLt)
    · exact Fin.ext h2

end Cert.NormGrad

end
-- ==== Proof.NormGrad.MidValue.lean ====
/-
  What the call joining a product with the norm's gradient leaves, entry by entry.
-/
import proofs.«01_k».proof.Proof.NormGrad.MidFrame
import proofs.«01_k».proof.Proof.NormGrad.Spec
import proofs.«01_k».proof.Proof.Mix.Spec
import proofs.«01_k».proof.Proof.Prod.Slabs
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)
open scoped BigOperators

namespace Cert.GradMid

open Cert.GradMidIdeal Cert.GradMidIdeal.Gen Cert.NormGrad Cert.Mix Cert.Prod

/-! ## The pieces the body computes -/

theorem pay1_at (A : FVec Ideal S512x2048 .f32) (X : FVec Ideal S512x1024 .bf16) (Y : FVec Ideal S1x2048x1024 .bf16) (r : Fin 512) (d : Fin 2048) :
    (k0_pay1 (F := Ideal) A X (k0_pay13 Y) (ix2 r d) : EReal) = A (ix2 r d) + ∑ k : Fin 1024, (X (ix2 r k) : EReal) * (Y (ix3 (0 : Fin 1) d k) : EReal) := by
  pointwise [k0_pay1, k0_pay13]

theorem pay2_at (A : FVec Ideal S512x2048 .f32) (X : FVec Ideal S512x1024 .bf16) (Y : FVec Ideal S1x2048x1024 .bf16) (r : Fin 512) (d : Fin 2048) :
    (k0_pay2 (F := Ideal) A X Y (ix2 r d) : EReal) = A (ix2 r d) + ∑ k : Fin 1024, (X (ix2 r k) : EReal) * (Y (ix3 (0 : Fin 1) d k) : EReal) := by
  pointwise [k0_pay2]

theorem pay5_at (X : FVec Ideal S128x2048 .f32) (r : Fin 128) (z : Fin 1) :
    (k0_pay5 (F := Ideal) X (ix2 r z) : EReal) = root fun k => X (ix2 r k) := by
  pointwise [k0_pay5]
  rfl

theorem pay9_at (A X R : FVec Ideal S128x2048 .f32) (G : FVec Ideal S1x2048 .f32) (r : Fin 128) (d : Fin 2048) :
    (k0_pay9 (F := Ideal) A X G R (ix2 r d) : EReal)
      = joined (fun k => A (ix2 r k)) (fun k => X (ix2 r k)) (fun k => G (ix2 (0 : Fin 1) k)) (R (ix2 r d)) d := by
  pointwise [k0_pay9, k0_pay8, k0_pay6, pay5_at]
  rfl

theorem pay3_at (A X R : FVec Ideal S128x2048 .f32) (G : FVec Ideal S1x2048 .f32) (r : Fin 128) (d : Fin 2048) :
    (k0_pay3 (F := Ideal) (k0_pay10 A X G R) (ix2 r d) : EReal)
      = joined (fun k => A (ix2 r k)) (fun k => X (ix2 r k)) (fun k => G (ix2 (0 : Fin 1) k)) (R (ix2 r d)) d := by
  pointwise [k0_pay3, k0_pay10, k0_pay8, k0_pay6, pay5_at]
  rfl

theorem pay4_at (A X : FVec Ideal S128x2048 .f32) (D : FVec Ideal S1x2048 .f32) (d : Fin 2048) :
    (k0_pay4 (F := Ideal) (k0_pay7 A X) D (ix2 (0 : Fin 1) d) : EReal)
      = D (ix2 (0 : Fin 1) d) + ∑ r : Fin 128, (A (ix2 r d) : EReal) * (X (ix2 r d) * root fun k => X (ix2 r k)) := by
  pointwise [k0_pay4, k0_pay7, k0_pay6, pay5_at]

theorem pay11_at (z : Fin 1) (d : Fin 2048) : (k0_pay11 (F := Ideal) (ix2 z d) : EReal) = 0 := by
  pointwise [k0_pay11]

theorem pay12_at (r : Fin 1024) (d : Fin 2048) : (k0_pay12 (F := Ideal) (ix2 r d) : EReal) = 0 := by
  pointwise [k0_pay12]

/-! ## The pieces read at their entries -/

/-- Off the last piece written, the earlier ones. -/
theorem canon_off {s : Shape} {e : EltTy} {r : Rect s} (w : r.shape.Idx → Elt Ideal e) (L : List (View.Piece (Elt Ideal) s e)) {y : s.Idx} (h : y ∉ r.set) :
    View.canon (⟨r, w⟩ :: L) y = View.canon L y := View.canon_cons_of_not_mem _ _ h

theorem emb_top (r : Fin 512) (d : Fin 2048) : topR.emb (ix2 r d) = (ix2 (⟨r.val, by omega⟩ : Fin 1024) d : S1024x2048.Idx) := by
  funext a
  fin_cases a
  · exact Fin.ext (by show 0 + 1 * r.val = r.val; omega)
  · exact Fin.ext (by show 0 + 1 * d.val = d.val; omega)
theorem emb_bot (r : Fin 512) (d : Fin 2048) : botR.emb (ix2 r d) = (ix2 (⟨512 + r.val, by omega⟩ : Fin 1024) d : S1024x2048.Idx) := by
  funext a
  fin_cases a
  · exact Fin.ext (by show 512 + 1 * r.val = 512 + r.val; omega)
  · exact Fin.ext (by show 0 + 1 * d.val = d.val; omega)
theorem emb_topG (r : Fin 512) (d : Fin 1024) : topG.emb (ix2 r d) = (ix2 (⟨r.val, by omega⟩ : Fin 1024) d : S1024x1024.Idx) := by
  funext a
  fin_cases a
  · exact Fin.ext (by show 0 + 1 * r.val = r.val; omega)
  · exact Fin.ext (by show 0 + 1 * d.val = d.val; omega)
theorem emb_botG (r : Fin 512) (d : Fin 1024) : botG.emb (ix2 r d) = (ix2 (⟨512 + r.val, by omega⟩ : Fin 1024) d : S1024x1024.Idx) := by
  funext a
  fin_cases a
  · exact Fin.ext (by show 512 + 1 * r.val = 512 + r.val; omega)
  · exact Fin.ext (by show 0 + 1 * d.val = d.val; omega)

/-- The accumulator after a point, at an entry. -/
theorem accS_at (A : FVec Ideal S1024x2048 .f32) (g : FVec Ideal S1024x1024 .bf16) (w : FVec Ideal S1x2048x1024 .bf16) (r : Fin 1024) (d : Fin 2048) :
    (accS (F := Ideal) A g w (ix2 r d) : EReal) = A (ix2 r d) + ∑ k : Fin 1024, (g (ix2 r k) : EReal) * (w (ix3 (0 : Fin 1) d k) : EReal) := by
  unfold accS
  by_cases h : r.val < 512
  · have hy : (ix2 r d : S1024x2048.Idx) = topR.emb (ix2 (⟨r.val, h⟩ : Fin 512) d) := (emb_top ⟨r.val, h⟩ d).symm
    have hn : (ix2 r d : S1024x2048.Idx) ∉ botR.set := fun hm => by
      have h2 := ((mem_rows (h := 512) (lo := 512) (k0_off3_inb 1) (ix2 r d)).mp hm).1
      have h3 : 512 ≤ r.val := h2
      omega
    rw [canon_off _ _ hn, hy, View.canon_cons_emb]
    refine (pay1_at _ _ w ⟨r.val, h⟩ d).trans ?_
    refine congrArg₂ (· + ·) rfl (Finset.sum_congr rfl fun k _ => ?_)
    exact congrArg (fun y => (g y : EReal) * (w (ix3 (0 : Fin 1) d k) : EReal)) (emb_topG ⟨r.val, h⟩ k)
  · have hy : (ix2 r d : S1024x2048.Idx) = botR.emb (ix2 (⟨r.val - 512, by omega⟩ : Fin 512) d) :=
      ((emb_bot ⟨r.val - 512, by omega⟩ d).trans (congrArg (fun z : Fin 1024 => (ix2 z d : S1024x2048.Idx)) (Fin.ext (by show 512 + (r.val - 512) = r.val; omega)))).symm
    rw [hy, View.canon_cons_emb]
    refine (pay2_at _ _ w ⟨r.val - 512, by omega⟩ d).trans ?_
    refine congrArg₂ (· + ·) rfl (Finset.sum_congr rfl fun k _ => ?_)
    exact congrArg (fun y => (g y : EReal) * (w (ix3 (0 : Fin 1) d k) : EReal))
      ((emb_botG ⟨r.val - 512, by omega⟩ k).trans (congrArg (fun z : Fin 1024 => (ix2 z k : S1024x1024.Idx)) (Fin.ext (by show 512 + (r.val - 512) = r.val; omega))))

theorem emb_row (k : Fin k0_t1_loop.trips) (r : Fin 128) (d : Fin 2048) (h : 128 * k.val + r.val < 1024) :
    (rowR k).emb (ix2 r d) = (ix2 (⟨128 * k.val + r.val, h⟩ : Fin 1024) d : S1024x2048.Idx) := by
  have e : ∀ (off : Fin 2 → ℕ) (e : off = ![128 * k.val, 0]) (inb), (Rect.unit (s := S1024x2048) off S128x2048.size inb).emb (ix2 r d)
      = (ix2 (⟨128 * k.val + r.val, h⟩ : Fin 1024) d : S1024x2048.Idx) := by
    intro off e inb
    subst e
    funext a
    fin_cases a
    · exact Fin.ext (by show 128 * k.val + 1 * r.val = 128 * k.val + r.val; omega)
    · exact Fin.ext (by show 0 + 1 * d.val = d.val; omega)
  exact e _ ClosedOff.eq _

theorem ld_row (A : FVec Ideal S1024x2048 .f32) (k : Fin k0_t1_loop.trips) (r : Fin 128) (d : Fin 2048) (h : 128 * k.val + r.val < 1024) :
    View.ld (Val := Elt Ideal) (e' := .f32) A (rowR k) (ix2 r d) = A (ix2 (⟨128 * k.val + r.val, h⟩ : Fin 1024) d) := congrArg A (emb_row k r d h)

section Loop

variable (A X R : FVec Ideal S1024x2048 .f32) (G D : FVec Ideal S1x2048 .f32)

/-- The gradient the loop has written, at an entry. -/
theorem dx_at : ∀ n ≤ 8, ∀ (r : Fin 1024) (d : Fin 2048), r.val < 128 * n →
    (View.canon (dxL (F := Ideal) A X R G n) (ix2 r d) : EReal)
      = joined (fun k => A (ix2 r k)) (fun k => X (ix2 r k)) (fun k => G (ix2 (0 : Fin 1) k)) (R (ix2 r d)) d := by
  intro n
  induction n with
  | zero => intro _ r d h; omega
  | succ n ih =>
    intro hn r d h
    have hk : n < k0_t1_loop.trips := lt_of_lt_of_eq (Nat.lt_of_succ_le hn) trips_eq.symm
    have es := dxL_succ (F := Ideal) A X R G ⟨n, hk⟩
    dsimp only at es
    rw [es]
    by_cases hr : r.val < 128 * n
    · have hm : (ix2 r d : S1024x2048.Idx) ∉ (rowR ⟨n, hk⟩).set := fun hm => by
        have h2 : 128 * n ≤ r.val := ((mem_rowR ⟨n, hk⟩ (ix2 r d)).mp hm).1
        omega
      rw [canon_off _ _ hm]
      exact ih (by omega) r d hr
    · obtain ⟨q, hq, rfl⟩ : ∃ (q : Fin 128) (hq : 128 * n + q.val < 1024), r = ⟨128 * n + q.val, hq⟩ :=
        ⟨⟨r.val - 128 * n, by omega⟩, by show 128 * n + (r.val - 128 * n) < 1024; omega, Fin.ext (by show r.val = 128 * n + (r.val - 128 * n); omega)⟩
      rw [← emb_row ⟨n, hk⟩ q d hq, View.canon_cons_emb]
      refine (pay9_at _ _ _ G q d).trans ?_
      have e : ∀ (Y : FVec Ideal S1024x2048 .f32) (k : Fin 2048), View.ld (Val := Elt Ideal) (e' := .f32) Y (rowR ⟨n, hk⟩) (ix2 q k) = Y (ix2 (⟨128 * n + q.val, hq⟩ : Fin 1024) k) :=
        fun Y k => ld_row Y ⟨n, hk⟩ q k hq
      rw [emb_row ⟨n, hk⟩ q d hq]
      exact congr (congr (congrArg₂ joined (funext fun k => e A k) (funext fun k => e X k)) rfl) (e R d) ▸ rfl

theorem dxb_at : ∀ n ≤ 8, ∀ (r : Fin 1024) (d : Fin 2048), r.val < 128 * n →
    (View.canon (dxbL (F := Ideal) A X R G n) (ix2 r d) : EReal)
      = joined (fun k => A (ix2 r k)) (fun k => X (ix2 r k)) (fun k => G (ix2 (0 : Fin 1) k)) (R (ix2 r d)) d := by
  intro n
  induction n with
  | zero => intro _ r d h; omega
  | succ n ih =>
    intro hn r d h
    have hk : n < k0_t1_loop.trips := lt_of_lt_of_eq (Nat.lt_of_succ_le hn) trips_eq.symm
    have es := dxbL_succ (F := Ideal) A X R G ⟨n, hk⟩
    dsimp only at es
    rw [es]
    by_cases hr : r.val < 128 * n
    · have hm : (ix2 r d : S1024x2048.Idx) ∉ (rowR ⟨n, hk⟩).set := fun hm => by
        have h2 : 128 * n ≤ r.val := ((mem_rowR ⟨n, hk⟩ (ix2 r d)).mp hm).1
        omega
      rw [canon_off _ _ hm]
      exact ih (by omega) r d hr
    · obtain ⟨q, hq, rfl⟩ : ∃ (q : Fin 128) (hq : 128 * n + q.val < 1024), r = ⟨128 * n + q.val, hq⟩ :=
        ⟨⟨r.val - 128 * n, by omega⟩, by show 128 * n + (r.val - 128 * n) < 1024; omega, Fin.ext (by show r.val = 128 * n + (r.val - 128 * n); omega)⟩
      rw [← emb_row ⟨n, hk⟩ q d hq, View.canon_cons_emb]
      refine (pay3_at _ _ _ G q d).trans ?_
      have e : ∀ (Y : FVec Ideal S1024x2048 .f32) (k : Fin 2048), View.ld (Val := Elt Ideal) (e' := .f32) Y (rowR ⟨n, hk⟩) (ix2 q k) = Y (ix2 (⟨128 * n + q.val, hq⟩ : Fin 1024) k) :=
        fun Y k => ld_row Y ⟨n, hk⟩ q k hq
      rw [emb_row ⟨n, hk⟩ q d hq]
      exact congr (congr (congrArg₂ joined (funext fun k => e A k) (funext fun k => e X k)) rfl) (e R d) ▸ rfl

/-- The gain's gradient after the loop's first `n` trips: increased by the sum over their rows. -/
theorem dg_at (P : ℕ → Fin 2048 → EReal) (hP : ∀ (r : Fin 1024) (d : Fin 2048), (A (ix2 r d) : EReal) * (X (ix2 r d) * root fun k => X (ix2 r k)) = P r.val d) :
    ∀ n ≤ 8, ∀ d : Fin 2048, (dgL (F := Ideal) A X D n (ix2 (0 : Fin 1) d) : EReal) = D (ix2 (0 : Fin 1) d) + ∑ r ∈ Finset.range (128 * n), P r d := by
  intro n
  induction n with
  | zero => intro _ d; simp [dgL]
  | succ n ih =>
    intro hn d
    have hk : n < k0_t1_loop.trips := lt_of_lt_of_eq (Nat.lt_of_succ_le hn) trips_eq.symm
    have es := dgL_succ (F := Ideal) A X D ⟨n, hk⟩
    dsimp only at es
    rw [es]
    refine (pay4_at _ _ _ d).trans ?_
    rw [Nat.mul_succ, Finset.sum_range_add, Finset.sum_range fun r => P (128 * n + r) d, ← add_assoc, ← ih (by omega) d]
    refine congrArg₂ (· + ·) rfl (Finset.sum_congr rfl fun q _ => ?_)
    have hq : 128 * n + q.val < 1024 := by omega
    have e : ∀ (Y : FVec Ideal S1024x2048 .f32) (k : Fin 2048), View.ld (Val := Elt Ideal) (e' := .f32) Y (rowR ⟨n, hk⟩) (ix2 q k) = Y (ix2 (⟨128 * n + q.val, hq⟩ : Fin 1024) k) :=
      fun Y k => ld_row Y ⟨n, hk⟩ q k hq
    refine Eq.trans ?_ (hP ⟨128 * n + q.val, hq⟩ d)
    exact congrArg₂ (fun a b : EReal => a * b) (e A d) (congrArg₂ (fun a b : EReal => a * b) (e X d) (congrArg root (funext fun k => e X k)))

end Loop

/-! ## The arguments, and what the windows hold of them -/

variable (m : (ℓ : Loc nD τ sig) → Buf (Elt Ideal) ℓ) (c : Dev nD)

/-- Which blocks the windows hold at a grid point. -/
theorem idx_val : ∀ t : Fin cfg0.N, win0_0.index t = ![t.val / 8, t.val % 8] ∧ win0_1.index t = ![t.val % 8 / 2, 0, t.val % 8 % 2]
    ∧ win0_2.index t = ![0, 0] ∧ win0_3.index t = ![0, 0] :=
  (by decide +kernel : ∀ t : Fin grid0.N, _)

/-- The arguments as functions of row and column. -/
def Gf : ℕ → ℕ → EReal := at2 (a := 4096) (b := 8192) (m ((c : Thread nD τ).loc main_arg0))
def Wf : ℕ → ℕ → EReal := slabs 2048 (m ((c : Thread nD τ).loc main_arg1))
def Xf : ℕ → ℕ → EReal := at2 (a := 4096) (b := 2048) (m ((c : Thread nD τ).loc main_arg2))
def gain : FVec Ideal S2048 .f32 := m ((c : Thread nD τ).loc main_arg3)
def Rf : ℕ → ℕ → EReal := at2 (a := 4096) (b := 2048) (m ((c : Thread nD τ).loc main_arg4))

/-- The gain as the region finds it. -/
theorem entry_gain : V m c main_v0 = (shapeCast S1x2048 (m ((c : Thread nD τ).loc main_arg3) : FVec Ideal S2048 .f32) shapeCasts_S2048_S1x2048 : FVec Ideal S1x2048 .f32) := by
  unfold V
  simp only [hostOps0, StableHlo.TRef.binary, StableHlo.TRef.nullary, StableHlo.TRef.unary, StableHlo.TRef.toBuf, StableHlo.TRef.ofBuf, cast_eq]
  after_results
  rfl

section Reads

variable (t : Fin cfg0.N)

theorem read0 (r k : Fin 1024) :
    (iblk m c 0 t : Vec Ideal S1024x1024 .bf16) (ix2 r k) = Gf m c (1024 * (t.val / 8) + r) (1024 * (t.val % 8) + k) := by
  have ht : t.val < 4 * 8 := lt_of_lt_of_eq t.isLt N_0
  rw [Gf, at2_of _ (by omega) (by omega)]
  blk_point [iblk, V, idx_val t]

theorem read1 (d : Fin 2048) (k : Fin 1024) :
    (iblk m c 1 t : Vec Ideal S1x2048x1024 .bf16) (ix3 (0 : Fin 1) d k) = Wf m c d (1024 * (t.val % 8) + k) := by
  have ht : t.val < 4 * 8 := lt_of_lt_of_eq t.isLt N_0
  rw [Wf, slabs_of _ (by omega) (by omega) (by omega)]
  blk_point [iblk, V, idx_val t]

theorem read2 (d : Fin 2048) :
    (iblk m c 2 t : Vec Ideal S1x2048 .f32) (ix2 (0 : Fin 1) d) = gain m c (ix1 d) := by
  blk_simp [iblk, idx_val t]
  have e : ((win0_2.blk t).view.emb (ix2 (0 : Fin 1) d)) = (ix2 (0 : Fin 1) d) := by
    blk_ext [idx_val t]
  refine (congrArg (V m c main_v0) e).trans ?_
  refine (congrFun (entry_gain m c) _).trans ?_
  pointwise []
  rfl

end Reads

theorem emb_blk (a : Fin 4) (r : Fin 1024) (d : Fin 2048) :
    (Rect.unit (s := SA) ![1024 * a.val, 0] SB.size (blk_inb a)).emb (ix2 r d) = (ix2 (⟨1024 * a.val + r.val, by omega⟩ : Fin 4096) d : SA.Idx) := by
  funext b
  fin_cases b
  · exact Fin.ext (by show 1024 * a.val + 1 * r.val = 1024 * a.val + r.val; omega)
  · exact Fin.ext (by show 0 + 1 * d.val = d.val; omega)

theorem x_at (a : Fin 4) (r : Fin 1024) (d : Fin 2048) : (blkOf (xs m c) a (ix2 r d) : EReal) = Xf m c (1024 * a.val + r.val) d := by
  have e : blkOf (xs m c) a (ix2 r d) = xs m c (ix2 (⟨1024 * a.val + r.val, by omega⟩ : Fin 4096) d) := congrArg (xs m c) (emb_blk a r d)
  have ex : xs m c = m ((c : Thread nD τ).loc main_arg2) := by
    unfold xs V
    try rfl
  rw [e, ex, Xf, at2_of _ (by omega) d.isLt]
theorem r_at (a : Fin 4) (r : Fin 1024) (d : Fin 2048) : (blkOf (rs m c) a (ix2 r d) : EReal) = Rf m c (1024 * a.val + r.val) d := by
  have e : blkOf (rs m c) a (ix2 r d) = rs m c (ix2 (⟨1024 * a.val + r.val, by omega⟩ : Fin 4096) d) := congrArg (rs m c) (emb_blk a r d)
  have ex : rs m c = m ((c : Thread nD τ).loc main_arg4) := by
    unfold rs V
    try rfl
  rw [e, ex, Rf, at2_of _ (by omega) d.isLt]

/-! ## The accumulator -/

/-- The gradient arriving at the norm's output. -/
def arrive (t d : ℕ) : EReal := ∑ f : Fin 8192, Gf m c t f * Wf m c d f
/-- Its sum's first `n` parts. -/
def upTo (t d n : ℕ) : EReal := ∑ f ∈ Finset.range (1024 * n), Gf m c t f * Wf m c d f

theorem upTo_succ (t d n : ℕ) : upTo m c t d n + ∑ k : Fin 1024, Gf m c t (1024 * n + k) * Wf m c d (1024 * n + k) = upTo m c t d (n + 1) := by
  unfold upTo
  rw [Nat.mul_succ, Finset.sum_range_add, Finset.sum_range fun k => Gf m c t (1024 * n + k) * Wf m c d (1024 * n + k)]

theorem upTo_all (t d : ℕ) : upTo m c t d 8 = arrive m c t d := Finset.sum_range fun f => Gf m c t f * Wf m c d f

theorem step_at (A : FVec Ideal S1024x2048 .f32) (n : ℕ) (hn : n < 4 * 8) (r : Fin 1024) (d : Fin 2048) :
    (accS (F := Ideal) A (gB m c n) (wB m c n) (ix2 r d) : EReal)
      = A (ix2 r d) + ∑ k : Fin 1024, Gf m c (1024 * (n / 8) + r) (1024 * (n % 8) + k) * Wf m c d (1024 * (n % 8) + k) := by
  have hp : (pt n).val = n := Nat.mod_eq_of_lt hn
  refine (accS_at A _ _ r d).trans (congrArg₂ (· + ·) rfl (Finset.sum_congr rfl fun k _ => ?_))
  have e0 := read0 m c (pt n) r k
  have e1 := read1 m c (pt n) d k
  rw [hp] at e0 e1
  exact congrArg₂ (fun a b : EReal => a * b) e0 e1

theorem acc_at : ∀ n, n < 4 * 8 → ∀ (r : Fin 1024) (d : Fin 2048),
    (accN m c (n + 1) (ix2 r d) : EReal) = upTo m c (1024 * (n / 8) + r) d (n % 8 + 1) := by
  intro n
  induction n with
  | zero =>
    intro hn r d
    rw [accN_start m c (by omega), ← upTo_succ]
    refine (step_at m c _ 0 hn r d).trans (congrArg₂ (· + ·) ?_ rfl)
    refine (pay12_at r d).trans ?_
    simp [upTo]
  | succ n ih =>
    intro hn r d
    by_cases h0 : (n + 1) % 8 = 0
    · rw [accN_start m c h0, ← upTo_succ]
      refine (step_at m c _ (n + 1) hn r d).trans (congrArg₂ (· + ·) ?_ rfl)
      refine (pay12_at r d).trans ?_
      simp [upTo, h0]
    · rw [accN_next m c h0, ← upTo_succ]
      refine (step_at m c _ (n + 1) hn r d).trans (congrArg₂ (· + ·) ?_ rfl)
      refine (ih (by omega) r d).trans ?_
      have q0 : n / 8 = (n + 1) / 8 := by omega
      have q1 : n % 8 + 1 = (n + 1) % 8 := by omega
      rw [q0, q1]

theorem acc_end (a : Fin 4) (r : Fin 1024) (d : Fin 2048) :
    (accN m c (8 * a.val + 7 + 1) (ix2 r d) : EReal) = arrive m c (1024 * a.val + r) d := by
  have ha := a.isLt
  have q0 : (8 * a.val + 7) / 8 = a.val := by omega
  have q1 : (8 * a.val + 7) % 8 + 1 = 8 := by omega
  rw [acc_at m c _ (by omega) r d, q0, q1, upTo_all]

/-! ## The results -/

/-- The gradient of the norm's input, at an entry. -/
def dxAt (t : ℕ) (d : Fin 2048) : EReal :=
  joined (fun k => arrive m c t k) (fun k => Xf m c t k) (fun k => gain m c (ix1 k)) (Rf m c t d) d
/-- What a row adds to the gain's gradient. -/
def dgTerm (t : ℕ) (d : Fin 2048) : EReal := arrive m c t d * (Xf m c t d * root fun k => Xf m c t k)

theorem gn_at (n : ℕ) (k : Fin 2048) : (gnB m c n (ix2 (0 : Fin 1) k) : EReal) = gain m c (ix1 k) := read2 m c (pt n) k

theorem res_at (t : Fin 4096) (d : Fin 2048) : (resO m c (ix2 t d) : EReal) = dxAt m c t.val d := by
  have ht : 1024 * (t.val / 1024) + t.val % 1024 = t.val := by omega
  have ha : t.val / 1024 < 4 := by omega
  have hr : t.val % 1024 < 1024 := by omega
  have e : resO m c (ix2 t d) = View.canon (dxL (accN m c (8 * (t.val / 1024) + 7 + 1)) (blkOf (xs m c) ⟨t.val / 1024, ha⟩) (blkOf (rs m c) ⟨t.val / 1024, ha⟩)
      (gnB m c (8 * (t.val / 1024) + 7)) 8) (ix2 (⟨t.val % 1024, hr⟩ : Fin 1024) d) := by
    unfold resO stack
    have e2 : inRow (ix2 t d) = (ix2 (⟨t.val % 1024, hr⟩ : Fin 1024) d : SB.Idx) := by
      funext b
      fin_cases b <;> rfl
    rw [e2]
    rfl
  rw [e, dx_at _ _ _ _ 8 (le_refl _) _ d (by show t.val % 1024 < 128 * 8; omega), dxAt]
  have h1 : ∀ k : Fin 2048, (accN m c (8 * (t.val / 1024) + 7 + 1) (ix2 (⟨t.val % 1024, hr⟩ : Fin 1024) k) : EReal) = arrive m c t.val k := fun k =>
    (acc_end m c ⟨t.val / 1024, ha⟩ ⟨t.val % 1024, hr⟩ k).trans (by dsimp only; rw [ht])
  have h2 : ∀ k : Fin 2048, (blkOf (xs m c) ⟨t.val / 1024, ha⟩ (ix2 (⟨t.val % 1024, hr⟩ : Fin 1024) k) : EReal) = Xf m c t.val k := fun k =>
    (x_at m c ⟨t.val / 1024, ha⟩ ⟨t.val % 1024, hr⟩ k).trans (by dsimp only; rw [ht])
  have h3 : (blkOf (rs m c) ⟨t.val / 1024, ha⟩ (ix2 (⟨t.val % 1024, hr⟩ : Fin 1024) d) : EReal) = Rf m c t.val d :=
    (r_at m c ⟨t.val / 1024, ha⟩ ⟨t.val % 1024, hr⟩ d).trans (by dsimp only; rw [ht])
  simp only [h1, h2, h3, gn_at]

theorem resb_at (t : Fin 4096) (d : Fin 2048) : (resOb m c (ix2 t d) : EReal) = dxAt m c t.val d := by
  have ht : 1024 * (t.val / 1024) + t.val % 1024 = t.val := by omega
  have ha : t.val / 1024 < 4 := by omega
  have hr : t.val % 1024 < 1024 := by omega
  have e : resOb m c (ix2 t d) = View.canon (dxbL (accN m c (8 * (t.val / 1024) + 7 + 1)) (blkOf (xs m c) ⟨t.val / 1024, ha⟩) (blkOf (rs m c) ⟨t.val / 1024, ha⟩)
      (gnB m c (8 * (t.val / 1024) + 7)) 8) (ix2 (⟨t.val % 1024, hr⟩ : Fin 1024) d) := by
    unfold resOb stack
    have e2 : inRow (ix2 t d) = (ix2 (⟨t.val % 1024, hr⟩ : Fin 1024) d : SB.Idx) := by
      funext b
      fin_cases b <;> rfl
    rw [e2]
    rfl
  rw [e, dxb_at _ _ _ _ 8 (le_refl _) _ d (by show t.val % 1024 < 128 * 8; omega), dxAt]
  have h1 : ∀ k : Fin 2048, (accN m c (8 * (t.val / 1024) + 7 + 1) (ix2 (⟨t.val % 1024, hr⟩ : Fin 1024) k) : EReal) = arrive m c t.val k := fun k =>
    (acc_end m c ⟨t.val / 1024, ha⟩ ⟨t.val % 1024, hr⟩ k).trans (by dsimp only; rw [ht])
  have h2 : ∀ k : Fin 2048, (blkOf (xs m c) ⟨t.val / 1024, ha⟩ (ix2 (⟨t.val % 1024, hr⟩ : Fin 1024) k) : EReal) = Xf m c t.val k := fun k =>
    (x_at m c ⟨t.val / 1024, ha⟩ ⟨t.val % 1024, hr⟩ k).trans (by dsimp only; rw [ht])
  have h3 : (blkOf (rs m c) ⟨t.val / 1024, ha⟩ (ix2 (⟨t.val % 1024, hr⟩ : Fin 1024) d) : EReal) = Rf m c t.val d :=
    (r_at m c ⟨t.val / 1024, ha⟩ ⟨t.val % 1024, hr⟩ d).trans (by dsimp only; rw [ht])
  simp only [h1, h2, h3, gn_at]

/-- The gain's gradient before point `n`: the sum over the rows of the blocks that are done. -/
theorem gain_at : ∀ n ≤ 4 * 8, ∀ d : Fin 2048, (dgN m c n (ix2 (0 : Fin 1) d) : EReal) = ∑ t ∈ Finset.range (1024 * (n / 8)), dgTerm m c t d := by
  intro n
  induction n with
  | zero =>
    intro _ d
    refine (pay11_at 0 d).trans ?_
    simp
  | succ n ih =>
    intro hn d
    by_cases h7 : n % 8 = 7
    · have q : (n + 1) / 8 = n / 8 + 1 := by omega
      have hb : (bk n).val = n / 8 := by
        show n / 8 % 4 = n / 8
        omega
      have en : 8 * (bk n).val + 7 + 1 = n + 1 := by omega
      have h1 : ∀ (r : Fin 1024) (k : Fin 2048), (accN m c (n + 1) (ix2 r k) : EReal) = arrive m c (1024 * (n / 8) + r) k := fun r k => by
        have h := acc_end m c (bk n) r k
        rw [en, hb] at h
        exact h
      have h2 : ∀ (r : Fin 1024) (k : Fin 2048), (blkOf (xs m c) (bk n) (ix2 r k) : EReal) = Xf m c (1024 * (n / 8) + r) k := fun r k => by
        have h := x_at m c (bk n) r k
        rw [hb] at h
        exact h
      have hP : ∀ (r : Fin 1024) (d : Fin 2048), (accN m c (n + 1) (ix2 r d) : EReal) * ((blkOf (xs m c) (bk n) (ix2 r d) : EReal) * root fun k => (blkOf (xs m c) (bk n) (ix2 r k) : EReal))
          = dgTerm m c (1024 * (n / 8) + r.val) d := fun r d => by
        simp only [h1, h2, dgTerm]
      rw [dgN_end m c h7]
      refine (dg_at (accN m c (n + 1)) (blkOf (xs m c) (bk n)) (dgN m c n) (fun r d => dgTerm m c (1024 * (n / 8) + r) d) hP 8 (le_refl _) d).trans ?_
      rw [ih (by omega) d, q, Nat.mul_succ (1024), Finset.sum_range_add]
    · have q : (n + 1) / 8 = n / 8 := by omega
      rw [dgN_keep m c h7, q]
      exact ih (by omega) d

/-- The gain's gradient. -/
def outG : FVec Ideal S1x2048 .f32 := fun j => ∑ t : Fin 4096, dgTerm m c t.val (j 1)

theorem final3 : (dats m 0 c).arrAt 3 cfg0.N = outG m c := by
  refine (dats m 0 c).arrAt_eq_of_covers 3 _ (by decide +kernel) fun t hf y => ?_
  have h0 : t.val % (4 * 8) = 4 * 8 - 1 := (flush0_3 t).mp hf
  have hN : t.val < 4 * 8 := lt_of_lt_of_eq t.isLt N_0
  have h1 : t.val = 4 * 8 - 1 := by omega
  blk_simp
  rw [after0_3]
  obtain ⟨r, d, rfl⟩ : ∃ (r : Fin 1) (d : Fin 2048), y = ix2 r d := ⟨y 0, y 1, by funext a; fin_cases a <;> rfl⟩
  obtain rfl : r = 0 := Subsingleton.elim _ _
  have e1 : (((win0_3.blk t).view.emb (ix2 (0 : Fin 1) d)) 1) = d := Fin.ext (by blk_simp [idx_val t]; try omega)
  refine (gain_at m c (t.val + 1) (by omega) d).trans ?_
  show _ = ∑ t : Fin 4096, dgTerm m c t.val _
  rw [e1, h1]
  exact Finset.sum_range fun t => dgTerm m c t d

end Cert.GradMid

end
-- ==== Proof.NormGrad.MidRef.lean ====
/-
  What the reference for the product joined with the norm's gradient computes, entry by entry.
-/
import proofs.«01_k».proof.Proof.Gen.GradMidRefIdeal
import proofs.«01_k».proof.Proof.Gen.GradMidRefIdeal.Run
import Idealize.ShloMosaic.Lib.Pointwise
import Idealize.ShloMosaic.Lib.ValueIdx
import proofs.«01_k».proof.Proof.Prod.Slabs
import proofs.«01_k».proof.Proof.Mix.Spec
import proofs.«01_k».proof.Proof.NormGrad.Spec

set_option maxRecDepth 16384

noncomputable section

open Idealize.ShloMosaic Idealize.ShloMosaic.TcCoe Idealize.SL.Sem
open scoped BigOperators

namespace Cert.GradMidRefIdeal.Prod

open Cert.GradMidRefIdeal Cert.GradMidRefIdeal.Gen Cert.Mix Cert.Prod Cert.NormGrad

/-- The gradient arriving at the norm's output. -/
def arriving (DA : FVec Ideal S4096x8192 .bf16) (W : FVec Ideal S4x2048x2048 .bf16) : FVec Ideal S1x4096x2048 .f32 :=
  Host.dotGeneral dot_S1x4096x8192_S2048x8192_S1x4096x2048_2_1_01_0_n_n none (broadcastInDim S1x4096x8192 ![1, 2] bcast_S4096x8192_S1x4096x8192_1_2 (extf .f32 DA bitsLt_bf16_f32)) (shapeCast _ (transpose S2048x4x2048 [1, 0, 2] (extf .f32 W bitsLt_bf16_f32) transposes_S4x2048x2048_S2048x4x2048_1_0_2) shapeCasts_S2048x4x2048_S2048x8192)

theorem arriving_at (DA : FVec Ideal S4096x8192 .bf16) (W : FVec Ideal S4x2048x2048 .bf16) (z : Fin 1) (t : Fin 4096) (d : Fin 2048) :
    (arriving DA W (ix3 z t d) : EReal) = ∑ f : Fin 8192, (DA (ix2 t f) : EReal) * (W (ix3 (⟨f.val / 2048, by omega⟩ : Fin 4) d (⟨f.val % 2048, by omega⟩ : Fin 2048)) : EReal) := by
  unfold arriving
  pointwise []

/-- The mean square of each row, raised by the small constant. -/
def meanSq (X : FVec Ideal S4096x2048 .f32) : FVec Ideal S1x4096x1 .f32 :=
  (addf (Host.divf (broadcastInDim S1x4096x1 ![0, 1] bcast_S1x4096_S1x4096x1_0_1 (Host.reduceAdd (mulf (broadcastInDim S1x4096x2048 ![1, 2] bcast_S4096x2048_S1x4096x2048_1_2 X) (broadcastInDim S1x4096x2048 ![1, 2] bcast_S4096x2048_S1x4096x2048_1_2 X)) (constant S_ .f32 0x00000000#32) reducesTo_S1x4096x2048_S1x4096_d2 h_S_)) (broadcastInDim S1x4096x1 ![] bcast_S_S1x4096x1 (constant S_ .f32 0x45000000#32))) (broadcastInDim S1x4096x1 ![] bcast_S_S1x4096x1 (constant S_ .f32 0x358637BD#32)))

theorem meanSq_at (X : FVec Ideal S4096x2048 .f32) (z : Fin 1) (t : Fin 4096) (y : Fin 1) :
    (meanSq X (ix3 z t y) : EReal) = mean fun k => X (ix2 t k) := by
  unfold meanSq
  pointwise []
  rfl

/-- The gradient of the norm's input, over the gradient `D` arriving at its output. -/
def gradIn (D : FVec Ideal S1x4096x2048 .f32) (X : FVec Ideal S4096x2048 .f32) (G : FVec Ideal S2048 .f32) (R : FVec Ideal S4096x2048 .f32) : FVec Ideal S4096x2048 .f32 :=
  shapeCast _ (addf (addf (addf (broadcastInDim S1x4096x2048 ![1, 2] bcast_S4096x2048_S1x4096x2048_1_2 R) (mulf (mulf D (broadcastInDim S1x4096x2048 ![0, 1, 2] bcast_S1x1x2048_S1x4096x2048_0_1_2 (broadcastInDim S1x1x2048 ![2] bcast_S2048_S1x1x2048_2 G))) (broadcastInDim S1x4096x2048 ![0, 1, 2] bcast_S1x4096x1_S1x4096x2048_0_1_2 (Host.rsqrt (meanSq X))))) (mulf (broadcastInDim S1x4096x2048 ![1, 2] bcast_S4096x2048_S1x4096x2048_1_2 X) (broadcastInDim S1x4096x2048 ![0, 1] bcast_S1x4096_S1x4096x2048_0_1 (broadcastInDim S1x4096 ![1] bcast_S4096_S1x4096_1 (Host.reduceAdd (Host.divf (mulf (shapeCast _ (Host.reduceAdd (mulf (broadcastInDim S1x4096x2048 ![1, 2] bcast_S4096x2048_S1x4096x2048_1_2 X) (mulf D (broadcastInDim S1x4096x2048 ![0, 1, 2] bcast_S1x1x2048_S1x4096x2048_0_1_2 (broadcastInDim S1x1x2048 ![2] bcast_S2048_S1x1x2048_2 G)))) (constant S_ .f32 0x00000000#32) reducesTo_S1x4096x2048_S1x4096_d2 h_S_) shapeCasts_S1x4096_S1x4096x1) (mulf (broadcastInDim S1x4096x1 ![] bcast_S_S1x4096x1 (constant S_ .f32 0xBF000000#32)) (Host.divf (Host.rsqrt (meanSq X)) (meanSq X)))) (broadcastInDim S1x4096x1 ![] bcast_S_S1x4096x1 (constant S_ .f32 0x45000000#32))) (constant S_ .f32 0x00000000#32) reducesTo_S1x4096x1_S4096_d0_2 h_S_))))) (mulf (broadcastInDim S1x4096x2048 ![0, 1] bcast_S1x4096_S1x4096x2048_0_1 (broadcastInDim S1x4096 ![1] bcast_S4096_S1x4096_1 (Host.reduceAdd (Host.divf (mulf (shapeCast _ (Host.reduceAdd (mulf (broadcastInDim S1x4096x2048 ![1, 2] bcast_S4096x2048_S1x4096x2048_1_2 X) (mulf D (broadcastInDim S1x4096x2048 ![0, 1, 2] bcast_S1x1x2048_S1x4096x2048_0_1_2 (broadcastInDim S1x1x2048 ![2] bcast_S2048_S1x1x2048_2 G)))) (constant S_ .f32 0x00000000#32) reducesTo_S1x4096x2048_S1x4096_d2 h_S_) shapeCasts_S1x4096_S1x4096x1) (mulf (broadcastInDim S1x4096x1 ![] bcast_S_S1x4096x1 (constant S_ .f32 0xBF000000#32)) (Host.divf (Host.rsqrt (meanSq X)) (meanSq X)))) (broadcastInDim S1x4096x1 ![] bcast_S_S1x4096x1 (constant S_ .f32 0x45000000#32))) (constant S_ .f32 0x00000000#32) reducesTo_S1x4096x1_S4096_d0_2 h_S_))) (broadcastInDim S1x4096x2048 ![1, 2] bcast_S4096x2048_S1x4096x2048_1_2 X))) shapeCasts_S1x4096x2048_S4096x2048

theorem gradIn_at (D : FVec Ideal S1x4096x2048 .f32) (X : FVec Ideal S4096x2048 .f32) (G : FVec Ideal S2048 .f32) (R : FVec Ideal S4096x2048 .f32) (t : Fin 4096) (d : Fin 2048) :
    (gradIn D X G R (ix2 t d) : EReal) = plain (fun k => D (ix3 (0 : Fin 1) t k)) (fun k => X (ix2 t k)) (fun k => G (ix1 k)) (R (ix2 t d)) d := by
  unfold gradIn
  pointwise [meanSq_at, reduce_outer, reduce_leading]
  rfl

/-- The gain's gradient, over the gradient `D` arriving at the norm's output. -/
def gradGain (D : FVec Ideal S1x4096x2048 .f32) (X : FVec Ideal S4096x2048 .f32) : FVec Ideal S1x2048 .f32 :=
  broadcastInDim S1x2048 ![1] bcast_S2048_S1x2048_1 (Host.reduceAdd (shapeCast _ (Host.reduceAdd (mulf (mulf (broadcastInDim S1x4096x2048 ![1, 2] bcast_S4096x2048_S1x4096x2048_1_2 X) (broadcastInDim S1x4096x2048 ![0, 1, 2] bcast_S1x4096x1_S1x4096x2048_0_1_2 (Host.rsqrt (meanSq X)))) D) (constant S_ .f32 0x00000000#32) reducesTo_S1x4096x2048_S1x2048_d1 h_S_) shapeCasts_S1x2048_S1x1x2048) (constant S_ .f32 0x00000000#32) reducesTo_S1x1x2048_S2048_d0_1 h_S_)

theorem gradGain_at (D : FVec Ideal S1x4096x2048 .f32) (X : FVec Ideal S4096x2048 .f32) (z : Fin 1) (d : Fin 2048) :
    (gradGain D X (ix2 z d) : EReal) = ∑ t : Fin 4096, (X (ix2 t d) : EReal) * root (fun k => X (ix2 t k)) * (D (ix3 (0 : Fin 1) t d) : EReal) := by
  unfold gradGain
  pointwise [meanSq_at, reduce_outer, reduce_leading]
  rfl

end Cert.GradMidRefIdeal.Prod

end
-- ==== Proof.NormGrad.XRun.lean ====
import proofs.«01_k».proof.Proof.Gen.GradXIdeal.Frame
import proofs.«01_k».proof.Proof.Gen.GradXIdeal.Loops
import proofs.«01_k».proof.Proof.NormGrad.Blocks

set_option maxRecDepth 16384
set_option maxHeartbeats 1000000

noncomputable section

namespace Cert.GradX

open Cert.NormGrad Cert.GradXIdeal Cert.GradXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hpn : 256 * 4 = 1024 := rfl

abbrev mX : Memref sig .tc .hbm S4096x2048 .f32 := Memref.whole main_arg2
abbrev mR : Memref sig .tc .hbm S4096x2048 .f32 := Memref.whole main_arg4
abbrev mO : Memref sig .tc .hbm S4096x2048 .f32 := Memref.whole main_v1_0
abbrev mOb : Memref sig .tc .hbm S4096x2048 .bf16 := Memref.whole main_v1_1
abbrev bA : Memref sig .tc .vmem S1024x2048 .f32 := Memref.whole cc0_scratch0
abbrev bX : Memref sig .tc .vmem S1024x2048 .f32 := Memref.whole cc0_scratch1
abbrev bR : Memref sig .tc .vmem S1024x2048 .f32 := Memref.whole cc0_scratch2
abbrev bD : Memref sig .tc .vmem S1024x2048 .f32 := Memref.whole cc0_scratch3
abbrev bDb : Memref sig .tc .vmem S1024x2048 .bf16 := Memref.whole cc0_scratch4

variable (c : Dev nD) (i : grid0.Coords)
  (arg2 : Memref sig .tc .vmem S1024x1024 .bf16) (harg2 : arg2.IsWhole) (arg3 : Memref sig .tc .vmem S1x2048x1024 .bf16) (harg3 : arg3.IsWhole)
  (arg4 : Memref sig .tc .vmem S1x2048 .f32) (harg4 : arg4.IsWhole) (arg9 : Memref sig .tc .vmem S1x2048 .f32) (harg9 : arg9.IsWhole)

/-- The body at a point. -/
abbrev body : Prog (TpuEff nD τ sig (Elt F) Λ₀ .tc) PUnit :=
  cc0_grad_x i arg2 harg2 arg3 harg3 arg4 harg4 mX (Memref.isWhole_whole _) mR (Memref.isWhole_whole _) mO (Memref.isWhole_whole _)
    mOb (Memref.isWhole_whole _) arg9 harg9 bA (Memref.isWhole_whole _) bX (Memref.isWhole_whole _) bR (Memref.isWhole_whole _)
    bD (Memref.isWhole_whole _) bDb (Memref.isWhole_whole _) cc0_scratch5 cc0_scratch6

/-- The block of rows a point reads. -/
abbrev fa : Fin 4 := ⟨(i 0).val, (i 0).isLt⟩
/-- The number of a point in its block. -/
abbrev fk : Fin 4 := ⟨(i 1).val, (i 1).isLt⟩

theorem off1_eq : k0_off1 i = ![256 * (fk i).val, 0] := ClosedOff.eq
theorem off2_eq : k0_off2 i = ![1024 * (fa i).val + 256 * (fk i).val, 0] := ClosedOff.eq
theorem off5_eq : k0_off5 i = ![1024 * (fa i).val, 0] := ClosedOff.eq
theorem off6_eq : k0_off6 i = ![1024 * (fa i).val, 0] := ClosedOff.eq
theorem off8_eq : k0_off8 i = ![1024 * (fa i).val, 0] := ClosedOff.eq

/-- The pieces and blocks the program's transfers name. -/
@[sl_canon] theorem canon_bX : bX.slice (Rect.unit (s := S1024x2048) (k0_off1 i) S256x2048.size (k0_off1_inb i)) (fun _ => rfl) = bufP hpn bX (fk i) :=
  Memref.slice_unit_congr _ (off1_eq i) _ _ (fun _ => rfl) (fun _ => rfl)
@[sl_canon] theorem canon_bR : bR.slice (Rect.unit (s := S1024x2048) (k0_off1 i) S256x2048.size (k0_off1_inb i)) (fun _ => rfl) = bufP hpn bR (fk i) :=
  Memref.slice_unit_congr _ (off1_eq i) _ _ (fun _ => rfl) (fun _ => rfl)
@[sl_canon] theorem canon_mX : mX.slice (Rect.unit (s := S4096x2048) (k0_off2 i) S256x2048.size (k0_off2_inb i)) (fun _ => rfl) = srcP hpn mX (fa i) (fk i) :=
  Memref.slice_unit_congr _ (off2_eq i) _ _ (fun _ => rfl) (fun _ => rfl)
@[sl_canon] theorem canon_mR : mR.slice (Rect.unit (s := S4096x2048) (k0_off2 i) S256x2048.size (k0_off2_inb i)) (fun _ => rfl) = srcP hpn mR (fa i) (fk i) :=
  Memref.slice_unit_congr _ (off2_eq i) _ _ (fun _ => rfl) (fun _ => rfl)

@[sl_canon] theorem canon_s0 : ((SemArray.slice cc0_scratch5 (Rect.unit (s := S2) ![0] S1.size inb_S2_S1_0)).squeeze S_ squeezes_S1_S_).sem = (6 : DmaSem sig) := Fin.ext (by rfl)
@[sl_canon] theorem canon_s1 : ((SemArray.slice cc0_scratch5 (Rect.unit (s := S2) ![1] S1.size inb_S2_S1_1)).squeeze S_ squeezes_S1_S_).sem = (7 : DmaSem sig) := Fin.ext (by rfl)
@[sl_canon] theorem canon_s2 : ((SemArray.slice cc0_scratch6 (Rect.unit (s := S2) ![0] S1.size inb_S2_S1_0)).squeeze S_ squeezes_S1_S_).sem = (8 : DmaSem sig) := Fin.ext (by rfl)
@[sl_canon] theorem canon_s3 : ((SemArray.slice cc0_scratch6 (Rect.unit (s := S2) ![1] S1.size inb_S2_S1_1)).squeeze S_ squeezes_S1_S_).sem = (9 : DmaSem sig) := Fin.ext (by rfl)

@[sl_canon] theorem canon_mO (h3 : k0_cond3 i = 1#1) : mO.slice (Rect.unit (s := S4096x2048) (k0_off5 i) S1024x2048.size (k0_off5_inb i h3)) (fun _ => rfl) = arrB mO (fa i) :=
  Memref.slice_unit_congr _ (off5_eq i) _ _ (fun _ => rfl) (fun _ => rfl)
@[sl_canon] theorem canon_mOb (h3 : k0_cond3 i = 1#1) : mOb.slice (Rect.unit (s := S4096x2048) (k0_off5 i) S1024x2048.size (k0_off5_inb i h3)) (fun _ => rfl) = arrB mOb (fa i) :=
  Memref.slice_unit_congr _ (off5_eq i) _ _ (fun _ => rfl) (fun _ => rfl)

abbrev laneX (a : Fin 4) (fs : Buf (Elt F) (mX.view.loc (c : Thread nD τ))) (fd : Buf (Elt F) (bX.view.loc (c : Thread nD τ))) (k : ℕ) :=
  lane (F := F) (nD := nD) (τ := τ) hpn c mX bX 6 65536 a fs fd k
abbrev laneR (a : Fin 4) (fs : Buf (Elt F) (mR.view.loc (c : Thread nD τ))) (fd : Buf (Elt F) (bR.view.loc (c : Thread nD τ))) (k : ℕ) :=
  lane (F := F) (nD := nD) (τ := τ) hpn c mR bR 7 65536 a fs fd k

/-! ## What the body computes -/

theorem off7_inb (k : Fin k0_t1_loop.trips) : ∀ a, (k0_off7 k) a + S128x2048.size a ≤ S1024x2048.size a := by
  have hk : k.val < 8 := Nat.lt_of_lt_of_le k.isLt k0_t1_abs.2.1
  rw [(ClosedOff.eq : k0_off7 k = _)]
  intro a
  fin_cases a
  · show 128 * k.val + 128 ≤ 1024
    omega
  · show 0 + 2048 ≤ 2048
    omega

/-- The rows of a trip. -/
abbrev rowR (k : Fin k0_t1_loop.trips) : Rect S1024x2048 := Rect.unit (s := S1024x2048) (k0_off7 k) S128x2048.size (off7_inb k)

abbrev topR : Rect S1024x2048 := Rect.unit (s := S1024x2048) (k0_off3 0#32) S512x2048.size (k0_off3_inb 0)
abbrev botR : Rect S1024x2048 := Rect.unit (s := S1024x2048) (k0_off3 1#32) S512x2048.size (k0_off3_inb 1)
abbrev topG : Rect S1024x1024 := Rect.unit (s := S1024x1024) (k0_off4 0#32) S512x1024.size (k0_off4_inb 0)
abbrev botG : Rect S1024x1024 := Rect.unit (s := S1024x1024) (k0_off4 1#32) S512x1024.size (k0_off4_inb 1)

/-- The products added to the accumulator at one point, in two halves of the rows. -/
abbrev accL (A : S1024x2048.Idx → Elt F .f32) (g : S1024x1024.Idx → Elt F .bf16) (w : S1x2048x1024.Idx → Elt F .bf16) :
    List (View.Piece (Elt F) S1024x2048 .f32) :=
  [⟨botR, k0_pay2 (View.ld A botR) (View.ld g botG) w⟩, ⟨topR, k0_pay1 (View.ld A topR) (View.ld g topG) (k0_pay13 w)⟩]

/-- The accumulator after a point. -/
def accS (A : S1024x2048.Idx → Elt F .f32) (g : S1024x1024.Idx → Elt F .bf16) (w : S1x2048x1024.Idx → Elt F .bf16) : S1024x2048.Idx → Elt F .f32 :=
  View.canon (accL A g w)

/-- The rows of the gradient the loop has written, and their rounded copies. -/
def dxL (A X R : S1024x2048.Idx → Elt F .f32) (G : S1x2048.Idx → Elt F .f32) : ℕ → List (View.Piece (Elt F) S1024x2048 .f32)
  | 0 => []
  | k + 1 => if h : k < k0_t1_loop.trips then
      ⟨rowR ⟨k, h⟩, k0_pay9 (View.ld A (rowR ⟨k, h⟩)) (View.ld X (rowR ⟨k, h⟩)) G (View.ld R (rowR ⟨k, h⟩))⟩ :: dxL A X R G k
    else dxL A X R G k
def dxbL (A X R : S1024x2048.Idx → Elt F .f32) (G : S1x2048.Idx → Elt F .f32) : ℕ → List (View.Piece (Elt F) S1024x2048 .bf16)
  | 0 => []
  | k + 1 => if h : k < k0_t1_loop.trips then
      ⟨rowR ⟨k, h⟩, k0_pay3 (k0_pay10 (View.ld A (rowR ⟨k, h⟩)) (View.ld X (rowR ⟨k, h⟩)) G (View.ld R (rowR ⟨k, h⟩)))⟩ :: dxbL A X R G k
    else dxbL A X R G k
/-- The gain's gradient after a number of trips. -/
def dgL (A X : S1024x2048.Idx → Elt F .f32) (D : S1x2048.Idx → Elt F .f32) : ℕ → S1x2048.Idx → Elt F .f32
  | 0 => D
  | k + 1 => if h : k < k0_t1_loop.trips then
      k0_pay4 (k0_pay7 (View.ld A (rowR ⟨k, h⟩)) (View.ld X (rowR ⟨k, h⟩))) (dgL A X D k)
    else dgL A X D k

theorem dxL_succ (A X R : S1024x2048.Idx → Elt F .f32) (G : S1x2048.Idx → Elt F .f32) (k : Fin k0_t1_loop.trips) :
    dxL A X R G (k.val + 1) = ⟨rowR k, k0_pay9 (View.ld A (rowR k)) (View.ld X (rowR k)) G (View.ld R (rowR k))⟩ :: dxL A X R G k.val := by
  rw [dxL, dif_pos k.isLt]
theorem dxbL_succ (A X R : S1024x2048.Idx → Elt F .f32) (G : S1x2048.Idx → Elt F .f32) (k : Fin k0_t1_loop.trips) :
    dxbL A X R G (k.val + 1) = ⟨rowR k, k0_pay3 (k0_pay10 (View.ld A (rowR k)) (View.ld X (rowR k)) G (View.ld R (rowR k)))⟩ :: dxbL A X R G k.val := by
  rw [dxbL, dif_pos k.isLt]
theorem dgL_succ (A X : S1024x2048.Idx → Elt F .f32) (D : S1x2048.Idx → Elt F .f32) (k : Fin k0_t1_loop.trips) :
    dgL A X D (k.val + 1) = k0_pay4 (k0_pay7 (View.ld A (rowR k)) (View.ld X (rowR k))) (dgL A X D k.val) := by
  rw [dgL, dif_pos k.isLt]

theorem wholeA : bA.IsWhole := Memref.isWhole_whole _
theorem wholeX : bX.IsWhole := Memref.isWhole_whole _
theorem wholeR : bR.IsWhole := Memref.isWhole_whole _
theorem wholeD : bD.IsWhole := Memref.isWhole_whole _
theorem wholeDb : bDb.IsWhole := Memref.isWhole_whole _

abbrev loopI (A : bA.view.ty.Contents (Elt F)) (X : bX.view.ty.Contents (Elt F)) (R : bR.view.ty.Contents (Elt F))
    (G : arg4.view.ty.Contents (Elt F)) (D : arg9.view.ty.Contents (Elt F)) (fd : bD.view.ty.Contents (Elt F)) (fb : bDb.view.ty.Contents (Elt F))
    (k : ℕ) (_u : PUnit) : sProp (𝕄 F nD τ sig) :=
  iprop((arg4.view.loc (c : Thread nD τ) ↦[arg4.view.set]{fullShare} G)
    ∗ (bA.view.loc (c : Thread nD τ) ↦[bA.view.set]{fullShare} A)
    ∗ (bX.view.loc (c : Thread nD τ) ↦[bX.view.set]{fullShare} X)
    ∗ (bR.view.loc (c : Thread nD τ) ↦[bR.view.set]{fullShare} R)
    ∗ (∃ f, (arg9.view.loc (c : Thread nD τ) ↦[arg9.view.set]{fullShare} f)
        ∗ ⌜arg9.view.read (Elt F) f = dgL (bA.view.read (Elt F) A) (bX.view.read (Elt F) X) (arg9.view.read (Elt F) D) k⌝)
    ∗ (∃ f, (bD.view.loc (c : Thread nD τ) ↦[bD.view.set]{fullShare} f)
        ∗ ⌜f = bD.view.writes (Elt F) fd (dxL (bA.view.read (Elt F) A) (bX.view.read (Elt F) X) (bR.view.read (Elt F) R) (arg4.view.read (Elt F) G) k)⌝)
    ∗ (∃ f, (bDb.view.loc (c : Thread nD τ) ↦[bDb.view.set]{fullShare} f)
        ∗ ⌜f = bDb.view.writes (Elt F) fb (dxbL (bA.view.read (Elt F) A) (bX.view.read (Elt F) X) (bR.view.read (Elt F) R) (arg4.view.read (Elt F) G) k)⌝))

set_option warn.classDefReducibility false in
@[sl_loop] def loopP (h3 : k0_cond3 i = 1#1) (A : bA.view.ty.Contents (Elt F)) (X : bX.view.ty.Contents (Elt F)) (R : bR.view.ty.Contents (Elt F))
    (G : arg4.view.ty.Contents (Elt F)) (D : arg9.view.ty.Contents (Elt F)) (fd : bD.view.ty.Contents (Elt F)) (fb : bDb.view.ty.Contents (Elt F)) :
    LoopInvTy_k0_t1 (F := F) Unit ℕ (Pipeline.UC sig nD τ) ℕ Variants.none c none Set.univ i arg2 harg2 arg3 harg3 arg4 harg4
      mX (Memref.isWhole_whole _) mR (Memref.isWhole_whole _) mO (Memref.isWhole_whole _)
      mOb (Memref.isWhole_whole _) arg9 harg9 bA (Memref.isWhole_whole _) bX (Memref.isWhole_whole _) bR (Memref.isWhole_whole _)
      bD (Memref.isWhole_whole _) bDb (Memref.isWhole_whole _) cc0_scratch5 cc0_scratch6 h3 where
  inv := loopI c arg4 arg9 A X R G D fd fb
  step k acc := by
    have hk : k.val < 8 := Nat.lt_of_lt_of_le k.isLt k0_t1_abs.2.1
    unfold loopI
    iintro ⟨H4, HA, HX, HR, ⟨%f9, H9, %h9⟩, ⟨%fD, HD, %hD⟩, ⟨%fB, HB, %hB⟩⟩
    unfold k0_t1_body
    rw [k0_part1_eq_skeleton]
    unfold k0_part1_skel
    sl_exec
    sl_step
    iframe H4 HA HX HR
    isplitl [H9]
    · iexists _
      isplitl [H9]; · iexact H9
      ipureintro
      refine (read_full arg9.view _ zero2 _ _ []).trans ?_
      rw [View.readAt_eq_ld arg9.view, ld_full zero2, h9]
      rw [dgL_succ]
      rfl
    isplitl [HD]
    · iexists _
      isplitl [HD]; · iexact HD
      ipureintro
      rw [hD, View.readAt_eq_ld arg4.view, ld_full zero2, dxL_succ]
      rfl
    · iexists _
      isplitl [HB]; · iexact HB
      ipureintro
      rw [hB, View.readAt_eq_ld arg4.view, ld_full zero2, dxbL_succ]
      rfl

theorem wholeO : mO.IsWhole := Memref.isWhole_whole _
theorem wholeOb : mOb.IsWhole := Memref.isWhole_whole _
theorem wholeMX : mX.IsWhole := Memref.isWhole_whole _
theorem wholeMR : mR.IsWhole := Memref.isWhole_whole _

/-- The two halves cover the accumulator. -/
theorem cover_acc (a b) (y : S1024x2048.Idx) : ∃ p ∈ ([⟨botR, a⟩, ⟨topR, b⟩] : List (View.Piece (Elt F) S1024x2048 .f32)), y ∈ p.1.set := by
  have hy : (y 0).val < 1024 := (y 0).isLt
  have h0 : y ∈ topR.set ↔ 0 ≤ (y 0).val ∧ (y 0).val < 0 + 512 := mem_rows (h := 512) (lo := 0) (k0_off3_inb 0) y
  have h1 : y ∈ botR.set ↔ 512 ≤ (y 0).val ∧ (y 0).val < 512 + 512 := mem_rows (h := 512) (lo := 512) (k0_off3_inb 1) y
  by_cases h : (y 0).val < 512
  · exact ⟨_, List.mem_cons_of_mem _ (List.mem_singleton.mpr rfl), h0.mpr ⟨Nat.zero_le _, by omega⟩⟩
  · exact ⟨_, List.mem_cons_self, h1.mpr ⟨by omega, by omega⟩⟩

abbrev allW : Rect S1x2048x1024 := Rect.unit (s := S1x2048x1024) ![0, 0, 0] S1x2048x1024.size inb_S1x2048x1024_S1x2048x1024_0_0_0
theorem raw2 (A : S1024x2048.Idx → Elt F .f32) (g : S1024x1024.Idx → Elt F .bf16) (w : S1x2048x1024.Idx → Elt F .bf16) :
    k0_pay2 (View.readAt (Elt F) bA.view botR.toLoadRect (wholeA.unread A)) (View.readAt (Elt F) arg2.view botG.toLoadRect (harg2.unread g))
      (View.readAt (Elt F) arg3.view allW.toLoadRect (harg3.unread w)) = k0_pay2 (View.ld A botR) (View.ld g botG) w := by
  rw [ld_whole bA wholeA, ld_whole arg2 harg2, ld_all arg3 harg3 zero3]
theorem raw1 (A : S1024x2048.Idx → Elt F .f32) (g : S1024x1024.Idx → Elt F .bf16) (w : S1x2048x1024.Idx → Elt F .bf16) :
    k0_pay1 (View.readAt (Elt F) bA.view topR.toLoadRect (wholeA.unread A)) (View.readAt (Elt F) arg2.view topG.toLoadRect (harg2.unread g))
      (k0_pay13 (View.readAt (Elt F) arg3.view allW.toLoadRect (harg3.unread w))) = k0_pay1 (View.ld A topR) (View.ld g topG) (k0_pay13 w) := by
  rw [ld_whole bA wholeA, ld_whole arg2 harg2, ld_all arg3 harg3 zero3]

theorem acc_read (A : S1024x2048.Idx → Elt F .f32) (g : S1024x1024.Idx → Elt F .bf16) (w : S1x2048x1024.Idx → Elt F .bf16)
    (f : bA.view.ty.Contents (Elt F)) (a b) (ha : a = k0_pay2 (View.ld A botR) (View.ld g botG) w)
    (hb : b = k0_pay1 (View.ld A topR) (View.ld g topG) (k0_pay13 w)) :
    bA.view.read (Elt F) (bA.view.writes (Elt F) f [⟨botR, a⟩, ⟨topR, b⟩]) = accS A g w := by
  subst ha hb
  exact View.read_writes_eq_canon bA.view f (accL A g w) (cover_acc _ _)

abbrev allA : Rect S1024x2048 := Rect.unit (s := S1024x2048) ![0, 0] S1024x2048.size inb_S1024x2048_S1024x2048_0_0
/-- The accumulator cleared. -/
abbrev clear : List (View.Piece (Elt F) S1024x2048 .f32) := [⟨allA, k0_pay12⟩]
theorem full_mem (y : S1024x2048.Idx) : y ∈ allA.set :=
  (mem_rows (h := 1024) (lo := 0) inb_S1024x2048_S1024x2048_0_0 y).mpr ⟨Nat.zero_le _, by
    have : (y 0).val < 1024 := (y 0).isLt
    omega⟩
theorem canon_clear : View.canon (clear (F := F)) = k0_pay12 := funext fun y => by
  have h := View.canon_cons_emb (Val := Elt F) (e := .f32) allA (k0_pay12 (F := F)) [] y
  rwa [full_idx (s := S1024x2048) (off := ![0, 0]) zero2 inb_S1024x2048_S1024x2048_0_0 y] at h
theorem clear_top : bA.view.readCov (clear (F := F)) topR.toLoadRect = View.ld k0_pay12 topR :=
  (View.readCov_eq_canon_ld bA.view clear topR fun y => ⟨_, List.mem_singleton.mpr rfl, full_mem y⟩).trans
    (by rw [canon_clear])
theorem clear_bot (b) : bA.view.readCov (⟨topR, b⟩ :: clear (F := F)) botR.toLoadRect = View.ld k0_pay12 botR := by
  rw [View.readCov_eq_canon']
  funext j
  show View.canon (⟨topR, b⟩ :: clear (F := F)) (botR.emb j) = _
  rw [View.canon_cons_of_not_mem, canon_clear]
  · rfl
  · intro h
    have h0 : botR.emb j ∈ topR.set ↔ 0 ≤ (botR.emb j 0).val ∧ (botR.emb j 0).val < 0 + 512 := mem_rows (h := 512) (lo := 0) (k0_off3_inb 0) _
    have h1 : (botR.emb j 0).val = 512 + 1 * (j 0).val := rfl
    have := (h0.mp h).2
    omega
theorem raw2c (b) (g : S1024x1024.Idx → Elt F .bf16) (w : S1x2048x1024.Idx → Elt F .bf16) :
    k0_pay2 (bA.view.readCov (⟨topR, b⟩ :: clear (F := F)) botR.toLoadRect) (View.readAt (Elt F) arg2.view botG.toLoadRect (harg2.unread g))
      (View.readAt (Elt F) arg3.view allW.toLoadRect (harg3.unread w)) = k0_pay2 (View.ld k0_pay12 botR) (View.ld g botG) w := by
  rw [clear_bot, ld_whole arg2 harg2, ld_all arg3 harg3 zero3]
theorem raw1c (g : S1024x1024.Idx → Elt F .bf16) (w : S1x2048x1024.Idx → Elt F .bf16) :
    k0_pay1 (bA.view.readCov (clear (F := F)) topR.toLoadRect) (View.readAt (Elt F) arg2.view topG.toLoadRect (harg2.unread g))
      (k0_pay13 (View.readAt (Elt F) arg3.view allW.toLoadRect (harg3.unread w))) = k0_pay1 (View.ld k0_pay12 topR) (View.ld g topG) (k0_pay13 w) := by
  rw [clear_top, ld_whole arg2 harg2, ld_all arg3 harg3 zero3]
theorem acc_clear (g : S1024x1024.Idx → Elt F .bf16) (w : S1x2048x1024.Idx → Elt F .bf16) (f : bA.view.ty.Contents (Elt F)) (a b)
    (ha : a = k0_pay2 (View.ld k0_pay12 botR) (View.ld g botG) w) (hb : b = k0_pay1 (View.ld k0_pay12 topR) (View.ld g topG) (k0_pay13 w)) :
    bA.view.read (Elt F) (bA.view.writes (Elt F) f (⟨botR, a⟩ :: ⟨topR, b⟩ :: clear)) = accS k0_pay12 g w := by
  rw [show (⟨botR, a⟩ :: ⟨topR, b⟩ :: clear (F := F)) = [⟨botR, a⟩, ⟨topR, b⟩] ++ clear from rfl, View.writes_append]
  exact acc_read k0_pay12 g w _ a b ha hb

/-- The two copies of a block of results on their way. -/
def flying (a : Fin 4) (G : S4096x2048.Idx → Elt F .f32) (Gb : S4096x2048.Idx → Elt F .bf16) : sProp (𝕄 F nD τ sig) :=
  iprop((∃ fD, Transfers.Flight (countersEmb (U := Pipeline.UC sig nD τ)) (c : Thread nD τ) (SemLoc.dma (8 : DmaSem sig)) () 262144
      iprop(((arrB mO a).view.loc (c : Thread nD τ) ↦[(arrB mO a).view.set]{fullShare} arrF c mO a (wholeO.unread G)) ∗ (bD.view.loc (c : Thread nD τ) ↦[bD.view.set]{fullShare} fD)))
    ∗ (∃ fB, Transfers.Flight (countersEmb (U := Pipeline.UC sig nD τ)) (c : Thread nD τ) (SemLoc.dma (9 : DmaSem sig)) () 131072
      iprop(((arrB mOb a).view.loc (c : Thread nD τ) ↦[(arrB mOb a).view.set]{fullShare} arrF c mOb a (wholeOb.unread Gb)) ∗ (bDb.view.loc (c : Thread nD τ) ↦[bDb.view.set]{fullShare} fB))))
/-- A block of the two results. -/
def block (a : Fin 4) (f : Buf (Elt F) (mO.view.loc (c : Thread nD τ))) (fb : Buf (Elt F) (mOb.view.loc (c : Thread nD τ))) : sProp (𝕄 F nD τ sig) :=
  iprop(((arrB mO a).view.loc (c : Thread nD τ) ↦[(arrB mO a).view.set]{fullShare} arrF c mO a (f)) ∗ ((arrB mOb a).view.loc (c : Thread nD τ) ↦[(arrB mOb a).view.set]{fullShare} arrF c mOb a (fb)))
/-- The result buffers and their semaphores at rest. -/
def rest : sProp (𝕄 F nD τ sig) :=
  iprop(semVal ((c : Thread nD τ), SemLoc.dma (8 : DmaSem sig)) 0 ∗ semVal ((c : Thread nD τ), SemLoc.dma (9 : DmaSem sig)) 0
    ∗ (∃ fD, bD.view.loc (c : Thread nD τ) ↦[bD.view.set]{fullShare} fD) ∗ (∃ fB, bDb.view.loc (c : Thread nD τ) ↦[bDb.view.set]{fullShare} fB))

theorem mem_rowR (k : Fin k0_t1_loop.trips) (y : S1024x2048.Idx) : y ∈ (rowR k).set ↔ 128 * k.val ≤ (y 0).val ∧ (y 0).val < 128 * k.val + 128 := by
  have h : ∀ (off : Fin 2 → ℕ) (e : off = ![128 * k.val, 0]) (inb), y ∈ (Rect.unit (s := S1024x2048) off S128x2048.size inb).set
      ↔ 128 * k.val ≤ (y 0).val ∧ (y 0).val < 128 * k.val + 128 := by
    intro off e inb
    subst e
    exact mem_rows (h := 128) (lo := 128 * k.val) inb y
  exact h _ ClosedOff.eq _

theorem trips_eq : k0_t1_loop.trips = 8 := by decide

theorem cover_dx (A X R : S1024x2048.Idx → Elt F .f32) (Gn : S1x2048.Idx → Elt F .f32) :
    ∀ n ≤ 8, ∀ y : S1024x2048.Idx, (y 0).val < 128 * n → ∃ p ∈ dxL A X R Gn n, y ∈ p.1.set := by
  intro n
  induction n with
  | zero => intro _ y hy; omega
  | succ n ih =>
    intro hn y hy
    have hk : n < k0_t1_loop.trips := by rw [trips_eq]; omega
    rw [dxL_succ A X R Gn ⟨n, hk⟩]
    by_cases h : (y 0).val < 128 * n
    · obtain ⟨p, hp, hm⟩ := ih (by omega) y h
      exact ⟨p, List.mem_cons_of_mem _ hp, hm⟩
    · exact ⟨_, List.mem_cons_self, (mem_rowR ⟨n, hk⟩ y).mpr ⟨by show 128 * n ≤ _; omega, by show _ < 128 * n + 128; omega⟩⟩
theorem cover_dxb (A X R : S1024x2048.Idx → Elt F .f32) (Gn : S1x2048.Idx → Elt F .f32) :
    ∀ n ≤ 8, ∀ y : S1024x2048.Idx, (y 0).val < 128 * n → ∃ p ∈ dxbL A X R Gn n, y ∈ p.1.set := by
  intro n
  induction n with
  | zero => intro _ y hy; omega
  | succ n ih =>
    intro hn y hy
    have hk : n < k0_t1_loop.trips := by rw [trips_eq]; omega
    rw [dxbL_succ A X R Gn ⟨n, hk⟩]
    by_cases h : (y 0).val < 128 * n
    · obtain ⟨p, hp, hm⟩ := ih (by omega) y h
      exact ⟨p, List.mem_cons_of_mem _ hp, hm⟩
    · exact ⟨_, List.mem_cons_self, (mem_rowR ⟨n, hk⟩ y).mpr ⟨by show 128 * n ≤ _; omega, by show _ < 128 * n + 128; omega⟩⟩

theorem read_dx (A X R : S1024x2048.Idx → Elt F .f32) (Gn : S1x2048.Idx → Elt F .f32) (fD : bD.view.ty.Contents (Elt F)) :
    bD.view.read (Elt F) (bD.view.writes (Elt F) fD (dxL (bA.view.read (Elt F) (wholeA.unread A)) (bX.view.read (Elt F) (wholeX.unread X)) (bR.view.read (Elt F) (wholeR.unread R))
        (arg4.view.read (Elt F) (harg4.unread Gn)) 8)) = View.canon (dxL A X R Gn 8) := by
  rw [wholeA.read_unread, wholeX.read_unread, wholeR.read_unread, harg4.read_unread]
  exact View.read_writes_eq_canon bD.view fD _ fun y => cover_dx A X R Gn 8 le_rfl y (y 0).isLt
theorem read_dxb (A X R : S1024x2048.Idx → Elt F .f32) (Gn : S1x2048.Idx → Elt F .f32) (fD : bDb.view.ty.Contents (Elt F)) :
    bDb.view.read (Elt F) (bDb.view.writes (Elt F) fD (dxbL (bA.view.read (Elt F) (wholeA.unread A)) (bX.view.read (Elt F) (wholeX.unread X)) (bR.view.read (Elt F) (wholeR.unread R))
        (arg4.view.read (Elt F) (harg4.unread Gn)) 8)) = View.canon (dxbL A X R Gn 8) := by
  rw [wholeA.read_unread, wholeX.read_unread, wholeR.read_unread, harg4.read_unread]
  exact View.read_writes_eq_canon bDb.view fD _ fun y => cover_dxb A X R Gn 8 le_rfl y (y 0).isLt

theorem run_mid (h1 : ¬ k0_cond1 i = 1#1) (h3 : ¬ k0_cond3 i = 1#1) (h2 : ¬ (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread (accS A g w))
      ∗ laneX c (fa i) (wholeMX.unread xs) dx ((fk i).val + 1) ∗ laneR c (fa i) (wholeMR.unread rs) dr ((fk i).val + 1)
      ∗ owes (c : Thread nD τ) 0 W)) := by
  unfold laneX laneR
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, HW⟩
  unfold body
  rw [cc0_grad_x_eq_skeleton]
  unfold cc0_grad_x_skel
  rw [k0_part2_eq_skeleton]
  unfold k0_part2_skel
  sl_exec
  sl_step
  iframe H2 H3 H4 H9
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  isplitl [HA]; · iexact HA
  unfold lane
  iframe HBx Hbxs Hsxs HRx HBr Hbrs Hsrs HRr HW

theorem run_next (h1 : ¬ k0_cond1 i = 1#1) (h3 : ¬ k0_cond3 i = 1#1) (h2 : (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} A)
      ∗ laneX c (fa i) (wholeMX.unread xs) dx (fk i).val ∗ laneR c (fa i) (wholeMR.unread rs) dr (fk i).val
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread (accS k0_pay12 g w))
      ∗ laneX c (fa i) (wholeMX.unread xs) dx ((fk i).val + 1) ∗ laneR c (fa i) (wholeMR.unread rs) dr ((fk i).val + 1)
      ∗ owes (c : Thread nD τ) 0 W)) := by
  unfold laneX laneR
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, HW⟩
  unfold body
  rw [cc0_grad_x_eq_skeleton]
  unfold cc0_grad_x_skel
  rw [k0_part2_eq_skeleton]
  unfold k0_part2_skel
  sl_exec
  sl_step
  iframe H2 H3 H4 H9
  ihave HA := (hold_whole (F := F) c bA wholeA (accS k0_pay12 g w) _) $$ [HA]
  · isplitl [HA]; · iexact HA
    ipureintro
    refine acc_clear g w _ _ _ ?_ ?_
    · exact raw2c arg2 harg2 arg3 harg3 _ g w
    · exact raw1c arg2 harg2 arg3 harg3 g w
  isplitl [HA]; · iexact HA
  unfold lane
  iframe HBx Hbxs Hsxs HRx HBr Hbrs Hsrs HRr HW

theorem run_first (h1 : k0_cond1 i = 1#1) (h3 : ¬ k0_cond3 i = 1#1) (h2 : (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} A)
      ∗ laneX c (fa i) (wholeMX.unread xs) dx (fk i).val ∗ laneR c (fa i) (wholeMR.unread rs) dr (fk i).val
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread k0_pay11)
      ∗ (bA.view.loc (c : Thread nD τ) ↦[bA.view.set]{fullShare} wholeA.unread (accS k0_pay12 g w))
      ∗ laneX c (fa i) (wholeMX.unread xs) dx ((fk i).val + 1) ∗ laneR c (fa i) (wholeMR.unread rs) dr ((fk i).val + 1)
      ∗ owes (c : Thread nD τ) 0 W)) := by
  unfold laneX laneR
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, HW⟩
  unfold body
  rw [cc0_grad_x_eq_skeleton]
  unfold cc0_grad_x_skel
  rw [k0_part2_eq_skeleton]
  unfold k0_part2_skel
  sl_exec
  sl_step
  iframe H2 H3 H4
  ihave H9 := (hold_whole (F := F) c arg9 harg9 k0_pay11 _) $$ [H9]
  · isplitl [H9]; · iexact H9
    ipureintro
    exact read_full arg9.view _ zero2 _ _ []
  isplitl [H9]; · iexact H9
  ihave HA := (hold_whole (F := F) c bA wholeA (accS k0_pay12 g w) _) $$ [HA]
  · isplitl [HA]; · iexact HA
    ipureintro
    refine acc_clear g w _ _ _ ?_ ?_
    · exact raw2c arg2 harg2 arg3 harg3 _ g w
    · exact raw1c arg2 harg2 arg3 harg3 g w
  isplitl [HA]; · iexact HA
  unfold lane
  iframe HBx Hbxs Hsxs HRx HBr Hbrs Hsrs HRr HW

theorem run_end0 (h1 : ¬ k0_cond1 i = 1#1) (h3 : k0_cond3 i = 1#1) (h4 : ¬ k0_cond4 i = 1#1) (h5 : ¬ k0_cond5 i = 1#1) (h7 : (fk i).val + 1 = 4) (h2 : ¬ (Scalar.cmpi .ne (Scalar.extui (Scalar.cmpi .eq (BitVec.ofNat 32 (i 1).val) 0#32) : BitVec 32) 0#32) = 1#1)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))

    (fO : Buf (Elt F) (mO.view.loc (c : Thread nD τ))) (fOb : Buf (Elt F) (mOb.view.loc (c : Thread nD τ)))
    (G : S4096x2048.Idx → Elt F .f32) (Gb : S4096x2048.Idx → Elt F .bf16)
    (hG : blkOf G (fa i) = View.canon (dxL (accS A g w) (blkOf xs (fa i)) (blkOf rs (fa i)) gn 8))
    (hGb : blkOf Gb (fa i) = View.canon (dxbL (accS A g w) (blkOf xs (fa i)) (blkOf rs (fa i)) gn 8))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ block c (fa i) fO fOb ∗ rest c
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread (dgL (accS A g w) (blkOf xs (fa i)) dg 8))
      ∗ (∃ f, bA.view.loc (c : Thread nD τ) ↦[bA.view.set]{fullShare} f)
      ∗ idle c mX bX 6 (wholeMX.unread xs) ∗ idle c mR bR 7 (wholeMR.unread rs)
      ∗ flying c (fa i) G Gb
      ∗ ∃ W', owes (c : Thread nD τ) 0 W')) := by
  unfold laneX laneR idle block rest flying
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, ⟨HO, HOb⟩, ⟨Hs8, Hs9, ⟨%fD, HD⟩, ⟨%fB, HB⟩⟩, HW⟩
  unfold body
  rw [cc0_grad_x_eq_skeleton]
  unfold cc0_grad_x_skel
  rw [k0_part2_eq_skeleton]
  unfold k0_part2_skel
  sl_exec
  rw [h7]
  sl_exec
  ihave HX := (drained4 (F := F) c mX (Memref.isWhole_whole _) bX wholeX hpn (fa i) xs) $$ [HBx_dst0 HBx_src0 HBx_dst1 HBx_src1 HBx_dst2 HBx_src2 HBx_dst3 HBx_src3 HRx]
  · iframe HBx_dst0 HBx_src0 HBx_dst1 HBx_src1 HBx_dst2 HBx_src2 HBx_dst3 HBx_src3 HRx
  icases HX with ⟨HX, HmX⟩
  ihave HR := (drained4 (F := F) c mR (Memref.isWhole_whole _) bR wholeR hpn (fa i) rs) $$ [HBr_dst0 HBr_src0 HBr_dst1 HBr_src1 HBr_dst2 HBr_src2 HBr_dst3 HBr_src3 HRr]
  · iframe HBr_dst0 HBr_src0 HBr_dst1 HBr_src1 HBr_dst2 HBr_src2 HBr_dst3 HBr_src3 HRr
  icases HR with ⟨HR, HmR⟩
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  sl_exec
  rename View.read (Elt F) arg9.view _ = _ => hL
  rw [wholeA.read_unread, wholeX.read_unread, harg9.read_unread] at hL
  ihave H9 := (hold_whole (F := F) c arg9 harg9 (dgL (accS A g w) (blkOf xs (fa i)) dg 8) _) $$ [H9]
  · isplitl [H9]
    · iexact H9
    · ipureintro
      exact hL
  ihave Hs8 := (flight_landed (F := F) c mO wholeO bD 8 262144 (fa i) _ _ _ G) $$ [Hs8]
  · isplitl [Hs8]
    · iexact Hs8
    · ipureintro
      exact (read_dx arg4 harg4 (accS A g w) (blkOf xs (fa i)) (blkOf rs (fa i)) gn _).trans hG.symm
  ihave Hs9 := (flight_landed (F := F) c mOb wholeOb bDb 9 131072 (fa i) _ _ _ Gb) $$ [Hs9]
  · isplitl [Hs9]
    · iexact Hs9
    · ipureintro
      exact (read_dxb arg4 harg4 (accS A g w) (blkOf xs (fa i)) (blkOf rs (fa i)) gn _).trans hGb.symm
  sl_step
  iframe H2 H3 H4 H9
  isplitl [HA]
  · iexists _
    iexact HA
  isplitl [HBx HX HmX]
  · iframe HBx
    isplitl [HX]
    · iexists _
      iexact HX
    · iexact HmX
  isplitl [HBr HR HmR]
  · iframe HBr
    isplitl [HR]
    · iexists _
      iexact HR
    · iexact HmR
  isplitl [Hs8 Hs9]
  · isplitl [Hs8]
    · iexists _
      iexact Hs8
    · iexists _
      iexact Hs9
  iexists _
  iexact HW

theorem run_end1 (h1 : ¬ k0_cond1 i = 1#1) (h3 : k0_cond3 i = 1#1) (h4 : k0_cond4 i = 1#1) (h5 : ¬ k0_cond5 i = 1#1) (h7 : (fk i).val + 1 = 4) (h2 : ¬ (Scalar.cmpi .ne (Scalar.extui (Scalar.cmpi .eq (BitVec.ofNat 32 (i 1).val) 0#32) : BitVec 32) 0#32) = 1#1) (a' : Fin 4)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))

    (fO : Buf (Elt F) (mO.view.loc (c : Thread nD τ))) (fOb : Buf (Elt F) (mOb.view.loc (c : Thread nD τ)))
    (G : S4096x2048.Idx → Elt F .f32) (Gb : S4096x2048.Idx → Elt F .bf16)
    (hG : blkOf G (fa i) = View.canon (dxL (accS A g w) (blkOf xs (fa i)) (blkOf rs (fa i)) gn 8))
    (hGb : blkOf Gb (fa i) = View.canon (dxbL (accS A g w) (blkOf xs (fa i)) (blkOf rs (fa i)) gn 8))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ block c (fa i) fO fOb ∗ flying c a' G Gb
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread (dgL (accS A g w) (blkOf xs (fa i)) dg 8))
      ∗ (∃ f, bA.view.loc (c : Thread nD τ) ↦[bA.view.set]{fullShare} f)
      ∗ idle c mX bX 6 (wholeMX.unread xs) ∗ idle c mR bR 7 (wholeMR.unread rs)
      ∗ flying c (fa i) G Gb ∗ block c a' (wholeO.unread G) (wholeOb.unread Gb)
      ∗ ∃ W', owes (c : Thread nD τ) 0 W')) := by
  unfold laneX laneR idle block flying
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, ⟨HO, HOb⟩, ⟨⟨%fD, Hs8⟩, ⟨%fB, Hs9⟩⟩, HW⟩
  unfold body
  rw [cc0_grad_x_eq_skeleton]
  unfold cc0_grad_x_skel
  rw [k0_part2_eq_skeleton]
  unfold k0_part2_skel
  sl_exec
  rw [h7]
  sl_exec
  ihave HX := (drained4 (F := F) c mX (Memref.isWhole_whole _) bX wholeX hpn (fa i) xs) $$ [HBx_dst0 HBx_src0 HBx_dst1 HBx_src1 HBx_dst2 HBx_src2 HBx_dst3 HBx_src3 HRx]
  · iframe HBx_dst0 HBx_src0 HBx_dst1 HBx_src1 HBx_dst2 HBx_src2 HBx_dst3 HBx_src3 HRx
  icases HX with ⟨HX, HmX⟩
  ihave HR := (drained4 (F := F) c mR (Memref.isWhole_whole _) bR wholeR hpn (fa i) rs) $$ [HBr_dst0 HBr_src0 HBr_dst1 HBr_src1 HBr_dst2 HBr_src2 HBr_dst3 HBr_src3 HRr]
  · iframe HBr_dst0 HBr_src0 HBr_dst1 HBr_src1 HBr_dst2 HBr_src2 HBr_dst3 HBr_src3 HRr
  icases HR with ⟨HR, HmR⟩
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  sl_exec
  rename View.read (Elt F) arg9.view _ = _ => hL
  rw [wholeA.read_unread, wholeX.read_unread, harg9.read_unread] at hL
  ihave H9 := (hold_whole (F := F) c arg9 harg9 (dgL (accS A g w) (blkOf xs (fa i)) dg 8) _) $$ [H9]
  · isplitl [H9]
    · iexact H9
    · ipureintro
      exact hL
  ihave Hs8 := (flight_landed (F := F) c mO wholeO bD 8 262144 (fa i) _ _ _ G) $$ [Hs8]
  · isplitl [Hs8]
    · iexact Hs8
    · ipureintro
      exact (read_dx arg4 harg4 (accS A g w) (blkOf xs (fa i)) (blkOf rs (fa i)) gn _).trans hG.symm
  ihave Hs9 := (flight_landed (F := F) c mOb wholeOb bDb 9 131072 (fa i) _ _ _ Gb) $$ [Hs9]
  · isplitl [Hs9]
    · iexact Hs9
    · ipureintro
      exact (read_dxb arg4 harg4 (accS A g w) (blkOf xs (fa i)) (blkOf rs (fa i)) gn _).trans hGb.symm
  sl_step
  iframe H2 H3 H4 H9
  isplitl [HA]
  · iexists _
    iexact HA
  isplitl [HBx HX HmX]
  · iframe HBx
    isplitl [HX]
    · iexists _
      iexact HX
    · iexact HmX
  isplitl [HBr HR HmR]
  · iframe HBr
    isplitl [HR]
    · iexists _
      iexact HR
    · iexact HmR
  isplitl [Hs8 Hs9]
  · isplitl [Hs8]
    · iexists _
      iexact Hs8
    · iexists _
      iexact Hs9
  iframe Hs8_dst Hs9_dst
  iexists _
  iexact HW

theorem run_end2 (h1 : ¬ k0_cond1 i = 1#1) (h3 : k0_cond3 i = 1#1) (h4 : k0_cond4 i = 1#1) (h5 : k0_cond5 i = 1#1) (h7 : (fk i).val + 1 = 4) (h2 : ¬ (Scalar.cmpi .ne (Scalar.extui (Scalar.cmpi .eq (BitVec.ofNat 32 (i 1).val) 0#32) : BitVec 32) 0#32) = 1#1) (a' : Fin 4)
    (g : S1024x1024.Idx → Elt F .bf16) (w : S1x2048x1024.Idx → Elt F .bf16) (gn dg : S1x2048.Idx → Elt F .f32) (A : S1024x2048.Idx → Elt F .f32)
    (xs rs : S4096x2048.Idx → Elt F .f32)
    (dx : Buf (Elt F) (bX.view.loc (c : Thread nD τ))) (dr : Buf (Elt F) (bR.view.loc (c : Thread nD τ)))

    (fO : Buf (Elt F) (mO.view.loc (c : Thread nD τ))) (fOb : Buf (Elt F) (mOb.view.loc (c : Thread nD τ)))
    (G : S4096x2048.Idx → Elt F .f32) (Gb : S4096x2048.Idx → Elt F .bf16)
    (hG : blkOf G (fa i) = View.canon (dxL (accS A g w) (blkOf xs (fa i)) (blkOf rs (fa i)) gn 8))
    (hGb : blkOf Gb (fa i) = View.canon (dxbL (accS A g w) (blkOf xs (fa i)) (blkOf rs (fa i)) gn 8))
    (W : Waits sig Unit) :
    iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread dg)
      ∗ (bA.view.loc (c : Thread nD τ) ↦[bA.view.set]{fullShare} wholeA.unread A)
      ∗ laneX c (fa i) (wholeMX.unread xs) dx (fk i).val ∗ laneR c (fa i) (wholeMR.unread rs) dr (fk i).val
      ∗ block c (fa i) fO fOb ∗ flying c a' G Gb
      ∗ owes (c : Thread nD τ) 0 W)
    ⊢ wp frame (wpE (defs₀ (F := F)) Variants.none c none) Set.univ (body (F := F) i arg2 harg2 arg3 harg3 arg4 harg4 arg9 harg9) (fun _ =>
      iprop((arg2.view.loc (c : Thread nD τ) ↦[arg2.view.set]{fullShare} harg2.unread g)
      ∗ (arg3.view.loc (c : Thread nD τ) ↦[arg3.view.set]{fullShare} harg3.unread w)
      ∗ (arg4.view.loc (c : Thread nD τ) ↦[arg4.view.set]{fullShare} harg4.unread gn)
      ∗ (arg9.view.loc (c : Thread nD τ) ↦[arg9.view.set]{fullShare} harg9.unread (dgL (accS A g w) (blkOf xs (fa i)) dg 8))
      ∗ (∃ f, bA.view.loc (c : Thread nD τ) ↦[bA.view.set]{fullShare} f)
      ∗ idle c mX bX 6 (wholeMX.unread xs) ∗ idle c mR bR 7 (wholeMR.unread rs)
      ∗ (block c (fa i) (wholeO.unread G) (wholeOb.unread Gb) ∗ rest c) ∗ block c a' (wholeO.unread G) (wholeOb.unread Gb)
      ∗ ∃ W', owes (c : Thread nD τ) 0 W')) := by
  unfold laneX laneR idle block rest flying
  rw [lane_next (k := fk i), lane_next (k := fk i)]
  iintro ⟨H2, H3, H4, H9, HA, ⟨HBx, ⟨Hbx, Hbxs⟩, ⟨Hsx, Hsxs⟩, HRx⟩, ⟨HBr, ⟨Hbr, Hbrs⟩, ⟨Hsr, Hsrs⟩, HRr⟩, ⟨HO, HOb⟩, ⟨⟨%fD, Hs8⟩, ⟨%fB, Hs9⟩⟩, HW⟩
  unfold body
  rw [cc0_grad_x_eq_skeleton]
  unfold cc0_grad_x_skel
  rw [k0_part2_eq_skeleton]
  unfold k0_part2_skel
  sl_exec
  rw [h7]
  sl_exec
  ihave HX := (drained4 (F := F) c mX (Memref.isWhole_whole _) bX wholeX hpn (fa i) xs) $$ [HBx_dst0 HBx_src0 HBx_dst1 HBx_src1 HBx_dst2 HBx_src2 HBx_dst3 HBx_src3 HRx]
  · iframe HBx_dst0 HBx_src0 HBx_dst1 HBx_src1 HBx_dst2 HBx_src2 HBx_dst3 HBx_src3 HRx
  icases HX with ⟨HX, HmX⟩
  ihave HR := (drained4 (F := F) c mR (Memref.isWhole_whole _) bR wholeR hpn (fa i) rs) $$ [HBr_dst0 HBr_src0 HBr_dst1 HBr_src1 HBr_dst2 HBr_src2 HBr_dst3 HBr_src3 HRr]
  · iframe HBr_dst0 HBr_src0 HBr_dst1 HBr_src1 HBr_dst2 HBr_src2 HBr_dst3 HBr_src3 HRr
  icases HR with ⟨HR, HmR⟩
  ihave HA := (hold_whole (F := F) c bA wholeA (accS A g w) _) $$ [HA]
  · isplitl [HA]; · iexact HA
    ipureintro
    refine acc_read A g w _ _ _ ?_ ?_
    · exact raw2 arg2 harg2 arg3 harg3 A g w
    · exact raw1 arg2 harg2 arg3 harg3 A g w
  sl_exec
  rename View.read (Elt F) arg9.view _ = _ => hL
  rw [wholeA.read_unread, wholeX.read_unread, harg9.read_unread] at hL
  ihave H9 := (hold_whole (F := F) c arg9 harg9 (dgL (accS A g w) (blkOf xs (fa i)) dg 8) _) $$ [H9]
  · isplitl [H9]
    · iexact H9
    · ipureintro
      exact hL
  ihave HO := (block_landed (F := F) c mO wholeO (fa i) _ _ G) $$ [HO]
  · isplitl [HO]
    · iexact HO
    · ipureintro
      exact (read_dx arg4 harg4 (accS A g w) (blkOf xs (fa i)) (blkOf rs (fa i)) gn _).trans hG.symm
  ihave HOb := (block_landed (F := F) c mOb wholeOb (fa i) _ _ Gb) $$ [HOb]
  · isplitl [HOb]
    · iexact HOb
    · ipureintro
      exact (read_dxb arg4 harg4 (accS A g w) (blkOf xs (fa i)) (blkOf rs (fa i)) gn _).trans hGb.symm
  sl_step
  iframe H2 H3 H4 H9
  isplitl [HA]
  · iexists _
    iexact HA
  isplitl [HBx HX HmX]
  · iframe HBx
    isplitl [HX]
    · iexists _
      iexact HX
    · iexact HmX
  isplitl [HBr HR HmR]
  · iframe HBr
    isplitl [HR]
    · iexists _
      iexact HR
    · iexact HmR
  isplitl [HO HOb Hs8 Hs9 Hs8_src Hs9_src]
  · iframe HO HOb Hs8 Hs9
    isplitl [Hs8_src]
    · iexists _
      iexact Hs8_src
    · iexists _
      iexact Hs9_src
  iframe Hs8_dst Hs9_dst
  iexists _
  iexact HW

end Cert.GradX

end
-- ==== Proof.NormGrad.XFrame.lean ====
/-
  The product joined with the norm's gradient, over its grid: what the accumulator, the gain's gradient and the results hold
  from point to point, the body's obligation at a point, and the whole run.
-/
import proofs.«01_k».proof.Proof.NormGrad.XRun

set_option maxRecDepth 16384
set_option maxHeartbeats 1000000

noncomputable section

namespace Cert.GradX

open Cert.NormGrad Cert.GradXIdeal Cert.GradXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

/-! ## Contents -/

/-- Point `n` of the grid. -/
def pt (n : ℕ) : Fin cfg0.N := ⟨n % 16, lt_of_lt_of_eq (Nat.mod_lt _ (by decide)) N_0.symm⟩
theorem pt_val (t : Fin cfg0.N) : pt t.val = t := Fin.ext (Nat.mod_eq_of_lt (lt_of_lt_of_eq t.isLt N_0))
/-- The row block of point `n`. -/
def bk (n : ℕ) : Fin 4 := ⟨n / 4 % 4, Nat.mod_lt _ (by decide)⟩

def gB (n : ℕ) : S1024x1024.Idx → Elt F .bf16 := iblk m c 0 (pt n)
def wB (n : ℕ) : S1x2048x1024.Idx → Elt F .bf16 := iblk m c 1 (pt n)
def gnB (n : ℕ) : S1x2048.Idx → Elt F .f32 := iblk m c 2 (pt n)
def xs : S4096x2048.Idx → Elt F .f32 := mX.view.read (Elt F) (V m c main_arg2)
def rs : S4096x2048.Idx → Elt F .f32 := mR.view.read (Elt F) (V m c main_arg4)

/-- The accumulator before point `n`. -/
def accN : ℕ → S1024x2048.Idx → Elt F .f32
  | 0 => k0_pay12
  | n + 1 => accS (if n % 4 = 0 then k0_pay12 else accN n) (gB m c n) (wB m c n)
/-- The gain's gradient before point `n`. -/
def dgN : ℕ → S1x2048.Idx → Elt F .f32
  | 0 => k0_pay11
  | n + 1 => if n % 4 = 3 then dgL (accN m c (n + 1)) (blkOf (xs m c) (bk n)) (dgN n) 8 else dgN n
/-- The two results. -/
def resO : S4096x2048.Idx → Elt F .f32 :=
  stack fun a => View.canon (dxL (accN m c (4 * a.val + 3 + 1)) (blkOf (xs m c) a) (blkOf (rs m c) a) (gnB m c (4 * a.val + 3)) 8)
def resOb : S4096x2048.Idx → Elt F .bf16 :=
  stack fun a => View.canon (dxbL (accN m c (4 * a.val + 3 + 1)) (blkOf (xs m c) a) (blkOf (rs m c) a) (gnB m c (4 * a.val + 3)) 8)

theorem accN_start {n : ℕ} (h : n % 4 = 0) : accN m c (n + 1) = accS k0_pay12 (gB m c n) (wB m c n) := by
  rw [accN, if_pos h]
theorem accN_next {n : ℕ} (h : ¬ n % 4 = 0) : accN m c (n + 1) = accS (accN m c n) (gB m c n) (wB m c n) := by
  rw [accN, if_neg h]
theorem dgN_end {n : ℕ} (h : n % 4 = 3) : dgN m c (n + 1) = dgL (accN m c (n + 1)) (blkOf (xs m c) (bk n)) (dgN m c n) 8 := by
  rw [dgN, if_pos h]
theorem dgN_keep {n : ℕ} (h : ¬ n % 4 = 3) : dgN m c (n + 1) = dgN m c n := by
  rw [dgN, if_neg h]

theorem res_blk {n : ℕ} (hn : n < 16) (h : n % 4 = 3) : blkOf (resO m c) (bk n)
    = View.canon (dxL (accS (accN m c n) (gB m c n) (wB m c n)) (blkOf (xs m c) (bk n)) (blkOf (rs m c) (bk n)) (gnB m c n) 8) := by
  have e : 4 * (bk n).val + 3 = n := by
    show 4 * (n / 4 % 4) + 3 = n
    omega
  unfold resO
  rw [blkOf_stack, e, accN_next m c (by omega)]
theorem resb_blk {n : ℕ} (hn : n < 16) (h : n % 4 = 3) : blkOf (resOb m c) (bk n)
    = View.canon (dxbL (accS (accN m c n) (gB m c n) (wB m c n)) (blkOf (xs m c) (bk n)) (blkOf (rs m c) (bk n)) (gnB m c n) 8) := by
  have e : 4 * (bk n).val + 3 = n := by
    show 4 * (n / 4 % 4) + 3 = n
    omega
  unfold resOb
  rw [blkOf_stack, e, accN_next m c (by omega)]

/-! ## The state between points -/

def accP (n : ℕ) : sProp (𝕄 F nD τ sig) :=
  if n % 4 = 0 then iprop(∃ f, bA.view.loc (c : Thread nD τ) ↦[bA.view.set]{fullShare} f)
  else iprop(bA.view.loc (c : Thread nD τ) ↦[bA.view.set]{fullShare} wholeA.unread (accN m c n))
def inP (n : ℕ) : sProp (𝕄 F nD τ sig) :=
  if n % 4 = 0 then iprop(idle c mX bX 6 (wholeMX.unread (xs m c)) ∗ idle c mR bR 7 (wholeMR.unread (rs m c)))
  else iprop((∃ dx, laneX c (bk n) (wholeMX.unread (xs m c)) dx (n % 4)) ∗ (∃ dr, laneR c (bk n) (wholeMR.unread (rs m c)) dr (n % 4)))
/-- A block of the results before the call has written it, and after. -/
abbrev old (a : Fin 4) : sProp (𝕄 F nD τ sig) := block c a (V m c main_v1_0) (V m c main_v1_1)
abbrev new (a : Fin 4) : sProp (𝕄 F nD τ sig) := block c a (wholeO.unread (resO m c)) (wholeOb.unread (resOb m c))
abbrev fly (a : Fin 4) : sProp (𝕄 F nD τ sig) := flying c a (resO m c) (resOb m c)
def outP : ℕ → sProp (𝕄 F nD τ sig)
  | 0 => iprop(rest c ∗ old m c 0 ∗ old m c 1 ∗ old m c 2 ∗ old m c 3)
  | 1 => iprop(fly m c 0 ∗ old m c 1 ∗ old m c 2 ∗ old m c 3)
  | 2 => iprop(fly m c 1 ∗ new m c 0 ∗ old m c 2 ∗ old m c 3)
  | 3 => iprop(fly m c 2 ∗ new m c 0 ∗ new m c 1 ∗ old m c 3)
  | _ => iprop(rest c ∗ new m c 0 ∗ new m c 1 ∗ new m c 2 ∗ new m c 3)
theorem outP_0 : outP m c 0 = iprop(rest c ∗ old m c 0 ∗ old m c 1 ∗ old m c 2 ∗ old m c 3) := rfl
theorem outP_1 : outP m c 1 = iprop(fly m c 0 ∗ old m c 1 ∗ old m c 2 ∗ old m c 3) := rfl
theorem outP_2 : outP m c 2 = iprop(fly m c 1 ∗ new m c 0 ∗ old m c 2 ∗ old m c 3) := rfl
theorem outP_3 : outP m c 3 = iprop(fly m c 2 ∗ new m c 0 ∗ new m c 1 ∗ old m c 3) := rfl
theorem outP_4 : outP m c 4 = iprop(rest c ∗ new m c 0 ∗ new m c 1 ∗ new m c 2 ∗ new m c 3) := rfl
def stP (n : ℕ) : sProp (𝕄 F nD τ sig) := iprop(accP m c n ∗ inP m c n ∗ outP m c (n / 4) ∗ ∃ r, prngReg c r)

/-! ## A point -/

section Point

variable (t : Fin cfg0.N)
  (arg2 : Memref sig .tc .vmem S1024x1024 .bf16) (harg2 : arg2.IsWhole) (arg3 : Memref sig .tc .vmem S1x2048x1024 .bf16) (harg3 : arg3.IsWhole)
  (arg4 : Memref sig .tc .vmem S1x2048 .f32) (harg4 : arg4.IsWhole) (arg9 : Memref sig .tc .vmem S1x2048 .f32) (harg9 : arg9.IsWhole)
  (dg : S1x2048.Idx → Elt F .f32) (W : Waits sig Unit)

/-- The windows at a point, the gain's gradient at `dg`. -/
def wins (dg : S1x2048.Idx → Elt F .f32) : sProp (𝕄 F nD τ sig) :=
  iprop((arg2.view.loc (c : Thread nD τ) ↦[arg2.view.set]{fullShare} harg2.unread (gB m c t.val))
      ∗ (arg3.view.loc (c : Thread nD τ) ↦[arg3.view.set]{fullShare} harg3.unread (wB m c t.val))
      ∗ (arg4.view.loc (c : Thread nD τ) ↦[arg4.view.set]{fullShare} harg4.unread (gnB m c t.val))
      ∗ (arg9.view.loc (c : Thread nD τ) ↦[arg9.view.set]{fullShare} harg9.unread dg))

abbrev step (dg : S1x2048.Idx → Elt F .f32) : Prop :=
  iprop(wins m c t arg2 harg2 arg3 harg3 arg4 harg4 arg9 harg9 dg ∗ stP m c t.val ∗ owes (c : Thread nD τ) 0 W)
    ⊢ wp frame (wpE (defs₀ (F := F)) Variants.none c none) Set.univ (body (F := F) (grid0.coords t) arg2 harg2 arg3 harg3 arg4 harg4 arg9 harg9) (fun _ =>
      iprop(wins m c t arg2 harg2 arg3 harg3 arg4 harg4 arg9 harg9 (dgN m c (t.val + 1)) ∗ stP m c (t.val + 1) ∗ ∃ W', owes (c : Thread nD τ) 0 W'))

theorem coords_eq : ∀ t : Fin grid0.N, (grid0.coords t 0).val = t.val / 4 ∧ (grid0.coords t 1).val = t.val % 4 := by decide +kernel
theorem fa_eq : fa (grid0.coords t) = bk t.val := Fin.ext (by
  show (grid0.coords t 0).val = t.val / 4 % 4
  have := (coords_eq t).1
  have := lt_of_lt_of_eq t.isLt N_0
  omega)
theorem fk_eq : (fk (grid0.coords t)).val = t.val % 4 := (coords_eq t).2
theorem cond1_eq : ∀ t : Fin grid0.N, k0_cond1 (grid0.coords t) = 1#1 ↔ t.val = 0 := by decide +kernel
theorem cond2_eq : ∀ t : Fin grid0.N, (Scalar.cmpi .ne (Scalar.extui (Scalar.cmpi .eq (BitVec.ofNat 32 (grid0.coords t 1).val) 0#32) : BitVec 32) 0#32) = 1#1
    ↔ t.val % 4 = 0 := by decide +kernel
theorem cond3_eq : ∀ t : Fin grid0.N, k0_cond3 (grid0.coords t) = 1#1 ↔ t.val % 4 = 3 := by decide +kernel
theorem cond4_eq : ∀ t : Fin grid0.N, t.val % 4 = 3 → (k0_cond4 (grid0.coords t) = 1#1 ↔ 4 ≤ t.val) := by decide +kernel
theorem cond5_eq : ∀ t : Fin grid0.N, t.val % 4 = 3 → (k0_cond5 (grid0.coords t) = 1#1 ↔ t.val = 15) := by decide +kernel

/-- A point between a block's first and its last. -/
theorem step_mid (h0 : ¬ t.val % 4 = 0) (h7 : ¬ t.val % 4 = 3) : step m c t arg2 harg2 arg3 harg3 arg4 harg4 arg9 harg9 W (dgN m c t.val) := by
  have hd : (t.val + 1) / 4 = t.val / 4 := by omega
  have hm : (t.val + 1) % 4 = t.val % 4 + 1 := by omega
  have hb : bk (t.val + 1) = bk t.val := Fin.ext (by
    show (t.val + 1) / 4 % 4 = t.val / 4 % 4
    rw [hd])
  have key := fun dx dr => run_mid c (grid0.coords t) arg2 harg2 arg3 harg3 arg4 harg4 arg9 harg9 (fun h => h0 (by rw [(cond1_eq t).mp h]))
    (fun h => h7 ((cond3_eq t).mp h)) (fun h => h0 ((cond2_eq t).mp h)) (gB m c t.val) (wB m c t.val) (gnB m c t.val) (dgN m c t.val) (accN m c t.val)
    (xs m c) (rs m c) dx dr W
  rw [fa_eq t, fk_eq t] at key
  unfold step wins stP accP inP
  rw [if_neg h0, if_neg h0, if_neg (by omega : ¬ (t.val + 1) % 4 = 0), if_neg (by omega : ¬ (t.val + 1) % 4 = 0), hd, hm, hb, dgN_keep m c h7, accN_next m c h0]
  iintro ⟨⟨H2, H3, H4, H9⟩, ⟨HA, ⟨⟨%dx, HX⟩, ⟨%dr, HR⟩⟩, HO, HP⟩, HW⟩
  iapply (framed (key dx dr) .rfl (wp_frame_r _ _ _) (R := iprop(outP m c (t.val / 4) ∗ ∃ r, prngReg c r)) fun _ => ?post)
  case post =>
    iintro ⟨⟨H2, H3, H4, H9, HA, HX, HR, HW⟩, HO, HP⟩
    iframe H2 H3 H4 H9
    isplitr [HW]
    · isplitl [HA]; · iexact HA
      isplitl [HX HR]
      · isplitl [HX]
        · iexists _; iexact HX
        · iexists _; iexact HR
      iframe HO HP
    iexists _
    iexact HW
  iframe H2 H3 H4 H9 HA HX HR HW HO HP

/-- The first point of a later block. -/
theorem step_next (hp : ¬ t.val = 0) (h0 : t.val % 4 = 0) : step m c t arg2 harg2 arg3 harg3 arg4 harg4 arg9 harg9 W (dgN m c t.val) := by
  have hd : (t.val + 1) / 4 = t.val / 4 := by omega
  have hm : (t.val + 1) % 4 = 0 + 1 := by omega
  have hb : bk (t.val + 1) = bk t.val := Fin.ext (by
    show (t.val + 1) / 4 % 4 = t.val / 4 % 4
    rw [hd])
  have key := fun A dx dr => run_next c (grid0.coords t) arg2 harg2 arg3 harg3 arg4 harg4 arg9 harg9 (fun h => hp ((cond1_eq t).mp h))
    (fun h => by have := (cond3_eq t).mp h; omega) ((cond2_eq t).mpr h0) (gB m c t.val) (wB m c t.val) (gnB m c t.val) (dgN m c t.val) A
    (xs m c) (rs m c) dx dr W
  rw [fa_eq t, fk_eq t, h0] at key
  unfold step wins stP accP inP
  rw [if_pos h0, if_pos h0, if_neg (by omega : ¬ (t.val + 1) % 4 = 0), if_neg (by omega : ¬ (t.val + 1) % 4 = 0), hd, hm, hb, dgN_keep m c (by omega), accN_start m c h0]
  iintro ⟨⟨H2, H3, H4, H9⟩, ⟨⟨%A, HA⟩, ⟨HX, HR⟩, HO, HP⟩, HW⟩
  imod (lane_open hpn c mX bX 6 65536 (bk t.val) (wholeMX.unread (xs m c))) $$ HX with ⟨%dx, HX⟩
  imod (lane_open hpn c mR bR 7 65536 (bk t.val) (wholeMR.unread (rs m c))) $$ HR with ⟨%dr, HR⟩
  iapply (framed (key A dx dr) .rfl (wp_frame_r _ _ _) (R := iprop(outP m c (t.val / 4) ∗ ∃ r, prngReg c r)) fun _ => ?post)
  case post =>
    iintro ⟨⟨H2, H3, H4, H9, HA, HX, HR, HW⟩, HO, HP⟩
    iframe H2 H3 H4 H9
    isplitr [HW]
    · isplitl [HA]; · iexact HA
      isplitl [HX HR]
      · isplitl [HX]
        · iexists _; iexact HX
        · iexists _; iexact HR
      iframe HO HP
    iexists _
    iexact HW
  iframe H2 H3 H4 H9 HA HX HR HW HO HP

/-- The first point. -/
theorem step_first (hp : t.val = 0) (dg : S1x2048.Idx → Elt F .f32) : step m c t arg2 harg2 arg3 harg3 arg4 harg4 arg9 harg9 W dg := by
  have h0 : t.val % 4 = 0 := by rw [hp]
  have hg : dgN m c t.val = k0_pay11 := by rw [hp]; rfl
  have hd : (t.val + 1) / 4 = t.val / 4 := by omega
  have hm : (t.val + 1) % 4 = 0 + 1 := by omega
  have hb : bk (t.val + 1) = bk t.val := Fin.ext (by
    show (t.val + 1) / 4 % 4 = t.val / 4 % 4
    rw [hd])
  have key := fun A dx dr => run_first c (grid0.coords t) arg2 harg2 arg3 harg3 arg4 harg4 arg9 harg9 ((cond1_eq t).mpr hp)
    (fun h => by have := (cond3_eq t).mp h; omega) ((cond2_eq t).mpr h0) (gB m c t.val) (wB m c t.val) (gnB m c t.val) dg A
    (xs m c) (rs m c) dx dr W
  rw [fa_eq t, fk_eq t, h0] at key
  unfold step wins stP accP inP
  rw [if_pos h0, if_pos h0, if_neg (by omega : ¬ (t.val + 1) % 4 = 0), if_neg (by omega : ¬ (t.val + 1) % 4 = 0), hd, hm, hb, dgN_keep m c (by omega), accN_start m c h0, hg]
  iintro ⟨⟨H2, H3, H4, H9⟩, ⟨⟨%A, HA⟩, ⟨HX, HR⟩, HO, HP⟩, HW⟩
  imod (lane_open hpn c mX bX 6 65536 (bk t.val) (wholeMX.unread (xs m c))) $$ HX with ⟨%dx, HX⟩
  imod (lane_open hpn c mR bR 7 65536 (bk t.val) (wholeMR.unread (rs m c))) $$ HR with ⟨%dr, HR⟩
  iapply (framed (key A dx dr) .rfl (wp_frame_r _ _ _) (R := iprop(outP m c (t.val / 4) ∗ ∃ r, prngReg c r)) fun _ => ?post)
  case post =>
    iintro ⟨⟨H2, H3, H4, H9, HA, HX, HR, HW⟩, HO, HP⟩
    iframe H2 H3 H4 H9
    isplitr [HW]
    · isplitl [HA]; · iexact HA
      isplitl [HX HR]
      · isplitl [HX]
        · iexists _; iexact HX
        · iexists _; iexact HR
      iframe HO HP
    iexists _
    iexact HW
  iframe H2 H3 H4 H9 HA HX HR HW HO HP

/-- The last point of the first block. -/
theorem step_end0 (ht : t.val = 3) : step m c t arg2 harg2 arg3 harg3 arg4 harg4 arg9 harg9 W (dgN m c t.val) := by
  have hk : t.val % 4 = 3 := by omega
  have hlt : t.val < 16 := by omega
  have hb : bk t.val = 0 := Fin.ext (by
    show t.val / 4 % 4 = 0
    omega)
  have hG := res_blk m c hlt hk
  have hGb := resb_blk m c hlt hk
  rw [← fa_eq t] at hG hGb
  have key := fun dx dr => run_end0 c (grid0.coords t) arg2 harg2 arg3 harg3 arg4 harg4 arg9 harg9 (fun h => by have := (cond1_eq t).mp h; omega)
    ((cond3_eq t).mpr hk) (fun h => by have := (cond4_eq t (by omega)).mp h; omega) (fun h => by have := (cond5_eq t (by omega)).mp h; omega) (by rw [fk_eq t, hk]) (fun h => by have := (cond2_eq t).mp h; omega)
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 4 = 0), if_neg (by omega : ¬ t.val % 4 = 0), if_pos (by omega : (t.val + 1) % 4 = 0), if_pos (by omega : (t.val + 1) % 4 = 0),
    (by omega : t.val / 4 = 0), (by omega : (t.val + 1) / 4 = 1), dgN_end m c hk, accN_next m c (by omega), hb]
  rw [outP_0, outP_1]
  iintro ⟨⟨H2, H3, H4, H9⟩, ⟨HA, ⟨⟨%dx, HX⟩, ⟨%dr, HR⟩⟩, ⟨HF, HB0, HB1, HB2, HB3⟩, HP⟩, HW⟩
  iapply (framed (key dx dr) .rfl (wp_frame_r _ _ _) (R := iprop(old m c 1 ∗ old m c 2 ∗ old m c 3 ∗ ∃ r, prngReg c r)) fun _ => ?post)
  case post =>
    iintro ⟨⟨H2, H3, H4, H9, HA, HX, HR, HF, HW⟩, HB1, HB2, HB3, HP⟩
    iframe H2 H3 H4 H9 HA HX HR HF HB1 HB2 HB3 HP HW
  iframe H2 H3 H4 H9 HA HX HR HB0 HF HW HB1 HB2 HB3 HP

/-- The last point of the second block. -/
theorem step_end1 (ht : t.val = 7) : step m c t arg2 harg2 arg3 harg3 arg4 harg4 arg9 harg9 W (dgN m c t.val) := by
  have hk : t.val % 4 = 3 := by omega
  have hlt : t.val < 16 := by omega
  have hb : bk t.val = 1 := Fin.ext (by
    show t.val / 4 % 4 = 1
    omega)
  have hG := res_blk m c hlt hk
  have hGb := resb_blk m c hlt hk
  rw [← fa_eq t] at hG hGb
  have key := fun dx dr => run_end1 c (grid0.coords t) arg2 harg2 arg3 harg3 arg4 harg4 arg9 harg9 (fun h => by have := (cond1_eq t).mp h; omega)
    ((cond3_eq t).mpr hk) ((cond4_eq t (by omega)).mpr (by omega)) (fun h => by have := (cond5_eq t (by omega)).mp h; omega) (by rw [fk_eq t, hk]) (fun h => by have := (cond2_eq t).mp h; omega) 0
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 4 = 0), if_neg (by omega : ¬ t.val % 4 = 0), if_pos (by omega : (t.val + 1) % 4 = 0), if_pos (by omega : (t.val + 1) % 4 = 0),
    (by omega : t.val / 4 = 1), (by omega : (t.val + 1) / 4 = 2), dgN_end m c hk, accN_next m c (by omega), hb]
  rw [outP_1, outP_2]
  iintro ⟨⟨H2, H3, H4, H9⟩, ⟨HA, ⟨⟨%dx, HX⟩, ⟨%dr, HR⟩⟩, ⟨HF, HB1, HB2, HB3⟩, HP⟩, HW⟩
  iapply (framed (key dx dr) .rfl (wp_frame_r _ _ _) (R := iprop(old m c 2 ∗ old m c 3 ∗ ∃ r, prngReg c r)) fun _ => ?post)
  case post =>
    iintro ⟨⟨H2, H3, H4, H9, HA, HX, HR, HF, HN0, HW⟩, HB2, HB3, HP⟩
    iframe H2 H3 H4 H9 HA HX HR HF HN0 HB2 HB3 HP HW
  iframe H2 H3 H4 H9 HA HX HR HB1 HF HW HB2 HB3 HP

/-- The last point of the third block. -/
theorem step_end2 (ht : t.val = 11) : step m c t arg2 harg2 arg3 harg3 arg4 harg4 arg9 harg9 W (dgN m c t.val) := by
  have hk : t.val % 4 = 3 := by omega
  have hlt : t.val < 16 := by omega
  have hb : bk t.val = 2 := Fin.ext (by
    show t.val / 4 % 4 = 2
    omega)
  have hG := res_blk m c hlt hk
  have hGb := resb_blk m c hlt hk
  rw [← fa_eq t] at hG hGb
  have key := fun dx dr => run_end1 c (grid0.coords t) arg2 harg2 arg3 harg3 arg4 harg4 arg9 harg9 (fun h => by have := (cond1_eq t).mp h; omega)
    ((cond3_eq t).mpr hk) ((cond4_eq t (by omega)).mpr (by omega)) (fun h => by have := (cond5_eq t (by omega)).mp h; omega) (by rw [fk_eq t, hk]) (fun h => by have := (cond2_eq t).mp h; omega) 1
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 4 = 0), if_neg (by omega : ¬ t.val % 4 = 0), if_pos (by omega : (t.val + 1) % 4 = 0), if_pos (by omega : (t.val + 1) % 4 = 0),
    (by omega : t.val / 4 = 2), (by omega : (t.val + 1) / 4 = 3), dgN_end m c hk, accN_next m c (by omega), hb]
  rw [outP_2, outP_3]
  iintro ⟨⟨H2, H3, H4, H9⟩, ⟨HA, ⟨⟨%dx, HX⟩, ⟨%dr, HR⟩⟩, ⟨HF, HN0, HB2, HB3⟩, HP⟩, HW⟩
  iapply (framed (key dx dr) .rfl (wp_frame_r _ _ _) (R := iprop(new m c 0 ∗ old m c 3 ∗ ∃ r, prngReg c r)) fun _ => ?post)
  case post =>
    iintro ⟨⟨H2, H3, H4, H9, HA, HX, HR, HF, HN1, HW⟩, HN0, HB3, HP⟩
    iframe H2 H3 H4 H9 HA HX HR HF HN0 HN1 HB3 HP HW
  iframe H2 H3 H4 H9 HA HX HR HB2 HF HW HN0 HB3 HP

/-- The last point of the last block. -/
theorem step_end3 (ht : t.val = 15) : step m c t arg2 harg2 arg3 harg3 arg4 harg4 arg9 harg9 W (dgN m c t.val) := by
  have hk : t.val % 4 = 3 := by omega
  have hlt : t.val < 16 := by omega
  have hb : bk t.val = 3 := Fin.ext (by
    show t.val / 4 % 4 = 3
    omega)
  have hG := res_blk m c hlt hk
  have hGb := resb_blk m c hlt hk
  rw [← fa_eq t] at hG hGb
  have key := fun dx dr => run_end2 c (grid0.coords t) arg2 harg2 arg3 harg3 arg4 harg4 arg9 harg9 (fun h => by have := (cond1_eq t).mp h; omega)
    ((cond3_eq t).mpr hk) ((cond4_eq t (by omega)).mpr (by omega)) ((cond5_eq t (by omega)).mpr ht) (by rw [fk_eq t, hk]) (fun h => by have := (cond2_eq t).mp h; omega) 2
    (gB m c t.val) (wB m c t.val) (gnB m c t.val) (dgN m c t.val) (accN m c t.val)
    (xs m c) (rs m c) dx dr (V m c main_v1_0) (V m c main_v1_1) (resO m c) (resOb m c) hG hGb W
  rw [fa_eq t, fk_eq t, hb] at key
  unfold step wins stP accP inP
  rw [if_neg (by omega : ¬ t.val % 4 = 0), if_neg (by omega : ¬ t.val % 4 = 0), if_pos (by omega : (t.val + 1) % 4 = 0), if_pos (by omega : (t.val + 1) % 4 = 0),
    (by omega : t.val / 4 = 3), (by omega : (t.val + 1) / 4 = 4), dgN_end m c hk, accN_next m c (by omega), hb]
  rw [outP_3, outP_4]
  iintro ⟨⟨H2, H3, H4, H9⟩, ⟨HA, ⟨⟨%dx, HX⟩, ⟨%dr, HR⟩⟩, ⟨HF, HN0, HN1, HB3⟩, HP⟩, HW⟩
  iapply (framed (key dx dr) .rfl (wp_frame_r _ _ _) (R := iprop(new m c 0 ∗ new m c 1 ∗ ∃ r, prngReg c r)) fun _ => ?post)
  case post =>
    iintro ⟨⟨H2, H3, H4, H9, HA, HX, HR, ⟨HN3, HF⟩, HN2, HW⟩, HN0, HN1, HP⟩
    iframe H2 H3 H4 H9 HA HX HR HF HN0 HN1 HN2 HN3 HP HW
  iframe H2 H3 H4 H9 HA HX HR HB3 HF HW HN0 HN1 HP

/-- Every point. -/
theorem step_all (dg : S1x2048.Idx → Elt F .f32) (hdg : ¬ t.val = 0 → dg = dgN m c t.val) : step m c t arg2 harg2 arg3 harg3 arg4 harg4 arg9 harg9 W dg := by
  have hlt : t.val < 16 := lt_of_lt_of_eq t.isLt N_0
  by_cases hp : t.val = 0
  · exact step_first m c t arg2 harg2 arg3 harg3 arg4 harg4 arg9 harg9 W hp dg
  rw [hdg hp]
  by_cases h0 : t.val % 4 = 0
  · exact step_next m c t arg2 harg2 arg3 harg3 arg4 harg4 arg9 harg9 W hp h0
  by_cases h7 : t.val % 4 = 3
  · rcases (by omega : t.val = 3 ∨ t.val = 7 ∨ t.val = 11 ∨ t.val = 15) with h | h | h | h
    · exact step_end0 m c t arg2 harg2 arg3 harg3 arg4 harg4 arg9 harg9 W h
    · exact step_end1 m c t arg2 harg2 arg3 harg3 arg4 harg4 arg9 harg9 W h
    · exact step_end2 m c t arg2 harg2 arg3 harg3 arg4 harg4 arg9 harg9 W h
    · exact step_end3 m c t arg2 harg2 arg3 harg3 arg4 harg4 arg9 harg9 W h
  exact step_mid m c t arg2 harg2 arg3 harg3 arg4 harg4 arg9 harg9 W h0 h7

end Point

/-! ## The body's obligation -/

abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
/-- The buffers the call reads and writes by its own copies. -/
abbrev R0 : Finset (Ref sig .tc) := [main_arg2, main_arg4, main_v1_0, main_v1_1].toFinset
theorem R0_sub : R0 ⊆ Pipeline.restRefs sig spec0 := by decide

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dgN m c (t.val + 1)
  Φ n := stP m c n.val
  q _ := fullShare
  owed _ := 0

theorem A_eq (c : Dev nD) (w : Fin cfg0.W) : (dats m 0 c).A w = V m c (Pipeline.arrRef spec0 w) := by
  dsimp only [dats]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = dgN m c (t.val + 1) := by dsimp only [dats]

theorem before0_0 (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem idle3 : ∀ t : Fin grid0.N, idle0 3 (grid0.coords t) = true ↔ ¬ t.val = 0 ∧ ¬ t.val % 4 = 3 := by decide +kernel

theorem before0_3 (n : ℕ) : ∀ t : Fin cfg0.N, t.val = n + 1 → ∀ d, (dats m 0 c).before 3 t d = dgN m c (n + 1) := by
  induction n with
  | zero =>
    intro t ht d
    exact before_next t 0 ht d (fun h => absurd rfl h.1)
  | succ n ih =>
    intro t ht d
    refine before_next t (n + 1) ht d fun h => ?_
    rw [ih _ rfl d, dgN_keep m c h.2]
where
  before_next (t : Fin cfg0.N) (n : ℕ) (ht : t.val = n + 1) (d) (hn : ¬ n = 0 ∧ ¬ n % 4 = 3 →
      (dats m 0 c).before 3 ⟨n, by have := t.isLt; omega⟩ d = dgN m c (n + 1)) : (dats m 0 c).before 3 t d = dgN m c (n + 1) := by
    have hlt : t.val < 16 := lt_of_lt_of_eq t.isLt N_0
    have hN : n < cfg0.N := by have := t.isLt; omega
    have e : (⟨t.val - 1, Nat.lt_of_le_of_lt (Nat.sub_le _ _) t.isLt⟩ : Fin cfg0.N) = ⟨n, hN⟩ := Fin.ext (by dsimp only; omega)
    have hfl : (cfg0.win 3).flush ⟨n, hN⟩ = false := Bool.eq_false_iff.mpr fun h => by
      have h' : n % 16 = 15 := (flush0_3 ⟨n, hN⟩).mp h
      omega
    rw [(dats m 0 c).before_of_pos 3 t (by omega) ((cfg0.win 3).fetch_out rfl t), e, hfl, if_neg Bool.false_ne_true]
    unfold Dat.left
    cases hi : cfg0.idle 3 (cfg0.grid.coords ⟨n, hN⟩) with
    | true => exact hn ((idle3 ⟨n, hN⟩).mp hi)
    | false =>
      dsimp only
      unfold Dat.kept
      rw [Pipeline.fill_of_clip_none (cfg := cfg0) (3 : Fin cfg0.W) (cfg0.grid.coords ⟨n, hN⟩) (fun _ => rfl) d ((dats m 0 c).after 3 ⟨n, hN⟩), Window.fill_cut, after0_3]

abbrev ms0 (t : Fin cfg0.N) : Memref sig .tc .vmem S1024x1024 .bf16 := win0_0.stage (cfg0.slots t 0)
abbrev ms1 (t : Fin cfg0.N) : Memref sig .tc .vmem S1x2048x1024 .bf16 := win0_1.stage (cfg0.slots t 1)
abbrev ms2 (t : Fin cfg0.N) : Memref sig .tc .vmem S1x2048 .f32 := win0_2.stage (cfg0.slots t 2)
abbrev ms3 (t : Fin cfg0.N) : Memref sig .tc .vmem S1x2048 .f32 := win0_3.stage (cfg0.slots t 3)
theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)

def bodyPre (t : Fin cfg0.N) : sProp (𝕄 F nD τ sig) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (t : Fin cfg0.N) : sProp (𝕄 F nD τ sig) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

/-- What the last window is left at. -/
theorem left3 (t : Fin cfg0.N) : owns (c : Thread nD τ) (ms3 t) fullShare (dgN m c (t.val + 1)) ⊢ (dats m 0 c).leavesExact 3 t := by
  have hlt : t.val < 16 := lt_of_lt_of_eq t.isLt N_0
  cases hi : cfg0.idle 3 (cfg0.grid.coords t) with
  | false =>
    unfold Dat.leavesExact
    rw [hi, after0_3]
  | true =>
    obtain ⟨h0, h7⟩ := (idle3 t).mp hi
    rw [(dats m 0 c).leavesExact_idle 3 t hi (Bool.eq_false_iff.mpr fun h => by
      have := (flush0_3 _).mp h
      omega)]
    have hb := before0_3 m c (t.val - 1) t (by omega) (dgN m c (t.val + 1))
    rw [(by omega : t.val - 1 + 1 = t.val)] at hb
    iintro H
    iexists (dgN m c (t.val + 1))
    rw [hb, dgN_keep m c h7]
    iexact H

theorem gB_eq (t : Fin cfg0.N) : gB m c t.val = iblk m c 0 t := by unfold gB; rw [pt_val]; try rfl
theorem wB_eq (t : Fin cfg0.N) : wB m c t.val = iblk m c 1 t := by unfold wB; rw [pt_val]; try rfl
theorem gnB_eq (t : Fin cfg0.N) : gnB m c t.val = iblk m c 2 t := by unfold gnB; rw [pt_val]; try rfl

theorem sound_body (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = stP m c (t.val + 1) from rfl, show (dats m 0 c).Φ t.castSucc = stP m c t.val from rfl, after0_0, after0_1, after0_2]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩⟩
  have key := step_all m c t (ms0 t) (hs0 t) (ms1 t) (hs1 t) (ms2 t) (hs2 t) (ms3 t) (hs3 t) W ((dats m 0 c).before 3 t d3) (fun h => by
    rw [before0_3 m c (t.val - 1) t (by omega) d3]
    congr 1
    omega)
  unfold step wins at key
  iapply (triple_restated key rfl .rfl fun _ => ?post)
  case post =>
    iintro ⟨⟨H0, H1, H2, H3⟩, HΦ, ⟨%W', HW⟩⟩
    isplitl [HΦ]; · iexact HΦ
    isplitl [HW]
    · iexists W'; isplitr; · ipureintro; exact fun _ _ => Or.inl trivial
      iexact HW
    isplitl [H0]; · iapply (own_out c (ms0 t) (hs0 t) _ _ (gB_eq m c t)); iexact H0
    isplitl [H1]; · iapply (own_out c (ms1 t) (hs1 t) _ _ (wB_eq m c t)); iexact H1
    isplitl [H2]; · iapply (own_out c (ms2 t) (hs2 t) _ _ (gnB_eq m c t)); iexact H2
    iapply ((own_out c (ms3 t) (hs3 t) _ _ rfl).trans (left3 m c t)); iexact H3
  isplitl [H0 H1 H2 H3]
  · isplitl [H0]; · iapply (own_in c (ms0 t) (hs0 t) _ _ ((before0_0 m c t d0).trans (gB_eq m c t).symm)); iexact H0
    isplitl [H1]; · iapply (own_in c (ms1 t) (hs1 t) _ _ ((before0_1 m c t d1).trans (wB_eq m c t).symm)); iexact H1
    isplitl [H2]; · iapply (own_in c (ms2 t) (hs2 t) _ _ ((before0_2 m c t d2).trans (gnB_eq m c t).symm)); iexact H2
    iapply (own_in c (ms3 t) (hs3 t) _ _ rfl); iexact H3
  iframe HΦ HW

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The routed buffers at the end. -/
def endY (c : Dev nD) (b : Ref sig .tc) : Buf (Elt F) ((c : Thread nD τ).loc b) :=
  if h : b = main_v1_0 then h ▸ (wholeO.unread (resO m c)) else if h : b = main_v1_1 then h ▸ (wholeOb.unread (resOb m c)) else V m c b

theorem routed_eq (W : (b : Ref sig .tc) → Buf (Elt F) ((c : Thread nD τ).loc b)) :
    (Pipeline.routed R0 c W : sProp (𝕄 F nD τ sig)) = iprop((((c : Thread nD τ).loc main_arg2) ↦{fullShare} W main_arg2)
      ∗ (((c : Thread nD τ).loc main_arg4) ↦{fullShare} W main_arg4) ∗ (((c : Thread nD τ).loc main_v1_0) ↦{fullShare} W main_v1_0)
      ∗ (((c : Thread nD τ).loc main_v1_1) ↦{fullShare} W main_v1_1)) :=
  BI.bigSep_eq_bigSepL_of_eq [main_arg2, main_arg4, main_v1_0, main_v1_1] (by decide) (by decide) _

theorem ownSems0_eq : (Pipeline.ownSems0 osem0 c : sProp (𝕄 F nD τ sig))
    = iprop(semVal ((c : Thread nD τ), SemLoc.dma (6 : DmaSem sig)) 0 ∗ semVal ((c : Thread nD τ), SemLoc.dma (7 : DmaSem sig)) 0
      ∗ semVal ((c : Thread nD τ), SemLoc.dma (8 : DmaSem sig)) 0 ∗ semVal ((c : Thread nD τ), SemLoc.dma (9 : DmaSem sig)) 0) := by
  rw [Pipeline.ownSems0_eq_of_list c osem0 [0, 1, 2, 3] (by decide) (by decide)]
  rfl

theorem blocks (f : Buf (Elt F) (mO.view.loc (c : Thread nD τ))) (fb : Buf (Elt F) (mOb.view.loc (c : Thread nD τ))) :
    (iprop((mO.view.loc (c : Thread nD τ) ↦[mO.view.set]{fullShare} f) ∗ (mOb.view.loc (c : Thread nD τ) ↦[mOb.view.set]{fullShare} fb)) : sProp (𝕄 F nD τ sig))
      = iprop(block c 0 f fb ∗ block c 1 f fb ∗ block c 2 f fb ∗ block c 3 f fb) := by
  rw [arr_blocks c mO f, arr_blocks c mOb fb]
  unfold block
  refine (fun (A B : sProp (𝕄 F nD τ sig)) (h1 : A ⊢ B) (h2 : B ⊢ A) => (Entails.antisymm h1 h2 : A = B)) _ _ ?_ ?_
  · iintro ⟨⟨A0, A1, A2, A3⟩, B0, B1, B2, B3⟩
    iframe A0 B0 A1 B1 A2 B2 A3 B3
  · iintro ⟨⟨A0, B0⟩, ⟨A1, B1⟩, ⟨A2, B2⟩, A3, B3⟩
    iframe A0 A1 A2 A3 B0 B1 B2 B3

/-- The two read arrays and the two written ones, as the call's pieces. -/
theorem arrays_eq (f : Buf (Elt F) (mO.view.loc (c : Thread nD τ))) (fb : Buf (Elt F) (mOb.view.loc (c : Thread nD τ))) :
    (iprop((((c : Thread nD τ).loc main_arg2) ↦{fullShare} V m c main_arg2)
      ∗ (((c : Thread nD τ).loc main_arg4) ↦{fullShare} V m c main_arg4) ∗ (((c : Thread nD τ).loc main_v1_0) ↦{fullShare} f)
      ∗ (((c : Thread nD τ).loc main_v1_1) ↦{fullShare} fb)) : sProp (𝕄 F nD τ sig))
    = iprop((mX.view.loc (c : Thread nD τ) ↦[mX.view.set]{fullShare} wholeMX.unread (xs m c))
      ∗ (mR.view.loc (c : Thread nD τ) ↦[mR.view.set]{fullShare} wholeMR.unread (rs m c))
      ∗ block c 0 f fb ∗ block c 1 f fb ∗ block c 2 f fb ∗ block c 3 f fb) := by
  rw [← blocks c f fb]
  unfold xs rs
  rw [wholeMX.unread_read, wholeMR.unread_read]
  rw [whole_pt c (b := main_arg2), whole_pt c (b := main_arg4), whole_pt c (b := main_v1_0), whole_pt c (b := main_v1_1)]

theorem ends_in : Pipeline.Ends spec0 osem0 R0 c (V m c) ⊢ (dats m 0 c).Φ 0 := by
  rw [show (dats m 0 c).Φ 0 = stP m c 0 from rfl]
  unfold Pipeline.Ends stP accP inP
  rw [routed_eq, ownSems0_eq, scopedRest0_eq, arrays_eq, if_pos (by decide), if_pos (by decide), show 0 / 4 = 0 from rfl, outP_0,
    whole_pt' c cc0_scratch0, whole_pt' c cc0_scratch1, whole_pt' c cc0_scratch2, whole_pt' c cc0_scratch3, whole_pt' c cc0_scratch4]
  unfold idle rest
  iintro ⟨⟨HX, HR, HB0, HB1, HB2, HB3⟩, ⟨S6, S7, S8, S9⟩, ⟨HA, BX, BR, BD, BDb⟩, HP⟩
  iframe HA S6 BX HX S7 BR HR S8 S9 BD BDb HB0 HB1 HB2 HB3 HP

theorem endY_arg2 : endY m c main_arg2 = V m c main_arg2 := by
  unfold endY; rw [dif_neg (by decide), dif_neg (by decide)]
theorem endY_arg4 : endY m c main_arg4 = V m c main_arg4 := by
  unfold endY; rw [dif_neg (by decide), dif_neg (by decide)]
theorem endY_o : endY m c main_v1_0 = wholeO.unread (resO m c) := by
  unfold endY; rw [dif_pos rfl]
theorem endY_ob : endY m c main_v1_1 = wholeOb.unread (resOb m c) := by
  unfold endY; rw [dif_neg (by decide), dif_pos rfl]

theorem ends_out : (dats m 0 c).Φ (Fin.last cfg0.N) ⊢ Pipeline.Ends spec0 osem0 R0 c (endY m c) := by
  rw [show (dats m 0 c).Φ (Fin.last cfg0.N) = stP m c 16 from congrArg (stP m c) N_0]
  unfold Pipeline.Ends stP accP inP
  rw [routed_eq, endY_arg2, endY_arg4, endY_o, endY_ob, ownSems0_eq, scopedRest0_eq, arrays_eq, if_pos (by decide), if_pos (by decide), show 16 / 4 = 4 from rfl, outP_4,
    whole_pt' c cc0_scratch0, whole_pt' c cc0_scratch1, whole_pt' c cc0_scratch2, whole_pt' c cc0_scratch3, whole_pt' c cc0_scratch4]
  unfold idle rest
  iintro ⟨HA, ⟨⟨S6, BX, HX⟩, S7, BR, HR⟩, ⟨⟨S8, S9, BD, BDb⟩, HB0, HB1, HB2, HB3⟩, HP⟩
  iframe HX HR HB0 HB1 HB2 HB3 S6 S7 S8 S9 HA BX BR BD BDb HP

set_option backward.isDefEq.respectTransparency.types false in
/-- Every run ends with the results and the gain's gradient at what the points leave, everything else as launched,
    no transfer under way. -/
theorem run_main : θ_run defs (onTc (τ := τ) (main (F := F))) (s₀ m ρ) (fun r => Pipeline.RoutedPost cfgs (dats m) 0 R0 (V m) (endY m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl) (howed := fun _ _ => rfl)
    (V := V m) (hmain := Pipeline.hmain_prefix cfgs 0 defs₀ Variants.none m main hostOps0 hostOps0_sub hostOps0_fresh main_chain)
    (hA := A_eq m) (R := R0) (hR := R0_sub) (Y := endY m) (hin := ends_in m) (hout := ends_out m)

/-- The arguments as launched, the results at what the points leave. -/
theorem run_all : θ_run defs (onTc (τ := τ) (main (F := F))) ⟨m, fun _ => 0, ρ⟩ (fun r => (∀ c : Dev nD,
      (r.2.mem ((c.tc : Thread nD τ).loc main_v1_0) = wholeO.unread (resO m c)
        ∧ r.2.mem ((c.tc : Thread nD τ).loc main_v1_1) = wholeOb.unread (resOb m c)
        ∧ r.2.mem ((c.tc : Thread nD τ).loc main_v1_2) = (dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ H => ⟨fun c => by
      have h := H.1
      exact ⟨⟨((h c).2.1 main_v1_0 (by decide)).trans (endY_o m c), ((h c).2.1 main_v1_1 (by decide)).trans (endY_ob m c), (h c).1 3⟩,
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2.1 main_arg2 (by decide)).trans ((endY_arg2 m c).trans (V_main_arg2 m c)),
        ((h c).2.2 main_arg3 (Finset.mem_sdiff.mpr ⟨Pipeline.mem_restRefs_of main_arg3 (by decide) (by decide), by decide⟩)).trans (V_main_arg3 m c),
        ((h c).2.1 main_arg4 (by decide)).trans ((endY_arg4 m c).trans (V_main_arg4 m c))⟩, H.2⟩) (run_main m ρ)

end Cert.GradX

end
-- ==== Proof.NormGrad.XValue.lean ====
/-
  What the call joining a product with the norm's gradient leaves, entry by entry.
-/
import proofs.«01_k».proof.Proof.NormGrad.XFrame
import proofs.«01_k».proof.Proof.NormGrad.MidValue
import proofs.«01_k».proof.Proof.NormGrad.Spec
import proofs.«01_k».proof.Proof.Mix.Spec
import proofs.«01_k».proof.Proof.Prod.Slabs
import Idealize.ShloMosaic.Lib.Pipeline.ValueKit
import Idealize.ShloMosaic.Lib.Pipeline.Value
import Idealize.ShloMosaic.Lib.Pointwise
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)
open scoped BigOperators

namespace Cert.GradX

open Cert.GradXIdeal Cert.GradXIdeal.Gen Cert.NormGrad Cert.Mix Cert.Prod

/-! ## The body computes what the other call of the kind computes -/

section Pieces

variable (A X R : FVec Ideal S1024x2048 .f32) (G D : FVec Ideal S1x2048 .f32)

theorem accS_at (g : FVec Ideal S1024x1024 .bf16) (w : FVec Ideal S1x2048x1024 .bf16) (r : Fin 1024) (d : Fin 2048) :
    (accS (F := Ideal) A g w (ix2 r d) : EReal) = A (ix2 r d) + ∑ k : Fin 1024, (g (ix2 r k) : EReal) * (w (ix3 (0 : Fin 1) d k) : EReal) :=
  Cert.GradMid.accS_at A g w r d

theorem off7_mid (k : Fin k0_t1_loop.trips) : k0_off7 k = Cert.GradMidIdeal.k0_off7 k := (ClosedOff.eq : k0_off7 k = ![128 * k.val, 0]).trans (ClosedOff.eq : Cert.GradMidIdeal.k0_off7 k = ![128 * k.val, 0]).symm

/-- A piece over a trip's rows depends on where they begin only. -/
theorem piece_congr {e : EltTy} (f : FVec Ideal S128x2048 .f32 → FVec Ideal S128x2048 .f32 → FVec Ideal S128x2048 .f32 → S128x2048.Idx → Elt Ideal e)
    {off off' : Fin 2 → ℕ} (h : off = off') (inb inb') :
    (⟨Rect.unit (s := S1024x2048) off S128x2048.size inb, f (View.ld (Val := Elt Ideal) (e' := .f32) A (Rect.unit (s := S1024x2048) off S128x2048.size inb))
        (View.ld (Val := Elt Ideal) (e' := .f32) X (Rect.unit (s := S1024x2048) off S128x2048.size inb))
        (View.ld (Val := Elt Ideal) (e' := .f32) R (Rect.unit (s := S1024x2048) off S128x2048.size inb))⟩ : View.Piece (Elt Ideal) S1024x2048 e)
      = ⟨Rect.unit (s := S1024x2048) off' S128x2048.size inb', f (View.ld (Val := Elt Ideal) (e' := .f32) A (Rect.unit (s := S1024x2048) off' S128x2048.size inb'))
        (View.ld (Val := Elt Ideal) (e' := .f32) X (Rect.unit (s := S1024x2048) off' S128x2048.size inb'))
        (View.ld (Val := Elt Ideal) (e' := .f32) R (Rect.unit (s := S1024x2048) off' S128x2048.size inb'))⟩ := by
  subst h
  rfl

/-- The rows of a trip, read. -/
theorem ld_mid (k : Fin k0_t1_loop.trips) : (View.ld (Val := Elt Ideal) (e' := .f32) A (rowR k) : FVec Ideal S128x2048 .f32) = View.ld (Val := Elt Ideal) (e' := .f32) A (Cert.GradMid.rowR k) := by
  have e : ∀ {off off' : Fin 2 → ℕ} (h : off = off') (inb inb'), (View.ld (Val := Elt Ideal) (e' := .f32) A (Rect.unit (s := S1024x2048) off S128x2048.size inb) : FVec Ideal S128x2048 .f32)
      = View.ld (Val := Elt Ideal) (e' := .f32) A (Rect.unit (s := S1024x2048) off' S128x2048.size inb') := by
    intro off off' h inb inb'
    subst h
    rfl
  exact e (off7_mid k) _ _

theorem pay9_mid : k0_pay9 (F := Ideal) = Cert.GradMidIdeal.Gen.k0_pay9 (F := Ideal) := rfl
theorem pay10_mid : k0_pay10 (F := Ideal) = Cert.GradMidIdeal.Gen.k0_pay10 (F := Ideal) := rfl
theorem pay3_mid : k0_pay3 (F := Ideal) = Cert.GradMidIdeal.Gen.k0_pay3 (F := Ideal) := rfl
theorem pay7_mid : k0_pay7 (F := Ideal) = Cert.GradMidIdeal.Gen.k0_pay7 (F := Ideal) := rfl
theorem pay4_mid : k0_pay4 (F := Ideal) = Cert.GradMidIdeal.Gen.k0_pay4 (F := Ideal) := rfl

theorem dxL_mid : ∀ n ≤ 8, dxL (F := Ideal) A X R G n = Cert.GradMid.dxL (F := Ideal) A X R G n := by
  intro n
  induction n with
  | zero => intro _; rfl
  | succ n ih =>
    intro hn
    have hk : n < k0_t1_loop.trips := lt_of_lt_of_eq (Nat.lt_of_succ_le hn) trips_eq.symm
    have e := dxL_succ (F := Ideal) A X R G ⟨n, hk⟩
    have e' := Cert.GradMid.dxL_succ (F := Ideal) A X R G ⟨n, hk⟩
    dsimp only at e e'
    rw [e, e', ih (by omega), pay9_mid]
    have h := piece_congr A X R (e := .f32) (fun a x r => Cert.GradMidIdeal.Gen.k0_pay9 (F := Ideal) a x G r) (off7_mid ⟨n, hk⟩) (off7_inb ⟨n, hk⟩) (Cert.GradMid.off7_inb ⟨n, hk⟩)
    exact congrArg (fun p => p :: _) h

theorem dxbL_mid : ∀ n ≤ 8, dxbL (F := Ideal) A X R G n = Cert.GradMid.dxbL (F := Ideal) A X R G n := by
  intro n
  induction n with
  | zero => intro _; rfl
  | succ n ih =>
    intro hn
    have hk : n < k0_t1_loop.trips := lt_of_lt_of_eq (Nat.lt_of_succ_le hn) trips_eq.symm
    have e := dxbL_succ (F := Ideal) A X R G ⟨n, hk⟩
    have e' := Cert.GradMid.dxbL_succ (F := Ideal) A X R G ⟨n, hk⟩
    dsimp only at e e'
    rw [e, e', ih (by omega), pay3_mid, pay10_mid]
    have h := piece_congr A X R (e := .bf16) (fun a x r => Cert.GradMidIdeal.Gen.k0_pay3 (F := Ideal) (Cert.GradMidIdeal.Gen.k0_pay10 a x G r)) (off7_mid ⟨n, hk⟩) (off7_inb ⟨n, hk⟩) (Cert.GradMid.off7_inb ⟨n, hk⟩)
    exact congrArg (fun p => p :: _) h

theorem dgL_mid : ∀ n ≤ 8, dgL (F := Ideal) A X D n = Cert.GradMid.dgL (F := Ideal) A X D n := by
  intro n
  induction n with
  | zero => intro _; rfl
  | succ n ih =>
    intro hn
    have hk : n < k0_t1_loop.trips := lt_of_lt_of_eq (Nat.lt_of_succ_le hn) trips_eq.symm
    have e := dgL_succ (F := Ideal) A X D ⟨n, hk⟩
    have e' := Cert.GradMid.dgL_succ (F := Ideal) A X D ⟨n, hk⟩
    dsimp only at e e'
    rw [e, e', ih (by omega), pay4_mid, pay7_mid]
    exact congrArg₂ (fun a x => Cert.GradMidIdeal.Gen.k0_pay4 (F := Ideal) (Cert.GradMidIdeal.Gen.k0_pay7 a x) _) (ld_mid A ⟨n, hk⟩) (ld_mid X ⟨n, hk⟩)

end Pieces

/-! ## The arguments, and what the windows hold of them -/

variable (m : (ℓ : Loc nD τ sig) → Buf (Elt Ideal) ℓ) (c : Dev nD)

/-- Which blocks the windows hold at a grid point. -/
theorem idx_val : ∀ t : Fin cfg0.N, win0_0.index t = ![t.val / 4, t.val % 4] ∧ win0_1.index t = ![t.val % 4, 0, 0]
    ∧ win0_2.index t = ![0, 0] ∧ win0_3.index t = ![0, 0] :=
  (by decide +kernel : ∀ t : Fin grid0.N, _)

/-- The arguments as functions of row and column. -/
def Gf : ℕ → ℕ → EReal := at2 (a := 4096) (b := 4096) (m ((c : Thread nD τ).loc main_arg0))
def Wf : ℕ → ℕ → EReal := slabs 1024 (m ((c : Thread nD τ).loc main_arg1))
def Xf : ℕ → ℕ → EReal := at2 (a := 4096) (b := 2048) (m ((c : Thread nD τ).loc main_arg2))
def gain : FVec Ideal S2048 .f32 := m ((c : Thread nD τ).loc main_arg3)
def Rf : ℕ → ℕ → EReal := at2 (a := 4096) (b := 2048) (m ((c : Thread nD τ).loc main_arg4))

/-- The gain as the region finds it. -/
theorem entry_gain : V m c main_v0 = (shapeCast S1x2048 (m ((c : Thread nD τ).loc main_arg3) : FVec Ideal S2048 .f32) shapeCasts_S2048_S1x2048 : FVec Ideal S1x2048 .f32) := by
  unfold V
  simp only [hostOps0, StableHlo.TRef.binary, StableHlo.TRef.nullary, StableHlo.TRef.unary, StableHlo.TRef.toBuf, StableHlo.TRef.ofBuf, cast_eq]
  after_results
  rfl

section Reads

variable (t : Fin cfg0.N)

theorem read0 (r k : Fin 1024) :
    (iblk m c 0 t : Vec Ideal S1024x1024 .bf16) (ix2 r k) = Gf m c (1024 * (t.val / 4) + r) (1024 * (t.val % 4) + k) := by
  have ht : t.val < 4 * 4 := lt_of_lt_of_eq t.isLt N_0
  rw [Gf, at2_of _ (by omega) (by omega)]
  blk_point [iblk, V, idx_val t]

theorem read1 (d : Fin 2048) (k : Fin 1024) :
    (iblk m c 1 t : Vec Ideal S1x2048x1024 .bf16) (ix3 (0 : Fin 1) d k) = Wf m c d (1024 * (t.val % 4) + k) := by
  have ht : t.val < 4 * 4 := lt_of_lt_of_eq t.isLt N_0
  rw [Wf, slabs_of _ (by omega) (by omega) (by omega)]
  blk_point [iblk, V, idx_val t]

theorem read2 (d : Fin 2048) :
    (iblk m c 2 t : Vec Ideal S1x2048 .f32) (ix2 (0 : Fin 1) d) = gain m c (ix1 d) := by
  blk_simp [iblk, idx_val t]
  have e : ((win0_2.blk t).view.emb (ix2 (0 : Fin 1) d)) = (ix2 (0 : Fin 1) d) := by
    blk_ext [idx_val t]
  refine (congrArg (V m c main_v0) e).trans ?_
  refine (congrFun (entry_gain m c) _).trans ?_
  pointwise []
  rfl

end Reads

theorem x_at (a : Fin 4) (r : Fin 1024) (d : Fin 2048) : (blkOf (xs m c) a (ix2 r d) : EReal) = Xf m c (1024 * a.val + r.val) d := by
  have e : blkOf (xs m c) a (ix2 r d) = xs m c (ix2 (⟨1024 * a.val + r.val, by omega⟩ : Fin 4096) d) := congrArg (xs m c) (Cert.GradMid.emb_blk a r d)
  have ex : xs m c = m ((c : Thread nD τ).loc main_arg2) := by
    unfold xs V
    try rfl
  rw [e, ex, Xf, at2_of _ (by omega) d.isLt]
theorem r_at (a : Fin 4) (r : Fin 1024) (d : Fin 2048) : (blkOf (rs m c) a (ix2 r d) : EReal) = Rf m c (1024 * a.val + r.val) d := by
  have e : blkOf (rs m c) a (ix2 r d) = rs m c (ix2 (⟨1024 * a.val + r.val, by omega⟩ : Fin 4096) d) := congrArg (rs m c) (Cert.GradMid.emb_blk a r d)
  have ex : rs m c = m ((c : Thread nD τ).loc main_arg4) := by
    unfold rs V
    try rfl
  rw [e, ex, Rf, at2_of _ (by omega) d.isLt]

/-! ## The accumulator -/

/-- The gradient arriving at the norm's output. -/
def arrive (t d : ℕ) : EReal := ∑ f : Fin 4096, Gf m c t f * Wf m c d f
/-- Its sum's first `n` parts. -/
def upTo (t d n : ℕ) : EReal := ∑ f ∈ Finset.range (1024 * n), Gf m c t f * Wf m c d f

theorem upTo_succ (t d n : ℕ) : upTo m c t d n + ∑ k : Fin 1024, Gf m c t (1024 * n + k) * Wf m c d (1024 * n + k) = upTo m c t d (n + 1) := by
  unfold upTo
  rw [Nat.mul_succ, Finset.sum_range_add, Finset.sum_range fun k => Gf m c t (1024 * n + k) * Wf m c d (1024 * n + k)]

theorem upTo_all (t d : ℕ) : upTo m c t d 4 = arrive m c t d := Finset.sum_range fun f => Gf m c t f * Wf m c d f

theorem step_at (A : FVec Ideal S1024x2048 .f32) (n : ℕ) (hn : n < 4 * 4) (r : Fin 1024) (d : Fin 2048) :
    (accS (F := Ideal) A (gB m c n) (wB m c n) (ix2 r d) : EReal)
      = A (ix2 r d) + ∑ k : Fin 1024, Gf m c (1024 * (n / 4) + r) (1024 * (n % 4) + k) * Wf m c d (1024 * (n % 4) + k) := by
  have hp : (pt n).val = n := Nat.mod_eq_of_lt hn
  refine (accS_at A _ _ r d).trans (congrArg₂ (· + ·) rfl (Finset.sum_congr rfl fun k _ => ?_))
  have e0 := read0 m c (pt n) r k
  have e1 := read1 m c (pt n) d k
  rw [hp] at e0 e1
  exact congrArg₂ (fun a b : EReal => a * b) e0 e1

theorem acc_at : ∀ n, n < 4 * 4 → ∀ (r : Fin 1024) (d : Fin 2048),
    (accN m c (n + 1) (ix2 r d) : EReal) = upTo m c (1024 * (n / 4) + r) d (n % 4 + 1) := by
  intro n
  induction n with
  | zero =>
    intro hn r d
    rw [accN_start m c (by omega), ← upTo_succ]
    refine (step_at m c _ 0 hn r d).trans (congrArg₂ (· + ·) ?_ rfl)
    refine (Cert.GradMid.pay12_at r d).trans ?_
    simp [upTo]
  | succ n ih =>
    intro hn r d
    by_cases h0 : (n + 1) % 4 = 0
    · rw [accN_start m c h0, ← upTo_succ]
      refine (step_at m c _ (n + 1) hn r d).trans (congrArg₂ (· + ·) ?_ rfl)
      refine (Cert.GradMid.pay12_at r d).trans ?_
      simp [upTo, h0]
    · rw [accN_next m c h0, ← upTo_succ]
      refine (step_at m c _ (n + 1) hn r d).trans (congrArg₂ (· + ·) ?_ rfl)
      refine (ih (by omega) r d).trans ?_
      have q0 : n / 4 = (n + 1) / 4 := by omega
      have q1 : n % 4 + 1 = (n + 1) % 4 := by omega
      rw [q0, q1]

theorem acc_end (a : Fin 4) (r : Fin 1024) (d : Fin 2048) :
    (accN m c (4 * a.val + 3 + 1) (ix2 r d) : EReal) = arrive m c (1024 * a.val + r) d := by
  have ha := a.isLt
  have q0 : (4 * a.val + 3) / 4 = a.val := by omega
  have q1 : (4 * a.val + 3) % 4 + 1 = 4 := by omega
  rw [acc_at m c _ (by omega) r d, q0, q1, upTo_all]

/-! ## The results -/

/-- The gradient of the norm's input, at an entry. -/
def dxAt (t : ℕ) (d : Fin 2048) : EReal :=
  joined (fun k => arrive m c t k) (fun k => Xf m c t k) (fun k => gain m c (ix1 k)) (Rf m c t d) d
/-- What a row adds to the gain's gradient. -/
def dgTerm (t : ℕ) (d : Fin 2048) : EReal := arrive m c t d * (Xf m c t d * root fun k => Xf m c t k)

theorem gn_at (n : ℕ) (k : Fin 2048) : (gnB m c n (ix2 (0 : Fin 1) k) : EReal) = gain m c (ix1 k) := read2 m c (pt n) k

theorem res_at (t : Fin 4096) (d : Fin 2048) : (resO m c (ix2 t d) : EReal) = dxAt m c t.val d := by
  have ht : 1024 * (t.val / 1024) + t.val % 1024 = t.val := by omega
  have ha : t.val / 1024 < 4 := by omega
  have hr : t.val % 1024 < 1024 := by omega
  have e : resO m c (ix2 t d) = View.canon (dxL (accN m c (4 * (t.val / 1024) + 3 + 1)) (blkOf (xs m c) ⟨t.val / 1024, ha⟩) (blkOf (rs m c) ⟨t.val / 1024, ha⟩)
      (gnB m c (4 * (t.val / 1024) + 3)) 8) (ix2 (⟨t.val % 1024, hr⟩ : Fin 1024) d) := by
    unfold resO stack
    have e2 : inRow (ix2 t d) = (ix2 (⟨t.val % 1024, hr⟩ : Fin 1024) d : SB.Idx) := by
      funext b
      fin_cases b <;> rfl
    rw [e2]
    rfl
  rw [e, dxL_mid _ _ _ _ 8 (le_refl _), Cert.GradMid.dx_at _ _ _ _ 8 (le_refl _) _ d (by show t.val % 1024 < 128 * 8; omega), dxAt]
  have h1 : ∀ k : Fin 2048, (accN m c (4 * (t.val / 1024) + 3 + 1) (ix2 (⟨t.val % 1024, hr⟩ : Fin 1024) k) : EReal) = arrive m c t.val k := fun k =>
    (acc_end m c ⟨t.val / 1024, ha⟩ ⟨t.val % 1024, hr⟩ k).trans (by dsimp only; rw [ht])
  have h2 : ∀ k : Fin 2048, (blkOf (xs m c) ⟨t.val / 1024, ha⟩ (ix2 (⟨t.val % 1024, hr⟩ : Fin 1024) k) : EReal) = Xf m c t.val k := fun k =>
    (x_at m c ⟨t.val / 1024, ha⟩ ⟨t.val % 1024, hr⟩ k).trans (by dsimp only; rw [ht])
  have h3 : (blkOf (rs m c) ⟨t.val / 1024, ha⟩ (ix2 (⟨t.val % 1024, hr⟩ : Fin 1024) d) : EReal) = Rf m c t.val d :=
    (r_at m c ⟨t.val / 1024, ha⟩ ⟨t.val % 1024, hr⟩ d).trans (by dsimp only; rw [ht])
  simp only [h1, h2, h3, gn_at]

theorem resb_at (t : Fin 4096) (d : Fin 2048) : (resOb m c (ix2 t d) : EReal) = dxAt m c t.val d := by
  have ht : 1024 * (t.val / 1024) + t.val % 1024 = t.val := by omega
  have ha : t.val / 1024 < 4 := by omega
  have hr : t.val % 1024 < 1024 := by omega
  have e : resOb m c (ix2 t d) = View.canon (dxbL (accN m c (4 * (t.val / 1024) + 3 + 1)) (blkOf (xs m c) ⟨t.val / 1024, ha⟩) (blkOf (rs m c) ⟨t.val / 1024, ha⟩)
      (gnB m c (4 * (t.val / 1024) + 3)) 8) (ix2 (⟨t.val % 1024, hr⟩ : Fin 1024) d) := by
    unfold resOb stack
    have e2 : inRow (ix2 t d) = (ix2 (⟨t.val % 1024, hr⟩ : Fin 1024) d : SB.Idx) := by
      funext b
      fin_cases b <;> rfl
    rw [e2]
    rfl
  rw [e, dxbL_mid _ _ _ _ 8 (le_refl _), Cert.GradMid.dxb_at _ _ _ _ 8 (le_refl _) _ d (by show t.val % 1024 < 128 * 8; omega), dxAt]
  have h1 : ∀ k : Fin 2048, (accN m c (4 * (t.val / 1024) + 3 + 1) (ix2 (⟨t.val % 1024, hr⟩ : Fin 1024) k) : EReal) = arrive m c t.val k := fun k =>
    (acc_end m c ⟨t.val / 1024, ha⟩ ⟨t.val % 1024, hr⟩ k).trans (by dsimp only; rw [ht])
  have h2 : ∀ k : Fin 2048, (blkOf (xs m c) ⟨t.val / 1024, ha⟩ (ix2 (⟨t.val % 1024, hr⟩ : Fin 1024) k) : EReal) = Xf m c t.val k := fun k =>
    (x_at m c ⟨t.val / 1024, ha⟩ ⟨t.val % 1024, hr⟩ k).trans (by dsimp only; rw [ht])
  have h3 : (blkOf (rs m c) ⟨t.val / 1024, ha⟩ (ix2 (⟨t.val % 1024, hr⟩ : Fin 1024) d) : EReal) = Rf m c t.val d :=
    (r_at m c ⟨t.val / 1024, ha⟩ ⟨t.val % 1024, hr⟩ d).trans (by dsimp only; rw [ht])
  simp only [h1, h2, h3, gn_at]

/-- The gain's gradient before point `n`: the sum over the rows of the blocks that are done. -/
theorem gain_at : ∀ n ≤ 4 * 4, ∀ d : Fin 2048, (dgN m c n (ix2 (0 : Fin 1) d) : EReal) = ∑ t ∈ Finset.range (1024 * (n / 4)), dgTerm m c t d := by
  intro n
  induction n with
  | zero =>
    intro _ d
    refine (Cert.GradMid.pay11_at 0 d).trans ?_
    simp
  | succ n ih =>
    intro hn d
    by_cases h7 : n % 4 = 3
    · have q : (n + 1) / 4 = n / 4 + 1 := by omega
      have hb : (bk n).val = n / 4 := by
        show n / 4 % 4 = n / 4
        omega
      have en : 4 * (bk n).val + 3 + 1 = n + 1 := by omega
      have h1 : ∀ (r : Fin 1024) (k : Fin 2048), (accN m c (n + 1) (ix2 r k) : EReal) = arrive m c (1024 * (n / 4) + r) k := fun r k => by
        have h := acc_end m c (bk n) r k
        rw [en, hb] at h
        exact h
      have h2 : ∀ (r : Fin 1024) (k : Fin 2048), (blkOf (xs m c) (bk n) (ix2 r k) : EReal) = Xf m c (1024 * (n / 4) + r) k := fun r k => by
        have h := x_at m c (bk n) r k
        rw [hb] at h
        exact h
      have hP : ∀ (r : Fin 1024) (d : Fin 2048), (accN m c (n + 1) (ix2 r d) : EReal) * ((blkOf (xs m c) (bk n) (ix2 r d) : EReal) * root fun k => (blkOf (xs m c) (bk n) (ix2 r k) : EReal))
          = dgTerm m c (1024 * (n / 4) + r.val) d := fun r d => by
        simp only [h1, h2, dgTerm]
      rw [dgN_end m c h7, dgL_mid _ _ _ 8 (le_refl _)]
      refine (Cert.GradMid.dg_at (accN m c (n + 1)) (blkOf (xs m c) (bk n)) (dgN m c n) (fun r d => dgTerm m c (1024 * (n / 4) + r) d) hP 8 (le_refl _) d).trans ?_
      rw [ih (by omega) d, q, Nat.mul_succ (1024), Finset.sum_range_add]
    · have q : (n + 1) / 4 = n / 4 := by omega
      rw [dgN_keep m c h7, q]
      exact ih (by omega) d

/-- The gain's gradient. -/
def outG : FVec Ideal S1x2048 .f32 := fun j => ∑ t : Fin 4096, dgTerm m c t.val (j 1)

theorem final3 : (dats m 0 c).arrAt 3 cfg0.N = outG m c := by
  refine (dats m 0 c).arrAt_eq_of_covers 3 _ (by decide +kernel) fun t hf y => ?_
  have h0 : t.val % (4 * 4) = 4 * 4 - 1 := (flush0_3 t).mp hf
  have hN : t.val < 4 * 4 := lt_of_lt_of_eq t.isLt N_0
  have h1 : t.val = 4 * 4 - 1 := by omega
  blk_simp
  rw [after0_3]
  obtain ⟨r, d, rfl⟩ : ∃ (r : Fin 1) (d : Fin 2048), y = ix2 r d := ⟨y 0, y 1, by funext a; fin_cases a <;> rfl⟩
  obtain rfl : r = 0 := Subsingleton.elim _ _
  have e1 : (((win0_3.blk t).view.emb (ix2 (0 : Fin 1) d)) 1) = d := Fin.ext (by blk_simp [idx_val t]; try omega)
  refine (gain_at m c (t.val + 1) (by omega) d).trans ?_
  show _ = ∑ t : Fin 4096, dgTerm m c t.val _
  rw [e1, h1]
  exact Finset.sum_range fun t => dgTerm m c t d

end Cert.GradX

end
-- ==== Proof.NormGrad.XRef.lean ====
/-
  What the reference for the product joined with the norm's gradient computes; over the gradient arriving at the
  norm's output it is what the other reference of the kind computes.
-/
import proofs.«01_k».proof.Proof.Gen.GradXRefIdeal
import proofs.«01_k».proof.Proof.Gen.GradXRefIdeal.Run
import Idealize.ShloMosaic.Lib.Pointwise
import Idealize.ShloMosaic.Lib.ValueIdx
import proofs.«01_k».proof.Proof.Prod.Slabs
import proofs.«01_k».proof.Proof.NormGrad.MidRef

set_option maxRecDepth 16384

noncomputable section

open Idealize.ShloMosaic Idealize.ShloMosaic.TcCoe Idealize.SL.Sem
open scoped BigOperators

namespace Cert.GradXRefIdeal.Prod

open Cert.GradXRefIdeal Cert.GradXRefIdeal.Gen Cert.Prod

/-- The gradient arriving at the norm's output. -/
def arriving (DA : FVec Ideal S4096x4096 .bf16) (W : FVec Ideal S4x2048x1024 .bf16) : FVec Ideal S1x4096x2048 .f32 :=
  Host.dotGeneral dot_S1x4096x4096_S2048x4096_S1x4096x2048_2_1_01_0_n_n none (broadcastInDim S1x4096x4096 ![1, 2] bcast_S4096x4096_S1x4096x4096_1_2 (extf .f32 DA bitsLt_bf16_f32)) (shapeCast _ (transpose S2048x4x1024 [1, 0, 2] (extf .f32 W bitsLt_bf16_f32) transposes_S4x2048x1024_S2048x4x1024_1_0_2) shapeCasts_S2048x4x1024_S2048x4096)

theorem arriving_at (DA : FVec Ideal S4096x4096 .bf16) (W : FVec Ideal S4x2048x1024 .bf16) (z : Fin 1) (t : Fin 4096) (d : Fin 2048) :
    (arriving DA W (ix3 z t d) : EReal) = ∑ f : Fin 4096, (DA (ix2 t f) : EReal) * (W (ix3 (⟨f.val / 1024, by omega⟩ : Fin 4) d (⟨f.val % 1024, by omega⟩ : Fin 1024)) : EReal) := by
  unfold arriving
  pointwise []

end Cert.GradXRefIdeal.Prod

end
-- ==== Proof.NormGrad.XAgree.lean ====
/-
  The call joining a product with the norm's gradient ends with its reference's results.
-/
import proofs.«01_k».proof.Proof.NormGrad.XValue
import proofs.«01_k».proof.Proof.NormGrad.XRef

set_option maxRecDepth 16384

noncomputable section

open Idealize.ShloMosaic Idealize.ShloMosaic.TcCoe Idealize.SL.Sem
open scoped BigOperators

namespace Cert.GradX

open Cert.GradXIdeal Cert.GradXIdeal.Gen Cert.NormGrad Cert.Mix Cert.Prod Cert.GradXRefIdeal.Prod
open Cert.GradMidRefIdeal.Prod (gradIn gradIn_at gradGain gradGain_at)

variable (m : (ℓ : Loc nD τ sig) → Buf (Elt Ideal) ℓ) (c : Dev nD)

theorem res_whole : wholeO.unread (resO m c) = resO m c := wholeO.read_unread (resO m c)
theorem resb_whole : wholeOb.unread (resOb m c) = resOb m c := wholeOb.read_unread (resOb m c)

variable {X0 X1 X2 X3 X4} (h0 : X0 = m ((c.tc : Thread nD τ).loc main_arg0)) (h1 : X1 = m ((c.tc : Thread nD τ).loc main_arg1))
  (h2 : X2 = m ((c.tc : Thread nD τ).loc main_arg2)) (h3 : X3 = m ((c.tc : Thread nD τ).loc main_arg3)) (h4 : X4 = m ((c.tc : Thread nD τ).loc main_arg4))

include h0 h1 in
theorem arrive_agree (t : Fin 4096) (d : Fin 2048) : (arriving X0 X1 (ix3 (0 : Fin 1) t d) : EReal) = arrive m c t d := by
  subst h0 h1
  refine (arriving_at _ _ 0 t d).trans ?_
  refine Finset.sum_congr rfl fun k _ => congrArg₂ (fun a b : EReal => a * b) ?_ ?_
  · exact (at2_of _ t.isLt k.isLt).symm
  · exact (slabs_of _ d.isLt _ _).symm

include h2 in
theorem x_agree (t : Fin 4096) (d : Fin 2048) : (X2 (ix2 t d) : EReal) = Xf m c t d := by
  subst h2
  exact (at2_of _ t.isLt d.isLt).symm
include h4 in
theorem r_agree (t : Fin 4096) (d : Fin 2048) : (X4 (ix2 t d) : EReal) = Rf m c t d := by
  subst h4
  exact (at2_of _ t.isLt d.isLt).symm

include h0 h1 h2 h3 h4 in
theorem in_agree_at (t : Fin 4096) (d : Fin 2048) : (gradIn (arriving X0 X1) X2 X3 X4 (ix2 t d) : EReal) = dxAt m c t d := by
  refine (gradIn_at _ _ _ _ t d).trans ?_
  rw [← joined_eq, dxAt]
  have e3 : ∀ k : Fin 2048, (X3 (ix1 k) : EReal) = gain m c (ix1 k) := fun k => by
    subst h3
    rfl
  simp only [arrive_agree m c h0 h1, x_agree m c h2, r_agree m c h4, e3]

include h0 h1 h2 h3 h4 in
theorem in_agree : gradIn (arriving X0 X1) X2 X3 X4 = wholeO.unread (resO m c) := by
  rw [res_whole]
  funext j
  obtain ⟨t, d, rfl⟩ : ∃ (t : Fin 4096) (d : Fin 2048), j = ix2 t d := ⟨j 0, j 1, by funext a; fin_cases a <;> rfl⟩
  exact (in_agree_at m c h0 h1 h2 h3 h4 t d).trans (res_at m c t d).symm

include h0 h1 h2 h3 h4 in
theorem rounded_agree : truncf (F := Ideal) .bf16 (gradIn (arriving X0 X1) X2 X3 X4) (by decide) = wholeOb.unread (resOb m c) := by
  rw [resb_whole]
  funext j
  obtain ⟨t, d, rfl⟩ : ∃ (t : Fin 4096) (d : Fin 2048), j = ix2 t d := ⟨j 0, j 1, by funext a; fin_cases a <;> rfl⟩
  exact (in_agree_at m c h0 h1 h2 h3 h4 t d).trans (resb_at m c t d).symm

include h0 h1 h2 in
theorem gain_agree : gradGain (arriving X0 X1) X2 = (dats m 0 c).arrAt 3 cfg0.N := by
  refine Eq.trans ?_ (final3 m c).symm
  funext j
  obtain ⟨z, d, rfl⟩ : ∃ (z : Fin 1) (d : Fin 2048), j = ix2 z d := ⟨j 0, j 1, by funext a; fin_cases a <;> rfl⟩
  refine (gradGain_at _ _ z d).trans ?_
  show _ = ∑ t : Fin 4096, dgTerm m c t.val d
  refine Finset.sum_congr rfl fun t _ => ?_
  simp only [dgTerm, arrive_agree m c h0 h1, x_agree m c h2]
  exact mul_comm _ _

section Runs

variable {F : FTy → Type} [FloatOps F] (m : (ℓ : Loc nD τ sig) → Buf (Elt F) ℓ) (ρ : Dev nD → PrngReg)

/-- The arguments end unchanged, and no transfer is under way. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)

/-- The results at what the points leave, the arguments unchanged. -/
theorem run_results : θ_run defs (onTc (τ := τ) (main (F := F))) ⟨m, fun _ => 0, ρ⟩ (fun r => ∀ c : Dev nD,
      r.2.mem ((c.tc : Thread nD τ).loc main_v1_0) = wholeO.unread (resO m c)
      ∧ r.2.mem ((c.tc : Thread nD τ).loc main_v1_1) = wholeOb.unread (resOb m c)
      ∧ r.2.mem ((c.tc : Thread nD τ).loc main_v1_2) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1.1, (h.1 c).1.2.1, (h.1 c).1.2.2, (h.1 c).2⟩) (run_all m ρ)

end Runs

end Cert.GradX

end
-- ==== Proof.lean ====
/-
  The certificate of the token mixer's backward pass: the kernel runs and leaves its arguments and its counters as
  they were, and over the extended reals its four results — the gradients of the projection, of the filter, of the pool
  matrices and of the scale — are those of the reference, the gradient of the mixer's forward lines.
  Each side's results are read as one mathematical function of the arguments (`Proof/Mix/Spec.lean`): the kernel's in
  `Out15`, `Taps` and `Acc`, the reference's in `Ref`.
-/
import proofs.«01_k».proof.Defs
import proofs.«01_k».proof.Proof.Gen.Kernel
import proofs.«01_k».proof.Proof.Gen.Kernel.Skeleton
import proofs.«01_k».proof.Proof.Gen.Kernel.Launch
import proofs.«01_k».proof.Proof.Gen.Kernel.Points
import proofs.«01_k».proof.Proof.Gen.Kernel.Frame
import proofs.«01_k».proof.Proof.Gen.KernelIdeal
import proofs.«01_k».proof.Proof.Gen.KernelIdeal.Skeleton
import proofs.«01_k».proof.Proof.Gen.KernelIdeal.Launch
import proofs.«01_k».proof.Proof.Gen.KernelIdeal.Points
import proofs.«01_k».proof.Proof.Gen.KernelIdeal.Frame
import proofs.«01_k».proof.Proof.Gen.KernelIdeal.Value
import proofs.«01_k».proof.Proof.Gen.ReferenceIdeal.Run
import proofs.«01_k».proof.Proof.Gen.ReferenceIdeal
import proofs.«01_k».proof.Proof.Mix.Out15
import proofs.«01_k».proof.Proof.Mix.Taps
import proofs.«01_k».proof.Proof.Mix.Acc
import proofs.«01_k».proof.Proof.Mix.Ref
import proofs.«01_k».proof.Proof.Mix.Finite
import Idealize.ShloMosaic.Adequacy
import Idealize.ShloMosaic.Init
import proofs.«01_k».proof.Proof.Prod.Agree
import proofs.«01_k».proof.Proof.Prod.Forward
import proofs.«01_k».proof.Proof.Gen.GradAct.Frame
import proofs.«01_k».proof.Proof.Gen.GradActIdeal.Value
import proofs.«01_k».proof.Proof.Gen.GradActRefIdeal.Run
import proofs.«01_k».proof.Proof.Gen.GradDown.Frame
import proofs.«01_k».proof.Proof.Gen.GradDownIdeal.Value
import proofs.«01_k».proof.Proof.Gen.GradDownRefIdeal.Run
import proofs.«01_k».proof.Proof.Gen.GradUp.Frame
import proofs.«01_k».proof.Proof.Gen.GradUpIdeal.Value
import proofs.«01_k».proof.Proof.Gen.GradUpRefIdeal.Run
import proofs.«01_k».proof.Proof.Gen.GradIn.Frame
import proofs.«01_k».proof.Proof.Gen.GradInIdeal.Value
import proofs.«01_k».proof.Proof.Gen.GradInRefIdeal.Run
import proofs.«01_k».proof.Proof.Gen.GradOut.Frame
import proofs.«01_k».proof.Proof.Gen.GradOutIdeal.Value
import proofs.«01_k».proof.Proof.Gen.GradOutRefIdeal.Run
import proofs.«01_k».proof.Proof.Gen.GradMixed.Frame
import proofs.«01_k».proof.Proof.Gen.GradMixedIdeal.Value
import proofs.«01_k».proof.Proof.Gen.GradMixedRefIdeal.Run
import proofs.«01_k».proof.Proof.Gen.UpProj.Frame
import proofs.«01_k».proof.Proof.Gen.UpProjIdeal.Value
import proofs.«01_k».proof.Proof.Gen.UpProjRefIdeal.Run
import proofs.«01_k».proof.Proof.Gen.InProj.Frame
import proofs.«01_k».proof.Proof.Gen.InProjIdeal.Value
import proofs.«01_k».proof.Proof.Gen.InProjRefIdeal.Run
import proofs.«01_k».proof.Proof.Gen.DownProj.Frame
import proofs.«01_k».proof.Proof.Gen.DownProjIdeal.Value
import proofs.«01_k».proof.Proof.Gen.DownProjRefIdeal.Run
import proofs.«01_k».proof.Proof.Gen.OutProj.Frame
import proofs.«01_k».proof.Proof.Gen.OutProjIdeal.Value
import proofs.«01_k».proof.Proof.Gen.OutProjRefIdeal.Run
import proofs.«01_k».proof.Proof.Gen.Norm.Frame
import proofs.«01_k».proof.Proof.Gen.NormIdeal.Value
import proofs.«01_k».proof.Proof.Gen.NormRefIdeal.Run
import proofs.«01_k».proof.Proof.Gen.GradMid.Launch
import proofs.«01_k».proof.Proof.Gen.GradMidRefIdeal.Run
import proofs.«01_k».proof.Proof.NormGrad.MidAgree
import proofs.«01_k».proof.Proof.Gen.GradX.Launch
import proofs.«01_k».proof.Proof.Gen.GradXRefIdeal.Run
import proofs.«01_k».proof.Proof.NormGrad.XAgree

noncomputable section

namespace Cert.Proof

open Idealize.ShloMosaic Idealize.ShloMosaic.TcCoe Idealize.SL.Sem Cert.Mix

section Agree

open Cert.KernelIdeal.Mix Cert.ReferenceIdeal.Mix Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hpre : Cert.Pre_KernelIdeal_finite_pool m)
  (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include h

theorem hD (t : Fin 4096) (d : Fin 2048) : launchContents m' c (Proc.devRef .tc Cert.ReferenceIdeal.main_arg0) (ix2 t d) = DYf m c t d :=
  (congrFun h.1 (ix2 t d)).trans (at2_of _ t.isLt d.isLt).symm

theorem hP (t : Fin 4096) (d : Fin 4096) : launchContents m' c (Proc.devRef .tc Cert.ReferenceIdeal.main_arg1) (ix2 t d) = PJf m c t d :=
  (congrFun h.2.1 (ix2 t d)).trans (at2_of _ t.isLt d.isLt).symm

theorem hC (k : Fin 3) (d : Fin 1024) : launchContents m' c (Proc.devRef .tc Cert.ReferenceIdeal.main_arg2) (ix2 k d) = CWf m c k d :=
  (congrFun h.2.2.1 (ix2 k d)).trans (at2_of _ k.isLt d.isLt).symm

theorem hW (g : Fin 4) (r d : Fin 256) : launchContents m' c (Proc.devRef .tc Cert.ReferenceIdeal.main_arg3) (ix3 g r d) = PWf m c g r d :=
  (congrFun h.2.2.2.1 (ix3 g r d)).trans (at3_of _ g.isLt r.isLt d.isLt).symm

theorem hS (d : Fin 1024) : launchContents m' c (Proc.devRef .tc Cert.ReferenceIdeal.main_arg4) (ix1 d) = PSf m c d :=
  (congrFun h.2.2.2.2 (ix1 d)).trans (at1_of _ d.isLt).symm

include hpre

theorem proj_agree : refProj (launchContents m' c) = proj15 m c := by
  funext j
  obtain ⟨t, p, rfl⟩ : ∃ (t p : Fin 4096), j = ix2 t p := ⟨j 0, j 1, by funext a; fin_cases a <;> rfl⟩
  exact ref15 (hD m m' c h) (hP m m' c h) (hC m m' c h) (hW m m' c h) (hS m m' c h) (fun t d ht => at2_row _ ht)
    (fun t d => Finite.finDY (hpre c) t d) (fun g r d => Finite.finPW (hpre c) g r d) (fun d => Finite.finPS (hpre c) d) t p

theorem pool_agree : refPool (launchContents m' c) = pool17 m c := by
  funext j
  obtain ⟨g, r, d, rfl⟩ : ∃ (g : Fin 4) (r d : Fin 256), j = ix3 g r d := ⟨j 0, j 1, j 2, by funext a; fin_cases a <;> rfl⟩
  exact ref17 (hD m m' c h) (hP m m' c h) (hS m m' c h) (fun t d => Finite.finPJ (hpre c) t d) g r d

theorem scale_agree : refScale (launchContents m' c) = scale18 m c := by
  funext j
  obtain ⟨z, p, rfl⟩ : ∃ (z : Fin 1) (p : Fin 1024), j = ix2 z p := ⟨j 0, j 1, by funext a; fin_cases a <;> rfl⟩
  obtain rfl : z = 0 := Subsingleton.elim _ _
  exact ref18 (hD m m' c h) (hP m m' c h) (hW m m' c h) (fun t d => Finite.finPJ (hpre c) t d) p

omit hpre

theorem taps_agree : refTaps (launchContents m' c) = taps16 m c := by
  funext j
  obtain ⟨k, d, rfl⟩ : ∃ (k : Fin 8) (d : Fin 1024), j = ix2 k d := ⟨j 0, j 1, by funext a; fin_cases a <;> rfl⟩
  exact ref16 (hD m m' c h) (hP m m' c h) k d

end Agree

/-- The reference runs, its arguments are unchanged, and it has no counter to leave. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

theorem algebraic : Cert.algebraic_KernelIdeal_ReferenceIdeal_pre_finite_pool (hKernelIdeal := Cert.KernelIdeal.Gen.facts) (hReferenceIdeal := Cert.ReferenceIdeal.Gen.facts) (hPre_finite_pool := Finite.facts) := by
  pair_intro
  · run_from Cert.KernelIdeal.Value.run_blocks m g
  · run_from Cert.ReferenceIdeal.Value.run m' g'
    · exact (proj_agree m m' c hpre (hagree c)).trans (Cert.KernelIdeal.Mix.final15 m c).symm
    · exact (taps_agree m m' c (hagree c)).trans (Cert.KernelIdeal.Mix.final16 m c).symm
    · exact (pool_agree m m' c hpre (hagree c)).trans (Cert.KernelIdeal.Mix.final17 m c).symm
    · exact (scale_agree m m' c hpre (hagree c)).trans (Cert.KernelIdeal.Mix.final18 m c).symm

theorem act_frame_r : Cert.quiescent_GradActRefIdeal (hGradActRefIdeal := Cert.GradActRefIdeal.Gen.facts) := by
  intro m ρ _
  exact (θ_run Cert.GradActRefIdeal.defs _ _).mono (fun r h => ⟨fun c => (h c).2, Idealize.ShloMosaic.sem_eq_zero_of_no_sems (by decide) r.2⟩)
    (Cert.GradActRefIdeal.Value.run (F := Ideal) m ρ)

theorem act_algebraic : Cert.algebraic_GradActIdeal_GradActRefIdeal (hGradActIdeal := Cert.GradActIdeal.Gen.facts) (hGradActRefIdeal := Cert.GradActRefIdeal.Gen.facts) := by
  pair_intro
  · run_from Cert.GradActIdeal.Value.run_blocks m g
  · run_from Cert.GradActRefIdeal.Value.run m' g'
    exact (Cert.Prod.act_agree m c rfl rfl rfl).trans (Cert.GradActIdeal.Prod.final3 m c).symm

theorem down_frame_r : Cert.quiescent_GradDownRefIdeal (hGradDownRefIdeal := Cert.GradDownRefIdeal.Gen.facts) := by
  intro m ρ _
  exact (θ_run Cert.GradDownRefIdeal.defs _ _).mono (fun r h => ⟨fun c => (h c).2, Idealize.ShloMosaic.sem_eq_zero_of_no_sems (by decide) r.2⟩)
    (Cert.GradDownRefIdeal.Value.run (F := Ideal) m ρ)

theorem down_algebraic : Cert.algebraic_GradDownIdeal_GradDownRefIdeal (hGradDownIdeal := Cert.GradDownIdeal.Gen.facts) (hGradDownRefIdeal := Cert.GradDownRefIdeal.Gen.facts) := by
  pair_intro
  · run_from Cert.GradDownIdeal.Value.run_blocks m g
  · run_from Cert.GradDownRefIdeal.Value.run m' g'
    exact (Cert.Prod.down_agree m c rfl rfl).trans (Cert.GradDownIdeal.Prod.final2 m c).symm

theorem up_frame_r : Cert.quiescent_GradUpRefIdeal (hGradUpRefIdeal := Cert.GradUpRefIdeal.Gen.facts) := by
  intro m ρ _
  exact (θ_run Cert.GradUpRefIdeal.defs _ _).mono (fun r h => ⟨fun c => (h c).2, Idealize.ShloMosaic.sem_eq_zero_of_no_sems (by decide) r.2⟩)
    (Cert.GradUpRefIdeal.Value.run (F := Ideal) m ρ)

theorem up_algebraic : Cert.algebraic_GradUpIdeal_GradUpRefIdeal (hGradUpIdeal := Cert.GradUpIdeal.Gen.facts) (hGradUpRefIdeal := Cert.GradUpRefIdeal.Gen.facts) := by
  pair_intro
  · run_from Cert.GradUpIdeal.Value.run_blocks m g
  · run_from Cert.GradUpRefIdeal.Value.run m' g'
    exact (Cert.Prod.up_agree m c rfl rfl).trans (Cert.GradUpIdeal.Prod.final2 m c).symm

theorem in_frame_r : Cert.quiescent_GradInRefIdeal (hGradInRefIdeal := Cert.GradInRefIdeal.Gen.facts) := by
  intro m ρ _
  exact (θ_run Cert.GradInRefIdeal.defs _ _).mono (fun r h => ⟨fun c => (h c).2, Idealize.ShloMosaic.sem_eq_zero_of_no_sems (by decide) r.2⟩)
    (Cert.GradInRefIdeal.Value.run (F := Ideal) m ρ)

theorem in_algebraic : Cert.algebraic_GradInIdeal_GradInRefIdeal (hGradInIdeal := Cert.GradInIdeal.Gen.facts) (hGradInRefIdeal := Cert.GradInRefIdeal.Gen.facts) := by
  pair_intro
  · run_from Cert.GradInIdeal.Value.run_blocks m g
  · run_from Cert.GradInRefIdeal.Value.run m' g'
    exact (Cert.Prod.in_agree m c rfl rfl).trans (Cert.GradInIdeal.Prod.final2 m c).symm

theorem out_frame_r : Cert.quiescent_GradOutRefIdeal (hGradOutRefIdeal := Cert.GradOutRefIdeal.Gen.facts) := by
  intro m ρ _
  exact (θ_run Cert.GradOutRefIdeal.defs _ _).mono (fun r h => ⟨fun c => (h c).2, Idealize.ShloMosaic.sem_eq_zero_of_no_sems (by decide) r.2⟩)
    (Cert.GradOutRefIdeal.Value.run (F := Ideal) m ρ)

theorem out_algebraic : Cert.algebraic_GradOutIdeal_GradOutRefIdeal (hGradOutIdeal := Cert.GradOutIdeal.Gen.facts) (hGradOutRefIdeal := Cert.GradOutRefIdeal.Gen.facts) := by
  pair_intro
  · run_from Cert.GradOutIdeal.Value.run_blocks m g
  · run_from Cert.GradOutRefIdeal.Value.run m' g'
    exact (Cert.Prod.out_agree m c rfl rfl).trans (Cert.GradOutIdeal.Prod.final2 m c).symm

theorem mixed_frame_r : Cert.quiescent_GradMixedRefIdeal (hGradMixedRefIdeal := Cert.GradMixedRefIdeal.Gen.facts) := by
  intro m ρ _
  exact (θ_run Cert.GradMixedRefIdeal.defs _ _).mono (fun r h => ⟨fun c => (h c).2, Idealize.ShloMosaic.sem_eq_zero_of_no_sems (by decide) r.2⟩)
    (Cert.GradMixedRefIdeal.Value.run (F := Ideal) m ρ)

theorem mixed_algebraic : Cert.algebraic_GradMixedIdeal_GradMixedRefIdeal (hGradMixedIdeal := Cert.GradMixedIdeal.Gen.facts) (hGradMixedRefIdeal := Cert.GradMixedRefIdeal.Gen.facts) := by
  pair_intro
  · run_from Cert.GradMixedIdeal.Value.run_blocks m g
  · run_from Cert.GradMixedRefIdeal.Value.run m' g'
    exact (Cert.Prod.mixed_agree m c rfl rfl).trans (Cert.GradMixedIdeal.Prod.final2 m c).symm

theorem upProj_frame_r : Cert.quiescent_UpProjRefIdeal (hUpProjRefIdeal := Cert.UpProjRefIdeal.Gen.facts) := by
  intro m ρ _
  exact (θ_run Cert.UpProjRefIdeal.defs _ _).mono (fun r h => ⟨fun c => (h c).2.2, Idealize.ShloMosaic.sem_eq_zero_of_no_sems (by decide) r.2⟩)
    (Cert.UpProjRefIdeal.Value.run (F := Ideal) m ρ)

theorem upProj_algebraic : Cert.algebraic_UpProjIdeal_UpProjRefIdeal (hUpProjIdeal := Cert.UpProjIdeal.Gen.facts) (hUpProjRefIdeal := Cert.UpProjRefIdeal.Gen.facts) := by
  pair_intro
  · run_from Cert.UpProjIdeal.Value.run_blocks m g
  · run_from Cert.UpProjRefIdeal.Value.run m' g'
    · exact (Cert.Prod.upProj_agree1 m c rfl rfl).trans (Cert.UpProjIdeal.Prod.final2 m c).symm
    · exact (Cert.Prod.upProj_agree2 m c rfl rfl).trans (Cert.UpProjIdeal.Prod.final3 m c).symm

theorem inProj_frame_r : Cert.quiescent_InProjRefIdeal (hInProjRefIdeal := Cert.InProjRefIdeal.Gen.facts) := by
  intro m ρ _
  exact (θ_run Cert.InProjRefIdeal.defs _ _).mono (fun r h => ⟨fun c => (h c).2, Idealize.ShloMosaic.sem_eq_zero_of_no_sems (by decide) r.2⟩)
    (Cert.InProjRefIdeal.Value.run (F := Ideal) m ρ)

theorem inProj_algebraic : Cert.algebraic_InProjIdeal_InProjRefIdeal (hInProjIdeal := Cert.InProjIdeal.Gen.facts) (hInProjRefIdeal := Cert.InProjRefIdeal.Gen.facts) := by
  pair_intro
  · run_from Cert.InProjIdeal.Value.run_blocks m g
  · run_from Cert.InProjRefIdeal.Value.run m' g'
    exact (Cert.Prod.inProj_agree m c rfl rfl).trans (Cert.InProjIdeal.Prod.final2 m c).symm

theorem downProj_frame_r : Cert.quiescent_DownProjRefIdeal (hDownProjRefIdeal := Cert.DownProjRefIdeal.Gen.facts) := by
  intro m ρ _
  exact (θ_run Cert.DownProjRefIdeal.defs _ _).mono (fun r h => ⟨fun c => (h c).2, Idealize.ShloMosaic.sem_eq_zero_of_no_sems (by decide) r.2⟩)
    (Cert.DownProjRefIdeal.Value.run (F := Ideal) m ρ)

theorem downProj_algebraic : Cert.algebraic_DownProjIdeal_DownProjRefIdeal (hDownProjIdeal := Cert.DownProjIdeal.Gen.facts) (hDownProjRefIdeal := Cert.DownProjRefIdeal.Gen.facts) := by
  pair_intro
  · run_from Cert.DownProjIdeal.Value.run_blocks m g
  · run_from Cert.DownProjRefIdeal.Value.run m' g'
    exact (Cert.Prod.downProj_agree m c rfl rfl rfl).trans (Cert.DownProjIdeal.Prod.final3 m c).symm

theorem outProj_frame_r : Cert.quiescent_OutProjRefIdeal (hOutProjRefIdeal := Cert.OutProjRefIdeal.Gen.facts) := by
  intro m ρ _
  exact (θ_run Cert.OutProjRefIdeal.defs _ _).mono (fun r h => ⟨fun c => (h c).2, Idealize.ShloMosaic.sem_eq_zero_of_no_sems (by decide) r.2⟩)
    (Cert.OutProjRefIdeal.Value.run (F := Ideal) m ρ)

theorem outProj_algebraic : Cert.algebraic_OutProjIdeal_OutProjRefIdeal (hOutProjIdeal := Cert.OutProjIdeal.Gen.facts) (hOutProjRefIdeal := Cert.OutProjRefIdeal.Gen.facts) := by
  pair_intro
  · run_from Cert.OutProjIdeal.Value.run_blocks m g
  · run_from Cert.OutProjRefIdeal.Value.run m' g'
    exact (Cert.Prod.outProj_agree m c rfl rfl rfl).trans (Cert.OutProjIdeal.Prod.final3 m c).symm

theorem norm_frame_r : Cert.quiescent_NormRefIdeal (hNormRefIdeal := Cert.NormRefIdeal.Gen.facts) := by
  intro m ρ _
  exact (θ_run Cert.NormRefIdeal.defs _ _).mono (fun r h => ⟨fun c => (h c).2, Idealize.ShloMosaic.sem_eq_zero_of_no_sems (by decide) r.2⟩)
    (Cert.NormRefIdeal.Value.run (F := Ideal) m ρ)

theorem norm_algebraic : Cert.algebraic_NormIdeal_NormRefIdeal (hNormIdeal := Cert.NormIdeal.Gen.facts) (hNormRefIdeal := Cert.NormRefIdeal.Gen.facts) := by
  pair_intro
  · run_from Cert.NormIdeal.Value.run_blocks m g
  · run_from Cert.NormRefIdeal.Value.run m' g'
    exact (Cert.Prod.norm_agree m c rfl rfl).trans (Cert.NormIdeal.Prod.final2 m c).symm

section

variable {F : FTy → Type} [FloatOps F]

/-- The two printed programs run the same bodies under the same labels. -/
theorem gradMid_bodies : Cert.GradMid.defs₀ (F := F) = Cert.GradMidIdeal.defs₀ (F := F) := by
  unfold Cert.GradMid.defs₀ Cert.GradMidIdeal.defs₀
  refine congrArg Defs.onTc (funext fun l => funext fun a => ?_)
  obtain ⟨l, hl⟩ := l
  cases l with
  | zero => obtain ⟨t, s⟩ := a; rfl
  | succ n => exact absurd hl (Nat.not_lt.2 (Nat.le_add_left _ _))

theorem gradMid_table : Cert.GradMid.defs (F := F) = Cert.GradMidIdeal.defs (F := F) := congrArg (Pipeline.defs Cert.GradMidIdeal.pcfgs) gradMid_bodies

end

theorem gradMid_frame : Cert.quiescent_GradMid (hGradMid := Cert.GradMid.Gen.facts) := by
  intro m ρ _
  have h := Cert.GradMid.frame (F := Bits) m ρ
  rw [← gradMid_table] at h
  exact h

theorem gradMid_frame_ideal : Cert.quiescent_GradMidIdeal (hGradMidIdeal := Cert.GradMidIdeal.Gen.facts) := fun m ρ _ => Cert.GradMid.frame (F := Ideal) m ρ

theorem gradMid_frame_r : Cert.quiescent_GradMidRefIdeal (hGradMidRefIdeal := Cert.GradMidRefIdeal.Gen.facts) := by
  intro m ρ _
  exact (θ_run Cert.GradMidRefIdeal.defs _ _).mono (fun r h => ⟨fun c => (h c).2.2.2, Idealize.ShloMosaic.sem_eq_zero_of_no_sems (by decide) r.2⟩)
    (Cert.GradMidRefIdeal.Value.run (F := Ideal) m ρ)

theorem gradMid_algebraic : Cert.algebraic_GradMidIdeal_GradMidRefIdeal (hGradMidIdeal := Cert.GradMidIdeal.Gen.facts) (hGradMidRefIdeal := Cert.GradMidRefIdeal.Gen.facts) := by
  pair_intro
  · run_from Cert.GradMid.run_results m g
  · run_from Cert.GradMidRefIdeal.Value.run m' g'
    · exact Cert.GradMid.in_agree m c (hagree c).1 (hagree c).2.1 (hagree c).2.2.1 (hagree c).2.2.2.1 (hagree c).2.2.2.2
    · exact Cert.GradMid.rounded_agree m c (hagree c).1 (hagree c).2.1 (hagree c).2.2.1 (hagree c).2.2.2.1 (hagree c).2.2.2.2
    · exact Cert.GradMid.gain_agree m c rfl rfl rfl

section

variable {F : FTy → Type} [FloatOps F]

/-- The two printed programs run the same bodies under the same labels. -/
theorem gradX_bodies : Cert.GradX.defs₀ (F := F) = Cert.GradXIdeal.defs₀ (F := F) := by
  unfold Cert.GradX.defs₀ Cert.GradXIdeal.defs₀
  refine congrArg Defs.onTc (funext fun l => funext fun a => ?_)
  obtain ⟨l, hl⟩ := l
  cases l with
  | zero => obtain ⟨t, s⟩ := a; rfl
  | succ n => exact absurd hl (Nat.not_lt.2 (Nat.le_add_left _ _))

theorem gradX_table : Cert.GradX.defs (F := F) = Cert.GradXIdeal.defs (F := F) := congrArg (Pipeline.defs Cert.GradXIdeal.pcfgs) gradX_bodies

end

theorem gradX_frame : Cert.quiescent_GradX (hGradX := Cert.GradX.Gen.facts) := by
  intro m ρ _
  have h := Cert.GradX.frame (F := Bits) m ρ
  rw [← gradX_table] at h
  exact h

theorem gradX_frame_ideal : Cert.quiescent_GradXIdeal (hGradXIdeal := Cert.GradXIdeal.Gen.facts) := fun m ρ _ => Cert.GradX.frame (F := Ideal) m ρ

theorem gradX_frame_r : Cert.quiescent_GradXRefIdeal (hGradXRefIdeal := Cert.GradXRefIdeal.Gen.facts) := by
  intro m ρ _
  exact (θ_run Cert.GradXRefIdeal.defs _ _).mono (fun r h => ⟨fun c => (h c).2.2.2, Idealize.ShloMosaic.sem_eq_zero_of_no_sems (by decide) r.2⟩)
    (Cert.GradXRefIdeal.Value.run (F := Ideal) m ρ)

theorem gradX_algebraic : Cert.algebraic_GradXIdeal_GradXRefIdeal (hGradXIdeal := Cert.GradXIdeal.Gen.facts) (hGradXRefIdeal := Cert.GradXRefIdeal.Gen.facts) := by
  pair_intro
  · run_from Cert.GradX.run_results m g
  · run_from Cert.GradXRefIdeal.Value.run m' g'
    · exact Cert.GradX.in_agree m c (hagree c).1 (hagree c).2.1 (hagree c).2.2.1 (hagree c).2.2.2.1 (hagree c).2.2.2.2
    · exact Cert.GradX.rounded_agree m c (hagree c).1 (hagree c).2.1 (hagree c).2.2.1 (hagree c).2.2.2.1 (hagree c).2.2.2.2
    · exact Cert.GradX.gain_agree m c rfl rfl rfl

theorem claim : Cert.Claim := ⟨Cert.Kernel.Gen.facts, Cert.KernelIdeal.Gen.facts, Cert.ReferenceIdeal.Gen.facts, Cert.GradAct.Gen.facts, Cert.GradActIdeal.Gen.facts, Cert.GradActRefIdeal.Gen.facts, Cert.GradDown.Gen.facts, Cert.GradDownIdeal.Gen.facts, Cert.GradDownRefIdeal.Gen.facts, Cert.GradUp.Gen.facts, Cert.GradUpIdeal.Gen.facts, Cert.GradUpRefIdeal.Gen.facts, Cert.GradIn.Gen.facts, Cert.GradInIdeal.Gen.facts, Cert.GradInRefIdeal.Gen.facts, Cert.GradOut.Gen.facts, Cert.GradOutIdeal.Gen.facts, Cert.GradOutRefIdeal.Gen.facts, Cert.GradMixed.Gen.facts, Cert.GradMixedIdeal.Gen.facts, Cert.GradMixedRefIdeal.Gen.facts, Cert.UpProj.Gen.facts, Cert.UpProjIdeal.Gen.facts, Cert.UpProjRefIdeal.Gen.facts, Cert.InProj.Gen.facts, Cert.InProjIdeal.Gen.facts, Cert.InProjRefIdeal.Gen.facts, Cert.DownProj.Gen.facts, Cert.DownProjIdeal.Gen.facts, Cert.DownProjRefIdeal.Gen.facts, Cert.OutProj.Gen.facts, Cert.OutProjIdeal.Gen.facts, Cert.OutProjRefIdeal.Gen.facts, Cert.Norm.Gen.facts, Cert.NormIdeal.Gen.facts, Cert.NormRefIdeal.Gen.facts, Cert.GradMid.Gen.facts, Cert.GradMidIdeal.Gen.facts, Cert.GradMidRefIdeal.Gen.facts, Cert.GradX.Gen.facts, Cert.GradXIdeal.Gen.facts, Cert.GradXRefIdeal.Gen.facts, Finite.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.GradAct.Gen.frame m ρ, fun m ρ _ => Cert.GradActIdeal.Gen.frame m ρ, act_frame_r,
  fun m ρ _ => Cert.GradDown.Gen.frame m ρ, fun m ρ _ => Cert.GradDownIdeal.Gen.frame m ρ, down_frame_r,
  fun m ρ _ => Cert.GradUp.Gen.frame m ρ, fun m ρ _ => Cert.GradUpIdeal.Gen.frame m ρ, up_frame_r,
  fun m ρ _ => Cert.GradIn.Gen.frame m ρ, fun m ρ _ => Cert.GradInIdeal.Gen.frame m ρ, in_frame_r,
  fun m ρ _ => Cert.GradOut.Gen.frame m ρ, fun m ρ _ => Cert.GradOutIdeal.Gen.frame m ρ, out_frame_r,
  fun m ρ _ => Cert.GradMixed.Gen.frame m ρ, fun m ρ _ => Cert.GradMixedIdeal.Gen.frame m ρ, mixed_frame_r,
  fun m ρ _ => Cert.UpProj.Gen.frame m ρ, fun m ρ _ => Cert.UpProjIdeal.Gen.frame m ρ, upProj_frame_r,
  fun m ρ _ => Cert.InProj.Gen.frame m ρ, fun m ρ _ => Cert.InProjIdeal.Gen.frame m ρ, inProj_frame_r,
  fun m ρ _ => Cert.DownProj.Gen.frame m ρ, fun m ρ _ => Cert.DownProjIdeal.Gen.frame m ρ, downProj_frame_r,
  fun m ρ _ => Cert.OutProj.Gen.frame m ρ, fun m ρ _ => Cert.OutProjIdeal.Gen.frame m ρ, outProj_frame_r,
  fun m ρ _ => Cert.Norm.Gen.frame m ρ, fun m ρ _ => Cert.NormIdeal.Gen.frame m ρ, norm_frame_r,
  gradMid_frame, gradMid_frame_ideal, gradMid_frame_r,
  gradX_frame, gradX_frame_ideal, gradX_frame_r,
  trivial, algebraic,
  trivial, act_algebraic, trivial, down_algebraic, trivial, up_algebraic, trivial, in_algebraic, trivial, out_algebraic, trivial, mixed_algebraic, trivial, upProj_algebraic, trivial, inProj_algebraic, trivial, downProj_algebraic, trivial, outProj_algebraic, trivial, norm_algebraic, trivial, gradMid_algebraic, trivial, gradX_algebraic⟩

end Cert.Proof

end
